-- ==== Defs.lean ====
def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInIdeal_finite_in [hPre_finite_in : Cert.Pre_finite_in.Facts] (m : (ℓ : Loc Cert.BwdInIdeal.nD Cert.BwdInIdeal.τ Cert.BwdInIdeal.sig) → Buf (Elt Ideal) ℓ) : Prop :=
  ∀ c : Dev Cert.BwdInIdeal.nD,
    (Cert.Pre_finite_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6))).1 = (fun _ => 1#1)
    ∧ (Cert.Pre_finite_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6))).2.1 = (fun _ => 1#1)
    ∧ (Cert.Pre_finite_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6))).2.2.1 = (fun _ => 1#1)
    ∧ (Cert.Pre_finite_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6))).2.2.2.1 = (fun _ => 1#1)
    ∧ (Cert.Pre_finite_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6))).2.2.2.2 = (fun _ => 1#1)

def Pre_BwdInRefIdeal (m : (ℓ : Loc Cert.BwdInRefIdeal.nD Cert.BwdInRefIdeal.τ Cert.BwdInRefIdeal.sig) → Buf (Elt Ideal) ℓ) : Prop :=
  True

def Pre_BwdInRefIdeal_finite_in [hPre_finite_in : Cert.Pre_finite_in.Facts] (m : (ℓ : Loc Cert.BwdInRefIdeal.nD Cert.BwdInRefIdeal.τ Cert.BwdInRefIdeal.sig) → Buf (Elt Ideal) ℓ) : Prop :=
  ∀ c : Dev Cert.BwdInRefIdeal.nD,
    (Cert.Pre_finite_in.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6))).1 = (fun _ => 1#1)
    ∧ (Cert.Pre_finite_in.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6))).2.1 = (fun _ => 1#1)
    ∧ (Cert.Pre_finite_in.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6))).2.2.1 = (fun _ => 1#1)
    ∧ (Cert.Pre_finite_in.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6))).2.2.2.1 = (fun _ => 1#1)
    ∧ (Cert.Pre_finite_in.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6))).2.2.2.2 = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite_out [hPre_finite_out : Cert.Pre_finite_out.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))).1 = (fun _ => 1#1)
    ∧ (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))).2.1 = (fun _ => 1#1)
    ∧ (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))).2.2.1 = (fun _ => 1#1)
    ∧ (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))).2.2.2.1 = (fun _ => 1#1)
    ∧ (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))).2.2.2.2.1 = (fun _ => 1#1)
    ∧ (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))).2.2.2.2.2 = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_finite_out [hPre_finite_out : Cert.Pre_finite_out.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_finite_out.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))).1 = (fun _ => 1#1)
    ∧ (Cert.Pre_finite_out.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))).2.1 = (fun _ => 1#1)
    ∧ (Cert.Pre_finite_out.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))).2.2.1 = (fun _ => 1#1)
    ∧ (Cert.Pre_finite_out.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))).2.2.2.1 = (fun _ => 1#1)
    ∧ (Cert.Pre_finite_out.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))).2.2.2.2.1 = (fun _ => 1#1)
    ∧ (Cert.Pre_finite_out.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))).2.2.2.2.2 = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_finite_mix [hPre_finite_mix : Cert.Pre_finite_mix.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).1 = (fun _ => 1#1)
    ∧ (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.1 = (fun _ => 1#1)
    ∧ (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.2.1 = (fun _ => 1#1)
    ∧ (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.2.2 = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_finite_mix [hPre_finite_mix : Cert.Pre_finite_mix.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_finite_mix.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10))).1 = (fun _ => 1#1)
    ∧ (Cert.Pre_finite_mix.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10))).2.1 = (fun _ => 1#1)
    ∧ (Cert.Pre_finite_mix.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10))).2.2.1 = (fun _ => 1#1)
    ∧ (Cert.Pre_finite_mix.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10))).2.2.2 = (fun _ => 1#1)

def Pre_FwdProj (m : (ℓ : Loc Cert.FwdProj.nD Cert.FwdProj.τ Cert.FwdProj.sig) → Buf (Elt Bits) ℓ) : Prop :=
  True

def Pre_FwdProjIdeal (m : (ℓ : Loc Cert.FwdProjIdeal.nD Cert.FwdProjIdeal.τ Cert.FwdProjIdeal.sig) → Buf (Elt Ideal) ℓ) : Prop :=
  True

def Pre_FwdProjRefIdeal (m : (ℓ : Loc Cert.FwdProjRefIdeal.nD Cert.FwdProjRefIdeal.τ Cert.FwdProjRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_finite_tokens [hPre_finite_tokens : Cert.Pre_finite_tokens.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_finite_tokens.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6))) = (fun _ => 1#1)

def Pre_MixFwdRefIdeal (m : (ℓ : Loc Cert.MixFwdRefIdeal.nD Cert.MixFwdRefIdeal.τ Cert.MixFwdRefIdeal.sig) → Buf (Elt Ideal) ℓ) : Prop :=
  True

def Pre_MixFwdRefIdeal_finite_tokens [hPre_finite_tokens : Cert.Pre_finite_tokens.Facts] (m : (ℓ : Loc Cert.MixFwdRefIdeal.nD Cert.MixFwdRefIdeal.τ Cert.MixFwdRefIdeal.sig) → Buf (Elt Ideal) ℓ) : Prop :=
  ∀ c : Dev Cert.MixFwdRefIdeal.nD,
    (Cert.Pre_finite_tokens.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamSum (m : (ℓ : Loc Cert.AdamSum.nD Cert.AdamSum.τ Cert.AdamSum.sig) → Buf (Elt Bits) ℓ) : Prop :=
  True

def Pre_AdamSumIdeal (m : (ℓ : Loc Cert.AdamSumIdeal.nD Cert.AdamSumIdeal.τ Cert.AdamSumIdeal.sig) → Buf (Elt Ideal) ℓ) : Prop :=
  True

def Pre_AdamSumRefIdeal (m : (ℓ : Loc Cert.AdamSumRefIdeal.nD Cert.AdamSumRefIdeal.τ Cert.AdamSumRefIdeal.sig) → Buf (Elt Ideal) ℓ) : Prop :=
  True

def Pre_AdamOwn [hPre_device_index : Cert.Pre_device_index.Facts] (m : (ℓ : Loc Cert.AdamOwn.nD Cert.AdamOwn.τ Cert.AdamOwn.sig) → Buf (Elt Bits) ℓ) : Prop :=
  ∀ c : Dev Cert.AdamOwn.nD,
    (Cert.Pre_device_index.fn (F := Bits) (m ((c.tc : Thread Cert.AdamOwn.nD Cert.AdamOwn.τ).loc Cert.AdamOwn.main_arg0)) (m ((c.tc : Thread Cert.AdamOwn.nD Cert.AdamOwn.τ).loc Cert.AdamOwn.main_arg1)) (m ((c.tc : Thread Cert.AdamOwn.nD Cert.AdamOwn.τ).loc Cert.AdamOwn.main_arg2)) (m ((c.tc : Thread Cert.AdamOwn.nD Cert.AdamOwn.τ).loc Cert.AdamOwn.main_arg3)) (m ((c.tc : Thread Cert.AdamOwn.nD Cert.AdamOwn.τ).loc Cert.AdamOwn.main_arg4)) (m ((c.tc : Thread Cert.AdamOwn.nD Cert.AdamOwn.τ).loc Cert.AdamOwn.main_arg5))) = (fun _ => 1#1)

def Pre_AdamOwnIdeal [hPre_device_index : Cert.Pre_device_index.Facts] (m : (ℓ : Loc Cert.AdamOwnIdeal.nD Cert.AdamOwnIdeal.τ Cert.AdamOwnIdeal.sig) → Buf (Elt Ideal) ℓ) : Prop :=
  ∀ c : Dev Cert.AdamOwnIdeal.nD,
    (Cert.Pre_device_index.fn (F := Ideal) (m ((c.tc : Thread Cert.AdamOwnIdeal.nD Cert.AdamOwnIdeal.τ).loc Cert.AdamOwnIdeal.main_arg0)) (m ((c.tc : Thread Cert.AdamOwnIdeal.nD Cert.AdamOwnIdeal.τ).loc Cert.AdamOwnIdeal.main_arg1)) (m ((c.tc : Thread Cert.AdamOwnIdeal.nD Cert.AdamOwnIdeal.τ).loc Cert.AdamOwnIdeal.main_arg2)) (m ((c.tc : Thread Cert.AdamOwnIdeal.nD Cert.AdamOwnIdeal.τ).loc Cert.AdamOwnIdeal.main_arg3)) (m ((c.tc : Thread Cert.AdamOwnIdeal.nD Cert.AdamOwnIdeal.τ).loc Cert.AdamOwnIdeal.main_arg4)) (m ((c.tc : Thread Cert.AdamOwnIdeal.nD Cert.AdamOwnIdeal.τ).loc Cert.AdamOwnIdeal.main_arg5))) = (fun _ => 1#1)

def Pre_AdamOwnRefIdeal (m : (ℓ : Loc Cert.AdamOwnRefIdeal.nD Cert.AdamOwnRefIdeal.τ Cert.AdamOwnRefIdeal.sig) → Buf (Elt Ideal) ℓ) : Prop :=
  True

def Pre_AdamOwnRefIdeal_device_index [hPre_device_index : Cert.Pre_device_index.Facts] (m : (ℓ : Loc Cert.AdamOwnRefIdeal.nD Cert.AdamOwnRefIdeal.τ Cert.AdamOwnRefIdeal.sig) → Buf (Elt Ideal) ℓ) : Prop :=
  ∀ c : Dev Cert.AdamOwnRefIdeal.nD,
    (Cert.Pre_device_index.fn (F := Ideal) (m ((c.tc : Thread Cert.AdamOwnRefIdeal.nD Cert.AdamOwnRefIdeal.τ).loc Cert.AdamOwnRefIdeal.main_arg0)) (m ((c.tc : Thread Cert.AdamOwnRefIdeal.nD Cert.AdamOwnRefIdeal.τ).loc Cert.AdamOwnRefIdeal.main_arg1)) (m ((c.tc : Thread Cert.AdamOwnRefIdeal.nD Cert.AdamOwnRefIdeal.τ).loc Cert.AdamOwnRefIdeal.main_arg2)) (m ((c.tc : Thread Cert.AdamOwnRefIdeal.nD Cert.AdamOwnRefIdeal.τ).loc Cert.AdamOwnRefIdeal.main_arg3)) (m ((c.tc : Thread Cert.AdamOwnRefIdeal.nD Cert.AdamOwnRefIdeal.τ).loc Cert.AdamOwnRefIdeal.main_arg4)) (m ((c.tc : Thread Cert.AdamOwnRefIdeal.nD Cert.AdamOwnRefIdeal.τ).loc Cert.AdamOwnRefIdeal.main_arg5))) = (fun _ => 1#1)

def Pre_AdamTile [hPre_device_index_in : Cert.Pre_device_index_in.Facts] (m : (ℓ : Loc Cert.AdamTile.nD Cert.AdamTile.τ Cert.AdamTile.sig) → Buf (Elt Bits) ℓ) : Prop :=
  ∀ c : Dev Cert.AdamTile.nD,
    (Cert.Pre_device_index_in.fn (F := Bits) (m ((c.tc : Thread Cert.AdamTile.nD Cert.AdamTile.τ).loc Cert.AdamTile.main_arg0)) (m ((c.tc : Thread Cert.AdamTile.nD Cert.AdamTile.τ).loc Cert.AdamTile.main_arg1)) (m ((c.tc : Thread Cert.AdamTile.nD Cert.AdamTile.τ).loc Cert.AdamTile.main_arg2)) (m ((c.tc : Thread Cert.AdamTile.nD Cert.AdamTile.τ).loc Cert.AdamTile.main_arg3)) (m ((c.tc : Thread Cert.AdamTile.nD Cert.AdamTile.τ).loc Cert.AdamTile.main_arg4)) (m ((c.tc : Thread Cert.AdamTile.nD Cert.AdamTile.τ).loc Cert.AdamTile.main_arg5))) = (fun _ => 1#1)

def Pre_AdamTileIdeal [hPre_device_index_in : Cert.Pre_device_index_in.Facts] (m : (ℓ : Loc Cert.AdamTileIdeal.nD Cert.AdamTileIdeal.τ Cert.AdamTileIdeal.sig) → Buf (Elt Ideal) ℓ) : Prop :=
  ∀ c : Dev Cert.AdamTileIdeal.nD,
    (Cert.Pre_device_index_in.fn (F := Ideal) (m ((c.tc : Thread Cert.AdamTileIdeal.nD Cert.AdamTileIdeal.τ).loc Cert.AdamTileIdeal.main_arg0)) (m ((c.tc : Thread Cert.AdamTileIdeal.nD Cert.AdamTileIdeal.τ).loc Cert.AdamTileIdeal.main_arg1)) (m ((c.tc : Thread Cert.AdamTileIdeal.nD Cert.AdamTileIdeal.τ).loc Cert.AdamTileIdeal.main_arg2)) (m ((c.tc : Thread Cert.AdamTileIdeal.nD Cert.AdamTileIdeal.τ).loc Cert.AdamTileIdeal.main_arg3)) (m ((c.tc : Thread Cert.AdamTileIdeal.nD Cert.AdamTileIdeal.τ).loc Cert.AdamTileIdeal.main_arg4)) (m ((c.tc : Thread Cert.AdamTileIdeal.nD Cert.AdamTileIdeal.τ).loc Cert.AdamTileIdeal.main_arg5))) = (fun _ => 1#1)

def Pre_AdamTileRefIdeal (m : (ℓ : Loc Cert.AdamTileRefIdeal.nD Cert.AdamTileRefIdeal.τ Cert.AdamTileRefIdeal.sig) → Buf (Elt Ideal) ℓ) : Prop :=
  True

def Pre_AdamTileRefIdeal_device_index_in [hPre_device_index_in : Cert.Pre_device_index_in.Facts] (m : (ℓ : Loc Cert.AdamTileRefIdeal.nD Cert.AdamTileRefIdeal.τ Cert.AdamTileRefIdeal.sig) → Buf (Elt Ideal) ℓ) : Prop :=
  ∀ c : Dev Cert.AdamTileRefIdeal.nD,
    (Cert.Pre_device_index_in.fn (F := Ideal) (m ((c.tc : Thread Cert.AdamTileRefIdeal.nD Cert.AdamTileRefIdeal.τ).loc Cert.AdamTileRefIdeal.main_arg0)) (m ((c.tc : Thread Cert.AdamTileRefIdeal.nD Cert.AdamTileRefIdeal.τ).loc Cert.AdamTileRefIdeal.main_arg1)) (m ((c.tc : Thread Cert.AdamTileRefIdeal.nD Cert.AdamTileRefIdeal.τ).loc Cert.AdamTileRefIdeal.main_arg2)) (m ((c.tc : Thread Cert.AdamTileRefIdeal.nD Cert.AdamTileRefIdeal.τ).loc Cert.AdamTileRefIdeal.main_arg3)) (m ((c.tc : Thread Cert.AdamTileRefIdeal.nD Cert.AdamTileRefIdeal.τ).loc Cert.AdamTileRefIdeal.main_arg4)) (m ((c.tc : Thread Cert.AdamTileRefIdeal.nD Cert.AdamTileRefIdeal.τ).loc Cert.AdamTileRefIdeal.main_arg5))) = (fun _ => 1#1)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4)
      ∧ r.2.mem ((c.tc : Thread Cert.BwdIn.nD Cert.BwdIn.τ).loc Cert.BwdIn.main_arg5) = m ((c.tc : Thread Cert.BwdIn.nD Cert.BwdIn.τ).loc Cert.BwdIn.main_arg5)
      ∧ r.2.mem ((c.tc : Thread Cert.BwdIn.nD Cert.BwdIn.τ).loc Cert.BwdIn.main_arg6) = m ((c.tc : Thread Cert.BwdIn.nD Cert.BwdIn.τ).loc Cert.BwdIn.main_arg6))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6))
      ∧ r.2.sem = fun _ => 0)

def quiescent_BwdInIdeal_pre_finite_in [hBwdInIdeal : Cert.BwdInIdeal.Facts] [hPre_finite_in : Cert.Pre_finite_in.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal_finite_in m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5)
      ∧ r.2.mem ((c.tc : Thread Cert.BwdInRefIdeal.nD Cert.BwdInRefIdeal.τ).loc Cert.BwdInRefIdeal.main_arg6) = m ((c.tc : Thread Cert.BwdInRefIdeal.nD Cert.BwdInRefIdeal.τ).loc Cert.BwdInRefIdeal.main_arg6))
      ∧ r.2.sem = fun _ => 0)

def quiescent_BwdInRefIdeal_pre_finite_in [hBwdInRefIdeal : Cert.BwdInRefIdeal.Facts] [hPre_finite_in : Cert.Pre_finite_in.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal_finite_in m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5)
      ∧ r.2.mem ((c.tc : Thread Cert.BwdInRefIdeal.nD Cert.BwdInRefIdeal.τ).loc Cert.BwdInRefIdeal.main_arg6) = m ((c.tc : Thread Cert.BwdInRefIdeal.nD Cert.BwdInRefIdeal.τ).loc Cert.BwdInRefIdeal.main_arg6))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ r.2.sem = fun _ => 0)

def quiescent_OutBwdIdeal_pre_finite_out [hOutBwdIdeal : Cert.OutBwdIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite_out m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5))
      ∧ r.2.sem = fun _ => 0)

def quiescent_OutBwdRefIdeal_pre_finite_out [hOutBwdRefIdeal : Cert.OutBwdRefIdeal.Facts] [hPre_finite_out : Cert.Pre_finite_out.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_finite_out m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10))
      ∧ r.2.sem = fun _ => 0)

def quiescent_MixBwdIdeal_pre_finite_mix [hMixBwdIdeal : Cert.MixBwdIdeal.Facts] [hPre_finite_mix : Cert.Pre_finite_mix.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_finite_mix m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10))
      ∧ r.2.sem = fun _ => 0)

def quiescent_MixBwdRefIdeal_pre_finite_mix [hMixBwdRefIdeal : Cert.MixBwdRefIdeal.Facts] [hPre_finite_mix : Cert.Pre_finite_mix.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_finite_mix m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10))
      ∧ r.2.sem = fun _ => 0)

def quiescent_FwdProj [hFwdProj : Cert.FwdProj.Facts] : Prop :=
  ∀ (m : (ℓ : Loc Cert.FwdProj.nD Cert.FwdProj.τ Cert.FwdProj.sig) → Buf (Elt Bits) ℓ) (g : Dev Cert.FwdProj.nD → PrngReg), Pre_FwdProj m →
    θ_run (Cert.FwdProj.defs (F := Bits)) (onTc (τ := Cert.FwdProj.τ) (Cert.FwdProj.main (F := Bits))) ⟨m, fun _ => 0, g⟩ (fun r => (∀ c : Dev Cert.FwdProj.nD,
      r.2.mem ((c.tc : Thread Cert.FwdProj.nD Cert.FwdProj.τ).loc Cert.FwdProj.main_arg0) = m ((c.tc : Thread Cert.FwdProj.nD Cert.FwdProj.τ).loc Cert.FwdProj.main_arg0)
      ∧ r.2.mem ((c.tc : Thread Cert.FwdProj.nD Cert.FwdProj.τ).loc Cert.FwdProj.main_arg1) = m ((c.tc : Thread Cert.FwdProj.nD Cert.FwdProj.τ).loc Cert.FwdProj.main_arg1)
      ∧ r.2.mem ((c.tc : Thread Cert.FwdProj.nD Cert.FwdProj.τ).loc Cert.FwdProj.main_arg2) = m ((c.tc : Thread Cert.FwdProj.nD Cert.FwdProj.τ).loc Cert.FwdProj.main_arg2)
      ∧ r.2.mem ((c.tc : Thread Cert.FwdProj.nD Cert.FwdProj.τ).loc Cert.FwdProj.main_arg3) = m ((c.tc : Thread Cert.FwdProj.nD Cert.FwdProj.τ).loc Cert.FwdProj.main_arg3)
      ∧ r.2.mem ((c.tc : Thread Cert.FwdProj.nD Cert.FwdProj.τ).loc Cert.FwdProj.main_arg4) = m ((c.tc : Thread Cert.FwdProj.nD Cert.FwdProj.τ).loc Cert.FwdProj.main_arg4))
      ∧ r.2.sem = fun _ => 0)

def quiescent_FwdProjIdeal [hFwdProjIdeal : Cert.FwdProjIdeal.Facts] : Prop :=
  ∀ (m : (ℓ : Loc Cert.FwdProjIdeal.nD Cert.FwdProjIdeal.τ Cert.FwdProjIdeal.sig) → Buf (Elt Ideal) ℓ) (g : Dev Cert.FwdProjIdeal.nD → PrngReg), Pre_FwdProjIdeal m →
    θ_run (Cert.FwdProjIdeal.defs (F := Ideal)) (onTc (τ := Cert.FwdProjIdeal.τ) (Cert.FwdProjIdeal.main (F := Ideal))) ⟨m, fun _ => 0, g⟩ (fun r => (∀ c : Dev Cert.FwdProjIdeal.nD,
      r.2.mem ((c.tc : Thread Cert.FwdProjIdeal.nD Cert.FwdProjIdeal.τ).loc Cert.FwdProjIdeal.main_arg0) = m ((c.tc : Thread Cert.FwdProjIdeal.nD Cert.FwdProjIdeal.τ).loc Cert.FwdProjIdeal.main_arg0)
      ∧ r.2.mem ((c.tc : Thread Cert.FwdProjIdeal.nD Cert.FwdProjIdeal.τ).loc Cert.FwdProjIdeal.main_arg1) = m ((c.tc : Thread Cert.FwdProjIdeal.nD Cert.FwdProjIdeal.τ).loc Cert.FwdProjIdeal.main_arg1)
      ∧ r.2.mem ((c.tc : Thread Cert.FwdProjIdeal.nD Cert.FwdProjIdeal.τ).loc Cert.FwdProjIdeal.main_arg2) = m ((c.tc : Thread Cert.FwdProjIdeal.nD Cert.FwdProjIdeal.τ).loc Cert.FwdProjIdeal.main_arg2)
      ∧ r.2.mem ((c.tc : Thread Cert.FwdProjIdeal.nD Cert.FwdProjIdeal.τ).loc Cert.FwdProjIdeal.main_arg3) = m ((c.tc : Thread Cert.FwdProjIdeal.nD Cert.FwdProjIdeal.τ).loc Cert.FwdProjIdeal.main_arg3)
      ∧ r.2.mem ((c.tc : Thread Cert.FwdProjIdeal.nD Cert.FwdProjIdeal.τ).loc Cert.FwdProjIdeal.main_arg4) = m ((c.tc : Thread Cert.FwdProjIdeal.nD Cert.FwdProjIdeal.τ).loc Cert.FwdProjIdeal.main_arg4))
      ∧ r.2.sem = fun _ => 0)

def quiescent_FwdProjRefIdeal [hFwdProjRefIdeal : Cert.FwdProjRefIdeal.Facts] : Prop :=
  ∀ (m : (ℓ : Loc Cert.FwdProjRefIdeal.nD Cert.FwdProjRefIdeal.τ Cert.FwdProjRefIdeal.sig) → Buf (Elt Ideal) ℓ) (g : Dev Cert.FwdProjRefIdeal.nD → PrngReg), Pre_FwdProjRefIdeal m →
    θ_run (Cert.FwdProjRefIdeal.defs (F := Ideal)) (onTc (τ := Cert.FwdProjRefIdeal.τ) (Cert.FwdProjRefIdeal.main (F := Ideal))) ⟨m, fun _ => 0, g⟩ (fun r => (∀ c : Dev Cert.FwdProjRefIdeal.nD,
      r.2.mem ((c.tc : Thread Cert.FwdProjRefIdeal.nD Cert.FwdProjRefIdeal.τ).loc Cert.FwdProjRefIdeal.main_arg0) = m ((c.tc : Thread Cert.FwdProjRefIdeal.nD Cert.FwdProjRefIdeal.τ).loc Cert.FwdProjRefIdeal.main_arg0)
      ∧ r.2.mem ((c.tc : Thread Cert.FwdProjRefIdeal.nD Cert.FwdProjRefIdeal.τ).loc Cert.FwdProjRefIdeal.main_arg1) = m ((c.tc : Thread Cert.FwdProjRefIdeal.nD Cert.FwdProjRefIdeal.τ).loc Cert.FwdProjRefIdeal.main_arg1)
      ∧ r.2.mem ((c.tc : Thread Cert.FwdProjRefIdeal.nD Cert.FwdProjRefIdeal.τ).loc Cert.FwdProjRefIdeal.main_arg2) = m ((c.tc : Thread Cert.FwdProjRefIdeal.nD Cert.FwdProjRefIdeal.τ).loc Cert.FwdProjRefIdeal.main_arg2)
      ∧ r.2.mem ((c.tc : Thread Cert.FwdProjRefIdeal.nD Cert.FwdProjRefIdeal.τ).loc Cert.FwdProjRefIdeal.main_arg3) = m ((c.tc : Thread Cert.FwdProjRefIdeal.nD Cert.FwdProjRefIdeal.τ).loc Cert.FwdProjRefIdeal.main_arg3)
      ∧ r.2.mem ((c.tc : Thread Cert.FwdProjRefIdeal.nD Cert.FwdProjRefIdeal.τ).loc Cert.FwdProjRefIdeal.main_arg4) = m ((c.tc : Thread Cert.FwdProjRefIdeal.nD Cert.FwdProjRefIdeal.τ).loc Cert.FwdProjRefIdeal.main_arg4))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ r.2.sem = fun _ => 0)

def quiescent_MixFwdIdeal_pre_finite_tokens [hMixFwdIdeal : Cert.MixFwdIdeal.Facts] [hPre_finite_tokens : Cert.Pre_finite_tokens.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_finite_tokens m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6))
      ∧ r.2.sem = fun _ => 0)

def quiescent_MixFwdRefIdeal_pre_finite_tokens [hMixFwdRefIdeal : Cert.MixFwdRefIdeal.Facts] [hPre_finite_tokens : Cert.Pre_finite_tokens.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal_finite_tokens m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4)
      ∧ r.2.mem ((c.tc : Thread Cert.DwIn.nD Cert.DwIn.τ).loc Cert.DwIn.main_arg5) = m ((c.tc : Thread Cert.DwIn.nD Cert.DwIn.τ).loc Cert.DwIn.main_arg5))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4))
      ∧ r.2.sem = fun _ => 0)

def quiescent_AdamSum [hAdamSum : Cert.AdamSum.Facts] : Prop :=
  ∀ (m : (ℓ : Loc Cert.AdamSum.nD Cert.AdamSum.τ Cert.AdamSum.sig) → Buf (Elt Bits) ℓ) (g : Dev Cert.AdamSum.nD → PrngReg), Pre_AdamSum m →
    θ_run (Cert.AdamSum.defs (F := Bits)) (onTc (τ := Cert.AdamSum.τ) (Cert.AdamSum.main (F := Bits))) ⟨m, fun _ => 0, g⟩ (fun r => (∀ c : Dev Cert.AdamSum.nD,
      r.2.mem ((c.tc : Thread Cert.AdamSum.nD Cert.AdamSum.τ).loc Cert.AdamSum.main_arg0) = m ((c.tc : Thread Cert.AdamSum.nD Cert.AdamSum.τ).loc Cert.AdamSum.main_arg0)
      ∧ r.2.mem ((c.tc : Thread Cert.AdamSum.nD Cert.AdamSum.τ).loc Cert.AdamSum.main_arg1) = m ((c.tc : Thread Cert.AdamSum.nD Cert.AdamSum.τ).loc Cert.AdamSum.main_arg1)
      ∧ r.2.mem ((c.tc : Thread Cert.AdamSum.nD Cert.AdamSum.τ).loc Cert.AdamSum.main_arg2) = m ((c.tc : Thread Cert.AdamSum.nD Cert.AdamSum.τ).loc Cert.AdamSum.main_arg2)
      ∧ r.2.mem ((c.tc : Thread Cert.AdamSum.nD Cert.AdamSum.τ).loc Cert.AdamSum.main_arg3) = m ((c.tc : Thread Cert.AdamSum.nD Cert.AdamSum.τ).loc Cert.AdamSum.main_arg3))
      ∧ r.2.sem = fun _ => 0)

def quiescent_AdamSumIdeal [hAdamSumIdeal : Cert.AdamSumIdeal.Facts] : Prop :=
  ∀ (m : (ℓ : Loc Cert.AdamSumIdeal.nD Cert.AdamSumIdeal.τ Cert.AdamSumIdeal.sig) → Buf (Elt Ideal) ℓ) (g : Dev Cert.AdamSumIdeal.nD → PrngReg), Pre_AdamSumIdeal m →
    θ_run (Cert.AdamSumIdeal.defs (F := Ideal)) (onTc (τ := Cert.AdamSumIdeal.τ) (Cert.AdamSumIdeal.main (F := Ideal))) ⟨m, fun _ => 0, g⟩ (fun r => (∀ c : Dev Cert.AdamSumIdeal.nD,
      r.2.mem ((c.tc : Thread Cert.AdamSumIdeal.nD Cert.AdamSumIdeal.τ).loc Cert.AdamSumIdeal.main_arg0) = m ((c.tc : Thread Cert.AdamSumIdeal.nD Cert.AdamSumIdeal.τ).loc Cert.AdamSumIdeal.main_arg0)
      ∧ r.2.mem ((c.tc : Thread Cert.AdamSumIdeal.nD Cert.AdamSumIdeal.τ).loc Cert.AdamSumIdeal.main_arg1) = m ((c.tc : Thread Cert.AdamSumIdeal.nD Cert.AdamSumIdeal.τ).loc Cert.AdamSumIdeal.main_arg1)
      ∧ r.2.mem ((c.tc : Thread Cert.AdamSumIdeal.nD Cert.AdamSumIdeal.τ).loc Cert.AdamSumIdeal.main_arg2) = m ((c.tc : Thread Cert.AdamSumIdeal.nD Cert.AdamSumIdeal.τ).loc Cert.AdamSumIdeal.main_arg2)
      ∧ r.2.mem ((c.tc : Thread Cert.AdamSumIdeal.nD Cert.AdamSumIdeal.τ).loc Cert.AdamSumIdeal.main_arg3) = m ((c.tc : Thread Cert.AdamSumIdeal.nD Cert.AdamSumIdeal.τ).loc Cert.AdamSumIdeal.main_arg3))
      ∧ r.2.sem = fun _ => 0)

def quiescent_AdamSumRefIdeal [hAdamSumRefIdeal : Cert.AdamSumRefIdeal.Facts] : Prop :=
  ∀ (m : (ℓ : Loc Cert.AdamSumRefIdeal.nD Cert.AdamSumRefIdeal.τ Cert.AdamSumRefIdeal.sig) → Buf (Elt Ideal) ℓ) (g : Dev Cert.AdamSumRefIdeal.nD → PrngReg), Pre_AdamSumRefIdeal m →
    θ_run (Cert.AdamSumRefIdeal.defs (F := Ideal)) (onTc (τ := Cert.AdamSumRefIdeal.τ) (Cert.AdamSumRefIdeal.main (F := Ideal))) ⟨m, fun _ => 0, g⟩ (fun r => (∀ c : Dev Cert.AdamSumRefIdeal.nD,
      r.2.mem ((c.tc : Thread Cert.AdamSumRefIdeal.nD Cert.AdamSumRefIdeal.τ).loc Cert.AdamSumRefIdeal.main_arg0) = m ((c.tc : Thread Cert.AdamSumRefIdeal.nD Cert.AdamSumRefIdeal.τ).loc Cert.AdamSumRefIdeal.main_arg0)
      ∧ r.2.mem ((c.tc : Thread Cert.AdamSumRefIdeal.nD Cert.AdamSumRefIdeal.τ).loc Cert.AdamSumRefIdeal.main_arg1) = m ((c.tc : Thread Cert.AdamSumRefIdeal.nD Cert.AdamSumRefIdeal.τ).loc Cert.AdamSumRefIdeal.main_arg1)
      ∧ r.2.mem ((c.tc : Thread Cert.AdamSumRefIdeal.nD Cert.AdamSumRefIdeal.τ).loc Cert.AdamSumRefIdeal.main_arg2) = m ((c.tc : Thread Cert.AdamSumRefIdeal.nD Cert.AdamSumRefIdeal.τ).loc Cert.AdamSumRefIdeal.main_arg2)
      ∧ r.2.mem ((c.tc : Thread Cert.AdamSumRefIdeal.nD Cert.AdamSumRefIdeal.τ).loc Cert.AdamSumRefIdeal.main_arg3) = m ((c.tc : Thread Cert.AdamSumRefIdeal.nD Cert.AdamSumRefIdeal.τ).loc Cert.AdamSumRefIdeal.main_arg3))
      ∧ r.2.sem = fun _ => 0)

def quiescent_AdamOwn [hAdamOwn : Cert.AdamOwn.Facts] [hPre_device_index : Cert.Pre_device_index.Facts] : Prop :=
  ∀ (m : (ℓ : Loc Cert.AdamOwn.nD Cert.AdamOwn.τ Cert.AdamOwn.sig) → Buf (Elt Bits) ℓ) (g : Dev Cert.AdamOwn.nD → PrngReg), Pre_AdamOwn m →
    θ_run (Cert.AdamOwn.defs (F := Bits)) (onTc (τ := Cert.AdamOwn.τ) (Cert.AdamOwn.main (F := Bits))) ⟨m, fun _ => 0, g⟩ (fun r => (∀ c : Dev Cert.AdamOwn.nD,
      r.2.mem ((c.tc : Thread Cert.AdamOwn.nD Cert.AdamOwn.τ).loc Cert.AdamOwn.main_arg0) = m ((c.tc : Thread Cert.AdamOwn.nD Cert.AdamOwn.τ).loc Cert.AdamOwn.main_arg0)
      ∧ r.2.mem ((c.tc : Thread Cert.AdamOwn.nD Cert.AdamOwn.τ).loc Cert.AdamOwn.main_arg1) = m ((c.tc : Thread Cert.AdamOwn.nD Cert.AdamOwn.τ).loc Cert.AdamOwn.main_arg1)
      ∧ r.2.mem ((c.tc : Thread Cert.AdamOwn.nD Cert.AdamOwn.τ).loc Cert.AdamOwn.main_arg2) = m ((c.tc : Thread Cert.AdamOwn.nD Cert.AdamOwn.τ).loc Cert.AdamOwn.main_arg2)
      ∧ r.2.mem ((c.tc : Thread Cert.AdamOwn.nD Cert.AdamOwn.τ).loc Cert.AdamOwn.main_arg3) = m ((c.tc : Thread Cert.AdamOwn.nD Cert.AdamOwn.τ).loc Cert.AdamOwn.main_arg3)
      ∧ r.2.mem ((c.tc : Thread Cert.AdamOwn.nD Cert.AdamOwn.τ).loc Cert.AdamOwn.main_arg4) = m ((c.tc : Thread Cert.AdamOwn.nD Cert.AdamOwn.τ).loc Cert.AdamOwn.main_arg4)
      ∧ r.2.mem ((c.tc : Thread Cert.AdamOwn.nD Cert.AdamOwn.τ).loc Cert.AdamOwn.main_arg5) = m ((c.tc : Thread Cert.AdamOwn.nD Cert.AdamOwn.τ).loc Cert.AdamOwn.main_arg5))
      ∧ r.2.sem = fun _ => 0)

def quiescent_AdamOwnIdeal [hAdamOwnIdeal : Cert.AdamOwnIdeal.Facts] [hPre_device_index : Cert.Pre_device_index.Facts] : Prop :=
  ∀ (m : (ℓ : Loc Cert.AdamOwnIdeal.nD Cert.AdamOwnIdeal.τ Cert.AdamOwnIdeal.sig) → Buf (Elt Ideal) ℓ) (g : Dev Cert.AdamOwnIdeal.nD → PrngReg), Pre_AdamOwnIdeal m →
    θ_run (Cert.AdamOwnIdeal.defs (F := Ideal)) (onTc (τ := Cert.AdamOwnIdeal.τ) (Cert.AdamOwnIdeal.main (F := Ideal))) ⟨m, fun _ => 0, g⟩ (fun r => (∀ c : Dev Cert.AdamOwnIdeal.nD,
      r.2.mem ((c.tc : Thread Cert.AdamOwnIdeal.nD Cert.AdamOwnIdeal.τ).loc Cert.AdamOwnIdeal.main_arg0) = m ((c.tc : Thread Cert.AdamOwnIdeal.nD Cert.AdamOwnIdeal.τ).loc Cert.AdamOwnIdeal.main_arg0)
      ∧ r.2.mem ((c.tc : Thread Cert.AdamOwnIdeal.nD Cert.AdamOwnIdeal.τ).loc Cert.AdamOwnIdeal.main_arg1) = m ((c.tc : Thread Cert.AdamOwnIdeal.nD Cert.AdamOwnIdeal.τ).loc Cert.AdamOwnIdeal.main_arg1)
      ∧ r.2.mem ((c.tc : Thread Cert.AdamOwnIdeal.nD Cert.AdamOwnIdeal.τ).loc Cert.AdamOwnIdeal.main_arg2) = m ((c.tc : Thread Cert.AdamOwnIdeal.nD Cert.AdamOwnIdeal.τ).loc Cert.AdamOwnIdeal.main_arg2)
      ∧ r.2.mem ((c.tc : Thread Cert.AdamOwnIdeal.nD Cert.AdamOwnIdeal.τ).loc Cert.AdamOwnIdeal.main_arg3) = m ((c.tc : Thread Cert.AdamOwnIdeal.nD Cert.AdamOwnIdeal.τ).loc Cert.AdamOwnIdeal.main_arg3)
      ∧ r.2.mem ((c.tc : Thread Cert.AdamOwnIdeal.nD Cert.AdamOwnIdeal.τ).loc Cert.AdamOwnIdeal.main_arg4) = m ((c.tc : Thread Cert.AdamOwnIdeal.nD Cert.AdamOwnIdeal.τ).loc Cert.AdamOwnIdeal.main_arg4)
      ∧ r.2.mem ((c.tc : Thread Cert.AdamOwnIdeal.nD Cert.AdamOwnIdeal.τ).loc Cert.AdamOwnIdeal.main_arg5) = m ((c.tc : Thread Cert.AdamOwnIdeal.nD Cert.AdamOwnIdeal.τ).loc Cert.AdamOwnIdeal.main_arg5))
      ∧ r.2.sem = fun _ => 0)

def quiescent_AdamOwnRefIdeal [hAdamOwnRefIdeal : Cert.AdamOwnRefIdeal.Facts] : Prop :=
  ∀ (m : (ℓ : Loc Cert.AdamOwnRefIdeal.nD Cert.AdamOwnRefIdeal.τ Cert.AdamOwnRefIdeal.sig) → Buf (Elt Ideal) ℓ) (g : Dev Cert.AdamOwnRefIdeal.nD → PrngReg), Pre_AdamOwnRefIdeal m →
    θ_run (Cert.AdamOwnRefIdeal.defs (F := Ideal)) (onTc (τ := Cert.AdamOwnRefIdeal.τ) (Cert.AdamOwnRefIdeal.main (F := Ideal))) ⟨m, fun _ => 0, g⟩ (fun r => (∀ c : Dev Cert.AdamOwnRefIdeal.nD,
      r.2.mem ((c.tc : Thread Cert.AdamOwnRefIdeal.nD Cert.AdamOwnRefIdeal.τ).loc Cert.AdamOwnRefIdeal.main_arg0) = m ((c.tc : Thread Cert.AdamOwnRefIdeal.nD Cert.AdamOwnRefIdeal.τ).loc Cert.AdamOwnRefIdeal.main_arg0)
      ∧ r.2.mem ((c.tc : Thread Cert.AdamOwnRefIdeal.nD Cert.AdamOwnRefIdeal.τ).loc Cert.AdamOwnRefIdeal.main_arg1) = m ((c.tc : Thread Cert.AdamOwnRefIdeal.nD Cert.AdamOwnRefIdeal.τ).loc Cert.AdamOwnRefIdeal.main_arg1)
      ∧ r.2.mem ((c.tc : Thread Cert.AdamOwnRefIdeal.nD Cert.AdamOwnRefIdeal.τ).loc Cert.AdamOwnRefIdeal.main_arg2) = m ((c.tc : Thread Cert.AdamOwnRefIdeal.nD Cert.AdamOwnRefIdeal.τ).loc Cert.AdamOwnRefIdeal.main_arg2)
      ∧ r.2.mem ((c.tc : Thread Cert.AdamOwnRefIdeal.nD Cert.AdamOwnRefIdeal.τ).loc Cert.AdamOwnRefIdeal.main_arg3) = m ((c.tc : Thread Cert.AdamOwnRefIdeal.nD Cert.AdamOwnRefIdeal.τ).loc Cert.AdamOwnRefIdeal.main_arg3)
      ∧ r.2.mem ((c.tc : Thread Cert.AdamOwnRefIdeal.nD Cert.AdamOwnRefIdeal.τ).loc Cert.AdamOwnRefIdeal.main_arg4) = m ((c.tc : Thread Cert.AdamOwnRefIdeal.nD Cert.AdamOwnRefIdeal.τ).loc Cert.AdamOwnRefIdeal.main_arg4)
      ∧ r.2.mem ((c.tc : Thread Cert.AdamOwnRefIdeal.nD Cert.AdamOwnRefIdeal.τ).loc Cert.AdamOwnRefIdeal.main_arg5) = m ((c.tc : Thread Cert.AdamOwnRefIdeal.nD Cert.AdamOwnRefIdeal.τ).loc Cert.AdamOwnRefIdeal.main_arg5))
      ∧ r.2.sem = fun _ => 0)

def quiescent_AdamOwnRefIdeal_pre_device_index [hAdamOwnRefIdeal : Cert.AdamOwnRefIdeal.Facts] [hPre_device_index : Cert.Pre_device_index.Facts] : Prop :=
  ∀ (m : (ℓ : Loc Cert.AdamOwnRefIdeal.nD Cert.AdamOwnRefIdeal.τ Cert.AdamOwnRefIdeal.sig) → Buf (Elt Ideal) ℓ) (g : Dev Cert.AdamOwnRefIdeal.nD → PrngReg), Pre_AdamOwnRefIdeal_device_index m →
    θ_run (Cert.AdamOwnRefIdeal.defs (F := Ideal)) (onTc (τ := Cert.AdamOwnRefIdeal.τ) (Cert.AdamOwnRefIdeal.main (F := Ideal))) ⟨m, fun _ => 0, g⟩ (fun r => (∀ c : Dev Cert.AdamOwnRefIdeal.nD,
      r.2.mem ((c.tc : Thread Cert.AdamOwnRefIdeal.nD Cert.AdamOwnRefIdeal.τ).loc Cert.AdamOwnRefIdeal.main_arg0) = m ((c.tc : Thread Cert.AdamOwnRefIdeal.nD Cert.AdamOwnRefIdeal.τ).loc Cert.AdamOwnRefIdeal.main_arg0)
      ∧ r.2.mem ((c.tc : Thread Cert.AdamOwnRefIdeal.nD Cert.AdamOwnRefIdeal.τ).loc Cert.AdamOwnRefIdeal.main_arg1) = m ((c.tc : Thread Cert.AdamOwnRefIdeal.nD Cert.AdamOwnRefIdeal.τ).loc Cert.AdamOwnRefIdeal.main_arg1)
      ∧ r.2.mem ((c.tc : Thread Cert.AdamOwnRefIdeal.nD Cert.AdamOwnRefIdeal.τ).loc Cert.AdamOwnRefIdeal.main_arg2) = m ((c.tc : Thread Cert.AdamOwnRefIdeal.nD Cert.AdamOwnRefIdeal.τ).loc Cert.AdamOwnRefIdeal.main_arg2)
      ∧ r.2.mem ((c.tc : Thread Cert.AdamOwnRefIdeal.nD Cert.AdamOwnRefIdeal.τ).loc Cert.AdamOwnRefIdeal.main_arg3) = m ((c.tc : Thread Cert.AdamOwnRefIdeal.nD Cert.AdamOwnRefIdeal.τ).loc Cert.AdamOwnRefIdeal.main_arg3)
      ∧ r.2.mem ((c.tc : Thread Cert.AdamOwnRefIdeal.nD Cert.AdamOwnRefIdeal.τ).loc Cert.AdamOwnRefIdeal.main_arg4) = m ((c.tc : Thread Cert.AdamOwnRefIdeal.nD Cert.AdamOwnRefIdeal.τ).loc Cert.AdamOwnRefIdeal.main_arg4)
      ∧ r.2.mem ((c.tc : Thread Cert.AdamOwnRefIdeal.nD Cert.AdamOwnRefIdeal.τ).loc Cert.AdamOwnRefIdeal.main_arg5) = m ((c.tc : Thread Cert.AdamOwnRefIdeal.nD Cert.AdamOwnRefIdeal.τ).loc Cert.AdamOwnRefIdeal.main_arg5))
      ∧ r.2.sem = fun _ => 0)

def quiescent_AdamTile [hAdamTile : Cert.AdamTile.Facts] [hPre_device_index_in : Cert.Pre_device_index_in.Facts] : Prop :=
  ∀ (m : (ℓ : Loc Cert.AdamTile.nD Cert.AdamTile.τ Cert.AdamTile.sig) → Buf (Elt Bits) ℓ) (g : Dev Cert.AdamTile.nD → PrngReg), Pre_AdamTile m →
    θ_run (Cert.AdamTile.defs (F := Bits)) (onTc (τ := Cert.AdamTile.τ) (Cert.AdamTile.main (F := Bits))) ⟨m, fun _ => 0, g⟩ (fun r => (∀ c : Dev Cert.AdamTile.nD,
      r.2.mem ((c.tc : Thread Cert.AdamTile.nD Cert.AdamTile.τ).loc Cert.AdamTile.main_arg0) = m ((c.tc : Thread Cert.AdamTile.nD Cert.AdamTile.τ).loc Cert.AdamTile.main_arg0)
      ∧ r.2.mem ((c.tc : Thread Cert.AdamTile.nD Cert.AdamTile.τ).loc Cert.AdamTile.main_arg1) = m ((c.tc : Thread Cert.AdamTile.nD Cert.AdamTile.τ).loc Cert.AdamTile.main_arg1)
      ∧ r.2.mem ((c.tc : Thread Cert.AdamTile.nD Cert.AdamTile.τ).loc Cert.AdamTile.main_arg2) = m ((c.tc : Thread Cert.AdamTile.nD Cert.AdamTile.τ).loc Cert.AdamTile.main_arg2)
      ∧ r.2.mem ((c.tc : Thread Cert.AdamTile.nD Cert.AdamTile.τ).loc Cert.AdamTile.main_arg3) = m ((c.tc : Thread Cert.AdamTile.nD Cert.AdamTile.τ).loc Cert.AdamTile.main_arg3)
      ∧ r.2.mem ((c.tc : Thread Cert.AdamTile.nD Cert.AdamTile.τ).loc Cert.AdamTile.main_arg4) = m ((c.tc : Thread Cert.AdamTile.nD Cert.AdamTile.τ).loc Cert.AdamTile.main_arg4)
      ∧ r.2.mem ((c.tc : Thread Cert.AdamTile.nD Cert.AdamTile.τ).loc Cert.AdamTile.main_arg5) = m ((c.tc : Thread Cert.AdamTile.nD Cert.AdamTile.τ).loc Cert.AdamTile.main_arg5))
      ∧ r.2.sem = fun _ => 0)

def quiescent_AdamTileIdeal [hAdamTileIdeal : Cert.AdamTileIdeal.Facts] [hPre_device_index_in : Cert.Pre_device_index_in.Facts] : Prop :=
  ∀ (m : (ℓ : Loc Cert.AdamTileIdeal.nD Cert.AdamTileIdeal.τ Cert.AdamTileIdeal.sig) → Buf (Elt Ideal) ℓ) (g : Dev Cert.AdamTileIdeal.nD → PrngReg), Pre_AdamTileIdeal m →
    θ_run (Cert.AdamTileIdeal.defs (F := Ideal)) (onTc (τ := Cert.AdamTileIdeal.τ) (Cert.AdamTileIdeal.main (F := Ideal))) ⟨m, fun _ => 0, g⟩ (fun r => (∀ c : Dev Cert.AdamTileIdeal.nD,
      r.2.mem ((c.tc : Thread Cert.AdamTileIdeal.nD Cert.AdamTileIdeal.τ).loc Cert.AdamTileIdeal.main_arg0) = m ((c.tc : Thread Cert.AdamTileIdeal.nD Cert.AdamTileIdeal.τ).loc Cert.AdamTileIdeal.main_arg0)
      ∧ r.2.mem ((c.tc : Thread Cert.AdamTileIdeal.nD Cert.AdamTileIdeal.τ).loc Cert.AdamTileIdeal.main_arg1) = m ((c.tc : Thread Cert.AdamTileIdeal.nD Cert.AdamTileIdeal.τ).loc Cert.AdamTileIdeal.main_arg1)
      ∧ r.2.mem ((c.tc : Thread Cert.AdamTileIdeal.nD Cert.AdamTileIdeal.τ).loc Cert.AdamTileIdeal.main_arg2) = m ((c.tc : Thread Cert.AdamTileIdeal.nD Cert.AdamTileIdeal.τ).loc Cert.AdamTileIdeal.main_arg2)
      ∧ r.2.mem ((c.tc : Thread Cert.AdamTileIdeal.nD Cert.AdamTileIdeal.τ).loc Cert.AdamTileIdeal.main_arg3) = m ((c.tc : Thread Cert.AdamTileIdeal.nD Cert.AdamTileIdeal.τ).loc Cert.AdamTileIdeal.main_arg3)
      ∧ r.2.mem ((c.tc : Thread Cert.AdamTileIdeal.nD Cert.AdamTileIdeal.τ).loc Cert.AdamTileIdeal.main_arg4) = m ((c.tc : Thread Cert.AdamTileIdeal.nD Cert.AdamTileIdeal.τ).loc Cert.AdamTileIdeal.main_arg4)
      ∧ r.2.mem ((c.tc : Thread Cert.AdamTileIdeal.nD Cert.AdamTileIdeal.τ).loc Cert.AdamTileIdeal.main_arg5) = m ((c.tc : Thread Cert.AdamTileIdeal.nD Cert.AdamTileIdeal.τ).loc Cert.AdamTileIdeal.main_arg5))
      ∧ r.2.sem = fun _ => 0)

def quiescent_AdamTileRefIdeal [hAdamTileRefIdeal : Cert.AdamTileRefIdeal.Facts] : Prop :=
  ∀ (m : (ℓ : Loc Cert.AdamTileRefIdeal.nD Cert.AdamTileRefIdeal.τ Cert.AdamTileRefIdeal.sig) → Buf (Elt Ideal) ℓ) (g : Dev Cert.AdamTileRefIdeal.nD → PrngReg), Pre_AdamTileRefIdeal m →
    θ_run (Cert.AdamTileRefIdeal.defs (F := Ideal)) (onTc (τ := Cert.AdamTileRefIdeal.τ) (Cert.AdamTileRefIdeal.main (F := Ideal))) ⟨m, fun _ => 0, g⟩ (fun r => (∀ c : Dev Cert.AdamTileRefIdeal.nD,
      r.2.mem ((c.tc : Thread Cert.AdamTileRefIdeal.nD Cert.AdamTileRefIdeal.τ).loc Cert.AdamTileRefIdeal.main_arg0) = m ((c.tc : Thread Cert.AdamTileRefIdeal.nD Cert.AdamTileRefIdeal.τ).loc Cert.AdamTileRefIdeal.main_arg0)
      ∧ r.2.mem ((c.tc : Thread Cert.AdamTileRefIdeal.nD Cert.AdamTileRefIdeal.τ).loc Cert.AdamTileRefIdeal.main_arg1) = m ((c.tc : Thread Cert.AdamTileRefIdeal.nD Cert.AdamTileRefIdeal.τ).loc Cert.AdamTileRefIdeal.main_arg1)
      ∧ r.2.mem ((c.tc : Thread Cert.AdamTileRefIdeal.nD Cert.AdamTileRefIdeal.τ).loc Cert.AdamTileRefIdeal.main_arg2) = m ((c.tc : Thread Cert.AdamTileRefIdeal.nD Cert.AdamTileRefIdeal.τ).loc Cert.AdamTileRefIdeal.main_arg2)
      ∧ r.2.mem ((c.tc : Thread Cert.AdamTileRefIdeal.nD Cert.AdamTileRefIdeal.τ).loc Cert.AdamTileRefIdeal.main_arg3) = m ((c.tc : Thread Cert.AdamTileRefIdeal.nD Cert.AdamTileRefIdeal.τ).loc Cert.AdamTileRefIdeal.main_arg3)
      ∧ r.2.mem ((c.tc : Thread Cert.AdamTileRefIdeal.nD Cert.AdamTileRefIdeal.τ).loc Cert.AdamTileRefIdeal.main_arg4) = m ((c.tc : Thread Cert.AdamTileRefIdeal.nD Cert.AdamTileRefIdeal.τ).loc Cert.AdamTileRefIdeal.main_arg4)
      ∧ r.2.mem ((c.tc : Thread Cert.AdamTileRefIdeal.nD Cert.AdamTileRefIdeal.τ).loc Cert.AdamTileRefIdeal.main_arg5) = m ((c.tc : Thread Cert.AdamTileRefIdeal.nD Cert.AdamTileRefIdeal.τ).loc Cert.AdamTileRefIdeal.main_arg5))
      ∧ r.2.sem = fun _ => 0)

def quiescent_AdamTileRefIdeal_pre_device_index_in [hAdamTileRefIdeal : Cert.AdamTileRefIdeal.Facts] [hPre_device_index_in : Cert.Pre_device_index_in.Facts] : Prop :=
  ∀ (m : (ℓ : Loc Cert.AdamTileRefIdeal.nD Cert.AdamTileRefIdeal.τ Cert.AdamTileRefIdeal.sig) → Buf (Elt Ideal) ℓ) (g : Dev Cert.AdamTileRefIdeal.nD → PrngReg), Pre_AdamTileRefIdeal_device_index_in m →
    θ_run (Cert.AdamTileRefIdeal.defs (F := Ideal)) (onTc (τ := Cert.AdamTileRefIdeal.τ) (Cert.AdamTileRefIdeal.main (F := Ideal))) ⟨m, fun _ => 0, g⟩ (fun r => (∀ c : Dev Cert.AdamTileRefIdeal.nD,
      r.2.mem ((c.tc : Thread Cert.AdamTileRefIdeal.nD Cert.AdamTileRefIdeal.τ).loc Cert.AdamTileRefIdeal.main_arg0) = m ((c.tc : Thread Cert.AdamTileRefIdeal.nD Cert.AdamTileRefIdeal.τ).loc Cert.AdamTileRefIdeal.main_arg0)
      ∧ r.2.mem ((c.tc : Thread Cert.AdamTileRefIdeal.nD Cert.AdamTileRefIdeal.τ).loc Cert.AdamTileRefIdeal.main_arg1) = m ((c.tc : Thread Cert.AdamTileRefIdeal.nD Cert.AdamTileRefIdeal.τ).loc Cert.AdamTileRefIdeal.main_arg1)
      ∧ r.2.mem ((c.tc : Thread Cert.AdamTileRefIdeal.nD Cert.AdamTileRefIdeal.τ).loc Cert.AdamTileRefIdeal.main_arg2) = m ((c.tc : Thread Cert.AdamTileRefIdeal.nD Cert.AdamTileRefIdeal.τ).loc Cert.AdamTileRefIdeal.main_arg2)
      ∧ r.2.mem ((c.tc : Thread Cert.AdamTileRefIdeal.nD Cert.AdamTileRefIdeal.τ).loc Cert.AdamTileRefIdeal.main_arg3) = m ((c.tc : Thread Cert.AdamTileRefIdeal.nD Cert.AdamTileRefIdeal.τ).loc Cert.AdamTileRefIdeal.main_arg3)
      ∧ r.2.mem ((c.tc : Thread Cert.AdamTileRefIdeal.nD Cert.AdamTileRefIdeal.τ).loc Cert.AdamTileRefIdeal.main_arg4) = m ((c.tc : Thread Cert.AdamTileRefIdeal.nD Cert.AdamTileRefIdeal.τ).loc Cert.AdamTileRefIdeal.main_arg4)
      ∧ r.2.mem ((c.tc : Thread Cert.AdamTileRefIdeal.nD Cert.AdamTileRefIdeal.τ).loc Cert.AdamTileRefIdeal.main_arg5) = m ((c.tc : Thread Cert.AdamTileRefIdeal.nD Cert.AdamTileRefIdeal.τ).loc Cert.AdamTileRefIdeal.main_arg5))
      ∧ r.2.sem = fun _ => 0)

def preserves_BwdIn_BwdInIdeal : Prop :=
  True

def algebraic_BwdInIdeal_BwdInRefIdeal_pre_finite_in [hBwdInIdeal : Cert.BwdInIdeal.Facts] [hBwdInRefIdeal : Cert.BwdInRefIdeal.Facts] [hPre_finite_in : Cert.Pre_finite_in.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal_finite_in m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)
      ∧ m' ((c.tc : Thread Cert.BwdInRefIdeal.nD Cert.BwdInRefIdeal.τ).loc Cert.BwdInRefIdeal.main_arg5) = m ((c.tc : Thread Cert.BwdInIdeal.nD Cert.BwdInIdeal.τ).loc Cert.BwdInIdeal.main_arg5)
      ∧ m' ((c.tc : Thread Cert.BwdInRefIdeal.nD Cert.BwdInRefIdeal.τ).loc Cert.BwdInRefIdeal.main_arg6) = m ((c.tc : Thread Cert.BwdInIdeal.nD Cert.BwdInIdeal.τ).loc Cert.BwdInIdeal.main_arg6)) →
    ∃ (v0 : (c : Dev Cert.BwdInIdeal.nD) → Buf (Elt Ideal) ((c.tc : Thread Cert.BwdInIdeal.nD Cert.BwdInIdeal.τ).loc Cert.BwdInIdeal.main_v9_0)) (v1 : (c : Dev Cert.BwdInIdeal.nD) → Buf (Elt Ideal) ((c.tc : Thread Cert.BwdInIdeal.nD Cert.BwdInIdeal.τ).loc Cert.BwdInIdeal.main_v9_1)) (v2 : (c : Dev Cert.BwdInIdeal.nD) → Buf (Elt Ideal) ((c.tc : Thread Cert.BwdInIdeal.nD Cert.BwdInIdeal.τ).loc Cert.BwdInIdeal.main_v9_2)) (v3 : (c : Dev Cert.BwdInIdeal.nD) → Buf (Elt Ideal) ((c.tc : Thread Cert.BwdInIdeal.nD Cert.BwdInIdeal.τ).loc Cert.BwdInIdeal.main_v9_3)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v9_0) = v0 c
          ∧ r.2.mem ((c.tc : Thread Cert.BwdInIdeal.nD Cert.BwdInIdeal.τ).loc Cert.BwdInIdeal.main_v9_1) = v1 c
          ∧ r.2.mem ((c.tc : Thread Cert.BwdInIdeal.nD Cert.BwdInIdeal.τ).loc Cert.BwdInIdeal.main_v9_2) = v2 c
          ∧ r.2.mem ((c.tc : Thread Cert.BwdInIdeal.nD Cert.BwdInIdeal.τ).loc Cert.BwdInIdeal.main_v9_3) = v3 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
          ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
          ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v65) = v0 c
          ∧ r.2.mem ((c.tc : Thread Cert.BwdInRefIdeal.nD Cert.BwdInRefIdeal.τ).loc Cert.BwdInRefIdeal.main_v34) = v1 c
          ∧ r.2.mem ((c.tc : Thread Cert.BwdInRefIdeal.nD Cert.BwdInRefIdeal.τ).loc Cert.BwdInRefIdeal.main_v41) = v2 c
          ∧ r.2.mem ((c.tc : Thread Cert.BwdInRefIdeal.nD Cert.BwdInRefIdeal.τ).loc Cert.BwdInRefIdeal.main_v64) = v3 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4)
          ∧ r.2.mem ((c.tc : Thread Cert.BwdInRefIdeal.nD Cert.BwdInRefIdeal.τ).loc Cert.BwdInRefIdeal.main_arg5) = m' ((c.tc : Thread Cert.BwdInRefIdeal.nD Cert.BwdInRefIdeal.τ).loc Cert.BwdInRefIdeal.main_arg5)
          ∧ r.2.mem ((c.tc : Thread Cert.BwdInRefIdeal.nD Cert.BwdInRefIdeal.τ).loc Cert.BwdInRefIdeal.main_arg6) = m' ((c.tc : Thread Cert.BwdInRefIdeal.nD Cert.BwdInRefIdeal.τ).loc Cert.BwdInRefIdeal.main_arg6))

def preserves_OutBwd_OutBwdIdeal : Prop :=
  True

def algebraic_OutBwdIdeal_OutBwdRefIdeal_pre_finite_out [hOutBwdIdeal : Cert.OutBwdIdeal.Facts] [hOutBwdRefIdeal : Cert.OutBwdRefIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_finite_out m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)) →
    ∃ (v0 : (c : Dev Cert.OutBwdIdeal.nD) → Buf (Elt Ideal) ((c.tc : Thread Cert.OutBwdIdeal.nD Cert.OutBwdIdeal.τ).loc Cert.OutBwdIdeal.main_v7_0)) (v1 : (c : Dev Cert.OutBwdIdeal.nD) → Buf (Elt Ideal) ((c.tc : Thread Cert.OutBwdIdeal.nD Cert.OutBwdIdeal.τ).loc Cert.OutBwdIdeal.main_v7_1)) (v2 : (c : Dev Cert.OutBwdIdeal.nD) → Buf (Elt Ideal) ((c.tc : Thread Cert.OutBwdIdeal.nD Cert.OutBwdIdeal.τ).loc Cert.OutBwdIdeal.main_v7_2)) (v3 : (c : Dev Cert.OutBwdIdeal.nD) → Buf (Elt Ideal) ((c.tc : Thread Cert.OutBwdIdeal.nD Cert.OutBwdIdeal.τ).loc Cert.OutBwdIdeal.main_v7_3)) (v4 : (c : Dev Cert.OutBwdIdeal.nD) → Buf (Elt Ideal) ((c.tc : Thread Cert.OutBwdIdeal.nD Cert.OutBwdIdeal.τ).loc Cert.OutBwdIdeal.main_v7_4)) (v5 : (c : Dev Cert.OutBwdIdeal.nD) → Buf (Elt Ideal) ((c.tc : Thread Cert.OutBwdIdeal.nD Cert.OutBwdIdeal.τ).loc Cert.OutBwdIdeal.main_v7_5)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v7_0) = v0 c
          ∧ r.2.mem ((c.tc : Thread Cert.OutBwdIdeal.nD Cert.OutBwdIdeal.τ).loc Cert.OutBwdIdeal.main_v7_1) = v1 c
          ∧ r.2.mem ((c.tc : Thread Cert.OutBwdIdeal.nD Cert.OutBwdIdeal.τ).loc Cert.OutBwdIdeal.main_v7_2) = v2 c
          ∧ r.2.mem ((c.tc : Thread Cert.OutBwdIdeal.nD Cert.OutBwdIdeal.τ).loc Cert.OutBwdIdeal.main_v7_3) = v3 c
          ∧ r.2.mem ((c.tc : Thread Cert.OutBwdIdeal.nD Cert.OutBwdIdeal.τ).loc Cert.OutBwdIdeal.main_v7_4) = v4 c
          ∧ r.2.mem ((c.tc : Thread Cert.OutBwdIdeal.nD Cert.OutBwdIdeal.τ).loc Cert.OutBwdIdeal.main_v7_5) = v5 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v69) = v0 c
          ∧ r.2.mem ((c.tc : Thread Cert.OutBwdRefIdeal.nD Cert.OutBwdRefIdeal.τ).loc Cert.OutBwdRefIdeal.main_v70) = v1 c
          ∧ r.2.mem ((c.tc : Thread Cert.OutBwdRefIdeal.nD Cert.OutBwdRefIdeal.τ).loc Cert.OutBwdRefIdeal.main_v72) = v2 c
          ∧ r.2.mem ((c.tc : Thread Cert.OutBwdRefIdeal.nD Cert.OutBwdRefIdeal.τ).loc Cert.OutBwdRefIdeal.main_v68) = v3 c
          ∧ r.2.mem ((c.tc : Thread Cert.OutBwdRefIdeal.nD Cert.OutBwdRefIdeal.τ).loc Cert.OutBwdRefIdeal.main_v73) = v4 c
          ∧ r.2.mem ((c.tc : Thread Cert.OutBwdRefIdeal.nD Cert.OutBwdRefIdeal.τ).loc Cert.OutBwdRefIdeal.main_v74) = v5 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5))

def preserves_MixBwd_MixBwdIdeal : Prop :=
  True

def algebraic_MixBwdIdeal_MixBwdRefIdeal_on_pool_columns_pre_finite_mix [hMixBwdIdeal : Cert.MixBwdIdeal.Facts] [hMixBwdRefIdeal : Cert.MixBwdRefIdeal.Facts] [hPre_finite_mix : Cert.Pre_finite_mix.Facts] [hOn_pool_columns : Cert.On_pool_columns.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_finite_mix m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)
      ∧ m' ((c.tc : Thread Cert.MixBwdRefIdeal.nD Cert.MixBwdRefIdeal.τ).loc Cert.MixBwdRefIdeal.main_arg7) = m ((c.tc : Thread Cert.MixBwdIdeal.nD Cert.MixBwdIdeal.τ).loc Cert.MixBwdIdeal.main_arg7)
      ∧ m' ((c.tc : Thread Cert.MixBwdRefIdeal.nD Cert.MixBwdRefIdeal.τ).loc Cert.MixBwdRefIdeal.main_arg8) = m ((c.tc : Thread Cert.MixBwdIdeal.nD Cert.MixBwdIdeal.τ).loc Cert.MixBwdIdeal.main_arg8)
      ∧ m' ((c.tc : Thread Cert.MixBwdRefIdeal.nD Cert.MixBwdRefIdeal.τ).loc Cert.MixBwdRefIdeal.main_arg9) = m ((c.tc : Thread Cert.MixBwdIdeal.nD Cert.MixBwdIdeal.τ).loc Cert.MixBwdIdeal.main_arg9)
      ∧ m' ((c.tc : Thread Cert.MixBwdRefIdeal.nD Cert.MixBwdRefIdeal.τ).loc Cert.MixBwdRefIdeal.main_arg10) = m ((c.tc : Thread Cert.MixBwdIdeal.nD Cert.MixBwdIdeal.τ).loc Cert.MixBwdIdeal.main_arg10)) →
    ∃ (v0 : (c : Dev Cert.MixBwdIdeal.nD) → Buf (Elt Ideal) ((c.tc : Thread Cert.MixBwdIdeal.nD Cert.MixBwdIdeal.τ).loc Cert.MixBwdIdeal.main_v114_0)) (v1 : (c : Dev Cert.MixBwdIdeal.nD) → Buf (Elt Ideal) ((c.tc : Thread Cert.MixBwdIdeal.nD Cert.MixBwdIdeal.τ).loc Cert.MixBwdIdeal.main_v114_3)) (v2 : (c : Dev Cert.MixBwdIdeal.nD) → Buf (Elt Ideal) ((c.tc : Thread Cert.MixBwdIdeal.nD Cert.MixBwdIdeal.τ).loc Cert.MixBwdIdeal.main_v114_4)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          (∀ i : (⟨2, ![8192, 3840]⟩ : Shape).Idx, (Cert.On_pool_columns.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).1 i = 1#1 → r.2.mem ((c.tc : Thread Cert.MixBwdIdeal.nD Cert.MixBwdIdeal.τ).loc Cert.MixBwdIdeal.main_v114_0) i = v0 c i)
          ∧ (∀ i : (⟨3, ![4, 128, 128]⟩ : Shape).Idx, (Cert.On_pool_columns.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.1 i = 1#1 → r.2.mem ((c.tc : Thread Cert.MixBwdIdeal.nD Cert.MixBwdIdeal.τ).loc Cert.MixBwdIdeal.main_v114_3) i = v1 c i)
          ∧ (∀ i : (⟨2, ![1, 512]⟩ : Shape).Idx, (Cert.On_pool_columns.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.2 i = 1#1 → r.2.mem ((c.tc : Thread Cert.MixBwdIdeal.nD Cert.MixBwdIdeal.τ).loc Cert.MixBwdIdeal.main_v114_4) i = v2 c i)
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
          ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          (∀ i : (⟨2, ![8192, 3840]⟩ : Shape).Idx, (Cert.On_pool_columns.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).1 i = 1#1 → r.2.mem ((c.tc : Thread Cert.MixBwdRefIdeal.nD Cert.MixBwdRefIdeal.τ).loc Cert.MixBwdRefIdeal.main_v169) i = v0 c i)
          ∧ (∀ i : (⟨3, ![4, 128, 128]⟩ : Shape).Idx, (Cert.On_pool_columns.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.1 i = 1#1 → r.2.mem ((c.tc : Thread Cert.MixBwdRefIdeal.nD Cert.MixBwdRefIdeal.τ).loc Cert.MixBwdRefIdeal.main_v170) i = v1 c i)
          ∧ (∀ i : (⟨2, ![1, 512]⟩ : Shape).Idx, (Cert.On_pool_columns.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.2 i = 1#1 → r.2.mem ((c.tc : Thread Cert.MixBwdRefIdeal.nD Cert.MixBwdRefIdeal.τ).loc Cert.MixBwdRefIdeal.main_v163) i = v2 c i)
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6)
          ∧ r.2.mem ((c.tc : Thread Cert.MixBwdRefIdeal.nD Cert.MixBwdRefIdeal.τ).loc Cert.MixBwdRefIdeal.main_arg7) = m' ((c.tc : Thread Cert.MixBwdRefIdeal.nD Cert.MixBwdRefIdeal.τ).loc Cert.MixBwdRefIdeal.main_arg7)
          ∧ r.2.mem ((c.tc : Thread Cert.MixBwdRefIdeal.nD Cert.MixBwdRefIdeal.τ).loc Cert.MixBwdRefIdeal.main_arg8) = m' ((c.tc : Thread Cert.MixBwdRefIdeal.nD Cert.MixBwdRefIdeal.τ).loc Cert.MixBwdRefIdeal.main_arg8)
          ∧ r.2.mem ((c.tc : Thread Cert.MixBwdRefIdeal.nD Cert.MixBwdRefIdeal.τ).loc Cert.MixBwdRefIdeal.main_arg9) = m' ((c.tc : Thread Cert.MixBwdRefIdeal.nD Cert.MixBwdRefIdeal.τ).loc Cert.MixBwdRefIdeal.main_arg9)
          ∧ r.2.mem ((c.tc : Thread Cert.MixBwdRefIdeal.nD Cert.MixBwdRefIdeal.τ).loc Cert.MixBwdRefIdeal.main_arg10) = m' ((c.tc : Thread Cert.MixBwdRefIdeal.nD Cert.MixBwdRefIdeal.τ).loc Cert.MixBwdRefIdeal.main_arg10))

def preserves_FwdProj_FwdProjIdeal : Prop :=
  True

def algebraic_FwdProjIdeal_FwdProjRefIdeal [hFwdProjIdeal : Cert.FwdProjIdeal.Facts] [hFwdProjRefIdeal : Cert.FwdProjRefIdeal.Facts] : Prop :=
  ∀ (m : (ℓ : Loc Cert.FwdProjIdeal.nD Cert.FwdProjIdeal.τ Cert.FwdProjIdeal.sig) → Buf (Elt Ideal) ℓ) (g : Dev Cert.FwdProjIdeal.nD → PrngReg)
    (m' : (ℓ : Loc Cert.FwdProjRefIdeal.nD Cert.FwdProjRefIdeal.τ Cert.FwdProjRefIdeal.sig) → Buf (Elt Ideal) ℓ) (g' : Dev Cert.FwdProjRefIdeal.nD → PrngReg), Pre_FwdProjIdeal m →
    (∀ c : Dev Cert.FwdProjIdeal.nD,
      m' ((c.tc : Thread Cert.FwdProjRefIdeal.nD Cert.FwdProjRefIdeal.τ).loc Cert.FwdProjRefIdeal.main_arg0) = m ((c.tc : Thread Cert.FwdProjIdeal.nD Cert.FwdProjIdeal.τ).loc Cert.FwdProjIdeal.main_arg0)
      ∧ m' ((c.tc : Thread Cert.FwdProjRefIdeal.nD Cert.FwdProjRefIdeal.τ).loc Cert.FwdProjRefIdeal.main_arg1) = m ((c.tc : Thread Cert.FwdProjIdeal.nD Cert.FwdProjIdeal.τ).loc Cert.FwdProjIdeal.main_arg1)
      ∧ m' ((c.tc : Thread Cert.FwdProjRefIdeal.nD Cert.FwdProjRefIdeal.τ).loc Cert.FwdProjRefIdeal.main_arg2) = m ((c.tc : Thread Cert.FwdProjIdeal.nD Cert.FwdProjIdeal.τ).loc Cert.FwdProjIdeal.main_arg2)
      ∧ m' ((c.tc : Thread Cert.FwdProjRefIdeal.nD Cert.FwdProjRefIdeal.τ).loc Cert.FwdProjRefIdeal.main_arg3) = m ((c.tc : Thread Cert.FwdProjIdeal.nD Cert.FwdProjIdeal.τ).loc Cert.FwdProjIdeal.main_arg3)
      ∧ m' ((c.tc : Thread Cert.FwdProjRefIdeal.nD Cert.FwdProjRefIdeal.τ).loc Cert.FwdProjRefIdeal.main_arg4) = m ((c.tc : Thread Cert.FwdProjIdeal.nD Cert.FwdProjIdeal.τ).loc Cert.FwdProjIdeal.main_arg4)) →
    ∃ (v0 : (c : Dev Cert.FwdProjIdeal.nD) → Buf (Elt Ideal) ((c.tc : Thread Cert.FwdProjIdeal.nD Cert.FwdProjIdeal.τ).loc Cert.FwdProjIdeal.main_v5_0)) (v1 : (c : Dev Cert.FwdProjIdeal.nD) → Buf (Elt Ideal) ((c.tc : Thread Cert.FwdProjIdeal.nD Cert.FwdProjIdeal.τ).loc Cert.FwdProjIdeal.main_v5_1)) (v2 : (c : Dev Cert.FwdProjIdeal.nD) → Buf (Elt Ideal) ((c.tc : Thread Cert.FwdProjIdeal.nD Cert.FwdProjIdeal.τ).loc Cert.FwdProjIdeal.main_v5_2)),
      θ_run (Cert.FwdProjIdeal.defs (F := Ideal)) (onTc (τ := Cert.FwdProjIdeal.τ) (Cert.FwdProjIdeal.main (F := Ideal))) ⟨m, fun _ => 0, g⟩ (fun r => ∀ c : Dev Cert.FwdProjIdeal.nD,
          r.2.mem ((c.tc : Thread Cert.FwdProjIdeal.nD Cert.FwdProjIdeal.τ).loc Cert.FwdProjIdeal.main_v5_0) = v0 c
          ∧ r.2.mem ((c.tc : Thread Cert.FwdProjIdeal.nD Cert.FwdProjIdeal.τ).loc Cert.FwdProjIdeal.main_v5_1) = v1 c
          ∧ r.2.mem ((c.tc : Thread Cert.FwdProjIdeal.nD Cert.FwdProjIdeal.τ).loc Cert.FwdProjIdeal.main_v5_2) = v2 c
          ∧ r.2.mem ((c.tc : Thread Cert.FwdProjIdeal.nD Cert.FwdProjIdeal.τ).loc Cert.FwdProjIdeal.main_arg0) = m ((c.tc : Thread Cert.FwdProjIdeal.nD Cert.FwdProjIdeal.τ).loc Cert.FwdProjIdeal.main_arg0)
          ∧ r.2.mem ((c.tc : Thread Cert.FwdProjIdeal.nD Cert.FwdProjIdeal.τ).loc Cert.FwdProjIdeal.main_arg1) = m ((c.tc : Thread Cert.FwdProjIdeal.nD Cert.FwdProjIdeal.τ).loc Cert.FwdProjIdeal.main_arg1)
          ∧ r.2.mem ((c.tc : Thread Cert.FwdProjIdeal.nD Cert.FwdProjIdeal.τ).loc Cert.FwdProjIdeal.main_arg2) = m ((c.tc : Thread Cert.FwdProjIdeal.nD Cert.FwdProjIdeal.τ).loc Cert.FwdProjIdeal.main_arg2)
          ∧ r.2.mem ((c.tc : Thread Cert.FwdProjIdeal.nD Cert.FwdProjIdeal.τ).loc Cert.FwdProjIdeal.main_arg3) = m ((c.tc : Thread Cert.FwdProjIdeal.nD Cert.FwdProjIdeal.τ).loc Cert.FwdProjIdeal.main_arg3)
          ∧ r.2.mem ((c.tc : Thread Cert.FwdProjIdeal.nD Cert.FwdProjIdeal.τ).loc Cert.FwdProjIdeal.main_arg4) = m ((c.tc : Thread Cert.FwdProjIdeal.nD Cert.FwdProjIdeal.τ).loc Cert.FwdProjIdeal.main_arg4))
      ∧ θ_run (Cert.FwdProjRefIdeal.defs (F := Ideal)) (onTc (τ := Cert.FwdProjRefIdeal.τ) (Cert.FwdProjRefIdeal.main (F := Ideal))) ⟨m', fun _ => 0, g'⟩ (fun r => ∀ c : Dev Cert.FwdProjRefIdeal.nD,
          r.2.mem ((c.tc : Thread Cert.FwdProjRefIdeal.nD Cert.FwdProjRefIdeal.τ).loc Cert.FwdProjRefIdeal.main_v25) = v0 c
          ∧ r.2.mem ((c.tc : Thread Cert.FwdProjRefIdeal.nD Cert.FwdProjRefIdeal.τ).loc Cert.FwdProjRefIdeal.main_v27) = v1 c
          ∧ r.2.mem ((c.tc : Thread Cert.FwdProjRefIdeal.nD Cert.FwdProjRefIdeal.τ).loc Cert.FwdProjRefIdeal.main_v29) = v2 c
          ∧ r.2.mem ((c.tc : Thread Cert.FwdProjRefIdeal.nD Cert.FwdProjRefIdeal.τ).loc Cert.FwdProjRefIdeal.main_arg0) = m' ((c.tc : Thread Cert.FwdProjRefIdeal.nD Cert.FwdProjRefIdeal.τ).loc Cert.FwdProjRefIdeal.main_arg0)
          ∧ r.2.mem ((c.tc : Thread Cert.FwdProjRefIdeal.nD Cert.FwdProjRefIdeal.τ).loc Cert.FwdProjRefIdeal.main_arg1) = m' ((c.tc : Thread Cert.FwdProjRefIdeal.nD Cert.FwdProjRefIdeal.τ).loc Cert.FwdProjRefIdeal.main_arg1)
          ∧ r.2.mem ((c.tc : Thread Cert.FwdProjRefIdeal.nD Cert.FwdProjRefIdeal.τ).loc Cert.FwdProjRefIdeal.main_arg2) = m' ((c.tc : Thread Cert.FwdProjRefIdeal.nD Cert.FwdProjRefIdeal.τ).loc Cert.FwdProjRefIdeal.main_arg2)
          ∧ r.2.mem ((c.tc : Thread Cert.FwdProjRefIdeal.nD Cert.FwdProjRefIdeal.τ).loc Cert.FwdProjRefIdeal.main_arg3) = m' ((c.tc : Thread Cert.FwdProjRefIdeal.nD Cert.FwdProjRefIdeal.τ).loc Cert.FwdProjRefIdeal.main_arg3)
          ∧ r.2.mem ((c.tc : Thread Cert.FwdProjRefIdeal.nD Cert.FwdProjRefIdeal.τ).loc Cert.FwdProjRefIdeal.main_arg4) = m' ((c.tc : Thread Cert.FwdProjRefIdeal.nD Cert.FwdProjRefIdeal.τ).loc Cert.FwdProjRefIdeal.main_arg4))

def preserves_MixFwd_MixFwdIdeal : Prop :=
  True

def algebraic_MixFwdIdeal_MixFwdRefIdeal_on_pool_half_pre_finite_tokens [hMixFwdIdeal : Cert.MixFwdIdeal.Facts] [hMixFwdRefIdeal : Cert.MixFwdRefIdeal.Facts] [hPre_finite_tokens : Cert.Pre_finite_tokens.Facts] [hOn_pool_half : Cert.On_pool_half.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal_finite_tokens m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)) →
    ∃ (v0 : (c : Dev Cert.MixFwdIdeal.nD) → Buf (Elt Ideal) ((c.tc : Thread Cert.MixFwdIdeal.nD Cert.MixFwdIdeal.τ).loc Cert.MixFwdIdeal.main_v8_0)) (v1 : (c : Dev Cert.MixFwdIdeal.nD) → Buf (Elt Ideal) ((c.tc : Thread Cert.MixFwdIdeal.nD Cert.MixFwdIdeal.τ).loc Cert.MixFwdIdeal.main_v8_4)) (v2 : (c : Dev Cert.MixFwdIdeal.nD) → Buf (Elt Ideal) ((c.tc : Thread Cert.MixFwdIdeal.nD Cert.MixFwdIdeal.τ).loc Cert.MixFwdIdeal.main_v8_5)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          (∀ i : (⟨2, ![8192, 1024]⟩ : Shape).Idx, (Cert.On_pool_half.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6))).1 i = 1#1 → r.2.mem ((c.tc : Thread Cert.MixFwdIdeal.nD Cert.MixFwdIdeal.τ).loc Cert.MixFwdIdeal.main_v8_0) i = v0 c i)
          ∧ (∀ i : (⟨2, ![8192, 1024]⟩ : Shape).Idx, (Cert.On_pool_half.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6))).2.1 i = 1#1 → r.2.mem ((c.tc : Thread Cert.MixFwdIdeal.nD Cert.MixFwdIdeal.τ).loc Cert.MixFwdIdeal.main_v8_4) i = v1 c i)
          ∧ (∀ i : (⟨2, ![8192, 512]⟩ : Shape).Idx, (Cert.On_pool_half.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6))).2.2 i = 1#1 → r.2.mem ((c.tc : Thread Cert.MixFwdIdeal.nD Cert.MixFwdIdeal.τ).loc Cert.MixFwdIdeal.main_v8_5) i = v2 c i)
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          (∀ i : (⟨2, ![8192, 1024]⟩ : Shape).Idx, (Cert.On_pool_half.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6))).1 i = 1#1 → r.2.mem ((c.tc : Thread Cert.MixFwdRefIdeal.nD Cert.MixFwdRefIdeal.τ).loc Cert.MixFwdRefIdeal.main_v115) i = v0 c i)
          ∧ (∀ i : (⟨2, ![8192, 1024]⟩ : Shape).Idx, (Cert.On_pool_half.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6))).2.1 i = 1#1 → r.2.mem ((c.tc : Thread Cert.MixFwdRefIdeal.nD Cert.MixFwdRefIdeal.τ).loc Cert.MixFwdRefIdeal.main_v116) i = v1 c i)
          ∧ (∀ i : (⟨2, ![8192, 512]⟩ : Shape).Idx, (Cert.On_pool_half.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6))).2.2 i = 1#1 → r.2.mem ((c.tc : Thread Cert.MixFwdRefIdeal.nD Cert.MixFwdRefIdeal.τ).loc Cert.MixFwdRefIdeal.main_v184) i = v2 c i)
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)
      ∧ m' ((c.tc : Thread Cert.DwInRefIdeal.nD Cert.DwInRefIdeal.τ).loc Cert.DwInRefIdeal.main_arg5) = m ((c.tc : Thread Cert.DwInIdeal.nD Cert.DwInIdeal.τ).loc Cert.DwInIdeal.main_arg5)) →
    ∃ (v0 : (c : Dev Cert.DwInIdeal.nD) → Buf (Elt Ideal) ((c.tc : Thread Cert.DwInIdeal.nD Cert.DwInIdeal.τ).loc Cert.DwInIdeal.main_v27)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v27) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
          ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v30) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4)
          ∧ r.2.mem ((c.tc : Thread Cert.DwInRefIdeal.nD Cert.DwInRefIdeal.τ).loc Cert.DwInRefIdeal.main_arg5) = m' ((c.tc : Thread Cert.DwInRefIdeal.nD Cert.DwInRefIdeal.τ).loc Cert.DwInRefIdeal.main_arg5))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v13_0)) (v1 : (c : Dev Cert.AdamAdaIdeal.nD) → Buf (Elt Ideal) ((c.tc : Thread Cert.AdamAdaIdeal.nD Cert.AdamAdaIdeal.τ).loc Cert.AdamAdaIdeal.main_v13_1)) (v2 : (c : Dev Cert.AdamAdaIdeal.nD) → Buf (Elt Ideal) ((c.tc : Thread Cert.AdamAdaIdeal.nD Cert.AdamAdaIdeal.τ).loc Cert.AdamAdaIdeal.main_v13_2)) (v3 : (c : Dev Cert.AdamAdaIdeal.nD) → Buf (Elt Ideal) ((c.tc : Thread Cert.AdamAdaIdeal.nD Cert.AdamAdaIdeal.τ).loc Cert.AdamAdaIdeal.main_v13_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v13_0) = v0 c
          ∧ r.2.mem ((c.tc : Thread Cert.AdamAdaIdeal.nD Cert.AdamAdaIdeal.τ).loc Cert.AdamAdaIdeal.main_v13_1) = v1 c
          ∧ r.2.mem ((c.tc : Thread Cert.AdamAdaIdeal.nD Cert.AdamAdaIdeal.τ).loc Cert.AdamAdaIdeal.main_v13_2) = v2 c
          ∧ r.2.mem ((c.tc : Thread Cert.AdamAdaIdeal.nD Cert.AdamAdaIdeal.τ).loc Cert.AdamAdaIdeal.main_v13_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v6) = v0 c
          ∧ r.2.mem ((c.tc : Thread Cert.AdamAdaRefIdeal.nD Cert.AdamAdaRefIdeal.τ).loc Cert.AdamAdaRefIdeal.main_v31) = v1 c
          ∧ r.2.mem ((c.tc : Thread Cert.AdamAdaRefIdeal.nD Cert.AdamAdaRefIdeal.τ).loc Cert.AdamAdaRefIdeal.main_v32) = v2 c
          ∧ r.2.mem ((c.tc : Thread Cert.AdamAdaRefIdeal.nD Cert.AdamAdaRefIdeal.τ).loc Cert.AdamAdaRefIdeal.main_v33) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4))

def preserves_AdamSum_AdamSumIdeal : Prop :=
  True

def algebraic_AdamSumIdeal_AdamSumRefIdeal [hAdamSumIdeal : Cert.AdamSumIdeal.Facts] [hAdamSumRefIdeal : Cert.AdamSumRefIdeal.Facts] : Prop :=
  ∀ (m : (ℓ : Loc Cert.AdamSumIdeal.nD Cert.AdamSumIdeal.τ Cert.AdamSumIdeal.sig) → Buf (Elt Ideal) ℓ) (g : Dev Cert.AdamSumIdeal.nD → PrngReg)
    (m' : (ℓ : Loc Cert.AdamSumRefIdeal.nD Cert.AdamSumRefIdeal.τ Cert.AdamSumRefIdeal.sig) → Buf (Elt Ideal) ℓ) (g' : Dev Cert.AdamSumRefIdeal.nD → PrngReg), Pre_AdamSumIdeal m →
    (∀ c : Dev Cert.AdamSumIdeal.nD,
      m' ((c.tc : Thread Cert.AdamSumRefIdeal.nD Cert.AdamSumRefIdeal.τ).loc Cert.AdamSumRefIdeal.main_arg0) = m ((c.tc : Thread Cert.AdamSumIdeal.nD Cert.AdamSumIdeal.τ).loc Cert.AdamSumIdeal.main_arg0)
      ∧ m' ((c.tc : Thread Cert.AdamSumRefIdeal.nD Cert.AdamSumRefIdeal.τ).loc Cert.AdamSumRefIdeal.main_arg1) = m ((c.tc : Thread Cert.AdamSumIdeal.nD Cert.AdamSumIdeal.τ).loc Cert.AdamSumIdeal.main_arg1)
      ∧ m' ((c.tc : Thread Cert.AdamSumRefIdeal.nD Cert.AdamSumRefIdeal.τ).loc Cert.AdamSumRefIdeal.main_arg2) = m ((c.tc : Thread Cert.AdamSumIdeal.nD Cert.AdamSumIdeal.τ).loc Cert.AdamSumIdeal.main_arg2)
      ∧ m' ((c.tc : Thread Cert.AdamSumRefIdeal.nD Cert.AdamSumRefIdeal.τ).loc Cert.AdamSumRefIdeal.main_arg3) = m ((c.tc : Thread Cert.AdamSumIdeal.nD Cert.AdamSumIdeal.τ).loc Cert.AdamSumIdeal.main_arg3)) →
    ∃ (v0 : (c : Dev Cert.AdamSumIdeal.nD) → Buf (Elt Ideal) ((c.tc : Thread Cert.AdamSumIdeal.nD Cert.AdamSumIdeal.τ).loc Cert.AdamSumIdeal.main_v3_0)) (v1 : (c : Dev Cert.AdamSumIdeal.nD) → Buf (Elt Ideal) ((c.tc : Thread Cert.AdamSumIdeal.nD Cert.AdamSumIdeal.τ).loc Cert.AdamSumIdeal.main_v3_1)) (v2 : (c : Dev Cert.AdamSumIdeal.nD) → Buf (Elt Ideal) ((c.tc : Thread Cert.AdamSumIdeal.nD Cert.AdamSumIdeal.τ).loc Cert.AdamSumIdeal.main_v3_2)) (v3 : (c : Dev Cert.AdamSumIdeal.nD) → Buf (Elt Ideal) ((c.tc : Thread Cert.AdamSumIdeal.nD Cert.AdamSumIdeal.τ).loc Cert.AdamSumIdeal.main_v3_3)),
      θ_run (Cert.AdamSumIdeal.defs (F := Ideal)) (onTc (τ := Cert.AdamSumIdeal.τ) (Cert.AdamSumIdeal.main (F := Ideal))) ⟨m, fun _ => 0, g⟩ (fun r => ∀ c : Dev Cert.AdamSumIdeal.nD,
          r.2.mem ((c.tc : Thread Cert.AdamSumIdeal.nD Cert.AdamSumIdeal.τ).loc Cert.AdamSumIdeal.main_v3_0) = v0 c
          ∧ r.2.mem ((c.tc : Thread Cert.AdamSumIdeal.nD Cert.AdamSumIdeal.τ).loc Cert.AdamSumIdeal.main_v3_1) = v1 c
          ∧ r.2.mem ((c.tc : Thread Cert.AdamSumIdeal.nD Cert.AdamSumIdeal.τ).loc Cert.AdamSumIdeal.main_v3_2) = v2 c
          ∧ r.2.mem ((c.tc : Thread Cert.AdamSumIdeal.nD Cert.AdamSumIdeal.τ).loc Cert.AdamSumIdeal.main_v3_3) = v3 c
          ∧ r.2.mem ((c.tc : Thread Cert.AdamSumIdeal.nD Cert.AdamSumIdeal.τ).loc Cert.AdamSumIdeal.main_arg0) = m ((c.tc : Thread Cert.AdamSumIdeal.nD Cert.AdamSumIdeal.τ).loc Cert.AdamSumIdeal.main_arg0)
          ∧ r.2.mem ((c.tc : Thread Cert.AdamSumIdeal.nD Cert.AdamSumIdeal.τ).loc Cert.AdamSumIdeal.main_arg1) = m ((c.tc : Thread Cert.AdamSumIdeal.nD Cert.AdamSumIdeal.τ).loc Cert.AdamSumIdeal.main_arg1)
          ∧ r.2.mem ((c.tc : Thread Cert.AdamSumIdeal.nD Cert.AdamSumIdeal.τ).loc Cert.AdamSumIdeal.main_arg2) = m ((c.tc : Thread Cert.AdamSumIdeal.nD Cert.AdamSumIdeal.τ).loc Cert.AdamSumIdeal.main_arg2)
          ∧ r.2.mem ((c.tc : Thread Cert.AdamSumIdeal.nD Cert.AdamSumIdeal.τ).loc Cert.AdamSumIdeal.main_arg3) = m ((c.tc : Thread Cert.AdamSumIdeal.nD Cert.AdamSumIdeal.τ).loc Cert.AdamSumIdeal.main_arg3))
      ∧ θ_run (Cert.AdamSumRefIdeal.defs (F := Ideal)) (onTc (τ := Cert.AdamSumRefIdeal.τ) (Cert.AdamSumRefIdeal.main (F := Ideal))) ⟨m', fun _ => 0, g'⟩ (fun r => ∀ c : Dev Cert.AdamSumRefIdeal.nD,
          r.2.mem ((c.tc : Thread Cert.AdamSumRefIdeal.nD Cert.AdamSumRefIdeal.τ).loc Cert.AdamSumRefIdeal.main_v2) = v0 c
          ∧ r.2.mem ((c.tc : Thread Cert.AdamSumRefIdeal.nD Cert.AdamSumRefIdeal.τ).loc Cert.AdamSumRefIdeal.main_v27) = v1 c
          ∧ r.2.mem ((c.tc : Thread Cert.AdamSumRefIdeal.nD Cert.AdamSumRefIdeal.τ).loc Cert.AdamSumRefIdeal.main_v28) = v2 c
          ∧ r.2.mem ((c.tc : Thread Cert.AdamSumRefIdeal.nD Cert.AdamSumRefIdeal.τ).loc Cert.AdamSumRefIdeal.main_v29) = v3 c
          ∧ r.2.mem ((c.tc : Thread Cert.AdamSumRefIdeal.nD Cert.AdamSumRefIdeal.τ).loc Cert.AdamSumRefIdeal.main_arg0) = m' ((c.tc : Thread Cert.AdamSumRefIdeal.nD Cert.AdamSumRefIdeal.τ).loc Cert.AdamSumRefIdeal.main_arg0)
          ∧ r.2.mem ((c.tc : Thread Cert.AdamSumRefIdeal.nD Cert.AdamSumRefIdeal.τ).loc Cert.AdamSumRefIdeal.main_arg1) = m' ((c.tc : Thread Cert.AdamSumRefIdeal.nD Cert.AdamSumRefIdeal.τ).loc Cert.AdamSumRefIdeal.main_arg1)
          ∧ r.2.mem ((c.tc : Thread Cert.AdamSumRefIdeal.nD Cert.AdamSumRefIdeal.τ).loc Cert.AdamSumRefIdeal.main_arg2) = m' ((c.tc : Thread Cert.AdamSumRefIdeal.nD Cert.AdamSumRefIdeal.τ).loc Cert.AdamSumRefIdeal.main_arg2)
          ∧ r.2.mem ((c.tc : Thread Cert.AdamSumRefIdeal.nD Cert.AdamSumRefIdeal.τ).loc Cert.AdamSumRefIdeal.main_arg3) = m' ((c.tc : Thread Cert.AdamSumRefIdeal.nD Cert.AdamSumRefIdeal.τ).loc Cert.AdamSumRefIdeal.main_arg3))

def preserves_AdamOwn_AdamOwnIdeal : Prop :=
  True

def algebraic_AdamOwnIdeal_AdamOwnRefIdeal [hAdamOwnIdeal : Cert.AdamOwnIdeal.Facts] [hAdamOwnRefIdeal : Cert.AdamOwnRefIdeal.Facts] [hPre_device_index : Cert.Pre_device_index.Facts] : Prop :=
  ∀ (m : (ℓ : Loc Cert.AdamOwnIdeal.nD Cert.AdamOwnIdeal.τ Cert.AdamOwnIdeal.sig) → Buf (Elt Ideal) ℓ) (g : Dev Cert.AdamOwnIdeal.nD → PrngReg)
    (m' : (ℓ : Loc Cert.AdamOwnRefIdeal.nD Cert.AdamOwnRefIdeal.τ Cert.AdamOwnRefIdeal.sig) → Buf (Elt Ideal) ℓ) (g' : Dev Cert.AdamOwnRefIdeal.nD → PrngReg), Pre_AdamOwnIdeal m →
    (∀ c : Dev Cert.AdamOwnIdeal.nD,
      m' ((c.tc : Thread Cert.AdamOwnRefIdeal.nD Cert.AdamOwnRefIdeal.τ).loc Cert.AdamOwnRefIdeal.main_arg0) = m ((c.tc : Thread Cert.AdamOwnIdeal.nD Cert.AdamOwnIdeal.τ).loc Cert.AdamOwnIdeal.main_arg0)
      ∧ m' ((c.tc : Thread Cert.AdamOwnRefIdeal.nD Cert.AdamOwnRefIdeal.τ).loc Cert.AdamOwnRefIdeal.main_arg1) = m ((c.tc : Thread Cert.AdamOwnIdeal.nD Cert.AdamOwnIdeal.τ).loc Cert.AdamOwnIdeal.main_arg1)
      ∧ m' ((c.tc : Thread Cert.AdamOwnRefIdeal.nD Cert.AdamOwnRefIdeal.τ).loc Cert.AdamOwnRefIdeal.main_arg2) = m ((c.tc : Thread Cert.AdamOwnIdeal.nD Cert.AdamOwnIdeal.τ).loc Cert.AdamOwnIdeal.main_arg2)
      ∧ m' ((c.tc : Thread Cert.AdamOwnRefIdeal.nD Cert.AdamOwnRefIdeal.τ).loc Cert.AdamOwnRefIdeal.main_arg3) = m ((c.tc : Thread Cert.AdamOwnIdeal.nD Cert.AdamOwnIdeal.τ).loc Cert.AdamOwnIdeal.main_arg3)
      ∧ m' ((c.tc : Thread Cert.AdamOwnRefIdeal.nD Cert.AdamOwnRefIdeal.τ).loc Cert.AdamOwnRefIdeal.main_arg4) = m ((c.tc : Thread Cert.AdamOwnIdeal.nD Cert.AdamOwnIdeal.τ).loc Cert.AdamOwnIdeal.main_arg4)
      ∧ m' ((c.tc : Thread Cert.AdamOwnRefIdeal.nD Cert.AdamOwnRefIdeal.τ).loc Cert.AdamOwnRefIdeal.main_arg5) = m ((c.tc : Thread Cert.AdamOwnIdeal.nD Cert.AdamOwnIdeal.τ).loc Cert.AdamOwnIdeal.main_arg5)) →
    ∃ (v0 : (c : Dev Cert.AdamOwnIdeal.nD) → Buf (Elt Ideal) ((c.tc : Thread Cert.AdamOwnIdeal.nD Cert.AdamOwnIdeal.τ).loc Cert.AdamOwnIdeal.main_v3_0)) (v1 : (c : Dev Cert.AdamOwnIdeal.nD) → Buf (Elt Ideal) ((c.tc : Thread Cert.AdamOwnIdeal.nD Cert.AdamOwnIdeal.τ).loc Cert.AdamOwnIdeal.main_v3_1)) (v2 : (c : Dev Cert.AdamOwnIdeal.nD) → Buf (Elt Ideal) ((c.tc : Thread Cert.AdamOwnIdeal.nD Cert.AdamOwnIdeal.τ).loc Cert.AdamOwnIdeal.main_v3_2)) (v3 : (c : Dev Cert.AdamOwnIdeal.nD) → Buf (Elt Ideal) ((c.tc : Thread Cert.AdamOwnIdeal.nD Cert.AdamOwnIdeal.τ).loc Cert.AdamOwnIdeal.main_v3_3)),
      θ_run (Cert.AdamOwnIdeal.defs (F := Ideal)) (onTc (τ := Cert.AdamOwnIdeal.τ) (Cert.AdamOwnIdeal.main (F := Ideal))) ⟨m, fun _ => 0, g⟩ (fun r => ∀ c : Dev Cert.AdamOwnIdeal.nD,
          r.2.mem ((c.tc : Thread Cert.AdamOwnIdeal.nD Cert.AdamOwnIdeal.τ).loc Cert.AdamOwnIdeal.main_v3_0) = v0 c
          ∧ r.2.mem ((c.tc : Thread Cert.AdamOwnIdeal.nD Cert.AdamOwnIdeal.τ).loc Cert.AdamOwnIdeal.main_v3_1) = v1 c
          ∧ r.2.mem ((c.tc : Thread Cert.AdamOwnIdeal.nD Cert.AdamOwnIdeal.τ).loc Cert.AdamOwnIdeal.main_v3_2) = v2 c
          ∧ r.2.mem ((c.tc : Thread Cert.AdamOwnIdeal.nD Cert.AdamOwnIdeal.τ).loc Cert.AdamOwnIdeal.main_v3_3) = v3 c
          ∧ r.2.mem ((c.tc : Thread Cert.AdamOwnIdeal.nD Cert.AdamOwnIdeal.τ).loc Cert.AdamOwnIdeal.main_arg0) = m ((c.tc : Thread Cert.AdamOwnIdeal.nD Cert.AdamOwnIdeal.τ).loc Cert.AdamOwnIdeal.main_arg0)
          ∧ r.2.mem ((c.tc : Thread Cert.AdamOwnIdeal.nD Cert.AdamOwnIdeal.τ).loc Cert.AdamOwnIdeal.main_arg1) = m ((c.tc : Thread Cert.AdamOwnIdeal.nD Cert.AdamOwnIdeal.τ).loc Cert.AdamOwnIdeal.main_arg1)
          ∧ r.2.mem ((c.tc : Thread Cert.AdamOwnIdeal.nD Cert.AdamOwnIdeal.τ).loc Cert.AdamOwnIdeal.main_arg2) = m ((c.tc : Thread Cert.AdamOwnIdeal.nD Cert.AdamOwnIdeal.τ).loc Cert.AdamOwnIdeal.main_arg2)
          ∧ r.2.mem ((c.tc : Thread Cert.AdamOwnIdeal.nD Cert.AdamOwnIdeal.τ).loc Cert.AdamOwnIdeal.main_arg3) = m ((c.tc : Thread Cert.AdamOwnIdeal.nD Cert.AdamOwnIdeal.τ).loc Cert.AdamOwnIdeal.main_arg3)
          ∧ r.2.mem ((c.tc : Thread Cert.AdamOwnIdeal.nD Cert.AdamOwnIdeal.τ).loc Cert.AdamOwnIdeal.main_arg4) = m ((c.tc : Thread Cert.AdamOwnIdeal.nD Cert.AdamOwnIdeal.τ).loc Cert.AdamOwnIdeal.main_arg4)
          ∧ r.2.mem ((c.tc : Thread Cert.AdamOwnIdeal.nD Cert.AdamOwnIdeal.τ).loc Cert.AdamOwnIdeal.main_arg5) = m ((c.tc : Thread Cert.AdamOwnIdeal.nD Cert.AdamOwnIdeal.τ).loc Cert.AdamOwnIdeal.main_arg5))
      ∧ θ_run (Cert.AdamOwnRefIdeal.defs (F := Ideal)) (onTc (τ := Cert.AdamOwnRefIdeal.τ) (Cert.AdamOwnRefIdeal.main (F := Ideal))) ⟨m', fun _ => 0, g'⟩ (fun r => ∀ c : Dev Cert.AdamOwnRefIdeal.nD,
          r.2.mem ((c.tc : Thread Cert.AdamOwnRefIdeal.nD Cert.AdamOwnRefIdeal.τ).loc Cert.AdamOwnRefIdeal.main_v9) = v0 c
          ∧ r.2.mem ((c.tc : Thread Cert.AdamOwnRefIdeal.nD Cert.AdamOwnRefIdeal.τ).loc Cert.AdamOwnRefIdeal.main_v34) = v1 c
          ∧ r.2.mem ((c.tc : Thread Cert.AdamOwnRefIdeal.nD Cert.AdamOwnRefIdeal.τ).loc Cert.AdamOwnRefIdeal.main_v35) = v2 c
          ∧ r.2.mem ((c.tc : Thread Cert.AdamOwnRefIdeal.nD Cert.AdamOwnRefIdeal.τ).loc Cert.AdamOwnRefIdeal.main_v36) = v3 c
          ∧ r.2.mem ((c.tc : Thread Cert.AdamOwnRefIdeal.nD Cert.AdamOwnRefIdeal.τ).loc Cert.AdamOwnRefIdeal.main_arg0) = m' ((c.tc : Thread Cert.AdamOwnRefIdeal.nD Cert.AdamOwnRefIdeal.τ).loc Cert.AdamOwnRefIdeal.main_arg0)
          ∧ r.2.mem ((c.tc : Thread Cert.AdamOwnRefIdeal.nD Cert.AdamOwnRefIdeal.τ).loc Cert.AdamOwnRefIdeal.main_arg1) = m' ((c.tc : Thread Cert.AdamOwnRefIdeal.nD Cert.AdamOwnRefIdeal.τ).loc Cert.AdamOwnRefIdeal.main_arg1)
          ∧ r.2.mem ((c.tc : Thread Cert.AdamOwnRefIdeal.nD Cert.AdamOwnRefIdeal.τ).loc Cert.AdamOwnRefIdeal.main_arg2) = m' ((c.tc : Thread Cert.AdamOwnRefIdeal.nD Cert.AdamOwnRefIdeal.τ).loc Cert.AdamOwnRefIdeal.main_arg2)
          ∧ r.2.mem ((c.tc : Thread Cert.AdamOwnRefIdeal.nD Cert.AdamOwnRefIdeal.τ).loc Cert.AdamOwnRefIdeal.main_arg3) = m' ((c.tc : Thread Cert.AdamOwnRefIdeal.nD Cert.AdamOwnRefIdeal.τ).loc Cert.AdamOwnRefIdeal.main_arg3)
          ∧ r.2.mem ((c.tc : Thread Cert.AdamOwnRefIdeal.nD Cert.AdamOwnRefIdeal.τ).loc Cert.AdamOwnRefIdeal.main_arg4) = m' ((c.tc : Thread Cert.AdamOwnRefIdeal.nD Cert.AdamOwnRefIdeal.τ).loc Cert.AdamOwnRefIdeal.main_arg4)
          ∧ r.2.mem ((c.tc : Thread Cert.AdamOwnRefIdeal.nD Cert.AdamOwnRefIdeal.τ).loc Cert.AdamOwnRefIdeal.main_arg5) = m' ((c.tc : Thread Cert.AdamOwnRefIdeal.nD Cert.AdamOwnRefIdeal.τ).loc Cert.AdamOwnRefIdeal.main_arg5))

def preserves_AdamTile_AdamTileIdeal : Prop :=
  True

def algebraic_AdamTileIdeal_AdamTileRefIdeal [hAdamTileIdeal : Cert.AdamTileIdeal.Facts] [hAdamTileRefIdeal : Cert.AdamTileRefIdeal.Facts] [hPre_device_index_in : Cert.Pre_device_index_in.Facts] : Prop :=
  ∀ (m : (ℓ : Loc Cert.AdamTileIdeal.nD Cert.AdamTileIdeal.τ Cert.AdamTileIdeal.sig) → Buf (Elt Ideal) ℓ) (g : Dev Cert.AdamTileIdeal.nD → PrngReg)
    (m' : (ℓ : Loc Cert.AdamTileRefIdeal.nD Cert.AdamTileRefIdeal.τ Cert.AdamTileRefIdeal.sig) → Buf (Elt Ideal) ℓ) (g' : Dev Cert.AdamTileRefIdeal.nD → PrngReg), Pre_AdamTileIdeal m →
    (∀ c : Dev Cert.AdamTileIdeal.nD,
      m' ((c.tc : Thread Cert.AdamTileRefIdeal.nD Cert.AdamTileRefIdeal.τ).loc Cert.AdamTileRefIdeal.main_arg0) = m ((c.tc : Thread Cert.AdamTileIdeal.nD Cert.AdamTileIdeal.τ).loc Cert.AdamTileIdeal.main_arg0)
      ∧ m' ((c.tc : Thread Cert.AdamTileRefIdeal.nD Cert.AdamTileRefIdeal.τ).loc Cert.AdamTileRefIdeal.main_arg1) = m ((c.tc : Thread Cert.AdamTileIdeal.nD Cert.AdamTileIdeal.τ).loc Cert.AdamTileIdeal.main_arg1)
      ∧ m' ((c.tc : Thread Cert.AdamTileRefIdeal.nD Cert.AdamTileRefIdeal.τ).loc Cert.AdamTileRefIdeal.main_arg2) = m ((c.tc : Thread Cert.AdamTileIdeal.nD Cert.AdamTileIdeal.τ).loc Cert.AdamTileIdeal.main_arg2)
      ∧ m' ((c.tc : Thread Cert.AdamTileRefIdeal.nD Cert.AdamTileRefIdeal.τ).loc Cert.AdamTileRefIdeal.main_arg3) = m ((c.tc : Thread Cert.AdamTileIdeal.nD Cert.AdamTileIdeal.τ).loc Cert.AdamTileIdeal.main_arg3)
      ∧ m' ((c.tc : Thread Cert.AdamTileRefIdeal.nD Cert.AdamTileRefIdeal.τ).loc Cert.AdamTileRefIdeal.main_arg4) = m ((c.tc : Thread Cert.AdamTileIdeal.nD Cert.AdamTileIdeal.τ).loc Cert.AdamTileIdeal.main_arg4)
      ∧ m' ((c.tc : Thread Cert.AdamTileRefIdeal.nD Cert.AdamTileRefIdeal.τ).loc Cert.AdamTileRefIdeal.main_arg5) = m ((c.tc : Thread Cert.AdamTileIdeal.nD Cert.AdamTileIdeal.τ).loc Cert.AdamTileIdeal.main_arg5)) →
    ∃ (v0 : (c : Dev Cert.AdamTileIdeal.nD) → Buf (Elt Ideal) ((c.tc : Thread Cert.AdamTileIdeal.nD Cert.AdamTileIdeal.τ).loc Cert.AdamTileIdeal.main_v6_0)) (v1 : (c : Dev Cert.AdamTileIdeal.nD) → Buf (Elt Ideal) ((c.tc : Thread Cert.AdamTileIdeal.nD Cert.AdamTileIdeal.τ).loc Cert.AdamTileIdeal.main_v6_1)) (v2 : (c : Dev Cert.AdamTileIdeal.nD) → Buf (Elt Ideal) ((c.tc : Thread Cert.AdamTileIdeal.nD Cert.AdamTileIdeal.τ).loc Cert.AdamTileIdeal.main_v6_2)) (v3 : (c : Dev Cert.AdamTileIdeal.nD) → Buf (Elt Ideal) ((c.tc : Thread Cert.AdamTileIdeal.nD Cert.AdamTileIdeal.τ).loc Cert.AdamTileIdeal.main_v6_3)),
      θ_run (Cert.AdamTileIdeal.defs (F := Ideal)) (onTc (τ := Cert.AdamTileIdeal.τ) (Cert.AdamTileIdeal.main (F := Ideal))) ⟨m, fun _ => 0, g⟩ (fun r => ∀ c : Dev Cert.AdamTileIdeal.nD,
          r.2.mem ((c.tc : Thread Cert.AdamTileIdeal.nD Cert.AdamTileIdeal.τ).loc Cert.AdamTileIdeal.main_v6_0) = v0 c
          ∧ r.2.mem ((c.tc : Thread Cert.AdamTileIdeal.nD Cert.AdamTileIdeal.τ).loc Cert.AdamTileIdeal.main_v6_1) = v1 c
          ∧ r.2.mem ((c.tc : Thread Cert.AdamTileIdeal.nD Cert.AdamTileIdeal.τ).loc Cert.AdamTileIdeal.main_v6_2) = v2 c
          ∧ r.2.mem ((c.tc : Thread Cert.AdamTileIdeal.nD Cert.AdamTileIdeal.τ).loc Cert.AdamTileIdeal.main_v6_3) = v3 c
          ∧ r.2.mem ((c.tc : Thread Cert.AdamTileIdeal.nD Cert.AdamTileIdeal.τ).loc Cert.AdamTileIdeal.main_arg0) = m ((c.tc : Thread Cert.AdamTileIdeal.nD Cert.AdamTileIdeal.τ).loc Cert.AdamTileIdeal.main_arg0)
          ∧ r.2.mem ((c.tc : Thread Cert.AdamTileIdeal.nD Cert.AdamTileIdeal.τ).loc Cert.AdamTileIdeal.main_arg1) = m ((c.tc : Thread Cert.AdamTileIdeal.nD Cert.AdamTileIdeal.τ).loc Cert.AdamTileIdeal.main_arg1)
          ∧ r.2.mem ((c.tc : Thread Cert.AdamTileIdeal.nD Cert.AdamTileIdeal.τ).loc Cert.AdamTileIdeal.main_arg2) = m ((c.tc : Thread Cert.AdamTileIdeal.nD Cert.AdamTileIdeal.τ).loc Cert.AdamTileIdeal.main_arg2)
          ∧ r.2.mem ((c.tc : Thread Cert.AdamTileIdeal.nD Cert.AdamTileIdeal.τ).loc Cert.AdamTileIdeal.main_arg3) = m ((c.tc : Thread Cert.AdamTileIdeal.nD Cert.AdamTileIdeal.τ).loc Cert.AdamTileIdeal.main_arg3)
          ∧ r.2.mem ((c.tc : Thread Cert.AdamTileIdeal.nD Cert.AdamTileIdeal.τ).loc Cert.AdamTileIdeal.main_arg4) = m ((c.tc : Thread Cert.AdamTileIdeal.nD Cert.AdamTileIdeal.τ).loc Cert.AdamTileIdeal.main_arg4)
          ∧ r.2.mem ((c.tc : Thread Cert.AdamTileIdeal.nD Cert.AdamTileIdeal.τ).loc Cert.AdamTileIdeal.main_arg5) = m ((c.tc : Thread Cert.AdamTileIdeal.nD Cert.AdamTileIdeal.τ).loc Cert.AdamTileIdeal.main_arg5))
      ∧ θ_run (Cert.AdamTileRefIdeal.defs (F := Ideal)) (onTc (τ := Cert.AdamTileRefIdeal.τ) (Cert.AdamTileRefIdeal.main (F := Ideal))) ⟨m', fun _ => 0, g'⟩ (fun r => ∀ c : Dev Cert.AdamTileRefIdeal.nD,
          r.2.mem ((c.tc : Thread Cert.AdamTileRefIdeal.nD Cert.AdamTileRefIdeal.τ).loc Cert.AdamTileRefIdeal.main_v11) = v0 c
          ∧ r.2.mem ((c.tc : Thread Cert.AdamTileRefIdeal.nD Cert.AdamTileRefIdeal.τ).loc Cert.AdamTileRefIdeal.main_v37) = v1 c
          ∧ r.2.mem ((c.tc : Thread Cert.AdamTileRefIdeal.nD Cert.AdamTileRefIdeal.τ).loc Cert.AdamTileRefIdeal.main_v39) = v2 c
          ∧ r.2.mem ((c.tc : Thread Cert.AdamTileRefIdeal.nD Cert.AdamTileRefIdeal.τ).loc Cert.AdamTileRefIdeal.main_v41) = v3 c
          ∧ r.2.mem ((c.tc : Thread Cert.AdamTileRefIdeal.nD Cert.AdamTileRefIdeal.τ).loc Cert.AdamTileRefIdeal.main_arg0) = m' ((c.tc : Thread Cert.AdamTileRefIdeal.nD Cert.AdamTileRefIdeal.τ).loc Cert.AdamTileRefIdeal.main_arg0)
          ∧ r.2.mem ((c.tc : Thread Cert.AdamTileRefIdeal.nD Cert.AdamTileRefIdeal.τ).loc Cert.AdamTileRefIdeal.main_arg1) = m' ((c.tc : Thread Cert.AdamTileRefIdeal.nD Cert.AdamTileRefIdeal.τ).loc Cert.AdamTileRefIdeal.main_arg1)
          ∧ r.2.mem ((c.tc : Thread Cert.AdamTileRefIdeal.nD Cert.AdamTileRefIdeal.τ).loc Cert.AdamTileRefIdeal.main_arg2) = m' ((c.tc : Thread Cert.AdamTileRefIdeal.nD Cert.AdamTileRefIdeal.τ).loc Cert.AdamTileRefIdeal.main_arg2)
          ∧ r.2.mem ((c.tc : Thread Cert.AdamTileRefIdeal.nD Cert.AdamTileRefIdeal.τ).loc Cert.AdamTileRefIdeal.main_arg3) = m' ((c.tc : Thread Cert.AdamTileRefIdeal.nD Cert.AdamTileRefIdeal.τ).loc Cert.AdamTileRefIdeal.main_arg3)
          ∧ r.2.mem ((c.tc : Thread Cert.AdamTileRefIdeal.nD Cert.AdamTileRefIdeal.τ).loc Cert.AdamTileRefIdeal.main_arg4) = m' ((c.tc : Thread Cert.AdamTileRefIdeal.nD Cert.AdamTileRefIdeal.τ).loc Cert.AdamTileRefIdeal.main_arg4)
          ∧ r.2.mem ((c.tc : Thread Cert.AdamTileRefIdeal.nD Cert.AdamTileRefIdeal.τ).loc Cert.AdamTileRefIdeal.main_arg5) = m' ((c.tc : Thread Cert.AdamTileRefIdeal.nD Cert.AdamTileRefIdeal.τ).loc Cert.AdamTileRefIdeal.main_arg5))

def Claim : Prop :=
  ∃ (hBwdIn : Cert.BwdIn.Facts) (hBwdInIdeal : Cert.BwdInIdeal.Facts) (hBwdInRefIdeal : Cert.BwdInRefIdeal.Facts) (hOutBwd : Cert.OutBwd.Facts) (hOutBwdIdeal : Cert.OutBwdIdeal.Facts) (hOutBwdRefIdeal : Cert.OutBwdRefIdeal.Facts) (hMixBwd : Cert.MixBwd.Facts) (hMixBwdIdeal : Cert.MixBwdIdeal.Facts) (hMixBwdRefIdeal : Cert.MixBwdRefIdeal.Facts) (hFwdProj : Cert.FwdProj.Facts) (hFwdProjIdeal : Cert.FwdProjIdeal.Facts) (hFwdProjRefIdeal : Cert.FwdProjRefIdeal.Facts) (hMixFwd : Cert.MixFwd.Facts) (hMixFwdIdeal : Cert.MixFwdIdeal.Facts) (hMixFwdRefIdeal : Cert.MixFwdRefIdeal.Facts) (hDwIn : Cert.DwIn.Facts) (hDwInIdeal : Cert.DwInIdeal.Facts) (hDwInRefIdeal : Cert.DwInRefIdeal.Facts) (hAdamAda : Cert.AdamAda.Facts) (hAdamAdaIdeal : Cert.AdamAdaIdeal.Facts) (hAdamAdaRefIdeal : Cert.AdamAdaRefIdeal.Facts) (hAdamSum : Cert.AdamSum.Facts) (hAdamSumIdeal : Cert.AdamSumIdeal.Facts) (hAdamSumRefIdeal : Cert.AdamSumRefIdeal.Facts) (hAdamOwn : Cert.AdamOwn.Facts) (hAdamOwnIdeal : Cert.AdamOwnIdeal.Facts) (hAdamOwnRefIdeal : Cert.AdamOwnRefIdeal.Facts) (hAdamTile : Cert.AdamTile.Facts) (hAdamTileIdeal : Cert.AdamTileIdeal.Facts) (hAdamTileRefIdeal : Cert.AdamTileRefIdeal.Facts) (hPre_finite_in : Cert.Pre_finite_in.Facts) (hPre_finite_out : Cert.Pre_finite_out.Facts) (hPre_finite_mix : Cert.Pre_finite_mix.Facts) (hPre_finite_tokens : Cert.Pre_finite_tokens.Facts) (hPre_device_index : Cert.Pre_device_index.Facts) (hPre_device_index_in : Cert.Pre_device_index_in.Facts) (hOn_pool_columns : Cert.On_pool_columns.Facts) (hOn_pool_half : Cert.On_pool_half.Facts),
    quiescent_BwdIn (hBwdIn := hBwdIn)
    ∧ quiescent_BwdInIdeal (hBwdInIdeal := hBwdInIdeal)
    ∧ quiescent_BwdInIdeal_pre_finite_in (hBwdInIdeal := hBwdInIdeal) (hPre_finite_in := hPre_finite_in)
    ∧ quiescent_BwdInRefIdeal (hBwdInRefIdeal := hBwdInRefIdeal)
    ∧ quiescent_BwdInRefIdeal_pre_finite_in (hBwdInRefIdeal := hBwdInRefIdeal) (hPre_finite_in := hPre_finite_in)
    ∧ quiescent_OutBwd (hOutBwd := hOutBwd)
    ∧ quiescent_OutBwdIdeal (hOutBwdIdeal := hOutBwdIdeal)
    ∧ quiescent_OutBwdIdeal_pre_finite_out (hOutBwdIdeal := hOutBwdIdeal) (hPre_finite_out := hPre_finite_out)
    ∧ quiescent_OutBwdRefIdeal (hOutBwdRefIdeal := hOutBwdRefIdeal)
    ∧ quiescent_OutBwdRefIdeal_pre_finite_out (hOutBwdRefIdeal := hOutBwdRefIdeal) (hPre_finite_out := hPre_finite_out)
    ∧ quiescent_MixBwd (hMixBwd := hMixBwd)
    ∧ quiescent_MixBwdIdeal (hMixBwdIdeal := hMixBwdIdeal)
    ∧ quiescent_MixBwdIdeal_pre_finite_mix (hMixBwdIdeal := hMixBwdIdeal) (hPre_finite_mix := hPre_finite_mix)
    ∧ quiescent_MixBwdRefIdeal (hMixBwdRefIdeal := hMixBwdRefIdeal)
    ∧ quiescent_MixBwdRefIdeal_pre_finite_mix (hMixBwdRefIdeal := hMixBwdRefIdeal) (hPre_finite_mix := hPre_finite_mix)
    ∧ quiescent_FwdProj (hFwdProj := hFwdProj)
    ∧ quiescent_FwdProjIdeal (hFwdProjIdeal := hFwdProjIdeal)
    ∧ quiescent_FwdProjRefIdeal (hFwdProjRefIdeal := hFwdProjRefIdeal)
    ∧ quiescent_MixFwd (hMixFwd := hMixFwd)
    ∧ quiescent_MixFwdIdeal (hMixFwdIdeal := hMixFwdIdeal)
    ∧ quiescent_MixFwdIdeal_pre_finite_tokens (hMixFwdIdeal := hMixFwdIdeal) (hPre_finite_tokens := hPre_finite_tokens)
    ∧ quiescent_MixFwdRefIdeal (hMixFwdRefIdeal := hMixFwdRefIdeal)
    ∧ quiescent_MixFwdRefIdeal_pre_finite_tokens (hMixFwdRefIdeal := hMixFwdRefIdeal) (hPre_finite_tokens := hPre_finite_tokens)
    ∧ quiescent_DwIn (hDwIn := hDwIn)
    ∧ quiescent_DwInIdeal (hDwInIdeal := hDwInIdeal)
    ∧ quiescent_DwInRefIdeal (hDwInRefIdeal := hDwInRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamSum (hAdamSum := hAdamSum)
    ∧ quiescent_AdamSumIdeal (hAdamSumIdeal := hAdamSumIdeal)
    ∧ quiescent_AdamSumRefIdeal (hAdamSumRefIdeal := hAdamSumRefIdeal)
    ∧ quiescent_AdamOwn (hAdamOwn := hAdamOwn) (hPre_device_index := hPre_device_index)
    ∧ quiescent_AdamOwnIdeal (hAdamOwnIdeal := hAdamOwnIdeal) (hPre_device_index := hPre_device_index)
    ∧ quiescent_AdamOwnRefIdeal (hAdamOwnRefIdeal := hAdamOwnRefIdeal)
    ∧ quiescent_AdamOwnRefIdeal_pre_device_index (hAdamOwnRefIdeal := hAdamOwnRefIdeal) (hPre_device_index := hPre_device_index)
    ∧ quiescent_AdamTile (hAdamTile := hAdamTile) (hPre_device_index_in := hPre_device_index_in)
    ∧ quiescent_AdamTileIdeal (hAdamTileIdeal := hAdamTileIdeal) (hPre_device_index_in := hPre_device_index_in)
    ∧ quiescent_AdamTileRefIdeal (hAdamTileRefIdeal := hAdamTileRefIdeal)
    ∧ quiescent_AdamTileRefIdeal_pre_device_index_in (hAdamTileRefIdeal := hAdamTileRefIdeal) (hPre_device_index_in := hPre_device_index_in)
    ∧ preserves_BwdIn_BwdInIdeal
    ∧ algebraic_BwdInIdeal_BwdInRefIdeal_pre_finite_in (hBwdInIdeal := hBwdInIdeal) (hBwdInRefIdeal := hBwdInRefIdeal) (hPre_finite_in := hPre_finite_in)
    ∧ preserves_OutBwd_OutBwdIdeal
    ∧ algebraic_OutBwdIdeal_OutBwdRefIdeal_pre_finite_out (hOutBwdIdeal := hOutBwdIdeal) (hOutBwdRefIdeal := hOutBwdRefIdeal) (hPre_finite_out := hPre_finite_out)
    ∧ preserves_MixBwd_MixBwdIdeal
    ∧ algebraic_MixBwdIdeal_MixBwdRefIdeal_on_pool_columns_pre_finite_mix (hMixBwdIdeal := hMixBwdIdeal) (hMixBwdRefIdeal := hMixBwdRefIdeal) (hPre_finite_mix := hPre_finite_mix) (hOn_pool_columns := hOn_pool_columns)
    ∧ preserves_FwdProj_FwdProjIdeal
    ∧ algebraic_FwdProjIdeal_FwdProjRefIdeal (hFwdProjIdeal := hFwdProjIdeal) (hFwdProjRefIdeal := hFwdProjRefIdeal)
    ∧ preserves_MixFwd_MixFwdIdeal
    ∧ algebraic_MixFwdIdeal_MixFwdRefIdeal_on_pool_half_pre_finite_tokens (hMixFwdIdeal := hMixFwdIdeal) (hMixFwdRefIdeal := hMixFwdRefIdeal) (hPre_finite_tokens := hPre_finite_tokens) (hOn_pool_half := hOn_pool_half)
    ∧ preserves_DwIn_DwInIdeal
    ∧ algebraic_DwInIdeal_DwInRefIdeal (hDwInIdeal := hDwInIdeal) (hDwInRefIdeal := hDwInRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamSum_AdamSumIdeal
    ∧ algebraic_AdamSumIdeal_AdamSumRefIdeal (hAdamSumIdeal := hAdamSumIdeal) (hAdamSumRefIdeal := hAdamSumRefIdeal)
    ∧ preserves_AdamOwn_AdamOwnIdeal
    ∧ algebraic_AdamOwnIdeal_AdamOwnRefIdeal (hAdamOwnIdeal := hAdamOwnIdeal) (hAdamOwnRefIdeal := hAdamOwnRefIdeal) (hPre_device_index := hPre_device_index)
    ∧ preserves_AdamTile_AdamTileIdeal
    ∧ algebraic_AdamTileIdeal_AdamTileRefIdeal (hAdamTileIdeal := hAdamTileIdeal) (hAdamTileRefIdeal := hAdamTileRefIdeal) (hPre_device_index_in := hPre_device_index_in)
-- ==== On_pool_columns.lean ====
abbrev S1x8192x3592 : Shape := ⟨3, ![1, 8192, 3592]⟩
abbrev S1x8 : Shape := ⟨2, ![1, 8]⟩
abbrev S1x4x1024 : Shape := ⟨3, ![1, 4, 1024]⟩
abbrev S1x1024 : Shape := ⟨2, ![1, 1024]⟩
abbrev S1x4x128x128 : Shape := ⟨4, ![1, 4, 128, 128]⟩
abbrev S1x512 : Shape := ⟨2, ![1, 512]⟩
abbrev S1x8192x1024 : Shape := ⟨3, ![1, 8192, 1024]⟩
abbrev S64x4x128x128 : Shape := ⟨4, ![64, 4, 128, 128]⟩
abbrev S64x8x128 : Shape := ⟨3, ![64, 8, 128]⟩
abbrev S8192x3840 : Shape := ⟨2, ![8192, 3840]⟩
abbrev S_ : Shape := ⟨0, ![]⟩
abbrev S4x128x128 : Shape := ⟨3, ![4, 128, 128]⟩

class Facts : Prop where
  bcast_S_S8192x3840 : S_.BroadcastsInDim S8192x3840 (![] : Fin 0 → Fin S8192x3840.rank)
  bcast_S_S4x128x128 : S_.BroadcastsInDim S4x128x128 (![] : Fin 0 → Fin S4x128x128.rank)
  bcast_S_S1x512 : S_.BroadcastsInDim S1x512 (![] : Fin 0 → Fin S1x512.rank)

variable [Facts]

def fn {F : FTy → Type} [FloatOps F] (main_arg0 : FVec F S1x8192x3592 .f32) (main_arg1 : FVec F S1x8 .f32) (main_arg2 : FVec F S1x4x1024 .f32) (main_arg3 : FVec F S1x1024 .f32) (main_arg4 : FVec F S1x4x128x128 .f32) (main_arg5 : FVec F S1x512 .f32) (main_arg6 : FVec F S1x512 .f32) (main_arg7 : FVec F S1x8192x1024 .f32) (main_arg8 : FVec F S64x4x128x128 .f32) (main_arg9 : FVec F S64x8x128 .f32) (main_arg10 : FVec F S64x8x128 .f32) : IVec S8192x3840 1 × IVec S4x128x128 1 × IVec S1x512 1 :=
  let main_v0 : IVec S8192x3840 32 := iotaInDim S8192x3840 32 1
  let main_c : IVec S_ 32 := constantI S_ 32 1024#32
  let main_v1 : IVec S8192x3840 32 := broadcastInDim S8192x3840 ![] bcast_S_S8192x3840 main_c
  let main_v2 : IVec S8192x3840 1 := cmpi .slt main_v0 main_v1
  let main_c_0 : IVec S_ 1 := constantI S_ 1 1#1
  let main_v3 : IVec S4x128x128 1 := broadcastInDim S4x128x128 ![] bcast_S_S4x128x128 main_c_0
  let main_c_1 : IVec S_ 1 := constantI S_ 1 1#1
  let main_v4 : IVec S1x512 1 := broadcastInDim S1x512 ![] bcast_S_S1x512 main_c_1
  (main_v2, main_v3, main_v4)
-- ==== On_pool_half.lean ====
abbrev S1x8192x3592 : Shape := ⟨3, ![1, 8192, 3592]⟩
abbrev S1x8 : Shape := ⟨2, ![1, 8]⟩
abbrev S1x4x1024 : Shape := ⟨3, ![1, 4, 1024]⟩
abbrev S1x1024 : Shape := ⟨2, ![1, 1024]⟩
abbrev S1x4x128x128 : Shape := ⟨4, ![1, 4, 128, 128]⟩
abbrev S1x512 : Shape := ⟨2, ![1, 512]⟩
abbrev S8192x1024 : Shape := ⟨2, ![8192, 1024]⟩
abbrev S_ : Shape := ⟨0, ![]⟩
abbrev S8192x512 : Shape := ⟨2, ![8192, 512]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)

variable [Facts]

def fn {F : FTy → Type} [FloatOps F] (main_arg0 : FVec F S1x8192x3592 .f32) (main_arg1 : FVec F S1x8 .f32) (main_arg2 : FVec F S1x4x1024 .f32) (main_arg3 : FVec F S1x1024 .f32) (main_arg4 : FVec F S1x4x128x128 .f32) (main_arg5 : FVec F S1x512 .f32) (main_arg6 : FVec F S1x512 .f32) : IVec S8192x1024 1 × IVec S8192x1024 1 × IVec S8192x512 1 :=
  let main_v0 : IVec S8192x1024 32 := iotaInDim S8192x1024 32 1
  let main_c : IVec S_ 32 := constantI S_ 32 512#32
  let main_v1 : IVec S8192x1024 32 := broadcastInDim S8192x1024 ![] bcast_S_S8192x1024 main_c
  let main_v2 : IVec S8192x1024 1 := cmpi .slt main_v0 main_v1
  let main_c_0 : IVec S_ 1 := constantI S_ 1 1#1
  let main_v3 : IVec S8192x1024 1 := broadcastInDim S8192x1024 ![] bcast_S_S8192x1024 main_c_0
  let main_c_1 : IVec S_ 1 := constantI S_ 1 1#1
  let main_v4 : IVec S8192x512 1 := broadcastInDim S8192x512 ![] bcast_S_S8192x512 main_c_1
  (main_v2, main_v3, main_v4)
-- ==== Pre_device_index.lean ====
abbrev S1 : Shape := ⟨1, ![1]⟩
abbrev S8x128x1024 : Shape := ⟨3, ![8, 128, 1024]⟩
abbrev S1x128x1024 : Shape := ⟨3, ![1, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x128x1024 .bf16) (main_arg2 : FVec F S8x128x1024 .bf16) (main_arg3 : FVec F S1x128x1024 .f32) (main_arg4 : FVec F S1x128x1024 .f32) (main_arg5 : FVec F S1x128x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_device_index_in.lean ====
abbrev S1 : Shape := ⟨1, ![1]⟩
abbrev S8x449x1024 : Shape := ⟨3, ![8, 449, 1024]⟩
abbrev S1x1024x449 : Shape := ⟨3, ![1, 1024, 449]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x449x1024 .bf16) (main_arg2 : FVec F S8x449x1024 .bf16) (main_arg3 : FVec F S1x1024x449 .f32) (main_arg4 : FVec F S1x1024x449 .f32) (main_arg5 : FVec F S1x1024x449 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_finite_in.lean ====
abbrev S1x8192x1024 : Shape := ⟨3, ![1, 8192, 1024]⟩
abbrev S1x1024 : Shape := ⟨2, ![1, 1024]⟩
abbrev S1x1024x3592 : Shape := ⟨3, ![1, 1024, 3592]⟩
abbrev S1x8192x3592 : Shape := ⟨3, ![1, 8192, 3592]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x3592 : S_.BroadcastsInDim S1x1024x3592 (![] : Fin 0 → Fin S1x1024x3592.rank)
  bcast_S_S1x8192x3592 : S_.BroadcastsInDim S1x8192x3592 (![] : Fin 0 → Fin S1x8192x3592.rank)

variable [Facts]

def fn {F : FTy → Type} [FloatOps F] (main_arg0 : FVec F S1x8192x1024 .f32) (main_arg1 : FVec F S1x8192x1024 .f32) (main_arg2 : FVec F S1x1024 .f32) (main_arg3 : FVec F S1x1024 .f32) (main_arg4 : FVec F S1x1024 .f32) (main_arg5 : FVec F S1x1024x3592 .f32) (main_arg6 : FVec F S1x8192x3592 .f32) : IVec S1x8192x1024 1 × IVec S1x1024 1 × IVec S1x1024 1 × IVec S1x1024x3592 1 × IVec S1x8192x3592 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x3592 .f32 := Host.absf main_arg5
  let main_cst_2 : FVec F S_ .f32 := constant S_ .f32 0x7F800000#32
  let main_v10 : FVec F S1x1024x3592 .f32 := broadcastInDim S1x1024x3592 ![] bcast_S_S1x1024x3592 main_cst_2
  let main_v11 : IVec S1x1024x3592 1 := cmpf .olt main_v9 main_v10
  let main_v12 : FVec F S1x8192x3592 .f32 := Host.absf main_arg6
  let main_cst_3 : FVec F S_ .f32 := constant S_ .f32 0x7F800000#32
  let main_v13 : FVec F S1x8192x3592 .f32 := broadcastInDim S1x8192x3592 ![] bcast_S_S1x8192x3592 main_cst_3
  let main_v14 : IVec S1x8192x3592 1 := cmpf .olt main_v12 main_v13
  (main_v2, main_v5, main_v8, main_v11, main_v14)
-- ==== Pre_finite_mix.lean ====
abbrev S1x8192x3592 : Shape := ⟨3, ![1, 8192, 3592]⟩
abbrev S1x8 : Shape := ⟨2, ![1, 8]⟩
abbrev S1x4x1024 : Shape := ⟨3, ![1, 4, 1024]⟩
abbrev S1x1024 : Shape := ⟨2, ![1, 1024]⟩
abbrev S1x4x128x128 : Shape := ⟨4, ![1, 4, 128, 128]⟩
abbrev S1x512 : Shape := ⟨2, ![1, 512]⟩
abbrev S1x8192x1024 : Shape := ⟨3, ![1, 8192, 1024]⟩
abbrev S64x4x128x128 : Shape := ⟨4, ![64, 4, 128, 128]⟩
abbrev S64x8x128 : Shape := ⟨3, ![64, 8, 128]⟩
abbrev S1x8192x512 : Shape := ⟨3, ![1, 8192, 512]⟩
abbrev S_ : Shape := ⟨0, ![]⟩

class Facts : Prop where
  slices_S1x8192x3592_S1x8192x1024_0_0_0 : S1x8192x3592.Slices ![0, 0, 0] S1x8192x1024
  slices_S1x8192x1024_S1x8192x512_0_0_0 : S1x8192x1024.Slices ![0, 0, 0] S1x8192x512
  bcast_S_S1x8192x1024 : S_.BroadcastsInDim S1x8192x1024 (![] : Fin 0 → Fin S1x8192x1024.rank)
  bcast_S_S1x4x128x128 : S_.BroadcastsInDim S1x4x128x128 (![] : Fin 0 → Fin S1x4x128x128.rank)
  bcast_S_S1x512 : S_.BroadcastsInDim S1x512 (![] : Fin 0 → Fin S1x512.rank)
  bcast_S_S1x8192x512 : S_.BroadcastsInDim S1x8192x512 (![] : Fin 0 → Fin S1x8192x512.rank)

variable [Facts]

def fn {F : FTy → Type} [FloatOps F] (main_arg0 : FVec F S1x8192x3592 .f32) (main_arg1 : FVec F S1x8 .f32) (main_arg2 : FVec F S1x4x1024 .f32) (main_arg3 : FVec F S1x1024 .f32) (main_arg4 : FVec F S1x4x128x128 .f32) (main_arg5 : FVec F S1x512 .f32) (main_arg6 : FVec F S1x512 .f32) (main_arg7 : FVec F S1x8192x1024 .f32) (main_arg8 : FVec F S64x4x128x128 .f32) (main_arg9 : FVec F S64x8x128 .f32) (main_arg10 : FVec F S64x8x128 .f32) : IVec S1x8192x1024 1 × IVec S1x4x128x128 1 × IVec S1x512 1 × IVec S1x8192x512 1 :=
  let main_v0 : FVec F S1x8192x1024 .f32 := (extractStridedSlice S1x8192x1024 ![0, 0, 0] · slices_S1x8192x3592_S1x8192x1024_0_0_0) main_arg0
  let main_v1 : FVec F S1x8192x512 .f32 := (extractStridedSlice S1x8192x512 ![0, 0, 0] · slices_S1x8192x1024_S1x8192x512_0_0_0) main_arg7
  let main_v2 : FVec F S1x8192x1024 .f32 := Host.absf main_v0
  let main_cst : FVec F S_ .f32 := constant S_ .f32 0x7F800000#32
  let main_v3 : FVec F S1x8192x1024 .f32 := broadcastInDim S1x8192x1024 ![] bcast_S_S1x8192x1024 main_cst
  let main_v4 : IVec S1x8192x1024 1 := cmpf .olt main_v2 main_v3
  let main_v5 : FVec F S1x4x128x128 .f32 := Host.absf main_arg4
  let main_cst_0 : FVec F S_ .f32 := constant S_ .f32 0x7F800000#32
  let main_v6 : FVec F S1x4x128x128 .f32 := broadcastInDim S1x4x128x128 ![] bcast_S_S1x4x128x128 main_cst_0
  let main_v7 : IVec S1x4x128x128 1 := cmpf .olt main_v5 main_v6
  let main_v8 : FVec F S1x512 .f32 := Host.absf main_arg5
  let main_cst_1 : FVec F S_ .f32 := constant S_ .f32 0x7F800000#32
  let main_v9 : FVec F S1x512 .f32 := broadcastInDim S1x512 ![] bcast_S_S1x512 main_cst_1
  let main_v10 : IVec S1x512 1 := cmpf .olt main_v8 main_v9
  let main_v11 : FVec F S1x8192x512 .f32 := Host.absf main_v1
  let main_cst_2 : FVec F S_ .f32 := constant S_ .f32 0x7F800000#32
  let main_v12 : FVec F S1x8192x512 .f32 := broadcastInDim S1x8192x512 ![] bcast_S_S1x8192x512 main_cst_2
  let main_v13 : IVec S1x8192x512 1 := cmpf .olt main_v11 main_v12
  (main_v4, main_v7, main_v10, main_v13)
-- ==== Pre_finite_out.lean ====
abbrev S1x8192x1024 : Shape := ⟨3, ![1, 8192, 1024]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S1024 : S_.BroadcastsInDim S1024 (![] : Fin 0 → Fin S1024.rank)

variable [Facts]

def fn {F : FTy → Type} [FloatOps F] (main_arg0 : FVec F S1x8192x1024 .f32) (main_arg1 : FVec F S1x8192x1024 .f32) (main_arg2 : FVec F S1x8192x1024 .f32) (main_arg3 : FVec F S1x1024x1024 .f32) (main_arg4 : FVec F S1x1024 .f32) (main_arg5 : FVec F S1024 .f32) : IVec S1x8192x1024 1 × IVec S1x8192x1024 1 × IVec S1x8192x1024 1 × IVec S1x1024x1024 1 × IVec S1x1024 1 × IVec S1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x8192x1024 .f32 := Host.absf main_arg2
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  let main_v9 : FVec F S1x1024x1024 .f32 := Host.absf main_arg3
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_tokens.lean ====
abbrev S1x8192x3592 : Shape := ⟨3, ![1, 8192, 3592]⟩
abbrev S1x8 : Shape := ⟨2, ![1, 8]⟩
abbrev S1x4x1024 : Shape := ⟨3, ![1, 4, 1024]⟩
abbrev S1x1024 : Shape := ⟨2, ![1, 1024]⟩
abbrev S1x4x128x128 : Shape := ⟨4, ![1, 4, 128, 128]⟩
abbrev S1x512 : Shape := ⟨2, ![1, 512]⟩
abbrev S1x8192x512 : Shape := ⟨3, ![1, 8192, 512]⟩
abbrev S_ : Shape := ⟨0, ![]⟩

class Facts : Prop where
  slices_S1x8192x3592_S1x8192x512_0_0_0 : S1x8192x3592.Slices ![0, 0, 0] S1x8192x512
  bcast_S_S1x8192x512 : S_.BroadcastsInDim S1x8192x512 (![] : Fin 0 → Fin S1x8192x512.rank)

variable [Facts]

def fn {F : FTy → Type} [FloatOps F] (main_arg0 : FVec F S1x8192x3592 .f32) (main_arg1 : FVec F S1x8 .f32) (main_arg2 : FVec F S1x4x1024 .f32) (main_arg3 : FVec F S1x1024 .f32) (main_arg4 : FVec F S1x4x128x128 .f32) (main_arg5 : FVec F S1x512 .f32) (main_arg6 : FVec F S1x512 .f32) : IVec S1x8192x512 1 :=
  let main_v0 : FVec F S1x8192x512 .f32 := (extractStridedSlice S1x8192x512 ![0, 0, 0] · slices_S1x8192x3592_S1x8192x512_0_0_0) main_arg0
  let main_v1 : FVec F S1x8192x512 .f32 := Host.absf main_v0
  let main_cst : FVec F S_ .f32 := constant S_ .f32 0x7F800000#32
  let main_v2 : FVec F S1x8192x512 .f32 := broadcastInDim S1x8192x512 ![] bcast_S_S1x8192x512 main_cst
  let main_v3 : IVec S1x8192x512 1 := cmpf .olt main_v1 main_v2
  main_v3
-- ==== BwdIn.lean ====
abbrev S1x8192x1024 : Shape := ⟨3, ![1, 8192, 1024]⟩
abbrev S1x1024 : Shape := ⟨2, ![1, 1024]⟩
abbrev S1x1024x3592 : Shape := ⟨3, ![1, 1024, 3592]⟩
abbrev S1x8192x3592 : Shape := ⟨3, ![1, 8192, 3592]⟩
abbrev S1024x3592 : Shape := ⟨2, ![1024, 3592]⟩
abbrev S3592x1024 : Shape := ⟨2, ![3592, 1024]⟩
abbrev S_ : Shape := ⟨0, ![]⟩
abbrev S3840x1024 : Shape := ⟨2, ![3840, 1024]⟩
abbrev S8192x3592 : Shape := ⟨2, ![8192, 3592]⟩
abbrev S8192x3840 : Shape := ⟨2, ![8192, 3840]⟩
abbrev S8192x1024 : Shape := ⟨2, ![8192, 1024]⟩
abbrev S512x3840 : Shape := ⟨2, ![512, 3840]⟩
abbrev S512x1024 : Shape := ⟨2, ![512, 1024]⟩
abbrev S256x3840 : Shape := ⟨2, ![256, 3840]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 24
  | .vmem => 14
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024x3592, .f32⟩
  | .hbm, ⟨6, _⟩ => ⟨S1x8192x3592, .f32⟩
  | .hbm, ⟨7, _⟩ => ⟨S1024x3592, .f32⟩
  | .hbm, ⟨8, _⟩ => ⟨S1024x3592, .bf16⟩
  | .hbm, ⟨9, _⟩ => ⟨S3592x1024, .bf16⟩
  | .hbm, ⟨10, _⟩ => ⟨S_, .i32⟩
  | .hbm, ⟨11, _⟩ => ⟨S_, .bf16⟩
  | .hbm, ⟨12, _⟩ => ⟨S3840x1024, .bf16⟩
  | .hbm, ⟨13, _⟩ => ⟨S8192x3592, .f32⟩
  | .hbm, ⟨14, _⟩ => ⟨S8192x3592, .bf16⟩
  | .hbm, ⟨15, _⟩ => ⟨S_, .i32⟩
  | .hbm, ⟨16, _⟩ => ⟨S_, .bf16⟩
  | .hbm, ⟨17, _⟩ => ⟨S8192x3840, .bf16⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S1x1024, .f32⟩
  | .hbm, ⟨23, _⟩ => ⟨S1x1024, .f32⟩
  | .local _ .vmem, ⟨0, _⟩ => ⟨S512x3840, .bf16⟩
  | .local _ .vmem, ⟨1, _⟩ => ⟨S512x3840, .bf16⟩
  | .local _ .vmem, ⟨2, _⟩ => ⟨S3840x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3840x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BwdInRefIdeal.lean ====
abbrev S1x8192x1024 : Shape := ⟨3, ![1, 8192, 1024]⟩
abbrev S1x1024 : Shape := ⟨2, ![1, 1024]⟩
abbrev S1x1024x3592 : Shape := ⟨3, ![1, 1024, 3592]⟩
abbrev S1x8192x3592 : Shape := ⟨3, ![1, 8192, 3592]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3592 : Shape := ⟨2, ![1024, 3592]⟩
abbrev S3592x1024 : Shape := ⟨2, ![3592, 1024]⟩
abbrev S8192 : Shape := ⟨1, ![8192]⟩
abbrev S8192x1024 : Shape := ⟨2, ![8192, 1024]⟩

abbrev nBuf : Space → Nat
  | .hbm => 87
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024x3592, .f32⟩
  | .hbm, ⟨6, _⟩ => ⟨S1x8192x3592, .f32⟩
  | .hbm, ⟨7, _⟩ => ⟨S1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x1024, .f32⟩
  | .hbm, ⟨24, _⟩ => ⟨S1x8192x1024, .f32⟩
  | .hbm, ⟨25, _⟩ => ⟨S1x1x1024, .f32⟩
  | .hbm, ⟨26, _⟩ => ⟨S1x8192x1024, .f32⟩
  | .hbm, ⟨27, _⟩ => ⟨S1x8192x1024, .f32⟩
  | .hbm, ⟨28, _⟩ => ⟨S1x1x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S1x8192x1024, .f32⟩
  | .hbm, ⟨33, _⟩ => ⟨S1x8192x1024, .f32⟩
  | .hbm, ⟨34, _⟩ => ⟨S1x1x1024, .f32⟩
  | .hbm, ⟨35, _⟩ => ⟨S1x8192x1024, .f32⟩
  | .hbm, ⟨36, _⟩ => ⟨S1x8192x1024, .f32⟩
  | .hbm, ⟨37, _⟩ => ⟨S1024x3592, .f32⟩
  | .hbm, ⟨38, _⟩ => ⟨S1x8192x3592, .f32⟩
  | .hbm, ⟨39, _⟩ => ⟨S3592x1024, .f32⟩
  | .hbm, ⟨40, _⟩ => ⟨S1024x3592, .f32⟩
  | .hbm, ⟨41, _⟩ => ⟨S1x8192x1024, .f32⟩
  | .hbm, ⟨42, _⟩ => ⟨S1x1024x3592, .f32⟩
  | .hbm, ⟨43, _⟩ => ⟨S_, .f32⟩
  | .hbm, ⟨44, _⟩ => ⟨S1x1024, .f32⟩
  | .hbm, ⟨45, _⟩ => ⟨S1x1x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S1x8192x1024, .f32⟩
  | .hbm, ⟨50, _⟩ => ⟨S_, .f32⟩
  | .hbm, ⟨51, _⟩ => ⟨S1x1024, .f32⟩
  | .hbm, ⟨52, _⟩ => ⟨S1x1x1024, .f32⟩
  | .hbm, ⟨53, _⟩ => ⟨S1x8192x1024, .f32⟩
  | .hbm, ⟨54, _⟩ => ⟨S1x8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S1x8192x1024, .f32⟩
  | .hbm, ⟨59, _⟩ => ⟨S_, .f32⟩
  | .hbm, ⟨60, _⟩ => ⟨S1x1024, .f32⟩
  | .hbm, ⟨61, _⟩ => ⟨S1x1x1024, .f32⟩
  | .hbm, ⟨62, _⟩ => ⟨S1x8192x1024, .f32⟩
  | .hbm, ⟨63, _⟩ => ⟨S1x8192x1024, .f32⟩
  | .hbm, ⟨64, _⟩ => ⟨S_, .f32⟩
  | .hbm, ⟨65, _⟩ => ⟨S1024, .f32⟩
  | .hbm, ⟨66, _⟩ => ⟨S1x8192x1024, .f32⟩
  | .hbm, ⟨67, _⟩ => ⟨S_, .f32⟩
  | .hbm, ⟨68, _⟩ => ⟨S1x8192, .f32⟩
  | .hbm, ⟨69, _⟩ => ⟨S1x8192x1, .f32⟩
  | .hbm, ⟨70, _⟩ => ⟨S1x8192x1024, .f32⟩
  | .hbm, ⟨71, _⟩ => ⟨S1x8192x1024, .f32⟩
  | .hbm, ⟨72, _⟩ => ⟨S1x8192x1024, .f32⟩
  | .hbm, ⟨73, _⟩ => ⟨S1x8192x1, .f32⟩
  | .hbm, ⟨74, _⟩ => ⟨S_, .f32⟩
  | .hbm, ⟨75, _⟩ => ⟨S1x8192x1, .f32⟩
  | .hbm, ⟨76, _⟩ => ⟨S1x8192x1, .f32⟩
  | .hbm, ⟨77, _⟩ => ⟨S_, .f32⟩
  | .hbm, ⟨78, _⟩ => ⟨S8192, .f32⟩
  | .hbm, ⟨79, _⟩ => ⟨S1x8192, .f32⟩
  | .hbm, ⟨80, _⟩ => ⟨S1x8192x1024, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S1x1024, .f32⟩
  | .hbm, ⟨86, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== OutBwd.lean ====
abbrev S1x8192x1024 : Shape := ⟨3, ![1, 8192, 1024]⟩
abbrev S1x1024x1024 : Shape := ⟨3, ![1, 1024, 1024]⟩
abbrev S1x1024 : Shape := ⟨2, ![1, 1024]⟩
abbrev S1024 : Shape := ⟨1, ![1024]⟩
abbrev S1024x1024 : Shape := ⟨2, ![1024, 1024]⟩
abbrev S8192x1024 : Shape := ⟨2, ![8192, 1024]⟩
abbrev S1x128 : Shape := ⟨2, ![1, 128]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 19
  | .vmem => 18
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x1024x1024, .f32⟩
  | .hbm, ⟨4, _⟩ => ⟨S1x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x128, .f32⟩
  | .local _ .vmem, ⟨17, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v161 : BitVec 1 := Scalar.cmpi .eq arg0 c15_i32
  let v162 : BitVec 32 := Scalar.extui v161
  let c0_i32_83 : BitVec 32 := 0#32
  let v163 : BitVec 1 := Scalar.cmpi .ne v162 c0_i32_83
  v163

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutBwdRefIdeal.lean ====
abbrev S1x8192x1024 : Shape := ⟨3, ![1, 8192, 1024]⟩
abbrev S1x1024x1024 : Shape := ⟨3, ![1, 1024, 1024]⟩
abbrev S1x1024 : Shape := ⟨2, ![1, 1024]⟩
abbrev S1024 : Shape := ⟨1, ![1024]⟩
abbrev S1x1x1024 : Shape := ⟨3, ![1, 1, 1024]⟩
abbrev S1024x1024 : Shape := ⟨2, ![1024, 1024]⟩
abbrev S_ : Shape := ⟨0, ![]⟩
abbrev S1x8192 : Shape := ⟨2, ![1, 8192]⟩
abbrev S1x8192x1 : Shape := ⟨3, ![1, 8192, 1]⟩
abbrev S8192 : Shape := ⟨1, ![8192]⟩
abbrev S8192x1024 : Shape := ⟨2, ![8192, 1024]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x1024x1024, .f32⟩
  | .hbm, ⟨4, _⟩ => ⟨S1x1024, .f32⟩
  | .hbm, ⟨5, _⟩ => ⟨S1024, .f32⟩
  | .hbm, ⟨6, _⟩ => ⟨S1x1x1024, .f32⟩
  | .hbm, ⟨7, _⟩ => ⟨S1024x1024, .f32⟩
  | .hbm, ⟨8, _⟩ => ⟨S1x8192x1024, .f32⟩
  | .hbm, ⟨9, _⟩ => ⟨S1x8192x1024, .f32⟩
  | .hbm, ⟨10, _⟩ => ⟨S1x8192x1024, .f32⟩
  | .hbm, ⟨11, _⟩ => ⟨S1x8192x1024, .f32⟩
  | .hbm, ⟨12, _⟩ => ⟨S1x8192x1024, .f32⟩
  | .hbm, ⟨13, _⟩ => ⟨S_, .f32⟩
  | .hbm, ⟨14, _⟩ => ⟨S1x8192, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S1x8192x1, .f32⟩
  | .hbm, ⟨23, _⟩ => ⟨S1x8192x1, .f32⟩
  | .hbm, ⟨24, _⟩ => ⟨S_, .f32⟩
  | .hbm, ⟨25, _⟩ => ⟨S1x8192x1, .f32⟩
  | .hbm, ⟨26, _⟩ => ⟨S1x8192x1, .f32⟩
  | .hbm, ⟨27, _⟩ => ⟨S1x8192x1024, .f32⟩
  | .hbm, ⟨28, _⟩ => ⟨S1x8192x1024, .f32⟩
  | .hbm, ⟨29, _⟩ => ⟨S1x1x1024, .f32⟩
  | .hbm, ⟨30, _⟩ => ⟨S1x8192x1024, .f32⟩
  | .hbm, ⟨31, _⟩ => ⟨S1x8192x1024, .f32⟩
  | .hbm, ⟨32, _⟩ => ⟨S1x8192x1024, .f32⟩
  | .hbm, ⟨33, _⟩ => ⟨S1x8192x1024, .f32⟩
  | .hbm, ⟨34, _⟩ => ⟨S_, .f32⟩
  | .hbm, ⟨35, _⟩ => ⟨S1x8192x1024, .f32⟩
  | .hbm, ⟨36, _⟩ => ⟨S1x8192x1024, .f32⟩
  | .hbm, ⟨37, _⟩ => ⟨S_, .f32⟩
  | .hbm, ⟨38, _⟩ => ⟨S1x8192, .f32⟩
  | .hbm, ⟨39, _⟩ => ⟨S_, .f32⟩
  | .hbm, ⟨40, _⟩ => ⟨S1x8192, .f32⟩
  | .hbm, ⟨41, _⟩ => ⟨S1x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1x8192, .f32⟩
  | .hbm, ⟨50, _⟩ => ⟨S_, .f32⟩
  | .hbm, ⟨51, _⟩ => ⟨S1x8192, .f32⟩
  | .hbm, ⟨52, _⟩ => ⟨S1x8192, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S_, .f32⟩
  | .hbm, ⟨57, _⟩ => ⟨S1x1024, .f32⟩
  | .hbm, ⟨58, _⟩ => ⟨S1x1x1024, .f32⟩
  | .hbm, ⟨59, _⟩ => ⟨S1x8192x1024, .f32⟩
  | .hbm, ⟨60, _⟩ => ⟨S1x8192x1024, .f32⟩
  | .hbm, ⟨61, _⟩ => ⟨S_, .f32⟩
  | .hbm, ⟨62, _⟩ => ⟨S1024, .f32⟩
  | .hbm, ⟨63, _⟩ => ⟨S1x8192x1024, .f32⟩
  | .hbm, ⟨64, _⟩ => ⟨S_, .f32⟩
  | .hbm, ⟨65, _⟩ => ⟨S1x8192, .f32⟩
  | .hbm, ⟨66, _⟩ => ⟨S1x8192x1, .f32⟩
  | .hbm, ⟨67, _⟩ => ⟨S1x8192x1024, .f32⟩
  | .hbm, ⟨68, _⟩ => ⟨S1x8192x1024, .f32⟩
  | .hbm, ⟨69, _⟩ => ⟨S1x8192x1, .f32⟩
  | .hbm, ⟨70, _⟩ => ⟨S_, .f32⟩
  | .hbm, ⟨71, _⟩ => ⟨S1x8192x1, .f32⟩
  | .hbm, ⟨72, _⟩ => ⟨S1x8192x1, .f32⟩
  | .hbm, ⟨73, _⟩ => ⟨S_, .f32⟩
  | .hbm, ⟨74, _⟩ => ⟨S8192, .f32⟩
  | .hbm, ⟨75, _⟩ => ⟨S1x8192, .f32⟩
  | .hbm, ⟨76, _⟩ => ⟨S1x8192x1024, .f32⟩
  | .hbm, ⟨77, _⟩ => ⟨S1x8192x1024, .f32⟩
  | .hbm, ⟨78, _⟩ => ⟨S1x8192x1024, .f32⟩
  | .hbm, ⟨79, _⟩ => ⟨S1x8192x1024, .f32⟩
  | .hbm, ⟨80, _⟩ => ⟨S1x8192x1024, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S_, .f32⟩
  | .hbm, ⟨85, _⟩ => ⟨S1x1024, .f32⟩
  | .hbm, ⟨86, _⟩ => ⟨S1x1x1024, .f32⟩
  | .hbm, ⟨87, _⟩ => ⟨S1024x1024, .f32⟩
  | .hbm, ⟨88, _⟩ => ⟨S1024x1024, .f32⟩
  | .hbm, ⟨89, _⟩ => ⟨S1x8192x1024, .f32⟩
  | .hbm, ⟨90, _⟩ => ⟨S1x1024x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S8192x1024, .f32⟩
  | .hbm, ⟨95, _⟩ => ⟨S8192x1024, .f32⟩
  | .hbm, ⟨96, _⟩ => ⟨S1024x1024, .f32⟩
  | .hbm, ⟨97, _⟩ => ⟨S1024x1024, .bf16⟩
  | .hbm, ⟨98, _⟩ => ⟨S1x1024, .f32⟩
  | .hbm, ⟨99, _⟩ => ⟨S1x128, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== MixBwd.lean ====
abbrev S1x8192x3592 : Shape := ⟨3, ![1, 8192, 3592]⟩
abbrev S1x8 : Shape := ⟨2, ![1, 8]⟩
abbrev S1x4x1024 : Shape := ⟨3, ![1, 4, 1024]⟩
abbrev S1x1024 : Shape := ⟨2, ![1, 1024]⟩
abbrev S1x4x128x128 : Shape := ⟨4, ![1, 4, 128, 128]⟩
abbrev S1x512 : Shape := ⟨2, ![1, 512]⟩
abbrev S1x8192x1024 : Shape := ⟨3, ![1, 8192, 1024]⟩
abbrev S64x4x128x128 : Shape := ⟨4, ![64, 4, 128, 128]⟩
abbrev S64x8x128 : Shape := ⟨3, ![64, 8, 128]⟩
abbrev S8192x3592 : Shape := ⟨2, ![8192, 3592]⟩
abbrev S8192x8 : Shape := ⟨2, ![8192, 8]⟩
abbrev S_ : Shape := ⟨0, ![]⟩
abbrev S8192x128 : Shape := ⟨2, ![8192, 128]⟩
abbrev S1x128 : Shape := ⟨2, ![1, 128]⟩
abbrev S4x1024 : Shape := ⟨2, ![4, 1024]⟩
abbrev S8x1024 : Shape := ⟨2, ![8, 1024]⟩
abbrev S1024 : Shape := ⟨1, ![1024]⟩
abbrev S1x8195x1024 : Shape := ⟨3, ![1, 8195, 1024]⟩
abbrev S1x1x1024 : Shape := ⟨3, ![1, 1, 1024]⟩
abbrev S1x8192x512 : Shape := ⟨3, ![1, 8192, 512]⟩
abbrev S1x8192x4x128 : Shape := ⟨4, ![1, 8192, 4, 128]⟩
abbrev S8192 : Shape := ⟨1, ![8192]⟩
abbrev S1x8192x1x128 : Shape := ⟨4, ![1, 8192, 1, 128]⟩
abbrev S1x8192x128 : Shape := ⟨3, ![1, 8192, 128]⟩
abbrev S1x2x128 : Shape := ⟨3, ![1, 2, 128]⟩
abbrev S1x8190x128 : Shape := ⟨3, ![1, 8190, 128]⟩
abbrev S1x8192x1 : Shape := ⟨3, ![1, 8192, 1]⟩
abbrev S1x4x128 : Shape := ⟨3, ![1, 4, 128]⟩
abbrev S1x8188x128 : Shape := ⟨3, ![1, 8188, 128]⟩
abbrev S1x8x128 : Shape := ⟨3, ![1, 8, 128]⟩
abbrev S1x8184x128 : Shape := ⟨3, ![1, 8184, 128]⟩
abbrev S1x16x128 : Shape := ⟨3, ![1, 16, 128]⟩
abbrev S1x8176x128 : Shape := ⟨3, ![1, 8176, 128]⟩
abbrev S8192x3584 : Shape := ⟨2, ![8192, 3584]⟩
abbrev S8192x1024 : Shape := ⟨2, ![8192, 1024]⟩
abbrev S8192x512 : Shape := ⟨2, ![8192, 512]⟩
abbrev S4x128x128 : Shape := ⟨3, ![4, 128, 128]⟩
abbrev S8192x3840 : Shape := ⟨2, ![8192, 3840]⟩
abbrev S512x512 : Shape := ⟨2, ![512, 512]⟩
abbrev S512x1024 : Shape := ⟨2, ![512, 1024]⟩
abbrev S512x128 : Shape := ⟨2, ![512, 128]⟩
abbrev S4x4x128x128 : Shape := ⟨4, ![4, 4, 128, 128]⟩
abbrev S4x8x128 : Shape := ⟨3, ![4, 8, 128]⟩
abbrev S512x3840 : Shape := ⟨2, ![512, 3840]⟩
abbrev S8x128 : Shape := ⟨2, ![8, 128]⟩
abbrev S520x1024 : Shape := ⟨2, ![520, 1024]⟩
abbrev S528x512 : Shape := ⟨2, ![528, 512]⟩
abbrev S16x512 : Shape := ⟨2, ![16, 512]⟩
abbrev S512x1 : Shape := ⟨2, ![512, 1]⟩
abbrev S1x128x128 : Shape := ⟨3, ![1, 128, 128]⟩
abbrev S128x128 : Shape := ⟨2, ![128, 128]⟩
abbrev S128 : Shape := ⟨1, ![128]⟩
abbrev S528x128 : Shape := ⟨2, ![528, 128]⟩
abbrev S128x1 : Shape := ⟨2, ![128, 1]⟩
abbrev S1x1x1 : Shape := ⟨3, ![1, 1, 1]⟩
abbrev S1x1 : Shape := ⟨2, ![1, 1]⟩
abbrev S1x1x128x128 : Shape := ⟨4, ![1, 1, 128, 128]⟩
abbrev S1x1x128 : Shape := ⟨3, ![1, 1, 128]⟩
abbrev S1 : Shape := ⟨1, ![1]⟩
abbrev S520x256 : Shape := ⟨2, ![520, 256]⟩
abbrev S1x256 : Shape := ⟨2, ![1, 256]⟩
abbrev S512x256 : Shape := ⟨2, ![512, 256]⟩
abbrev S256 : Shape := ⟨1, ![256]⟩

abbrev nBuf : Space → Nat
  | .hbm => 151
  | .vmem => 43
  | .smem => 0
  | _ => 0

abbrev hbmTy0_0 (i : Nat) : BufTy := match i % 128 with
  | 0 => ⟨S1x8192x3592, .f32⟩
  | 1 => ⟨S1x8, .f32⟩
  | 2 => ⟨S1x4x1024, .f32⟩
  | 3 => ⟨S1x1024, .f32⟩
  | 4 => ⟨S1x4x128x128, .f32⟩
  | 5 => ⟨S1x512, .f32⟩
  | 6 => ⟨S1x512, .f32⟩
  | 7 => ⟨S1x8192x1024, .f32⟩
  | 8 => ⟨S64x4x128x128, .f32⟩
  | 9 => ⟨S64x8x128, .f32⟩
  | 10 => ⟨S64x8x128, .f32⟩
  | 11 => ⟨S8192x3592, .f32⟩
  | 12 => ⟨S8192x8, .f32⟩
  | 13 => ⟨S_, .i32⟩
  | 14 => ⟨S_, .f32⟩
  | 15 => ⟨S8192x128, .f32⟩
  | 16 => ⟨S_, .i32⟩
  | 17 => ⟨S_, .f32⟩
  | 18 => ⟨S1x128, .f32⟩
  | 19 => ⟨S4x1024, .f32⟩
  | 20 => ⟨S_, .i32⟩
  | 21 => ⟨S_, .f32⟩
  | 22 => ⟨S8x1024, .f32⟩
  | 23 => ⟨S1x8192x1024, .f32⟩
  | 24 => ⟨S4x1024, .f32⟩
  | 25 => ⟨S1024, .f32⟩
  | 26 => ⟨S_, .i32⟩
  | 27 => ⟨S_, .f32⟩
  | 28 => ⟨S1x8195x1024, .f32⟩
  | 29 => ⟨S1x1024, .f32⟩
  | 30 => ⟨S1024, .f32⟩
  | 31 => ⟨S1x8192x1024, .f32⟩
  | 32 => ⟨S1x1x1024, .f32⟩
  | 33 => ⟨S1x8192x1024, .f32⟩
  | 34 => ⟨S1x8192x1024, .f32⟩
  | 35 => ⟨S1x1x1024, .f32⟩
  | 36 => ⟨S1x8192x1024, .f32⟩
  | 37 => ⟨S1x8192x1024, .f32⟩
  | 38 => ⟨S1x1024, .f32⟩
  | 39 => ⟨S1024, .f32⟩
  | 40 => ⟨S1x8192x1024, .f32⟩
  | 41 => ⟨S1x1x1024, .f32⟩
  | 42 => ⟨S1x8192x1024, .f32⟩
  | 43 => ⟨S1x8192x1024, .f32⟩
  | 44 => ⟨S1x8192x1024, .f32⟩
  | 45 => ⟨S1x1024, .f32⟩
  | 46 => ⟨S1024, .f32⟩
  | 47 => ⟨S1x8192x1024, .f32⟩
  | 48 => ⟨S1x1x1024, .f32⟩
  | 49 => ⟨S1x8192x1024, .f32⟩
  | 50 => ⟨S1x8192x1024, .f32⟩
  | 51 => ⟨S1x8192x1024, .f32⟩
  | 52 => ⟨S1x1024, .f32⟩
  | 53 => ⟨S1024, .f32⟩
  | 54 => ⟨S1x8192x1024, .f32⟩
  | 55 => ⟨S1x1x1024, .f32⟩
  | 56 => ⟨S1x8192x1024, .f32⟩
  | 57 => ⟨S1x8192x1024, .f32⟩
  | 58 => ⟨S1x8192x1024, .f32⟩
  | 59 => ⟨S1x8192x512, .f32⟩
  | 60 => ⟨S1x8192x4x128, .f32⟩
  | 61 => ⟨S_, .f32⟩
  | 62 => ⟨S_, .f32⟩
  | 63 => ⟨S1x8192x4x128, .f32⟩
  | 64 => ⟨S8192, .f32⟩
  | 65 => ⟨S_, .f32⟩
  | 66 => ⟨S8192, .f32⟩
  | 67 => ⟨S8192, .f32⟩
  | 68 => ⟨S1x8192x1x128, .f32⟩
  | 69 => ⟨S1x8192x128, .f32⟩
  | 70 => ⟨S_, .f32⟩
  | 71 => ⟨S1x2x128, .f32⟩
  | 72 => ⟨S1x8190x128, .f32⟩
  | 73 => ⟨S1x8192x128, .f32⟩
  | 74 => ⟨S1x8192x128, .f32⟩
  | 75 => ⟨S_, .f32⟩
  | 76 => ⟨S8192, .f32⟩
  | 77 => ⟨S8192, .f32⟩
  | 78 => ⟨S1x8192x1, .f32⟩
  | 79 => ⟨S1x8192x128, .f32⟩
  | 80 => ⟨S1x8192x128, .f32⟩
  | 81 => ⟨S1x8192x1x128, .f32⟩
  | 82 => ⟨S1x8192x128, .f32⟩
  | 83 => ⟨S1x8192x128, .f32⟩
  | 84 => ⟨S1x8192x1x128, .f32⟩
  | 85 => ⟨S1x8192x128, .f32⟩
  | 86 => ⟨S_, .f32⟩
  | 87 => ⟨S1x4x128, .f32⟩
  | 88 => ⟨S1x8188x128, .f32⟩
  | 89 => ⟨S1x8192x128, .f32⟩
  | 90 => ⟨S1x8192x128, .f32⟩
  | 91 => ⟨S_, .f32⟩
  | 92 => ⟨S8192, .f32⟩
  | 93 => ⟨S8192, .f32⟩
  | 94 => ⟨S1x8192x1, .f32⟩
  | 95 => ⟨S1x8192x128, .f32⟩
  | 96 => ⟨S1x8192x128, .f32⟩
  | 97 => ⟨S1x8192x1x128, .f32⟩
  | 98 => ⟨S1x8192x128, .f32⟩
  | 99 => ⟨S1x8192x128, .f32⟩
  | 100 => ⟨S1x8192x1x128, .f32⟩
  | 101 => ⟨S1x8192x128, .f32⟩
  | 102 => ⟨S_, .f32⟩
  | 103 => ⟨S1x8x128, .f32⟩
  | 104 => ⟨S1x8184x128, .f32⟩
  | 105 => ⟨S1x8192x128, .f32⟩
  | 106 => ⟨S1x8192x128, .f32⟩
  | 107 => ⟨S_, .f32⟩
  | 108 => ⟨S8192, .f32⟩
  | 109 => ⟨S8192, .f32⟩
  | 110 => ⟨S1x8192x1, .f32⟩
  | 111 => ⟨S1x8192x128, .f32⟩
  | 112 => ⟨S1x8192x128, .f32⟩
  | 113 => ⟨S1x8192x1x128, .f32⟩
  | 114 => ⟨S1x8192x128, .f32⟩
  | 115 => ⟨S1x8192x128, .f32⟩
  | 116 => ⟨S1x8192x1x128, .f32⟩
  | 117 => ⟨S1x8192x128, .f32⟩
  | 118 => ⟨S_, .f32⟩
  | 119 => ⟨S1x16x128, .f32⟩
  | 120 => ⟨S1x8176x128, .f32⟩
  | 121 => ⟨S1x8192x128, .f32⟩
  | 122 => ⟨S1x8192x128, .f32⟩
  | 123 => ⟨S_, .f32⟩
  | 124 => ⟨S8192, .f32⟩
  | 125 => ⟨S8192, .f32⟩
  | 126 => ⟨S1x8192x1, .f32⟩
  | 127 => ⟨S1x8192x128, .f32⟩
  | _ => ⟨S1x8192x3592, .f32⟩

abbrev hbmTy0_1 (i : Nat) : BufTy := match i % 128 with
  | 0 => ⟨S1x8192x128, .f32⟩
  | 1 => ⟨S1x8192x1x128, .f32⟩
  | 2 => ⟨S1x8192x128, .f32⟩
  | 3 => ⟨S1x8192x128, .f32⟩
  | 4 => ⟨S1x8192x1x128, .f32⟩
  | 5 => ⟨S1x8192x1x128, .f32⟩
  | 6 => ⟨S1x8192x1x128, .f32⟩
  | 7 => ⟨S1x8192x1x128, .f32⟩
  | 8 => ⟨S1x8192x4x128, .f32⟩
  | 9 => ⟨S1x8192x512, .f32⟩
  | 10 => ⟨S8192x3584, .f32⟩
  | 11 => ⟨S8192x1024, .f32⟩
  | 12 => ⟨S8192x1024, .f32⟩
  | 13 => ⟨S8192x512, .f32⟩
  | 14 => ⟨S8192x512, .bf16⟩
  | 15 => ⟨S4x128x128, .f32⟩
  | 16 => ⟨S8192x3840, .bf16⟩
  | 17 => ⟨S8x1024, .f32⟩
  | 18 => ⟨S1x1024, .f32⟩
  | 19 => ⟨S4x128x128, .f32⟩
  | 20 => ⟨S1x512, .f32⟩
  | 21 => ⟨S1x512, .f32⟩
  | 22 => ⟨S1x128, .f32⟩
  | _ => ⟨S1x8192x3592, .f32⟩

abbrev hbmTy (i : Nat) : BufTy := match i / 128 with
  | 0 => hbmTy0_0 i
  | 1 => hbmTy0_1 i
  | _ => ⟨S1x8192x3592, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x512, .bf16⟩
  | .local _ .vmem, ⟨17, _⟩ => ⟨S512x512, .bf16⟩
  | .local _ .vmem, ⟨18, _⟩ => ⟨S4x4x128x128, .f32⟩
  | .local _ .vmem, ⟨19, _⟩ => ⟨S4x4x128x128, .f32⟩
  | .local _ .vmem, ⟨20, _⟩ => ⟨S4x8x128, .f32⟩
  | .local _ .vmem, ⟨21, _⟩ => ⟨S4x8x128, .f32⟩
  | .local _ .vmem, ⟨22, _⟩ => ⟨S4x8x128, .f32⟩
  | .local _ .vmem, ⟨23, _⟩ => ⟨S4x8x128, .f32⟩
  | .local _ .vmem, ⟨24, _⟩ => ⟨S1x8x128, .f32⟩
  | .local _ .vmem, ⟨25, _⟩ => ⟨S1x8x128, .f32⟩
  | .local _ .vmem, ⟨26, _⟩ => ⟨S1x128, .f32⟩
  | .local _ .vmem, ⟨27, _⟩ => ⟨S8x1024, .f32⟩
  | .local _ .vmem, ⟨28, _⟩ => ⟨S4x128x128, .f32⟩
  | .local _ .vmem, ⟨29, _⟩ => ⟨S1x512, .f32⟩
  | .local _ .vmem, ⟨30, _⟩ => ⟨S1x512, .f32⟩
  | .local _ .vmem, ⟨31, _⟩ => ⟨S512x3840, .bf16⟩
  | .local _ .vmem, ⟨32, _⟩ => ⟨S512x3840, .bf16⟩
  | .local _ .vmem, ⟨33, _⟩ => ⟨S8x1024, .f32⟩
  | .local _ .vmem, ⟨34, _⟩ => ⟨S1x1024, .f32⟩
  | .local _ .vmem, ⟨35, _⟩ => ⟨S4x128x128, .f32⟩
  | .local _ .vmem, ⟨36, _⟩ => ⟨S1x512, .f32⟩
  | .local _ .vmem, ⟨37, _⟩ => ⟨S1x512, .f32⟩
  | .local _ .vmem, ⟨38, _⟩ => ⟨S1x128, .f32⟩
  | .local _ .vmem, ⟨39, _⟩ => ⟨S4x128x128, .f32⟩
  | .local _ .vmem, ⟨40, _⟩ => ⟨S8x128, .f32⟩
  | .local _ .vmem, ⟨41, _⟩ => ⟨S520x1024, .f32⟩
  | .local _ .vmem, ⟨42, _⟩ => ⟨S528x512, .f32⟩
  | _, _ => ⟨S1x8192x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_call2_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_call3_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call4_call0_cst : Ref sig .tc := ⟨.hbm, 61, rfl⟩
abbrev main_call4_call0_v0 : Ref sig .tc := ⟨.hbm, 62, rfl⟩
abbrev main_v42 : Ref sig .tc := ⟨.hbm, 63, rfl⟩
abbrev main_v43 : Ref sig .tc := ⟨.hbm, 64, rfl⟩
abbrev main_cst : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_3 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_4 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_5 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_6 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_7 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_8 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_9 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_10 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114_0 : Ref sig .tc := ⟨.hbm, 144, rfl⟩
abbrev main_v114_1 : Ref sig .tc := ⟨.hbm, 145, rfl⟩
abbrev main_v114_2 : Ref sig .tc := ⟨.hbm, 146, rfl⟩
abbrev main_v114_3 : Ref sig .tc := ⟨.hbm, 147, rfl⟩
abbrev main_v114_4 : Ref sig .tc := ⟨.hbm, 148, rfl⟩
abbrev main_v114_5 : Ref sig .tc := ⟨.hbm, 149, rfl⟩
abbrev main_v114_6 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem18_1 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem24_0 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 3 → Nat :=
  let arg0 : BitVec 32 := BitVec.ofNat 32 (i 0).val
  let c15_i32 : BitVec 32 := 15#32
  let v0 : BitVec 32 := Scalar.subi c15_i32 arg0
  let c1_i32 : BitVec 32 := 1#32
  let v1 : BitVec 32 := Scalar.addi v0 c1_i32
  let c4_i32 : BitVec 32 := 4#32
  let v2 : BitVec 32 := Scalar.muli v1 c4_i32
  let c63_i32 : BitVec 32 := 63#32
  let v3 : BitVec 32 := Scalar.minsi v2 c63_i32
  let c0_i32 : BitVec 32 := 0#32
  let c0_i32_0 : BitVec 32 := 0#32
  let c0_i32_1 : BitVec 32 := 0#32
  ![v3.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x3840 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== MixBwdRefIdeal.lean ====
abbrev S1x8192x3592 : Shape := ⟨3, ![1, 8192, 3592]⟩
abbrev S1x8 : Shape := ⟨2, ![1, 8]⟩
abbrev S1x4x1024 : Shape := ⟨3, ![1, 4, 1024]⟩
abbrev S1x1024 : Shape := ⟨2, ![1, 1024]⟩
abbrev S1x4x128x128 : Shape := ⟨4, ![1, 4, 128, 128]⟩
abbrev S1x512 : Shape := ⟨2, ![1, 512]⟩
abbrev S1x8192x1024 : Shape := ⟨3, ![1, 8192, 1024]⟩
abbrev S64x4x128x128 : Shape := ⟨4, ![64, 4, 128, 128]⟩
abbrev S64x8x128 : Shape := ⟨3, ![64, 8, 128]⟩
abbrev S1x8192x512 : Shape := ⟨3, ![1, 8192, 512]⟩
abbrev S4x128x128 : Shape := ⟨3, ![4, 128, 128]⟩
abbrev S512 : Shape := ⟨1, ![512]⟩
abbrev S1x8192x4x128 : Shape := ⟨4, ![1, 8192, 4, 128]⟩
abbrev S_ : Shape := ⟨0, ![]⟩
abbrev S8192 : Shape := ⟨1, ![8192]⟩
abbrev S1x8192x1x128 : Shape := ⟨4, ![1, 8192, 1, 128]⟩
abbrev S1x8192x128 : Shape := ⟨3, ![1, 8192, 128]⟩
abbrev S1x2x128 : Shape := ⟨3, ![1, 2, 128]⟩
abbrev S1x8190x128 : Shape := ⟨3, ![1, 8190, 128]⟩
abbrev S1x8192x1 : Shape := ⟨3, ![1, 8192, 1]⟩
abbrev S1x4x128 : Shape := ⟨3, ![1, 4, 128]⟩
abbrev S1x8188x128 : Shape := ⟨3, ![1, 8188, 128]⟩
abbrev S1x8x128 : Shape := ⟨3, ![1, 8, 128]⟩
abbrev S1x8184x128 : Shape := ⟨3, ![1, 8184, 128]⟩
abbrev S1x16x128 : Shape := ⟨3, ![1, 16, 128]⟩
abbrev S1x8176x128 : Shape := ⟨3, ![1, 8176, 128]⟩
abbrev S4x128x1x8192 : Shape := ⟨4, ![4, 128, 1, 8192]⟩
abbrev S1x1x512 : Shape := ⟨3, ![1, 1, 512]⟩
abbrev S4x1x8192x128 : Shape := ⟨4, ![4, 1, 8192, 128]⟩
abbrev S8192x512 : Shape := ⟨2, ![8192, 512]⟩
abbrev S8192x2816 : Shape := ⟨2, ![8192, 2816]⟩
abbrev S8192x3840 : Shape := ⟨2, ![8192, 3840]⟩

abbrev nBuf : Space → Nat
  | .hbm => 229
  | .vmem => 0
  | .smem => 0
  | _ => 0

abbrev hbmTy0_0 (i : Nat) : BufTy := match i % 128 with
  | 0 => ⟨S1x8192x3592, .f32⟩
  | 1 => ⟨S1x8, .f32⟩
  | 2 => ⟨S1x4x1024, .f32⟩
  | 3 => ⟨S1x1024, .f32⟩
  | 4 => ⟨S1x4x128x128, .f32⟩
  | 5 => ⟨S1x512, .f32⟩
  | 6 => ⟨S1x512, .f32⟩
  | 7 => ⟨S1x8192x1024, .f32⟩
  | 8 => ⟨S64x4x128x128, .f32⟩
  | 9 => ⟨S64x8x128, .f32⟩
  | 10 => ⟨S64x8x128, .f32⟩
  | 11 => ⟨S1x8192x512, .f32⟩
  | 12 => ⟨S1x8192x512, .f32⟩
  | 13 => ⟨S4x128x128, .f32⟩
  | 14 => ⟨S512, .f32⟩
  | 15 => ⟨S1x8192x4x128, .f32⟩
  | 16 => ⟨S_, .f32⟩
  | 17 => ⟨S_, .f32⟩
  | 18 => ⟨S1x8192x4x128, .f32⟩
  | 19 => ⟨S8192, .f32⟩
  | 20 => ⟨S_, .f32⟩
  | 21 => ⟨S8192, .f32⟩
  | 22 => ⟨S8192, .f32⟩
  | 23 => ⟨S1x8192x1x128, .f32⟩
  | 24 => ⟨S1x8192x128, .f32⟩
  | 25 => ⟨S_, .f32⟩
  | 26 => ⟨S1x2x128, .f32⟩
  | 27 => ⟨S1x8190x128, .f32⟩
  | 28 => ⟨S1x8192x128, .f32⟩
  | 29 => ⟨S_, .f32⟩
  | 30 => ⟨S1x2x128, .f32⟩
  | 31 => ⟨S1x8192x128, .f32⟩
  | 32 => ⟨S_, .f32⟩
  | 33 => ⟨S8192, .f32⟩
  | 34 => ⟨S8192, .f32⟩
  | 35 => ⟨S1x8192x1, .f32⟩
  | 36 => ⟨S1x8192x128, .f32⟩
  | 37 => ⟨S1x8192x128, .f32⟩
  | 38 => ⟨S1x8192x1x128, .f32⟩
  | 39 => ⟨S1x8192x128, .f32⟩
  | 40 => ⟨S1x8192x128, .f32⟩
  | 41 => ⟨S1x8192x1x128, .f32⟩
  | 42 => ⟨S1x8192x128, .f32⟩
  | 43 => ⟨S_, .f32⟩
  | 44 => ⟨S1x4x128, .f32⟩
  | 45 => ⟨S1x8188x128, .f32⟩
  | 46 => ⟨S1x8192x128, .f32⟩
  | 47 => ⟨S_, .f32⟩
  | 48 => ⟨S1x4x128, .f32⟩
  | 49 => ⟨S1x8192x128, .f32⟩
  | 50 => ⟨S_, .f32⟩
  | 51 => ⟨S8192, .f32⟩
  | 52 => ⟨S8192, .f32⟩
  | 53 => ⟨S1x8192x1, .f32⟩
  | 54 => ⟨S1x8192x128, .f32⟩
  | 55 => ⟨S1x8192x128, .f32⟩
  | 56 => ⟨S1x8192x1x128, .f32⟩
  | 57 => ⟨S1x8192x128, .f32⟩
  | 58 => ⟨S1x8192x128, .f32⟩
  | 59 => ⟨S1x8192x1x128, .f32⟩
  | 60 => ⟨S1x8192x128, .f32⟩
  | 61 => ⟨S_, .f32⟩
  | 62 => ⟨S1x8x128, .f32⟩
  | 63 => ⟨S1x8184x128, .f32⟩
  | 64 => ⟨S1x8192x128, .f32⟩
  | 65 => ⟨S_, .f32⟩
  | 66 => ⟨S1x8x128, .f32⟩
  | 67 => ⟨S1x8192x128, .f32⟩
  | 68 => ⟨S_, .f32⟩
  | 69 => ⟨S8192, .f32⟩
  | 70 => ⟨S8192, .f32⟩
  | 71 => ⟨S1x8192x1, .f32⟩
  | 72 => ⟨S1x8192x128, .f32⟩
  | 73 => ⟨S1x8192x128, .f32⟩
  | 74 => ⟨S1x8192x1x128, .f32⟩
  | 75 => ⟨S1x8192x128, .f32⟩
  | 76 => ⟨S1x8192x128, .f32⟩
  | 77 => ⟨S1x8192x1x128, .f32⟩
  | 78 => ⟨S1x8192x128, .f32⟩
  | 79 => ⟨S_, .f32⟩
  | 80 => ⟨S1x16x128, .f32⟩
  | 81 => ⟨S1x8176x128, .f32⟩
  | 82 => ⟨S1x8192x128, .f32⟩
  | 83 => ⟨S_, .f32⟩
  | 84 => ⟨S1x16x128, .f32⟩
  | 85 => ⟨S1x8192x128, .f32⟩
  | 86 => ⟨S_, .f32⟩
  | 87 => ⟨S8192, .f32⟩
  | 88 => ⟨S8192, .f32⟩
  | 89 => ⟨S1x8192x1, .f32⟩
  | 90 => ⟨S1x8192x128, .f32⟩
  | 91 => ⟨S1x8192x128, .f32⟩
  | 92 => ⟨S1x8192x1x128, .f32⟩
  | 93 => ⟨S1x8192x128, .f32⟩
  | 94 => ⟨S1x8192x128, .f32⟩
  | 95 => ⟨S1x8192x1x128, .f32⟩
  | 96 => ⟨S1x8192x1x128, .f32⟩
  | 97 => ⟨S1x8192x1x128, .f32⟩
  | 98 => ⟨S1x8192x1x128, .f32⟩
  | 99 => ⟨S1x8192x4x128, .f32⟩
  | 100 => ⟨S4x128x1x8192, .f32⟩
  | 101 => ⟨S1x8192x4x128, .f32⟩
  | 102 => ⟨S1x8192x512, .f32⟩
  | 103 => ⟨S1x1x512, .f32⟩
  | 104 => ⟨S1x8192x512, .f32⟩
  | 105 => ⟨S1x8192x512, .f32⟩
  | 106 => ⟨S1x8192x512, .f32⟩
  | 107 => ⟨S1x8192x512, .f32⟩
  | 108 => ⟨S_, .f32⟩
  | 109 => ⟨S1x8192x512, .f32⟩
  | 110 => ⟨S1x8192x512, .f32⟩
  | 111 => ⟨S_, .f32⟩
  | 112 => ⟨S1x8192x512, .f32⟩
  | 113 => ⟨S1x8192x512, .f32⟩
  | 114 => ⟨S_, .f32⟩
  | 115 => ⟨S1x8192x512, .f32⟩
  | 116 => ⟨S1x8192x512, .f32⟩
  | 117 => ⟨S1x8192x512, .f32⟩
  | 118 => ⟨S1x8192x512, .f32⟩
  | 119 => ⟨S1x8192x512, .f32⟩
  | 120 => ⟨S1x8192x512, .f32⟩
  | 121 => ⟨S1x8192x512, .f32⟩
  | 122 => ⟨S1x8192x512, .f32⟩
  | 123 => ⟨S1x8192x512, .f32⟩
  | 124 => ⟨S1x8192x512, .f32⟩
  | 125 => ⟨S1x8192x512, .f32⟩
  | 126 => ⟨S1x8192x512, .f32⟩
  | 127 => ⟨S1x8192x512, .f32⟩
  | _ => ⟨S1x8192x3592, .f32⟩

abbrev hbmTy0_1 (i : Nat) : BufTy := match i % 128 with
  | 0 => ⟨S_, .f32⟩
  | 1 => ⟨S1x512, .f32⟩
  | 2 => ⟨S1x1x512, .f32⟩
  | 3 => ⟨S1x8192x512, .f32⟩
  | 4 => ⟨S1x8192x512, .f32⟩
  | 5 => ⟨S_, .f32⟩
  | 6 => ⟨S512, .f32⟩
  | 7 => ⟨S1x8192x4x128, .f32⟩
  | 8 => ⟨S4x128x1x8192, .f32⟩
  | 9 => ⟨S4x1x8192x128, .f32⟩
  | 10 => ⟨S1x8192x4x128, .f32⟩
  | 11 => ⟨S4x128x128, .f32⟩
  | 12 => ⟨S4x128x128, .f32⟩
  | 13 => ⟨S1x8192x1x128, .f32⟩
  | 14 => ⟨S1x8192x128, .f32⟩
  | 15 => ⟨S1x8192x1x128, .f32⟩
  | 16 => ⟨S1x8192x128, .f32⟩
  | 17 => ⟨S1x8192x1x128, .f32⟩
  | 18 => ⟨S1x8192x128, .f32⟩
  | 19 => ⟨S1x8192x1x128, .f32⟩
  | 20 => ⟨S1x8192x128, .f32⟩
  | 21 => ⟨S1x8192x128, .f32⟩
  | 22 => ⟨S1x8192x1x128, .f32⟩
  | 23 => ⟨S_, .f32⟩
  | 24 => ⟨S1x8192x4x128, .f32⟩
  | 25 => ⟨S1x8192x128, .f32⟩
  | 26 => ⟨S1x8192x128, .f32⟩
  | 27 => ⟨S1x8192x128, .f32⟩
  | 28 => ⟨S1x16x128, .f32⟩
  | 29 => ⟨S1x8176x128, .f32⟩
  | 30 => ⟨S_, .f32⟩
  | 31 => ⟨S1x8192x128, .f32⟩
  | 32 => ⟨S1x8192x128, .f32⟩
  | 33 => ⟨S1x8192x1x128, .f32⟩
  | 34 => ⟨S_, .f32⟩
  | 35 => ⟨S1x8192x4x128, .f32⟩
  | 36 => ⟨S1x8192x128, .f32⟩
  | 37 => ⟨S1x8192x1x128, .f32⟩
  | 38 => ⟨S_, .f32⟩
  | 39 => ⟨S1x8192x4x128, .f32⟩
  | 40 => ⟨S1x8192x4x128, .f32⟩
  | 41 => ⟨S1x8192x128, .f32⟩
  | 42 => ⟨S1x8192x128, .f32⟩
  | 43 => ⟨S1x8192x128, .f32⟩
  | 44 => ⟨S1x8x128, .f32⟩
  | 45 => ⟨S1x8184x128, .f32⟩
  | 46 => ⟨S_, .f32⟩
  | 47 => ⟨S1x8192x128, .f32⟩
  | 48 => ⟨S1x8192x128, .f32⟩
  | 49 => ⟨S1x8192x1x128, .f32⟩
  | 50 => ⟨S_, .f32⟩
  | 51 => ⟨S1x8192x4x128, .f32⟩
  | 52 => ⟨S1x8192x4x128, .f32⟩
  | 53 => ⟨S1x8192x128, .f32⟩
  | 54 => ⟨S1x8192x1x128, .f32⟩
  | 55 => ⟨S_, .f32⟩
  | 56 => ⟨S1x8192x4x128, .f32⟩
  | 57 => ⟨S1x8192x4x128, .f32⟩
  | 58 => ⟨S1x8192x128, .f32⟩
  | 59 => ⟨S1x8192x128, .f32⟩
  | 60 => ⟨S1x8192x128, .f32⟩
  | 61 => ⟨S1x4x128, .f32⟩
  | 62 => ⟨S1x8188x128, .f32⟩
  | 63 => ⟨S_, .f32⟩
  | 64 => ⟨S1x8192x128, .f32⟩
  | 65 => ⟨S1x8192x128, .f32⟩
  | 66 => ⟨S1x8192x1x128, .f32⟩
  | 67 => ⟨S_, .f32⟩
  | 68 => ⟨S1x8192x4x128, .f32⟩
  | 69 => ⟨S1x8192x4x128, .f32⟩
  | 70 => ⟨S1x8192x128, .f32⟩
  | 71 => ⟨S1x8192x1x128, .f32⟩
  | 72 => ⟨S_, .f32⟩
  | 73 => ⟨S1x8192x4x128, .f32⟩
  | 74 => ⟨S1x8192x4x128, .f32⟩
  | 75 => ⟨S1x8192x128, .f32⟩
  | 76 => ⟨S1x8192x128, .f32⟩
  | 77 => ⟨S1x8192x128, .f32⟩
  | 78 => ⟨S1x2x128, .f32⟩
  | 79 => ⟨S1x8190x128, .f32⟩
  | 80 => ⟨S_, .f32⟩
  | 81 => ⟨S1x8192x128, .f32⟩
  | 82 => ⟨S1x8192x128, .f32⟩
  | 83 => ⟨S1x8192x1x128, .f32⟩
  | 84 => ⟨S_, .f32⟩
  | 85 => ⟨S1x8192x4x128, .f32⟩
  | 86 => ⟨S1x8192x4x128, .f32⟩
  | 87 => ⟨S_, .f32⟩
  | 88 => ⟨S_, .f32⟩
  | 89 => ⟨S1x8192x4x128, .f32⟩
  | 90 => ⟨S1x8192x4x128, .f32⟩
  | 91 => ⟨S1x8192x512, .f32⟩
  | 92 => ⟨S1x512, .f32⟩
  | 93 => ⟨S1x4x128x128, .f32⟩
  | 94 => ⟨S8192x512, .f32⟩
  | 95 => ⟨S8192x512, .f32⟩
  | 96 => ⟨S_, .f32⟩
  | 97 => ⟨S8192x2816, .f32⟩
  | 98 => ⟨S8192x3840, .f32⟩
  | 99 => ⟨S8192x3840, .bf16⟩
  | 100 => ⟨S4x128x128, .f32⟩
  | _ => ⟨S1x8192x3592, .f32⟩

abbrev hbmTy (i : Nat) : BufTy := match i / 128 with
  | 0 => hbmTy0_0 i
  | 1 => hbmTy0_1 i
  | _ => ⟨S1x8192x3592, .f32⟩

abbrev bufTy : (tb : Table) → Fin (tcTables nBuf tb) → BufTy
  | .hbm, ⟨i, _⟩ => hbmTy i
  | _, _ => ⟨S1x8192x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_call0_cst : Ref sig .tc := ⟨.hbm, 16, rfl⟩
abbrev main_call0_call0_v0 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_call1_v0 : Ref sig .tc := ⟨.hbm, 106, rfl⟩
abbrev main_call1_v1 : Ref sig .tc := ⟨.hbm, 107, rfl⟩
abbrev main_call1_cst : Ref sig .tc := ⟨.hbm, 108, rfl⟩
abbrev main_call1_v2 : Ref sig .tc := ⟨.hbm, 109, rfl⟩
abbrev main_call1_v3 : Ref sig .tc := ⟨.hbm, 110, rfl⟩
abbrev main_call1_cst_0 : Ref sig .tc := ⟨.hbm, 111, rfl⟩
abbrev main_call1_v4 : Ref sig .tc := ⟨.hbm, 112, rfl⟩
abbrev main_v80_2 : Ref sig .tc := ⟨.hbm, 113, rfl⟩
abbrev main_call1_cst_1 : Ref sig .tc := ⟨.hbm, 114, rfl⟩
abbrev main_call1_v6 : Ref sig .tc := ⟨.hbm, 115, rfl⟩
abbrev main_call1_v7 : Ref sig .tc := ⟨.hbm, 116, rfl⟩
abbrev main_v80_1 : Ref sig .tc := ⟨.hbm, 117, rfl⟩
abbrev main_v80_0 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v85 : Ref sig .tc := ⟨.hbm, 126, rfl⟩
abbrev main_v86 : Ref sig .tc := ⟨.hbm, 127, rfl⟩
abbrev main_cst_12 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_13 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_14 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_15 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_16 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_17 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_18 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_19 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_20 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_21 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_22 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_23 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_cst_24 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_cst_25 : Ref sig .tc := ⟨.hbm, 212, rfl⟩
abbrev main_v158 : Ref sig .tc := ⟨.hbm, 213, rfl⟩
abbrev main_v159 : Ref sig .tc := ⟨.hbm, 214, rfl⟩
abbrev main_call3_call0_cst : Ref sig .tc := ⟨.hbm, 215, rfl⟩
abbrev main_call3_call0_v0 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_cst_26 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩

abbrev nD : Nat := 1
abbrev τ : Topo := Topo.v7x

variable {F : FTy → Type} [FloatOps F]
-- ==== FwdProj.lean ====
abbrev S1x8192x1024 : Shape := ⟨3, ![1, 8192, 1024]⟩
abbrev S1x1024 : Shape := ⟨2, ![1, 1024]⟩
abbrev S1x1024x3592 : Shape := ⟨3, ![1, 1024, 3592]⟩
abbrev S1024x3592 : Shape := ⟨2, ![1024, 3592]⟩
abbrev S3592x1024 : Shape := ⟨2, ![3592, 1024]⟩
abbrev S_ : Shape := ⟨0, ![]⟩
abbrev S3840x1024 : Shape := ⟨2, ![3840, 1024]⟩
abbrev S8192x1024 : Shape := ⟨2, ![8192, 1024]⟩
abbrev S8192x3584 : Shape := ⟨2, ![8192, 3584]⟩
abbrev S8192x128 : Shape := ⟨2, ![8192, 128]⟩
abbrev S512x1024 : Shape := ⟨2, ![512, 1024]⟩
abbrev S512x3584 : Shape := ⟨2, ![512, 3584]⟩
abbrev S512x128 : Shape := ⟨2, ![512, 128]⟩
abbrev S256x1024 : Shape := ⟨2, ![256, 1024]⟩
abbrev S256 : Shape := ⟨1, ![256]⟩
abbrev S256x1 : Shape := ⟨2, ![256, 1]⟩
abbrev S128x1024 : Shape := ⟨2, ![128, 1024]⟩
abbrev S256x128 : Shape := ⟨2, ![256, 128]⟩
abbrev S256x512 : Shape := ⟨2, ![256, 512]⟩

abbrev nBuf : Space → Nat
  | .hbm => 15
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x3592, .f32⟩
  | .hbm, ⟨5, _⟩ => ⟨S1024x3592, .f32⟩
  | .hbm, ⟨6, _⟩ => ⟨S1024x3592, .bf16⟩
  | .hbm, ⟨7, _⟩ => ⟨S3592x1024, .bf16⟩
  | .hbm, ⟨8, _⟩ => ⟨S_, .i32⟩
  | .hbm, ⟨9, _⟩ => ⟨S_, .bf16⟩
  | .hbm, ⟨10, _⟩ => ⟨S3840x1024, .bf16⟩
  | .hbm, ⟨11, _⟩ => ⟨S8192x1024, .f32⟩
  | .hbm, ⟨12, _⟩ => ⟨S8192x3584, .f32⟩
  | .hbm, ⟨13, _⟩ => ⟨S8192x128, .f32⟩
  | .hbm, ⟨14, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S3840x1024, .bf16⟩
  | .local _ .vmem, ⟨6, _⟩ => ⟨S512x3584, .f32⟩
  | .local _ .vmem, ⟨7, _⟩ => ⟨S512x3584, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3840x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FwdProjRefIdeal.lean ====
abbrev S1x8192x1024 : Shape := ⟨3, ![1, 8192, 1024]⟩
abbrev S1x1024 : Shape := ⟨2, ![1, 1024]⟩
abbrev S1x1024x3592 : Shape := ⟨3, ![1, 1024, 3592]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3592 : Shape := ⟨2, ![1024, 3592]⟩
abbrev S1x8192x3592 : Shape := ⟨3, ![1, 8192, 3592]⟩
abbrev S8192x3592 : Shape := ⟨2, ![8192, 3592]⟩
abbrev S8192x3584 : Shape := ⟨2, ![8192, 3584]⟩
abbrev S8192x8 : Shape := ⟨2, ![8192, 8]⟩
abbrev S8192x128 : Shape := ⟨2, ![8192, 128]⟩
abbrev S8192x1024 : Shape := ⟨2, ![8192, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x3592, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1024, .f32⟩
  | .hbm, ⟨18, _⟩ => ⟨S1x8192x1024, .f32⟩
  | .hbm, ⟨19, _⟩ => ⟨S1x1x1024, .f32⟩
  | .hbm, ⟨20, _⟩ => ⟨S1x8192x1024, .f32⟩
  | .hbm, ⟨21, _⟩ => ⟨S1x8192x1024, .f32⟩
  | .hbm, ⟨22, _⟩ => ⟨S1x1x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S1x8192x1024, .f32⟩
  | .hbm, ⟨27, _⟩ => ⟨S1x8192x1024, .f32⟩
  | .hbm, ⟨28, _⟩ => ⟨S1x1x1024, .f32⟩
  | .hbm, ⟨29, _⟩ => ⟨S1x8192x1024, .f32⟩
  | .hbm, ⟨30, _⟩ => ⟨S1x8192x1024, .f32⟩
  | .hbm, ⟨31, _⟩ => ⟨S1024x3592, .f32⟩
  | .hbm, ⟨32, _⟩ => ⟨S1x8192x3592, .f32⟩
  | .hbm, ⟨33, _⟩ => ⟨S8192x3592, .f32⟩
  | .hbm, ⟨34, _⟩ => ⟨S8192x3584, .f32⟩
  | .hbm, ⟨35, _⟩ => ⟨S8192x8, .f32⟩
  | .hbm, ⟨36, _⟩ => ⟨S_, .i32⟩
  | .hbm, ⟨37, _⟩ => ⟨S_, .f32⟩
  | .hbm, ⟨38, _⟩ => ⟨S8192x128, .f32⟩
  | .hbm, ⟨39, _⟩ => ⟨S8192x1024, .f32⟩
  | .hbm, ⟨40, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== MixFwd.lean ====
abbrev S1x8192x3592 : Shape := ⟨3, ![1, 8192, 3592]⟩
abbrev S1x8 : Shape := ⟨2, ![1, 8]⟩
abbrev S1x4x1024 : Shape := ⟨3, ![1, 4, 1024]⟩
abbrev S1x1024 : Shape := ⟨2, ![1, 1024]⟩
abbrev S1x4x128x128 : Shape := ⟨4, ![1, 4, 128, 128]⟩
abbrev S1x512 : Shape := ⟨2, ![1, 512]⟩
abbrev S8192x3592 : Shape := ⟨2, ![8192, 3592]⟩
abbrev S8192x8 : Shape := ⟨2, ![8192, 8]⟩
abbrev S_ : Shape := ⟨0, ![]⟩
abbrev S8192x128 : Shape := ⟨2, ![8192, 128]⟩
abbrev S1x128 : Shape := ⟨2, ![1, 128]⟩
abbrev S4x1024 : Shape := ⟨2, ![4, 1024]⟩
abbrev S8x1024 : Shape := ⟨2, ![8, 1024]⟩
abbrev S8192x3584 : Shape := ⟨2, ![8192, 3584]⟩
abbrev S4x128x128 : Shape := ⟨3, ![4, 128, 128]⟩
abbrev S8192x1024 : Shape := ⟨2, ![8192, 1024]⟩
abbrev S64x4x128x128 : Shape := ⟨4, ![64, 4, 128, 128]⟩
abbrev S64x8x128 : Shape := ⟨3, ![64, 8, 128]⟩
abbrev S8192x512 : Shape := ⟨2, ![8192, 512]⟩
abbrev S512x1024 : Shape := ⟨2, ![512, 1024]⟩
abbrev S512x512 : Shape := ⟨2, ![512, 512]⟩
abbrev S16x512 : Shape := ⟨2, ![16, 512]⟩
abbrev S512x128 : Shape := ⟨2, ![512, 128]⟩
abbrev S4x4x128x128 : Shape := ⟨4, ![4, 4, 128, 128]⟩
abbrev S4x8x128 : Shape := ⟨3, ![4, 8, 128]⟩
abbrev S8x128 : Shape := ⟨2, ![8, 128]⟩
abbrev S520x1024 : Shape := ⟨2, ![520, 1024]⟩
abbrev S528x512 : Shape := ⟨2, ![528, 512]⟩
abbrev S528x128 : Shape := ⟨2, ![528, 128]⟩
abbrev S512x1 : Shape := ⟨2, ![512, 1]⟩
abbrev S1x128x128 : Shape := ⟨3, ![1, 128, 128]⟩
abbrev S128x128 : Shape := ⟨2, ![128, 128]⟩
abbrev S1x256 : Shape := ⟨2, ![1, 256]⟩
abbrev S520x256 : Shape := ⟨2, ![520, 256]⟩
abbrev S512x256 : Shape := ⟨2, ![512, 256]⟩
abbrev S1x1 : Shape := ⟨2, ![1, 1]⟩
abbrev S1x8x128 : Shape := ⟨3, ![1, 8, 128]⟩
abbrev S1x1x128x128 : Shape := ⟨4, ![1, 1, 128, 128]⟩
abbrev S1x1x128 : Shape := ⟨3, ![1, 1, 128]⟩
abbrev S128x1 : Shape := ⟨2, ![128, 1]⟩
abbrev S1 : Shape := ⟨1, ![1]⟩
abbrev S128 : Shape := ⟨1, ![128]⟩

abbrev nBuf : Space → Nat
  | .hbm => 27
  | .vmem => 39
  | .smem => 0
  | _ => 0

abbrev bufTy : (tb : Table) → Fin (tcTables nBuf tb) → BufTy
  | .hbm, ⟨0, _⟩ => ⟨S1x8192x3592, .f32⟩
  | .hbm, ⟨1, _⟩ => ⟨S1x8, .f32⟩
  | .hbm, ⟨2, _⟩ => ⟨S1x4x1024, .f32⟩
  | .hbm, ⟨3, _⟩ => ⟨S1x1024, .f32⟩
  | .hbm, ⟨4, _⟩ => ⟨S1x4x128x128, .f32⟩
  | .hbm, ⟨5, _⟩ => ⟨S1x512, .f32⟩
  | .hbm, ⟨6, _⟩ => ⟨S1x512, .f32⟩
  | .hbm, ⟨7, _⟩ => ⟨S8192x3592, .f32⟩
  | .hbm, ⟨8, _⟩ => ⟨S8192x8, .f32⟩
  | .hbm, ⟨9, _⟩ => ⟨S_, .i32⟩
  | .hbm, ⟨10, _⟩ => ⟨S_, .f32⟩
  | .hbm, ⟨11, _⟩ => ⟨S8192x128, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S4x1024, .f32⟩
  | .hbm, ⟨16, _⟩ => ⟨S_, .i32⟩
  | .hbm, ⟨17, _⟩ => ⟨S_, .f32⟩
  | .hbm, ⟨18, _⟩ => ⟨S8x1024, .f32⟩
  | .hbm, ⟨19, _⟩ => ⟨S8192x3584, .f32⟩
  | .hbm, ⟨20, _⟩ => ⟨S4x128x128, .f32⟩
  | .hbm, ⟨21, _⟩ => ⟨S8192x1024, .bf16⟩
  | .hbm, ⟨22, _⟩ => ⟨S64x4x128x128, .f32⟩
  | .hbm, ⟨23, _⟩ => ⟨S64x8x128, .f32⟩
  | .hbm, ⟨24, _⟩ => ⟨S64x8x128, .f32⟩
  | .hbm, ⟨25, _⟩ => ⟨S8192x1024, .f32⟩
  | .hbm, ⟨26, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S16x512, .f32⟩
  | .local _ .vmem, ⟨11, _⟩ => ⟨S16x512, .f32⟩
  | .local _ .vmem, ⟨12, _⟩ => ⟨S8x1024, .f32⟩
  | .local _ .vmem, ⟨13, _⟩ => ⟨S8x1024, .f32⟩
  | .local _ .vmem, ⟨14, _⟩ => ⟨S512x128, .f32⟩
  | .local _ .vmem, ⟨15, _⟩ => ⟨S512x128, .f32⟩
  | .local _ .vmem, ⟨16, _⟩ => ⟨S1x128, .f32⟩
  | .local _ .vmem, ⟨17, _⟩ => ⟨S8x1024, .f32⟩
  | .local _ .vmem, ⟨18, _⟩ => ⟨S1x1024, .f32⟩
  | .local _ .vmem, ⟨19, _⟩ => ⟨S4x128x128, .f32⟩
  | .local _ .vmem, ⟨20, _⟩ => ⟨S1x512, .f32⟩
  | .local _ .vmem, ⟨21, _⟩ => ⟨S1x512, .f32⟩
  | .local _ .vmem, ⟨22, _⟩ => ⟨S512x1024, .bf16⟩
  | .local _ .vmem, ⟨23, _⟩ => ⟨S512x1024, .bf16⟩
  | .local _ .vmem, ⟨24, _⟩ => ⟨S4x4x128x128, .f32⟩
  | .local _ .vmem, ⟨25, _⟩ => ⟨S4x4x128x128, .f32⟩
  | .local _ .vmem, ⟨26, _⟩ => ⟨S4x8x128, .f32⟩
  | .local _ .vmem, ⟨27, _⟩ => ⟨S4x8x128, .f32⟩
  | .local _ .vmem, ⟨28, _⟩ => ⟨S4x8x128, .f32⟩
  | .local _ .vmem, ⟨29, _⟩ => ⟨S4x8x128, .f32⟩
  | .local _ .vmem, ⟨30, _⟩ => ⟨S512x1024, .f32⟩
  | .local _ .vmem, ⟨31, _⟩ => ⟨S512x1024, .f32⟩
  | .local _ .vmem, ⟨32, _⟩ => ⟨S512x512, .bf16⟩
  | .local _ .vmem, ⟨33, _⟩ => ⟨S512x512, .bf16⟩
  | .local _ .vmem, ⟨34, _⟩ => ⟨S4x128x128, .f32⟩
  | .local _ .vmem, ⟨35, _⟩ => ⟨S8x128, .f32⟩
  | .local _ .vmem, ⟨36, _⟩ => ⟨S8x128, .f32⟩
  | .local _ .vmem, ⟨37, _⟩ => ⟨S520x1024, .f32⟩
  | .local _ .vmem, ⟨38, _⟩ => ⟨S528x512, .f32⟩
  | _, _ => ⟨S1x8192x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x4x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MixFwdRefIdeal.lean ====
abbrev S1x8192x3592 : Shape := ⟨3, ![1, 8192, 3592]⟩
abbrev S1x8 : Shape := ⟨2, ![1, 8]⟩
abbrev S1x4x1024 : Shape := ⟨3, ![1, 4, 1024]⟩
abbrev S1x1024 : Shape := ⟨2, ![1, 1024]⟩
abbrev S1x4x128x128 : Shape := ⟨4, ![1, 4, 128, 128]⟩
abbrev S1x512 : Shape := ⟨2, ![1, 512]⟩
abbrev S1x8192x512 : Shape := ⟨3, ![1, 8192, 512]⟩
abbrev S4x128x128 : Shape := ⟨3, ![4, 128, 128]⟩
abbrev S512 : Shape := ⟨1, ![512]⟩
abbrev S1x8192x4x128 : Shape := ⟨4, ![1, 8192, 4, 128]⟩
abbrev S_ : Shape := ⟨0, ![]⟩
abbrev S8192 : Shape := ⟨1, ![8192]⟩
abbrev S1x8192x1x128 : Shape := ⟨4, ![1, 8192, 1, 128]⟩
abbrev S1x8192x128 : Shape := ⟨3, ![1, 8192, 128]⟩
abbrev S1x2x128 : Shape := ⟨3, ![1, 2, 128]⟩
abbrev S1x8190x128 : Shape := ⟨3, ![1, 8190, 128]⟩
abbrev S1x8192x1 : Shape := ⟨3, ![1, 8192, 1]⟩
abbrev S1x4x128 : Shape := ⟨3, ![1, 4, 128]⟩
abbrev S1x8188x128 : Shape := ⟨3, ![1, 8188, 128]⟩
abbrev S1x8x128 : Shape := ⟨3, ![1, 8, 128]⟩
abbrev S1x8184x128 : Shape := ⟨3, ![1, 8184, 128]⟩
abbrev S1x16x128 : Shape := ⟨3, ![1, 16, 128]⟩
abbrev S1x8176x128 : Shape := ⟨3, ![1, 8176, 128]⟩
abbrev S4x128x1x8192 : Shape := ⟨4, ![4, 128, 1, 8192]⟩
abbrev S1x1x512 : Shape := ⟨3, ![1, 1, 512]⟩
abbrev S1x8192x1024 : Shape := ⟨3, ![1, 8192, 1024]⟩
abbrev S4x1024 : Shape := ⟨2, ![4, 1024]⟩
abbrev S1024 : Shape := ⟨1, ![1024]⟩
abbrev S1x8195x1024 : Shape := ⟨3, ![1, 8195, 1024]⟩
abbrev S1x1x1024 : Shape := ⟨3, ![1, 1, 1024]⟩
abbrev S8192x512 : Shape := ⟨2, ![8192, 512]⟩
abbrev S8192x1024 : Shape := ⟨2, ![8192, 1024]⟩

abbrev nBuf : Space → Nat
  | .hbm => 225
  | .vmem => 0
  | .smem => 0
  | _ => 0

abbrev hbmTy0_0 (i : Nat) : BufTy := match i % 128 with
  | 0 => ⟨S1x8192x3592, .f32⟩
  | 1 => ⟨S1x8, .f32⟩
  | 2 => ⟨S1x4x1024, .f32⟩
  | 3 => ⟨S1x1024, .f32⟩
  | 4 => ⟨S1x4x128x128, .f32⟩
  | 5 => ⟨S1x512, .f32⟩
  | 6 => ⟨S1x512, .f32⟩
  | 7 => ⟨S1x8192x512, .f32⟩
  | 8 => ⟨S1x8192x512, .f32⟩
  | 9 => ⟨S4x128x128, .f32⟩
  | 10 => ⟨S512, .f32⟩
  | 11 => ⟨S1x8192x4x128, .f32⟩
  | 12 => ⟨S_, .f32⟩
  | 13 => ⟨S_, .f32⟩
  | 14 => ⟨S1x8192x4x128, .f32⟩
  | 15 => ⟨S8192, .f32⟩
  | 16 => ⟨S_, .f32⟩
  | 17 => ⟨S8192, .f32⟩
  | 18 => ⟨S8192, .f32⟩
  | 19 => ⟨S1x8192x1x128, .f32⟩
  | 20 => ⟨S1x8192x128, .f32⟩
  | 21 => ⟨S_, .f32⟩
  | 22 => ⟨S1x2x128, .f32⟩
  | 23 => ⟨S1x8190x128, .f32⟩
  | 24 => ⟨S1x8192x128, .f32⟩
  | 25 => ⟨S1x8192x128, .f32⟩
  | 26 => ⟨S_, .f32⟩
  | 27 => ⟨S8192, .f32⟩
  | 28 => ⟨S8192, .f32⟩
  | 29 => ⟨S1x8192x1, .f32⟩
  | 30 => ⟨S1x8192x128, .f32⟩
  | 31 => ⟨S1x8192x128, .f32⟩
  | 32 => ⟨S1x8192x1x128, .f32⟩
  | 33 => ⟨S1x8192x128, .f32⟩
  | 34 => ⟨S1x8192x128, .f32⟩
  | 35 => ⟨S1x8192x1x128, .f32⟩
  | 36 => ⟨S1x8192x128, .f32⟩
  | 37 => ⟨S_, .f32⟩
  | 38 => ⟨S1x4x128, .f32⟩
  | 39 => ⟨S1x8188x128, .f32⟩
  | 40 => ⟨S1x8192x128, .f32⟩
  | 41 => ⟨S1x8192x128, .f32⟩
  | 42 => ⟨S_, .f32⟩
  | 43 => ⟨S8192, .f32⟩
  | 44 => ⟨S8192, .f32⟩
  | 45 => ⟨S1x8192x1, .f32⟩
  | 46 => ⟨S1x8192x128, .f32⟩
  | 47 => ⟨S1x8192x128, .f32⟩
  | 48 => ⟨S1x8192x1x128, .f32⟩
  | 49 => ⟨S1x8192x128, .f32⟩
  | 50 => ⟨S1x8192x128, .f32⟩
  | 51 => ⟨S1x8192x1x128, .f32⟩
  | 52 => ⟨S1x8192x128, .f32⟩
  | 53 => ⟨S_, .f32⟩
  | 54 => ⟨S1x8x128, .f32⟩
  | 55 => ⟨S1x8184x128, .f32⟩
  | 56 => ⟨S1x8192x128, .f32⟩
  | 57 => ⟨S1x8192x128, .f32⟩
  | 58 => ⟨S_, .f32⟩
  | 59 => ⟨S8192, .f32⟩
  | 60 => ⟨S8192, .f32⟩
  | 61 => ⟨S1x8192x1, .f32⟩
  | 62 => ⟨S1x8192x128, .f32⟩
  | 63 => ⟨S1x8192x128, .f32⟩
  | 64 => ⟨S1x8192x1x128, .f32⟩
  | 65 => ⟨S1x8192x128, .f32⟩
  | 66 => ⟨S1x8192x128, .f32⟩
  | 67 => ⟨S1x8192x1x128, .f32⟩
  | 68 => ⟨S1x8192x128, .f32⟩
  | 69 => ⟨S_, .f32⟩
  | 70 => ⟨S1x16x128, .f32⟩
  | 71 => ⟨S1x8176x128, .f32⟩
  | 72 => ⟨S1x8192x128, .f32⟩
  | 73 => ⟨S1x8192x128, .f32⟩
  | 74 => ⟨S_, .f32⟩
  | 75 => ⟨S8192, .f32⟩
  | 76 => ⟨S8192, .f32⟩
  | 77 => ⟨S1x8192x1, .f32⟩
  | 78 => ⟨S1x8192x128, .f32⟩
  | 79 => ⟨S1x8192x128, .f32⟩
  | 80 => ⟨S1x8192x1x128, .f32⟩
  | 81 => ⟨S1x8192x128, .f32⟩
  | 82 => ⟨S1x8192x128, .f32⟩
  | 83 => ⟨S1x8192x1x128, .f32⟩
  | 84 => ⟨S1x8192x1x128, .f32⟩
  | 85 => ⟨S1x8192x1x128, .f32⟩
  | 86 => ⟨S1x8192x1x128, .f32⟩
  | 87 => ⟨S1x8192x4x128, .f32⟩
  | 88 => ⟨S4x128x1x8192, .f32⟩
  | 89 => ⟨S1x8192x4x128, .f32⟩
  | 90 => ⟨S1x8192x512, .f32⟩
  | 91 => ⟨S1x1x512, .f32⟩
  | 92 => ⟨S1x8192x512, .f32⟩
  | 93 => ⟨S1x8192x512, .f32⟩
  | 94 => ⟨S1x8192x512, .f32⟩
  | 95 => ⟨S1x8192x512, .f32⟩
  | 96 => ⟨S_, .f32⟩
  | 97 => ⟨S1x8192x512, .f32⟩
  | 98 => ⟨S1x8192x512, .f32⟩
  | 99 => ⟨S_, .f32⟩
  | 100 => ⟨S1x8192x512, .f32⟩
  | 101 => ⟨S1x8192x512, .f32⟩
  | 102 => ⟨S1x8192x512, .f32⟩
  | 103 => ⟨S1x8192x512, .f32⟩
  | 104 => ⟨S1x8192x1024, .f32⟩
  | 105 => ⟨S4x1024, .f32⟩
  | 106 => ⟨S1024, .f32⟩
  | 107 => ⟨S_, .i32⟩
  | 108 => ⟨S_, .f32⟩
  | 109 => ⟨S1x8195x1024, .f32⟩
  | 110 => ⟨S1x1024, .f32⟩
  | 111 => ⟨S1024, .f32⟩
  | 112 => ⟨S1x8192x1024, .f32⟩
  | 113 => ⟨S1x1x1024, .f32⟩
  | 114 => ⟨S1x8192x1024, .f32⟩
  | 115 => ⟨S1x8192x1024, .f32⟩
  | 116 => ⟨S1x1x1024, .f32⟩
  | 117 => ⟨S1x8192x1024, .f32⟩
  | 118 => ⟨S1x8192x1024, .f32⟩
  | 119 => ⟨S1x1024, .f32⟩
  | 120 => ⟨S1024, .f32⟩
  | 121 => ⟨S1x8192x1024, .f32⟩
  | 122 => ⟨S1x1x1024, .f32⟩
  | 123 => ⟨S1x8192x1024, .f32⟩
  | 124 => ⟨S1x8192x1024, .f32⟩
  | 125 => ⟨S1x8192x1024, .f32⟩
  | 126 => ⟨S1x1024, .f32⟩
  | 127 => ⟨S1024, .f32⟩
  | _ => ⟨S1x8192x3592, .f32⟩

abbrev hbmTy0_1 (i : Nat) : BufTy := match i % 128 with
  | 0 => ⟨S1x8192x1024, .f32⟩
  | 1 => ⟨S1x1x1024, .f32⟩
  | 2 => ⟨S1x8192x1024, .f32⟩
  | 3 => ⟨S1x8192x1024, .f32⟩
  | 4 => ⟨S1x8192x1024, .f32⟩
  | 5 => ⟨S1x1024, .f32⟩
  | 6 => ⟨S1024, .f32⟩
  | 7 => ⟨S1x8192x1024, .f32⟩
  | 8 => ⟨S1x1x1024, .f32⟩
  | 9 => ⟨S1x8192x1024, .f32⟩
  | 10 => ⟨S1x8192x1024, .f32⟩
  | 11 => ⟨S1x8192x1024, .f32⟩
  | 12 => ⟨S8192x512, .f32⟩
  | 13 => ⟨S_, .f32⟩
  | 14 => ⟨S8192x512, .f32⟩
  | 15 => ⟨S8192x1024, .f32⟩
  | 16 => ⟨S8192x1024, .bf16⟩
  | 17 => ⟨S8192x1024, .f32⟩
  | 18 => ⟨S1x8192x4x128, .f32⟩
  | 19 => ⟨S_, .f32⟩
  | 20 => ⟨S_, .f32⟩
  | 21 => ⟨S1x8192x4x128, .f32⟩
  | 22 => ⟨S8192, .f32⟩
  | 23 => ⟨S_, .f32⟩
  | 24 => ⟨S8192, .f32⟩
  | 25 => ⟨S8192, .f32⟩
  | 26 => ⟨S1x8192x1x128, .f32⟩
  | 27 => ⟨S1x8192x128, .f32⟩
  | 28 => ⟨S_, .f32⟩
  | 29 => ⟨S1x2x128, .f32⟩
  | 30 => ⟨S1x8190x128, .f32⟩
  | 31 => ⟨S1x8192x128, .f32⟩
  | 32 => ⟨S1x8192x128, .f32⟩
  | 33 => ⟨S_, .f32⟩
  | 34 => ⟨S8192, .f32⟩
  | 35 => ⟨S8192, .f32⟩
  | 36 => ⟨S1x8192x1, .f32⟩
  | 37 => ⟨S1x8192x128, .f32⟩
  | 38 => ⟨S1x8192x128, .f32⟩
  | 39 => ⟨S1x8192x1x128, .f32⟩
  | 40 => ⟨S1x8192x128, .f32⟩
  | 41 => ⟨S1x8192x128, .f32⟩
  | 42 => ⟨S1x8192x1x128, .f32⟩
  | 43 => ⟨S1x8192x128, .f32⟩
  | 44 => ⟨S_, .f32⟩
  | 45 => ⟨S1x4x128, .f32⟩
  | 46 => ⟨S1x8188x128, .f32⟩
  | 47 => ⟨S1x8192x128, .f32⟩
  | 48 => ⟨S1x8192x128, .f32⟩
  | 49 => ⟨S_, .f32⟩
  | 50 => ⟨S8192, .f32⟩
  | 51 => ⟨S8192, .f32⟩
  | 52 => ⟨S1x8192x1, .f32⟩
  | 53 => ⟨S1x8192x128, .f32⟩
  | 54 => ⟨S1x8192x128, .f32⟩
  | 55 => ⟨S1x8192x1x128, .f32⟩
  | 56 => ⟨S1x8192x128, .f32⟩
  | 57 => ⟨S1x8192x128, .f32⟩
  | 58 => ⟨S1x8192x1x128, .f32⟩
  | 59 => ⟨S1x8192x128, .f32⟩
  | 60 => ⟨S_, .f32⟩
  | 61 => ⟨S1x8x128, .f32⟩
  | 62 => ⟨S1x8184x128, .f32⟩
  | 63 => ⟨S1x8192x128, .f32⟩
  | 64 => ⟨S1x8192x128, .f32⟩
  | 65 => ⟨S_, .f32⟩
  | 66 => ⟨S8192, .f32⟩
  | 67 => ⟨S8192, .f32⟩
  | 68 => ⟨S1x8192x1, .f32⟩
  | 69 => ⟨S1x8192x128, .f32⟩
  | 70 => ⟨S1x8192x128, .f32⟩
  | 71 => ⟨S1x8192x1x128, .f32⟩
  | 72 => ⟨S1x8192x128, .f32⟩
  | 73 => ⟨S1x8192x128, .f32⟩
  | 74 => ⟨S1x8192x1x128, .f32⟩
  | 75 => ⟨S1x8192x128, .f32⟩
  | 76 => ⟨S_, .f32⟩
  | 77 => ⟨S1x16x128, .f32⟩
  | 78 => ⟨S1x8176x128, .f32⟩
  | 79 => ⟨S1x8192x128, .f32⟩
  | 80 => ⟨S1x8192x128, .f32⟩
  | 81 => ⟨S_, .f32⟩
  | 82 => ⟨S8192, .f32⟩
  | 83 => ⟨S8192, .f32⟩
  | 84 => ⟨S1x8192x1, .f32⟩
  | 85 => ⟨S1x8192x128, .f32⟩
  | 86 => ⟨S1x8192x128, .f32⟩
  | 87 => ⟨S1x8192x1x128, .f32⟩
  | 88 => ⟨S1x8192x128, .f32⟩
  | 89 => ⟨S1x8192x128, .f32⟩
  | 90 => ⟨S1x8192x1x128, .f32⟩
  | 91 => ⟨S1x8192x1x128, .f32⟩
  | 92 => ⟨S1x8192x1x128, .f32⟩
  | 93 => ⟨S1x8192x1x128, .f32⟩
  | 94 => ⟨S1x8192x4x128, .f32⟩
  | 95 => ⟨S8192x512, .f32⟩
  | 96 => ⟨S8192x512, .bf16⟩
  | _ => ⟨S1x8192x3592, .f32⟩

abbrev hbmTy (i : Nat) : BufTy := match i / 128 with
  | 0 => hbmTy0_0 i
  | 1 => hbmTy0_1 i
  | _ => ⟨S1x8192x3592, .f32⟩

abbrev bufTy : (tb : Table) → Fin (tcTables nBuf tb) → BufTy
  | .hbm, ⟨i, _⟩ => hbmTy i
  | _, _ => ⟨S1x8192x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_call0_cst : Ref sig .tc := ⟨.hbm, 12, rfl⟩
abbrev main_call0_call0_v0 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c : Ref sig .tc := ⟨.hbm, 107, rfl⟩
abbrev main_call2_v0 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_8 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_call3_call0_cst : Ref sig .tc := ⟨.hbm, 147, rfl⟩
abbrev main_call3_call0_v0 : Ref sig .tc := ⟨.hbm, 148, rfl⟩
abbrev main_v118 : Ref sig .tc := ⟨.hbm, 149, rfl⟩
abbrev main_v119 : Ref sig .tc := ⟨.hbm, 150, rfl⟩
abbrev main_cst_9 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_10 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_11 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_12 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_13 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_14 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_cst_15 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_cst_16 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_cst_17 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩

abbrev nD : Nat := 1
abbrev τ : Topo := Topo.v7x

variable {F : FTy → Type} [FloatOps F]
-- ==== DwIn.lean ====
abbrev S1x8192x1024 : Shape := ⟨3, ![1, 8192, 1024]⟩
abbrev S1x1024 : Shape := ⟨2, ![1, 1024]⟩
abbrev S1x1024x3592 : Shape := ⟨3, ![1, 1024, 3592]⟩
abbrev S1x8192x3592 : Shape := ⟨3, ![1, 8192, 3592]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x3592 : Shape := ⟨2, ![8192, 3592]⟩
abbrev S8192x3840 : Shape := ⟨2, ![8192, 3840]⟩
abbrev S8192x1024 : Shape := ⟨2, ![8192, 1024]⟩
abbrev S3840x1024 : Shape := ⟨2, ![3840, 1024]⟩
abbrev S4096x1024 : Shape := ⟨2, ![4096, 1024]⟩
abbrev S4096x768 : Shape := ⟨2, ![4096, 768]⟩
abbrev S768x1024 : Shape := ⟨2, ![768, 1024]⟩

abbrev nBuf : Space → Nat
  | .hbm => 40
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x3592, .f32⟩
  | .hbm, ⟨5, _⟩ => ⟨S1x8192x3592, .f32⟩
  | .hbm, ⟨6, _⟩ => ⟨S1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x8192x1024, .f32⟩
  | .hbm, ⟨28, _⟩ => ⟨S1x8192x1024, .f32⟩
  | .hbm, ⟨29, _⟩ => ⟨S1x1x1024, .f32⟩
  | .hbm, ⟨30, _⟩ => ⟨S1x8192x1024, .f32⟩
  | .hbm, ⟨31, _⟩ => ⟨S1x8192x1024, .f32⟩
  | .hbm, ⟨32, _⟩ => ⟨S8192x3592, .f32⟩
  | .hbm, ⟨33, _⟩ => ⟨S8192x3592, .bf16⟩
  | .hbm, ⟨34, _⟩ => ⟨S_, .i32⟩
  | .hbm, ⟨35, _⟩ => ⟨S_, .bf16⟩
  | .hbm, ⟨36, _⟩ => ⟨S8192x3840, .bf16⟩
  | .hbm, ⟨37, _⟩ => ⟨S8192x1024, .f32⟩
  | .hbm, ⟨38, _⟩ => ⟨S8192x1024, .bf16⟩
  | .hbm, ⟨39, _⟩ => ⟨S3840x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S1x8192x1024 : Shape := ⟨3, ![1, 8192, 1024]⟩
abbrev S1x1024 : Shape := ⟨2, ![1, 1024]⟩
abbrev S1x1024x3592 : Shape := ⟨3, ![1, 1024, 3592]⟩
abbrev S1x8192x3592 : Shape := ⟨3, ![1, 8192, 3592]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3592 : Shape := ⟨2, ![1024, 3592]⟩
abbrev S3592x1024 : Shape := ⟨2, ![3592, 1024]⟩
abbrev S3840x1024 : Shape := ⟨2, ![3840, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x3592, .f32⟩
  | .hbm, ⟨5, _⟩ => ⟨S1x8192x3592, .f32⟩
  | .hbm, ⟨6, _⟩ => ⟨S1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x8192x1024, .f32⟩
  | .hbm, ⟨28, _⟩ => ⟨S1x8192x1024, .f32⟩
  | .hbm, ⟨29, _⟩ => ⟨S1x1x1024, .f32⟩
  | .hbm, ⟨30, _⟩ => ⟨S1x8192x1024, .f32⟩
  | .hbm, ⟨31, _⟩ => ⟨S1x8192x1024, .f32⟩
  | .hbm, ⟨32, _⟩ => ⟨S1024x3592, .f32⟩
  | .hbm, ⟨33, _⟩ => ⟨S1x8192x3592, .f32⟩
  | .hbm, ⟨34, _⟩ => ⟨S3592x1024, .f32⟩
  | .hbm, ⟨35, _⟩ => ⟨S1024x3592, .f32⟩
  | .hbm, ⟨36, _⟩ => ⟨S1x1024x3592, .f32⟩
  | .hbm, ⟨37, _⟩ => ⟨S1024x3592, .f32⟩
  | .hbm, ⟨38, _⟩ => ⟨S3592x1024, .f32⟩
  | .hbm, ⟨39, _⟩ => ⟨S_, .i32⟩
  | .hbm, ⟨40, _⟩ => ⟨S_, .f32⟩
  | .hbm, ⟨41, _⟩ => ⟨S3840x1024, .f32⟩
  | .hbm, ⟨42, _⟩ => ⟨S3840x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== AdamAda.lean ====
abbrev S8x1024 : Shape := ⟨2, ![8, 1024]⟩
abbrev S8x384 : Shape := ⟨2, ![8, 384]⟩
abbrev S1x1024x384 : Shape := ⟨3, ![1, 1024, 384]⟩
abbrev S_ : Shape := ⟨0, ![]⟩
abbrev S16x1024 : Shape := ⟨2, ![16, 1024]⟩
abbrev S16x384 : Shape := ⟨2, ![16, 384]⟩
abbrev S1024x384 : Shape := ⟨2, ![1024, 384]⟩

abbrev nBuf : Space → Nat
  | .hbm => 27
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1x1024x384, .f32⟩
  | .hbm, ⟨3, _⟩ => ⟨S1x1024x384, .f32⟩
  | .hbm, ⟨4, _⟩ => ⟨S1x1024x384, .f32⟩
  | .hbm, ⟨5, _⟩ => ⟨S_, .f32⟩
  | .hbm, ⟨6, _⟩ => ⟨S8x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S_, .i32⟩
  | .hbm, ⟨18, _⟩ => ⟨S_, .f32⟩
  | .hbm, ⟨19, _⟩ => ⟨S16x384, .f32⟩
  | .hbm, ⟨20, _⟩ => ⟨S1024x384, .f32⟩
  | .hbm, ⟨21, _⟩ => ⟨S1024x384, .f32⟩
  | .hbm, ⟨22, _⟩ => ⟨S1024x384, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S1024x384, .f32⟩
  | .local _ .vmem, ⟨0, _⟩ => ⟨S16x1024, .f32⟩
  | .local _ .vmem, ⟨1, _⟩ => ⟨S16x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AdamAdaRefIdeal.lean ====
abbrev S8x1024 : Shape := ⟨2, ![8, 1024]⟩
abbrev S8x384 : Shape := ⟨2, ![8, 384]⟩
abbrev S1x1024x384 : Shape := ⟨3, ![1, 1024, 384]⟩
abbrev S_ : Shape := ⟨0, ![]⟩
abbrev S1024x384 : Shape := ⟨2, ![1024, 384]⟩
abbrev S384x1024 : Shape := ⟨2, ![384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1x1024x384, .f32⟩
  | .hbm, ⟨3, _⟩ => ⟨S1x1024x384, .f32⟩
  | .hbm, ⟨4, _⟩ => ⟨S1x1024x384, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x384, .f32⟩
  | .hbm, ⟨15, _⟩ => ⟨S8x384, .f32⟩
  | .hbm, ⟨16, _⟩ => ⟨S384x1024, .f32⟩
  | .hbm, ⟨17, _⟩ => ⟨S1024x384, .f32⟩
  | .hbm, ⟨18, _⟩ => ⟨S1x1024x384, .f32⟩
  | .hbm, ⟨19, _⟩ => ⟨S1024x384, .f32⟩
  | .hbm, ⟨20, _⟩ => ⟨S_, .f32⟩
  | .hbm, ⟨21, _⟩ => ⟨S1x1024x384, .f32⟩
  | .hbm, ⟨22, _⟩ => ⟨S1x1024x384, .f32⟩
  | .hbm, ⟨23, _⟩ => ⟨S_, .f32⟩
  | .hbm, ⟨24, _⟩ => ⟨S1x1024x384, .f32⟩
  | .hbm, ⟨25, _⟩ => ⟨S1x1024x384, .f32⟩
  | .hbm, ⟨26, _⟩ => ⟨S1x1024x384, .f32⟩
  | .hbm, ⟨27, _⟩ => ⟨S_, .f32⟩
  | .hbm, ⟨28, _⟩ => ⟨S1x1024x384, .f32⟩
  | .hbm, ⟨29, _⟩ => ⟨S1x1024x384, .f32⟩
  | .hbm, ⟨30, _⟩ => ⟨S1x1024x384, .f32⟩
  | .hbm, ⟨31, _⟩ => ⟨S_, .f32⟩
  | .hbm, ⟨32, _⟩ => ⟨S1x1024x384, .f32⟩
  | .hbm, ⟨33, _⟩ => ⟨S1x1024x384, .f32⟩
  | .hbm, ⟨34, _⟩ => ⟨S1x1024x384, .f32⟩
  | .hbm, ⟨35, _⟩ => ⟨S_, .f32⟩
  | .hbm, ⟨36, _⟩ => ⟨S1x1024x384, .f32⟩
  | .hbm, ⟨37, _⟩ => ⟨S1x1024x384, .f32⟩
  | .hbm, ⟨38, _⟩ => ⟨S_, .f32⟩
  | .hbm, ⟨39, _⟩ => ⟨S1x1024x384, .f32⟩
  | .hbm, ⟨40, _⟩ => ⟨S1x1024x384, .f32⟩
  | .hbm, ⟨41, _⟩ => ⟨S1x1024x384, .f32⟩
  | .hbm, ⟨42, _⟩ => ⟨S_, .f32⟩
  | .hbm, ⟨43, _⟩ => ⟨S1x1024x384, .f32⟩
  | .hbm, ⟨44, _⟩ => ⟨S1x1024x384, .f32⟩
  | .hbm, ⟨45, _⟩ => ⟨S1x1024x384, .f32⟩
  | .hbm, ⟨46, _⟩ => ⟨S_, .f32⟩
  | .hbm, ⟨47, _⟩ => ⟨S1x1024x384, .f32⟩
  | .hbm, ⟨48, _⟩ => ⟨S1x1024x384, .f32⟩
  | .hbm, ⟨49, _⟩ => ⟨S1x1024x384, .f32⟩
  | .hbm, ⟨50, _⟩ => ⟨S_, .f32⟩
  | .hbm, ⟨51, _⟩ => ⟨S1x1024x384, .f32⟩
  | .hbm, ⟨52, _⟩ => ⟨S1x1024x384, .f32⟩
  | .hbm, ⟨53, _⟩ => ⟨S1024x384, .f32⟩
  | .hbm, ⟨54, _⟩ => ⟨S1024x384, .f32⟩
  | .hbm, ⟨55, _⟩ => ⟨S1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== AdamSum.lean ====
abbrev S8x4x128 : Shape := ⟨3, ![8, 4, 128]⟩
abbrev S1x4x128 : Shape := ⟨3, ![1, 4, 128]⟩
abbrev S4x128 : Shape := ⟨2, ![4, 128]⟩

abbrev nBuf : Space → Nat
  | .hbm => 11
  | .vmem => 8
  | .smem => 0
  | _ => 0

abbrev bufTy : (tb : Table) → Fin (tcTables nBuf tb) → BufTy
  | .hbm, ⟨0, _⟩ => ⟨S8x4x128, .f32⟩
  | .hbm, ⟨1, _⟩ => ⟨S1x4x128, .f32⟩
  | .hbm, ⟨2, _⟩ => ⟨S1x4x128, .f32⟩
  | .hbm, ⟨3, _⟩ => ⟨S1x4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128, .f32⟩
  | .hbm, ⟨10, _⟩ => ⟨S4x128, .f32⟩
  | .local _ .vmem, ⟨0, _⟩ => ⟨S8x4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S8x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSumRefIdeal.lean ====
abbrev S8x4x128 : Shape := ⟨3, ![8, 4, 128]⟩
abbrev S1x4x128 : Shape := ⟨3, ![1, 4, 128]⟩
abbrev S_ : Shape := ⟨0, ![]⟩
abbrev S4x128 : Shape := ⟨2, ![4, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x4x128, .f32⟩
  | .hbm, ⟨1, _⟩ => ⟨S1x4x128, .f32⟩
  | .hbm, ⟨2, _⟩ => ⟨S1x4x128, .f32⟩
  | .hbm, ⟨3, _⟩ => ⟨S1x4x128, .f32⟩
  | .hbm, ⟨4, _⟩ => ⟨S_, .f32⟩
  | .hbm, ⟨5, _⟩ => ⟨S4x128, .f32⟩
  | .hbm, ⟨6, _⟩ => ⟨S1x4x128, .f32⟩
  | .hbm, ⟨7, _⟩ => ⟨S4x128, .f32⟩
  | .hbm, ⟨8, _⟩ => ⟨S_, .f32⟩
  | .hbm, ⟨9, _⟩ => ⟨S1x4x128, .f32⟩
  | .hbm, ⟨10, _⟩ => ⟨S1x4x128, .f32⟩
  | .hbm, ⟨11, _⟩ => ⟨S_, .f32⟩
  | .hbm, ⟨12, _⟩ => ⟨S1x4x128, .f32⟩
  | .hbm, ⟨13, _⟩ => ⟨S1x4x128, .f32⟩
  | .hbm, ⟨14, _⟩ => ⟨S1x4x128, .f32⟩
  | .hbm, ⟨15, _⟩ => ⟨S_, .f32⟩
  | .hbm, ⟨16, _⟩ => ⟨S1x4x128, .f32⟩
  | .hbm, ⟨17, _⟩ => ⟨S1x4x128, .f32⟩
  | .hbm, ⟨18, _⟩ => ⟨S1x4x128, .f32⟩
  | .hbm, ⟨19, _⟩ => ⟨S_, .f32⟩
  | .hbm, ⟨20, _⟩ => ⟨S1x4x128, .f32⟩
  | .hbm, ⟨21, _⟩ => ⟨S1x4x128, .f32⟩
  | .hbm, ⟨22, _⟩ => ⟨S1x4x128, .f32⟩
  | .hbm, ⟨23, _⟩ => ⟨S_, .f32⟩
  | .hbm, ⟨24, _⟩ => ⟨S1x4x128, .f32⟩
  | .hbm, ⟨25, _⟩ => ⟨S1x4x128, .f32⟩
  | .hbm, ⟨26, _⟩ => ⟨S_, .f32⟩
  | .hbm, ⟨27, _⟩ => ⟨S1x4x128, .f32⟩
  | .hbm, ⟨28, _⟩ => ⟨S1x4x128, .f32⟩
  | .hbm, ⟨29, _⟩ => ⟨S1x4x128, .f32⟩
  | .hbm, ⟨30, _⟩ => ⟨S_, .f32⟩
  | .hbm, ⟨31, _⟩ => ⟨S1x4x128, .f32⟩
  | .hbm, ⟨32, _⟩ => ⟨S1x4x128, .f32⟩
  | .hbm, ⟨33, _⟩ => ⟨S1x4x128, .f32⟩
  | .hbm, ⟨34, _⟩ => ⟨S_, .f32⟩
  | .hbm, ⟨35, _⟩ => ⟨S1x4x128, .f32⟩
  | .hbm, ⟨36, _⟩ => ⟨S1x4x128, .f32⟩
  | .hbm, ⟨37, _⟩ => ⟨S1x4x128, .f32⟩
  | .hbm, ⟨38, _⟩ => ⟨S_, .f32⟩
  | .hbm, ⟨39, _⟩ => ⟨S1x4x128, .f32⟩
  | .hbm, ⟨40, _⟩ => ⟨S1x4x128, .f32⟩
  | .hbm, ⟨41, _⟩ => ⟨S4x128, .f32⟩
  | .hbm, ⟨42, _⟩ => ⟨S4x128, .f32⟩
  | .hbm, ⟨43, _⟩ => ⟨S4x128, .f32⟩
  | _, _ => ⟨S8x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamOwn.lean ====
abbrev S1 : Shape := ⟨1, ![1]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 12
  | .vmem => 9
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .local _ .vmem, ⟨0, _⟩ => ⟨S8x128x1024, .bf16⟩
  | .local _ .vmem, ⟨1, _⟩ => ⟨S1x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamOwnRefIdeal.lean ====
abbrev S1 : Shape := ⟨1, ![1]⟩
abbrev S8x128x1024 : Shape := ⟨3, ![8, 128, 1024]⟩
abbrev S1x128x1024 : Shape := ⟨3, ![1, 128, 1024]⟩
abbrev S8 : Shape := ⟨1, ![8]⟩
abbrev S8x1x1 : Shape := ⟨3, ![8, 1, 1]⟩
abbrev S_ : Shape := ⟨0, ![]⟩
abbrev S128x1024 : Shape := ⟨2, ![128, 1024]⟩

abbrev nBuf : Space → Nat
  | .hbm => 54
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x128x1024, .bf16⟩
  | .hbm, ⟨2, _⟩ => ⟨S8x128x1024, .bf16⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x128x1024, .i1⟩
  | .hbm, ⟨12, _⟩ => ⟨S8x128x1024, .bf16⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S1x128x1024, .f32⟩
  | .hbm, ⟨17, _⟩ => ⟨S128x1024, .f32⟩
  | .hbm, ⟨18, _⟩ => ⟨S_, .f32⟩
  | .hbm, ⟨19, _⟩ => ⟨S1x128x1024, .f32⟩
  | .hbm, ⟨20, _⟩ => ⟨S1x128x1024, .f32⟩
  | .hbm, ⟨21, _⟩ => ⟨S_, .f32⟩
  | .hbm, ⟨22, _⟩ => ⟨S1x128x1024, .f32⟩
  | .hbm, ⟨23, _⟩ => ⟨S1x128x1024, .f32⟩
  | .hbm, ⟨24, _⟩ => ⟨S1x128x1024, .f32⟩
  | .hbm, ⟨25, _⟩ => ⟨S_, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S_, .f32⟩
  | .hbm, ⟨34, _⟩ => ⟨S1x128x1024, .f32⟩
  | .hbm, ⟨35, _⟩ => ⟨S1x128x1024, .f32⟩
  | .hbm, ⟨36, _⟩ => ⟨S_, .f32⟩
  | .hbm, ⟨37, _⟩ => ⟨S1x128x1024, .f32⟩
  | .hbm, ⟨38, _⟩ => ⟨S1x128x1024, .f32⟩
  | .hbm, ⟨39, _⟩ => ⟨S1x128x1024, .f32⟩
  | .hbm, ⟨40, _⟩ => ⟨S_, .f32⟩
  | .hbm, ⟨41, _⟩ => ⟨S1x128x1024, .f32⟩
  | .hbm, ⟨42, _⟩ => ⟨S1x128x1024, .f32⟩
  | .hbm, ⟨43, _⟩ => ⟨S1x128x1024, .f32⟩
  | .hbm, ⟨44, _⟩ => ⟨S_, .f32⟩
  | .hbm, ⟨45, _⟩ => ⟨S1x128x1024, .f32⟩
  | .hbm, ⟨46, _⟩ => ⟨S1x128x1024, .f32⟩
  | .hbm, ⟨47, _⟩ => ⟨S1x128x1024, .f32⟩
  | .hbm, ⟨48, _⟩ => ⟨S_, .f32⟩
  | .hbm, ⟨49, _⟩ => ⟨S1x128x1024, .f32⟩
  | .hbm, ⟨50, _⟩ => ⟨S1x128x1024, .f32⟩
  | .hbm, ⟨51, _⟩ => ⟨S128x1024, .f32⟩
  | .hbm, ⟨52, _⟩ => ⟨S128x1024, .f32⟩
  | .hbm, ⟨53, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== AdamTile.lean ====
abbrev S1 : Shape := ⟨1, ![1]⟩
abbrev S8x449x1024 : Shape := ⟨3, ![8, 449, 1024]⟩
abbrev S1x1024x449 : Shape := ⟨3, ![1, 1024, 449]⟩
abbrev S1024x449 : Shape := ⟨2, ![1024, 449]⟩
abbrev S449x1024 : Shape := ⟨2, ![449, 1024]⟩
abbrev S8x449x256 : Shape := ⟨3, ![8, 449, 256]⟩
abbrev S1x449x256 : Shape := ⟨3, ![1, 449, 256]⟩
abbrev S449x256 : Shape := ⟨2, ![449, 256]⟩

abbrev nBuf : Space → Nat
  | .hbm => 15
  | .vmem => 18
  | .smem => 1
  | _ => 0

abbrev bufTy : (tb : Table) → Fin (tcTables nBuf tb) → BufTy
  | .hbm, ⟨0, _⟩ => ⟨S8x449x1024, .bf16⟩
  | .hbm, ⟨1, _⟩ => ⟨S8x449x1024, .bf16⟩
  | .hbm, ⟨2, _⟩ => ⟨S1x1024x449, .f32⟩
  | .hbm, ⟨3, _⟩ => ⟨S1x1024x449, .f32⟩
  | .hbm, ⟨4, _⟩ => ⟨S1x1024x449, .f32⟩
  | .hbm, ⟨5, _⟩ => ⟨S1024x449, .f32⟩
  | .hbm, ⟨6, _⟩ => ⟨S449x1024, .f32⟩
  | .hbm, ⟨7, _⟩ => ⟨S1024x449, .f32⟩
  | .hbm, ⟨8, _⟩ => ⟨S449x1024, .f32⟩
  | .hbm, ⟨9, _⟩ => ⟨S1024x449, .f32⟩
  | .hbm, ⟨10, _⟩ => ⟨S449x1024, .f32⟩
  | .hbm, ⟨11, _⟩ => ⟨S449x1024, .f32⟩
  | .hbm, ⟨12, _⟩ => ⟨S449x1024, .f32⟩
  | .hbm, ⟨13, _⟩ => ⟨S449x1024, .f32⟩
  | .hbm, ⟨14, _⟩ => ⟨S449x1024, .f32⟩
  | .local _ .vmem, ⟨0, _⟩ => ⟨S8x449x256, .bf16⟩
  | .local _ .vmem, ⟨1, _⟩ => ⟨S8x449x256, .bf16⟩
  | .local _ .vmem, ⟨2, _⟩ => ⟨S1x449x256, .bf16⟩
  | .local _ .vmem, ⟨3, _⟩ => ⟨S1x449x256, .bf16⟩
  | .local _ .vmem, ⟨4, _⟩ => ⟨S449x256, .f32⟩
  | .local _ .vmem, ⟨5, _⟩ => ⟨S449x256, .f32⟩
  | .local _ .vmem, ⟨6, _⟩ => ⟨S449x256, .f32⟩
  | .local _ .vmem, ⟨7, _⟩ => ⟨S449x256, .f32⟩
  | .local _ .vmem, ⟨8, _⟩ => ⟨S449x256, .f32⟩
  | .local _ .vmem, ⟨9, _⟩ => ⟨S449x256, .f32⟩
  | .local _ .vmem, ⟨10, _⟩ => ⟨S449x256, .f32⟩
  | .local _ .vmem, ⟨11, _⟩ => ⟨S449x256, .f32⟩
  | .local _ .vmem, ⟨12, _⟩ => ⟨S449x256, .f32⟩
  | .local _ .vmem, ⟨13, _⟩ => ⟨S449x256, .f32⟩
  | .local _ .vmem, ⟨14, _⟩ => ⟨S449x256, .f32⟩
  | .local _ .vmem, ⟨15, _⟩ => ⟨S449x256, .f32⟩
  | .local _ .vmem, ⟨16, _⟩ => ⟨S449x256, .f32⟩
  | .local _ .vmem, ⟨17, _⟩ => ⟨S449x256, .f32⟩
  | .local _ .smem, ⟨0, _⟩ => ⟨S1, .i32⟩
  | _, _ => ⟨S8x449x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x449x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x449x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S449x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S449x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S449x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S449x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S449x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S449x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S449x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamTileRefIdeal.lean ====
abbrev S1 : Shape := ⟨1, ![1]⟩
abbrev S8x449x1024 : Shape := ⟨3, ![8, 449, 1024]⟩
abbrev S1x1024x449 : Shape := ⟨3, ![1, 1024, 449]⟩
abbrev S8 : Shape := ⟨1, ![8]⟩
abbrev S8x1x1 : Shape := ⟨3, ![8, 1, 1]⟩
abbrev S_ : Shape := ⟨0, ![]⟩
abbrev S449x1024 : Shape := ⟨2, ![449, 1024]⟩
abbrev S1024x449 : Shape := ⟨2, ![1024, 449]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x449x1024, .bf16⟩
  | .hbm, ⟨2, _⟩ => ⟨S8x449x1024, .bf16⟩
  | .hbm, ⟨3, _⟩ => ⟨S1x1024x449, .f32⟩
  | .hbm, ⟨4, _⟩ => ⟨S1x1024x449, .f32⟩
  | .hbm, ⟨5, _⟩ => ⟨S1x1024x449, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x449x1024, .i1⟩
  | .hbm, ⟨12, _⟩ => ⟨S8x449x1024, .bf16⟩
  | .hbm, ⟨13, _⟩ => ⟨S8x449x1024, .f32⟩
  | .hbm, ⟨14, _⟩ => ⟨S_, .f32⟩
  | .hbm, ⟨15, _⟩ => ⟨S449x1024, .f32⟩
  | .hbm, ⟨16, _⟩ => ⟨S1024x449, .f32⟩
  | .hbm, ⟨17, _⟩ => ⟨S1x1024x449, .f32⟩
  | .hbm, ⟨18, _⟩ => ⟨S1024x449, .f32⟩
  | .hbm, ⟨19, _⟩ => ⟨S449x1024, .f32⟩
  | .hbm, ⟨20, _⟩ => ⟨S_, .f32⟩
  | .hbm, ⟨21, _⟩ => ⟨S1x1024x449, .f32⟩
  | .hbm, ⟨22, _⟩ => ⟨S1x1024x449, .f32⟩
  | .hbm, ⟨23, _⟩ => ⟨S_, .f32⟩
  | .hbm, ⟨24, _⟩ => ⟨S1x1024x449, .f32⟩
  | .hbm, ⟨25, _⟩ => ⟨S1x1024x449, .f32⟩
  | .hbm, ⟨26, _⟩ => ⟨S1x1024x449, .f32⟩
  | .hbm, ⟨27, _⟩ => ⟨S_, .f32⟩
  | .hbm, ⟨28, _⟩ => ⟨S1x1024x449, .f32⟩
  | .hbm, ⟨29, _⟩ => ⟨S1x1024x449, .f32⟩
  | .hbm, ⟨30, _⟩ => ⟨S1x1024x449, .f32⟩
  | .hbm, ⟨31, _⟩ => ⟨S_, .f32⟩
  | .hbm, ⟨32, _⟩ => ⟨S1x1024x449, .f32⟩
  | .hbm, ⟨33, _⟩ => ⟨S1x1024x449, .f32⟩
  | .hbm, ⟨34, _⟩ => ⟨S1x1024x449, .f32⟩
  | .hbm, ⟨35, _⟩ => ⟨S_, .f32⟩
  | .hbm, ⟨36, _⟩ => ⟨S1x1024x449, .f32⟩
  | .hbm, ⟨37, _⟩ => ⟨S1x1024x449, .f32⟩
  | .hbm, ⟨38, _⟩ => ⟨S_, .f32⟩
  | .hbm, ⟨39, _⟩ => ⟨S1x1024x449, .f32⟩
  | .hbm, ⟨40, _⟩ => ⟨S1x1024x449, .f32⟩
  | .hbm, ⟨41, _⟩ => ⟨S1x1024x449, .f32⟩
  | .hbm, ⟨42, _⟩ => ⟨S_, .f32⟩
  | .hbm, ⟨43, _⟩ => ⟨S1x1024x449, .f32⟩
  | .hbm, ⟨44, _⟩ => ⟨S1x1024x449, .f32⟩
  | .hbm, ⟨45, _⟩ => ⟨S1x1024x449, .f32⟩
  | .hbm, ⟨46, _⟩ => ⟨S_, .f32⟩
  | .hbm, ⟨47, _⟩ => ⟨S1x1024x449, .f32⟩
  | .hbm, ⟨48, _⟩ => ⟨S1x1024x449, .f32⟩
  | .hbm, ⟨49, _⟩ => ⟨S1x1024x449, .f32⟩
  | .hbm, ⟨50, _⟩ => ⟨S_, .f32⟩
  | .hbm, ⟨51, _⟩ => ⟨S1x1024x449, .f32⟩
  | .hbm, ⟨52, _⟩ => ⟨S1x1024x449, .f32⟩
  | .hbm, ⟨53, _⟩ => ⟨S1024x449, .f32⟩
  | .hbm, ⟨54, _⟩ => ⟨S449x1024, .f32⟩
  | .hbm, ⟨55, _⟩ => ⟨S1024x449, .f32⟩
  | .hbm, ⟨56, _⟩ => ⟨S449x1024, .f32⟩
  | .hbm, ⟨57, _⟩ => ⟨S1024x449, .f32⟩
  | .hbm, ⟨58, _⟩ => ⟨S449x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Proof.Norm.lean ====
module

public import Idealize.ShloMosaic.Lib.Pipeline.ValueKit
public import Idealize.ShloMosaic.PureOps.Ideal

/-! Arithmetic both gradients share: finite extended reals as reals, the host's sums over axes of extent one, and the
RMS norm with its gradient over one row. -/

@[expose] public section

noncomputable section

open Idealize.ShloMosaic
open scoped BigOperators

namespace Cert.Norm

/-! ## Sums over axes of which all but one have extent one -/

theorem hostReduceAdd_lead {n : ℕ} (h : (⟨3, ![1, 1, n]⟩ : Shape).ReducesTo [0, 1] ⟨1, ![n]⟩)
    (v : (⟨3, ![1, 1, n]⟩ : Shape).Idx → EReal) (init : EReal) (l : Fin n) :
    Ideal.hostReduceAdd h v init (ix1 l) = init + v (ix3 0 0 l) := by
  unfold Ideal.hostReduceAdd
  congr 1
  refine Finset.sum_eq_single_of_mem _ ?_ fun i hi hne => ?_
  · rw [Finset.mem_filter]
    refine ⟨Finset.mem_univ _, funext fun b => Fin.ext ?_⟩
    match b with
    | ⟨0, _⟩ => exact Shape.ReducesTo.drop_apply_val h _ 0
  · refine absurd ?_ hne
    have e := (Finset.mem_filter.mp hi).2
    have hv : (h.drop i 0 : ℕ) = i 2 := Shape.ReducesTo.drop_apply_val h i 0
    have h2 : (i 2 : ℕ) = l := by rw [← hv, e]; rfl
    have h0 : (i 0 : ℕ) < 1 := (i 0).isLt
    have h1 : (i 1 : ℕ) < 1 := (i 1).isLt
    refine funext fun b => Fin.ext ?_
    match b with
    | ⟨0, _⟩ => show (i 0 : ℕ) = 0; omega
    | ⟨1, _⟩ => show (i 1 : ℕ) = 0; omega
    | ⟨2, _⟩ => exact h2

theorem hostReduceAdd_ends {n : ℕ} (h : (⟨3, ![1, n, 1]⟩ : Shape).ReducesTo [0, 2] ⟨1, ![n]⟩)
    (v : (⟨3, ![1, n, 1]⟩ : Shape).Idx → EReal) (init : EReal) (r : Fin n) :
    Ideal.hostReduceAdd h v init (ix1 r) = init + v (ix3 0 r 0) := by
  unfold Ideal.hostReduceAdd
  congr 1
  refine Finset.sum_eq_single_of_mem _ ?_ fun i hi hne => ?_
  · rw [Finset.mem_filter]
    refine ⟨Finset.mem_univ _, funext fun b => Fin.ext ?_⟩
    match b with
    | ⟨0, _⟩ => exact Shape.ReducesTo.drop_apply_val h _ 0
  · refine absurd ?_ hne
    have e := (Finset.mem_filter.mp hi).2
    have hv : (h.drop i 0 : ℕ) = i 1 := Shape.ReducesTo.drop_apply_val h i 0
    have h1 : (i 1 : ℕ) = r := by rw [← hv, e]; rfl
    have h0 : (i 0 : ℕ) < 1 := (i 0).isLt
    have h2 : (i 2 : ℕ) < 1 := (i 2).isLt
    refine funext fun b => Fin.ext ?_
    match b with
    | ⟨0, _⟩ => show (i 0 : ℕ) = 0; omega
    | ⟨1, _⟩ => exact h1
    | ⟨2, _⟩ => show (i 2 : ℕ) = 0; omega

/-! ## Finite entries -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem ofBits_inf : Ideal.ofBits .f32 0x7F800000#32 = ⊤ := by
  simp [Ideal.ofBits, Ideal.ieee]

/-- An entry whose absolute value compares below infinity is a real number. -/
theorem real_of_lt {x : EReal} (h : Ideal.cmp .olt (max x (-x)) (Ideal.ofBits .f32 0x7F800000#32) = 1#1) :
    x = (x.toReal : EReal) := by
  rw [ofBits_inf] at h
  induction x with
  | bot => simp [Ideal.cmp] at h
  | top => simp [Ideal.cmp] at h
  | coe r => simp

/-- Where the precondition's comparison holds at every entry the array is one of reals. -/
theorem real_of_pre {s : Shape} (x : FVec Ideal s .f32) (h : (⟨0, ![]⟩ : Shape).BroadcastsInDim s (![] : Fin 0 → Fin s.rank))
    (e : cmpf .olt (Host.absf x) (broadcastInDim s ![] h (constant ⟨0, ![]⟩ .f32 0x7F800000#32)) = fun _ => 1#1) :
    ∃ X : s.Idx → ℝ, x = fun i => (X i : EReal) :=
  ⟨fun i => EReal.toReal (x i), funext fun i => Norm.real_of_lt (congrFun e i)⟩

/-! ## The constants -/

theorem ofBits_width : Ideal.ofBits .f32 1149239296#32 = ((1024 : ℝ) : EReal) := by
  norm_num [Ideal.ofBits, Ideal.ieee, Nat.shiftRight_eq_div_pow, BitVec.extractLsb']

/-- The norm's epsilon, the number its word stands for. -/
def eps : ℝ := 8796093 / 8796093022208

theorem ofBits_eps : Ideal.ofBits .f32 897988541#32 = (eps : EReal) := by
  unfold eps
  norm_num [Ideal.ofBits, Ideal.ieee, Nat.shiftRight_eq_div_pow, BitVec.extractLsb']

theorem eps_pos : 0 < eps := by
  norm_num [eps]

theorem ofBits_neg_half : Ideal.ofBits .f32 3204448256#32 = ((-(1 / 2) : ℝ) : EReal) := by
  norm_num [Ideal.ofBits, Ideal.ieee, Nat.shiftRight_eq_div_pow, BitVec.extractLsb']

/-! ## Reads -/

theorem drop_unit {n k : Nat} {α : Type} (x : (⟨3, ![1, n, k]⟩ : Shape).Idx → α)
    (h : (⟨3, ![1, n, k]⟩ : Shape).ShapeCasts ⟨2, ![n, k]⟩) (r : Fin n) (l : Fin k) :
    shapeCast ⟨2, ![n, k]⟩ x h (ix2 r l) = x (ix3 0 r l) := by
  rw [shapeCast_dropUnit_apply ![n, k] x h (ix2 r l)]
  refine congrArg x ?_
  funext a
  match a with
  | ⟨0, _⟩ => rfl
  | ⟨1, _⟩ => rfl
  | ⟨2, _⟩ => rfl

theorem sitofp_zero : (FloatOps.sitofp .bf16 0#32 : Ideal .bf16) = (0 : EReal) := by
  simp [FloatOps.sitofp]

/-! ## One row of the norm and of its gradient -/

/-- The mean square of a row plus epsilon. -/
def msq (x : Fin 1024 → EReal) : EReal :=
  Ideal.div (∑ l, x l * x l) (Ideal.ofBits .f32 1149239296#32) + Ideal.ofBits .f32 897988541#32

/-- The row's inverse root mean square. -/
def inv (x : Fin 1024 → EReal) : EReal := Ideal.rsqrt (msq x)

/-- The gradient of a row's norm as the kernels compute it, `d` the cotangent of the normalised row. -/
def back (x d : Fin 1024 → EReal) (l : Fin 1024) : EReal :=
  inv x * (d l - x l * inv x * Ideal.div (∑ k, d k * (x k * inv x)) (Ideal.ofBits .f32 1149239296#32))

/-- What differentiation puts on each of the two factors of the row's square. -/
def half (x d : Fin 1024 → EReal) : EReal :=
  Ideal.div ((∑ k, x k * d k) * (Ideal.ofBits .f32 3204448256#32 * Ideal.div (inv x) (msq x)))
    (Ideal.ofBits .f32 1149239296#32)

def rmsq (x : Fin 1024 → ℝ) : ℝ := (∑ l, x l * x l) * (1 / 1024) + eps

def rinv (x : Fin 1024 → ℝ) : ℝ := (Real.sqrt (rmsq x))⁻¹

theorem rmsq_pos (x : Fin 1024 → ℝ) : 0 < rmsq x :=
  add_pos_of_nonneg_of_pos (mul_nonneg (Finset.sum_nonneg fun l _ => mul_self_nonneg _) (by norm_num)) eps_pos

theorem rinv_sq (x : Fin 1024 → ℝ) : rinv x * rinv x = 1 / rmsq x := by
  unfold rinv
  rw [← mul_inv, Real.mul_self_sqrt (rmsq_pos x).le, one_div]

theorem msq_coe (x : Fin 1024 → ℝ) : msq (fun l => (x l : EReal)) = (rmsq x : EReal) := by
  unfold msq rmsq
  rw [ofBits_width, ofBits_eps, Ideal.div_coe (by norm_num)]
  simp only [← EReal.coe_mul, coe_sum, ← EReal.coe_add]

theorem inv_coe (x : Fin 1024 → ℝ) : inv (fun l => (x l : EReal)) = (rinv x : EReal) := by
  unfold inv
  rw [msq_coe, Ideal.rsqrt_coe, if_neg (rmsq_pos x).le.not_gt, if_neg (rmsq_pos x).ne']
  rfl

def rback (x d : Fin 1024 → ℝ) (l : Fin 1024) : ℝ :=
  rinv x * (d l - x l * rinv x * ((∑ k, d k * (x k * rinv x)) * (1 / 1024)))

theorem back_coe (x d : Fin 1024 → ℝ) (l : Fin 1024) :
    back (fun l => (x l : EReal)) (fun l => (d l : EReal)) l = (rback x d l : EReal) := by
  unfold back rback
  rw [inv_coe, ofBits_width, Ideal.div_coe (by norm_num)]
  simp only [← EReal.coe_mul, coe_sum, ← EReal.coe_sub]

def rhalf (x d : Fin 1024 → ℝ) : ℝ :=
  (∑ k, x k * d k) * (-(1 / 2) * (rinv x * (1 / rmsq x))) * (1 / 1024)

theorem half_coe (x d : Fin 1024 → ℝ) :
    half (fun l => (x l : EReal)) (fun l => (d l : EReal)) = (rhalf x d : EReal) := by
  unfold half rhalf
  rw [inv_coe, msq_coe, ofBits_width, ofBits_neg_half, Ideal.div_coe (rmsq_pos x).ne', Ideal.div_coe (by norm_num)]
  simp only [← EReal.coe_mul, coe_sum]

/-- The two gradients of a row are one number. -/
theorem rback_eq (x d : Fin 1024 → ℝ) (l : Fin 1024) :
    rback x d l = d l * rinv x + x l * rhalf x d + rhalf x d * x l := by
  unfold rback rhalf
  have e : ∑ k, d k * (x k * rinv x) = (∑ k, x k * d k) * rinv x := by
    rw [Finset.sum_mul]
    exact Finset.sum_congr rfl fun k _ => by ring
  rw [e, ← rinv_sq]
  ring

/-! ## Sums over the rows, tile by tile -/

/-- A sum over the rows is the sum over the tiles of the sums over each tile's two halves. -/
theorem sum_tiles {M : Type} [AddCommMonoid M] {n : ℕ} (hn : n = 16) (f : Fin 8192 → M) (lo hi : Fin n → Fin 256 → Fin 8192)
    (hlo : ∀ t i, (lo t i : ℕ) = t * 512 + i) (hhi : ∀ t i, (hi t i : ℕ) = t * 512 + (256 + i)) :
    ∑ t, (∑ i, f (lo t i) + ∑ i, f (hi t i)) = ∑ r, f r := by
  subst hn
  have e : ∀ t : Fin 16, (∑ i, f (lo t i) + ∑ i, f (hi t i)) = ∑ i : Fin 512, f ⟨t * 512 + i, by omega⟩ := fun t => by
    have h := Fin.sum_univ_add (a := 256) (b := 256) fun i : Fin (256 + 256) => f ⟨t * 512 + i, by have := i.isLt; omega⟩
    refine Eq.trans ?_ h.symm
    congr 1
    · exact Finset.sum_congr rfl fun i _ => congrArg f (Fin.ext (hlo t i))
    · exact Finset.sum_congr rfl fun i _ => congrArg f (Fin.ext (hhi t i))
  rw [Finset.sum_congr rfl fun t _ => e t]
  exact Fin.sum_mul_add_fin 16 512 f

/-- A sum over the padded columns, of products of padded factors. -/
theorem sum_padded (f g : Fin 3592 → EReal) :
    ∑ k : Fin 3840, (if h : k.val < 3592 then f ⟨k, h⟩ else 0) * (if h : k.val < 3592 then g ⟨k, h⟩ else 0) = ∑ k, f k * g k := by
  refine (Fin.sum_univ_add (a := 3592) (b := 248) _).trans ?_
  refine (congrArg₂ (· + ·) (Finset.sum_congr rfl fun k _ => ?_) (Finset.sum_eq_zero fun k _ => ?_)).trans (add_zero _)
  · rw [dif_pos (show (Fin.castAdd 248 k : ℕ) < 3592 from k.isLt), dif_pos (show (Fin.castAdd 248 k : ℕ) < 3592 from k.isLt)]
    rfl
  · rw [dif_neg (show ¬(Fin.natAdd 3592 k : ℕ) < 3592 by simp), zero_mul]

end Cert.Norm
-- ==== Proof.BwdInBlocks.lean ====
module

public import proofs.«01_k».proof.Proof.Gen.BwdInIdeal.Value
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.BwdInIdeal.Value

open Cert.BwdInIdeal Cert.BwdInIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![0, 0] :=
  (by decide +kernel : ∀ t : Fin grid0.N, _)

/-- Row `i` of point `t`'s tile, among the rows of the whole sequence. -/
def row (t : Fin cfg0.N) (i : Fin 512) : Fin 8192 :=
  ⟨t.val * 512 + i.val, by have ht : t.val < 16 := lt_of_lt_of_eq t.isLt N_0; have hi := i.isLt; omega⟩

theorem V7 (c : Dev nD) : V m c main_v7 = shapeCast S8192x1024 (m ((c : Thread nD τ).loc main_arg0)) shapeCasts_S1x8192x1024_S8192x1024 := by
  simp only [V, List.flatten_cons, List.flatten_nil, List.append_nil, List.cons_append, List.nil_append]
  entry_read
  rfl
theorem V6 (c : Dev nD) : V m c main_v6 = pad S8192x3840 ![0, 0] ![0, 248] ![0, 0] (truncf .bf16 (shapeCast S8192x3592 (m ((c : Thread nD τ).loc main_arg6)) shapeCasts_S1x8192x3592_S8192x3592 : FVec Ideal S8192x3592 .f32) bitsLt_bf16_f32) (sitofp (F := Ideal) .bf16 (constantI S_ 32 0#32)) pads_S8192x3592_S8192x3840_000_02480 h_S_ := by
  simp only [V, List.flatten_cons, List.flatten_nil, List.append_nil, List.cons_append, List.nil_append]
  entry_read
  rfl

theorem V8 (c : Dev nD) : V m c main_v8 = shapeCast S8192x1024 (m ((c : Thread nD τ).loc main_arg1)) shapeCasts_S1x8192x1024_S8192x1024 := by
  simp only [V, List.flatten_cons, List.flatten_nil, List.append_nil, List.cons_append, List.nil_append]
  entry_read
  rfl

theorem V3 (c : Dev nD) : V m c main_v3 = pad S3840x1024 ![0, 0] ![248, 0] ![0, 0] (transpose S3592x1024 [1, 0] (truncf .bf16 (shapeCast S1024x3592 (m ((c : Thread nD τ).loc main_arg5)) shapeCasts_S1x1024x3592_S1024x3592 : FVec Ideal S1024x3592 .f32) bitsLt_bf16_f32) transposes_S1024x3592_S3592x1024_1_0) (sitofp (F := Ideal) .bf16 (constantI S_ 32 0#32)) pads_S3592x1024_S3840x1024_02480_000 h_S_ := by
  simp only [V, List.flatten_cons, List.flatten_nil, List.append_nil, List.cons_append, List.nil_append]
  entry_read
  rfl

theorem at7 (c : Dev nD) (r : Fin 8192) (l : Fin 1024) :
    (V m c main_v7 (ix2 r l) : EReal) = (m ((c : Thread nD τ).loc main_arg0) : FVec Ideal S1x8192x1024 .f32) (ix3 0 r l) := by
  rw [V7]
  exact Norm.drop_unit _ _ r l

theorem at8 (c : Dev nD) (r : Fin 8192) (l : Fin 1024) :
    (V m c main_v8 (ix2 r l) : EReal) = (m ((c : Thread nD τ).loc main_arg1) : FVec Ideal S1x8192x1024 .f32) (ix3 0 r l) := by
  rw [V8]
  exact Norm.drop_unit _ _ r l

theorem pad6 (x : FVec Ideal S1x8192x3592 .f32) (r : Fin 8192) (l : Fin 3840) :
   (pad S8192x3840 ![0, 0] ![0, 248] ![0, 0] (truncf .bf16 (shapeCast S8192x3592 x shapeCasts_S1x8192x3592_S8192x3592 : FVec Ideal S8192x3592 .f32) bitsLt_bf16_f32) (sitofp (F := Ideal) .bf16 (constantI S_ 32 0#32)) pads_S8192x3592_S8192x3840_000_02480 h_S_ : FVec Ideal S8192x3840 .bf16) (ix2 r l) = if h : l.val < 3592 then x (ix3 0 r ⟨l, h⟩) else (0 : EReal) := by
  pointwise [Norm.sitofp_zero]

theorem pad3 (x : FVec Ideal S1x1024x3592 .f32) (k : Fin 3840) (l : Fin 1024) :
   (pad S3840x1024 ![0, 0] ![248, 0] ![0, 0] (transpose S3592x1024 [1, 0] (truncf .bf16 (shapeCast S1024x3592 x shapeCasts_S1x1024x3592_S1024x3592 : FVec Ideal S1024x3592 .f32) bitsLt_bf16_f32) transposes_S1024x3592_S3592x1024_1_0) (sitofp (F := Ideal) .bf16 (constantI S_ 32 0#32)) pads_S3592x1024_S3840x1024_02480_000 h_S_ : FVec Ideal S3840x1024 .bf16) (ix2 k l) = if h : k.val < 3592 then x (ix3 0 l ⟨k, h⟩) else (0 : EReal) := by
  pointwise [Norm.sitofp_zero]

theorem blk2 (c : Dev nD) (t : Fin cfg0.N) (i : Fin 512) (l : Fin 1024) :
    (iblk m c 2 t (ix2 i l) : EReal) = (m ((c : Thread nD τ).loc main_arg0) : FVec Ideal S1x8192x1024 .f32) (ix3 0 (row t i) l) := by
  refine Eq.trans ?_ (at7 m c (row t i) l)
  blk_simp [iblk, idx t]
  refine congrArg (V m c main_v7) ?_
  blk_ext [idx t, row]

theorem blk3 (c : Dev nD) (t : Fin cfg0.N) (i : Fin 512) (l : Fin 1024) :
    (iblk m c 3 t (ix2 i l) : EReal) = (m ((c : Thread nD τ).loc main_arg1) : FVec Ideal S1x8192x1024 .f32) (ix3 0 (row t i) l) := by
  refine Eq.trans ?_ (at8 m c (row t i) l)
  blk_simp [iblk, idx t]
  refine congrArg (V m c main_v8) ?_
  blk_ext [idx t, row]

theorem blk0 (c : Dev nD) (t : Fin cfg0.N) (i : Fin 512) (l : Fin 3840) :
    (iblk m c 0 t (ix2 i l) : EReal) = if h : l.val < 3592 then (m ((c : Thread nD τ).loc main_arg6) : FVec Ideal S1x8192x3592 .f32) (ix3 0 (row t i) ⟨l, h⟩) else (0 : EReal) := by
  refine Eq.trans ?_ ((congrFun (V6 m c) (ix2 (row t i) l)).trans (pad6 (m ((c : Thread nD τ).loc main_arg6)) (row t i) l))
  blk_simp [iblk, idx t]
  refine congrArg (V m c main_v6) ?_
  blk_ext [idx t, row]

theorem blk1 (c : Dev nD) (t : Fin cfg0.N) (i : Fin 3840) (l : Fin 1024) :
    (iblk m c 1 t (ix2 i l) : EReal) = if h : i.val < 3592 then (m ((c : Thread nD τ).loc main_arg5) : FVec Ideal S1x1024x3592 .f32) (ix3 0 l ⟨i, h⟩) else (0 : EReal) := by
  refine Eq.trans ?_ ((congrFun (V3 m c) (ix2 i l)).trans (pad3 (m ((c : Thread nD τ).loc main_arg5)) i l))
  blk_simp [iblk, idx t]
  refine congrArg (V m c main_v3) ?_
  blk_ext [idx t]

theorem blk4 (c : Dev nD) (t : Fin cfg0.N) (i : Fin 1) (l : Fin 1024) :
    (iblk m c 4 t (ix2 i l) : EReal) = (m ((c : Thread nD τ).loc main_arg2) : FVec Ideal S1x1024 .f32) (ix2 0 l) := by
  blk_simp [iblk, idx t]
  refine congrArg (m ((c : Thread nD τ).loc main_arg2)) ?_
  blk_ext [idx t]

theorem blk5 (c : Dev nD) (t : Fin cfg0.N) (i : Fin 1) (l : Fin 1024) :
    (iblk m c 5 t (ix2 i l) : EReal) = (m ((c : Thread nD τ).loc main_arg3) : FVec Ideal S1x1024 .f32) (ix2 0 l) := by
  blk_simp [iblk, idx t]
  refine congrArg (m ((c : Thread nD τ).loc main_arg3)) ?_
  blk_ext [idx t]
end Cert.BwdInIdeal.Value
-- ==== Proof.BwdInKernel.lean ====
module

public import proofs.«01_k».proof.Proof.BwdInBlocks

/-! The input projection's backward call: each of its results as a function of the arguments. -/

@[expose] public section

set_option maxRecDepth 16384

noncomputable section

open Idealize.ShloMosaic Idealize.ShloMosaic.TcCoe Idealize.SL.Sem
open Idealize.ShloMosaic.Pipeline (Dat)
open scoped BigOperators

namespace Cert.BwdInIdeal.Value

open Cert.BwdInIdeal Cert.BwdInIdeal.Gen

/-- The cotangent of the normalised, scaled and shifted input: the projection's cotangent times the projection's transpose. -/
def dh (a6 : FVec Ideal S1x8192x3592 .f32) (a5 : FVec Ideal S1x1024x3592 .f32) (r : Fin 8192) (l : Fin 1024) : EReal :=
  ∑ k : Fin 3592, (a6 (ix3 0 r k) : EReal) * (a5 (ix3 0 l k) : EReal)

/-- A row of an array of rows. -/
def rows (a : FVec Ideal S1x8192x1024 .f32) (r : Fin 8192) (l : Fin 1024) : EReal := a (ix3 0 r l)

/-- The only row of an array of one row. -/
def vec (a : FVec Ideal S1x1024 .f32) (l : Fin 1024) : EReal := a (ix2 0 l)

variable (m : (ℓ : Loc nD τ sig) → Buf (Elt Ideal) ℓ)

abbrev x (c : Dev nD) := rows (m ((c : Thread nD τ).loc main_arg0))
abbrev dx2 (c : Dev nD) := rows (m ((c : Thread nD τ).loc main_arg1))
abbrev ng (c : Dev nD) := vec (m ((c : Thread nD τ).loc main_arg2))
abbrev sc (c : Dev nD) := vec (m ((c : Thread nD τ).loc main_arg3))
abbrev dhm (c : Dev nD) := dh (m ((c : Thread nD τ).loc main_arg6)) (m ((c : Thread nD τ).loc main_arg5))

/-- A row of the cotangent of the normalised input, from the blocks. -/
def bdh (dp : FVec Ideal S512x3840 .bf16) (wt : FVec Ideal S3840x1024 .bf16) (i : Fin 512) (l : Fin 1024) : EReal :=
  ∑ k : Fin 3840, (dp (ix2 i k) : EReal) * (wt (ix2 k l) : EReal)

def brow (a : FVec Ideal S512x1024 .f32) (i : Fin 512) (l : Fin 1024) : EReal := a (ix2 i l)

theorem bdh_at (c : Dev nD) (t : Fin cfg0.N) (i : Fin 512) : bdh (iblk m c 0 t) (iblk m c 1 t) i = dhm m c (row t i) := by
  funext l
  unfold bdh
  refine (Finset.sum_congr rfl fun k _ => congrArg₂ (fun a b : EReal => a * b) (blk0 m c t i k) (blk1 m c t k l)).trans ?_
  exact Norm.sum_padded (fun k => (m ((c : Thread nD τ).loc main_arg6) : FVec Ideal S1x8192x3592 .f32) (ix3 0 (row t i) k))
    (fun k => (m ((c : Thread nD τ).loc main_arg5) : FVec Ideal S1x1024x3592 .f32) (ix3 0 l k))

theorem brow2 (c : Dev nD) (t : Fin cfg0.N) (i : Fin 512) : brow (iblk m c 2 t) i = x m c (row t i) := funext fun l => blk2 m c t i l
theorem brow3 (c : Dev nD) (t : Fin cfg0.N) (i : Fin 512) : brow (iblk m c 3 t) i = dx2 m c (row t i) := funext fun l => blk3 m c t i l
theorem vec4 (c : Dev nD) (t : Fin cfg0.N) : vec (iblk m c 4 t) = ng m c := funext fun l => blk4 m c t 0 l
theorem vec5 (c : Dev nD) (t : Fin cfg0.N) : vec (iblk m c 5 t) = sc m c := funext fun l => blk5 m c t 0 l

/-- A row of the input's gradient, as the kernel computes it. -/
def gx (c : Dev nD) (r : Fin 8192) (l : Fin 1024) : EReal :=
  Norm.back (x m c r) (fun k => dhm m c r k * (ng m c k * (1 + sc m c k))) l + dx2 m c r l

def bgx (dp : FVec Ideal S512x3840 .bf16) (wt : FVec Ideal S3840x1024 .bf16) (x dx2 : FVec Ideal S512x1024 .f32) (ng sc : FVec Ideal S1x1024 .f32)
    (i : Fin 512) (l : Fin 1024) : EReal :=
  Norm.back (brow x i) (fun k => bdh dp wt i k * (vec ng k * (1 + vec sc k))) l + brow dx2 i l

theorem piece6 (c : Dev nD) (t : Fin cfg0.N) (i : Fin 512) (l : Fin 1024) :
    (outsAt0 m c t.val t.isLt).1 (ix2 i l) = gx m c (row t i) l := by
  have e : bgx (iblk m c 0 t) (iblk m c 1 t) (iblk m c 2 t) (iblk m c 3 t) (iblk m c 4 t) (iblk m c 5 t) i l = gx m c (row t i) l := by
    unfold bgx gx
    rw [brow2, brow3, bdh_at, vec4, vec5]
  refine Eq.trans ?_ e
  clear e
  by_cases h : t.val % 16 = 0
  · rw [outsAt0_A m c t h]
    frame_out
    canon_tiles y h
    · obtain rfl : i = ⟨256 + (y 0).val, Nat.add_lt_add_left y0_lt 256⟩ := Fin.ext h0
      obtain rfl : l = y 1 := Fin.ext h1
      idx_vars y
      open_payloads
      pointwise
      rfl
    · obtain rfl : i = ⟨(y 0).val, lt_trans y0_lt (by decide)⟩ := Fin.ext h0
      obtain rfl : l = y 1 := Fin.ext h1
      idx_vars y
      open_payloads
      pointwise
      rfl
  · rw [outsAt0_B m c t h]
    frame_out
    canon_tiles y h
    · obtain rfl : i = ⟨256 + (y 0).val, Nat.add_lt_add_left y0_lt 256⟩ := Fin.ext h0
      obtain rfl : l = y 1 := Fin.ext h1
      idx_vars y
      open_payloads
      pointwise
      rfl
    · obtain rfl : i = ⟨(y 0).val, lt_trans y0_lt (by decide)⟩ := Fin.ext h0
      obtain rfl : l = y 1 := Fin.ext h1
      idx_vars y
      open_payloads
      pointwise
      rfl

theorem emb6 (t : Fin cfg0.N) (y : ((cfg0.win 6).xblock (cfg0.grid.coords t)).Idx) (i : Fin 512) (l : Fin 1024) (h0 : (y 0).val = i.val) (h1 : (y 1).val = l.val) :
    (cfg0.win 6 |>.blk t).view.emb y = (ix2 (row t i) l : S8192x1024.Idx) := by
  blk_ext [idx t, row, h0, h1]

def lo (i : Fin 256) : Fin 512 := ⟨i, by omega⟩
def hi (i : Fin 256) : Fin 512 := ⟨256 + i, by omega⟩

/-- What the rows of one tile add to the gradients of the scale and the gain. -/
def part (d x : Fin 512 → Fin 1024 → EReal) (z : Fin 1024 → EReal) (l : Fin 1024) : EReal :=
  (∑ i, d (lo i) l * (x (lo i) l * Norm.inv (x (lo i)))) * z l
    + (∑ i, d (hi i) l * (x (hi i) l * Norm.inv (x (hi i)))) * z l

/-- What the rows of tile `t` add to the shift's gradient. -/
def tile7 (c : Dev nD) (t : Fin cfg0.N) (l : Fin 1024) : EReal :=
  ∑ i, dhm m c (row t (lo i)) l + ∑ i, dhm m c (row t (hi i)) l

/-- What the rows of tile `t` add to the scale's gradient. -/
def tile8 (c : Dev nD) (t : Fin cfg0.N) : Fin 1024 → EReal :=
  part (fun i => dhm m c (row t i)) (fun i => x m c (row t i)) (ng m c)

/-- What the rows of tile `t` add to the gain's gradient. -/
def tile9 (c : Dev nD) (t : Fin cfg0.N) : Fin 1024 → EReal :=
  part (fun i => dhm m c (row t i)) (fun i => x m c (row t i)) (fun l => 1 + sc m c l)

theorem tile7_at (c : Dev nD) (t : Fin cfg0.N) (l : Fin 1024) :
    ∑ i, bdh (iblk m c 0 t) (iblk m c 1 t) (lo i) l + ∑ i, bdh (iblk m c 0 t) (iblk m c 1 t) (hi i) l = tile7 m c t l :=
  congrArg₂ (· + ·) (Finset.sum_congr rfl fun i _ => congrFun (bdh_at m c t (lo i)) l)
    (Finset.sum_congr rfl fun i _ => congrFun (bdh_at m c t (hi i)) l)

theorem part_at (c : Dev nD) (t : Fin cfg0.N) (z : Fin 1024 → EReal) :
    part (bdh (iblk m c 0 t) (iblk m c 1 t)) (brow (iblk m c 2 t)) z = part (fun i => dhm m c (row t i)) (fun i => x m c (row t i)) z :=
  congrArg₂ (fun a b => part a b z) (funext fun i => bdh_at m c t i) (funext fun i => brow2 m c t i)

theorem tile8_at (c : Dev nD) (t : Fin cfg0.N) (l : Fin 1024) :
    part (bdh (iblk m c 0 t) (iblk m c 1 t)) (brow (iblk m c 2 t)) (vec (iblk m c 4 t)) l = tile8 m c t l :=
  congrFun ((part_at m c t _).trans (congrArg (part _ _) (vec4 m c t))) l

theorem tile9_at (c : Dev nD) (t : Fin cfg0.N) (l : Fin 1024) :
    part (bdh (iblk m c 0 t) (iblk m c 1 t)) (brow (iblk m c 2 t)) (fun l => 1 + vec (iblk m c 5 t) l) l = tile9 m c t l :=
  congrFun ((part_at m c t _).trans (congrArg (fun z : Fin 1024 → EReal => part _ _ fun l => 1 + z l) (vec5 m c t))) l

theorem step7_A (c : Dev nD) (t : Fin cfg0.N) (h : t.val % 16 = 0) (l : Fin 1024) :
    (outsAt0 m c t.val t.isLt).2.1 (ix2 0 l) = tile7 m c t l := by
  refine Eq.trans ?_ (tile7_at m c t l)
  rw [outsAt0_A m c t h]
  frame_out
  open_payloads
  pointwise
  rfl

theorem step7_B (c : Dev nD) (t : Fin cfg0.N) (h : ¬t.val % 16 = 0) (l : Fin 1024) :
    (outsAt0 m c t.val t.isLt).2.1 (ix2 0 l)
      = ((outsAt0 m c (t.val - 1) (by have := t.isLt; omega)).2.1 (ix2 0 l) : EReal) + tile7 m c t l := by
  refine Eq.trans ?_ (congrArg (fun e : EReal => ((outsAt0 m c (t.val - 1) (by have := t.isLt; omega)).2.1 (ix2 0 l) : EReal) + e) (tile7_at m c t l))
  rw [outsAt0_B m c t h]
  frame_out
  open_payloads
  pointwise
  exact add_assoc _ _ _

theorem final_7 (c : Dev nD) : (dats m 0 c).arrAt 7 cfg0.N = fun y => ∑ t, tile7 m c t (y 1) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0)
    (fun t j => tile7 m c t (j 1))
    (fun t h j => by
      idx_vars j
      obtain rfl : j0 = 0 := Subsingleton.elim _ _
      exact (step7_A m c t h j1).trans (zero_add _).symm)
    (fun t h j => by
      idx_vars j
      obtain rfl : j0 = 0 := Subsingleton.elim _ _
      exact step7_B m c t h j1) (le_of_eq N_0) t0_15 rfl j, zero_add]

theorem step8_A (c : Dev nD) (t : Fin cfg0.N) (h : t.val % 16 = 0) (l : Fin 1024) :
    (outsAt0 m c t.val t.isLt).2.2.1 (ix2 0 l) = tile8 m c t l := by
  refine Eq.trans ?_ (tile8_at m c t l)
  rw [outsAt0_A m c t h]
  frame_out
  open_payloads
  pointwise
  rfl

theorem step8_B (c : Dev nD) (t : Fin cfg0.N) (h : ¬t.val % 16 = 0) (l : Fin 1024) :
    (outsAt0 m c t.val t.isLt).2.2.1 (ix2 0 l)
      = ((outsAt0 m c (t.val - 1) (by have := t.isLt; omega)).2.2.1 (ix2 0 l) : EReal) + tile8 m c t l := by
  refine Eq.trans ?_ (congrArg (fun e : EReal => ((outsAt0 m c (t.val - 1) (by have := t.isLt; omega)).2.2.1 (ix2 0 l) : EReal) + e) (tile8_at m c t l))
  rw [outsAt0_B m c t h]
  frame_out
  open_payloads
  pointwise
  exact add_assoc _ _ _

theorem final_8 (c : Dev nD) : (dats m 0 c).arrAt 8 cfg0.N = fun y => ∑ t, tile8 m c t (y 1) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0)
    (fun t j => tile8 m c t (j 1))
    (fun t h j => by
      idx_vars j
      obtain rfl : j0 = 0 := Subsingleton.elim _ _
      exact (step8_A m c t h j1).trans (zero_add _).symm)
    (fun t h j => by
      idx_vars j
      obtain rfl : j0 = 0 := Subsingleton.elim _ _
      exact step8_B m c t h j1) (le_of_eq N_0) t0_15 rfl j, zero_add]

theorem step9_A (c : Dev nD) (t : Fin cfg0.N) (h : t.val % 16 = 0) (l : Fin 1024) :
    (outsAt0 m c t.val t.isLt).2.2.2 (ix2 0 l) = tile9 m c t l := by
  refine Eq.trans ?_ (tile9_at m c t l)
  rw [outsAt0_A m c t h]
  frame_out
  open_payloads
  pointwise
  rfl

theorem step9_B (c : Dev nD) (t : Fin cfg0.N) (h : ¬t.val % 16 = 0) (l : Fin 1024) :
    (outsAt0 m c t.val t.isLt).2.2.2 (ix2 0 l)
      = ((outsAt0 m c (t.val - 1) (by have := t.isLt; omega)).2.2.2 (ix2 0 l) : EReal) + tile9 m c t l := by
  refine Eq.trans ?_ (congrArg (fun e : EReal => ((outsAt0 m c (t.val - 1) (by have := t.isLt; omega)).2.2.2 (ix2 0 l) : EReal) + e) (tile9_at m c t l))
  rw [outsAt0_B m c t h]
  frame_out
  open_payloads
  pointwise
  exact add_assoc _ _ _

theorem final_9 (c : Dev nD) : (dats m 0 c).arrAt 9 cfg0.N = fun y => ∑ t, tile9 m c t (y 1) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0)
    (fun t j => tile9 m c t (j 1))
    (fun t h j => by
      idx_vars j
      obtain rfl : j0 = 0 := Subsingleton.elim _ _
      exact (step9_A m c t h j1).trans (zero_add _).symm)
    (fun t h j => by
      idx_vars j
      obtain rfl : j0 = 0 := Subsingleton.elim _ _
      exact step9_B m c t h j1) (le_of_eq N_0) t0_15 rfl j, zero_add]

theorem final_6 (c : Dev nD) : (dats m 0 c).arrAt 6 cfg0.N = fun y => gx m c (y 0) (y 1) := by
  refine (dats m 0 c).arrAt_eq_of_covers 6 _ (by decide +kernel) fun t hf y => ?_
  obtain ⟨i, l, e⟩ : ∃ (i : Fin 512) (l : Fin 1024), y = ix2 i l := ⟨y 0, y 1, eq_ix2 y⟩
  have e6 := emb6 t y i l (by rw [e]; rfl) (by rw [e]; rfl)
  blk_simp
  rw [after0_6]
  rw [e6, e]
  exact piece6 m c t i l
end Cert.BwdInIdeal.Value
-- ==== Proof.BwdInEq.lean ====
module

public import proofs.«01_k».proof.Proof.BwdInKernel
public import proofs.«01_k».proof.Proof.Gen.BwdInRefIdeal.Read

/-! The input projection's backward call: the reference's results as functions of the arguments, and their equality with
the kernel's. -/

@[expose] public section

set_option maxRecDepth 16384

noncomputable section

open Idealize.ShloMosaic Idealize.ShloMosaic.TcCoe Idealize.SL.Sem
open scoped BigOperators

namespace Cert.BwdInIdeal.Value

open Cert.BwdInIdeal Cert.BwdInIdeal.Gen

/-! ## Over real arguments -/

section
variable (X : S1x8192x1024.Idx → ℝ) (G S : S1x1024.Idx → ℝ) (W : S1x1024x3592.Idx → ℝ) (P : S1x8192x3592.Idx → ℝ)

def rdh (r : Fin 8192) (l : Fin 1024) : ℝ := ∑ k : Fin 3592, P (ix3 0 r k) * W (ix3 0 l k)

theorem dh_coe (r : Fin 8192) (l : Fin 1024) :
    dh (fun i => (P i : EReal)) (fun i => (W i : EReal)) r l = (rdh W P r l : EReal) := by
  unfold dh rdh
  simp only [← EReal.coe_mul, Norm.coe_sum]

/-- What one row adds to the gradients of the scale and the gain. -/
def term (z : Fin 1024 → ℝ) (l : Fin 1024) (r : Fin 8192) : EReal :=
  ((rdh W P r l * (X (ix3 0 r l) * Norm.rinv fun k => X (ix3 0 r k)) * z l : ℝ) : EReal)

theorem part_coe (z : Fin 1024 → ℝ) (t : Fin cfg0.N) (l : Fin 1024) :
    part (fun i => dh (fun i => (P i : EReal)) (fun i => (W i : EReal)) (row t i)) (fun i => rows (fun i => (X i : EReal)) (row t i))
      (fun k => (z k : EReal)) l
      = ∑ i, term X W P z l (row t (lo i)) + ∑ i, term X W P z l (row t (hi i)) := by
  have e : ∀ r, rows (fun i => (X i : EReal)) r = fun k => ((X (ix3 0 r k) : ℝ) : EReal) := fun r => rfl
  unfold part term
  simp only [dh_coe, e, Norm.inv_coe, ← EReal.coe_mul, Norm.coe_sum, Finset.sum_mul]

theorem parts_coe (z : Fin 1024 → ℝ) (l : Fin 1024) :
    ∑ t, part (fun i => dh (fun i => (P i : EReal)) (fun i => (W i : EReal)) (row t i)) (fun i => rows (fun i => (X i : EReal)) (row t i))
      (fun k => (z k : EReal)) l
      = ∑ r, term X W P z l r := by
  rw [Finset.sum_congr rfl fun t _ => part_coe X W P z t l]
  exact Norm.sum_tiles N_0 (term X W P z l) (fun t i => row t (lo i)) (fun t i => row t (hi i)) (fun _ _ => rfl) (fun _ _ => rfl)

theorem gx_coe (a : EReal) (r : Fin 8192) (l : Fin 1024) :
    Norm.back (rows (fun i => (X i : EReal)) r)
        (fun k => dh (fun i => (P i : EReal)) (fun i => (W i : EReal)) r k * ((G (ix2 0 k) : EReal) * (1 + (S (ix2 0 k) : EReal)))) l + a
      = a + dh (fun i => (P i : EReal)) (fun i => (W i : EReal)) r l * (1 + (S (ix2 0 l) : EReal)) * (G (ix2 0 l) : EReal)
            * Norm.inv (rows (fun i => (X i : EReal)) r)
          + (X (ix3 0 r l) : EReal) * Norm.half (rows (fun i => (X i : EReal)) r)
              (fun k => dh (fun i => (P i : EReal)) (fun i => (W i : EReal)) r k * (1 + (S (ix2 0 k) : EReal)) * (G (ix2 0 k) : EReal))
          + Norm.half (rows (fun i => (X i : EReal)) r)
              (fun k => dh (fun i => (P i : EReal)) (fun i => (W i : EReal)) r k * (1 + (S (ix2 0 k) : EReal)) * (G (ix2 0 k) : EReal))
            * (X (ix3 0 r l) : EReal) := by
  have e : rows (fun i => (X i : EReal)) r = fun k => ((X (ix3 0 r k) : ℝ) : EReal) := rfl
  have ed : (fun k => rdh W P r k * (G (ix2 0 k) * (1 + S (ix2 0 k)))) = fun k => rdh W P r k * (1 + S (ix2 0 k)) * G (ix2 0 k) :=
    funext fun k => by ring
  simp only [dh_coe, e, ← EReal.coe_one, ← EReal.coe_add, ← EReal.coe_mul, Norm.inv_coe, Norm.back_coe, Norm.half_coe]
  rw [ed, Norm.rback_eq, add_comm, EReal.coe_add, EReal.coe_add]
  simp only [add_assoc]

end

end Cert.BwdInIdeal.Value

/-! ## The reference's results -/

namespace Cert.BwdInRefIdeal.Read

open Cert.BwdInIdeal.Value (dh rows vec term rdh gx_coe dh_coe parts_coe part)

theorem reads (x0 x1 : FVec Ideal S1x8192x1024 .f32) (x2 x3 : FVec Ideal S1x1024 .f32) (x5 : FVec Ideal S1x1024x3592 .f32)
    (x6 : FVec Ideal S1x8192x3592 .f32) (r : Fin 8192) (u : Fin 1) (l : Fin 1024) :
    (val_main_v65 (F := Ideal) x0 x1 x2 x3 x5 x6 (ix2 r l) : EReal)
        = rows x1 r l + dh x6 x5 r l * (1 + vec x3 l) * vec x2 l * Norm.inv (rows x0 r)
          + rows x0 r l * Norm.half (rows x0 r) (fun k => dh x6 x5 r k * (1 + vec x3 k) * vec x2 k)
          + Norm.half (rows x0 r) (fun k => dh x6 x5 r k * (1 + vec x3 k) * vec x2 k) * rows x0 r l
      ∧ (val_main_v34 (F := Ideal) x5 x6 (ix2 u l) : EReal) = ∑ r, dh x6 x5 r l
      ∧ (val_main_v41 (F := Ideal) x0 x2 x5 x6 (ix2 u l) : EReal) = ∑ r, rows x0 r l * Norm.inv (rows x0 r) * vec x2 l * dh x6 x5 r l
      ∧ (val_main_v64 (F := Ideal) x0 x3 x5 x6 (ix2 u l) : EReal) = ∑ r, rows x0 r l * Norm.inv (rows x0 r) * (dh x6 x5 r l * (1 + vec x3 l)) := by
  refine ⟨?_, ?_, ?_, ?_⟩
  all_goals pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_cst_3, val_main_v18,
    val_main_v19, val_main_v20, val_main_v21, val_main_v22, val_main_v23, val_main_v24, val_main_v25, val_main_v26,
    val_main_v27, val_main_v28, val_main_v29, val_main_v30, val_main_cst_4, val_main_v31, val_main_v32, val_main_cst_5,
    val_main_v33, val_main_v34, val_main_v35, val_main_cst_6, val_main_v36, val_main_v37, val_main_v38, val_main_v39,
    val_main_cst_7, val_main_v40, val_main_v41, val_main_v42, val_main_cst_8, val_main_v43, val_main_v44, val_main_v45,
    val_main_v46, val_main_cst_9, val_main_v47, val_main_v48, val_main_cst_10, val_main_v49, val_main_v50,
    val_main_v51, val_main_v52, val_main_v53, val_main_v54, val_main_cst_11, val_main_v55, val_main_v56,
    val_main_cst_12, val_main_v57, val_main_v58, val_main_v59, val_main_v60, val_main_v61, val_main_v62, val_main_v63,
    val_main_v64, val_main_v65, Cert.Norm.hostReduceAdd_lead, Cert.Norm.hostReduceAdd_ends]
  all_goals rfl

/-- A real array of rows' results are the kernel's sums over tiles. -/
theorem sums (X : S1x8192x1024.Idx → ℝ) (G S : S1x1024.Idx → ℝ) (W : S1x1024x3592.Idx → ℝ) (P : S1x8192x3592.Idx → ℝ) (l : Fin 1024) :
    (∑ r, rows (fun i => (X i : EReal)) r l * Norm.inv (rows (fun i => (X i : EReal)) r) * (G (ix2 0 l) : EReal)
        * dh (fun i => (P i : EReal)) (fun i => (W i : EReal)) r l)
      = ∑ r, term X W P (fun k => G (ix2 0 k)) l r
    ∧ (∑ r, rows (fun i => (X i : EReal)) r l * Norm.inv (rows (fun i => (X i : EReal)) r)
        * (dh (fun i => (P i : EReal)) (fun i => (W i : EReal)) r l * (1 + (S (ix2 0 l) : EReal))))
      = ∑ r, term X W P (fun k => 1 + S (ix2 0 k)) l r := by
  have e : ∀ r, rows (fun i => (X i : EReal)) r = fun k => ((X (ix3 0 r k) : ℝ) : EReal) := fun r => rfl
  constructor <;> refine Finset.sum_congr rfl fun r _ => ?_
  all_goals
    unfold term
    simp only [dh_coe, e, Norm.inv_coe, ← EReal.coe_one, ← EReal.coe_add, ← EReal.coe_mul]
    exact congrArg _ (by ring)

end Cert.BwdInRefIdeal.Read
-- ==== Proof.BwdInClaim.lean ====
module

public import proofs.«01_k».proof.Defs
public import proofs.«01_k».proof.Proof.BwdInEq
public import proofs.«01_k».proof.Proof.Gen.BwdIn.Frame
public import proofs.«01_k».proof.Proof.Gen.BwdInIdeal.Frame

/-! The input projection's backward call: its claims. -/

@[expose] public section

noncomputable section

open Idealize.ShloMosaic Idealize.ShloMosaic.TcCoe Idealize.SL.Sem

namespace Cert.Pre_finite_in

theorem facts : Facts where
  bcast_S_S1x8192x1024 := by decide
  bcast_S_S1x1024 := by decide
  bcast_S_S1x1024x3592 := by decide
  bcast_S_S1x8192x3592 := by decide

end Cert.Pre_finite_in

namespace Cert.Proof.In

attribute [local instance] Cert.Pre_finite_in.facts

theorem frame_ideal : Cert.quiescent_BwdInIdeal := fun m ρ _ => Cert.BwdInIdeal.Gen.frame m ρ

theorem frame_kernel : Cert.quiescent_BwdIn := fun m ρ _ => Cert.BwdIn.Gen.frame m ρ

theorem frame_reference : Cert.quiescent_BwdInRefIdeal := fun m ρ _ =>
  (θ_run Cert.BwdInRefIdeal.defs _ _).mono (fun r h => ⟨fun c => (h c).2.2.2.2, sem_eq_zero_of_no_sems rfl r.2⟩)
    (Cert.BwdInRefIdeal.Value.run m ρ)

open Cert.BwdInRefIdeal.Read in
/-- The reference's results at the kernel's arguments, where those are real, are what the kernel's arrays end holding. -/
theorem results (m : (ℓ : Loc Cert.BwdInIdeal.nD Cert.BwdInIdeal.τ Cert.BwdInIdeal.sig) → Buf (Elt Ideal) ℓ)
    (hpre : Cert.Pre_BwdInIdeal_finite_in m) (c : Dev Cert.BwdInIdeal.nD) :
    val_main_v65 (F := Ideal) (m ((c.tc : Thread _ _).loc Cert.BwdInIdeal.main_arg0)) (m ((c.tc : Thread _ _).loc Cert.BwdInIdeal.main_arg1))
        (m ((c.tc : Thread _ _).loc Cert.BwdInIdeal.main_arg2)) (m ((c.tc : Thread _ _).loc Cert.BwdInIdeal.main_arg3))
        (m ((c.tc : Thread _ _).loc Cert.BwdInIdeal.main_arg5)) (m ((c.tc : Thread _ _).loc Cert.BwdInIdeal.main_arg6))
      = (Cert.BwdInIdeal.Gen.dats m 0 c).arrAt 6 Cert.BwdInIdeal.cfg0.N
    ∧ val_main_v34 (F := Ideal) (m ((c.tc : Thread _ _).loc Cert.BwdInIdeal.main_arg5)) (m ((c.tc : Thread _ _).loc Cert.BwdInIdeal.main_arg6))
      = (Cert.BwdInIdeal.Gen.dats m 0 c).arrAt 7 Cert.BwdInIdeal.cfg0.N
    ∧ val_main_v41 (F := Ideal) (m ((c.tc : Thread _ _).loc Cert.BwdInIdeal.main_arg0)) (m ((c.tc : Thread _ _).loc Cert.BwdInIdeal.main_arg2))
        (m ((c.tc : Thread _ _).loc Cert.BwdInIdeal.main_arg5)) (m ((c.tc : Thread _ _).loc Cert.BwdInIdeal.main_arg6))
      = (Cert.BwdInIdeal.Gen.dats m 0 c).arrAt 8 Cert.BwdInIdeal.cfg0.N
    ∧ val_main_v64 (F := Ideal) (m ((c.tc : Thread _ _).loc Cert.BwdInIdeal.main_arg0)) (m ((c.tc : Thread _ _).loc Cert.BwdInIdeal.main_arg3))
        (m ((c.tc : Thread _ _).loc Cert.BwdInIdeal.main_arg5)) (m ((c.tc : Thread _ _).loc Cert.BwdInIdeal.main_arg6))
      = (Cert.BwdInIdeal.Gen.dats m 0 c).arrAt 9 Cert.BwdInIdeal.cfg0.N := by
  obtain ⟨p0, p1, p2, p3, p4⟩ := hpre c
  obtain ⟨X, hX⟩ := Norm.real_of_pre _ _ p0
  obtain ⟨G, hG⟩ := Norm.real_of_pre _ _ p1
  obtain ⟨S, hS⟩ := Norm.real_of_pre _ _ p2
  obtain ⟨W, hW⟩ := Norm.real_of_pre _ _ p3
  obtain ⟨P, hP⟩ := Norm.real_of_pre _ _ p4
  rw [Cert.BwdInIdeal.Value.final_6, Cert.BwdInIdeal.Value.final_7, Cert.BwdInIdeal.Value.final_8, Cert.BwdInIdeal.Value.final_9]
  unfold Cert.BwdInIdeal.Value.gx Cert.BwdInIdeal.Value.tile7 Cert.BwdInIdeal.Value.tile8 Cert.BwdInIdeal.Value.tile9
  unfold Cert.BwdInIdeal.Value.x Cert.BwdInIdeal.Value.dhm Cert.BwdInIdeal.Value.ng Cert.BwdInIdeal.Value.sc Cert.BwdInIdeal.Value.dx2
  rw [hX, hG, hS, hW, hP]
  generalize m ((c.tc : Thread _ _).loc Cert.BwdInIdeal.main_arg1) = D
  have e1 : ∀ k, (1 : EReal) + Cert.BwdInIdeal.Value.vec (fun i => (S i : EReal)) k = ((1 + S (ix2 0 k) : ℝ) : EReal) := fun k => by
    rw [EReal.coe_add, EReal.coe_one]; rfl
  refine ⟨?_, ?_, ?_, ?_⟩ <;> funext y
  · exact ((congrArg _ (eq_ix2 y)).trans (reads _ D _ _ _ _ (y 0) 0 (y 1)).1).trans
      (Cert.BwdInIdeal.Value.gx_coe X G S W P _ (y 0) (y 1)).symm
  · exact ((congrArg _ (eq_ix2 y)).trans (reads (fun i => (X i : EReal)) D (fun i => (G i : EReal)) (fun i => (S i : EReal)) _ _ 0 (y 0) (y 1)).2.1).trans
      (Norm.sum_tiles Cert.BwdInIdeal.Gen.N_0
        (fun r => Cert.BwdInIdeal.Value.dh (fun i => (P i : EReal)) (fun i => (W i : EReal)) r (y 1))
        (fun t i => Cert.BwdInIdeal.Value.row t (Cert.BwdInIdeal.Value.lo i))
        (fun t i => Cert.BwdInIdeal.Value.row t (Cert.BwdInIdeal.Value.hi i)) (fun _ _ => rfl) (fun _ _ => rfl)).symm
  · exact ((congrArg _ (eq_ix2 y)).trans (reads _ D _ (fun i => (S i : EReal)) _ _ 0 (y 0) (y 1)).2.2.1).trans
      ((sums X G S W P (y 1)).1.trans (Cert.BwdInIdeal.Value.parts_coe X W P (fun k => G (ix2 0 k)) (y 1)).symm)
  · refine ((congrArg _ (eq_ix2 y)).trans (reads _ D (fun i => (G i : EReal)) _ _ _ 0 (y 0) (y 1)).2.2.2).trans
      ((sums X G S W P (y 1)).2.trans ((Cert.BwdInIdeal.Value.parts_coe X W P (fun k => 1 + S (ix2 0 k)) (y 1)).symm.trans ?_))
    rw [funext e1]

/-- The ideal kernel and the gradient computed by differentiation return the same four arrays. -/
theorem algebraic : Cert.algebraic_BwdInIdeal_BwdInRefIdeal_pre_finite_in := by
  pair_intro
  · run_from Cert.BwdInIdeal.Value.run_blocks m g
  · run_from Cert.BwdInRefIdeal.Value.run m' g'
    · obtain ⟨h0, h1, h2, h3, _, h5, h6⟩ := hagree c
      rw [Cert.BwdInRefIdeal.Read.val_main_v65_eq m' c, h0, h1, h2, h3, h5, h6]
      exact (results m hpre c).1
    · exact (results m hpre c).2.1
    · exact (results m hpre c).2.2.1
    · exact (results m hpre c).2.2.2

end Cert.Proof.In
-- ==== Proof.OutBwdBlocks.lean ====
module

public import proofs.«01_k».proof.Proof.Gen.OutBwdIdeal.Value
public import proofs.«01_k».proof.Proof.Norm
public import Idealize.ShloMosaic.Lib.Pipeline.ValueKit

/-! The output's forward and backward call: what its windows hold of the arguments at each point. -/

@[expose] public section

set_option maxRecDepth 16384

noncomputable section

open Idealize.ShloMosaic Idealize.ShloMosaic.TcCoe Idealize.SL.Sem
open Idealize.ShloMosaic.Pipeline (Dat)
open scoped BigOperators

namespace Cert.OutBwdIdeal.Value

open Cert.OutBwdIdeal Cert.OutBwdIdeal.Gen

variable (m : (ℓ : Loc nD τ sig) → Buf (Elt Ideal) ℓ)

/-- Which block each window holds at each point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![0, 0] ∧ win0_9.index t = ![0, 0] ∧ win0_10.index t = ![0, 0]
    ∧ win0_11.index t = ![0, 0] :=
  (by decide +kernel : ∀ t : Fin grid0.N, _)

/-- Row `i` of point `t`'s tile, among the rows of the whole sequence. -/
def row (t : Fin cfg0.N) (i : Fin 512) : Fin 8192 :=
  ⟨t.val * 512 + i.val, by have ht : t.val < 16 := lt_of_lt_of_eq t.isLt N_0; have hi := i.isLt; omega⟩

/-! ## What the host lines before the call leave -/

theorem V4 (c : Dev nD) : V m c main_v4 = (truncf .bf16 (shapeCast S8192x1024 (m ((c : Thread nD τ).loc main_arg0)) shapeCasts_S1x8192x1024_S8192x1024 : FVec Ideal S8192x1024 .f32) bitsLt_bf16_f32 : FVec Ideal S8192x1024 .bf16) := by
  simp only [V, List.flatten_cons, List.flatten_nil, List.append_nil, List.cons_append, List.nil_append]
  entry_read
  rfl

theorem V5 (c : Dev nD) : V m c main_v5 = shapeCast S8192x1024 (m ((c : Thread nD τ).loc main_arg1)) shapeCasts_S1x8192x1024_S8192x1024 := by
  simp only [V, List.flatten_cons, List.flatten_nil, List.append_nil, List.cons_append, List.nil_append]
  entry_read
  rfl

theorem V6 (c : Dev nD) : V m c main_v6 = shapeCast S8192x1024 (m ((c : Thread nD τ).loc main_arg2)) shapeCasts_S1x8192x1024_S8192x1024 := by
  simp only [V, List.flatten_cons, List.flatten_nil, List.append_nil, List.cons_append, List.nil_append]
  entry_read
  rfl

theorem V1 (c : Dev nD) : V m c main_v1 = (truncf .bf16 (shapeCast S1024x1024 (m ((c : Thread nD τ).loc main_arg3)) shapeCasts_S1x1024x1024_S1024x1024 : FVec Ideal S1024x1024 .f32) bitsLt_bf16_f32 : FVec Ideal S1024x1024 .bf16) := by
  simp only [V, List.flatten_cons, List.flatten_nil, List.append_nil, List.cons_append, List.nil_append]
  entry_read
  rfl

theorem V2 (c : Dev nD) : V m c main_v2 = shapeCast S1x1024 (m ((c : Thread nD τ).loc main_arg5)) shapeCasts_S1024_S1x1024 := by
  simp only [V, List.flatten_cons, List.flatten_nil, List.append_nil, List.cons_append, List.nil_append]
  entry_read
  rfl

theorem cast4 (x : FVec Ideal S1x8192x1024 .f32) (r : Fin 8192) (l : Fin 1024) :
    ((truncf .bf16 (shapeCast S8192x1024 x shapeCasts_S1x8192x1024_S8192x1024 : FVec Ideal S8192x1024 .f32) bitsLt_bf16_f32 : FVec Ideal S8192x1024 .bf16) (ix2 r l) : EReal) = x (ix3 0 r l) :=
  Norm.drop_unit x shapeCasts_S1x8192x1024_S8192x1024 r l

theorem cast1 (x : FVec Ideal S1x1024x1024 .f32) (r : Fin 1024) (l : Fin 1024) :
    ((truncf .bf16 (shapeCast S1024x1024 x shapeCasts_S1x1024x1024_S1024x1024 : FVec Ideal S1024x1024 .f32) bitsLt_bf16_f32 : FVec Ideal S1024x1024 .bf16) (ix2 r l) : EReal) = x (ix3 0 r l) :=
  Norm.drop_unit x shapeCasts_S1x1024x1024_S1024x1024 r l

theorem cast2 (x : FVec Ideal S1024 .f32) (u : Fin 1) (l : Fin 1024) :
    (shapeCast S1x1024 x shapeCasts_S1024_S1x1024 (ix2 u l) : EReal) = x (ix1 l) := by
  pointwise

/-! ## Blocks -/

theorem blk0 (c : Dev nD) (t : Fin cfg0.N) (i : Fin 512) (l : Fin 1024) :
    (iblk m c 0 t (ix2 i l) : EReal) = (m ((c : Thread nD τ).loc main_arg0) : FVec Ideal S1x8192x1024 .f32) (ix3 0 (row t i) l) := by
  refine Eq.trans ?_ ((congrFun (V4 m c) (ix2 (row t i) l)).trans (cast4 (m ((c : Thread nD τ).loc main_arg0)) (row t i) l))
  blk_simp [iblk, idx t]
  refine congrArg (V m c main_v4) ?_
  blk_ext [idx t, row]

theorem blk1 (c : Dev nD) (t : Fin cfg0.N) (i : Fin 512) (l : Fin 1024) :
    (iblk m c 1 t (ix2 i l) : EReal) = (m ((c : Thread nD τ).loc main_arg1) : FVec Ideal S1x8192x1024 .f32) (ix3 0 (row t i) l) := by
  refine Eq.trans ?_ ((congrFun (V5 m c) (ix2 (row t i) l)).trans (Norm.drop_unit _ _ (row t i) l))
  blk_simp [iblk, idx t]
  refine congrArg (V m c main_v5) ?_
  blk_ext [idx t, row]

theorem blk2 (c : Dev nD) (t : Fin cfg0.N) (i : Fin 512) (l : Fin 1024) :
    (iblk m c 2 t (ix2 i l) : EReal) = (m ((c : Thread nD τ).loc main_arg2) : FVec Ideal S1x8192x1024 .f32) (ix3 0 (row t i) l) := by
  refine Eq.trans ?_ ((congrFun (V6 m c) (ix2 (row t i) l)).trans (Norm.drop_unit _ _ (row t i) l))
  blk_simp [iblk, idx t]
  refine congrArg (V m c main_v6) ?_
  blk_ext [idx t, row]

theorem blk3 (c : Dev nD) (t : Fin cfg0.N) (i l : Fin 1024) :
    (iblk m c 3 t (ix2 i l) : EReal) = (m ((c : Thread nD τ).loc main_arg3) : FVec Ideal S1x1024x1024 .f32) (ix3 0 i l) := by
  refine Eq.trans ?_ ((congrFun (V1 m c) (ix2 i l)).trans (cast1 (m ((c : Thread nD τ).loc main_arg3)) i l))
  blk_simp [iblk, idx t]
  refine congrArg (V m c main_v1) ?_
  blk_ext [idx t]

theorem blk4 (c : Dev nD) (t : Fin cfg0.N) (i : Fin 1) (l : Fin 1024) :
    (iblk m c 4 t (ix2 i l) : EReal) = (m ((c : Thread nD τ).loc main_arg4) : FVec Ideal S1x1024 .f32) (ix2 0 l) := by
  blk_simp [iblk, idx t]
  refine congrArg (m ((c : Thread nD τ).loc main_arg4)) ?_
  blk_ext [idx t]

theorem blk5 (c : Dev nD) (t : Fin cfg0.N) (i : Fin 1) (l : Fin 1024) :
    (iblk m c 5 t (ix2 i l) : EReal) = (m ((c : Thread nD τ).loc main_arg5) : FVec Ideal S1024 .f32) (ix1 l) := by
  refine Eq.trans ?_ ((congrFun (V2 m c) (ix2 0 l)).trans (cast2 (m ((c : Thread nD τ).loc main_arg5)) 0 l))
  blk_simp [iblk, idx t]
  refine congrArg (V m c main_v2) ?_
  blk_ext [idx t]

end Cert.OutBwdIdeal.Value
-- ==== Proof.OutBwdRow.lean ====
module

public import proofs.«01_k».proof.Proof.Norm

/-! One row of the output projection, the gated residual, the final norm, the loss and their gradients. `w` is the
projection's weights, `g` the gate, `f` the norm's gain, `a` a row of the mixers' output, `x` of the input, `t` of the
target. -/

@[expose] public section

noncomputable section

open Idealize.ShloMosaic
open scoped BigOperators

namespace Cert.OutRow

section
variable (w : Fin 1024 → Fin 1024 → EReal) (g f a x t : Fin 1024 → EReal)

/-- The projection of a row. -/
def o2 (l : Fin 1024) : EReal := ∑ k, a k * w k l

/-- The row after the gated residual. -/
def x2 (l : Fin 1024) : EReal := x l + g l * o2 w a l

/-- The normalised row less the target. -/
def err (l : Fin 1024) : EReal := x2 w g a x l * Norm.inv (x2 w g a x) * f l - t l

/-- The loss's gradient by the normalised row. -/
def dy (l : Fin 1024) : EReal := Ideal.div (err w g f a x t l) (Ideal.ofBits .f32 1149239296#32)

/-- The loss's gradient by the row after the residual. -/
def dx2 (l : Fin 1024) : EReal := Norm.back (x2 w g a x) (fun k => dy w g f a x t k * f k) l

/-- The loss's gradient by the projection of the row. -/
def do2 (l : Fin 1024) : EReal := dx2 w g f a x t l * g l

/-- The loss's gradient by the mixers' row. -/
def dmix (l : Fin 1024) : EReal := ∑ k, do2 w g f a x t k * w l k

/-- What the row adds to the gradient of the norm's gain. -/
def dfg (l : Fin 1024) : EReal := dy w g f a x t l * (x2 w g a x l * Norm.inv (x2 w g a x))

/-- What the row adds to the gate's gradient. -/
def dgate (l : Fin 1024) : EReal := dx2 w g f a x t l * o2 w a l

/-- The loss's gradient by the normalised row, as differentiation writes it. -/
def rdy (l : Fin 1024) : EReal :=
  Ideal.div (Ideal.ofBits .f32 1056964608#32) (Ideal.ofBits .f32 1149239296#32)
    * (Ideal.ofBits .f32 1073741824#32 * err w g f a x t l)

/-- The loss's gradient by the row after the residual, as differentiation writes it. -/
def rdx2 (l : Fin 1024) : EReal :=
  rdy w g f a x t l * f l * Norm.inv (x2 w g a x)
    + x2 w g a x l * Norm.half (x2 w g a x) (fun k => rdy w g f a x t k * f k)
    + Norm.half (x2 w g a x) (fun k => rdy w g f a x t k * f k) * x2 w g a x l

/-- The row's squared error. -/
def sq : EReal := ∑ l, err w g f a x t l * err w g f a x t l
end

/-! ## A row of reals -/

section
variable (w : Fin 1024 → Fin 1024 → ℝ) (g f a x t : Fin 1024 → ℝ)

def ro2 (l : Fin 1024) : ℝ := ∑ k, a k * w k l

def rx2 (l : Fin 1024) : ℝ := x l + g l * ro2 w a l

def rerr (l : Fin 1024) : ℝ := rx2 w g a x l * Norm.rinv (rx2 w g a x) * f l - t l

theorem ofBits_half : Ideal.ofBits .f32 1056964608#32 = ((1 / 2 : ℝ) : EReal) := by
  norm_num [Ideal.ofBits, Ideal.ieee, Nat.shiftRight_eq_div_pow, BitVec.extractLsb']

theorem ofBits_two : Ideal.ofBits .f32 1073741824#32 = ((2 : ℝ) : EReal) := by
  norm_num [Ideal.ofBits, Ideal.ieee, Nat.shiftRight_eq_div_pow, BitVec.extractLsb']

theorem x2_coe : x2 (fun k l => (w k l : EReal)) (fun l => (g l : EReal)) (fun l => (a l : EReal)) (fun l => (x l : EReal))
    = fun l => (rx2 w g a x l : EReal) := by
  funext l
  unfold x2 rx2 o2 ro2
  simp only [← EReal.coe_mul, Norm.coe_sum, ← EReal.coe_add]

theorem err_coe (l : Fin 1024) :
    err (fun k l => (w k l : EReal)) (fun l => (g l : EReal)) (fun l => (f l : EReal)) (fun l => (a l : EReal)) (fun l => (x l : EReal))
      (fun l => (t l : EReal)) l = (rerr w g f a x t l : EReal) := by
  unfold err rerr
  rw [x2_coe]
  simp only [Norm.inv_coe, ← EReal.coe_mul, ← EReal.coe_sub]

theorem sq_coe :
    sq (fun k l => (w k l : EReal)) (fun l => (g l : EReal)) (fun l => (f l : EReal)) (fun l => (a l : EReal)) (fun l => (x l : EReal))
      (fun l => (t l : EReal)) = ((∑ l, rerr w g f a x t l * rerr w g f a x t l : ℝ) : EReal) := by
  unfold sq
  simp only [err_coe, ← EReal.coe_mul, Norm.coe_sum]

theorem dy_coe (l : Fin 1024) :
    dy (fun k l => (w k l : EReal)) (fun l => (g l : EReal)) (fun l => (f l : EReal)) (fun l => (a l : EReal)) (fun l => (x l : EReal))
      (fun l => (t l : EReal)) l = ((rerr w g f a x t l * (1 / 1024) : ℝ) : EReal) := by
  unfold dy
  rw [err_coe, Norm.ofBits_width, Ideal.div_coe (by norm_num), ← EReal.coe_mul]

theorem rdy_coe (l : Fin 1024) :
    rdy (fun k l => (w k l : EReal)) (fun l => (g l : EReal)) (fun l => (f l : EReal)) (fun l => (a l : EReal)) (fun l => (x l : EReal))
      (fun l => (t l : EReal)) l = ((rerr w g f a x t l * (1 / 1024) : ℝ) : EReal) := by
  unfold rdy
  rw [err_coe, Norm.ofBits_width, ofBits_half, ofBits_two, Ideal.div_coe (by norm_num), ← EReal.coe_mul, ← EReal.coe_mul, ← EReal.coe_mul]
  exact congrArg _ (by ring)

/-- The two ways of writing the gradient by the row after the residual agree at a row of reals. -/
theorem dx2_eq :
    dx2 (fun k l => (w k l : EReal)) (fun l => (g l : EReal)) (fun l => (f l : EReal)) (fun l => (a l : EReal)) (fun l => (x l : EReal))
      (fun l => (t l : EReal))
      = rdx2 (fun k l => (w k l : EReal)) (fun l => (g l : EReal)) (fun l => (f l : EReal)) (fun l => (a l : EReal)) (fun l => (x l : EReal))
      (fun l => (t l : EReal)) := by
  funext l
  unfold dx2 rdx2
  simp only [dy_coe, rdy_coe, x2_coe, ← EReal.coe_mul, Norm.inv_coe, Norm.back_coe, Norm.half_coe]
  rw [Norm.rback_eq, EReal.coe_add, EReal.coe_add]
end

end Cert.OutRow
-- ==== Proof.OutBwdKernel.lean ====
module

public import proofs.«01_k».proof.Proof.OutBwdBlocks
public import proofs.«01_k».proof.Proof.OutBwdRow
/-! The output's forward and backward call: each of its results as a function of the arguments. -/

@[expose] public section

set_option maxRecDepth 16384

noncomputable section

open Idealize.ShloMosaic Idealize.ShloMosaic.TcCoe Idealize.SL.Sem
open Idealize.ShloMosaic.Pipeline (Dat)
open scoped BigOperators

namespace Cert.OutBwdIdeal.Value

open Cert.OutBwdIdeal Cert.OutBwdIdeal.Gen

/-- A row of an array of rows. -/
def rows (a : FVec Ideal S1x8192x1024 .f32) (r : Fin 8192) (l : Fin 1024) : EReal := a (ix3 0 r l)
/-- The matrix of an array of one matrix. -/
def mat (a : FVec Ideal S1x1024x1024 .f32) (k l : Fin 1024) : EReal := a (ix3 0 k l)
/-- The only row of an array of one row. -/
def vec (a : FVec Ideal S1x1024 .f32) (l : Fin 1024) : EReal := a (ix2 0 l)
/-- An array of one axis. -/
def gain (a : FVec Ideal S1024 .f32) (l : Fin 1024) : EReal := a (ix1 l)
/-- A row of a tile. -/
def brow (a : FVec Ideal S512x1024 .f32) (i : Fin 512) (l : Fin 1024) : EReal := a (ix2 i l)
/-- A row of a tile of the mixers' output. -/
def brow16 (a : FVec Ideal S512x1024 .bf16) (i : Fin 512) (l : Fin 1024) : EReal := a (ix2 i l)
/-- The projection's weights in a block. -/
def bmat (a : FVec Ideal S1024x1024 .bf16) (k l : Fin 1024) : EReal := a (ix2 k l)

variable (m : (ℓ : Loc nD τ sig) → Buf (Elt Ideal) ℓ)

abbrev mix (c : Dev nD) := rows (m ((c : Thread nD τ).loc main_arg0))
abbrev x (c : Dev nD) := rows (m ((c : Thread nD τ).loc main_arg1))
abbrev tgt (c : Dev nD) := rows (m ((c : Thread nD τ).loc main_arg2))
abbrev w (c : Dev nD) := mat (m ((c : Thread nD τ).loc main_arg3))
abbrev g (c : Dev nD) := vec (m ((c : Thread nD τ).loc main_arg4))
abbrev f (c : Dev nD) := gain (m ((c : Thread nD τ).loc main_arg5))

theorem brow0 (c : Dev nD) (t : Fin cfg0.N) (i : Fin 512) : brow16 (iblk m c 0 t) i = mix m c (row t i) := funext fun l => blk0 m c t i l
theorem brow1 (c : Dev nD) (t : Fin cfg0.N) (i : Fin 512) : brow (iblk m c 1 t) i = x m c (row t i) := funext fun l => blk1 m c t i l
theorem brow2 (c : Dev nD) (t : Fin cfg0.N) (i : Fin 512) : brow (iblk m c 2 t) i = tgt m c (row t i) := funext fun l => blk2 m c t i l
theorem bmat3 (c : Dev nD) (t : Fin cfg0.N) : bmat (iblk m c 3 t) = w m c := funext fun k => funext fun l => blk3 m c t k l
theorem vec4 (c : Dev nD) (t : Fin cfg0.N) : vec (iblk m c 4 t) = g m c := funext fun l => blk4 m c t 0 l
theorem vec5 (c : Dev nD) (t : Fin cfg0.N) : vec (iblk m c 5 t) = f m c := funext fun l => blk5 m c t 0 l

/-- A row's function at the blocks of point `t`. -/
def atBlk {α : Type} (F : (Fin 1024 → Fin 1024 → EReal) → (Fin 1024 → EReal) → (Fin 1024 → EReal) → (Fin 1024 → EReal) → (Fin 1024 → EReal) → (Fin 1024 → EReal) → α)
    (b0 : FVec Ideal S512x1024 .bf16) (b1 b2 : FVec Ideal S512x1024 .f32) (b3 : FVec Ideal S1024x1024 .bf16) (b4 b5 : FVec Ideal S1x1024 .f32) (i : Fin 512) : α :=
  F (bmat b3) (vec b4) (vec b5) (brow16 b0 i) (brow b1 i) (brow b2 i)

/-- A row's function at row `r` of the arguments. -/
def atRow {α : Type} (F : (Fin 1024 → Fin 1024 → EReal) → (Fin 1024 → EReal) → (Fin 1024 → EReal) → (Fin 1024 → EReal) → (Fin 1024 → EReal) → (Fin 1024 → EReal) → α)
    (c : Dev nD) (r : Fin 8192) : α :=
  F (w m c) (g m c) (f m c) (mix m c r) (x m c r) (tgt m c r)

theorem atBlk_eq {α : Type} (F : (Fin 1024 → Fin 1024 → EReal) → (Fin 1024 → EReal) → (Fin 1024 → EReal) → (Fin 1024 → EReal) → (Fin 1024 → EReal) → (Fin 1024 → EReal) → α)
    (c : Dev nD) (t : Fin cfg0.N) (i : Fin 512) :
    atBlk F (iblk m c 0 t) (iblk m c 1 t) (iblk m c 2 t) (iblk m c 3 t) (iblk m c 4 t) (iblk m c 5 t) i = atRow m F c (row t i) := by
  unfold atBlk atRow
  rw [brow0, brow1, brow2, bmat3, vec4, vec5]

/-- The three cases a point is of. -/
theorem cases (t : Fin cfg0.N) : (t.val % 16 = 0 ∧ ¬t.val % 16 = 15) ∨ (¬t.val % 16 = 0 ∧ ¬t.val % 16 = 15) ∨ (¬t.val % 16 = 0 ∧ t.val % 16 = 15) := by
  omega

set_option maxHeartbeats 2000000 in
/-- What the first result's tile holds. -/
theorem piece6 (c : Dev nD) (t : Fin cfg0.N) (i : Fin 512) (l : Fin 1024) :
    (outsAt0 m c t.val t.isLt).1 (ix2 i l) = atRow m OutRow.dx2 c (row t i) l := by
  refine Eq.trans ?_ (congrFun (atBlk_eq m OutRow.dx2 c t i) l)
  rcases cases t with ⟨h, k⟩ | ⟨h, k⟩ | ⟨h, k⟩
  <;> [rw [outsAt0_A m c t h k]; rw [outsAt0_B m c t h k]; rw [outsAt0_C m c t h k]]
  <;> frame_out
  <;> (canon_tiles y h
       · obtain rfl : i = ⟨256 + (y 0).val, Nat.add_lt_add_left y0_lt 256⟩ := Fin.ext h0
         obtain rfl : l = y 1 := Fin.ext h1
         idx_vars y
         open_payloads
         pointwise
         rfl
       · obtain rfl : i = ⟨(y 0).val, lt_trans y0_lt (by decide)⟩ := Fin.ext h0
         obtain rfl : l = y 1 := Fin.ext h1
         idx_vars y
         open_payloads
         pointwise
         rfl)

set_option maxHeartbeats 2000000 in
/-- What the second result's tile holds. -/
theorem piece7 (c : Dev nD) (t : Fin cfg0.N) (i : Fin 512) (l : Fin 1024) :
    (outsAt0 m c t.val t.isLt).2.1 (ix2 i l) = atRow m OutRow.dmix c (row t i) l := by
  refine Eq.trans ?_ (congrFun (atBlk_eq m OutRow.dmix c t i) l)
  rcases cases t with ⟨h, k⟩ | ⟨h, k⟩ | ⟨h, k⟩
  <;> [rw [outsAt0_A m c t h k]; rw [outsAt0_B m c t h k]; rw [outsAt0_C m c t h k]]
  <;> frame_out
  <;> (canon_tiles y h
       · obtain rfl : i = ⟨256 + (y 0).val, Nat.add_lt_add_left y0_lt 256⟩ := Fin.ext h0
         obtain rfl : l = y 1 := Fin.ext h1
         idx_vars y
         open_payloads
         pointwise
         rfl
       · obtain rfl : i = ⟨(y 0).val, lt_trans y0_lt (by decide)⟩ := Fin.ext h0
         obtain rfl : l = y 1 := Fin.ext h1
         idx_vars y
         open_payloads
         pointwise
         rfl)

def lo (i : Fin 256) : Fin 512 := ⟨i, by omega⟩
def hi (i : Fin 256) : Fin 512 := ⟨256 + i, by omega⟩

/-- A sum over the rows of a tile, half by half. -/
def halves (F : Fin 512 → EReal) : EReal := ∑ i, F (lo i) + ∑ i, F (hi i)

/-- A tile's part of the loss, from the rows' squared errors. -/
def lossPart (F : Fin 512 → EReal) : EReal :=
  Ideal.div (Ideal.ofBits .f32 1056964608#32 * ∑ i, F (lo i)) (Ideal.ofBits .f32 1149239296#32)
    + Ideal.div (Ideal.ofBits .f32 1056964608#32 * ∑ i, F (hi i)) (Ideal.ofBits .f32 1149239296#32)

/-- What the rows of tile `t` add to the gate's gradient. -/
def tile9 (c : Dev nD) (t : Fin cfg0.N) (l : Fin 1024) : EReal := halves fun i => atRow m OutRow.dgate c (row t i) l

theorem tile9_at (c : Dev nD) (t : Fin cfg0.N) (l : Fin 1024) :
    halves (fun i => atBlk OutRow.dgate (iblk m c 0 t) (iblk m c 1 t) (iblk m c 2 t) (iblk m c 3 t) (iblk m c 4 t) (iblk m c 5 t) i l) = tile9 m c t l :=
  congrArg halves (funext fun i => congrFun (atBlk_eq m OutRow.dgate c t i) l)

theorem step9_A (c : Dev nD) (t : Fin cfg0.N) (h : t.val % 16 = 0) (l : Fin 1024) :
    (outsAt0 m c t.val t.isLt).2.2.2.1 (ix2 0 l) = tile9 m c t l := by
  refine Eq.trans ?_ (tile9_at m c t l)
  rw [outsAt0_A m c t h (by omega)]
  frame_out
  open_payloads
  pointwise
  rfl

set_option maxHeartbeats 1000000 in
theorem step9_B (c : Dev nD) (t : Fin cfg0.N) (h : ¬t.val % 16 = 0) (l : Fin 1024) :
    (outsAt0 m c t.val t.isLt).2.2.2.1 (ix2 0 l)
      = ((outsAt0 m c (t.val - 1) (by have := t.isLt; omega)).2.2.2.1 (ix2 0 l) : EReal) + tile9 m c t l := by
  refine Eq.trans ?_ (congrArg (fun e : EReal => ((outsAt0 m c (t.val - 1) (by have := t.isLt; omega)).2.2.2.1 (ix2 0 l) : EReal) + e) (tile9_at m c t l))
  by_cases k : t.val % 16 = 15
  <;> [rw [outsAt0_C m c t h k]; rw [outsAt0_B m c t h k]]
  <;> (frame_out
       open_payloads
       pointwise
       exact add_assoc _ _ _)

theorem final_9 (c : Dev nD) : (dats m 0 c).arrAt 9 cfg0.N = fun y => ∑ t, tile9 m c t (y 1) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0)
    (fun t j => tile9 m c t (j 1))
    (fun t h j => by
      idx_vars j
      obtain rfl : j0 = 0 := Subsingleton.elim _ _
      exact (step9_A m c t h j1).trans (zero_add _).symm)
    (fun t h j => by
      idx_vars j
      obtain rfl : j0 = 0 := Subsingleton.elim _ _
      exact step9_B m c t h j1) (le_of_eq N_0) t0_15 rfl j, zero_add]

/-- What the rows of tile `t` add to the gradient of the norm's gain. -/
def tile10 (c : Dev nD) (t : Fin cfg0.N) (l : Fin 1024) : EReal := halves fun i => atRow m OutRow.dfg c (row t i) l

theorem tile10_at (c : Dev nD) (t : Fin cfg0.N) (l : Fin 1024) :
    halves (fun i => atBlk OutRow.dfg (iblk m c 0 t) (iblk m c 1 t) (iblk m c 2 t) (iblk m c 3 t) (iblk m c 4 t) (iblk m c 5 t) i l) = tile10 m c t l :=
  congrArg halves (funext fun i => congrFun (atBlk_eq m OutRow.dfg c t i) l)

theorem step10_A (c : Dev nD) (t : Fin cfg0.N) (h : t.val % 16 = 0) (l : Fin 1024) :
    (outsAt0 m c t.val t.isLt).2.2.2.2.1 (ix2 0 l) = tile10 m c t l := by
  refine Eq.trans ?_ (tile10_at m c t l)
  rw [outsAt0_A m c t h (by omega)]
  frame_out
  open_payloads
  pointwise
  rfl

set_option maxHeartbeats 1000000 in
theorem step10_B (c : Dev nD) (t : Fin cfg0.N) (h : ¬t.val % 16 = 0) (l : Fin 1024) :
    (outsAt0 m c t.val t.isLt).2.2.2.2.1 (ix2 0 l)
      = ((outsAt0 m c (t.val - 1) (by have := t.isLt; omega)).2.2.2.2.1 (ix2 0 l) : EReal) + tile10 m c t l := by
  refine Eq.trans ?_ (congrArg (fun e : EReal => ((outsAt0 m c (t.val - 1) (by have := t.isLt; omega)).2.2.2.2.1 (ix2 0 l) : EReal) + e) (tile10_at m c t l))
  by_cases k : t.val % 16 = 15
  <;> [rw [outsAt0_C m c t h k]; rw [outsAt0_B m c t h k]]
  <;> (frame_out
       open_payloads
       pointwise
       exact add_assoc _ _ _)

theorem final_10 (c : Dev nD) : (dats m 0 c).arrAt 10 cfg0.N = fun y => ∑ t, tile10 m c t (y 1) := by
  refine (dats m 0 c).arrAt_eq_of_after_last 10 t0_15 (by decide +kernel) _ fun j => ?_
  blk_simp
  rw [after0_10, Pipeline.eq_sum_fin_of_reset_step_apply_last (fun n h => (outsAt0 m c n h).2.2.2.2.1) 16 (fun _ => 0)
    (fun t j => tile10 m c t (j 1))
    (fun t h j => by
      idx_vars j
      obtain rfl : j0 = 0 := Subsingleton.elim _ _
      exact (step10_A m c t h j1).trans (zero_add _).symm)
    (fun t h j => by
      idx_vars j
      obtain rfl : j0 = 0 := Subsingleton.elim _ _
      exact step10_B m c t h j1) (le_of_eq N_0) t0_15 rfl j, zero_add]

/-- What the rows of tile `t` add to the loss. -/
def tile11 (c : Dev nD) (t : Fin cfg0.N) (l : Fin 128) : EReal := lossPart fun i => atRow m OutRow.sq c (row t i)

theorem tile11_at (c : Dev nD) (t : Fin cfg0.N) (l : Fin 128) :
    lossPart (fun i => atBlk OutRow.sq (iblk m c 0 t) (iblk m c 1 t) (iblk m c 2 t) (iblk m c 3 t) (iblk m c 4 t) (iblk m c 5 t) i) = tile11 m c t l :=
  congrArg lossPart (funext fun i => atBlk_eq m OutRow.sq c t i)

theorem step11_A (c : Dev nD) (t : Fin cfg0.N) (h : t.val % 16 = 0) (l : Fin 128) :
    (outsAt0 m c t.val t.isLt).2.2.2.2.2.1 (ix2 0 l) = tile11 m c t l := by
  refine Eq.trans ?_ (tile11_at m c t l)
  rw [outsAt0_A m c t h (by omega)]
  frame_out
  open_payloads
  pointwise
  rfl

set_option maxHeartbeats 1000000 in
theorem step11_B (c : Dev nD) (t : Fin cfg0.N) (h : ¬t.val % 16 = 0) (l : Fin 128) :
    (outsAt0 m c t.val t.isLt).2.2.2.2.2.1 (ix2 0 l)
      = ((outsAt0 m c (t.val - 1) (by have := t.isLt; omega)).2.2.2.2.2.1 (ix2 0 l) : EReal) + tile11 m c t l := by
  refine Eq.trans ?_ (congrArg (fun e : EReal => ((outsAt0 m c (t.val - 1) (by have := t.isLt; omega)).2.2.2.2.2.1 (ix2 0 l) : EReal) + e) (tile11_at m c t l))
  by_cases k : t.val % 16 = 15
  <;> [rw [outsAt0_C m c t h k]; rw [outsAt0_B m c t h k]]
  <;> (frame_out
       open_payloads
       pointwise
       exact add_assoc _ _ _)

theorem final_11 (c : Dev nD) : (dats m 0 c).arrAt 11 cfg0.N = fun y => ∑ t, tile11 m c t (y 1) := by
  refine (dats m 0 c).arrAt_eq_of_after_last 11 t0_15 (by decide +kernel) _ fun j => ?_
  blk_simp
  rw [after0_11, Pipeline.eq_sum_fin_of_reset_step_apply_last (fun n h => (outsAt0 m c n h).2.2.2.2.2.1) 16 (fun _ => 0)
    (fun t j => tile11 m c t (j 1))
    (fun t h j => by
      idx_vars j
      obtain rfl : j0 = 0 := Subsingleton.elim _ _
      exact (step11_A m c t h j1).trans (zero_add _).symm)
    (fun t h j => by
      idx_vars j
      obtain rfl : j0 = 0 := Subsingleton.elim _ _
      exact step11_B m c t h j1) (le_of_eq N_0) t0_15 rfl j, zero_add]

theorem pay1_at (u v : FVec Ideal S256x1024 .bf16) (acc : FVec Ideal S1024x1024 .f32) (a : FVec Ideal S512x1024 .bf16) (k l : Fin 1024) :
    (k0_pay1 (F := Ideal) u v acc a (ix2 k l) : EReal)
      = acc (ix2 k l) + (∑ i : Fin 256, a (ix2 (lo i) k) * u (ix2 i l) + ∑ i : Fin 256, a (ix2 (hi i) k) * v (ix2 i l) : EReal) := by
  open_payloads
  pointwise
  rfl

theorem halves_of (a p : Fin 512 → EReal) (u v : Fin 256 → EReal) (z z' : EReal) (hz : z = z') (hu : ∀ i, u i = p (lo i)) (hv : ∀ i, v i = p (hi i)) :
    z + (∑ i, a (lo i) * u i + ∑ i, a (hi i) * v i) = z' + halves fun i => a i * p i := by
  rw [hz, funext hu, funext hv]
  rfl

/-- What the rows of tile `t` add to the gradient of the projection's weights. -/
def tile8 (c : Dev nD) (t : Fin cfg0.N) (k l : Fin 1024) : EReal :=
  halves fun i => mix m c (row t i) k * atRow m OutRow.do2 c (row t i) l

theorem tile8_at (c : Dev nD) (t : Fin cfg0.N) (k l : Fin 1024) :
    (halves fun i => brow16 (iblk m c 0 t) i k * atBlk OutRow.do2 (iblk m c 0 t) (iblk m c 1 t) (iblk m c 2 t) (iblk m c 3 t) (iblk m c 4 t) (iblk m c 5 t) i l) = tile8 m c t k l :=
  congrArg halves (funext fun i => congrArg₂ (fun a b : EReal => a * b) (congrFun (brow0 m c t i) k) (congrFun (atBlk_eq m OutRow.do2 c t i) l))

set_option maxHeartbeats 1000000 in
theorem step12_A (c : Dev nD) (t : Fin cfg0.N) (h : t.val % 16 = 0) (k l : Fin 1024) :
    (outsAt0 m c t.val t.isLt).2.2.2.2.2.2 (ix2 k l) = tile8 m c t k l := by
  refine Eq.trans ?_ (tile8_at m c t k l)
  rw [outsAt0_A m c t h (by omega)]
  frame_out
  refine Eq.trans (pay1_at _ _ _ _ k l) ?_
  refine (halves_of (fun i => iblk m c 0 t (ix2 i k)) (fun i => atBlk OutRow.do2 (iblk m c 0 t) (iblk m c 1 t) (iblk m c 2 t) (iblk m c 3 t) (iblk m c 4 t) (iblk m c 5 t) i l)
    _ _ _ 0 ?_ (fun i => ?_) (fun i => ?_)).trans (zero_add _)
  · open_payloads
    pointwise
  · open_payloads
    pointwise
    rfl
  · open_payloads
    pointwise
    rfl

set_option maxHeartbeats 1000000 in
theorem step12_B (c : Dev nD) (t : Fin cfg0.N) (h : ¬t.val % 16 = 0) (k l : Fin 1024) :
    (outsAt0 m c t.val t.isLt).2.2.2.2.2.2 (ix2 k l) = ((outsAt0 m c (t.val - 1) (by have := t.isLt; omega)).2.2.2.2.2.2 (ix2 k l) : EReal)
       + tile8 m c t k l := by
  refine Eq.trans ?_ (congrArg (fun e : EReal => ((outsAt0 m c (t.val - 1) (by have := t.isLt; omega)).2.2.2.2.2.2 (ix2 k l) : EReal) + e) (tile8_at m c t k l))
  by_cases k' : t.val % 16 = 15
  <;> [rw [outsAt0_C m c t h k']; rw [outsAt0_B m c t h k']]
  <;> frame_out
  <;> refine Eq.trans (pay1_at _ _ _ _ k l) ?_
  <;> refine (halves_of (fun i => iblk m c 0 t (ix2 i k)) (fun i => atBlk OutRow.do2 (iblk m c 0 t) (iblk m c 1 t) (iblk m c 2 t) (iblk m c 3 t) (iblk m c 4 t) (iblk m c 5 t) i l)
    _ _ _ _ ?_ (fun i => ?_) (fun i => ?_))
  <;> (open_payloads
       pointwise
       first | rfl | exact congrFun ((Memref.isWhole_whole _).read_unread _) _)

/-- The last point copies the accumulator out. -/
theorem step8_C (c : Dev nD) (t : Fin cfg0.N) (h : ¬t.val % 16 = 0) (h' : t.val % 16 = 15) (k l : Fin 1024) :
    (outsAt0 m c t.val t.isLt).2.2.1 (ix2 k l) = ((outsAt0 m c t.val t.isLt).2.2.2.2.2.2 (ix2 k l) : EReal) := by
  rw [outsAt0_C m c t h h']
  frame_out
  rfl

theorem final_8 (c : Dev nD) : (dats m 0 c).arrAt 8 cfg0.N = fun y => ∑ t, tile8 m c t (y 0) (y 1) := by
  refine (dats m 0 c).arrAt_eq_of_after_last 8 t0_15 (by decide +kernel) _ fun j => ?_
  blk_simp
  idx_vars j
  rw [after0_8, step8_C m c t0_15 (by decide) (by decide) j0 j1,
    Pipeline.eq_sum_fin_of_reset_step_apply_last (fun n h => (outsAt0 m c n h).2.2.2.2.2.2) 16 (fun _ => 0)
    (fun t j => tile8 m c t (j 0) (j 1))
    (fun t h j => by
      idx_vars j
      exact (step12_A m c t h j0 j1).trans (zero_add _).symm)
    (fun t h j => by
      idx_vars j
      exact step12_B m c t h j0 j1) (le_of_eq N_0) t0_15 rfl (ix2 j0 j1), zero_add]
  rfl

theorem emb6 (t : Fin cfg0.N) (y : ((cfg0.win 6).xblock (cfg0.grid.coords t)).Idx) (i : Fin 512) (l : Fin 1024) (h0 : (y 0).val = i.val) (h1 : (y 1).val = l.val) :
    (cfg0.win 6 |>.blk t).view.emb y = (ix2 (row t i) l : S8192x1024.Idx) := by
  blk_ext [idx t, row, h0, h1]

theorem final_6 (c : Dev nD) : (dats m 0 c).arrAt 6 cfg0.N = fun y => atRow m OutRow.dx2 c (y 0) (y 1) := by
  refine (dats m 0 c).arrAt_eq_of_covers 6 _ (by decide +kernel) fun t hf y => ?_
  obtain ⟨i, l, e⟩ : ∃ (i : Fin 512) (l : Fin 1024), y = ix2 i l := ⟨y 0, y 1, eq_ix2 y⟩
  have e6 := emb6 t y i l (by rw [e]; rfl) (by rw [e]; rfl)
  blk_simp
  rw [after0_6]
  rw [e6, e]
  exact piece6 m c t i l

theorem emb7 (t : Fin cfg0.N) (y : ((cfg0.win 7).xblock (cfg0.grid.coords t)).Idx) (i : Fin 512) (l : Fin 1024) (h0 : (y 0).val = i.val) (h1 : (y 1).val = l.val) :
    (cfg0.win 7 |>.blk t).view.emb y = (ix2 (row t i) l : S8192x1024.Idx) := by
  blk_ext [idx t, row, h0, h1]

theorem final_7 (c : Dev nD) : (dats m 0 c).arrAt 7 cfg0.N = fun y => atRow m OutRow.dmix c (y 0) (y 1) := by
  refine (dats m 0 c).arrAt_eq_of_covers 7 _ (by decide +kernel) fun t hf y => ?_
  obtain ⟨i, l, e⟩ : ∃ (i : Fin 512) (l : Fin 1024), y = ix2 i l := ⟨y 0, y 1, eq_ix2 y⟩
  have e6 := emb7 t y i l (by rw [e]; rfl) (by rw [e]; rfl)
  blk_simp
  rw [after0_7]
  rw [e6, e]
  exact piece7 m c t i l

end Cert.OutBwdIdeal.Value
-- ==== Proof.OutBwdEq.lean ====
module

public import proofs.«01_k».proof.Proof.OutBwdKernel
public import proofs.«01_k».proof.Proof.Gen.OutBwdRefIdeal.Read

/-! The output's forward and backward call: the reference's results as functions of the arguments, and their equality
with the kernel's. -/

@[expose] public section

set_option maxRecDepth 16384

noncomputable section

open Idealize.ShloMosaic Idealize.ShloMosaic.TcCoe Idealize.SL.Sem
open scoped BigOperators

namespace Cert.OutBwdRefIdeal.Read

open Cert.OutBwdIdeal.Value (rows mat vec gain)

set_option maxHeartbeats 2000000 in
theorem reads (x0 x1 x2 : FVec Ideal S1x8192x1024 .f32) (x3 : FVec Ideal S1x1024x1024 .f32) (x4 : FVec Ideal S1x1024 .f32)
    (x5 : FVec Ideal S1024 .f32) (r : Fin 8192) (u : Fin 1) (k l : Fin 1024) (n : Fin 128) :
    (val_main_v69 (F := Ideal) x0 x1 x2 x3 x4 x5 (ix2 r l) : EReal)
        = OutRow.rdx2 (mat x3) (vec x4) (gain x5) (rows x0 r) (rows x1 r) (rows x2 r) l
    ∧ (val_main_v70 (F := Ideal) x0 x1 x2 x3 x4 x5 (ix2 r l) : EReal)
        = ∑ k, vec x4 k * OutRow.rdx2 (mat x3) (vec x4) (gain x5) (rows x0 r) (rows x1 r) (rows x2 r) k * mat x3 l k
    ∧ (val_main_v68 (F := Ideal) x0 x1 x2 x3 x4 x5 (ix2 u l) : EReal)
        = ∑ r, OutRow.rdx2 (mat x3) (vec x4) (gain x5) (rows x0 r) (rows x1 r) (rows x2 r) l * OutRow.o2 (mat x3) (rows x0 r) l
    ∧ (val_main_v73 (F := Ideal) x0 x1 x2 x3 x4 x5 (ix2 u l) : EReal)
        = ∑ r, OutRow.x2 (mat x3) (vec x4) (rows x0 r) (rows x1 r) l * Norm.inv (OutRow.x2 (mat x3) (vec x4) (rows x0 r) (rows x1 r))
          * OutRow.rdy (mat x3) (vec x4) (gain x5) (rows x0 r) (rows x1 r) (rows x2 r) l
    ∧ (val_main_v72 (F := Ideal) x0 x1 x2 x3 x4 x5 (ix2 k l) : EReal)
        = ∑ r, vec x4 l * OutRow.rdx2 (mat x3) (vec x4) (gain x5) (rows x0 r) (rows x1 r) (rows x2 r) l * rows x0 r k
    ∧ (val_main_v74 (F := Ideal) x0 x1 x2 x3 x4 x5 (ix2 u n) : EReal)
        = Ideal.ofBits .f32 1056964608#32 * ∑ r, Ideal.div (OutRow.sq (mat x3) (vec x4) (gain x5) (rows x0 r) (rows x1 r) (rows x2 r))
            (Ideal.ofBits .f32 1149239296#32) := by
  refine ⟨?_, ?_, ?_, ?_, ?_, ?_⟩
  all_goals pointwise [val_main_v0, val_main_v1, val_main_v2, val_main_v3, val_main_v4, val_main_v5, val_main_v6, val_main_cst,
    val_main_v7, val_main_v8, val_main_cst_0, val_main_v9, val_main_v10, val_main_cst_1, val_main_v11,
    val_main_v12, val_main_v13, val_main_v14, val_main_cst_2, val_main_v15, val_main_v16, val_main_v17,
    val_main_v18, val_main_v19, val_main_v20, val_main_v21, val_main_v22, val_main_v23, val_main_cst_3,
    val_main_v24, val_main_v25, val_main_cst_4, val_main_v26, val_main_cst_5, val_main_v27, val_main_v28,
    val_main_cst_6, val_main_v29, val_main_cst_7, val_main_v30, val_main_cst_8, val_main_cst_9, val_main_v31,
    val_main_v32, val_main_cst_10, val_main_v33, val_main_v34, val_main_v35, val_main_v36, val_main_v37,
    val_main_cst_11, val_main_v38, val_main_v39, val_main_v40, val_main_v41, val_main_cst_12, val_main_v42,
    val_main_v43, val_main_cst_13, val_main_v44, val_main_v45, val_main_v46, val_main_v47, val_main_v48,
    val_main_cst_14, val_main_v49, val_main_v50, val_main_cst_15, val_main_v51, val_main_v52, val_main_v53,
    val_main_v54, val_main_v55, val_main_v56, val_main_v57, val_main_v58, val_main_v59, val_main_v60,
    val_main_cst_16, val_main_v61, val_main_v62, val_main_v63, val_main_v64, val_main_v65, val_main_v66,
    val_main_cst_17, val_main_v67, val_main_v68, val_main_v69, val_main_v70, val_main_v71, val_main_v72,
    val_main_v73, val_main_v74, Cert.Norm.hostReduceAdd_lead, Cert.Norm.hostReduceAdd_ends]
  all_goals try simp only [Fin.sum_univ_one, Fin.isValue]
  all_goals rfl

end Cert.OutBwdRefIdeal.Read
-- ==== Proof.OutBwdClaim.lean ====
module

public import proofs.«01_k».proof.Defs
public import proofs.«01_k».proof.Proof.OutBwdEq
public import proofs.«01_k».proof.Proof.Gen.OutBwd.Frame
public import proofs.«01_k».proof.Proof.Gen.OutBwdIdeal.Frame

/-! The output's forward and backward call: its claims. -/

@[expose] public section

set_option maxRecDepth 16384

noncomputable section

open Idealize.ShloMosaic Idealize.ShloMosaic.TcCoe Idealize.SL.Sem
open scoped BigOperators

namespace Cert.Pre_finite_out

theorem facts : Facts where
  bcast_S_S1x8192x1024 := by decide
  bcast_S_S1x1024x1024 := by decide
  bcast_S_S1x1024 := by decide
  bcast_S_S1024 := by decide

end Cert.Pre_finite_out

namespace Cert.Proof.Out

attribute [local instance] Cert.Pre_finite_out.facts

theorem frame_ideal : Cert.quiescent_OutBwdIdeal := fun m ρ _ => Cert.OutBwdIdeal.Gen.frame m ρ

theorem frame_kernel : Cert.quiescent_OutBwd := fun m ρ _ => Cert.OutBwd.Gen.frame m ρ

theorem frame_reference : Cert.quiescent_OutBwdRefIdeal := fun m ρ _ =>
  (θ_run Cert.OutBwdRefIdeal.defs _ _).mono (fun r h => ⟨fun c => (h c).2.2.2.2.2.2, sem_eq_zero_of_no_sems rfl r.2⟩)
    (Cert.OutBwdRefIdeal.Value.run m ρ)

open Cert.OutBwdIdeal.Value in
/-- The loss, summed tile by tile, is the loss of all rows. -/
theorem loss_tiles (S : Fin 8192 → ℝ) :
    Ideal.ofBits .f32 1056964608#32 * ∑ r, Ideal.div (S r : EReal) (Ideal.ofBits .f32 1149239296#32)
      = ∑ t, lossPart fun i => (S (row t i) : EReal) := by
  have e : ∀ t : Fin Cert.OutBwdIdeal.cfg0.N, lossPart (fun i => (S (row t i) : EReal))
      = ∑ i, ((1 / 2 * (S (row t (lo i)) * (1 / 1024)) : ℝ) : EReal) + ∑ i, ((1 / 2 * (S (row t (hi i)) * (1 / 1024)) : ℝ) : EReal) := fun t => by
    unfold lossPart
    rw [Norm.ofBits_width, OutRow.ofBits_half, Norm.coe_sum, Norm.coe_sum, Norm.coe_sum, Norm.coe_sum, ← EReal.coe_mul, ← EReal.coe_mul,
      Ideal.div_coe (by norm_num), Ideal.div_coe (by norm_num), ← EReal.coe_mul, ← EReal.coe_mul, ← Finset.mul_sum, ← Finset.mul_sum,
      ← Finset.sum_mul, ← Finset.sum_mul, mul_assoc, mul_assoc]
  rw [Finset.sum_congr rfl fun t _ => e t]
  refine Eq.trans ?_ (Norm.sum_tiles Cert.OutBwdIdeal.Gen.N_0 (fun r => ((1 / 2 * (S r * (1 / 1024)) : ℝ) : EReal))
    (fun t i => row t (lo i)) (fun t i => row t (hi i)) (fun _ _ => rfl) (fun _ _ => rfl)).symm
  have d : ∀ r, Ideal.div (S r : EReal) ((1024 : ℝ) : EReal) = ((S r * (1 / 1024) : ℝ) : EReal) := fun r => by
    rw [Ideal.div_coe (by norm_num), ← EReal.coe_mul]
  simp only [Norm.ofBits_width, OutRow.ofBits_half, d, Norm.coe_sum, ← EReal.coe_mul, Finset.mul_sum]

set_option maxHeartbeats 2000000 in
open Cert.OutBwdRefIdeal.Read Cert.OutBwdIdeal.Value in
/-- The reference's results at the kernel's arguments, where those are real, are what the kernel's arrays end holding. -/
theorem results (m : (ℓ : Loc Cert.OutBwdIdeal.nD Cert.OutBwdIdeal.τ Cert.OutBwdIdeal.sig) → Buf (Elt Ideal) ℓ)
    (hpre : Cert.Pre_OutBwdIdeal_finite_out m) (c : Dev Cert.OutBwdIdeal.nD) :
    val_main_v69 (F := Ideal) (m ((c.tc : Thread _ _).loc Cert.OutBwdIdeal.main_arg0)) (m ((c.tc : Thread _ _).loc Cert.OutBwdIdeal.main_arg1)) (m ((c.tc : Thread _ _).loc Cert.OutBwdIdeal.main_arg2)) (m ((c.tc : Thread _ _).loc Cert.OutBwdIdeal.main_arg3)) (m ((c.tc : Thread _ _).loc Cert.OutBwdIdeal.main_arg4)) (m ((c.tc : Thread _ _).loc Cert.OutBwdIdeal.main_arg5))
      = (Cert.OutBwdIdeal.Gen.dats m 0 c).arrAt 6 Cert.OutBwdIdeal.cfg0.N
    ∧ val_main_v70 (F := Ideal) (m ((c.tc : Thread _ _).loc Cert.OutBwdIdeal.main_arg0)) (m ((c.tc : Thread _ _).loc Cert.OutBwdIdeal.main_arg1)) (m ((c.tc : Thread _ _).loc Cert.OutBwdIdeal.main_arg2)) (m ((c.tc : Thread _ _).loc Cert.OutBwdIdeal.main_arg3)) (m ((c.tc : Thread _ _).loc Cert.OutBwdIdeal.main_arg4)) (m ((c.tc : Thread _ _).loc Cert.OutBwdIdeal.main_arg5))
      = (Cert.OutBwdIdeal.Gen.dats m 0 c).arrAt 7 Cert.OutBwdIdeal.cfg0.N
    ∧ val_main_v72 (F := Ideal) (m ((c.tc : Thread _ _).loc Cert.OutBwdIdeal.main_arg0)) (m ((c.tc : Thread _ _).loc Cert.OutBwdIdeal.main_arg1)) (m ((c.tc : Thread _ _).loc Cert.OutBwdIdeal.main_arg2)) (m ((c.tc : Thread _ _).loc Cert.OutBwdIdeal.main_arg3)) (m ((c.tc : Thread _ _).loc Cert.OutBwdIdeal.main_arg4)) (m ((c.tc : Thread _ _).loc Cert.OutBwdIdeal.main_arg5))
      = (Cert.OutBwdIdeal.Gen.dats m 0 c).arrAt 8 Cert.OutBwdIdeal.cfg0.N
    ∧ val_main_v68 (F := Ideal) (m ((c.tc : Thread _ _).loc Cert.OutBwdIdeal.main_arg0)) (m ((c.tc : Thread _ _).loc Cert.OutBwdIdeal.main_arg1)) (m ((c.tc : Thread _ _).loc Cert.OutBwdIdeal.main_arg2)) (m ((c.tc : Thread _ _).loc Cert.OutBwdIdeal.main_arg3)) (m ((c.tc : Thread _ _).loc Cert.OutBwdIdeal.main_arg4)) (m ((c.tc : Thread _ _).loc Cert.OutBwdIdeal.main_arg5))
      = (Cert.OutBwdIdeal.Gen.dats m 0 c).arrAt 9 Cert.OutBwdIdeal.cfg0.N
    ∧ val_main_v73 (F := Ideal) (m ((c.tc : Thread _ _).loc Cert.OutBwdIdeal.main_arg0)) (m ((c.tc : Thread _ _).loc Cert.OutBwdIdeal.main_arg1)) (m ((c.tc : Thread _ _).loc Cert.OutBwdIdeal.main_arg2)) (m ((c.tc : Thread _ _).loc Cert.OutBwdIdeal.main_arg3)) (m ((c.tc : Thread _ _).loc Cert.OutBwdIdeal.main_arg4)) (m ((c.tc : Thread _ _).loc Cert.OutBwdIdeal.main_arg5))
      = (Cert.OutBwdIdeal.Gen.dats m 0 c).arrAt 10 Cert.OutBwdIdeal.cfg0.N
    ∧ val_main_v74 (F := Ideal) (m ((c.tc : Thread _ _).loc Cert.OutBwdIdeal.main_arg0)) (m ((c.tc : Thread _ _).loc Cert.OutBwdIdeal.main_arg1)) (m ((c.tc : Thread _ _).loc Cert.OutBwdIdeal.main_arg2)) (m ((c.tc : Thread _ _).loc Cert.OutBwdIdeal.main_arg3)) (m ((c.tc : Thread _ _).loc Cert.OutBwdIdeal.main_arg4)) (m ((c.tc : Thread _ _).loc Cert.OutBwdIdeal.main_arg5))
      = (Cert.OutBwdIdeal.Gen.dats m 0 c).arrAt 11 Cert.OutBwdIdeal.cfg0.N := by
  obtain ⟨p0, p1, p2, p3, p4, p5⟩ := hpre c
  obtain ⟨A, hA⟩ := Norm.real_of_pre _ _ p0
  obtain ⟨X, hX⟩ := Norm.real_of_pre _ _ p1
  obtain ⟨T, hT⟩ := Norm.real_of_pre _ _ p2
  obtain ⟨W, hW⟩ := Norm.real_of_pre _ _ p3
  obtain ⟨G, hG⟩ := Norm.real_of_pre _ _ p4
  obtain ⟨F, hF⟩ := Norm.real_of_pre _ _ p5
  rw [final_6, final_7, final_8, final_9, final_10, final_11]
  unfold tile8 tile9 tile10 tile11 atRow mix x tgt w g f
  rw [hA, hX, hT, hW, hG, hF]
  have hd := fun r => OutRow.dx2_eq (fun k l => W (ix3 0 k l)) (fun l => G (ix2 0 l)) (fun l => F (ix1 l)) (fun l => A (ix3 0 r l))
    (fun l => X (ix3 0 r l)) (fun l => T (ix3 0 r l))
  have hy := fun r l => (OutRow.dy_coe (fun k l => W (ix3 0 k l)) (fun l => G (ix2 0 l)) (fun l => F (ix1 l)) (fun l => A (ix3 0 r l))
    (fun l => X (ix3 0 r l)) (fun l => T (ix3 0 r l)) l).trans (OutRow.rdy_coe (fun k l => W (ix3 0 k l)) (fun l => G (ix2 0 l))
      (fun l => F (ix1 l)) (fun l => A (ix3 0 r l)) (fun l => X (ix3 0 r l)) (fun l => T (ix3 0 r l)) l).symm
  let E := fun r => OutRow.rerr (fun k l => W (ix3 0 k l)) (fun l => G (ix2 0 l)) (fun l => F (ix1 l)) (fun l => A (ix3 0 r l))
    (fun l => X (ix3 0 r l)) (fun l => T (ix3 0 r l))
  have hs := fun r => OutRow.sq_coe (fun k l => W (ix3 0 k l)) (fun l => G (ix2 0 l)) (fun l => F (ix1 l)) (fun l => A (ix3 0 r l))
    (fun l => X (ix3 0 r l)) (fun l => T (ix3 0 r l))
  have R := fun (r : Fin 8192) (u : Fin 1) (k l : Fin 1024) (n : Fin 128) => reads (fun i => (A i : EReal)) (fun i => (X i : EReal))
    (fun i => (T i : EReal)) (fun i => (W i : EReal)) (fun i => (G i : EReal)) (fun i => (F i : EReal)) r u k l n
  have S := fun f => Norm.sum_tiles (M := EReal) Cert.OutBwdIdeal.Gen.N_0 f
    (fun t i => row t (lo i)) (fun t i => row t (hi i)) (fun _ _ => rfl) (fun _ _ => rfl)
  refine ⟨?_, ?_, ?_, ?_, ?_, ?_⟩ <;> funext y
  · exact ((congrArg _ (eq_ix2 y)).trans (R (y 0) 0 0 (y 1) 0).1).trans (congrFun (hd (y 0)) (y 1)).symm
  · refine ((congrArg _ (eq_ix2 y)).trans (R (y 0) 0 0 (y 1) 0).2.1).trans (Finset.sum_congr rfl fun k _ => ?_)
    exact congrArg (· * _) ((mul_comm _ _).trans (congrArg (· * _) (congrFun (hd (y 0)) k).symm))
  · refine ((congrArg _ (eq_ix2 y)).trans (R 0 0 (y 0) (y 1) 0).2.2.2.2.1).trans ((S _).symm.trans ?_)
    refine Finset.sum_congr rfl fun t _ => ?_
    unfold halves
    refine congrArg₂ (· + ·) (Finset.sum_congr rfl fun i _ => ?_) (Finset.sum_congr rfl fun i _ => ?_)
    all_goals exact (mul_comm _ _).trans (congrArg (_ * ·) ((mul_comm _ _).trans (congrArg (· * _) (congrFun (hd _) (y 1)).symm)))
  · refine ((congrArg _ (eq_ix2 y)).trans (R 0 (y 0) 0 (y 1) 0).2.2.1).trans ((S _).symm.trans ?_)
    refine Finset.sum_congr rfl fun t _ => ?_
    unfold halves
    refine congrArg₂ (· + ·) (Finset.sum_congr rfl fun i _ => ?_) (Finset.sum_congr rfl fun i _ => ?_)
    all_goals exact congrArg (· * _) (congrFun (hd _) (y 1)).symm
  · refine ((congrArg _ (eq_ix2 y)).trans (R 0 (y 0) 0 (y 1) 0).2.2.2.1).trans ((S _).symm.trans ?_)
    refine Finset.sum_congr rfl fun t _ => ?_
    unfold halves
    refine congrArg₂ (· + ·) (Finset.sum_congr rfl fun i _ => ?_) (Finset.sum_congr rfl fun i _ => ?_)
    all_goals exact (mul_comm _ _).trans (congrArg (· * _) (hy _ (y 1)).symm)
  · refine ((congrArg _ (eq_ix2 y)).trans (R 0 (y 0) 0 0 (y 1)).2.2.2.2.2).trans ?_
    refine Eq.trans ?_ ((loss_tiles fun r => ∑ l, E r l * E r l).trans (Finset.sum_congr rfl fun t _ => congrArg lossPart (funext fun i => (hs (row t i)).symm)))
    exact congrArg (_ * ·) (Finset.sum_congr rfl fun r _ => congrArg (Ideal.div · _) (hs r))

set_option maxHeartbeats 2000000 in
/-- The ideal kernel and the gradient computed by differentiation return the same six arrays. -/
theorem algebraic : Cert.algebraic_OutBwdIdeal_OutBwdRefIdeal_pre_finite_out := by
  pair_intro
  · run_from Cert.OutBwdIdeal.Value.run_blocks m g
  · run_from Cert.OutBwdRefIdeal.Value.run m' g'
    · obtain ⟨h0, h1, h2, h3, h4, h5⟩ := hagree c
      rw [Cert.OutBwdRefIdeal.Read.val_main_v69_eq m' c, h0, h1, h2, h3, h4, h5]
      exact (results m hpre c).1
    · obtain ⟨h0, h1, h2, h3, h4, h5⟩ := hagree c
      rw [Cert.OutBwdRefIdeal.Read.val_main_v70_eq m' c, h0, h1, h2, h3, h4, h5]
      exact (results m hpre c).2.1
    · obtain ⟨h0, h1, h2, h3, h4, h5⟩ := hagree c
      rw [Cert.OutBwdRefIdeal.Read.val_main_v72_eq m' c, h0, h1, h2, h3, h4, h5]
      exact (results m hpre c).2.2.1
    · obtain ⟨h0, h1, h2, h3, h4, h5⟩ := hagree c
      rw [Cert.OutBwdRefIdeal.Read.val_main_v68_eq m' c, h0, h1, h2, h3, h4, h5]
      exact (results m hpre c).2.2.2.1
    · obtain ⟨h0, h1, h2, h3, h4, h5⟩ := hagree c
      rw [Cert.OutBwdRefIdeal.Read.val_main_v73_eq m' c, h0, h1, h2, h3, h4, h5]
      exact (results m hpre c).2.2.2.2.1
    · obtain ⟨h0, h1, h2, h3, h4, h5⟩ := hagree c
      rw [Cert.OutBwdRefIdeal.Read.val_main_v74_eq m' c, h0, h1, h2, h3, h4, h5]
      exact (results m hpre c).2.2.2.2.2

end Cert.Proof.Out
-- ==== Proof.MixBwdFrame.lean ====
module

public import proofs.«01_k».proof.Proof.Gen.MixBwdIdeal.Frame.RunB
public import proofs.«01_k».proof.Proof.Gen.MixBwdIdeal.Frame.RunA

/-! The mixers' backward call: its run, from the triples of the kernel's body at the first point and at the others. -/

@[expose] public section

set_option maxRecDepth 16384

noncomputable section

namespace Cert.MixBwdIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.MixBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves at a point: its seven outputs' staging buffers and its four scratch arrays. -/
structure Outs (F : FTy → Type) where
  o18 : Vec F S512x3840 .bf16
  o19 : Vec F S8x1024 .f32
  o20 : Vec F S1x1024 .f32
  o21 : Vec F S4x128x128 .f32
  o22 : Vec F S1x512 .f32
  o23 : Vec F S1x512 .f32
  o24 : Vec F S1x128 .f32
  s0 : Vec F S4x128x128 .f32
  s1 : Vec F S8x128 .f32
  s2 : Vec F S520x1024 .f32
  s3 : Vec F S528x512 .f32

/-- The body's run at the first point. -/
def runA (c : Dev nD) (t : Fin cfg0.N) (h : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t) (ms0_22 t) (hs0_22 t) (ms0_23 t) (hs0_23 t)
    (ms0_24 t) (hs0_24 t)
    scM0_0 (Memref.isWhole_whole _) scM0_1 (Memref.isWhole_whole _) scM0_2 (Memref.isWhole_whole _) scM0_3 (Memref.isWhole_whole _)
    ((hcond0_0 t).mpr h) (iblk m c 0 t) (X0_1 m c t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t) (iblk m c 16 t) (iblk m c 17 t)

/-- The body's run at a later point, from what the point before left. -/
def runB (c : Dev nD) (t : Fin cfg0.N) (h : ¬t.val % 16 = 0) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t) (ms0_22 t) (hs0_22 t) (ms0_23 t) (hs0_23 t)
    (ms0_24 t) (hs0_24 t)
    scM0_0 (Memref.isWhole_whole _) scM0_1 (Memref.isWhole_whole _) scM0_2 (Memref.isWhole_whole _) scM0_3 (Memref.isWhole_whole _)
    (fun e => h ((hcond0_0 t).mp e)) (iblk m c 0 t) (X0_1 m c t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t) (iblk m c 16 t) (iblk m c 17 t)
    p.o19 p.o20 p.o21 p.o22 p.o23 p.o24 p.s0 p.s1 p.s2 p.s3

def outA (c : Dev nD) (t : Fin cfg0.N) (h : t.val % 16 = 0) : Outs F where
  o18 := VO0_18.read (Elt F) (VO0_18.writes (Elt F) VO0_18.junk (runA m c t h).1)
  o19 := VO0_19.read (Elt F) (VO0_19.writes (Elt F) VO0_19.junk (runA m c t h).2.1)
  o20 := VO0_20.read (Elt F) (VO0_20.writes (Elt F) VO0_20.junk (runA m c t h).2.2.1)
  o21 := VO0_21.read (Elt F) (VO0_21.writes (Elt F) VO0_21.junk (runA m c t h).2.2.2.1)
  o22 := VO0_22.read (Elt F) (VO0_22.writes (Elt F) VO0_22.junk (runA m c t h).2.2.2.2.1)
  o23 := VO0_23.read (Elt F) (VO0_23.writes (Elt F) VO0_23.junk (runA m c t h).2.2.2.2.2.1)
  o24 := VO0_24.read (Elt F) (VO0_24.writes (Elt F) VO0_24.junk (runA m c t h).2.2.2.2.2.2.1)
  s0 := VS0_0.read (Elt F) (VS0_0.writes (Elt F) VS0_0.junk (runA m c t h).2.2.2.2.2.2.2.1)
  s1 := VS0_1.read (Elt F) (VS0_1.writes (Elt F) VS0_1.junk (runA m c t h).2.2.2.2.2.2.2.2.1)
  s2 := VS0_2.read (Elt F) (VS0_2.writes (Elt F) VS0_2.junk (runA m c t h).2.2.2.2.2.2.2.2.2.1)
  s3 := VS0_3.read (Elt F) (VS0_3.writes (Elt F) VS0_3.junk (runA m c t h).2.2.2.2.2.2.2.2.2.2.1)

def outB (c : Dev nD) (t : Fin cfg0.N) (h : ¬t.val % 16 = 0) (p : Outs F) : Outs F where
  o18 := VO0_18.read (Elt F) (VO0_18.writes (Elt F) VO0_18.junk (runB m c t h p).1)
  o19 := (ms0_19 t).view.read (Elt F) ((ms0_19 t).view.writes (Elt F) ((hs0_19 t).unread p.o19) (runB m c t h p).2.1)
  o20 := VO0_20.read (Elt F) (VO0_20.writes (Elt F) VO0_20.junk (runB m c t h p).2.2.1)
  o21 := VO0_21.read (Elt F) (VO0_21.writes (Elt F) VO0_21.junk (runB m c t h p).2.2.2.1)
  o22 := VO0_22.read (Elt F) (VO0_22.writes (Elt F) VO0_22.junk (runB m c t h p).2.2.2.2.1)
  o23 := VO0_23.read (Elt F) (VO0_23.writes (Elt F) VO0_23.junk (runB m c t h p).2.2.2.2.2.1)
  o24 := VO0_24.read (Elt F) (VO0_24.writes (Elt F) VO0_24.junk (runB m c t h p).2.2.2.2.2.2.1)
  s0 := VS0_0.read (Elt F) (VS0_0.writes (Elt F) VS0_0.junk (runB m c t h p).2.2.2.2.2.2.2.1)
  s1 := scM0_1.view.read (Elt F) (scM0_1.view.writes (Elt F) ((show scM0_1.IsWhole from Memref.isWhole_whole _).unread p.s1) (runB m c t h p).2.2.2.2.2.2.2.2.1)
  s2 := VS0_2.read (Elt F) (VS0_2.writes (Elt F) VS0_2.junk (runB m c t h p).2.2.2.2.2.2.2.2.2.1)
  s3 := VS0_3.read (Elt F) (VS0_3.writes (Elt F) VS0_3.junk (runB m c t h p).2.2.2.2.2.2.2.2.2.2.1)

/-- What the body leaves, point by point. -/
def outs (c : Dev nD) : (n : ℕ) → n < cfg0.N → Outs F
  | 0, hn => outA m c ⟨0, hn⟩ (Nat.zero_mod _)
  | n + 1, hn => if h : (n + 1) % 16 = 0 then outA m c ⟨n + 1, hn⟩ h else outB m c ⟨n + 1, hn⟩ h (outs c n (Nat.lt_of_succ_lt hn))

/-- What the point before left. -/
abbrev prev (c : Dev nD) (t : Fin cfg0.N) : Outs F := outs m c (t.val - 1) (Nat.lt_of_le_of_lt (Nat.sub_le _ _) t.isLt)

theorem outs_A (c : Dev nD) (t : Fin cfg0.N) (h : t.val % 16 = 0) : outs m c t.val t.isLt = outA m c t h := by
  obtain ⟨n, hn⟩ := t
  cases n with
  | zero => rw [outs]
  | succ n => rw [outs]; exact dif_pos h

theorem outs_B (c : Dev nD) (t : Fin cfg0.N) (h : ¬t.val % 16 = 0) :
    outs m c t.val t.isLt = outB m c t h (prev m c t) := by
  obtain ⟨n, hn⟩ := t
  cases n with
  | zero => exact absurd (Nat.zero_mod _) h
  | succ n => rw [outs]; exact dif_neg h

theorem coverA_o18 (c : Dev nD) (t : Fin cfg0.N) (h : t.val % 16 = 0) (y) : ∃ pc ∈ (runA m c t h).1, y ∈ pc.1.set :=
  View.cover_of_tiledBy _ ![128, 128] (by sl_kernel_rfl) y

theorem coverA_o19 (c : Dev nD) (t : Fin cfg0.N) (h : t.val % 16 = 0) (y) : ∃ pc ∈ (runA m c t h).2.1, y ∈ pc.1.set :=
  View.cover_of_tiledBy _ ![1, 256] (by sl_kernel_rfl) y

theorem coverA_o20 (c : Dev nD) (t : Fin cfg0.N) (h : t.val % 16 = 0) (y) : ∃ pc ∈ (runA m c t h).2.2.1, y ∈ pc.1.set :=
  View.cover_of_tiledBy _ ![1, 256] (by sl_kernel_rfl) y

theorem coverA_o21 (c : Dev nD) (t : Fin cfg0.N) (h : t.val % 16 = 0) (y) : ∃ pc ∈ (runA m c t h).2.2.2.1, y ∈ pc.1.set :=
  View.cover_of_tiledBy _ ![1, 128, 128] (by sl_kernel_rfl) y

theorem coverA_o22 (c : Dev nD) (t : Fin cfg0.N) (h : t.val % 16 = 0) (y) : ∃ pc ∈ (runA m c t h).2.2.2.2.1, y ∈ pc.1.set :=
  View.cover_of_tiledBy _ ![1, 128] (by sl_kernel_rfl) y

theorem coverA_o23 (c : Dev nD) (t : Fin cfg0.N) (h : t.val % 16 = 0) (y) : ∃ pc ∈ (runA m c t h).2.2.2.2.2.1, y ∈ pc.1.set :=
  View.cover_of_tiledBy _ ![1, 128] (by sl_kernel_rfl) y

theorem coverA_o24 (c : Dev nD) (t : Fin cfg0.N) (h : t.val % 16 = 0) (y) : ∃ pc ∈ (runA m c t h).2.2.2.2.2.2.1, y ∈ pc.1.set :=
  View.cover_of_tiledL _ S1x128.size (by sl_kernel_rfl) y

theorem coverA_s0 (c : Dev nD) (t : Fin cfg0.N) (h : t.val % 16 = 0) (y) : ∃ pc ∈ (runA m c t h).2.2.2.2.2.2.2.1, y ∈ pc.1.set :=
  View.cover_of_wholeMem _ (by sl_whole_mem) y

theorem coverA_s1 (c : Dev nD) (t : Fin cfg0.N) (h : t.val % 16 = 0) (y) : ∃ pc ∈ (runA m c t h).2.2.2.2.2.2.2.2.1, y ∈ pc.1.set :=
  View.cover_of_wholeMem _ (by sl_whole_mem) y

theorem coverA_s2 (c : Dev nD) (t : Fin cfg0.N) (h : t.val % 16 = 0) (y) : ∃ pc ∈ (runA m c t h).2.2.2.2.2.2.2.2.2.1, y ∈ pc.1.set :=
  View.cover_of_tiledBy _ ![8, 128] (by sl_kernel_rfl) y

theorem coverA_s3 (c : Dev nD) (t : Fin cfg0.N) (h : t.val % 16 = 0) (y) : ∃ pc ∈ (runA m c t h).2.2.2.2.2.2.2.2.2.2.1, y ∈ pc.1.set :=
  View.cover_of_tiledBy _ ![16, 128] (by sl_kernel_rfl) y

theorem coverB_o18 (c : Dev nD) (t : Fin cfg0.N) (h : ¬t.val % 16 = 0) (p : Outs F) (y) : ∃ pc ∈ (runB m c t h p).1, y ∈ pc.1.set :=
  View.cover_of_tiledBy _ ![128, 128] (by sl_kernel_rfl) y

theorem coverB_o20 (c : Dev nD) (t : Fin cfg0.N) (h : ¬t.val % 16 = 0) (p : Outs F) (y) : ∃ pc ∈ (runB m c t h p).2.2.1, y ∈ pc.1.set :=
  View.cover_of_tiledBy _ ![1, 256] (by sl_kernel_rfl) y

theorem coverB_o21 (c : Dev nD) (t : Fin cfg0.N) (h : ¬t.val % 16 = 0) (p : Outs F) (y) : ∃ pc ∈ (runB m c t h p).2.2.2.1, y ∈ pc.1.set :=
  View.cover_of_tiledBy _ ![1, 128, 128] (by sl_kernel_rfl) y

theorem coverB_o22 (c : Dev nD) (t : Fin cfg0.N) (h : ¬t.val % 16 = 0) (p : Outs F) (y) : ∃ pc ∈ (runB m c t h p).2.2.2.2.1, y ∈ pc.1.set :=
  View.cover_of_tiledBy _ ![1, 128] (by sl_kernel_rfl) y

theorem coverB_o23 (c : Dev nD) (t : Fin cfg0.N) (h : ¬t.val % 16 = 0) (p : Outs F) (y) : ∃ pc ∈ (runB m c t h p).2.2.2.2.2.1, y ∈ pc.1.set :=
  View.cover_of_tiledBy _ ![1, 128] (by sl_kernel_rfl) y

theorem coverB_o24 (c : Dev nD) (t : Fin cfg0.N) (h : ¬t.val % 16 = 0) (p : Outs F) (y) : ∃ pc ∈ (runB m c t h p).2.2.2.2.2.2.1, y ∈ pc.1.set :=
  View.cover_of_tiledL _ S1x128.size (by sl_kernel_rfl) y

theorem coverB_s0 (c : Dev nD) (t : Fin cfg0.N) (h : ¬t.val % 16 = 0) (p : Outs F) (y) : ∃ pc ∈ (runB m c t h p).2.2.2.2.2.2.2.1, y ∈ pc.1.set :=
  View.cover_of_tiledBy _ ![1, 128, 128] (by sl_kernel_rfl) y

theorem coverB_s2 (c : Dev nD) (t : Fin cfg0.N) (h : ¬t.val % 16 = 0) (p : Outs F) (y) : ∃ pc ∈ (runB m c t h p).2.2.2.2.2.2.2.2.2.1, y ∈ pc.1.set :=
  View.cover_of_tiledBy _ ![8, 128] (by sl_kernel_rfl) y

theorem coverB_s3 (c : Dev nD) (t : Fin cfg0.N) (h : ¬t.val % 16 = 0) (p : Outs F) (y) : ∃ pc ∈ (runB m c t h p).2.2.2.2.2.2.2.2.2.2.1, y ∈ pc.1.set :=
  View.cover_of_tiledBy _ ![16, 128] (by sl_kernel_rfl) y

/-- Pieces that cover a buffer leave it at what they read back through any view. -/
theorem owned {c : Dev nD} {sh : Shape} {e : EltTy} (a : Memref sig .tc .vmem sh e) (v : View sig .tc .vmem sh e)
    (L : List (View.Piece (Elt F) sh e)) (h : ∀ y, ∃ pc ∈ L, y ∈ pc.1.set) :
    iprop(∃ f, a.view.loc (c : Thread nD τ) ↦[a.view.set]{fullShare} a.view.writes (Elt F) f L)
      ⊢ (owns (c : Thread nD τ) a fullShare (v.read (Elt F) (v.writes (Elt F) v.junk L)) : sProp 𝕄) := by
  iintro ⟨%f, H⟩
  unfold owns; iexists _; isplitr
  swap; · iexact H
  ipureintro; exact View.read_writes_of_cover _ _ _ _ _ h

theorem owned_kept {c : Dev nD} {sh : Shape} {e : EltTy} (a : Memref sig .tc .vmem sh e) (f : a.view.ty.Contents (Elt F)) :
    iprop(a.view.loc (c : Thread nD τ) ↦[a.view.set]{fullShare} f)
      ⊢ (owns (c : Thread nD τ) a fullShare (a.view.read (Elt F) f) : sProp 𝕄) := by
  iintro H
  unfold owns; iexists _; isplitr
  swap; · iexact H
  ipureintro; rfl

/-- The scratch arrays after a point, and the generator's register. -/
def scratch (c : Dev nD) (p : Outs F) : sProp 𝕄 :=
  iprop(iprop(owns (c : Thread nD τ) scM0_0 fullShare p.s0 ∗ owns (c : Thread nD τ) scM0_1 fullShare p.s1 ∗ owns (c : Thread nD τ) scM0_2 fullShare p.s2 ∗ owns (c : Thread nD τ) scM0_3 fullShare p.s3) ∗ (∃ r, prngReg c r))

def carried (c : Dev nD) : (n : ℕ) → n ≤ cfg0.N → sProp 𝕄
  | 0, _ => Pipeline.ΦA spec0 c
  | n + 1, hn => scratch c (outs m c n hn)

theorem carried_pos (c : Dev nD) (n : ℕ) (h : n ≤ cfg0.N) (hz : n ≠ 0) :
    carried m c n h = scratch c (outs m c (n - 1) (by omega)) := by
  cases n with
  | zero => exact absurd rfl hz
  | succ n => rfl

/-- The run's data: the arrays, what each point leaves, and what is carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outs m c t.val t.isLt).o18
    | ⟨19, _⟩ => (outs m c t.val t.isLt).o19
    | ⟨20, _⟩ => (outs m c t.val t.isLt).o20
    | ⟨21, _⟩ => (outs m c t.val t.isLt).o21
    | ⟨22, _⟩ => (outs m c t.val t.isLt).o22
    | ⟨23, _⟩ => (outs m c t.val t.isLt).o23
    | ⟨24, _⟩ => (outs m c t.val t.isLt).o24
    | ⟨_ + 25, h⟩ => absurd h (Nat.not_lt.2 (Nat.le_add_left _ _))
  Φ t := carried m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem carried_at (c : Dev nD) (t : Fin cfg0.N) : (dats m 0 c).Φ t.castSucc = carried m c t.val (Nat.le_of_lt t.isLt) := by
  dsimp only [dats]; exact Dat.Φ_castSucc (carried m c) t

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = (outs m c t.val t.isLt).o18 := by dsimp only [dats]
theorem after19 (c : Dev nD) (t : Fin cfg0.N) : (dats m 0 c).after 19 t = (outs m c t.val t.isLt).o19 := by dsimp only [dats]
theorem after20 (c : Dev nD) (t : Fin cfg0.N) : (dats m 0 c).after 20 t = (outs m c t.val t.isLt).o20 := by dsimp only [dats]
theorem after21 (c : Dev nD) (t : Fin cfg0.N) : (dats m 0 c).after 21 t = (outs m c t.val t.isLt).o21 := by dsimp only [dats]
theorem after22 (c : Dev nD) (t : Fin cfg0.N) : (dats m 0 c).after 22 t = (outs m c t.val t.isLt).o22 := by dsimp only [dats]
theorem after23 (c : Dev nD) (t : Fin cfg0.N) : (dats m 0 c).after 23 t = (outs m c t.val t.isLt).o23 := by dsimp only [dats]
theorem after24 (c : Dev nD) (t : Fin cfg0.N) : (dats m 0 c).after 24 t = (outs m c t.val t.isLt).o24 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d
theorem before17 (c : Dev nD) (t : Fin cfg0.N) (d) : (dats m 0 c).before 17 t d = iblk m c 17 t :=
  before0_17_of m (dats m 0 c) (A_eq m c 17) (after17 m c) t d
theorem before19 (c : Dev nD) (t : Fin cfg0.N) (h : ¬t.val % 16 = 0) (d) : (dats m 0 c).before 19 t d = (prev m c t).o19 := by
  have hN : t.val < 16 := lt_of_lt_of_eq t.isLt (show cfg0.N = 16 from N_0)
  rw [Dat.before_out_kept _ 19 rfl t (by omega) (Bool.eq_false_iff.mpr fun e => by have := (flush0_19 _).mp e; dsimp only at this; omega)
    (fun _ => rfl) (fun _ _ => rfl)]
  dsimp only [dats]
theorem before20 (c : Dev nD) (t : Fin cfg0.N) (h : ¬t.val % 16 = 0) (d) : (dats m 0 c).before 20 t d = (prev m c t).o20 := by
  have hN : t.val < 16 := lt_of_lt_of_eq t.isLt (show cfg0.N = 16 from N_0)
  rw [Dat.before_out_kept _ 20 rfl t (by omega) (Bool.eq_false_iff.mpr fun e => by have := (flush0_20 _).mp e; dsimp only at this; omega)
    (fun _ => rfl) (fun _ _ => rfl)]
  dsimp only [dats]
theorem before21 (c : Dev nD) (t : Fin cfg0.N) (h : ¬t.val % 16 = 0) (d) : (dats m 0 c).before 21 t d = (prev m c t).o21 := by
  have hN : t.val < 16 := lt_of_lt_of_eq t.isLt (show cfg0.N = 16 from N_0)
  rw [Dat.before_out_kept _ 21 rfl t (by omega) (Bool.eq_false_iff.mpr fun e => by have := (flush0_21 _).mp e; dsimp only at this; omega)
    (fun _ => rfl) (fun _ _ => rfl)]
  dsimp only [dats]
theorem before22 (c : Dev nD) (t : Fin cfg0.N) (h : ¬t.val % 16 = 0) (d) : (dats m 0 c).before 22 t d = (prev m c t).o22 := by
  have hN : t.val < 16 := lt_of_lt_of_eq t.isLt (show cfg0.N = 16 from N_0)
  rw [Dat.before_out_kept _ 22 rfl t (by omega) (Bool.eq_false_iff.mpr fun e => by have := (flush0_22 _).mp e; dsimp only at this; omega)
    (fun _ => rfl) (fun _ _ => rfl)]
  dsimp only [dats]
theorem before23 (c : Dev nD) (t : Fin cfg0.N) (h : ¬t.val % 16 = 0) (d) : (dats m 0 c).before 23 t d = (prev m c t).o23 := by
  have hN : t.val < 16 := lt_of_lt_of_eq t.isLt (show cfg0.N = 16 from N_0)
  rw [Dat.before_out_kept _ 23 rfl t (by omega) (Bool.eq_false_iff.mpr fun e => by have := (flush0_23 _).mp e; dsimp only at this; omega)
    (fun _ => rfl) (fun _ _ => rfl)]
  dsimp only [dats]
theorem before24 (c : Dev nD) (t : Fin cfg0.N) (h : ¬t.val % 16 = 0) (d) : (dats m 0 c).before 24 t d = (prev m c t).o24 := by
  have hN : t.val < 16 := lt_of_lt_of_eq t.isLt (show cfg0.N = 16 from N_0)
  rw [Dat.before_out_kept _ 24 rfl t (by omega) (Bool.eq_false_iff.mpr fun e => by have := (flush0_24 _).mp e; dsimp only at this; omega)
    (fun _ => rfl) (fun _ _ => rfl)]
  dsimp only [dats]

/-- What the body is given at a point. -/
def given (c : Dev nD) (t : Fin cfg0.N) : sProp 𝕄 :=
  iprop((dats m 0 c).Φ t.castSucc ∗ (dats m 0 c).owesAt () t.castSucc ∗
    (∃ d, owns (c : Thread nD τ) (ms0_0 t) fullShare ((dats m 0 c).before 0 t d)) ∗
    (∃ d, owns (c : Thread nD τ) (ms0_1 t) fullShare ((dats m 0 c).before 1 t d)) ∗
    (∃ d, owns (c : Thread nD τ) (ms0_2 t) fullShare ((dats m 0 c).before 2 t d)) ∗
    (∃ d, owns (c : Thread nD τ) (ms0_3 t) fullShare ((dats m 0 c).before 3 t d)) ∗
    (∃ d, owns (c : Thread nD τ) (ms0_4 t) fullShare ((dats m 0 c).before 4 t d)) ∗
    (∃ d, owns (c : Thread nD τ) (ms0_5 t) fullShare ((dats m 0 c).before 5 t d)) ∗
    (∃ d, owns (c : Thread nD τ) (ms0_6 t) fullShare ((dats m 0 c).before 6 t d)) ∗
    (∃ d, owns (c : Thread nD τ) (ms0_7 t) fullShare ((dats m 0 c).before 7 t d)) ∗
    (∃ d, owns (c : Thread nD τ) (ms0_8 t) fullShare ((dats m 0 c).before 8 t d)) ∗
    (∃ d, owns (c : Thread nD τ) (ms0_9 t) fullShare ((dats m 0 c).before 9 t d)) ∗
    (∃ d, owns (c : Thread nD τ) (ms0_10 t) fullShare ((dats m 0 c).before 10 t d)) ∗
    (∃ d, owns (c : Thread nD τ) (ms0_11 t) fullShare ((dats m 0 c).before 11 t d)) ∗
    (∃ d, owns (c : Thread nD τ) (ms0_12 t) fullShare ((dats m 0 c).before 12 t d)) ∗
    (∃ d, owns (c : Thread nD τ) (ms0_13 t) fullShare ((dats m 0 c).before 13 t d)) ∗
    (∃ d, owns (c : Thread nD τ) (ms0_14 t) fullShare ((dats m 0 c).before 14 t d)) ∗
    (∃ d, owns (c : Thread nD τ) (ms0_15 t) fullShare ((dats m 0 c).before 15 t d)) ∗
    (∃ d, owns (c : Thread nD τ) (ms0_16 t) fullShare ((dats m 0 c).before 16 t d)) ∗
    (∃ d, owns (c : Thread nD τ) (ms0_17 t) fullShare ((dats m 0 c).before 17 t d)) ∗
    (∃ d, owns (c : Thread nD τ) (ms0_18 t) fullShare ((dats m 0 c).before 18 t d)) ∗
    (∃ d, owns (c : Thread nD τ) (ms0_19 t) fullShare ((dats m 0 c).before 19 t d)) ∗
    (∃ d, owns (c : Thread nD τ) (ms0_20 t) fullShare ((dats m 0 c).before 20 t d)) ∗
    (∃ d, owns (c : Thread nD τ) (ms0_21 t) fullShare ((dats m 0 c).before 21 t d)) ∗
    (∃ d, owns (c : Thread nD τ) (ms0_22 t) fullShare ((dats m 0 c).before 22 t d)) ∗
    (∃ d, owns (c : Thread nD τ) (ms0_23 t) fullShare ((dats m 0 c).before 23 t d)) ∗
    (∃ d, owns (c : Thread nD τ) (ms0_24 t) fullShare ((dats m 0 c).before 24 t d)))

/-- What the body returns at a point. -/
def returned (c : Dev nD) (t : Fin cfg0.N) : sProp 𝕄 :=
  iprop((dats m 0 c).Φ t.succ ∗ (dats m 0 c).owesAt () t.succ ∗
    owns (c : Thread nD τ) (ms0_0 t) fullShare ((dats m 0 c).after 0 t) ∗ owns (c : Thread nD τ) (ms0_1 t) fullShare ((dats m 0 c).after 1 t) ∗
    owns (c : Thread nD τ) (ms0_2 t) fullShare ((dats m 0 c).after 2 t) ∗ owns (c : Thread nD τ) (ms0_3 t) fullShare ((dats m 0 c).after 3 t) ∗
    owns (c : Thread nD τ) (ms0_4 t) fullShare ((dats m 0 c).after 4 t) ∗ owns (c : Thread nD τ) (ms0_5 t) fullShare ((dats m 0 c).after 5 t) ∗
    owns (c : Thread nD τ) (ms0_6 t) fullShare ((dats m 0 c).after 6 t) ∗ owns (c : Thread nD τ) (ms0_7 t) fullShare ((dats m 0 c).after 7 t) ∗
    owns (c : Thread nD τ) (ms0_8 t) fullShare ((dats m 0 c).after 8 t) ∗ owns (c : Thread nD τ) (ms0_9 t) fullShare ((dats m 0 c).after 9 t) ∗
    owns (c : Thread nD τ) (ms0_10 t) fullShare ((dats m 0 c).after 10 t) ∗ owns (c : Thread nD τ) (ms0_11 t) fullShare ((dats m 0 c).after 11 t) ∗
    owns (c : Thread nD τ) (ms0_12 t) fullShare ((dats m 0 c).after 12 t) ∗ owns (c : Thread nD τ) (ms0_13 t) fullShare ((dats m 0 c).after 13 t) ∗
    owns (c : Thread nD τ) (ms0_14 t) fullShare ((dats m 0 c).after 14 t) ∗ owns (c : Thread nD τ) (ms0_15 t) fullShare ((dats m 0 c).after 15 t) ∗
    owns (c : Thread nD τ) (ms0_16 t) fullShare ((dats m 0 c).after 16 t) ∗ owns (c : Thread nD τ) (ms0_17 t) fullShare ((dats m 0 c).after 17 t) ∗
    owns (c : Thread nD τ) (ms0_18 t) fullShare ((dats m 0 c).after 18 t) ∗ owns (c : Thread nD τ) (ms0_19 t) fullShare ((dats m 0 c).after 19 t) ∗
    owns (c : Thread nD τ) (ms0_20 t) fullShare ((dats m 0 c).after 20 t) ∗ owns (c : Thread nD τ) (ms0_21 t) fullShare ((dats m 0 c).after 21 t) ∗
    owns (c : Thread nD τ) (ms0_22 t) fullShare ((dats m 0 c).after 22 t) ∗ owns (c : Thread nD τ) (ms0_23 t) fullShare ((dats m 0 c).after 23 t) ∗
    owns (c : Thread nD τ) (ms0_24 t) fullShare ((dats m 0 c).after 24 t))

set_option maxHeartbeats 22400000 in
/-- The body's triple at any point. -/
theorem body_triple (c : Dev nD) (t : Fin cfg0.N) :
    given m c t ⊢ wp frame (wpE (defs₀ (F := F)) Variants.none c none) Set.univ (bodyAt0 t) (fun _ => returned m c t) := by
  unfold given returned bodyAt0
  simp only [before0, before1, before2, before3, before4, before5, before6, before7, before8, before9, before10, before11, before12, before13, before14, before15, before16, before17]
  rw [show (dats m 0 c).owesAt () t.succ = (dats m 0 c).owesAt () t.castSucc from rfl,
    after0, after1, after2, after3, after4, after5, after6, after7, after8, after9, after10, after11, after12, after13, after14, after15, after16, after17, after18, after19, after20, after21, after22, after23, after24,
    show (dats m 0 c).Φ t.succ = scratch c (outs m c t.val t.isLt) from rfl, carried_at m c t]
  have hN : t.val < 16 := lt_of_lt_of_eq t.isLt (show cfg0.N = 16 from N_0)
  by_cases h : t.val % 16 = 0
  · have hz : t.val = 0 := by omega
    rw [show carried m c t.val (Nat.le_of_lt t.isLt) = Pipeline.ΦA spec0 c from by
      generalize Nat.le_of_lt t.isLt = e; revert e; rw [hz]; intro e; rfl, PhiA0_eq, outs_A m c t h]
    unfold scratch outA; dsimp only
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((runA m c t h).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, H16, H17, H18, H19, H20, H21, H22, H23, H24, S0, S1, S2, S3⟩
    isplitl [S0 S1 S2 S3 Hg]
    · isplitl [S0 S1 S2 S3]
      · isplitl [S0]; · iapply (owned scM0_0 VS0_0 _ (coverA_s0 m c t h)); iexact S0
        isplitl [S1]; · iapply (owned scM0_1 VS0_1 _ (coverA_s1 m c t h)); iexact S1
        isplitl [S2]; · iapply (owned scM0_2 VS0_2 _ (coverA_s2 m c t h)); iexact S2
        iapply (owned scM0_3 VS0_3 _ (coverA_s3 m c t h)); iexact S3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iapply (owned (ms0_18 t) VO0_18 _ (coverA_o18 m c t h)); iexact H18
    isplitl [H19]; · iapply (owned (ms0_19 t) VO0_19 _ (coverA_o19 m c t h)); iexact H19
    isplitl [H20]; · iapply (owned (ms0_20 t) VO0_20 _ (coverA_o20 m c t h)); iexact H20
    isplitl [H21]; · iapply (owned (ms0_21 t) VO0_21 _ (coverA_o21 m c t h)); iexact H21
    isplitl [H22]; · iapply (owned (ms0_22 t) VO0_22 _ (coverA_o22 m c t h)); iexact H22
    isplitl [H23]; · iapply (owned (ms0_23 t) VO0_23 _ (coverA_o23 m c t h)); iexact H23
    iapply (owned (ms0_24 t) VO0_24 _ (coverA_o24 m c t h)); iexact H24
  · have hz : t.val ≠ 0 := by rintro e; rw [e] at h; exact h (Nat.zero_mod _)
    rw [carried_pos m c _ _ hz, outs_B m c t h]
    simp only [before19 m c t h, before20 m c t h, before21 m c t h, before22 m c t h, before23 m c t h, before24 m c t h]
    unfold scratch outB; dsimp only
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((runB m c t h (prev m c t)).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexact H19
    isplitl [H20]; · iexact H20
    isplitl [H21]; · iexact H21
    isplitl [H22]; · iexact H22
    isplitl [H23]; · iexact H23
    isplitl [H24]; · iexact H24
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, H16, H17, H18, H19, H20, H21, H22, H23, H24, S0, S1, S2, S3⟩
    isplitl [S0 S1 S2 S3 Hg]
    · isplitl [S0 S1 S2 S3]
      · isplitl [S0]; · iapply (owned scM0_0 VS0_0 _ (coverB_s0 m c t h _)); iexact S0
        isplitl [S1]; · iapply (owned_kept _ _); iexact S1
        isplitl [S2]; · iapply (owned scM0_2 VS0_2 _ (coverB_s2 m c t h _)); iexact S2
        iapply (owned scM0_3 VS0_3 _ (coverB_s3 m c t h _)); iexact S3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iapply (owned (ms0_18 t) VO0_18 _ (coverB_o18 m c t h _)); iexact H18
    isplitl [H19]; · iapply (owned_kept _ _); iexact H19
    isplitl [H20]; · iapply (owned (ms0_20 t) VO0_20 _ (coverB_o20 m c t h _)); iexact H20
    isplitl [H21]; · iapply (owned (ms0_21 t) VO0_21 _ (coverB_o21 m c t h _)); iexact H21
    isplitl [H22]; · iapply (owned (ms0_22 t) VO0_22 _ (coverB_o22 m c t h _)); iexact H22
    isplitl [H23]; · iapply (owned (ms0_23 t) VO0_23 _ (coverB_o23 m c t h _)); iexact H23
    iapply (owned (ms0_24 t) VO0_24 _ (coverB_o24 m c t h _)); iexact H24

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_triple m c t) rfl .rfl fun _ => .rfl

theorem given_back (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 16 := N_0; omega), PhiA0_eq]
  unfold scratch
  iintro ⟨⟨S0, S1, S2, S3⟩, Hg⟩
  isplitl [S0 S1 S2 S3]
  · isplitl [S0]; · iexists _; iexact S0
    isplitl [S1]; · iexists _; iexact S1
    isplitl [S2]; · iexists _; iexact S2
    iexists _; iexact S3
  · iexact Hg

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := A_eq m)
    (hin := fun c => by
      rw [show (dats m 0 c).Φ 0 = Pipeline.ΦA spec0 c from rfl])
    (hout := given_back m)

theorem run : θ_run defs (onTc (τ := τ) (main (F := F))) (s₀ m ρ) (Pipeline.FramePost cfgs (dats m) 0 (V m)) :=
  (θ_run defs _ _).mono (fun _ h => h.1) (run_quiescent m ρ)

/-- The frame: every argument's array ends as it began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10))
      ∧ r.2.sem = fun _ => 0) :=
  θ_run_with_sems (frame_of m ρ (dats m) (A_eq m)) (run_quiescent m ρ)

end Cert.MixBwdIdeal.Whole

end
-- ==== Proof.PoolSum.lean ====
module

public import proofs.«01_k».proof.Proof.Norm
public import Idealize.ShloMosaic.PureOps.Ideal

/-! Arithmetic of the pooling mixer's gradient: the host's window sums along the rows, the difference of two of them, and
the gate's slope. -/

@[expose] public section

set_option maxRecDepth 16384

noncomputable section

open Idealize.ShloMosaic
open scoped BigOperators

namespace Cert.PoolSum

/-! ## Window sums -/

/-- An array of `N` rows, zero beyond. -/
def ext {N : ℕ} (f : Fin N → EReal) (n : ℕ) : EReal := if h : n < N then f ⟨n, h⟩ else 0

theorem foldl_add {α : Type} (l : List α) (f : α → EReal) (v : EReal) :
    l.foldl (fun r n => r + f n) v = v + (l.map f).sum := by
  induction l generalizing v with
  | nil => simp
  | cons a l ih => rw [List.foldl_cons, ih, List.map_cons, List.sum_cons, add_assoc]

/-- A window sum is the initial value plus the sum over the window's positions. -/
theorem window_sum {s t : Shape} (window strides lo hi : Fin s.rank → ℕ) (h : s.ReduceWindows window strides lo hi t)
    (x : s.Idx → EReal) (init : EReal) (j : t.Idx) :
    Ideal.hostReduceWindowAdd window strides lo hi h x init j
      = init + ∑ k : (⟨s.rank, window⟩ : Shape).Idx,
          (if hin : ∀ a, lo a ≤ (j (a.cast h.1.symm)).val * strides a + (k a).val
              ∧ (j (a.cast h.1.symm)).val * strides a + (k a).val - lo a < s.size a
            then x (fun a => ⟨(j (a.cast h.1.symm)).val * strides a + (k a).val - lo a, (hin a).2⟩) else init) := by
  unfold Ideal.hostReduceWindowAdd Host.reduceWindow
  rw [foldl_add]
  congr 1
  rw [← List.ofFn_eq_map, List.sum_ofFn]
  exact Fintype.sum_equiv (Shape.rowMajor (⟨s.rank, window⟩ : Shape)).symm _ _ fun n => by dsimp only; congr

/-- A window sum of real numbers is one. -/
theorem real_window {s t : Shape} (window strides lo hi : Fin s.rank → ℕ) (h : s.ReduceWindows window strides lo hi t)
    (x : s.Idx → ℝ) (init : ℝ) (j : t.Idx) :
    ∃ r : ℝ, Ideal.hostReduceWindowAdd window strides lo hi h (fun i => (x i : EReal)) (init : EReal) j = (r : EReal) := by
  rw [window_sum]
  refine ⟨init + ∑ k : (⟨s.rank, window⟩ : Shape).Idx,
          (if hin : ∀ a, lo a ≤ (j (a.cast h.1.symm)).val * strides a + (k a).val
              ∧ (j (a.cast h.1.symm)).val * strides a + (k a).val - lo a < s.size a
            then x (fun a => ⟨(j (a.cast h.1.symm)).val * strides a + (k a).val - lo a, (hin a).2⟩) else init), ?_⟩
  rw [EReal.coe_add, ← Norm.coe_sum]
  congr 1
  refine Finset.sum_congr rfl fun k _ => ?_
  split <;> rfl

/-- The sum from a row on, as the host prints it. -/
theorem rows_ahead {N M a b : ℕ} (hM : M + 1 = N)
    (h : (⟨4, ![1, N, a, b]⟩ : Shape).ReduceWindows ![1, N, 1, 1] ![1, 1, 1, 1] ![0, 0, 0, 0] ![0, M, 0, 0] ⟨4, ![1, N, a, b]⟩)
    (x : (⟨4, ![1, N, a, b]⟩ : Shape).Idx → EReal) (r : Fin N) (i : Fin a) (k : Fin b) :
    Ideal.hostReduceWindowAdd ![1, N, 1, 1] ![1, 1, 1, 1] ![0, 0, 0, 0] ![0, M, 0, 0] h x 0 (ix4 0 r i k)
      = ∑ n ∈ Finset.range N, if hn : r.val + n < N then x (ix4 0 ⟨r.val + n, hn⟩ i k) else 0 := by
  rw [window_sum, zero_add, Finset.sum_range]
  refine Fintype.sum_bijective (fun w : (⟨4, ![1, N, 1, 1]⟩ : Shape).Idx => (w 1 : Fin N)) ⟨?_, ?_⟩ _ _ ?_
  · intro w w' e
    refine funext fun c => ?_
    match c with
    | ⟨0, _⟩ => exact Subsingleton.elim (α := Fin 1) _ _
    | ⟨1, _⟩ => exact e
    | ⟨2, _⟩ => exact Subsingleton.elim (α := Fin 1) _ _
    | ⟨3, _⟩ => exact Subsingleton.elim (α := Fin 1) _ _
  · intro n
    exact ⟨ix4 0 n 0 0, rfl⟩
  · intro w
    have w0 : (w 0).val = 0 := by have h := (w 0).isLt; change (w 0).val < 1 at h; omega
    have w2 : (w 2).val = 0 := by have h := (w 2).isLt; change (w 2).val < 1 at h; omega
    have w3 : (w 3).val = 0 := by have h := (w 3).isLt; change (w 3).val < 1 at h; omega
    by_cases hn : r.val + (w 1).val < N
    · rw [dif_pos hn, dif_pos]
      · refine congrArg x (funext fun c => Fin.ext ?_)
        match c with
        | ⟨0, _⟩ => show 0 * 1 + (w 0).val - 0 = 0; omega
        | ⟨1, _⟩ => show r.val * 1 + (w 1).val - 0 = r.val + (w 1).val; omega
        | ⟨2, _⟩ => show i.val * 1 + (w 2).val - 0 = i.val; omega
        | ⟨3, _⟩ => show k.val * 1 + (w 3).val - 0 = k.val; omega
      · intro c
        match c with
        | ⟨0, _⟩ => show 0 ≤ 0 * 1 + (w 0).val ∧ 0 * 1 + (w 0).val - 0 < 1; omega
        | ⟨1, _⟩ => show 0 ≤ r.val * 1 + (w 1).val ∧ r.val * 1 + (w 1).val - 0 < N; omega
        | ⟨2, _⟩ => have := i.isLt; show 0 ≤ i.val * 1 + (w 2).val ∧ i.val * 1 + (w 2).val - 0 < a; omega
        | ⟨3, _⟩ => have := k.isLt; show 0 ≤ k.val * 1 + (w 3).val ∧ k.val * 1 + (w 3).val - 0 < b; omega
    · rw [dif_neg hn, dif_neg]
      intro hin
      have h1 := (hin 1).2
      change r.val * 1 + (w 1).val - 0 < N at h1
      exact hn (by omega)

/-- The same as the host's operation states it. -/
theorem host_rows_ahead {N M a b : ℕ} (hM : M + 1 = N) {u : Shape}
    (h : (⟨4, ![1, N, a, b]⟩ : Shape).ReduceWindows ![1, N, 1, 1] ![1, 1, 1, 1] ![0, 0, 0, 0] ![0, M, 0, 0] ⟨4, ![1, N, a, b]⟩)
    (x : FVec Ideal (⟨4, ![1, N, a, b]⟩ : Shape) .f32) (init : u.Idx → Ideal .f32) (hu : 0 < u.numel)
    (hz : init (Shape.Idx.first hu) = (0 : EReal)) (r : Fin N) (i : Fin a) (k : Fin b) :
    (Host.reduceWindowAdd ![1, N, 1, 1] ![1, 1, 1, 1] ![0, 0, 0, 0] ![0, M, 0, 0] x init h hu (ix4 0 r i k) : EReal)
      = ∑ n ∈ Finset.range N, ext (fun t => (x (ix4 0 t i k) : EReal)) (r + n) := by
  exact (congrArg (fun v : EReal => Ideal.hostReduceWindowAdd ![1, N, 1, 1] ![1, 1, 1, 1] ![0, 0, 0, 0] ![0, M, 0, 0] h x v (ix4 0 r i k)) hz).trans
    (rows_ahead hM h x r i k)

/-- The sum up to a row, of real numbers, is one. -/
theorem host_real_window {s t u : Shape} (window strides lo hi : Fin s.rank → ℕ) (h : s.ReduceWindows window strides lo hi t)
    (x : FVec Ideal s .f32) (init : u.Idx → Ideal .f32) (hu : 0 < u.numel) (hz : init (Shape.Idx.first hu) = (0 : EReal))
    (hx : ∀ i, ∃ r : ℝ, (x i : EReal) = r) (j : t.Idx) :
    ∃ r : ℝ, (Host.reduceWindowAdd window strides lo hi x init h hu j : EReal) = r := by
  choose X hX using hx
  obtain rfl : x = fun i => (X i : EReal) := funext hX
  obtain ⟨r, hr⟩ := real_window window strides lo hi h X 0 j
  exact ⟨r, (congrArg (fun v : EReal => Ideal.hostReduceWindowAdd window strides lo hi h (fun i => (X i : EReal)) v j) hz).trans hr⟩

/-! ## Differences of sums -/

/-- Sums of differences of an array and the same array `w` rows on. -/
theorem telescope (f : ℕ → ℝ) (w n : ℕ) :
    ∑ k ∈ Finset.range n, (f k - f (k + w)) = ∑ k ∈ Finset.range w, f k - ∑ k ∈ Finset.range w, f (n + k) := by
  induction n with
  | zero => simp
  | succ n ih =>
    rw [Finset.sum_range_succ, ih]
    have e : ∑ k ∈ Finset.range w, f (n + 1 + k) = ∑ k ∈ Finset.range w, f (n + k) + f (n + w) - f n := by
      have h1 := Finset.sum_range_succ (fun k => f (n + k)) w
      have h2 := Finset.sum_range_succ' (fun k => f (n + k)) w
      simp only [Nat.add_zero] at h2
      have h3 : ∑ k ∈ Finset.range w, f (n + (k + 1)) = ∑ k ∈ Finset.range w, f (n + 1 + k) :=
        Finset.sum_congr rfl fun k _ => congrArg f (by omega)
      linarith
    rw [e]
    ring

/-- The sum, from a row on, of the differences of an array and the same array `w` rows on is the sum over `w` rows. -/
theorem ahead_window {N : ℕ} (w : ℕ) (D : Fin N → ℝ) (E : Fin N → EReal)
    (hE : ∀ n : Fin N, E n = (D n : EReal) + ext (fun n => -(D n : EReal)) (n + w)) (r : Fin N) :
    ∑ n ∈ Finset.range N, ext E (r + n) = ∑ n ∈ Finset.range w, ext (fun n => (D n : EReal)) (r + n) := by
  let f : ℕ → ℝ := fun n => if h : r.val + n < N then D ⟨r.val + n, h⟩ else 0
  have e1 : ∀ n, ext E (r + n) = ((f n - f (n + w) : ℝ) : EReal) := fun n => by
    unfold ext
    by_cases h : r.val + n < N
    · rw [dif_pos h, hE]
      unfold ext
      by_cases h' : r.val + n + w < N
      · have h'' : r.val + (n + w) < N := by omega
        rw [dif_pos (show (⟨r.val + n, h⟩ : Fin N).val + w < N from h')]
        simp only [f, dif_pos h, dif_pos h'', EReal.coe_sub]
        rw [sub_eq_add_neg]
        congr 4
        exact Fin.ext (by show r.val + n + w = r.val + (n + w); omega)
      · have h'' : ¬ r.val + (n + w) < N := by omega
        rw [dif_neg (show ¬ (⟨r.val + n, h⟩ : Fin N).val + w < N from h')]
        simp only [f, dif_pos h, dif_neg h'', sub_zero, add_zero]
    · have h'' : ¬ r.val + (n + w) < N := by omega
      rw [dif_neg h]
      simp only [f, dif_neg h, dif_neg h'', sub_zero, EReal.coe_zero]
  have e2 : ∀ n, ext (fun n => (D n : EReal)) (r + n) = (f n : EReal) := fun n => by
    unfold ext
    by_cases h : r.val + n < N
    · simp only [f, dif_pos h]
    · simp only [f, dif_neg h, EReal.coe_zero]
  rw [Finset.sum_congr rfl fun n _ => e1 n, Finset.sum_congr rfl fun n _ => e2 n, Norm.coe_sum, Norm.coe_sum, telescope]
  congr 1
  have z : ∑ k ∈ Finset.range w, f (N + k) = 0 := Finset.sum_eq_zero fun k _ => by
    have : ¬ r.val + (N + k) < N := by omega
    simp only [f, dif_neg this]
  rw [z, sub_zero]

/-! ## The gate's slope -/

/-- The gradient of `z * logistic z` two ways, where the incoming gradient is a real number. -/
theorem slope (a z s : ℝ) :
    ((a : EReal) * (s * (1 + z * (1 - s))) : EReal) = a * s + z * a * (s * (1 - s)) := by
  have e1 : (1 : EReal) = ((1 : ℝ) : EReal) := rfl
  rw [e1, ← EReal.coe_sub, ← EReal.coe_mul, ← EReal.coe_add, ← EReal.coe_mul, ← EReal.coe_mul, ← EReal.coe_mul, ← EReal.coe_mul,
    ← EReal.coe_mul, ← EReal.coe_mul, ← EReal.coe_add]
  congr 1
  ring

end Cert.PoolSum
-- ==== Proof.PoolGrad.lean ====
module

public import proofs.«01_k».proof.Proof.PoolSum

/-! The pooling mixer's gradient as sums over rows and columns: what differentiation gives, and what the kernel computes.
`Z` the gate's pre-activation, `Dm` the cotangent of the mixer's output, `Ls` the layer scale, `W` the weights of the four
groups, `P` the pooled input. -/

@[expose] public section

noncomputable section

open Idealize.ShloMosaic
open scoped BigOperators

namespace Cert.PoolGrad

open PoolSum (ext)

/-- A column's group. -/
def grp (j : Fin 512) : Fin 4 := ⟨j.val / 128, by omega⟩
/-- A column's place in its group. -/
def lane (j : Fin 512) : Fin 128 := ⟨j.val % 128, by omega⟩
/-- The column of a group at a place. -/
def col (g : Fin 4) (d : Fin 128) : Fin 512 := ⟨g.val * 128 + d.val, by omega⟩

theorem grp_col (g : Fin 4) (d : Fin 128) : grp (col g d) = g := Fin.ext (by show (g.val * 128 + d.val) / 128 = g.val; omega)
theorem lane_col (g : Fin 4) (d : Fin 128) : lane (col g d) = d := Fin.ext (by show (g.val * 128 + d.val) % 128 = d.val; omega)
theorem col_grp (j : Fin 512) : col (grp j) (lane j) = j := Fin.ext (by show j.val / 128 * 128 + j.val % 128 = j.val; omega)

/-- The rows a group's window spans. -/
def width : Fin 4 → ℕ := ![2, 4, 8, 16]

/-- The rows of a group's window that ends at row `s`. -/
def cnt (g : Fin 4) (s : Fin 8192) : ℝ := min ((s.val : ℝ) + 1) (width g)

theorem cnt_pos (g : Fin 4) (s : Fin 8192) : 0 < cnt g s := by
  refine lt_min (by positivity) ?_
  match g with
  | 0 => show (0 : ℝ) < (2 : ℕ); norm_num
  | 1 => show (0 : ℝ) < (4 : ℕ); norm_num
  | 2 => show (0 : ℝ) < (8 : ℕ); norm_num
  | 3 => show (0 : ℝ) < (16 : ℕ); norm_num

/-- The logistic function as it prints. -/
def sig (z : EReal) : EReal := Ideal.div 1 (1 + Ideal.exp (-z))

section rowwise

variable {R : Type} (Z Dm : R → Fin 512 → EReal) (Ls : Fin 512 → EReal) (W : Fin 4 → Fin 128 → Fin 128 → EReal)
  (P : R → Fin 4 → Fin 128 → EReal)

/-- The group product. -/
def yw (s : R) (j : Fin 512) : EReal := ∑ c, W (grp j) c (lane j) * P s (grp j) c
/-- The cotangent of the scaled group product. -/
def dy (s : R) (j : Fin 512) : EReal := Dm s j * (Z s j * sig (Z s j))
/-- The cotangent of the group product. -/
def dyw (s : R) (j : Fin 512) : EReal := dy Z Dm s j * Ls j
/-- The cotangent of the pooled input. -/
def dpl (s : R) (g : Fin 4) (c : Fin 128) : EReal := ∑ d, dyw Z Dm Ls s (col g d) * W g c d
/-- The cotangent of the gated output before its gate. -/
def dgo (s : R) (j : Fin 512) : EReal := yw W P s j * Ls j * Dm s j
/-- The gate's gradient as differentiation gives it. -/
def dz (s : R) (j : Fin 512) : EReal :=
  dgo Dm Ls W P s j * sig (Z s j) + Z s j * dgo Dm Ls W P s j * (sig (Z s j) * (1 - sig (Z s j)))
/-- The group product as the kernel computes it. -/
def kyw (s : R) (g : Fin 4) (d : Fin 128) : EReal := ∑ c, P s g c * W g c d
/-- The gate's gradient as the kernel computes it. -/
def kdz (s : R) (g : Fin 4) (d : Fin 128) : EReal :=
  Dm s (col g d) * (kyw W P s g d * Ls (col g d)) * (sig (Z s (col g d)) * (1 + Z s (col g d) * (1 - sig (Z s (col g d)))))
/-- What a row adds to the layer scale's gradient, as the kernel computes it. -/
def kdls (s : R) (g : Fin 4) (d : Fin 128) : EReal := dy Z Dm s (col g d) * kyw W P s g d
/-- What a row adds to the weights' gradient, as the kernel computes it. -/
def kdwp (s : R) (g : Fin 4) (c d : Fin 128) : EReal := P s g c * dyw Z Dm Ls s (col g d)

end rowwise

variable (Z Dm : Fin 8192 → Fin 512 → EReal) (Ls : Fin 512 → EReal) (W : Fin 4 → Fin 128 → Fin 128 → EReal)
  (P : Fin 8192 → Fin 4 → Fin 128 → EReal)

/-- The layer scale's gradient. -/
def dls (j : Fin 512) : EReal := ∑ s, yw W P s j * dy Z Dm s j
/-- The weights' gradient. -/
def dwp (g : Fin 4) (c d : Fin 128) : EReal := ∑ s, dyw Z Dm Ls s (col g d) * P s g c
/-- What a row takes of the pooled input's cotangent. -/
def part (g : Fin 4) (c : Fin 128) (s : Fin 8192) : EReal := Ideal.div (dpl Z Dm Ls W s g c) (cnt g s : EReal)
/-- The input's gradient as differentiation gives it. -/
def du (s : Fin 8192) (g : Fin 4) (c : Fin 128) : EReal :=
  -dpl Z Dm Ls W s g c + ∑ n ∈ Finset.range 8192,
    ext (fun t : Fin 8192 => part Z Dm Ls W g c t + ext (fun t => -part Z Dm Ls W g c t) (t.val + width g)) (s.val + n)
/-- The input's gradient as the kernel computes it. -/
def kdu (s : Fin 8192) (g : Fin 4) (c : Fin 128) : EReal :=
  (∑ n ∈ Finset.range (width g), ext (part Z Dm Ls W g c) (s.val + n)) - dpl Z Dm Ls W s g c

theorem kyw_eq (s : Fin 8192) (g : Fin 4) (d : Fin 128) : kyw W P s g d = yw W P s (col g d) := by
  unfold kyw yw
  rw [grp_col, lane_col]
  exact Finset.sum_congr rfl fun _ _ => mul_comm _ _

theorem kdls_eq (g : Fin 4) (d : Fin 128) : ∑ s, kdls Z Dm W P s g d = dls Z Dm W P (col g d) := by
  unfold kdls dls
  exact Finset.sum_congr rfl fun s _ => by rw [kyw_eq, mul_comm]

theorem kdwp_eq (g : Fin 4) (c d : Fin 128) : ∑ s, kdwp Z Dm Ls P s g c d = dwp Z Dm Ls P g c d :=
  Finset.sum_congr rfl fun _ _ => mul_comm _ _

/-! ## Where the arguments are real numbers -/

theorem sig_real (z : ℝ) : ∃ r : ℝ, sig (z : EReal) = r := by
  refine ⟨1 / (1 + Real.exp (-z)), ?_⟩
  unfold sig
  have h : (1 : ℝ) + Real.exp (-z) ≠ 0 := by positivity
  have e : (1 : EReal) + Ideal.exp (-(z : EReal)) = ((1 + Real.exp (-z) : ℝ) : EReal) := by
    rw [← EReal.coe_neg, Ideal.exp_coe, EReal.coe_add]
    rfl
  rw [e, Ideal.div_coe h, one_mul]

variable {Z Dm : Fin 8192 → Fin 512 → EReal} {Ls : Fin 512 → EReal} {W : Fin 4 → Fin 128 → Fin 128 → EReal}
  {P : Fin 8192 → Fin 4 → Fin 128 → EReal}
  (hZ : ∀ s j, ∃ r : ℝ, Z s j = r) (hD : ∀ s j, ∃ r : ℝ, Dm s j = r) (hL : ∀ j, ∃ r : ℝ, Ls j = r)
  (hW : ∀ g c d, ∃ r : ℝ, W g c d = r) (hP : ∀ s g c, ∃ r : ℝ, P s g c = r)

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_sub {x y : EReal} (hx : ∃ r : ℝ, x = r) (hy : ∃ r : ℝ, y = r) : ∃ r : ℝ, x - y = r := by
  obtain ⟨a, rfl⟩ := hx
  obtain ⟨b, rfl⟩ := hy
  exact ⟨a - b, (EReal.coe_sub a b).symm⟩

theorem real_sum {ι : Type} (s : Finset ι) {f : ι → EReal} (hf : ∀ i, ∃ r : ℝ, f i = r) : ∃ r : ℝ, ∑ i ∈ s, f i = r := by
  choose g hg using hf
  exact ⟨∑ i ∈ s, g i, by rw [← Norm.coe_sum]; exact Finset.sum_congr rfl fun i _ => hg i⟩

theorem real_div {x : EReal} {b : ℝ} (hb : b ≠ 0) (hx : ∃ r : ℝ, x = r) : ∃ r : ℝ, Ideal.div x (b : EReal) = r := by
  rw [Ideal.div_coe hb]
  exact real_mul hx ⟨_, rfl⟩

include hZ hD hL hW hP in
/-- The gate's gradient is one number both ways. -/
theorem kdz_eq (s : Fin 8192) (g : Fin 4) (d : Fin 128) : kdz Z Dm Ls W P s g d = dz Z Dm Ls W P s (col g d) := by
  unfold kdz dz
  obtain ⟨a, ha⟩ : ∃ r : ℝ, dgo Dm Ls W P s (col g d) = r :=
    real_mul (real_mul (real_sum _ fun c => real_mul (hW _ _ _) (hP _ _ _)) (hL _)) (hD s _)
  obtain ⟨z, hz⟩ := hZ s (col g d)
  obtain ⟨y, hy⟩ := sig_real z
  have e : Dm s (col g d) * (kyw W P s g d * Ls (col g d)) = dgo Dm Ls W P s (col g d) := by rw [kyw_eq]; exact mul_comm _ _
  rw [e, ha, hz, hy]
  exact PoolSum.slope a z y

include hZ hD hL hW in
/-- The input's gradient is one number both ways. -/
theorem kdu_eq (s : Fin 8192) (g : Fin 4) (c : Fin 128) : kdu Z Dm Ls W s g c = du Z Dm Ls W s g c := by
  have hy : ∀ s j, ∃ r : ℝ, dyw Z Dm Ls s j = r := fun s j => by
    obtain ⟨z, hz⟩ := hZ s j
    refine real_mul (real_mul (hD s j) ?_) (hL j)
    rw [hz]
    exact real_mul ⟨z, rfl⟩ (sig_real z)
  have hd : ∀ s, ∃ r : ℝ, part Z Dm Ls W g c s = r := fun s =>
    real_div (cnt_pos g s).ne' (real_sum _ fun d => real_mul (hy _ _) (hW _ _ _))
  choose D hD' using hd
  have e : part Z Dm Ls W g c = fun s => (D s : EReal) := funext hD'
  unfold kdu du
  rw [e, PoolSum.ahead_window (width g) D _ (fun n => rfl) s, add_comm, sub_eq_add_neg]

end Cert.PoolGrad
-- ==== Proof.MixBwdPay.lean ====
module

public import proofs.«01_k».proof.Proof.Gen.MixBwdIdeal.Skeleton
public import proofs.«01_k».proof.Proof.PoolGrad
public import Idealize.ShloMosaic.Lib.Pipeline.ValueKit
/-! The mixers' backward call: what the pooling mixer's lines of the body compute. -/

@[expose] public section

set_option maxRecDepth 16384

noncomputable section

open Idealize.ShloMosaic Idealize.ShloMosaic.TcCoe
open scoped BigOperators

namespace Cert.MixBwdIdeal.Pay

open Cert.MixBwdIdeal Cert.MixBwdIdeal.Gen

section terms

variable (p : S512x128.Idx → EReal) (w : S1x128x128.Idx → EReal) (l : S1x128.Idx → EReal) (z d : S512x128.Idx → EReal)

/-- The group product. -/
def yw (i : Fin 512) (k : Fin 128) : EReal := ∑ c, p (ix2 i c) * w (ix3 0 c k)
/-- The cotangent of the scaled group product. -/
def dy (i : Fin 512) (k : Fin 128) : EReal := d (ix2 i k) * (z (ix2 i k) * PoolGrad.sig (z (ix2 i k)))
/-- The cotangent of the group product. -/
def dyw (i : Fin 512) (k : Fin 128) : EReal := dy z d i k * l (ix2 0 k)
/-- The gate's gradient. -/
def dz (i : Fin 512) (k : Fin 128) : EReal :=
  d (ix2 i k) * (yw p w i k * l (ix2 0 k)) * (PoolGrad.sig (z (ix2 i k)) * (1 + z (ix2 i k) * (1 - PoolGrad.sig (z (ix2 i k)))))
/-- The cotangent of the pooled input. -/
def dpl (i : Fin 512) (c : Fin 128) : EReal := ∑ k, dyw l z d i k * w (ix3 0 c k)

end terms

section group

variable (p : Vec Ideal S512x128 .bf16) (w : Vec Ideal S1x128x128 .f32) (l : Vec Ideal S1x128 .f32) (z d : Vec Ideal S512x128 .f32)
variable (b : Vec Ideal S1x128 .f32) (e : Vec Ideal S1x128x128 .f32) (v : FVec Ideal S512x1 .f32) (i : Fin 512) (k c : Fin 128)

theorem dz_0 : (k0_pay20 (k0_pay19 p w l z d) (ix2 i k) : EReal) = dz p w l z d i k := by open_payloads; pointwise; rfl
theorem dz_1 : (k0_pay35 p w l z d (ix2 i k) : EReal) = dz p w l z d i k := by open_payloads; pointwise; rfl
theorem dz_2 : (k0_pay50 (k0_pay46 p w) l z d (ix2 i k) : EReal) = dz p w l z d i k := by open_payloads; pointwise; rfl
theorem dz_3 : (k0_pay65 p w l z d (ix2 i k) : EReal) = dz p w l z d i k := by open_payloads; pointwise; rfl

theorem dls_0 : (k0_pay22 (k0_pay15 p w) (k0_pay16 z) (k0_pay17 z) (k0_pay18 d) b (ix2 0 k) : EReal)
    = (b (ix2 0 k) : EReal) + ∑ i, dy z d i k * yw p w i k := by open_payloads; pointwise; rfl
theorem dls_1 : (k0_pay37 p w z d b (ix2 0 k) : EReal) = (b (ix2 0 k) : EReal) + ∑ i, dy z d i k * yw p w i k := by
  open_payloads; pointwise; rfl
theorem dls_2 : (k0_pay52 (k0_pay46 p w) z d b (ix2 0 k) : EReal) = (b (ix2 0 k) : EReal) + ∑ i, dy z d i k * yw p w i k := by
  open_payloads; pointwise; rfl
theorem dls_3 : (k0_pay67 (k0_pay61 p w) (k0_pay62 z) (k0_pay63 z) (k0_pay64 d) b (ix2 0 k) : EReal)
    = (b (ix2 0 k) : EReal) + ∑ i, dy z d i k * yw p w i k := by open_payloads; pointwise; rfl

theorem dwp_0 : (k0_pay24 (k0_pay13 p) l (k0_pay16 z) (k0_pay17 z) (k0_pay18 d) e (ix3 0 c k) : EReal)
    = (e (ix3 0 c k) : EReal) + ∑ i, (p (ix2 i c) : EReal) * dyw l z d i k := by open_payloads; pointwise; rfl
theorem dwp_1 : (k0_pay40 (k0_pay29 p) (k0_pay36 z d) (k0_pay38 l) e (ix3 0 c k) : EReal)
    = (e (ix3 0 c k) : EReal) + ∑ i, (p (ix2 i c) : EReal) * dyw l z d i k := by open_payloads; pointwise; rfl
theorem dwp_2 : (k0_pay54 (k0_pay44 p) l z d e (ix3 0 c k) : EReal)
    = (e (ix3 0 c k) : EReal) + ∑ i, (p (ix2 i c) : EReal) * dyw l z d i k := by open_payloads; pointwise; rfl
theorem dwp_3 : (k0_pay69 (k0_pay59 p) l (k0_pay62 z) (k0_pay63 z) (k0_pay64 d) e (ix3 0 c k) : EReal)
    = (e (ix3 0 c k) : EReal) + ∑ i, (p (ix2 i c) : EReal) * dyw l z d i k := by open_payloads; pointwise; rfl

theorem dpl_0 : (k0_pay25 (k0_pay14 w) l (k0_pay16 z) (k0_pay17 z) (k0_pay18 d) (ix2 i c) : EReal) = dpl w l z d i c := by
  open_payloads; pointwise; rfl
theorem dpl_1 : (k0_pay41 (k0_pay30 w) (k0_pay36 z d) (k0_pay38 l) (ix2 i c) : EReal) = dpl w l z d i c := by
  open_payloads; pointwise; rfl
theorem dpl_2 : (k0_pay55 (k0_pay45 w) l z d (ix2 i c) : EReal) = dpl w l z d i c := by open_payloads; pointwise; rfl
theorem dpl_3 : (k0_pay70 (k0_pay60 w) l (k0_pay62 z) (k0_pay63 z) (k0_pay64 d) (ix2 i c) : EReal) = dpl w l z d i c := by
  open_payloads; pointwise; rfl

theorem part_0 : (k0_pay26 v (k0_pay14 w) l (k0_pay16 z) (k0_pay17 z) (k0_pay18 d) (ix2 i c) : EReal)
    = dpl w l z d i c * (v (ix2 i 0) : EReal) := by open_payloads; pointwise; rfl
theorem part_1 : (k0_pay42 v (k0_pay30 w) (k0_pay36 z d) (k0_pay38 l) (ix2 i c) : EReal) = dpl w l z d i c * (v (ix2 i 0) : EReal) := by
  open_payloads; pointwise; rfl
theorem part_2 : (k0_pay57 (k0_pay56 v (k0_pay45 w) l z d) (ix2 i c) : EReal) = dpl w l z d i c * (v (ix2 i 0) : EReal) := by
  open_payloads; pointwise; rfl
theorem part_3 : (k0_pay71 v (k0_pay60 w) l (k0_pay62 z) (k0_pay63 z) (k0_pay64 d) (ix2 i c) : EReal)
    = dpl w l z d i c * (v (ix2 i 0) : EReal) := by open_payloads; pointwise; rfl

end group

/-! ## The sums over the rows ahead -/

/-- A rotation that brings the row `k` ahead. -/
theorem rot (x : FVec Ideal S528x128 .f32) (n : BitVec 32) (h) (k : ℕ) (hn : n.toNat + k = 528) (r : Fin 528) (c : Fin 128)
    (hr : r.val + k < 528) : dynamicRotate 0 n none x h (ix2 r c) = x (ix2 ⟨r.val + k, hr⟩ c) := by
  unfold dynamicRotate
  refine congrArg x (funext fun b => ?_)
  match b with
  | 0 =>
    refine (if_pos rfl).trans (Fin.ext ?_)
    show (r.val + 528 - (n.toNat + 0) % 528) % 528 = r.val + k
    have := r.isLt
    rcases Nat.eq_zero_or_pos k with hk | hk
    · subst hk
      have e : n.toNat = 528 := by omega
      rw [e]; omega
    · rw [Nat.mod_eq_of_lt (show n.toNat + 0 < 528 by omega)]; omega
  | 1 => exact if_neg (by decide)

/-- A sum over `a` rows ahead and the same sum `k` rows further on. -/
theorem double (x : FVec Ideal S528x128 .f32) (n : BitVec 32) (h) (k a : ℕ) (hn : n.toNat + k = 528) (c : Fin 128) (X : ℕ → EReal)
    (hx : ∀ r : Fin 528, r.val + a < 528 → (x (ix2 r c) : EReal) = X r) (r : Fin 528) (hr : r.val + (k + a) < 528) :
    (addf x (dynamicRotate 0 n none x h) (ix2 r c) : EReal) = X r + X (r.val + k) := by
  show (x (ix2 r c) : EReal) + dynamicRotate 0 n none x h (ix2 r c) = _
  rw [rot x n h k hn r c (by omega), hx r (by omega), hx ⟨r.val + k, by omega⟩ (by show r.val + k + a < 528; omega)]

/-- The first rows of an array of rows. -/
theorem slice (x : FVec Ideal S528x128 .f32) (i : Fin 512) (c : Fin 128) :
    extractStridedSlice S512x128 ![0, 0] x slices_S528x128_o0_0_S512x128 (ix2 i c) = x (ix2 ⟨i, by omega⟩ c) := by
  refine congrArg x (funext fun b => ?_)
  match b with
  | 0 => exact Fin.ext (Nat.zero_add _)
  | 1 => exact Fin.ext (Nat.zero_add _)

variable (q : FVec Ideal S512x128 .f32) (x : FVec Ideal S528x128 .f32) (c : Fin 128) (X : ℕ → EReal)
  (hx : ∀ r : Fin 528, (x (ix2 r c) : EReal) = X r) (i : Fin 512)

include hx

theorem du_0 : (k0_pay72 q x (ix2 i c) : EReal) = (∑ n ∈ Finset.range 2, X (i + n)) - q (ix2 i c) := by
  have h1 := double x 527#32 rotates_S528x128_d0 1 0 rfl c X (fun r _ => hx r)
  refine congrArg (· - (q (ix2 i c) : EReal)) ((slice _ i c).trans ((h1 ⟨i, by omega⟩ (by show i.val + 1 < 528; omega)).trans ?_))
  simp only [Finset.sum_range_succ, Finset.sum_range_zero, zero_add, add_zero]

theorem du_1 : (k0_pay73 q x (ix2 i c) : EReal) = (∑ n ∈ Finset.range 4, X (i + n)) - q (ix2 i c) := by
  have h1 := double x 527#32 rotates_S528x128_d0 1 0 rfl c X (fun r _ => hx r)
  set x1 := addf x (dynamicRotate 0 527#32 none x rotates_S528x128_d0) with e1
  let X1 : ℕ → EReal := fun r => X r + X (r + 1)
  have h2 := double x1 526#32 rotates_S528x128_d0 2 1 rfl c X1 (fun r hr => h1 r (by omega))
  refine congrArg (· - (q (ix2 i c) : EReal)) ((slice _ i c).trans ((h2 ⟨i, by omega⟩ (by show i.val + 3 < 528; omega)).trans ?_))
  simp only [X1, Finset.sum_range_succ, Finset.sum_range_zero, zero_add, add_zero, add_assoc, Nat.add_assoc, Nat.reduceAdd]

theorem du_2 : (k0_pay74 q x (ix2 i c) : EReal) = (∑ n ∈ Finset.range 8, X (i + n)) - q (ix2 i c) := by
  have h1 := double x 527#32 rotates_S528x128_d0 1 0 rfl c X (fun r _ => hx r)
  set x1 := addf x (dynamicRotate 0 527#32 none x rotates_S528x128_d0) with e1
  let X1 : ℕ → EReal := fun r => X r + X (r + 1)
  have h2 := double x1 526#32 rotates_S528x128_d0 2 1 rfl c X1 (fun r hr => h1 r (by omega))
  set x2 := addf x1 (dynamicRotate 0 526#32 none x1 rotates_S528x128_d0) with e2
  let X2 : ℕ → EReal := fun r => X1 r + X1 (r + 2)
  have h3 := double x2 524#32 rotates_S528x128_d0 4 3 rfl c X2 (fun r hr => h2 r (by omega))
  refine congrArg (· - (q (ix2 i c) : EReal)) ((slice _ i c).trans ((h3 ⟨i, by omega⟩ (by show i.val + 7 < 528; omega)).trans ?_))
  simp only [X1, X2, Finset.sum_range_succ, Finset.sum_range_zero, zero_add, add_zero, add_assoc, Nat.add_assoc, Nat.reduceAdd]

theorem du_3 : (k0_pay75 q x (ix2 i c) : EReal) = (∑ n ∈ Finset.range 16, X (i + n)) - q (ix2 i c) := by
  have h1 := double x 527#32 rotates_S528x128_d0 1 0 rfl c X (fun r _ => hx r)
  set x1 := addf x (dynamicRotate 0 527#32 none x rotates_S528x128_d0) with e1
  let X1 : ℕ → EReal := fun r => X r + X (r + 1)
  have h2 := double x1 526#32 rotates_S528x128_d0 2 1 rfl c X1 (fun r hr => h1 r (by omega))
  set x2 := addf x1 (dynamicRotate 0 526#32 none x1 rotates_S528x128_d0) with e2
  let X2 : ℕ → EReal := fun r => X1 r + X1 (r + 2)
  have h3 := double x2 524#32 rotates_S528x128_d0 4 3 rfl c X2 (fun r hr => h2 r (by omega))
  set x3 := addf x2 (dynamicRotate 0 524#32 none x2 rotates_S528x128_d0) with e3
  let X3 : ℕ → EReal := fun r => X2 r + X2 (r + 4)
  have h4 := double x3 520#32 rotates_S528x128_d0 8 7 rfl c X3 (fun r hr => h3 r (by omega))
  refine congrArg (· - (q (ix2 i c) : EReal)) ((slice _ i c).trans ((h4 ⟨i, by omega⟩ (by show i.val + 15 < 528; omega)).trans ?_))
  simp only [X1, X2, X3, Finset.sum_range_succ, Finset.sum_range_zero, zero_add, add_zero, add_assoc, Nat.add_assoc, Nat.reduceAdd]

omit hx

/-! ## The rows a window holds -/

/-- The word that the window's rows are counted in. -/
theorem word (t r w : ℕ) (ht : t < 16) (hr : r < 512) (hw : w ≤ 16) :
    (IntOp.minsi (IntOp.addi (IntOp.addi (IntOp.muli (IntOp.subi 15#32 (BitVec.ofNat 32 t)) 512#32) (BitVec.ofNat 32 r)) 1#32) (BitVec.ofNat 32 w)).toInt
      = (min ((15 - t) * 512 + r + 1) w : ℕ) := by
  have e : IntOp.addi (IntOp.addi (IntOp.muli (IntOp.subi 15#32 (BitVec.ofNat 32 t)) 512#32) (BitVec.ofNat 32 r)) 1#32
      = BitVec.ofNat 32 ((15 - t) * 512 + r + 1) := by
    have e0 : IntOp.subi 15#32 (BitVec.ofNat 32 t) = BitVec.ofNat 32 (15 - t) := by
      interval_cases t <;> rfl
    rw [e0]
    show BitVec.ofNat 32 (15 - t) * 512#32 + BitVec.ofNat 32 r + 1#32 = _
    apply BitVec.eq_of_toNat_eq
    simp only [BitVec.toNat_add, BitVec.toNat_mul, BitVec.toNat_ofNat]
    omega
  rw [e]
  have i1 : (BitVec.ofNat 32 ((15 - t) * 512 + r + 1)).toInt = ((15 - t) * 512 + r + 1 : ℕ) := by
    rw [BitVec.toInt_eq_toNat_of_lt (by rw [BitVec.toNat_ofNat]; omega), BitVec.toNat_ofNat]; omega
  have i2 : (BitVec.ofNat 32 w).toInt = (w : ℕ) := by
    rw [BitVec.toInt_eq_toNat_of_lt (by rw [BitVec.toNat_ofNat]; omega), BitVec.toNat_ofNat]; omega
  unfold IntOp.minsi
  simp only [BitVec.slt, BitVec.sle, i1, i2]
  split <;> rename_i h <;> simp only [decide_eq_true_eq] at h <;> omega

end Cert.MixBwdIdeal.Pay

end
-- ==== Proof.MixBwdRef.lean ====
module

public import proofs.«01_k».proof.Proof.PoolGrad
public import proofs.«01_k».proof.Proof.Gen.MixBwdRefIdeal.Read

/-! The mixers' backward call: the reference's results on the pooling mixer's side as functions of the arguments. -/

@[expose] public section

set_option maxRecDepth 16384

noncomputable section

open Idealize.ShloMosaic Idealize.ShloMosaic.TcCoe Idealize.SL.Sem
open scoped BigOperators

namespace Cert.MixBwdRefIdeal.Read

open PoolGrad

def argZ (x0 : FVec Ideal S1x8192x3592 .f32) (s : Fin 8192) (j : Fin 512) : EReal := x0 (ix3 0 s ⟨512 + j.val, by omega⟩)
def argD (x7 : FVec Ideal S1x8192x1024 .f32) (s : Fin 8192) (j : Fin 512) : EReal := x7 (ix3 0 s ⟨j.val, by omega⟩)
def argL (x5 : FVec Ideal S1x512 .f32) (j : Fin 512) : EReal := x5 (ix2 0 j)
def argW (x4 : FVec Ideal S1x4x128x128 .f32) (g : Fin 4) (c d : Fin 128) : EReal := x4 (ix4 0 g c d)
/-- The pooled input, as the reference's forward lines compute it. -/
def pooled (x0 : FVec Ideal S1x8192x3592 .f32) (s : Fin 8192) (g : Fin 4) (c : Fin 128) : EReal :=
  val_main_v73 (F := Ideal) x0 (ix4 0 s g c)

variable (x0 : FVec Ideal S1x8192x3592 .f32) (x4 : FVec Ideal S1x4x128x128 .f32) (x5 : FVec Ideal S1x512 .f32)
  (x7 : FVec Ideal S1x8192x1024 .f32)

/-- The gate's gradient. -/
theorem read_dz (s : Fin 8192) (j : Fin 512) :
    (val_main_v169 (F := Ideal) x0 x4 x5 x7 (ix2 s ⟨512 + j.val, by omega⟩) : EReal)
      = dz (argZ x0) (argD x7) (argL x5) (argW x4) (pooled x0) s j := by
  pointwise [val_main_v169, val_main_v168, val_main_v166, val_main_v165, val_main_v167, val_main_cst_26, val_main_v85,
    val_main_call2_v2, val_main_call2_v1, val_main_call2_v0, val_main_v83, val_main_v82, val_main_v80_0, val_main_v80_1, val_main_v80_2, val_main_call1_v7, val_main_call1_v6,
    val_main_call1_cst_1, val_main_call1_v4, val_main_call1_cst_0, val_main_call1_v3, val_main_call1_v2, val_main_call1_v1,
    val_main_call1_v0, val_main_call1_cst, val_main_v1,
    val_main_v79, val_main_v78, val_main_v77, val_main_v76, val_main_v75, val_main_v74, val_main_v2, val_main_v3]
  rfl

/-- The layer scale's gradient. -/
theorem read_dls (u : Fin 1) (j : Fin 512) :
    (val_main_v163 (F := Ideal) x0 x4 x7 (ix2 u j) : EReal) = dls (argZ x0) (argD x7) (argW x4) (pooled x0) j := by
  pointwise [val_main_v163, val_main_v91, val_main_cst_13, val_main_v88, val_main_v87, val_main_cst_12, val_main_v86, val_main_v84,
    val_main_v82, val_main_v80_0, val_main_v80_1, val_main_v80_2, val_main_call1_v7, val_main_call1_v6,
    val_main_call1_cst_1, val_main_call1_v4, val_main_call1_cst_0, val_main_call1_v3, val_main_call1_v2, val_main_call1_v1,
    val_main_call1_v0, val_main_call1_cst, val_main_v1,
    val_main_v76, val_main_v75, val_main_v74, val_main_v2, Norm.hostReduceAdd_lead]
  rfl

/-- The cotangent of the group product. -/
theorem read_dyw (g : Fin 4) (d : Fin 128) (u : Fin 1) (s : Fin 8192) :
    (val_main_v93 (F := Ideal) x0 x5 x7 (ix4 g d u s) : EReal) = dyw (argZ x0) (argD x7) (argL x5) s (col g d) := by
  pointwise [val_main_v93, val_main_v92, val_main_v90, val_main_v89, val_main_v77, val_main_v84, val_main_v3,
    val_main_v82, val_main_v80_0, val_main_v80_1, val_main_v80_2, val_main_call1_v7, val_main_call1_v6,
    val_main_call1_cst_1, val_main_call1_v4, val_main_call1_cst_0, val_main_call1_v3, val_main_call1_v2, val_main_call1_v1,
    val_main_call1_v0, val_main_call1_cst, val_main_v1]
  rfl

/-- The weights' gradient. -/
theorem read_dwp (g : Fin 4) (c d : Fin 128) :
    (val_main_v170 (F := Ideal) x0 x5 x7 (ix3 g c d) : EReal) = dwp (argZ x0) (argD x7) (argL x5) (pooled x0) g c d := by
  pointwise [val_main_v170, val_main_v164, val_main_v97, val_main_v96]
  simp only [Fin.sum_univ_one, Fin.isValue, read_dyw]
  rfl

/-- The cotangent of the pooled input. -/
theorem read_dpl (s : Fin 8192) (g : Fin 4) (c : Fin 128) (u : Fin 1) :
    (val_main_v95 (F := Ideal) x0 x4 x5 x7 (ix4 u s g c) : EReal)
      = dpl (argZ x0) (argD x7) (argL x5) (argW x4) s g c := by
  pointwise [val_main_v95, val_main_v94, val_main_v2]
  simp only [read_dyw]
  rfl

theorem ahead_read (s : Fin 8192) (g : Fin 4) (c : Fin 128) :
    (val_main_v160 (F := Ideal) x0 x4 x5 x7 (ix4 0 s g c) : EReal)
      = ∑ n ∈ Finset.range 8192, PoolSum.ext (fun t => (val_main_v159 (F := Ideal) x0 x4 x5 x7 (ix4 0 t g c) : EReal)) (s + n) := by
  have z : (val_main_call3_call0_v0 (F := Ideal) (Shape.Idx.first Gen.h_S_) : EReal) = 0 := by
    pointwise [val_main_call3_call0_v0, val_main_call3_call0_cst]
  unfold val_main_v160
  exact PoolSum.host_rows_ahead rfl _ _ _ _ z s g c

/-- A row's count and a window's length. -/
theorem count_min (s : Fin 8192) (b : BitVec 32) (g : Fin 4) (h : Ideal.ofBits .f32 b = ((width g : ℝ) : EReal)) :
    min (1 + (FloatOps.sitofp .f32 (BitVec.ofNat 32 s.val) : Ideal .f32)) (Ideal.ofBits .f32 b) = ((cnt g s : ℝ) : EReal) := by
  have e : (FloatOps.sitofp .f32 (BitVec.ofNat 32 s.val) : Ideal .f32) = ((s.val : ℝ) : EReal) := by
    have hs := s.isLt
    show (((BitVec.ofNat 32 s.val).toInt : ℝ) : EReal) = _
    rw [BitVec.toInt_eq_toNat_of_lt (by rw [BitVec.toNat_ofNat]; omega), BitVec.toNat_ofNat, Nat.mod_eq_of_lt (by omega)]
    norm_num
  rw [e, h, add_comm]
  unfold cnt
  have e1 : (s.val : ℝ) + (1 : EReal) = (((s.val : ℝ) + 1 : ℝ) : EReal) := by rw [EReal.coe_add]; rfl
  rw [e1]
  exact (EReal.coe_strictMono.monotone.map_min).symm

theorem read_cnt (s : Fin 8192) :
    (val_main_v18 (F := Ideal) (ix3 0 s 0) : EReal) = (cnt 0 s : EReal) ∧ (val_main_v33 (F := Ideal) (ix3 0 s 0) : EReal) = (cnt 1 s : EReal)
    ∧ (val_main_v48 (F := Ideal) (ix3 0 s 0) : EReal) = (cnt 2 s : EReal) ∧ (val_main_v63 (F := Ideal) (ix3 0 s 0) : EReal) = (cnt 3 s : EReal) := by
  refine ⟨?_, ?_, ?_, ?_⟩
  all_goals pointwise [val_main_v18, val_main_v17, val_main_v16, val_main_cst_2, val_main_v33, val_main_v32, val_main_v31, val_main_cst_5,
    val_main_v48, val_main_v47, val_main_v46, val_main_cst_8, val_main_v63, val_main_v62, val_main_v61, val_main_cst_11, val_main_v8,
    val_main_v7, val_main_v6, val_main_cst]
  · exact count_min s _ 0 (by show _ = (((2 : ℕ) : ℝ) : EReal); norm_num [Ideal.ofBits, Ideal.ieee, Nat.shiftRight_eq_div_pow, BitVec.extractLsb'])
  · exact count_min s _ 1 (by show _ = (((4 : ℕ) : ℝ) : EReal); norm_num [Ideal.ofBits, Ideal.ieee, Nat.shiftRight_eq_div_pow, BitVec.extractLsb'])
  · exact count_min s _ 2 (by show _ = (((8 : ℕ) : ℝ) : EReal); norm_num [Ideal.ofBits, Ideal.ieee, Nat.shiftRight_eq_div_pow, BitVec.extractLsb'])
  · exact count_min s _ 3 (by show _ = (((16 : ℕ) : ℝ) : EReal); norm_num [Ideal.ofBits, Ideal.ieee, Nat.shiftRight_eq_div_pow, BitVec.extractLsb'])

theorem shifted (w n : ℕ) (h : n + w = 8192) (s : Fin 8192) (f : Fin 8192 → EReal) :
    (if h' : s.val < n then f ⟨w + s.val, by omega⟩ else 0) = PoolSum.ext f (s.val + w) := by
  unfold PoolSum.ext
  by_cases h' : s.val < n
  · rw [dif_pos h', dif_pos (by omega)]
    exact congrArg f (Fin.ext (Nat.add_comm _ _))
  · rw [dif_neg h', dif_neg (by omega)]

/-- A row's share of the pooled input's cotangent, less the share of the row a window on. -/
theorem read_part (s : Fin 8192) (g : Fin 4) (c : Fin 128) :
    (val_main_v159 (F := Ideal) x0 x4 x5 x7 (ix4 0 s g c) : EReal)
      = part (argZ x0) (argD x7) (argL x5) (argW x4) g c s
        + PoolSum.ext (fun t => -part (argZ x0) (argD x7) (argL x5) (argW x4) g c t) (s.val + width g) := by
  have k0 := fun t => (read_cnt t).1
  have k1 := fun t => (read_cnt t).2.1
  have k2 := fun t => (read_cnt t).2.2.1
  have k3 := fun t => (read_cnt t).2.2.2
  obtain rfl | rfl | rfl | rfl : g = 0 ∨ g = 1 ∨ g = 2 ∨ g = 3 := by omega
  all_goals pointwise [val_main_v159, val_main_v158, val_main_v145, val_main_v144, val_main_v131, val_main_v130, val_main_v117,
    val_main_v116, val_main_v129, val_main_v143, val_main_v157, val_main_cst_15, val_main_cst_16, val_main_cst_18, val_main_cst_19,
    val_main_cst_21, val_main_cst_22, val_main_cst_24, val_main_cst_25, val_main_v115, val_main_v114, val_main_v113, val_main_v111,
    val_main_v110, val_main_v109, val_main_v128, val_main_v127, val_main_v126, val_main_v124, val_main_v123, val_main_v122,
    val_main_v142, val_main_v141, val_main_v140, val_main_v138, val_main_v137, val_main_v136, val_main_v156, val_main_v155,
    val_main_v154, val_main_v152, val_main_v151, val_main_v150, val_main_v105, val_main_v104, val_main_v103, val_main_v102,
    val_main_v101, val_main_v100, val_main_v99, val_main_v98]
  all_goals simp only [read_dpl, k0, k1, k2, k3]
  · exact congrArg _ (shifted 2 8190 rfl s fun t => -part (argZ x0) (argD x7) (argL x5) (argW x4) 0 c t)
  · exact congrArg _ (shifted 4 8188 rfl s fun t => -part (argZ x0) (argD x7) (argL x5) (argW x4) 1 c t)
  · exact congrArg _ (shifted 8 8184 rfl s fun t => -part (argZ x0) (argD x7) (argL x5) (argW x4) 2 c t)
  · exact congrArg _ (shifted 16 8176 rfl s fun t => -part (argZ x0) (argD x7) (argL x5) (argW x4) 3 c t)

/-- The input's gradient. -/
theorem read_du (s : Fin 8192) (g : Fin 4) (c : Fin 128) :
    (val_main_v169 (F := Ideal) x0 x4 x5 x7 (ix2 s ⟨g.val * 128 + c.val, by omega⟩) : EReal)
      = du (argZ x0) (argD x7) (argL x5) (argW x4) s g c := by
  have hj : g.val * 128 + c.val < 512 := by omega
  have e : (val_main_v169 (F := Ideal) x0 x4 x5 x7 (ix2 s ⟨g.val * 128 + c.val, by omega⟩) : EReal)
      = val_main_v161 (F := Ideal) x0 x4 x5 x7 (ix4 0 s g c) := by
    pointwise [val_main_v169, val_main_v168, val_main_v166, val_main_v165, val_main_v167, val_main_cst_26, val_main_v162]
    rw [dif_pos hj]
  have e1 : (val_main_v149 (F := Ideal) x0 x4 x5 x7 (ix4 0 s g c) : EReal) = -dpl (argZ x0) (argD x7) (argL x5) (argW x4) s g c := by
    obtain rfl | rfl | rfl | rfl : g = 0 ∨ g = 1 ∨ g = 2 ∨ g = 3 := by omega
    all_goals pointwise [val_main_v149, val_main_v148, val_main_v135, val_main_v134, val_main_v121, val_main_v120, val_main_v108,
      val_main_v107, val_main_cst_14, val_main_cst_17, val_main_cst_20, val_main_cst_23, val_main_v147, val_main_v133,
      val_main_v119, val_main_v118, val_main_v106, val_main_v132, val_main_v146, val_main_v105, val_main_v104, val_main_v103,
      val_main_v102, val_main_v101, val_main_v100, val_main_v99, val_main_v98]
    all_goals rw [read_dpl]
  rw [e]
  unfold val_main_v161
  show (val_main_v149 (F := Ideal) x0 x4 x5 x7 (ix4 0 s g c) : EReal) + val_main_v160 (F := Ideal) x0 x4 x5 x7 (ix4 0 s g c) = _
  rw [e1, ahead_read]
  simp only [read_part]
  rfl

/-! ## Where the input is one of real numbers -/

theorem real_sums (hx : ∀ s (j : Fin 512), ∃ r : ℝ, (x0 (ix3 0 s ⟨j.val, by omega⟩) : EReal) = r) (i : S1x8192x4x128.Idx) :
    ∃ r : ℝ, (val_main_v5 (F := Ideal) x0 i : EReal) = r := by
  have z : (val_main_call0_call0_v0 (F := Ideal) (Shape.Idx.first Gen.h_S_) : EReal) = 0 := by
    pointwise [val_main_call0_call0_v0, val_main_call0_call0_cst]
  unfold val_main_v5
  refine PoolSum.host_real_window _ _ _ _ _ _ _ _ z (fun k => ?_) _
  obtain ⟨r, hr⟩ := hx (k 1) (col (k 2) (k 3))
  refine ⟨r, Eq.trans ?_ hr⟩
  idx_vars k
  pointwise [val_main_v4, val_main_v0]
  rfl

theorem real_pooled (hx : ∀ s (j : Fin 512), ∃ r : ℝ, (x0 (ix3 0 s ⟨j.val, by omega⟩) : EReal) = r) (s : Fin 8192) (g : Fin 4)
    (c : Fin 128) : ∃ r : ℝ, pooled x0 s g c = r := by
  have k0 := fun t => (read_cnt t).1
  have k1 := fun t => (read_cnt t).2.1
  have k2 := fun t => (read_cnt t).2.2.1
  have k3 := fun t => (read_cnt t).2.2.2
  have h4 : ∀ g, ∃ r : ℝ, (val_main_v4 (F := Ideal) x0 (ix4 0 s g c) : EReal) = r := fun g => by
    obtain ⟨r, hr⟩ := hx s (col g c)
    refine ⟨r, Eq.trans ?_ hr⟩
    pointwise [val_main_v4, val_main_v0]
    rfl
  have hif : ∀ (p : Prop) [Decidable p] (f : ¬p → EReal), (∀ h, ∃ r : ℝ, f h = r) → ∃ r : ℝ, (if h : p then 0 else f h) = r := fun p _ f hf => by
    by_cases h : p
    · exact ⟨0, by rw [dif_pos h]; rfl⟩
    · rw [dif_neg h]; exact hf h
  unfold pooled
  obtain rfl | rfl | rfl | rfl : g = 0 ∨ g = 1 ∨ g = 2 ∨ g = 3 := by omega
  all_goals pointwise [val_main_v73, val_main_v72, val_main_v71, val_main_v70, val_main_v69,
    val_main_v68, val_main_v67, val_main_v66, val_main_v65, val_main_v64, val_main_v60, val_main_v58, val_main_v57,
    val_main_v56, val_main_cst_9, val_main_v55, val_main_v54, val_main_v53, val_main_v52, val_main_v51, val_main_v50, val_main_v49,
    val_main_v45, val_main_v43, val_main_v42, val_main_v41, val_main_cst_6, val_main_v40, val_main_v39, val_main_v38, val_main_v37,
    val_main_v36, val_main_v35, val_main_v34, val_main_v30, val_main_v28, val_main_v27, val_main_v26, val_main_cst_3, val_main_v25,
    val_main_v24, val_main_v23, val_main_v22, val_main_v21, val_main_v20, val_main_v19, val_main_v15, val_main_v13, val_main_v12,
    val_main_v11, val_main_cst_0, val_main_v10, val_main_v9]
  all_goals simp only [k0, k1, k2, k3]
  all_goals exact real_sub (real_div (cnt_pos _ s).ne' (real_sub (real_sums x0 hx _) (hif _ _ fun h => real_sums x0 hx _))) (h4 _)

end Cert.MixBwdRefIdeal.Read
-- ==== Proof.MixBwdBlocks.lean ====
module

public import proofs.«01_k».proof.Proof.Gen.MixBwdIdeal.Frame.Runs
public import proofs.«01_k».proof.Proof.Norm
public import proofs.«01_k».proof.Proof.MixBwdRef
public import Idealize.ShloMosaic.Lib.Pipeline.ValueKit
public import Idealize.ShloMosaic.Lib.StableHlo.ReadAt

/-! The mixers' backward call: what the windows of its pooling part hold of the arguments at each point. -/

@[expose] public section

set_option maxRecDepth 16384

noncomputable section

open Idealize.ShloMosaic Idealize.ShloMosaic.TcCoe Idealize.SL.Sem
open Idealize.ShloMosaic.Pipeline (Dat)
open scoped BigOperators

namespace Cert.MixBwdIdeal.Value

open Cert.MixBwdIdeal Cert.MixBwdIdeal.Gen

variable (m : (ℓ : Loc nD τ sig) → Buf (Elt Ideal) ℓ)

/-- Which block each window of the pooling part holds at each point. -/
theorem idx : ∀ t : Fin cfg0.N, win0_0.index t = ![15 - t.val, 1] ∧ win0_6.index t = ![15 - t.val, 0] ∧ win0_8.index t = ![15 - t.val, 0]
    ∧ win0_15.index t = ![0, 0, 0] ∧ win0_16.index t = ![0, 0] ∧ win0_18.index t = ![15 - t.val, 0]
    ∧ win0_21.index t = ![0, 0, 0] ∧ win0_22.index t = ![0, 0] :=
  (by decide +kernel : ∀ t : Fin grid0.N, _)

/-- Row `i` of point `t`'s tile, among the rows of the whole sequence: the last tile comes first. -/
def row (t : Fin cfg0.N) (i : Fin 512) : Fin 8192 :=
  ⟨(15 - t.val) * 512 + i.val, by have hi := i.isLt; omega⟩

/-! ## What the host lines before the call leave -/

theorem V108 (c : Dev nD) (s : Fin 8192) (l : Fin 3584) :
    (V m c main_v108 (ix2 s l) : EReal) = (m ((c : Thread nD τ).loc main_arg0) : FVec Ideal S1x8192x3592 .f32) (ix3 0 s ⟨l.val, by omega⟩) := by
  simp only [V, List.flatten_cons, List.flatten_nil, List.append_nil, List.cons_append, List.nil_append]
  entry_read
  pointwise

theorem V109 (c : Dev nD) : V m c main_v109 = shapeCast S8192x1024 (m ((c : Thread nD τ).loc main_arg7)) shapeCasts_S1x8192x1024_S8192x1024 := by
  simp only [V, List.flatten_cons, List.flatten_nil, List.append_nil, List.cons_append, List.nil_append]
  entry_read
  rfl

theorem V113 (c : Dev nD) : V m c main_v113 = shapeCast S4x128x128 (m ((c : Thread nD τ).loc main_arg4)) shapeCasts_S1x4x128x128_S4x128x128 := by
  simp only [V, List.flatten_cons, List.flatten_nil, List.append_nil, List.cons_append, List.nil_append]
  entry_read
  rfl

/-- Two arrays laid one after the other. -/
def cat {α : Type} (t A B : Shape) (d : Fin t.rank) (a : A.Idx → α) (b : B.Idx → α) (h : Shape.Concatenates [A, B] t d) : t.Idx → α :=
  concatenate t d [⟨A, a⟩, ⟨B, b⟩] h

theorem cat_fold {α : Type} (t A B : Shape) (d : Fin t.rank) (a : A.Idx → α) (b : B.Idx → α) (h : Shape.Concatenates [A, B] t d) :
    concatenate t d [⟨A, a⟩, ⟨B, b⟩] h = cat t A B d a b h := rfl

set_option maxRecDepth 200000 in
set_option maxHeartbeats 4000000 in
theorem V102 (c : Dev nD) : V m c main_v102 = MixBwdRefIdeal.Read.val_main_v69 (F := Ideal) (m ((c : Thread nD τ).loc main_arg0)) := by
  simp only [V, List.flatten_cons, List.flatten_nil, List.append_nil, List.cons_append, List.nil_append]
  after_reads_simp [cat_fold]
  simp only [StableHlo.TRef.ofBuf_toBuf]
  rfl

set_option maxRecDepth 200000 in
set_option maxHeartbeats 4000000 in
theorem V103 (c : Dev nD) : V m c main_v103 = MixBwdRefIdeal.Read.val_main_v70 (F := Ideal) (m ((c : Thread nD τ).loc main_arg0)) := by
  simp only [V, List.flatten_cons, List.flatten_nil, List.append_nil, List.cons_append, List.nil_append]
  after_reads_simp [cat_fold]
  simp only [StableHlo.TRef.ofBuf_toBuf]
  rfl

set_option maxRecDepth 200000 in
set_option maxHeartbeats 4000000 in
theorem V104 (c : Dev nD) : V m c main_v104 = MixBwdRefIdeal.Read.val_main_v71 (F := Ideal) (m ((c : Thread nD τ).loc main_arg0)) := by
  simp only [V, List.flatten_cons, List.flatten_nil, List.append_nil, List.cons_append, List.nil_append]
  after_reads_simp [cat_fold]
  simp only [StableHlo.TRef.ofBuf_toBuf]
  rfl

set_option maxRecDepth 200000 in
set_option maxHeartbeats 4000000 in
theorem V105 (c : Dev nD) : V m c main_v105 = MixBwdRefIdeal.Read.val_main_v72 (F := Ideal) (m ((c : Thread nD τ).loc main_arg0)) := by
  simp only [V, List.flatten_cons, List.flatten_nil, List.append_nil, List.cons_append, List.nil_append]
  after_reads_simp [cat_fold]
  simp only [StableHlo.TRef.ofBuf_toBuf]
  rfl

/-- Four arrays laid one after the other. -/
def cat4 {α : Type} (t A : Shape) (d : Fin t.rank) (a b c e : A.Idx → α) (h : Shape.Concatenates [A, A, A, A] t d) : t.Idx → α :=
  concatenate t d [⟨A, a⟩, ⟨A, b⟩, ⟨A, c⟩, ⟨A, e⟩] h

theorem cat4_fold {α : Type} (t A : Shape) (d : Fin t.rank) (a b c e : A.Idx → α) (h : Shape.Concatenates [A, A, A, A] t d) :
    concatenate t d [⟨A, a⟩, ⟨A, b⟩, ⟨A, c⟩, ⟨A, e⟩] h = cat4 t A d a b c e h := rfl

set_option maxRecDepth 200000 in
set_option maxHeartbeats 4000000 in
theorem V112 (c : Dev nD) : V m c main_v112 = (truncf .bf16 (shapeCast S8192x512 (shapeCast S1x8192x512 (MixBwdRefIdeal.Read.val_main_v73 (F := Ideal) (m ((c : Thread nD τ).loc main_arg0))) shapeCasts_S1x8192x4x128_S1x8192x512) shapeCasts_S1x8192x512_S8192x512 : FVec Ideal S8192x512 .f32) bitsLt_bf16_f32 : FVec Ideal S8192x512 .bf16) := by
  simp only [V, List.flatten_cons, List.flatten_nil, List.append_nil, List.cons_append, List.nil_append]
  after_reads_simp [cat_fold, cat4_fold, Matrix.cons_val_zero, Matrix.cons_val_one, Matrix.cons_val]
  simp only [StableHlo.TRef.ofBuf_toBuf]
  rfl

theorem cast112 (x : FVec Ideal S1x8192x4x128 .f32) (s : Fin 8192) (g : Fin 4) (k : Fin 128) :
    ((truncf .bf16 (shapeCast S8192x512 (shapeCast S1x8192x512 x shapeCasts_S1x8192x4x128_S1x8192x512) shapeCasts_S1x8192x512_S8192x512 : FVec Ideal S8192x512 .f32) bitsLt_bf16_f32 : FVec Ideal S8192x512 .bf16) (ix2 s (PoolGrad.col g k)) : EReal)
      = x (ix4 0 s g k) := by
  pointwise
  show x (ix4 0 s (PoolGrad.grp (PoolGrad.col g k)) (PoolGrad.lane (PoolGrad.col g k))) = x (ix4 0 s g k)
  rw [PoolGrad.grp_col, PoolGrad.lane_col]

theorem cast113 (x : FVec Ideal S1x4x128x128 .f32) (g : Fin 4) (k d : Fin 128) :
    (shapeCast S4x128x128 x shapeCasts_S1x4x128x128_S4x128x128 (ix3 g k d) : EReal) = x (ix4 0 g k d) := by
  pointwise

theorem V112_at (c : Dev nD) (s : Fin 8192) (g : Fin 4) (k : Fin 128) :
    (V m c main_v112 (ix2 s (PoolGrad.col g k)) : EReal) = MixBwdRefIdeal.Read.pooled (m ((c : Thread nD τ).loc main_arg0)) s g k := by
  rw [V112 m c]
  exact cast112 _ s g k

/-! ## Blocks -/

theorem blk0 (c : Dev nD) (t : Fin cfg0.N) (i l : Fin 512) :
    (iblk m c 0 t (ix2 i l) : EReal) = (m ((c : Thread nD τ).loc main_arg0) : FVec Ideal S1x8192x3592 .f32) (ix3 0 (row t i) ⟨512 + l.val, by omega⟩) := by
  refine Eq.trans ?_ (V108 m c (row t i) ⟨512 + l.val, by omega⟩)
  blk_simp [iblk, idx t]
  refine congrArg (V m c main_v108) ?_
  blk_ext [idx t, row]

theorem blk6 (c : Dev nD) (t : Fin cfg0.N) (i : Fin 512) (l : Fin 1024) :
    (iblk m c 6 t (ix2 i l) : EReal) = (m ((c : Thread nD τ).loc main_arg7) : FVec Ideal S1x8192x1024 .f32) (ix3 0 (row t i) l) := by
  refine Eq.trans ?_ ((congrFun (V109 m c) (ix2 (row t i) l)).trans (Norm.drop_unit _ _ (row t i) l))
  blk_simp [iblk, idx t]
  refine congrArg (V m c main_v109) ?_
  blk_ext [idx t, row]

theorem rd8 (A : S8192x512.Idx → Elt Ideal .bf16) (t : Fin cfg0.N) (i l : Fin 512) :
    (win0_8.blk t).view.read (Elt Ideal) A (ix2 i l) = A (ix2 (row t i) l) := by
  blk_simp [idx t]
  refine congrArg A ?_
  blk_ext [idx t, row]

theorem blk8 (c : Dev nD) (t : Fin cfg0.N) (i : Fin 512) (g : Fin 4) (k : Fin 128) :
    (iblk m c 8 t (ix2 i (PoolGrad.col g k)) : EReal) = MixBwdRefIdeal.Read.pooled (m ((c : Thread nD τ).loc main_arg0)) (row t i) g k :=
  (rd8 (V m c main_v112) t i _).trans (V112_at m c (row t i) g k)
theorem blk15 (c : Dev nD) (t : Fin cfg0.N) (g : Fin 4) (k d : Fin 128) :
    (iblk m c 15 t (ix3 g k d) : EReal) = (m ((c : Thread nD τ).loc main_arg4) : FVec Ideal S1x4x128x128 .f32) (ix4 0 g k d) := by
  refine Eq.trans ?_ ((congrFun (V113 m c) (ix3 g k d)).trans (cast113 _ g k d))
  blk_simp [iblk, idx t]
  refine congrArg (V m c main_v113) ?_
  blk_ext [idx t]

theorem blk16 (c : Dev nD) (t : Fin cfg0.N) (u : Fin 1) (l : Fin 512) :
    (iblk m c 16 t (ix2 u l) : EReal) = (m ((c : Thread nD τ).loc main_arg5) : FVec Ideal S1x512 .f32) (ix2 0 l) := by
  blk_simp [iblk, idx t]
  refine congrArg (m ((c : Thread nD τ).loc main_arg5)) ?_
  blk_ext [idx t]

end Cert.MixBwdIdeal.Value
-- ==== Proof.MixBwdKernel.lean ====
module

public import proofs.«01_k».proof.Proof.MixBwdFrame
public import proofs.«01_k».proof.Proof.MixBwdPay
public import proofs.«01_k».proof.Proof.MixBwdBlocks
public import Idealize.ShloMosaic.Lib.Pipeline.ValueKit
public import Idealize.ShloMosaic.Lib.WritesUnit

/-! The mixers' backward call: what its pooling part leaves at each point, as sums over rows and columns. -/

@[expose] public section

set_option maxRecDepth 16384

noncomputable section

open Idealize.ShloMosaic Idealize.ShloMosaic.TcCoe Idealize.SL.Sem
open scoped BigOperators

namespace Cert.MixBwdIdeal.Value

open Cert.MixBwdIdeal Cert.MixBwdIdeal.Gen Cert.MixBwdIdeal.Whole
open PoolGrad (col width cnt)
open MixBwdRefIdeal.Read (argZ argD argL argW pooled)

/-! ## Reading a list of pieces -/

section pieces

variable {sp : Space} {e : EltTy} {M N K a b d n0 n1 n2 : ℕ}

theorem hit (v : View sig .tc sp (⟨2, ![M, N]⟩ : Shape) e) (f) (inb) (w : (⟨2, ![n0, n1]⟩ : Shape).Idx → Elt Ideal e)
    (L : List (View.Piece (Elt Ideal) (⟨2, ![M, N]⟩ : Shape) e)) (i : Fin M) (j : Fin N) (i' : Fin n0) (j' : Fin n1)
    (h0 : i.val = a + i'.val) (h1 : j.val = b + j'.val) :
    v.read (Elt Ideal) (v.writes (Elt Ideal) f
      ((⟨Rect.unit (s := (⟨2, ![M, N]⟩ : Shape)) ![a, b] ![n0, n1] inb, w⟩ : View.Piece (Elt Ideal) (⟨2, ![M, N]⟩ : Shape) e) :: L)) (ix2 i j)
      = w (ix2 i' j') :=
  View.read_writes_cons_unit_of_mem v f inb w L (ix2 i j) (ix2 i' j' : (⟨2, ![n0, n1]⟩ : Shape).Idx) rfl fun x => by
    match x with
    | 0 => exact h0
    | 1 => exact h1

theorem miss (v : View sig .tc sp (⟨2, ![M, N]⟩ : Shape) e) (f) (inb) (w : (⟨2, ![n0, n1]⟩ : Shape).Idx → Elt Ideal e)
    (L : List (View.Piece (Elt Ideal) (⟨2, ![M, N]⟩ : Shape) e)) (i : Fin M) (j : Fin N)
    (h : (i.val < a ∨ a + n0 ≤ i.val) ∨ j.val < b ∨ b + n1 ≤ j.val) :
    v.read (Elt Ideal) (v.writes (Elt Ideal) f
      ((⟨Rect.unit (s := (⟨2, ![M, N]⟩ : Shape)) ![a, b] ![n0, n1] inb, w⟩ : View.Piece (Elt Ideal) (⟨2, ![M, N]⟩ : Shape) e) :: L)) (ix2 i j)
      = v.read (Elt Ideal) (v.writes (Elt Ideal) f L) (ix2 i j) := by
  rcases h with h | h
  · exact View.read_writes_cons_unit_of_not_mem v f inb w L (ix2 i j) rfl 0 h
  · exact View.read_writes_cons_unit_of_not_mem v f inb w L (ix2 i j) rfl 1 h

theorem hit3 (v : View sig .tc sp (⟨3, ![M, N, K]⟩ : Shape) e) (f) (inb) (w : (⟨3, ![n0, n1, n2]⟩ : Shape).Idx → Elt Ideal e)
    (L : List (View.Piece (Elt Ideal) (⟨3, ![M, N, K]⟩ : Shape) e)) (i : Fin M) (j : Fin N) (k : Fin K) (i' : Fin n0) (j' : Fin n1) (k' : Fin n2)
    (h0 : i.val = a + i'.val) (h1 : j.val = b + j'.val) (h2 : k.val = d + k'.val) :
    v.read (Elt Ideal) (v.writes (Elt Ideal) f
      ((⟨Rect.unit (s := (⟨3, ![M, N, K]⟩ : Shape)) ![a, b, d] ![n0, n1, n2] inb, w⟩ : View.Piece (Elt Ideal) (⟨3, ![M, N, K]⟩ : Shape) e) :: L))
      (ix3 i j k) = w (ix3 i' j' k') :=
  View.read_writes_cons_unit_of_mem v f inb w L (ix3 i j k) (ix3 i' j' k' : (⟨3, ![n0, n1, n2]⟩ : Shape).Idx) rfl fun x => by
    match x with
    | 0 => exact h0
    | 1 => exact h1
    | 2 => exact h2

theorem miss3 (v : View sig .tc sp (⟨3, ![M, N, K]⟩ : Shape) e) (f) (inb) (w : (⟨3, ![n0, n1, n2]⟩ : Shape).Idx → Elt Ideal e)
    (L : List (View.Piece (Elt Ideal) (⟨3, ![M, N, K]⟩ : Shape) e)) (i : Fin M) (j : Fin N) (k : Fin K) (h : i.val < a ∨ a + n0 ≤ i.val) :
    v.read (Elt Ideal) (v.writes (Elt Ideal) f
      ((⟨Rect.unit (s := (⟨3, ![M, N, K]⟩ : Shape)) ![a, b, d] ![n0, n1, n2] inb, w⟩ : View.Piece (Elt Ideal) (⟨3, ![M, N, K]⟩ : Shape) e) :: L))
      (ix3 i j k) = v.read (Elt Ideal) (v.writes (Elt Ideal) f L) (ix3 i j k) :=
  View.read_writes_cons_unit_of_not_mem v f inb w L (ix3 i j k) rfl 0 h

/-- A load at a place of its rectangle. -/
theorem ld2 (X : (⟨2, ![M, N]⟩ : Shape).Idx → Elt Ideal e) (inb) (i' : Fin n0) (j' : Fin n1) (i : Fin M) (j : Fin N)
    (h0 : i.val = a + i'.val) (h1 : j.val = b + j'.val) :
    View.ld X (Rect.unit (s := (⟨2, ![M, N]⟩ : Shape)) ![a, b] ![n0, n1] inb) (ix2 i' j' : (⟨2, ![n0, n1]⟩ : Shape).Idx) = X (ix2 i j) :=
  View.ld_unit_apply_of X ![a, b] ![n0, n1] inb (ix2 i' j' : (⟨2, ![n0, n1]⟩ : Shape).Idx) (ix2 i j) fun x => by
    match x with
    | 0 => exact h0
    | 1 => exact h1

theorem ld3 (X : (⟨3, ![M, N, K]⟩ : Shape).Idx → Elt Ideal e) (inb) (i' : Fin n0) (j' : Fin n1) (k' : Fin n2) (i : Fin M) (j : Fin N) (k : Fin K)
    (h0 : i.val = a + i'.val) (h1 : j.val = b + j'.val) (h2 : k.val = d + k'.val) :
    View.ld X (Rect.unit (s := (⟨3, ![M, N, K]⟩ : Shape)) ![a, b, d] ![n0, n1, n2] inb) (ix3 i' j' k' : (⟨3, ![n0, n1, n2]⟩ : Shape).Idx)
      = X (ix3 i j k) :=
  View.ld_unit_apply_of X ![a, b, d] ![n0, n1, n2] inb (ix3 i' j' k' : (⟨3, ![n0, n1, n2]⟩ : Shape).Idx) (ix3 i j k) fun x => by
    match x with
    | 0 => exact h0
    | 1 => exact h1
    | 2 => exact h2

end pieces

variable (m : (ℓ : Loc nD τ sig) → Buf (Elt Ideal) ℓ)

/-- The gate's pre-activation. -/
abbrev aZ (c : Dev nD) := argZ (m ((c : Thread nD τ).loc main_arg0))
/-- The cotangent of the mixer's output. -/
abbrev aD (c : Dev nD) := argD (m ((c : Thread nD τ).loc main_arg7))
/-- The layer scale. -/
abbrev aL (c : Dev nD) := argL (m ((c : Thread nD τ).loc main_arg5))
/-- The groups' weights. -/
abbrev aW (c : Dev nD) := argW (m ((c : Thread nD τ).loc main_arg4))
/-- The pooled input. -/
abbrev aP (c : Dev nD) := pooled (m ((c : Thread nD τ).loc main_arg0))

/-! ## What a point's loads hold -/

section loads

variable (c : Dev nD) (t : Fin cfg0.N) (g : Fin 4)

theorem ldP {off : Fin 2 → ℕ} (inb) (h : off = ![0, g.val * 128]) (i : Fin 512) (k : Fin 128) :
    (View.ld (iblk m c 8 t) (Rect.unit (s := S512x512) off S512x128.size inb) (ix2 i k) : EReal) = aP m c (row t i) g k := by
  subst h
  refine Eq.trans ?_ (blk8 m c t i g k)
  exact View.ld_unit_apply_of _ _ _ _ _ _ fun d => by
    match d with
    | 0 => exact (Nat.zero_add _).symm
    | 1 => rfl

theorem ldZ {off : Fin 2 → ℕ} (inb) (h : off = ![0, g.val * 128]) (i : Fin 512) (k : Fin 128) :
    (View.ld (iblk m c 0 t) (Rect.unit (s := S512x512) off S512x128.size inb) (ix2 i k) : EReal) = aZ m c (row t i) (col g k) := by
  subst h
  refine Eq.trans ?_ (blk0 m c t i (col g k))
  exact View.ld_unit_apply_of _ _ _ _ _ _ fun d => by
    match d with
    | 0 => exact (Nat.zero_add _).symm
    | 1 => rfl

theorem ldD {off : Fin 2 → ℕ} (inb) (h : off = ![0, g.val * 128]) (i : Fin 512) (k : Fin 128) :
    (View.ld (iblk m c 6 t) (Rect.unit (s := S512x1024) off S512x128.size inb) (ix2 i k) : EReal) = aD m c (row t i) (col g k) := by
  subst h
  refine Eq.trans ?_ (blk6 m c t i ⟨(col g k).val, by have := (col g k).isLt; omega⟩)
  exact View.ld_unit_apply_of _ _ _ _ _ _ fun d => by
    match d with
    | 0 => exact (Nat.zero_add _).symm
    | 1 => rfl

theorem ldL {off : Fin 2 → ℕ} (inb) (h : off = ![0, g.val * 128]) (k : Fin 128) :
    (View.ld (iblk m c 16 t) (Rect.unit (s := S1x512) off S1x128.size inb) (ix2 0 k) : EReal) = aL m c (col g k) := by
  subst h
  refine Eq.trans ?_ (blk16 m c t 0 (col g k))
  exact View.ld_unit_apply_of _ _ _ _ _ _ fun d => by
    match d with
    | 0 => rfl
    | 1 => rfl

theorem ldW {off : Fin 3 → ℕ} (inb) (h : off = ![g.val, 0, 0]) (i k : Fin 128) :
    (View.ld (iblk m c 15 t) (Rect.unit (s := S4x128x128) off S1x128x128.size inb) (ix3 0 i k) : EReal) = aW m c g i k := by
  subst h
  refine Eq.trans ?_ (blk15 m c t g i k)
  exact View.ld_unit_apply_of _ _ _ _ _ _ fun d => by
    match d with
    | 0 => rfl
    | 1 => exact (Nat.zero_add _).symm
    | 2 => exact (Nat.zero_add _).symm

variable {p : Vec Ideal S512x128 .bf16} {w : Vec Ideal S1x128x128 .f32} {l : Vec Ideal S1x128 .f32} {z d : Vec Ideal S512x128 .f32}
  (hp : ∀ i k, (p (ix2 i k) : EReal) = aP m c (row t i) g k) (hw : ∀ i k, (w (ix3 0 i k) : EReal) = aW m c g i k)
  (hl : ∀ k, (l (ix2 0 k) : EReal) = aL m c (col g k)) (hz : ∀ i k, (z (ix2 i k) : EReal) = aZ m c (row t i) (col g k))
  (hd : ∀ i k, (d (ix2 i k) : EReal) = aD m c (row t i) (col g k)) (i : Fin 512) (k j : Fin 128)

include hp hw in
theorem yw_at : Pay.yw p w i k = PoolGrad.kyw (aW m c) (aP m c) (row t i) g k := by
  unfold Pay.yw PoolGrad.kyw
  exact Finset.sum_congr rfl fun x _ => by rw [hp, hw]

include hz hd in
theorem dy_at : Pay.dy z d i k = PoolGrad.dy (aZ m c) (aD m c) (row t i) (col g k) := by
  unfold Pay.dy PoolGrad.dy
  rw [hz, hd]

include hl hz hd in
theorem dyw_at : Pay.dyw l z d i k = PoolGrad.dyw (aZ m c) (aD m c) (aL m c) (row t i) (col g k) := by
  unfold Pay.dyw PoolGrad.dyw
  rw [hl, dy_at m c t g hz hd]

include hp hw hl hz hd in
theorem dz_at : Pay.dz p w l z d i k = PoolGrad.kdz (aZ m c) (aD m c) (aL m c) (aW m c) (aP m c) (row t i) g k := by
  unfold Pay.dz PoolGrad.kdz
  rw [yw_at m c t g hp hw, hl, hz, hd]

include hw hl hz hd in
theorem dpl_at : Pay.dpl w l z d i k = PoolGrad.dpl (aZ m c) (aD m c) (aL m c) (aW m c) (row t i) g k := by
  unfold Pay.dpl PoolGrad.dpl
  exact Finset.sum_congr rfl fun x _ => by rw [dyw_at m c t g hl hz hd, hw]

include hp hw hz hd in
theorem dls_at : ∑ i, Pay.dy z d i k * Pay.yw p w i k = ∑ i, PoolGrad.kdls (aZ m c) (aD m c) (aW m c) (aP m c) (row t i) g k := by
  unfold PoolGrad.kdls
  exact Finset.sum_congr rfl fun x _ => by rw [dy_at m c t g hz hd, yw_at m c t g hp hw]

include hp hl hz hd in
theorem dwp_at : ∑ i, (p (ix2 i j) : EReal) * Pay.dyw l z d i k = ∑ i, PoolGrad.kdwp (aZ m c) (aD m c) (aL m c) (aP m c) (row t i) g j k := by
  unfold PoolGrad.kdwp
  exact Finset.sum_congr rfl fun x _ => by rw [dyw_at m c t g hl hz hd, hp]

end loads

/-! ## The rows a window holds -/

theorem coord : ∀ t : Fin cfg0.N, (grid0.coords t 0).val = t.val :=
  (by decide +kernel : ∀ t : Fin grid0.N, (grid0.coords t 0).val = t.val)

/-- A real number's reciprocal from the word that counts it. -/
theorem recip {n : ℤ} {a : ℕ} (h : n = (a : ℕ)) (r : ℝ) (hr : r = a) : Ideal.div 1 (((n : ℤ) : ℝ) : EReal) = Ideal.div 1 (r : EReal) := by
  rw [h, hr]
  norm_num

theorem cnt_eq (g : Fin 4) (t : Fin cfg0.N) (i : Fin 512) : cnt g (row t i) = ((min ((15 - t.val) * 512 + i.val + 1) (width g) : ℕ) : ℝ) := by
  unfold cnt row
  push_cast
  rfl

theorem cnt_0 (t : Fin cfg0.N) (i : Fin 512) : (k0_pay12 (F := Ideal) (grid0.coords t) (ix2 i 0) : EReal) = Ideal.div 1 ((cnt 0 (row t i) : ℝ) : EReal) := by
  open_payloads
  pointwise
  rw [coord]
  exact recip (Pay.word t.val i.val 2 (t.isLt.trans_eq N_0) i.isLt (by norm_num)) _ (cnt_eq 0 t i)

theorem cnt_1 (t : Fin cfg0.N) (i : Fin 512) : (k0_pay28 (k0_pay27 (F := Ideal) (Scalar.subi 15#32 (BitVec.ofNat 32 (grid0.coords t 0).val))) (ix2 i 0) : EReal) = Ideal.div 1 ((cnt 1 (row t i) : ℝ) : EReal) := by
  open_payloads
  pointwise
  rw [coord]
  exact recip (Pay.word t.val i.val 4 (t.isLt.trans_eq N_0) i.isLt (by norm_num)) _ (cnt_eq 1 t i)

theorem cnt_2 (t : Fin cfg0.N) (i : Fin 512) : (k0_pay43 (F := Ideal) (Scalar.subi 15#32 (BitVec.ofNat 32 (grid0.coords t 0).val)) (ix2 i 0) : EReal) = Ideal.div 1 ((cnt 2 (row t i) : ℝ) : EReal) := by
  open_payloads
  pointwise
  rw [coord]
  exact recip (Pay.word t.val i.val 8 (t.isLt.trans_eq N_0) i.isLt (by norm_num)) _ (cnt_eq 2 t i)

theorem cnt_3 (t : Fin cfg0.N) (i : Fin 512) : (k0_pay58 (F := Ideal) (Scalar.subi 15#32 (BitVec.ofNat 32 (grid0.coords t 0).val)) (ix2 i 0) : EReal) = Ideal.div 1 ((cnt 3 (row t i) : ℝ) : EReal) := by
  open_payloads
  pointwise
  rw [coord]
  exact recip (Pay.word t.val i.val 16 (t.isLt.trans_eq N_0) i.isLt (by norm_num)) _ (cnt_eq 3 t i)

/-- What a row takes, from the reciprocal of its window's rows. -/
theorem part_at (c : Dev nD) (t : Fin cfg0.N) (g : Fin 4) (i : Fin 512) (k : Fin 128) {x y : EReal}
    (hx : x = PoolGrad.dpl (aZ m c) (aD m c) (aL m c) (aW m c) (row t i) g k) (hy : y = Ideal.div 1 ((cnt g (row t i) : ℝ) : EReal)) :
    x * y = PoolGrad.part (aZ m c) (aD m c) (aL m c) (aW m c) g k (row t i) := by
  have h : cnt g (row t i) ≠ 0 := (PoolGrad.cnt_pos g (row t i)).ne'
  unfold PoolGrad.part
  rw [hx, hy, Ideal.div_coe h, Ideal.div_coe h, one_mul]

theorem groups (g : Fin 4) : (g = 0 ∧ g.val = 0) ∨ (g = 1 ∧ g.val = 1) ∨ (g = 2 ∧ g.val = 2) ∨ (g = 3 ∧ g.val = 3) := by omega

/-! ## The gate's gradient -/

set_option maxHeartbeats 2000000 in
theorem dz_A (c : Dev nD) (t : Fin cfg0.N) (h : t.val % 16 = 0) (g : Fin 4) (i : Fin 512) (k : Fin 128) (q : Fin 3840)
    (hq : q.val = 512 + (g.val * 128 + k.val)) :
    ((outA m c t h).o18 (ix2 i q) : EReal) = PoolGrad.kdz (aZ m c) (aD m c) (aL m c) (aW m c) (aP m c) (row t i) g k := by
  unfold outA runA
  dsimp only
  frame_open
  obtain ⟨rfl, hg⟩ | ⟨rfl, hg⟩ | ⟨rfl, hg⟩ | ⟨rfl, hg⟩ := groups g
  all_goals
    repeat refine (miss _ _ _ _ _ _ _ (Or.inr (by omega))).trans ?_
    refine (hit _ _ _ _ _ _ _ i k (Nat.zero_add _).symm (by omega)).trans ?_
    simp only [View.readAt_eq_ld, Memref.IsWhole.read_unread]
    first
      | refine (Pay.dz_0 _ _ _ _ _ i k).trans (dz_at m c t _ ?_ ?_ ?_ ?_ ?_ i k)
      | refine (Pay.dz_1 _ _ _ _ _ i k).trans (dz_at m c t _ ?_ ?_ ?_ ?_ ?_ i k)
      | refine (Pay.dz_2 _ _ _ _ _ i k).trans (dz_at m c t _ ?_ ?_ ?_ ?_ ?_ i k)
      | refine (Pay.dz_3 _ _ _ _ _ i k).trans (dz_at m c t _ ?_ ?_ ?_ ?_ ?_ i k)
    · exact ldP m c t _ _ rfl
    · exact ldW m c t _ _ rfl
    · exact ldL m c t _ _ rfl
    · exact ldZ m c t _ _ rfl
    · exact ldD m c t _ _ rfl

set_option maxHeartbeats 2000000 in
theorem dz_B (c : Dev nD) (t : Fin cfg0.N) (h : ¬t.val % 16 = 0) (p) (g : Fin 4) (i : Fin 512) (k : Fin 128) (q : Fin 3840)
    (hq : q.val = 512 + (g.val * 128 + k.val)) :
    ((outB m c t h p).o18 (ix2 i q) : EReal) = PoolGrad.kdz (aZ m c) (aD m c) (aL m c) (aW m c) (aP m c) (row t i) g k := by
  unfold outB runB
  dsimp only
  frame_open
  obtain ⟨rfl, hg⟩ | ⟨rfl, hg⟩ | ⟨rfl, hg⟩ | ⟨rfl, hg⟩ := groups g
  all_goals
    repeat refine (miss _ _ _ _ _ _ _ (Or.inr (by omega))).trans ?_
    refine (hit _ _ _ _ _ _ _ i k (Nat.zero_add _).symm (by omega)).trans ?_
    simp only [View.readAt_eq_ld, Memref.IsWhole.read_unread]
    first
      | refine (Pay.dz_0 _ _ _ _ _ i k).trans (dz_at m c t _ ?_ ?_ ?_ ?_ ?_ i k)
      | refine (Pay.dz_1 _ _ _ _ _ i k).trans (dz_at m c t _ ?_ ?_ ?_ ?_ ?_ i k)
      | refine (Pay.dz_2 _ _ _ _ _ i k).trans (dz_at m c t _ ?_ ?_ ?_ ?_ ?_ i k)
      | refine (Pay.dz_3 _ _ _ _ _ i k).trans (dz_at m c t _ ?_ ?_ ?_ ?_ ?_ i k)
    · exact ldP m c t _ _ rfl
    · exact ldW m c t _ _ rfl
    · exact ldL m c t _ _ rfl
    · exact ldZ m c t _ _ rfl
    · exact ldD m c t _ _ rfl

/-! ## The layer scale's gradient -/

set_option maxHeartbeats 2000000 in
theorem dls_A (c : Dev nD) (t : Fin cfg0.N) (h : t.val % 16 = 0) (g : Fin 4) (k : Fin 128) (q : Fin 512) (hq : q.val = g.val * 128 + k.val) :
    ((outA m c t h).o22 (ix2 0 q) : EReal) = 0 + ∑ i, PoolGrad.kdls (aZ m c) (aD m c) (aW m c) (aP m c) (row t i) g k := by
  unfold outA runA
  dsimp only
  frame_open
  obtain ⟨rfl, hg⟩ | ⟨rfl, hg⟩ | ⟨rfl, hg⟩ | ⟨rfl, hg⟩ := groups g
  all_goals
    repeat refine (miss _ _ _ _ _ _ _ (Or.inr (by omega))).trans ?_
    refine (hit _ _ _ _ _ _ _ 0 k rfl (by omega)).trans ?_
    simp only [View.readCov, View.readAt_eq_ld, Memref.IsWhole.read_unread]
    first
      | refine (Pay.dls_0 _ _ _ _ _ k).trans (congrArg₂ _ ?_ (dls_at m c t _ ?_ ?_ ?_ ?_ k))
      | refine (Pay.dls_1 _ _ _ _ _ k).trans (congrArg₂ _ ?_ (dls_at m c t _ ?_ ?_ ?_ ?_ k))
      | refine (Pay.dls_2 _ _ _ _ _ k).trans (congrArg₂ _ ?_ (dls_at m c t _ ?_ ?_ ?_ ?_ k))
      | refine (Pay.dls_3 _ _ _ _ _ k).trans (congrArg₂ _ ?_ (dls_at m c t _ ?_ ?_ ?_ ?_ k))
    · refine (ld2 _ _ 0 k 0 q rfl (by omega)).trans ?_
      repeat refine (miss _ _ _ _ _ _ _ (Or.inr (by omega))).trans ?_
      refine (hit _ _ _ _ _ _ _ 0 q rfl (Nat.zero_add _).symm).trans ?_
      open_payloads
      pointwise
    · exact ldP m c t _ _ rfl
    · exact ldW m c t _ _ rfl
    · exact ldZ m c t _ _ rfl
    · exact ldD m c t _ _ rfl

set_option maxHeartbeats 2000000 in
theorem dls_B (c : Dev nD) (t : Fin cfg0.N) (h : ¬t.val % 16 = 0) (p) (g : Fin 4) (k : Fin 128) (q : Fin 512) (hq : q.val = g.val * 128 + k.val) :
    ((outB m c t h p).o22 (ix2 0 q) : EReal)
      = (p.o22 (ix2 0 q) : EReal) + ∑ i, PoolGrad.kdls (aZ m c) (aD m c) (aW m c) (aP m c) (row t i) g k := by
  unfold outB runB
  dsimp only
  frame_open
  obtain ⟨rfl, hg⟩ | ⟨rfl, hg⟩ | ⟨rfl, hg⟩ | ⟨rfl, hg⟩ := groups g
  all_goals
    repeat refine (miss _ _ _ _ _ _ _ (Or.inr (by omega))).trans ?_
    refine (hit _ _ _ _ _ _ _ 0 k rfl (by omega)).trans ?_
    simp only [View.readAt_eq_ld, Memref.IsWhole.read_unread]
    first
      | refine (Pay.dls_0 _ _ _ _ _ k).trans (congrArg₂ _ ?_ (dls_at m c t _ ?_ ?_ ?_ ?_ k))
      | refine (Pay.dls_1 _ _ _ _ _ k).trans (congrArg₂ _ ?_ (dls_at m c t _ ?_ ?_ ?_ ?_ k))
      | refine (Pay.dls_2 _ _ _ _ _ k).trans (congrArg₂ _ ?_ (dls_at m c t _ ?_ ?_ ?_ ?_ k))
      | refine (Pay.dls_3 _ _ _ _ _ k).trans (congrArg₂ _ ?_ (dls_at m c t _ ?_ ?_ ?_ ?_ k))
    · exact ld2 _ _ 0 k 0 q rfl (by omega)
    · exact ldP m c t _ _ rfl
    · exact ldW m c t _ _ rfl
    · exact ldZ m c t _ _ rfl
    · exact ldD m c t _ _ rfl

/-! ## The weights' gradient -/

set_option maxHeartbeats 2000000 in
theorem dwp_A (c : Dev nD) (t : Fin cfg0.N) (h : t.val % 16 = 0) (g : Fin 4) (j k : Fin 128) :
    ((outA m c t h).o21 (ix3 g j k) : EReal) = 0 + ∑ i, PoolGrad.kdwp (aZ m c) (aD m c) (aL m c) (aP m c) (row t i) g j k := by
  unfold outA runA
  dsimp only
  frame_open
  obtain ⟨rfl, hg⟩ | ⟨rfl, hg⟩ | ⟨rfl, hg⟩ | ⟨rfl, hg⟩ := groups g
  all_goals
    repeat refine (miss3 _ _ _ _ _ _ _ _ (by decide)).trans ?_
    refine (hit3 _ _ _ _ _ _ _ _ 0 j k (by rfl) (Nat.zero_add _).symm (Nat.zero_add _).symm).trans ?_
    simp only [View.readCov, View.readAt_eq_ld, Memref.IsWhole.read_unread]
    first
      | refine (Pay.dwp_0 _ _ _ _ _ k j).trans (congrArg₂ _ ?_ (dwp_at m c t _ ?_ ?_ ?_ ?_ k j))
      | refine (Pay.dwp_1 _ _ _ _ _ k j).trans (congrArg₂ _ ?_ (dwp_at m c t _ ?_ ?_ ?_ ?_ k j))
      | refine (Pay.dwp_2 _ _ _ _ _ k j).trans (congrArg₂ _ ?_ (dwp_at m c t _ ?_ ?_ ?_ ?_ k j))
      | refine (Pay.dwp_3 _ _ _ _ _ k j).trans (congrArg₂ _ ?_ (dwp_at m c t _ ?_ ?_ ?_ ?_ k j))
    · first
        | refine (ld3 _ _ 0 j k (0 : Fin 4) j k (by rfl) (Nat.zero_add _).symm (Nat.zero_add _).symm).trans ?_
        | refine (ld3 _ _ 0 j k (1 : Fin 4) j k (by rfl) (Nat.zero_add _).symm (Nat.zero_add _).symm).trans ?_
        | refine (ld3 _ _ 0 j k (2 : Fin 4) j k (by rfl) (Nat.zero_add _).symm (Nat.zero_add _).symm).trans ?_
        | refine (ld3 _ _ 0 j k (3 : Fin 4) j k (by rfl) (Nat.zero_add _).symm (Nat.zero_add _).symm).trans ?_
      repeat refine (miss3 _ _ _ _ _ _ _ _ (by decide)).trans ?_
      refine (hit3 _ _ _ _ _ _ _ _ _ j k (Nat.zero_add _).symm (Nat.zero_add _).symm (Nat.zero_add _).symm).trans ?_
      open_payloads
      pointwise
    · exact ldP m c t _ _ rfl
    · exact ldL m c t _ _ rfl
    · exact ldZ m c t _ _ rfl
    · exact ldD m c t _ _ rfl

set_option maxHeartbeats 2000000 in
theorem dwp_B (c : Dev nD) (t : Fin cfg0.N) (h : ¬t.val % 16 = 0) (p) (g : Fin 4) (j k : Fin 128) :
    ((outB m c t h p).o21 (ix3 g j k) : EReal)
      = (p.o21 (ix3 g j k) : EReal) + ∑ i, PoolGrad.kdwp (aZ m c) (aD m c) (aL m c) (aP m c) (row t i) g j k := by
  unfold outB runB
  dsimp only
  frame_open
  obtain ⟨rfl, hg⟩ | ⟨rfl, hg⟩ | ⟨rfl, hg⟩ | ⟨rfl, hg⟩ := groups g
  all_goals
    repeat refine (miss3 _ _ _ _ _ _ _ _ (by decide)).trans ?_
    refine (hit3 _ _ _ _ _ _ _ _ 0 j k (by rfl) (Nat.zero_add _).symm (Nat.zero_add _).symm).trans ?_
    simp only [View.readAt_eq_ld, Memref.IsWhole.read_unread]
    first
      | refine (Pay.dwp_0 _ _ _ _ _ k j).trans (congrArg₂ _ ?_ (dwp_at m c t _ ?_ ?_ ?_ ?_ k j))
      | refine (Pay.dwp_1 _ _ _ _ _ k j).trans (congrArg₂ _ ?_ (dwp_at m c t _ ?_ ?_ ?_ ?_ k j))
      | refine (Pay.dwp_2 _ _ _ _ _ k j).trans (congrArg₂ _ ?_ (dwp_at m c t _ ?_ ?_ ?_ ?_ k j))
      | refine (Pay.dwp_3 _ _ _ _ _ k j).trans (congrArg₂ _ ?_ (dwp_at m c t _ ?_ ?_ ?_ ?_ k j))
    · exact ld3 _ _ 0 j k _ j k (by rfl) (Nat.zero_add _).symm (Nat.zero_add _).symm
    · exact ldP m c t _ _ rfl
    · exact ldL m c t _ _ rfl
    · exact ldZ m c t _ _ rfl
    · exact ldD m c t _ _ rfl

/-! ## What the rows of a point hold -/

/-- The rows a point stores, on what was there. -/
def stored (c : Dev nD) (t : Fin cfg0.N) (L : List (View.Piece (Elt Ideal) S528x512 .f32)) : List (View.Piece (Elt Ideal) S528x512 .f32) :=
  (⟨Rect.unit ![0, 384] S512x128.size inb_S528x512_S512x128_0_384,
    k0_pay71 (k0_pay58 (Scalar.subi 15#32 (BitVec.ofNat 32 (grid0.coords t 0).val))) (k0_pay60 (View.ld (iblk m c 15 t) (Rect.unit ![3, 0, 0] S1x128x128.size inb_S4x128x128_S1x128x128_3_0_0)))
      (View.ld (iblk m c 16 t) (Rect.unit ![0, 384] S1x128.size inb_S1x512_S1x128_0_384))
      (k0_pay62 (View.ld (iblk m c 0 t) (Rect.unit ![0, 384] S512x128.size inb_S512x512_S512x128_0_384)))
      (k0_pay63 (View.ld (iblk m c 0 t) (Rect.unit ![0, 384] S512x128.size inb_S512x512_S512x128_0_384)))
      (k0_pay64 (View.ld (iblk m c 6 t) (Rect.unit ![0, 384] S512x128.size inb_S512x1024_S512x128_0_384)))⟩ : View.Piece (Elt Ideal) S528x512 .f32) ::
  (⟨Rect.unit ![0, 256] S512x128.size inb_S528x512_S512x128_0_256,
    k0_pay57 (k0_pay56 (k0_pay43 (Scalar.subi 15#32 (BitVec.ofNat 32 (grid0.coords t 0).val))) (k0_pay45 (View.ld (iblk m c 15 t) (Rect.unit ![2, 0, 0] S1x128x128.size inb_S4x128x128_S1x128x128_2_0_0)))
      (View.ld (iblk m c 16 t) (Rect.unit ![0, 256] S1x128.size inb_S1x512_S1x128_0_256))
      (View.ld (iblk m c 0 t) (Rect.unit ![0, 256] S512x128.size inb_S512x512_S512x128_0_256))
      (View.ld (iblk m c 6 t) (Rect.unit ![0, 256] S512x128.size inb_S512x1024_S512x128_0_256)))⟩ : View.Piece (Elt Ideal) S528x512 .f32) ::
  (⟨Rect.unit ![0, 128] S512x128.size inb_S528x512_S512x128_0_128,
    k0_pay42 (k0_pay28 (k0_pay27 (Scalar.subi 15#32 (BitVec.ofNat 32 (grid0.coords t 0).val)))) (k0_pay30 (View.ld (iblk m c 15 t) (Rect.unit ![1, 0, 0] S1x128x128.size inb_S4x128x128_S1x128x128_1_0_0)))
      (k0_pay36 (View.ld (iblk m c 0 t) (Rect.unit ![0, 128] S512x128.size inb_S512x512_S512x128_0_128))
        (View.ld (iblk m c 6 t) (Rect.unit ![0, 128] S512x128.size inb_S512x1024_S512x128_0_128)))
      (k0_pay38 (View.ld (iblk m c 16 t) (Rect.unit ![0, 128] S1x128.size inb_S1x512_S1x128_0_128)))⟩ : View.Piece (Elt Ideal) S528x512 .f32) ::
  (⟨Rect.unit ![0, 0] S512x128.size inb_S528x512_S512x128_0_0,
    k0_pay26 (k0_pay12 (grid0.coords t)) (k0_pay14 (View.ld (iblk m c 15 t) (Rect.unit ![0, 0, 0] S1x128x128.size inb_S4x128x128_S1x128x128_0_0_0)))
      (View.ld (iblk m c 16 t) (Rect.unit ![0, 0] S1x128.size inb_S1x512_S1x128_0_0))
      (k0_pay16 (View.ld (iblk m c 0 t) (Rect.unit ![0, 0] S512x128.size inb_S512x512_S512x128_0_0)))
      (k0_pay17 (View.ld (iblk m c 0 t) (Rect.unit ![0, 0] S512x128.size inb_S512x512_S512x128_0_0)))
      (k0_pay18 (View.ld (iblk m c 6 t) (Rect.unit ![0, 0] S512x128.size inb_S512x1024_S512x128_0_0)))⟩ : View.Piece (Elt Ideal) S528x512 .f32) ::
  L

set_option maxHeartbeats 2000000 in
theorem stored_at (c : Dev nD) (t : Fin cfg0.N) (L) (v : View sig .tc .vmem S528x512 .f32) (f) (g : Fin 4) (r : Fin 512) (k : Fin 128) (s : Fin 528)
    (hs : s.val = r.val) (q : Fin 512) (hq : q.val = g.val * 128 + k.val) :
    (v.read (Elt Ideal) (v.writes (Elt Ideal) f (stored m c t L)) (ix2 s q) : EReal)
      = PoolGrad.part (aZ m c) (aD m c) (aL m c) (aW m c) g k (row t r) := by
  unfold stored
  obtain ⟨rfl, hg⟩ | ⟨rfl, hg⟩ | ⟨rfl, hg⟩ | ⟨rfl, hg⟩ := groups g
  · repeat refine (miss _ _ _ _ _ _ _ (Or.inr (by omega))).trans ?_
    refine (hit _ _ _ _ _ _ _ r k (by omega) (by omega)).trans ?_
    exact (Pay.part_0 _ _ _ _ _ r k).trans (part_at m c t 0 r k (dpl_at m c t 0 (ldW m c t 0 _ rfl) (ldL m c t 0 _ rfl) (ldZ m c t 0 _ rfl)
      (ldD m c t 0 _ rfl) r k) (cnt_0 t r))
  · repeat refine (miss _ _ _ _ _ _ _ (Or.inr (by omega))).trans ?_
    refine (hit _ _ _ _ _ _ _ r k (by omega) (by omega)).trans ?_
    exact (Pay.part_1 _ _ _ _ _ r k).trans (part_at m c t 1 r k (dpl_at m c t 1 (ldW m c t 1 _ rfl) (ldL m c t 1 _ rfl) (ldZ m c t 1 _ rfl)
      (ldD m c t 1 _ rfl) r k) (cnt_1 t r))
  · repeat refine (miss _ _ _ _ _ _ _ (Or.inr (by omega))).trans ?_
    refine (hit _ _ _ _ _ _ _ r k (by omega) (by omega)).trans ?_
    exact (Pay.part_2 _ _ _ _ _ r k).trans (part_at m c t 2 r k (dpl_at m c t 2 (ldW m c t 2 _ rfl) (ldL m c t 2 _ rfl) (ldZ m c t 2 _ rfl)
      (ldD m c t 2 _ rfl) r k) (cnt_2 t r))
  · repeat refine (miss _ _ _ _ _ _ _ (Or.inr (by omega))).trans ?_
    refine (hit _ _ _ _ _ _ _ r k (by omega) (by omega)).trans ?_
    exact (Pay.part_3 _ _ _ _ _ r k).trans (part_at m c t 3 r k (dpl_at m c t 3 (ldW m c t 3 _ rfl) (ldL m c t 3 _ rfl) (ldZ m c t 3 _ rfl)
      (ldD m c t 3 _ rfl) r k) (cnt_3 t r))

theorem stored_below (c : Dev nD) (t : Fin cfg0.N) (L) (v : View sig .tc .vmem S528x512 .f32) (f) (s : Fin 528) (hs : 512 ≤ s.val) (q : Fin 512) :
    v.read (Elt Ideal) (v.writes (Elt Ideal) f (stored m c t L)) (ix2 s q) = v.read (Elt Ideal) (v.writes (Elt Ideal) f L) (ix2 s q) := by
  unfold stored
  iterate 4 refine (miss _ _ _ _ _ _ _ (Or.inl (by omega))).trans ?_
  rfl

theorem pay76_at (x : Vec Ideal S16x512 .f32) (i : Fin 16) (j : Fin 512) : k0_pay76 x (ix2 i j) = x (ix2 i j) := by
  open_payloads
  pointwise

set_option maxHeartbeats 2000000 in
theorem halo_A (c : Dev nD) (t : Fin cfg0.N) (h : t.val % 16 = 0) (g : Fin 4) (r : Fin 512) (hr : r.val < 16) (k : Fin 128) (s : Fin 528)
    (hs : s.val = 512 + r.val) (q : Fin 512) (hq : q.val = g.val * 128 + k.val) :
    ((outA m c t h).s3 (ix2 s q) : EReal) = PoolGrad.part (aZ m c) (aD m c) (aL m c) (aW m c) g k (row t r) := by
  unfold outA runA
  dsimp only
  frame_open
  refine (hit _ _ _ _ _ _ _ (⟨r.val, hr⟩ : Fin 16) q hs (Nat.zero_add _).symm).trans ?_
  refine (pay76_at _ _ _).trans ?_
  simp only [View.readCov, View.readAt_eq_ld, Memref.IsWhole.read_unread]
  refine (ld2 _ _ (⟨r.val, hr⟩ : Fin 16) q (⟨r.val, by omega⟩ : Fin 528) q (Nat.zero_add _).symm (Nat.zero_add _).symm).trans ?_
  exact stored_at m c t [⟨Rect.unit ![512, 0] S16x512.size inb_S528x512_S16x512_512_0, k0_pay11 (F := Ideal)⟩] _ _ g r k _ rfl q hq

set_option maxHeartbeats 2000000 in
theorem halo_B (c : Dev nD) (t : Fin cfg0.N) (h : ¬t.val % 16 = 0) (p) (g : Fin 4) (r : Fin 512) (hr : r.val < 16) (k : Fin 128) (s : Fin 528)
    (hs : s.val = 512 + r.val) (q : Fin 512) (hq : q.val = g.val * 128 + k.val) :
    ((outB m c t h p).s3 (ix2 s q) : EReal) = PoolGrad.part (aZ m c) (aD m c) (aL m c) (aW m c) g k (row t r) := by
  unfold outB runB
  dsimp only
  frame_open
  refine (hit _ _ _ _ _ _ _ (⟨r.val, hr⟩ : Fin 16) q hs (Nat.zero_add _).symm).trans ?_
  refine (pay76_at _ _ _).trans ?_
  simp only [View.readCov, View.readAt_eq_ld, Memref.IsWhole.read_unread]
  refine (ld2 _ _ (⟨r.val, hr⟩ : Fin 16) q (⟨r.val, by omega⟩ : Fin 528) q (Nat.zero_add _).symm (Nat.zero_add _).symm).trans ?_
  exact stored_at m c t [] _ _ g r k _ rfl q hq

/-! ## The input's gradient -/

set_option maxHeartbeats 2000000 in
theorem du_A (c : Dev nD) (t : Fin cfg0.N) (h : t.val % 16 = 0) (g : Fin 4) (i : Fin 512) (k : Fin 128) (q : Fin 3840) (hq : q.val = g.val * 128 + k.val)
    (Q : Fin 512) (hQ : Q.val = g.val * 128 + k.val) (X : ℕ → EReal)
    (hX : ∀ r : Fin 512, PoolGrad.part (aZ m c) (aD m c) (aL m c) (aW m c) g k (row t r) = X r.val)
    (hH : ∀ r : Fin 528, 512 ≤ r.val → 0 = X r.val) :
    ((outA m c t h).o18 (ix2 i q) : EReal)
      = (∑ n ∈ Finset.range (width g), X (i.val + n)) - PoolGrad.dpl (aZ m c) (aD m c) (aL m c) (aW m c) (row t i) g k := by
  have hP : ∀ (v : View sig .tc .vmem S528x512 .f32) (f) (r : Fin 528), (512 ≤ r.val → (v.read (Elt Ideal) (v.writes (Elt Ideal) f [⟨Rect.unit ![512, 0] S16x512.size inb_S528x512_S16x512_512_0, k0_pay11 (F := Ideal)⟩]) (ix2 r Q) : EReal) = X r.val) →
      (v.read (Elt Ideal) (v.writes (Elt Ideal) f (stored m c t [⟨Rect.unit ![512, 0] S16x512.size inb_S528x512_S16x512_512_0, k0_pay11 (F := Ideal)⟩])) (ix2 r Q) : EReal) = X r.val := by
    intro v f r h0
    by_cases hr : r.val < 512
    · exact (stored_at m c t _ v f g ⟨r.val, hr⟩ k r rfl Q hQ).trans (hX ⟨r.val, hr⟩)
    · exact (stored_below m c t _ v f r (by omega) Q).trans (h0 (by omega))
  unfold outA runA
  dsimp only
  frame_open
  obtain ⟨rfl, hg⟩ | ⟨rfl, hg⟩ | ⟨rfl, hg⟩ | ⟨rfl, hg⟩ := groups g
  · repeat refine (miss _ _ _ _ _ _ _ (Or.inr (by omega))).trans ?_
    refine (hit _ _ _ _ _ _ _ i k (Nat.zero_add _).symm (by omega)).trans ?_
    simp only [View.readCov, View.readAt_eq_ld, Memref.IsWhole.read_unread]
    refine (Pay.du_0 _ _ k X (fun r => (ld2 _ _ r k r Q (Nat.zero_add _).symm (by omega)).trans (hP _ _ r fun hr => Eq.trans ?_ (hH r hr))) i).trans
      (congrArg₂ _ rfl ((Pay.dpl_0 _ _ _ _ i k).trans
        (dpl_at m c t 0 (ldW m c t 0 _ rfl) (ldL m c t 0 _ rfl) (ldZ m c t 0 _ rfl) (ldD m c t 0 _ rfl) i k)))
    refine (hit _ _ _ _ _ _ _ (⟨r.val - 512, by omega⟩ : Fin 16) Q (by dsimp only; omega) (Nat.zero_add _).symm).trans ?_
    open_payloads
    pointwise
  · repeat refine (miss _ _ _ _ _ _ _ (Or.inr (by omega))).trans ?_
    refine (hit _ _ _ _ _ _ _ i k (Nat.zero_add _).symm (by omega)).trans ?_
    simp only [View.readCov, View.readAt_eq_ld, Memref.IsWhole.read_unread]
    refine (Pay.du_1 _ _ k X (fun r => (ld2 _ _ r k r Q (Nat.zero_add _).symm (by omega)).trans (hP _ _ r fun hr => Eq.trans ?_ (hH r hr))) i).trans
      (congrArg₂ _ rfl ((Pay.dpl_1 _ _ _ _ i k).trans
        (dpl_at m c t 1 (ldW m c t 1 _ rfl) (ldL m c t 1 _ rfl) (ldZ m c t 1 _ rfl) (ldD m c t 1 _ rfl) i k)))
    refine (hit _ _ _ _ _ _ _ (⟨r.val - 512, by omega⟩ : Fin 16) Q (by dsimp only; omega) (Nat.zero_add _).symm).trans ?_
    open_payloads
    pointwise
  · repeat refine (miss _ _ _ _ _ _ _ (Or.inr (by omega))).trans ?_
    refine (hit _ _ _ _ _ _ _ i k (Nat.zero_add _).symm (by omega)).trans ?_
    simp only [View.readCov, View.readAt_eq_ld, Memref.IsWhole.read_unread]
    refine (Pay.du_2 _ _ k X (fun r => (ld2 _ _ r k r Q (Nat.zero_add _).symm (by omega)).trans (hP _ _ r fun hr => Eq.trans ?_ (hH r hr))) i).trans
      (congrArg₂ _ rfl ((Pay.dpl_2 _ _ _ _ i k).trans
        (dpl_at m c t 2 (ldW m c t 2 _ rfl) (ldL m c t 2 _ rfl) (ldZ m c t 2 _ rfl) (ldD m c t 2 _ rfl) i k)))
    refine (hit _ _ _ _ _ _ _ (⟨r.val - 512, by omega⟩ : Fin 16) Q (by dsimp only; omega) (Nat.zero_add _).symm).trans ?_
    open_payloads
    pointwise
  · repeat refine (miss _ _ _ _ _ _ _ (Or.inr (by omega))).trans ?_
    refine (hit _ _ _ _ _ _ _ i k (Nat.zero_add _).symm (by omega)).trans ?_
    simp only [View.readCov, View.readAt_eq_ld, Memref.IsWhole.read_unread]
    refine (Pay.du_3 _ _ k X (fun r => (ld2 _ _ r k r Q (Nat.zero_add _).symm (by omega)).trans (hP _ _ r fun hr => Eq.trans ?_ (hH r hr))) i).trans
      (congrArg₂ _ rfl ((Pay.dpl_3 _ _ _ _ i k).trans
        (dpl_at m c t 3 (ldW m c t 3 _ rfl) (ldL m c t 3 _ rfl) (ldZ m c t 3 _ rfl) (ldD m c t 3 _ rfl) i k)))
    refine (hit _ _ _ _ _ _ _ (⟨r.val - 512, by omega⟩ : Fin 16) Q (by dsimp only; omega) (Nat.zero_add _).symm).trans ?_
    open_payloads
    pointwise

set_option maxHeartbeats 2000000 in
theorem du_B (c : Dev nD) (t : Fin cfg0.N) (h : ¬t.val % 16 = 0) (p) (g : Fin 4) (i : Fin 512) (k : Fin 128) (q : Fin 3840) (hq : q.val = g.val * 128 + k.val)
    (Q : Fin 512) (hQ : Q.val = g.val * 128 + k.val) (X : ℕ → EReal)
    (hX : ∀ r : Fin 512, PoolGrad.part (aZ m c) (aD m c) (aL m c) (aW m c) g k (row t r) = X r.val)
    (hH : ∀ r : Fin 528, 512 ≤ r.val → (p.s3 (ix2 r Q) : EReal) = X r.val) :
    ((outB m c t h p).o18 (ix2 i q) : EReal)
      = (∑ n ∈ Finset.range (width g), X (i.val + n)) - PoolGrad.dpl (aZ m c) (aD m c) (aL m c) (aW m c) (row t i) g k := by
  have hP : ∀ (v : View sig .tc .vmem S528x512 .f32) (f) (r : Fin 528), (512 ≤ r.val → (v.read (Elt Ideal) (v.writes (Elt Ideal) f []) (ix2 r Q) : EReal) = X r.val) →
      (v.read (Elt Ideal) (v.writes (Elt Ideal) f (stored m c t [])) (ix2 r Q) : EReal) = X r.val := by
    intro v f r h0
    by_cases hr : r.val < 512
    · exact (stored_at m c t _ v f g ⟨r.val, hr⟩ k r rfl Q hQ).trans (hX ⟨r.val, hr⟩)
    · exact (stored_below m c t _ v f r (by omega) Q).trans (h0 (by omega))
  unfold outB runB
  dsimp only
  frame_open
  obtain ⟨rfl, hg⟩ | ⟨rfl, hg⟩ | ⟨rfl, hg⟩ | ⟨rfl, hg⟩ := groups g
  · repeat refine (miss _ _ _ _ _ _ _ (Or.inr (by omega))).trans ?_
    refine (hit _ _ _ _ _ _ _ i k (Nat.zero_add _).symm (by omega)).trans ?_
    simp only [View.readCov, View.readAt_eq_ld, Memref.IsWhole.read_unread]
    refine (Pay.du_0 _ _ k X (fun r => (ld2 _ _ r k r Q (Nat.zero_add _).symm (by omega)).trans (hP _ _ r fun hr => Eq.trans ?_ (hH r hr))) i).trans
      (congrArg₂ _ rfl ((Pay.dpl_0 _ _ _ _ i k).trans
        (dpl_at m c t 0 (ldW m c t 0 _ rfl) (ldL m c t 0 _ rfl) (ldZ m c t 0 _ rfl) (ldD m c t 0 _ rfl) i k)))
    exact congrFun (Memref.IsWhole.read_unread _ _) _
  · repeat refine (miss _ _ _ _ _ _ _ (Or.inr (by omega))).trans ?_
    refine (hit _ _ _ _ _ _ _ i k (Nat.zero_add _).symm (by omega)).trans ?_
    simp only [View.readCov, View.readAt_eq_ld, Memref.IsWhole.read_unread]
    refine (Pay.du_1 _ _ k X (fun r => (ld2 _ _ r k r Q (Nat.zero_add _).symm (by omega)).trans (hP _ _ r fun hr => Eq.trans ?_ (hH r hr))) i).trans
      (congrArg₂ _ rfl ((Pay.dpl_1 _ _ _ _ i k).trans
        (dpl_at m c t 1 (ldW m c t 1 _ rfl) (ldL m c t 1 _ rfl) (ldZ m c t 1 _ rfl) (ldD m c t 1 _ rfl) i k)))
    exact congrFun (Memref.IsWhole.read_unread _ _) _
  · repeat refine (miss _ _ _ _ _ _ _ (Or.inr (by omega))).trans ?_
    refine (hit _ _ _ _ _ _ _ i k (Nat.zero_add _).symm (by omega)).trans ?_
    simp only [View.readCov, View.readAt_eq_ld, Memref.IsWhole.read_unread]
    refine (Pay.du_2 _ _ k X (fun r => (ld2 _ _ r k r Q (Nat.zero_add _).symm (by omega)).trans (hP _ _ r fun hr => Eq.trans ?_ (hH r hr))) i).trans
      (congrArg₂ _ rfl ((Pay.dpl_2 _ _ _ _ i k).trans
        (dpl_at m c t 2 (ldW m c t 2 _ rfl) (ldL m c t 2 _ rfl) (ldZ m c t 2 _ rfl) (ldD m c t 2 _ rfl) i k)))
    exact congrFun (Memref.IsWhole.read_unread _ _) _
  · repeat refine (miss _ _ _ _ _ _ _ (Or.inr (by omega))).trans ?_
    refine (hit _ _ _ _ _ _ _ i k (Nat.zero_add _).symm (by omega)).trans ?_
    simp only [View.readCov, View.readAt_eq_ld, Memref.IsWhole.read_unread]
    refine (Pay.du_3 _ _ k X (fun r => (ld2 _ _ r k r Q (Nat.zero_add _).symm (by omega)).trans (hP _ _ r fun hr => Eq.trans ?_ (hH r hr))) i).trans
      (congrArg₂ _ rfl ((Pay.dpl_3 _ _ _ _ i k).trans
        (dpl_at m c t 3 (ldW m c t 3 _ rfl) (ldL m c t 3 _ rfl) (ldZ m c t 3 _ rfl) (ldD m c t 3 _ rfl) i k)))
    exact congrFun (Memref.IsWhole.read_unread _ _) _

end Cert.MixBwdIdeal.Value
end
-- ==== Proof.MixBwdEq.lean ====
module

public import proofs.«01_k».proof.Proof.MixBwdKernel

/-! The mixers' backward call: what its pooling results end holding, over all rows. -/

@[expose] public section

set_option maxRecDepth 16384

noncomputable section

open Idealize.ShloMosaic Idealize.ShloMosaic.TcCoe Idealize.SL.Sem
open scoped BigOperators

namespace Cert.MixBwdIdeal.Value

open Cert.MixBwdIdeal Cert.MixBwdIdeal.Gen Cert.MixBwdIdeal.Whole
open PoolGrad (col width cnt)
open MixBwdRefIdeal.Read (argZ argD argL argW pooled)

variable (m : (ℓ : Loc nD τ sig) → Buf (Elt Ideal) ℓ)

theorem points : cfg0.N = 16 := N_0

/-! ## At each point -/

theorem dz_at_point (c : Dev nD) (t : Fin cfg0.N) (g : Fin 4) (i : Fin 512) (k : Fin 128) (q : Fin 3840) (hq : q.val = 512 + (g.val * 128 + k.val)) :
    ((outs m c t.val t.isLt).o18 (ix2 i q) : EReal) = PoolGrad.kdz (aZ m c) (aD m c) (aL m c) (aW m c) (aP m c) (row t i) g k := by
  by_cases h : t.val % 16 = 0
  · rw [outs_A m c t h]; exact dz_A m c t h g i k q hq
  · rw [outs_B m c t h]; exact dz_B m c t h _ g i k q hq

theorem halo_at_point (c : Dev nD) (t : Fin cfg0.N) (g : Fin 4) (r : Fin 512) (hr : r.val < 16) (k : Fin 128) (s : Fin 528)
    (hs : s.val = 512 + r.val) (q : Fin 512) (hq : q.val = g.val * 128 + k.val) :
    ((outs m c t.val t.isLt).s3 (ix2 s q) : EReal) = PoolGrad.part (aZ m c) (aD m c) (aL m c) (aW m c) g k (row t r) := by
  by_cases h : t.val % 16 = 0
  · rw [outs_A m c t h]; exact halo_A m c t h g r hr k s hs q hq
  · rw [outs_B m c t h]; exact halo_B m c t h _ g r hr k s hs q hq

/-- The parts of the rows from a point's tile on: none after the last row. -/
def ahead (c : Dev nD) (t : Fin cfg0.N) (g : Fin 4) (k : Fin 128) (n : ℕ) : EReal :=
  PoolSum.ext (PoolGrad.part (aZ m c) (aD m c) (aL m c) (aW m c) g k) ((15 - t.val) * 512 + n)

theorem ahead_row (c : Dev nD) (t : Fin cfg0.N) (g : Fin 4) (k : Fin 128) (r : Fin 512) :
    PoolGrad.part (aZ m c) (aD m c) (aL m c) (aW m c) g k (row t r) = ahead m c t g k r.val := by
  have e : (15 - t.val) * 512 + r.val < 8192 := (row t r).isLt
  unfold ahead PoolSum.ext
  rw [dif_pos e]
  rfl

theorem du_at_point (c : Dev nD) (t : Fin cfg0.N) (g : Fin 4) (i : Fin 512) (k : Fin 128) (q : Fin 3840) (hq : q.val = g.val * 128 + k.val) :
    ((outs m c t.val t.isLt).o18 (ix2 i q) : EReal) = PoolGrad.kdu (aZ m c) (aD m c) (aL m c) (aW m c) (row t i) g k := by
  have hN := points
  have ht := t.isLt
  have e : ((∑ n ∈ Finset.range (width g), ahead m c t g k (i.val + n)) - PoolGrad.dpl (aZ m c) (aD m c) (aL m c) (aW m c) (row t i) g k : EReal)
      = PoolGrad.kdu (aZ m c) (aD m c) (aL m c) (aW m c) (row t i) g k := by
    unfold PoolGrad.kdu ahead
    refine congrArg (· - _) (Finset.sum_congr rfl fun n _ => congrArg (PoolSum.ext _) ?_)
    exact (Nat.add_assoc _ _ _).symm
  refine Eq.trans ?_ e
  by_cases h : t.val % 16 = 0
  · rw [outs_A m c t h]
    refine du_A m c t h g i k q hq ⟨g.val * 128 + k.val, by omega⟩ rfl _ (ahead_row m c t g k) fun r hr => ?_
    unfold ahead PoolSum.ext
    rw [dif_neg (by omega)]
  · rw [outs_B m c t h]
    refine du_B m c t h _ g i k q hq ⟨g.val * 128 + k.val, by omega⟩ rfl _ (ahead_row m c t g k) fun r hr => ?_
    have hr' := r.isLt
    refine (halo_at_point m c ⟨t.val - 1, by omega⟩ g ⟨r.val - 512, by omega⟩ (by show r.val - 512 < 16; omega) k r (by show r.val = 512 + (r.val - 512); omega) _ rfl).trans ?_
    refine (ahead_row m c ⟨t.val - 1, by omega⟩ g k ⟨r.val - 512, by omega⟩).trans ?_
    unfold ahead
    refine congrArg (PoolSum.ext _) ?_
    show (15 - (t.val - 1)) * 512 + (r.val - 512) = (15 - t.val) * 512 + r.val
    omega

/-! ## Over all points -/

/-- The rows of all points' tiles are all rows. -/
theorem sum_rows (f : Fin 8192 → EReal) : ∑ t : Fin cfg0.N, ∑ i : Fin 512, f (row t i) = ∑ s, f s := by
  rw [← Fintype.sum_prod_type' (f := fun t i => f (row t i))]
  refine Fintype.sum_bijective (fun p : Fin cfg0.N × Fin 512 => row p.1 p.2) ⟨?_, ?_⟩ _ _ fun _ => rfl
  · rintro ⟨t, i⟩ ⟨u, j⟩ e
    have hN := points
    have ht := t.isLt
    have hu := u.isLt
    have hi := i.isLt
    have hj := j.isLt
    have e' : (15 - t.val) * 512 + i.val = (15 - u.val) * 512 + j.val := congrArg Fin.val e
    refine Prod.ext (Fin.ext ?_) (Fin.ext ?_)
    · show t.val = u.val; omega
    · show i.val = j.val; omega
  · intro s
    have hN := points
    have hs := s.isLt
    refine ⟨(⟨15 - s.val / 512, by omega⟩, ⟨s.val % 512, Nat.mod_lt _ (by norm_num)⟩), Fin.ext ?_⟩
    show (15 - (15 - s.val / 512)) * 512 + s.val % 512 = s.val
    omega

theorem emb18 (t : Fin cfg0.N) (y : ((cfg0.win 18).xblock (cfg0.grid.coords t)).Idx) (i : Fin 512) (l : Fin 3840) (h0 : (y 0).val = i.val) (h1 : (y 1).val = l.val) :
    (cfg0.win 18 |>.blk t).view.emb y = (ix2 (row t i) l : S8192x3840.Idx) := by
  blk_ext [idx t, row, h0, h1]

/-- The point whose tile holds a row. -/
def tile (s : Fin 8192) : Fin cfg0.N := ⟨15 - s.val / 512, by have := points; omega⟩
/-- A row's place in its tile. -/
def place (s : Fin 8192) : Fin 512 := ⟨s.val % 512, Nat.mod_lt _ (by norm_num)⟩

theorem tile_row (t : Fin cfg0.N) (i : Fin 512) : tile (row t i) = t := by
  have hN := points
  have ht := t.isLt
  have hi := i.isLt
  refine Fin.ext ?_
  show 15 - ((15 - t.val) * 512 + i.val) / 512 = t.val
  omega

theorem place_row (t : Fin cfg0.N) (i : Fin 512) : place (row t i) = i := by
  have hi := i.isLt
  refine Fin.ext ?_
  show ((15 - t.val) * 512 + i.val) % 512 = i.val
  omega

theorem row_tile (s : Fin 8192) : row (tile s) (place s) = s := by
  have hs := s.isLt
  refine Fin.ext ?_
  show (15 - (15 - s.val / 512)) * 512 + s.val % 512 = s.val
  omega

theorem final_18 (c : Dev nD) : (dats m 0 c).arrAt 18 cfg0.N
    = fun y : S8192x3840.Idx => (outs m c (tile (y 0)).val (tile (y 0)).isLt).o18 (ix2 (place (y 0)) (y 1)) := by
  refine (dats m 0 c).arrAt_eq_of_covers 18 _ (by decide +kernel) fun t hf y => ?_
  obtain ⟨i, l, e⟩ : ∃ (i : Fin 512) (l : Fin 3840), y = ix2 i l := ⟨y 0, y 1, eq_ix2 y⟩
  have e6 := emb18 t y i l (by rw [e]; rfl) (by rw [e]; rfl)
  blk_simp
  rw [after18]
  rw [e6, e]
  show _ = (outs m c (tile (row t i)).val (tile (row t i)).isLt).o18 (ix2 (place (row t i)) l)
  rw [tile_row, place_row]

/-- The gate's columns. -/
theorem final_dz (c : Dev nD) (s : Fin 8192) (g : Fin 4) (k : Fin 128) (q : Fin 3840) (hq : q.val = 512 + (g.val * 128 + k.val)) :
    ((dats m 0 c).arrAt 18 cfg0.N : S8192x3840.Idx → EReal) (ix2 s q) = PoolGrad.kdz (aZ m c) (aD m c) (aL m c) (aW m c) (aP m c) s g k := by
  refine (congrFun (final_18 m c) (ix2 s q)).trans ?_
  refine (dz_at_point m c (tile s) g (place s) k q hq).trans ?_
  rw [row_tile]

/-- The input's columns. -/
theorem final_du (c : Dev nD) (s : Fin 8192) (g : Fin 4) (k : Fin 128) (q : Fin 3840) (hq : q.val = g.val * 128 + k.val) :
    ((dats m 0 c).arrAt 18 cfg0.N : S8192x3840.Idx → EReal) (ix2 s q) = PoolGrad.kdu (aZ m c) (aD m c) (aL m c) (aW m c) s g k := by
  refine (congrFun (final_18 m c) (ix2 s q)).trans ?_
  refine (du_at_point m c (tile s) g (place s) k q hq).trans ?_
  rw [row_tile]

/-- The group weights' gradient. -/
theorem final_21 (c : Dev nD) (g : Fin 4) (j k : Fin 128) :
    ((dats m 0 c).arrAt 21 cfg0.N : S4x128x128.Idx → EReal) (ix3 g j k) = ∑ s, PoolGrad.kdwp (aZ m c) (aD m c) (aL m c) (aP m c) s g j k := by
  have H : (dats m 0 c).arrAt 21 cfg0.N
      = fun y : S4x128x128.Idx => (outs m c t0_15.val t0_15.isLt).o21 y := by
    refine (dats m 0 c).arrAt_eq_of_after_last 21 t0_15 (by decide +kernel) _ fun j => ?_
    blk_simp
    idx_vars j
    rw [after21]
  refine (congrFun H (ix3 g j k)).trans ?_
  rw [Pipeline.eq_sum_fin_of_reset_step_apply_last (fun n h => fun p : Fin 4 × Fin 128 × Fin 128 => ((outs m c n h).o21 (ix3 p.1 p.2.1 p.2.2) : EReal)) 16 (fun _ => 0)
    (fun t p => ∑ i, PoolGrad.kdwp (aZ m c) (aD m c) (aL m c) (aP m c) (row t i) p.1 p.2.1 p.2.2)
    (fun t h p => by rw [outs_A m c t h]; exact dwp_A m c t h _ _ _)
    (fun t h p => by rw [outs_B m c t h]; exact dwp_B m c t h _ _ _ _)
    (le_of_eq N_0) t0_15 rfl (g, j, k), zero_add]
  exact sum_rows fun s => PoolGrad.kdwp (aZ m c) (aD m c) (aL m c) (aP m c) s g j k

/-- The layer scale's gradient. -/
theorem final_22 (c : Dev nD) (g : Fin 4) (k : Fin 128) (q : Fin 512) (hq : q.val = g.val * 128 + k.val) :
    ((dats m 0 c).arrAt 22 cfg0.N : S1x512.Idx → EReal) (ix2 0 q) = ∑ s, PoolGrad.kdls (aZ m c) (aD m c) (aW m c) (aP m c) s g k := by
  have H : (dats m 0 c).arrAt 22 cfg0.N
      = fun y : S1x512.Idx => (outs m c t0_15.val t0_15.isLt).o22 y := by
    refine (dats m 0 c).arrAt_eq_of_after_last 22 t0_15 (by decide +kernel) _ fun j => ?_
    blk_simp
    idx_vars j
    rw [after22]
  refine (congrFun H (ix2 0 q)).trans ?_
  rw [Pipeline.eq_sum_fin_of_reset_step_apply_last (fun n h => fun p : Unit => ((outs m c n h).o22 (ix2 0 q) : EReal)) 16 (fun _ => 0)
    (fun t p => ∑ i, PoolGrad.kdls (aZ m c) (aD m c) (aW m c) (aP m c) (row t i) g k)
    (fun t h p => by rw [outs_A m c t h]; exact dls_A m c t h _ _ _ hq)
    (fun t h p => by rw [outs_B m c t h]; exact dls_B m c t h _ _ _ _ hq)
    (le_of_eq N_0) t0_15 rfl (), zero_add]
  exact sum_rows fun s => PoolGrad.kdls (aZ m c) (aD m c) (aW m c) (aP m c) s g k

variable (ρ : Dev nD → PrngReg)

/-- A run leaves in the three arrays what its points leave, and every argument's array as it began. -/
theorem run_blocks : θ_run defs (onTc (τ := τ) (main (F := Ideal))) ⟨m, fun _ => 0, ρ⟩ (fun r => ∀ c : Dev nD,
      r.2.mem ((c.tc : Thread nD τ).loc main_v114_0) = (dats m 0 c).arrAt 18 cfg0.N
      ∧ r.2.mem ((c.tc : Thread nD τ).loc main_v114_3) = (dats m 0 c).arrAt 21 cfg0.N
      ∧ r.2.mem ((c.tc : Thread nD τ).loc main_v114_4) = (dats m 0 c).arrAt 22 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1 18, (h c).1 21, (h c).1 22,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 16).trans (((dats m 0 c).arrAt_in 16 rfl _).trans ((A_eq m c 16).trans (V_main_arg5 m c))),
      ((h c).1 17).trans (((dats m 0 c).arrAt_in 17 rfl _).trans ((A_eq m c 17).trans (V_main_arg6 m c))),
      ((h c).2 main_arg7 (Pipeline.mem_restRefs_of main_arg7 (by decide) (by decide))).trans (V_main_arg7 m c),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      ((h c).1 12).trans (((dats m 0 c).arrAt_in 12 rfl _).trans ((A_eq m c 12).trans (V_main_arg10 m c)))⟩) (run m ρ)

end Cert.MixBwdIdeal.Value

end
-- ==== Proof.MixBwdClaim.lean ====
module

public import proofs.«01_k».proof.Defs
public import proofs.«01_k».proof.Proof.MixBwdEq

/-! The mixers' backward call: its claims. -/

@[expose] public section

set_option maxRecDepth 16384

noncomputable section

open Idealize.ShloMosaic Idealize.ShloMosaic.TcCoe Idealize.SL.Sem
open scoped BigOperators

namespace Cert.Pre_finite_mix

theorem facts : Facts where
  slices_S1x8192x3592_S1x8192x1024_0_0_0 := by decide
  slices_S1x8192x1024_S1x8192x512_0_0_0 := by decide
  bcast_S_S1x8192x1024 := by decide
  bcast_S_S1x4x128x128 := by decide
  bcast_S_S1x512 := by decide
  bcast_S_S1x8192x512 := by decide

end Cert.Pre_finite_mix

namespace Cert.On_pool_columns

theorem facts : Facts where
  bcast_S_S8192x3840 := by decide
  bcast_S_S4x128x128 := by decide
  bcast_S_S1x512 := by decide

end Cert.On_pool_columns

namespace Cert.Proof.Mix

attribute [local instance] Cert.Pre_finite_mix.facts Cert.On_pool_columns.facts

theorem frame_ideal : Cert.quiescent_MixBwdIdeal := fun m ρ _ => Cert.MixBwdIdeal.Whole.frame m ρ

theorem frame_reference : Cert.quiescent_MixBwdRefIdeal := fun m ρ _ =>
  (θ_run Cert.MixBwdRefIdeal.defs _ _).mono (fun r h => ⟨fun c => (h c).2.2.2, sem_eq_zero_of_no_sems rfl r.2⟩)
    (Cert.MixBwdRefIdeal.Value.run m ρ)

section cuts

open Cert.Pre_finite_mix

theorem cut_columns (x : FVec Ideal S1x8192x3592 .f32) (h : S1x8192x3592.Slices ![0, 0, 0] S1x8192x1024) (s : Fin 8192) (l : Fin 1024) :
    (extractStridedSlice S1x8192x1024 ![0, 0, 0] x h (ix3 0 s l) : EReal) = x (ix3 0 s ⟨l.val, by omega⟩) := by
  pointwise

theorem cut_half (x : FVec Ideal S1x8192x1024 .f32) (h : S1x8192x1024.Slices ![0, 0, 0] S1x8192x512) (s : Fin 8192) (l : Fin 512) :
    (extractStridedSlice S1x8192x512 ![0, 0, 0] x h (ix3 0 s l) : EReal) = x (ix3 0 s ⟨l.val, by omega⟩) := by
  pointwise

end cuts

/-- A column of the gate's or the input's part, by group and lane. -/
theorem columns (q : Fin 3840) (h : q.val < 1024) : ∃ (g : Fin 4) (k : Fin 128), q.val = g.val * 128 + k.val ∨ q.val = 512 + (g.val * 128 + k.val) := by
  by_cases h5 : q.val < 512
  · exact ⟨⟨q.val / 128, by omega⟩, ⟨q.val % 128, Nat.mod_lt _ (by norm_num)⟩, .inl (by show q.val = q.val / 128 * 128 + q.val % 128; omega)⟩
  · exact ⟨⟨(q.val - 512) / 128, by omega⟩, ⟨(q.val - 512) % 128, Nat.mod_lt _ (by norm_num)⟩,
      .inr (by show q.val = 512 + ((q.val - 512) / 128 * 128 + (q.val - 512) % 128); omega)⟩

variable (m : (ℓ : Loc Cert.MixBwdIdeal.nD Cert.MixBwdIdeal.τ Cert.MixBwdIdeal.sig) → Buf (Elt Ideal) ℓ)

open Cert.MixBwdIdeal.Value in
/-- Where the precondition holds, what the pooling part reads is real. -/
theorem real (hpre : Cert.Pre_MixBwdIdeal_finite_mix m) (c : Dev Cert.MixBwdIdeal.nD) :
    (∀ s j, ∃ r : ℝ, aZ m c s j = r) ∧ (∀ s j, ∃ r : ℝ, aD m c s j = r) ∧ (∀ j, ∃ r : ℝ, aL m c j = r)
    ∧ (∀ g j k, ∃ r : ℝ, aW m c g j k = r) ∧ (∀ s g k, ∃ r : ℝ, aP m c s g k = r) := by
  obtain ⟨p0, p1, p2, p3⟩ := hpre c
  obtain ⟨X, hX⟩ := Norm.real_of_pre _ _ p0
  obtain ⟨W, hW⟩ := Norm.real_of_pre _ _ p1
  obtain ⟨L, hL⟩ := Norm.real_of_pre _ _ p2
  obtain ⟨D, hD⟩ := Norm.real_of_pre _ _ p3
  refine ⟨fun s j => ⟨X (ix3 0 s ⟨512 + j.val, by omega⟩), ?_⟩, fun s j => ⟨D (ix3 0 s j), ?_⟩, fun j => ⟨L (ix2 0 j), ?_⟩,
    fun g j k => ⟨W (ix4 0 g j k), ?_⟩, fun s g k => Cert.MixBwdRefIdeal.Read.real_pooled _ (fun s j => ⟨X (ix3 0 s ⟨j.val, by omega⟩), ?_⟩) s g k⟩
  · exact (cut_columns _ _ s ⟨512 + j.val, by omega⟩).symm.trans (congrFun hX _)
  · exact (cut_half _ _ s j).symm.trans (congrFun hD _)
  · exact congrFun hL _
  · exact congrFun hW _
  · exact (cut_columns _ _ s ⟨j.val, by omega⟩).symm.trans (congrFun hX _)

open Cert.MixBwdRefIdeal.Read Cert.MixBwdIdeal.Value in
/-- On the pooling columns the two programs' gradients are the same numbers. -/
theorem result_dproj (hpre : Cert.Pre_MixBwdIdeal_finite_mix m) (c : Dev Cert.MixBwdIdeal.nD) (s : Fin 8192) (q : Fin 3840) (hq : q.val < 1024) :
    (val_main_v169 (F := Ideal) (m ((c.tc : Thread _ _).loc Cert.MixBwdIdeal.main_arg0)) (m ((c.tc : Thread _ _).loc Cert.MixBwdIdeal.main_arg4))
      (m ((c.tc : Thread _ _).loc Cert.MixBwdIdeal.main_arg5)) (m ((c.tc : Thread _ _).loc Cert.MixBwdIdeal.main_arg7)) (ix2 s q) : EReal)
      = ((Cert.MixBwdIdeal.Whole.dats m 0 c).arrAt 18 Cert.MixBwdIdeal.cfg0.N : Cert.MixBwdIdeal.S8192x3840.Idx → EReal) (ix2 s q) := by
  obtain ⟨hZ, hD, hL, hW, hP⟩ := real m hpre c
  obtain ⟨g, k, h | h⟩ := columns q hq
  · refine Eq.trans ?_ (final_du m c s g k q h).symm
    rw [PoolGrad.kdu_eq hZ hD hL hW]
    have e : q = ⟨g.val * 128 + k.val, by omega⟩ := Fin.ext h
    rw [e]
    exact read_du _ _ _ _ s g k
  · refine Eq.trans ?_ (final_dz m c s g k q h).symm
    rw [PoolGrad.kdz_eq hZ hD hL hW hP]
    have e : q = ⟨512 + (PoolGrad.col g k).val, by show 512 + (g.val * 128 + k.val) < 3840; omega⟩ := Fin.ext h
    rw [e]
    exact read_dz _ _ _ _ s (PoolGrad.col g k)

open Cert.MixBwdRefIdeal.Read Cert.MixBwdIdeal.Value in
theorem result_dwp (c : Dev Cert.MixBwdIdeal.nD) :
    val_main_v170 (F := Ideal) (m ((c.tc : Thread _ _).loc Cert.MixBwdIdeal.main_arg0))
      (m ((c.tc : Thread _ _).loc Cert.MixBwdIdeal.main_arg5)) (m ((c.tc : Thread _ _).loc Cert.MixBwdIdeal.main_arg7))
      = (Cert.MixBwdIdeal.Whole.dats m 0 c).arrAt 21 Cert.MixBwdIdeal.cfg0.N := by
  funext y
  obtain ⟨g, j, k, rfl⟩ : ∃ (g : Fin 4) (j k : Fin 128), y = ix3 g j k := ⟨y 0, y 1, y 2, eq_ix3 y⟩
  refine ((read_dwp _ _ _ g j k).trans ?_).trans (final_21 m c g j k).symm
  exact (PoolGrad.kdwp_eq _ _ _ _ g j k).symm

open Cert.MixBwdRefIdeal.Read Cert.MixBwdIdeal.Value in
theorem result_dls (c : Dev Cert.MixBwdIdeal.nD) :
    val_main_v163 (F := Ideal) (m ((c.tc : Thread _ _).loc Cert.MixBwdIdeal.main_arg0))
      (m ((c.tc : Thread _ _).loc Cert.MixBwdIdeal.main_arg4)) (m ((c.tc : Thread _ _).loc Cert.MixBwdIdeal.main_arg7))
      = (Cert.MixBwdIdeal.Whole.dats m 0 c).arrAt 22 Cert.MixBwdIdeal.cfg0.N := by
  funext y
  obtain ⟨q, rfl⟩ : ∃ q : Fin 512, y = ix2 0 q := ⟨y 1, (eq_ix2 y).trans (congrArg (ix2 · (y 1)) (Subsingleton.elim (α := Fin 1) _ _))⟩
  have hq : q.val = (PoolGrad.grp q).val * 128 + (PoolGrad.lane q).val := (congrArg Fin.val (PoolGrad.col_grp q)).symm
  refine ((read_dls _ _ _ 0 q).trans ?_).trans (final_22 m c (PoolGrad.grp q) (PoolGrad.lane q) q hq).symm
  refine Eq.trans ?_ (PoolGrad.kdls_eq _ _ _ _ _ _).symm
  rw [PoolGrad.col_grp]

/-- The mask's first array holds on the first 1024 columns. -/
theorem mask_column (h : Cert.On_pool_columns.S_.BroadcastsInDim Cert.On_pool_columns.S8192x3840 (![] : Fin 0 → Fin Cert.On_pool_columns.S8192x3840.rank))
    (s : Fin 8192) (q : Fin 3840)
    (e : cmpi .slt (iotaInDim Cert.On_pool_columns.S8192x3840 32 1)
      (broadcastInDim Cert.On_pool_columns.S8192x3840 ![] h (constantI Cert.On_pool_columns.S_ 32 1024#32)) (ix2 s q) = 1#1) : q.val < 1024 := by
  by_contra hn
  have hl := q.isLt
  have e' : Scalar.cmpi .slt (BitVec.ofNat 32 q.val) 1024#32 = 1#1 := e
  revert e'
  simp only [Scalar.cmpi, IntOp.cmpi]
  have : ¬ (BitVec.ofNat 32 q.val).slt 1024#32 = true := by
    rw [BitVec.slt_iff_toInt_lt, BitVec.toInt_ofNat', BitVec.toInt_ofNat']
    norm_num [Int.bmod]
    omega
  simp [this]

set_option maxHeartbeats 2000000 in
/-- The ideal kernel and the gradient computed by differentiation return the same pooling columns, group weights' gradient and layer scale's gradient. -/
theorem algebraic : Cert.algebraic_MixBwdIdeal_MixBwdRefIdeal_on_pool_columns_pre_finite_mix := by
  intro m g m' g' hpre hagree
  refine ⟨fun c => (Cert.MixBwdIdeal.Whole.dats m 0 c).arrAt 18 Cert.MixBwdIdeal.cfg0.N, fun c => (Cert.MixBwdIdeal.Whole.dats m 0 c).arrAt 21 Cert.MixBwdIdeal.cfg0.N,
    fun c => (Cert.MixBwdIdeal.Whole.dats m 0 c).arrAt 22 Cert.MixBwdIdeal.cfg0.N,
    (θ_run Cert.MixBwdIdeal.defs _ _).mono (fun r h c => ?_) (Cert.MixBwdIdeal.Value.run_blocks m g),
    (θ_run Cert.MixBwdRefIdeal.defs _ _).mono (fun r h c => ?_) (Cert.MixBwdRefIdeal.Value.run m' g')⟩
  · obtain ⟨r0, r1, r2, k⟩ := h c
    exact ⟨fun i _ => congrFun r0 i, fun i _ => congrFun r1 i, fun i _ => congrFun r2 i, k⟩
  · obtain ⟨r0, r1, r2, k⟩ := h c
    obtain ⟨h0, -, -, -, h4, h5, -, h7, -, -, -⟩ := hagree c
    have e0 := r0.trans (Cert.MixBwdRefIdeal.Read.val_main_v169_eq (StableHlo.launchContents m' c))
    have e1 := r1.trans (Cert.MixBwdRefIdeal.Read.val_main_v170_eq (StableHlo.launchContents m' c))
    have e2 := r2.trans (Cert.MixBwdRefIdeal.Read.val_main_v163_eq (StableHlo.launchContents m' c))
    refine ⟨fun i hi => ?_, fun i _ => ?_, fun i _ => ?_, k⟩
    · obtain ⟨s, q, rfl⟩ : ∃ (s : Fin 8192) (q : Fin 3840), i = ix2 s q := ⟨i 0, i 1, eq_ix2 i⟩
      refine (congrFun e0 (ix2 s q)).trans (Eq.trans ?_ (result_dproj m hpre c s q (mask_column _ s q hi)))
      rw [← h0, ← h4, ← h5, ← h7]
    · refine (congrFun e1 i).trans (Eq.trans ?_ (congrFun (result_dwp m c) i))
      rw [← h0, ← h5, ← h7]
    · refine (congrFun e2 i).trans (Eq.trans ?_ (congrFun (result_dls m c) i))
      rw [← h0, ← h4, ← h7]

end Cert.Proof.Mix

end
-- ==== Proof.MixBwdSame.lean ====
module

public import proofs.«01_k».proof.Defs
public import proofs.«01_k».proof.Proof.Gen.MixBwd
public import proofs.«01_k».proof.Proof.MixBwdFrame

/-! The mixers' backward call: the kernel and the ideal kernel are one program, so one run frames both. -/

@[expose] public section

set_option maxRecDepth 16384
set_option maxHeartbeats 0
set_option Elab.async false

noncomputable section

open Idealize.ShloMosaic Idealize.ShloMosaic.TcCoe Idealize.SL.Sem

namespace Cert.Proof.Mix

variable {F : FTy → Type} [FloatOps F]

/-- The two bodies are one. -/
theorem same_body : Cert.MixBwd.defs₀ (F := F) = Cert.MixBwdIdeal.defs₀ (F := F) := by
  unfold Cert.MixBwd.defs₀ Cert.MixBwdIdeal.defs₀
  refine congrArg Defs.onTc (funext fun l => funext fun x => ?_)
  match l, x with
  | ⟨0, _⟩, (t, s) => exact rfl

theorem same_defs : Cert.MixBwd.defs (F := F) = Cert.MixBwdIdeal.defs (F := F) := by
  unfold Cert.MixBwd.defs Cert.MixBwdIdeal.defs
  rw [same_body]
  try rfl

/-- The host lines before the call are one. -/
theorem same_main : Cert.MixBwd.main (F := F) = Cert.MixBwdIdeal.main (F := F) := by exact rfl

theorem frame_kernel : Cert.quiescent_MixBwd := fun m ρ _ => by
  rw [same_main, same_defs]
  exact Cert.MixBwdIdeal.Whole.frame (F := Bits) m ρ

end Cert.Proof.Mix

end
-- ==== Proof.FwdProjKernel.lean ====
module

public import proofs.«01_k».proof.Proof.Gen.FwdProjIdeal.Value
public import proofs.«01_k».proof.Proof.Gen.FwdProjRefIdeal.Read
public import proofs.«01_k».proof.Proof.Norm
public import Idealize.ShloMosaic.Lib.Pipeline.ValueKit

/-! The input projection's forward call: its results and the reference's as functions of the arguments. -/

@[expose] public section

set_option maxRecDepth 16384

noncomputable section

open Idealize.ShloMosaic Idealize.ShloMosaic.TcCoe Idealize.SL.Sem
open Idealize.ShloMosaic.Pipeline (Dat)
open scoped BigOperators

namespace Cert.FwdProjIdeal.Value

open Cert.FwdProjIdeal Cert.FwdProjIdeal.Gen

/-- One entry of a row after the norm and the modulation: `x` the row, `g` the gain, `s` the scale, `b` the shift. -/
def h (x g s b : Fin 1024 → EReal) (l : Fin 1024) : EReal := x l * Norm.inv x * g l * (1 + s l) + b l

/-- The only row of an array of one row. -/
def vec (a : FVec Ideal S1x1024 .f32) (l : Fin 1024) : EReal := a (ix2 0 l)

/-- A row of an array of rows. -/
def rows (a : FVec Ideal S1x8192x1024 .f32) (r : Fin 8192) (l : Fin 1024) : EReal := a (ix3 0 r l)

/-- A row of a tile. -/
def brow (a : FVec Ideal S512x1024 .f32) (i : Fin 512) (l : Fin 1024) : EReal := a (ix2 i l)

/-- A row of the result, from the arguments. -/
def hRow (x : FVec Ideal S1x8192x1024 .f32) (g s b : FVec Ideal S1x1024 .f32) (r : Fin 8192) : Fin 1024 → EReal :=
  h (rows x r) (vec g) (vec s) (vec b)

/-- One entry of the projection, from the arguments. -/
def proj (x : FVec Ideal S1x8192x1024 .f32) (g s b : FVec Ideal S1x1024 .f32) (w : FVec Ideal S1x1024x3592 .f32) (r : Fin 8192)
    (n : Fin 3592) : EReal :=
  ∑ k, hRow x g s b r k * (w (ix3 0 k n) : EReal)

/-- One entry of the projection's columns before the gates. -/
def mainCols (x : FVec Ideal S1x8192x1024 .f32) (g s b : FVec Ideal S1x1024 .f32) (w : FVec Ideal S1x1024x3592 .f32) (r : Fin 8192)
    (n : Fin 3584) : EReal :=
  proj x g s b w r ⟨n, by omega⟩

/-- One entry of the projection's gates, zero behind the eight of them. -/
def gates (x : FVec Ideal S1x8192x1024 .f32) (g s b : FVec Ideal S1x1024 .f32) (w : FVec Ideal S1x1024x3592 .f32) (r : Fin 8192)
    (n : Fin 128) : EReal :=
  if h : n.val < 8 then proj x g s b w r ⟨3584 + n, by omega⟩ else 0

section blocks

variable (x0 : Vec Ideal S512x1024 .f32) (x1 x2 x3 : Vec Ideal S1x1024 .f32) (x4 : Vec Ideal S3840x1024 .bf16)

/-- A row after the norm and the modulation, from the blocks. -/
def bh (i : Fin 512) : Fin 1024 → EReal := h (brow x0 i) (vec x1) (vec x2) (vec x3)

/-- One entry of the projection, from the blocks. -/
def bproj (i : Fin 512) (n : Fin 3840) : EReal := ∑ k, bh x0 x1 x2 x3 i k * (x4 (ix2 n k) : EReal)

theorem piece7 (i : Fin 512) (l : Fin 1024) : (out0_7 x0 x1 x2 x3 x4 (ix2 i l) : EReal) = bh x0 x1 x2 x3 i l := by
  unfold_out out0_7
  canon_tiles y h
  all_goals
    obtain ⟨i, hi⟩ := i
    obtain ⟨l, hl⟩ := l
    change i = _ at h0
    change l = _ at h1
    subst h0 h1
    idx_vars y
    open_payloads
    pointwise
    rfl

theorem piece6 (i : Fin 512) (n : Fin 128) :
    (out0_6 x0 x1 x2 x3 x4 (ix2 i n) : EReal) = bproj x0 x1 x2 x3 x4 i ⟨3584 + n, by omega⟩ := by
  unfold_out out0_6
  canon_tiles y h
  all_goals
    obtain ⟨i, hi⟩ := i
    obtain ⟨n, hn⟩ := n
    change i = _ at h0
    change n = _ at h1
    subst h0 h1
    idx_vars y
    open_payloads
    pointwise
    rfl

theorem piece5 (i : Fin 512) (n : Fin 3584) :
    (out0_5 x0 x1 x2 x3 x4 (ix2 i n) : EReal) = bproj x0 x1 x2 x3 x4 i ⟨n, by omega⟩ := by
  unfold_out out0_5
  canon_tiles y h
  all_goals
    obtain ⟨i, hi⟩ := i
    obtain ⟨n, hn⟩ := n
    change i = _ at h0
    change n = _ at h1
    subst h0 h1
    idx_vars y
    open_payloads
    pointwise
    rfl

end blocks

/-! ## The blocks of the arguments -/

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- Row `i` of point `t`'s tile, among the rows of the whole sequence. -/
def row (t : Fin cfg0.N) (i : Fin 512) : Fin 8192 :=
  ⟨t.val * 512 + i.val, by have ht : t.val < 16 := lt_of_lt_of_eq t.isLt N_0; have hi := i.isLt; omega⟩

theorem V4 (c : Dev nD) : V m c main_v4 = shapeCast S8192x1024 (m ((c : Thread nD τ).loc main_arg0)) shapeCasts_S1x8192x1024_S8192x1024 := by
  simp only [V, List.flatten_cons, List.flatten_nil, List.append_nil, List.cons_append, List.nil_append]
  entry_read
  rfl

theorem V3 (c : Dev nD) : V m c main_v3 = pad S3840x1024 ![0, 0] ![248, 0] ![0, 0] (transpose S3592x1024 [1, 0] (truncf .bf16 (shapeCast S1024x3592 (m ((c : Thread nD τ).loc main_arg4)) shapeCasts_S1x1024x3592_S1024x3592 : FVec Ideal S1024x3592 .f32) bitsLt_bf16_f32) transposes_S1024x3592_S3592x1024_1_0 : FVec Ideal S3592x1024 .bf16) (sitofp (F := Ideal) .bf16 (constantI S_ 32 0#32)) pads_S3592x1024_S3840x1024_02480_000 h_S_ := by
  simp only [V, List.flatten_cons, List.flatten_nil, List.append_nil, List.cons_append, List.nil_append]
  entry_read
  rfl

theorem pad3 (x : FVec Ideal S1x1024x3592 .f32) (k : Fin 3840) (l : Fin 1024) :
    (pad S3840x1024 ![0, 0] ![248, 0] ![0, 0] (transpose S3592x1024 [1, 0] (truncf .bf16 (shapeCast S1024x3592 x shapeCasts_S1x1024x3592_S1024x3592 : FVec Ideal S1024x3592 .f32) bitsLt_bf16_f32) transposes_S1024x3592_S3592x1024_1_0 : FVec Ideal S3592x1024 .bf16) (sitofp (F := Ideal) .bf16 (constantI S_ 32 0#32)) pads_S3592x1024_S3840x1024_02480_000 h_S_ : FVec Ideal S3840x1024 .bf16) (ix2 k l)
      = if h : k.val < 3592 then x (ix3 0 l ⟨k, h⟩) else (0 : EReal) := by
  pointwise [Norm.sitofp_zero]

theorem blk0 (c : Dev nD) (t : Fin cfg0.N) (i : Fin 512) : brow (iblk m c 0 t) i = rows (m ((c : Thread nD τ).loc main_arg0)) (row t i) := by
  funext l
  refine Eq.trans ?_ ((congrFun (V4 m c) (ix2 (row t i) l)).trans (Norm.drop_unit _ _ (row t i) l))
  unfold brow
  blk_simp [iblk, idx t]
  refine congrArg (V m c main_v4) ?_
  blk_ext [idx t, row]

theorem blk4 (c : Dev nD) (t : Fin cfg0.N) (i : Fin 3840) (l : Fin 1024) :
    (iblk m c 4 t (ix2 i l) : EReal) = if h : i.val < 3592 then (m ((c : Thread nD τ).loc main_arg4) : FVec Ideal S1x1024x3592 .f32) (ix3 0 l ⟨i, h⟩) else (0 : EReal) := by
  refine Eq.trans ?_ ((congrFun (V3 m c) (ix2 i l)).trans (pad3 (m ((c : Thread nD τ).loc main_arg4)) i l))
  blk_simp [iblk, idx t]
  refine congrArg (V m c main_v3) ?_
  blk_ext [idx t]

theorem blk1 (c : Dev nD) (t : Fin cfg0.N) : vec (iblk m c 1 t) = vec (m ((c : Thread nD τ).loc main_arg1)) := by
  funext l
  unfold vec
  blk_simp [iblk, idx t]
  refine congrArg (m ((c : Thread nD τ).loc main_arg1)) ?_
  blk_ext [idx t]

theorem blk2 (c : Dev nD) (t : Fin cfg0.N) : vec (iblk m c 2 t) = vec (m ((c : Thread nD τ).loc main_arg2)) := by
  funext l
  unfold vec
  blk_simp [iblk, idx t]
  refine congrArg (m ((c : Thread nD τ).loc main_arg2)) ?_
  blk_ext [idx t]

theorem blk3 (c : Dev nD) (t : Fin cfg0.N) : vec (iblk m c 3 t) = vec (m ((c : Thread nD τ).loc main_arg3)) := by
  funext l
  unfold vec
  blk_simp [iblk, idx t]
  refine congrArg (m ((c : Thread nD τ).loc main_arg3)) ?_
  blk_ext [idx t]

/-- The arguments' rows and entries at a device. -/
abbrev hAt (c : Dev nD) := hRow (m ((c : Thread nD τ).loc main_arg0)) (m ((c : Thread nD τ).loc main_arg1))
  (m ((c : Thread nD τ).loc main_arg2)) (m ((c : Thread nD τ).loc main_arg3))
abbrev projAt (c : Dev nD) := proj (m ((c : Thread nD τ).loc main_arg0)) (m ((c : Thread nD τ).loc main_arg1))
  (m ((c : Thread nD τ).loc main_arg2)) (m ((c : Thread nD τ).loc main_arg3)) (m ((c : Thread nD τ).loc main_arg4))

theorem bh_at (c : Dev nD) (t : Fin cfg0.N) (i : Fin 512) :
    bh (iblk m c 0 t) (iblk m c 1 t) (iblk m c 2 t) (iblk m c 3 t) i = hAt m c (row t i) := by
  unfold bh hAt hRow
  rw [blk0, blk1, blk2, blk3]

theorem bproj_at (c : Dev nD) (t : Fin cfg0.N) (i : Fin 512) (n : Fin 3840) :
    bproj (iblk m c 0 t) (iblk m c 1 t) (iblk m c 2 t) (iblk m c 3 t) (iblk m c 4 t) i n
      = if h : n.val < 3592 then projAt m c (row t i) ⟨n, h⟩ else (0 : EReal) := by
  unfold bproj
  rw [bh_at]
  split
  · next h => exact Finset.sum_congr rfl fun k _ => congrArg (hAt m c (row t i) k * ·) ((blk4 m c t n k).trans (dif_pos h))
  · next h => exact Finset.sum_eq_zero fun k _ => (congrArg (hAt m c (row t i) k * ·) ((blk4 m c t n k).trans (dif_neg h))).trans (mul_zero _)

theorem emb5 (t : Fin cfg0.N) (y : ((cfg0.win 5).xblock (cfg0.grid.coords t)).Idx) (i : Fin 512) (l : Fin 3584) (h0 : (y 0).val = i.val) (h1 : (y 1).val = l.val) :
    (cfg0.win 5 |>.blk t).view.emb y = (ix2 (row t i) l : S8192x3584.Idx) := by
  blk_ext [idx t, row, h0, h1]

theorem emb6 (t : Fin cfg0.N) (y : ((cfg0.win 6).xblock (cfg0.grid.coords t)).Idx) (i : Fin 512) (l : Fin 128) (h0 : (y 0).val = i.val) (h1 : (y 1).val = l.val) :
    (cfg0.win 6 |>.blk t).view.emb y = (ix2 (row t i) l : S8192x128.Idx) := by
  blk_ext [idx t, row, h0, h1]

theorem emb7 (t : Fin cfg0.N) (y : ((cfg0.win 7).xblock (cfg0.grid.coords t)).Idx) (i : Fin 512) (l : Fin 1024) (h0 : (y 0).val = i.val) (h1 : (y 1).val = l.val) :
    (cfg0.win 7 |>.blk t).view.emb y = (ix2 (row t i) l : S8192x1024.Idx) := by
  blk_ext [idx t, row, h0, h1]

theorem final_7 (c : Dev nD) : (dats m 0 c).arrAt 7 cfg0.N = fun y => hAt m c (y 0) (y 1) := by
  refine (dats m 0 c).arrAt_eq_of_covers 7 _ (by decide +kernel) fun t hf y => ?_
  obtain ⟨i, l, e⟩ : ∃ (i : Fin 512) (l : Fin 1024), y = ix2 i l := ⟨y 0, y 1, eq_ix2 y⟩
  have e7 := emb7 t y i l (by rw [e]; rfl) (by rw [e]; rfl)
  blk_simp
  rw [after0_7]
  rw [e7, e]
  exact (piece7 _ _ _ _ _ i l).trans (congrFun (bh_at m c t i) l)

abbrev mainAt (c : Dev nD) := mainCols (m ((c : Thread nD τ).loc main_arg0)) (m ((c : Thread nD τ).loc main_arg1))
  (m ((c : Thread nD τ).loc main_arg2)) (m ((c : Thread nD τ).loc main_arg3)) (m ((c : Thread nD τ).loc main_arg4))
abbrev gatesAt (c : Dev nD) := gates (m ((c : Thread nD τ).loc main_arg0)) (m ((c : Thread nD τ).loc main_arg1))
  (m ((c : Thread nD τ).loc main_arg2)) (m ((c : Thread nD τ).loc main_arg3)) (m ((c : Thread nD τ).loc main_arg4))

theorem final_6 (c : Dev nD) : (dats m 0 c).arrAt 6 cfg0.N = fun y => gatesAt m c (y 0) (y 1) := by
  refine (dats m 0 c).arrAt_eq_of_covers 6 _ (by decide +kernel) fun t hf y => ?_
  obtain ⟨i, l, e⟩ : ∃ (i : Fin 512) (l : Fin 128), y = ix2 i l := ⟨y 0, y 1, eq_ix2 y⟩
  have e6 := emb6 t y i l (by rw [e]; rfl) (by rw [e]; rfl)
  blk_simp
  rw [after0_6]
  rw [e6, e]
  refine (piece6 _ _ _ _ _ i l).trans ((bproj_at m c t i _).trans ?_)
  show _ = gatesAt m c (row t i) l
  unfold gatesAt gates
  by_cases hl : l.val < 8
  · rw [dif_pos hl]
    exact dif_pos (show 3584 + l.val < 3592 by omega)
  · rw [dif_neg hl]
    exact dif_neg (show ¬3584 + l.val < 3592 by omega)

theorem final_5 (c : Dev nD) : (dats m 0 c).arrAt 5 cfg0.N = fun y => mainAt m c (y 0) (y 1) := by
  refine (dats m 0 c).arrAt_eq_of_covers 5 _ (by decide +kernel) fun t hf y => ?_
  obtain ⟨i, l, e⟩ : ∃ (i : Fin 512) (l : Fin 3584), y = ix2 i l := ⟨y 0, y 1, eq_ix2 y⟩
  have e5 := emb5 t y i l (by rw [e]; rfl) (by rw [e]; rfl)
  blk_simp
  rw [after0_5]
  rw [e5, e]
  exact (piece5 _ _ _ _ _ i l).trans ((bproj_at m c t i _).trans (dif_pos (show l.val < 3592 by omega)))

end Cert.FwdProjIdeal.Value

/-! ## The reference -/

namespace Cert.FwdProjRefIdeal.Read

open Cert.FwdProjIdeal.Value (h hRow proj mainCols gates rows vec)

variable (x0 : FVec Ideal S1x8192x1024 .f32) (x1 x2 x3 : FVec Ideal S1x1024 .f32) (x4 : FVec Ideal S1x1024x3592 .f32) (r : Fin 8192)

theorem read29 (l : Fin 1024) : (val_main_v29 (F := Ideal) x0 x1 x2 x3 (ix2 r l) : EReal) = hRow x0 x1 x2 x3 r l := by
  pointwise [val_main_v0, val_main_v1, val_main_cst, val_main_v2, val_main_v3, val_main_cst_0, val_main_v4, val_main_v5,
    val_main_cst_1, val_main_v6, val_main_v7, val_main_v8, val_main_v9, val_main_v10, val_main_v11, val_main_v12, val_main_v13,
    val_main_v14, val_main_cst_2, val_main_v15, val_main_v16, val_main_v17, val_main_v18, val_main_v19, val_main_v20, val_main_v21,
    val_main_v28, val_main_v29]
  rfl

theorem read24 (n : Fin 3592) : (val_main_v24 (F := Ideal) x0 x1 x2 x3 x4 (ix2 r n) : EReal) = proj x0 x1 x2 x3 x4 r n := by
  pointwise [val_main_v0, val_main_v1, val_main_cst, val_main_v2, val_main_v3, val_main_cst_0, val_main_v4, val_main_v5,
    val_main_cst_1, val_main_v6, val_main_v7, val_main_v8, val_main_v9, val_main_v10, val_main_v11, val_main_v12, val_main_v13,
    val_main_v14, val_main_cst_2, val_main_v15, val_main_v16, val_main_v17, val_main_v18, val_main_v19, val_main_v20, val_main_v21,
    val_main_v22, val_main_v23, val_main_v24]
  rfl

theorem read25 (n : Fin 3584) :
    (val_main_v25 (F := Ideal) x0 x1 x2 x3 x4 (ix2 r n) : EReal) = mainCols x0 x1 x2 x3 x4 r n := by
  refine Eq.trans ?_ (read24 x0 x1 x2 x3 x4 r ⟨n, by omega⟩)
  generalize e : val_main_v24 (F := Ideal) x0 x1 x2 x3 x4 = z
  unfold val_main_v25
  rw [e]
  pointwise

theorem read27 (n : Fin 128) :
    (val_main_v27 (F := Ideal) x0 x1 x2 x3 x4 (ix2 r n) : EReal)
      = gates x0 x1 x2 x3 x4 r n := by
  have z0 : (FloatOps.sitofp .f32 0#32 : Ideal .f32) = (0 : EReal) := by simp [FloatOps.sitofp]
  refine Eq.trans (b := if h : n.val < 8 then (val_main_v24 (F := Ideal) x0 x1 x2 x3 x4 (ix2 r ⟨3584 + n, by omega⟩) : EReal) else (0 : EReal)) ?_ ?_
  · generalize e : val_main_v24 (F := Ideal) x0 x1 x2 x3 x4 = z
    unfold val_main_v27 val_main_v26
    rw [e]
    pointwise [val_main_c, val_main_call0_v0, z0]
  · unfold gates
    split
    · exact read24 x0 x1 x2 x3 x4 r _
    · rfl

theorem all25 : val_main_v25 (F := Ideal) x0 x1 x2 x3 x4 = fun y => mainCols x0 x1 x2 x3 x4 (y 0) (y 1) := by
  funext y
  obtain ⟨r, l, e⟩ : ∃ (r : Fin 8192) (l : Fin 3584), y = ix2 r l := ⟨y 0, y 1, eq_ix2 y⟩
  rw [e]
  exact read25 x0 x1 x2 x3 x4 r l

theorem all27 : val_main_v27 (F := Ideal) x0 x1 x2 x3 x4 = fun y => gates x0 x1 x2 x3 x4 (y 0) (y 1) := by
  funext y
  obtain ⟨r, l, e⟩ : ∃ (r : Fin 8192) (l : Fin 128), y = ix2 r l := ⟨y 0, y 1, eq_ix2 y⟩
  rw [e]
  exact read27 x0 x1 x2 x3 x4 r l

theorem all29 : val_main_v29 (F := Ideal) x0 x1 x2 x3 = fun y => hRow x0 x1 x2 x3 (y 0) (y 1) := by
  funext y
  obtain ⟨r, l, e⟩ : ∃ (r : Fin 8192) (l : Fin 1024), y = ix2 r l := ⟨y 0, y 1, eq_ix2 y⟩
  rw [e]
  exact read29 x0 x1 x2 x3 r l

end Cert.FwdProjRefIdeal.Read
-- ==== Proof.FwdProjClaim.lean ====
module

public import proofs.«01_k».proof.Defs
public import proofs.«01_k».proof.Proof.FwdProjKernel
public import proofs.«01_k».proof.Proof.Gen.FwdProj.Frame
public import proofs.«01_k».proof.Proof.Gen.FwdProjIdeal.Frame

/-! The input projection's forward call: its claims. -/

@[expose] public section

noncomputable section

open Idealize.ShloMosaic Idealize.ShloMosaic.TcCoe Idealize.SL.Sem

namespace Cert.Proof.Fwd

theorem frame_ideal : Cert.quiescent_FwdProjIdeal := fun m ρ _ => Cert.FwdProjIdeal.Gen.frame m ρ

theorem frame_kernel : Cert.quiescent_FwdProj := fun m ρ _ => Cert.FwdProj.Gen.frame m ρ

theorem frame_reference : Cert.quiescent_FwdProjRefIdeal := fun m ρ _ =>
  (θ_run Cert.FwdProjRefIdeal.defs _ _).mono (fun r h => ⟨fun c => (h c).2.2.2, sem_eq_zero_of_no_sems rfl r.2⟩)
    (Cert.FwdProjRefIdeal.Value.run m ρ)

open Cert.FwdProjRefIdeal.Read in
/-- The ideal kernel and the reference return the same projection, gates and modulated norm. -/
theorem algebraic : Cert.algebraic_FwdProjIdeal_FwdProjRefIdeal := by
  pair_intro
  · run_from Cert.FwdProjIdeal.Value.run_blocks m g
  · run_from Cert.FwdProjRefIdeal.Value.run m' g'
    · exact (val_main_v25_eq _ _ _ _ _).trans ((all25 _ _ _ _ _).trans (Cert.FwdProjIdeal.Value.final_5 m c).symm)
    · exact (val_main_v27_eq _ _ _ _ _).trans ((all27 _ _ _ _ _).trans (Cert.FwdProjIdeal.Value.final_6 m c).symm)
    · exact (val_main_v29_eq _ _ _ _).trans ((all29 _ _ _ _).trans (Cert.FwdProjIdeal.Value.final_7 m c).symm)

end Cert.Proof.Fwd
-- ==== Proof.MixFwdRun.lean ====
module

public import proofs.«01_k».proof.Defs
public import proofs.«01_k».proof.Proof.Gen.MixFwd
public import proofs.«01_k».proof.Proof.Gen.MixFwdIdeal.Frame

/-! The mixers' forward call: its run, of the kernel and of the ideal kernel, which are one program. -/

@[expose] public section

set_option maxRecDepth 16384
set_option maxHeartbeats 0
set_option Elab.async false

noncomputable section

open Idealize.ShloMosaic Idealize.ShloMosaic.TcCoe Idealize.SL.Sem

namespace Cert.Proof.MixF

variable {F : FTy → Type} [FloatOps F]

/-- The two bodies are one. -/
theorem same_body : Cert.MixFwd.defs₀ (F := F) = Cert.MixFwdIdeal.defs₀ (F := F) := by
  unfold Cert.MixFwd.defs₀ Cert.MixFwdIdeal.defs₀
  refine congrArg Defs.onTc (funext fun l => funext fun x => ?_)
  match l, x with
  | ⟨0, _⟩, (t, s) => exact rfl

theorem same_defs : Cert.MixFwd.defs (F := F) = Cert.MixFwdIdeal.defs (F := F) := by
  unfold Cert.MixFwd.defs Cert.MixFwdIdeal.defs
  rw [same_body]
  try rfl

/-- The host lines before the call are one. -/
theorem same_main : Cert.MixFwd.main (F := F) = Cert.MixFwdIdeal.main (F := F) := by exact rfl

theorem frame_kernel : Cert.quiescent_MixFwd := fun m ρ _ => by
  rw [same_main, same_defs]
  exact Cert.MixFwdIdeal.Gen.frame (F := Bits) m ρ

theorem frame_ideal : Cert.quiescent_MixFwdIdeal := fun m ρ _ => Cert.MixFwdIdeal.Gen.frame m ρ

end Cert.Proof.MixF

namespace Cert.MixFwdIdeal.Value

open Cert.MixFwdIdeal Cert.MixFwdIdeal.Gen

variable {F : FTy → Type} [FloatOps F]
variable (m : (ℓ : Loc nD τ sig) → Buf (Elt F) ℓ) (ρ : Dev nD → PrngReg)

theorem run_blocks : θ_run defs (onTc (τ := τ) (main (F := F))) ⟨m, fun _ => 0, ρ⟩ (fun r => ∀ c : Dev nD,
      r.2.mem ((c.tc : Thread nD τ).loc main_v8_0) = (dats m 0 c).arrAt 14 cfg0.N
      ∧ r.2.mem ((c.tc : Thread nD τ).loc main_v8_4) = (dats m 0 c).arrAt 18 cfg0.N
      ∧ r.2.mem ((c.tc : Thread nD τ).loc main_v8_5) = (dats m 0 c).arrAt 19 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1 14, (h c).1 18, (h c).1 19,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 10).trans (((dats m 0 c).arrAt_in 10 rfl _).trans ((A_eq m c 10).trans (V_main_arg3 m c))),
      ((h c).2 main_arg4 (Pipeline.mem_restRefs_of main_arg4 (by decide) (by decide))).trans (V_main_arg4 m c),
      ((h c).1 12).trans (((dats m 0 c).arrAt_in 12 rfl _).trans ((A_eq m c 12).trans (V_main_arg5 m c))),
      ((h c).1 13).trans (((dats m 0 c).arrAt_in 13 rfl _).trans ((A_eq m c 13).trans (V_main_arg6 m c)))⟩) (run_main m ρ)

end Cert.MixFwdIdeal.Value

end
-- ==== Proof.MixFwdPay.lean ====
module

public import proofs.«01_k».proof.Proof.Gen.MixFwdIdeal.Skeleton
public import proofs.«01_k».proof.Proof.PoolGrad
public import Idealize.ShloMosaic.Lib.Pipeline.ValueKit
/-! The mixers' forward call: what the lines of the pooling mixer and of the convolution compute. -/

@[expose] public section

set_option maxRecDepth 16384

noncomputable section

open Idealize.ShloMosaic Idealize.ShloMosaic.TcCoe
open scoped BigOperators

namespace Cert.MixFwdIdeal.Pay

open Cert.MixFwdIdeal Cert.MixFwdIdeal.Gen

/-! ## Rows behind -/

section rows

variable {M N A : ℕ}

/-- A rotation that brings the row `k` behind. -/
theorem rot (x : FVec Ideal ⟨2, ![M, N]⟩ .f32) (n : BitVec 32) (h) (hn : n.toNat < M) (r : Fin M) (c : Fin N) (hr : n.toNat ≤ r.val) :
    dynamicRotate 0 n none x h (ix2 r c) = x (ix2 ⟨r.val - n.toNat, by have := r.isLt; omega⟩ c) := by
  have hM := r.isLt
  unfold dynamicRotate
  refine congrArg x (funext fun b => ?_)
  match b with
  | 0 =>
    refine (if_pos rfl).trans (Fin.ext ?_)
    show (r.val + M - (n.toNat + 0) % M) % M = r.val - n.toNat
    rw [Nat.add_zero, Nat.mod_eq_of_lt hn, show r.val + M - n.toNat = (r.val - n.toNat) + M by omega, Nat.add_mod_right,
      Nat.mod_eq_of_lt (by omega)]
  | 1 => exact if_neg (by simp)

/-- A sum over `a` rows behind and the same sum further behind. -/
theorem double (x : FVec Ideal ⟨2, ![M, N]⟩ .f32) (n : BitVec 32) (h) (a : ℕ) (hn : n.toNat < M) (c : Fin N) (X : ℕ → EReal)
    (hx : ∀ r : Fin M, a ≤ r.val → (x (ix2 r c) : EReal) = X r) (r : Fin M) (hr : n.toNat + a ≤ r.val) :
    (addf x (dynamicRotate 0 n none x h) (ix2 r c) : EReal) = X r + X (r.val - n.toNat) := by
  show (x (ix2 r c) : EReal) + dynamicRotate 0 n none x h (ix2 r c) = _
  rw [rot x n h hn r c (by omega), hx r (by omega), hx ⟨r.val - n.toNat, by have := r.isLt; omega⟩ (by show a ≤ r.val - n.toNat; omega)]

/-- Rows from the row `o` on. -/
theorem slice (o : ℕ) (x : FVec Ideal ⟨2, ![M, N]⟩ .f32) (h : (⟨2, ![M, N]⟩ : Shape).Slices ![o, 0] ⟨2, ![A, N]⟩) (i : Fin A) (c : Fin N) (r : Fin M)
    (hr : r.val = o + i.val) : extractStridedSlice ⟨2, ![A, N]⟩ ![o, 0] x h (ix2 i c) = x (ix2 r c) := by
  refine congrArg x (funext fun b => ?_)
  match b with
  | 0 => exact Fin.ext hr.symm
  | 1 => exact Fin.ext (Nat.zero_add _)

end rows

/-! ## The sums over the rows behind -/

section sums

variable (x : FVec Ideal S528x128 .f32) (c : Fin 128) (X : ℕ → EReal) (hx : ∀ r : Fin 528, (x (ix2 r c) : EReal) = X r) (i : Fin 512)

/-- The sum over two rows. -/
def s2 (x : FVec Ideal S528x128 .f32) : FVec Ideal S528x128 .f32 := addf x (dynamicRotate 0 1#32 none x rotates_S528x128_d0)
/-- The sum over four rows. -/
def s4 (x : FVec Ideal S528x128 .f32) : FVec Ideal S528x128 .f32 := addf (s2 x) (dynamicRotate 0 2#32 none (s2 x) rotates_S528x128_d0)
/-- The sum over eight rows. -/
def s8 (x : FVec Ideal S528x128 .f32) : FVec Ideal S528x128 .f32 := addf (s4 x) (dynamicRotate 0 4#32 none (s4 x) rotates_S528x128_d0)
/-- The sum over sixteen rows. -/
def s16 (x : FVec Ideal S528x128 .f32) : FVec Ideal S528x128 .f32 := addf (s8 x) (dynamicRotate 0 8#32 none (s8 x) rotates_S528x128_d0)
/-- The rows of the tile. -/
def cut (x : FVec Ideal S528x128 .f32) : FVec Ideal S512x128 .f32 := extractStridedSlice S512x128 ![16, 0] x slices_S528x128_o16_0_S512x128

def X2 (X : ℕ → EReal) (r : ℕ) : EReal := X r + X (r - 1)
def X4 (X : ℕ → EReal) (r : ℕ) : EReal := X2 X r + X2 X (r - 2)
def X8 (X : ℕ → EReal) (r : ℕ) : EReal := X4 X r + X4 X (r - 4)
def X16 (X : ℕ → EReal) (r : ℕ) : EReal := X8 X r + X8 X (r - 8)

include hx

theorem at2 (r : Fin 528) (h : 1 ≤ r.val) : (s2 x (ix2 r c) : EReal) = X2 X r :=
  double x 1#32 rotates_S528x128_d0 0 (by decide) c X (fun r _ => hx r) r h
theorem at4 (r : Fin 528) (h : 3 ≤ r.val) : (s4 x (ix2 r c) : EReal) = X4 X r :=
  double (s2 x) 2#32 rotates_S528x128_d0 1 (by decide) c (X2 X) (at2 x c X hx) r h
theorem at8 (r : Fin 528) (h : 7 ≤ r.val) : (s8 x (ix2 r c) : EReal) = X8 X r :=
  double (s4 x) 4#32 rotates_S528x128_d0 3 (by decide) c (X4 X) (at4 x c X hx) r h
theorem at16 (r : Fin 528) (h : 15 ≤ r.val) : (s16 x (ix2 r c) : EReal) = X16 X r :=
  double (s8 x) 8#32 rotates_S528x128_d0 7 (by decide) c (X8 X) (at8 x c X hx) r h

theorem sum2 : (cut (s2 x) (ix2 i c) : EReal) = ∑ n ∈ Finset.range 2, X (16 + i.val - n) := by
  refine (slice 16 _ slices_S528x128_o16_0_S512x128 i c ⟨16 + i.val, by omega⟩ rfl).trans ((at2 x c X hx _ (by show 1 ≤ 16 + i.val; omega)).trans ?_)
  simp only [X2, Finset.sum_range_succ, Finset.sum_range_zero, zero_add, Nat.sub_zero]
theorem sum4 : (cut (s4 x) (ix2 i c) : EReal) = ∑ n ∈ Finset.range 4, X (16 + i.val - n) := by
  refine (slice 16 _ slices_S528x128_o16_0_S512x128 i c ⟨16 + i.val, by omega⟩ rfl).trans ((at4 x c X hx _ (by show 3 ≤ 16 + i.val; omega)).trans ?_)
  simp only [X4, X2, Finset.sum_range_succ, Finset.sum_range_zero, zero_add, Nat.sub_zero, Nat.sub_sub, add_assoc, Nat.reduceAdd]
theorem sum8 : (cut (s8 x) (ix2 i c) : EReal) = ∑ n ∈ Finset.range 8, X (16 + i.val - n) := by
  refine (slice 16 _ slices_S528x128_o16_0_S512x128 i c ⟨16 + i.val, by omega⟩ rfl).trans ((at8 x c X hx _ (by show 7 ≤ 16 + i.val; omega)).trans ?_)
  simp only [X8, X4, X2, Finset.sum_range_succ, Finset.sum_range_zero, zero_add, Nat.sub_zero, Nat.sub_sub, add_assoc, Nat.reduceAdd]
theorem sum16 : (cut (s16 x) (ix2 i c) : EReal) = ∑ n ∈ Finset.range 16, X (16 + i.val - n) := by
  refine (slice 16 _ slices_S528x128_o16_0_S512x128 i c ⟨16 + i.val, by omega⟩ rfl).trans ((at16 x c X hx _ (by show 15 ≤ 16 + i.val; omega)).trans ?_)
  simp only [X16, X8, X4, X2, Finset.sum_range_succ, Finset.sum_range_zero, zero_add, Nat.sub_zero, Nat.sub_sub, add_assoc, Nat.reduceAdd]

end sums

/-! ## The rows a window holds -/

/-- The word that the window's rows are counted in. -/
theorem word (t r w : ℕ) (ht : t < 16) (hr : r < 512) (hw : w ≤ 16) :
    (IntOp.minsi (IntOp.addi (IntOp.addi (IntOp.muli (BitVec.ofNat 32 t) 512#32) (BitVec.ofNat 32 r)) 1#32) (BitVec.ofNat 32 w)).toInt
      = (min (t * 512 + r + 1) w : ℕ) := by
  have e : IntOp.addi (IntOp.addi (IntOp.muli (BitVec.ofNat 32 t) 512#32) (BitVec.ofNat 32 r)) 1#32
      = BitVec.ofNat 32 (t * 512 + r + 1) := by
    show BitVec.ofNat 32 t * 512#32 + BitVec.ofNat 32 r + 1#32 = _
    apply BitVec.eq_of_toNat_eq
    simp only [BitVec.toNat_add, BitVec.toNat_mul, BitVec.toNat_ofNat]
    omega
  rw [e]
  have i1 : (BitVec.ofNat 32 (t * 512 + r + 1)).toInt = (t * 512 + r + 1 : ℕ) := by
    rw [BitVec.toInt_eq_toNat_of_lt (by rw [BitVec.toNat_ofNat]; omega), BitVec.toNat_ofNat]; omega
  have i2 : (BitVec.ofNat 32 w).toInt = (w : ℕ) := by
    rw [BitVec.toInt_eq_toNat_of_lt (by rw [BitVec.toNat_ofNat]; omega), BitVec.toNat_ofNat]; omega
  unfold IntOp.minsi
  simp only [BitVec.slt, BitVec.sle, i1, i2]
  split <;> rename_i h <;> simp only [decide_eq_true_eq] at h <;> omega

/-- A real number's reciprocal from the word that counts it. -/
theorem recip {n : ℤ} {a : ℕ} (h : n = (a : ℕ)) (r : ℝ) (hr : r = a) : Ideal.div 1 (((n : ℤ) : ℝ) : EReal) = Ideal.div 1 (r : EReal) := by
  rw [h, hr]
  norm_num

/-! ## The means -/

section means

variable (co : grid0.Coords) (x : FVec Ideal S528x128 .f32) (u : FVec Ideal S512x128 .f32) (i : Fin 512) (k : Fin 128) (r : ℝ)

theorem mean_0 (hr : r = (min ((co 0).val * 512 + i.val + 1) 2 : ℕ)) (ht : (co 0).val < 16) :
    (k0_pay9 (F := Ideal) (k0_pay7 co x) (k0_pay8 u) (ix2 i k) : EReal) = (cut (s2 x) (ix2 i k) : EReal) * Ideal.div 1 (r : EReal) - (u (ix2 i k) : EReal) := by
  rw [← recip (word (co 0).val i.val 2 ht i.isLt (by norm_num)) r hr]
  unfold k0_pay9 k0_pay7 k0_pay8
  try dsimp only
  change _ = ((extractStridedSlice S512x128 ![16, 0] (addf x (dynamicRotate 0 1#32 none x rotates_S528x128_d0)) slices_S528x128_o16_0_S512x128 (ix2 i k)) : EReal) * _ - _
  generalize extractStridedSlice S512x128 ![16, 0] (addf x (dynamicRotate 0 1#32 none x rotates_S528x128_d0)) slices_S528x128_o16_0_S512x128 = v
  pointwise
  rfl

theorem mean_1 (t : ℕ) (hr : r = (min (t * 512 + i.val + 1) 4 : ℕ)) (ht : t < 16) :
    (k0_pay12 (F := Ideal) (k0_pay11 (BitVec.ofNat 32 t) x) u (ix2 i k) : EReal) = (cut (s4 x) (ix2 i k) : EReal) * Ideal.div 1 (r : EReal) - (u (ix2 i k) : EReal) := by
  rw [← recip (word t i.val 4 ht i.isLt (by norm_num)) r hr]
  have e : cut (s4 x) = extractStridedSlice S512x128 ![16, 0] (addf (addf x (dynamicRotate 0 1#32 none x rotates_S528x128_d0)) (dynamicRotate 0 2#32 none (addf x (dynamicRotate 0 1#32 none x rotates_S528x128_d0)) rotates_S528x128_d0)) slices_S528x128_o16_0_S512x128 := rfl
  unfold k0_pay12 k0_pay11
  try dsimp only
  rw [← e]
  generalize cut (s4 x) = v
  pointwise
  rfl

theorem mean_2 (t : ℕ) (hr : r = (min (t * 512 + i.val + 1) 8 : ℕ)) (ht : t < 16) :
    (k0_pay17 (F := Ideal) (k0_pay14 x) (k0_pay15 (BitVec.ofNat 32 t)) k0_pay16 u (ix2 i k) : EReal)
      = (cut (s8 x) (ix2 i k) : EReal) * Ideal.div 1 (r : EReal) - (u (ix2 i k) : EReal) := by
  rw [← recip (word t i.val 8 ht i.isLt (by norm_num)) r hr]
  have e : k0_pay14 x = cut (s8 x) := rfl
  rw [e]
  generalize cut (s8 x) = v
  unfold k0_pay17 k0_pay15 k0_pay16
  try dsimp only
  pointwise
  rfl

theorem mean_3 (t : ℕ) (hr : r = (min (t * 512 + i.val + 1) 16 : ℕ)) (ht : t < 16) :
    (k0_pay21 (F := Ideal) (k0_pay19 x) (k0_pay20 (BitVec.ofNat 32 t)) 1#32 u (ix2 i k) : EReal)
      = (cut (s16 x) (ix2 i k) : EReal) * Ideal.div 1 (r : EReal) - (u (ix2 i k) : EReal) := by
  rw [← recip (word t i.val 16 ht i.isLt (by norm_num)) r hr]
  have e : k0_pay19 x = cut (s16 x) := rfl
  rw [e]
  generalize cut (s16 x) = v
  unfold k0_pay21 k0_pay20
  try dsimp only
  pointwise
  rfl

end means

/-! ## The gated product -/

section gated

variable (w : Vec Ideal S1x128x128 .f32) (l : Vec Ideal S1x128 .f32) (z : Vec Ideal S512x128 .f32) (i : Fin 512) (k : Fin 128)

/-- The gated, scaled group product of pooled rows. -/
def gated (p : FVec Ideal S512x128 .bf16) : EReal :=
  (∑ c, (p (ix2 i c) : EReal) * (w (ix3 0 c k) : EReal)) * (l (ix2 0 k) : EReal) * ((z (ix2 i k) : EReal) * PoolGrad.sig (z (ix2 i k)))

theorem gated_0 (a b) : (k0_pay10 a b w l z (ix2 i k) : EReal) = gated w l z i k (k0_pay9 a b) := by
  unfold k0_pay10; try dsimp only
  generalize k0_pay9 a b = p; pointwise; rfl
theorem gated_1 (a b) : (k0_pay13 a b w l z (ix2 i k) : EReal) = gated w l z i k (k0_pay12 a b) := by
  unfold k0_pay13; try dsimp only
  generalize k0_pay12 a b = p; pointwise; rfl
theorem gated_2 (a b c d) : (k0_pay18 a b c d w l z (ix2 i k) : EReal) = gated w l z i k (k0_pay17 a b c d) := by
  unfold k0_pay18; try dsimp only
  generalize k0_pay17 a b c d = p; pointwise; rfl
theorem gated_3 (a b c d) : (k0_pay22 a b c d w l z (ix2 i k) : EReal) = gated w l z i k (k0_pay21 a b c d) := by
  unfold k0_pay22; try dsimp only
  generalize k0_pay21 a b c d = p; pointwise; rfl

end gated

/-! ## The convolution -/

section conv

variable (b : Vec Ideal S1x256 .f32) (x : Vec Ideal S520x256 .f32) (w0 w1 w2 w3 : Vec Ideal S1x256 .f32) (i : Fin 512) (l : Fin 256)

/-- The convolution over a tile's rows and the eight rows before it. -/
def taps : EReal :=
  (b (ix2 0 l) : EReal) + (w0 (ix2 0 l) : EReal) * (x (ix2 ⟨5 + i.val, by omega⟩ l) : EReal) + (w1 (ix2 0 l) : EReal) * (x (ix2 ⟨6 + i.val, by omega⟩ l) : EReal)
    + (w2 (ix2 0 l) : EReal) * (x (ix2 ⟨7 + i.val, by omega⟩ l) : EReal) + (w3 (ix2 0 l) : EReal) * (x (ix2 ⟨8 + i.val, by omega⟩ l) : EReal)

theorem lag (n : BitVec 32) (hn : n.toNat ≤ 8) (r : Fin 520) (hr : r.val + n.toNat = 8 + i.val) :
    (extractStridedSlice S512x256 ![8, 0] (dynamicRotate 0 n none x rotates_S520x256_d0) slices_S520x256_o8_0_S512x256 (ix2 i l) : EReal) = x (ix2 r l) := by
  refine (slice 8 _ slices_S520x256_o8_0_S512x256 i l ⟨8 + i.val, by omega⟩ rfl).trans ((rot x n _ (by omega) _ l (by show n.toNat ≤ 8 + i.val; omega)).trans ?_)
  exact congrArg (fun r => x (ix2 r l)) (Fin.ext (by show 8 + i.val - n.toNat = r.val; omega))

theorem here (r : Fin 520) (hr : r.val = 8 + i.val) :
    (extractStridedSlice S512x256 ![8, 0] x slices_S520x256_o8_0_S512x256 (ix2 i l) : EReal) = x (ix2 r l) :=
  slice 8 x slices_S520x256_o8_0_S512x256 i l r hr

theorem taps_of (a3 a2 a1 a0 : FVec Ideal S512x256 .f32)
    (h3 : a3 = extractStridedSlice S512x256 ![8, 0] (dynamicRotate 0 3#32 none x rotates_S520x256_d0) slices_S520x256_o8_0_S512x256)
    (h2 : a2 = extractStridedSlice S512x256 ![8, 0] (dynamicRotate 0 2#32 none x rotates_S520x256_d0) slices_S520x256_o8_0_S512x256)
    (h1 : a1 = extractStridedSlice S512x256 ![8, 0] (dynamicRotate 0 1#32 none x rotates_S520x256_d0) slices_S520x256_o8_0_S512x256)
    (h0 : a0 = extractStridedSlice S512x256 ![8, 0] x slices_S520x256_o8_0_S512x256) :
    (k0_pay36 b a3 a2 a1 a0 w0 w1 w2 w3 (ix2 i l) : EReal) = taps b x w0 w1 w2 w3 i l := by
  have e3 := lag x i l 3#32 (by decide) ⟨5 + i.val, by omega⟩ (by show 5 + i.val + 3 = 8 + i.val; omega)
  have e2 := lag x i l 2#32 (by decide) ⟨6 + i.val, by omega⟩ (by show 6 + i.val + 2 = 8 + i.val; omega)
  have e1 := lag x i l 1#32 (by decide) ⟨7 + i.val, by omega⟩ (by show 7 + i.val + 1 = 8 + i.val; omega)
  have e0 := here x i l ⟨8 + i.val, by omega⟩ rfl
  rw [← h3] at e3
  rw [← h2] at e2
  rw [← h1] at e1
  rw [← h0] at e0
  unfold taps
  rw [← e3, ← e2, ← e1, ← e0]
  unfold k0_pay36
  clear e3 e2 e1 e0 h3 h2 h1 h0
  pointwise

theorem taps_0 : (k0_pay25 b x w0 w1 w2 w3 (ix2 i l) : EReal) = taps b x w0 w1 w2 w3 i l :=
  taps_of b x w0 w1 w2 w3 i l _ _ _ _ rfl rfl rfl rfl
theorem taps_1 : (k0_pay27 b x w0 w1 w2 w3 (ix2 i l) : EReal) = taps b x w0 w1 w2 w3 i l :=
  taps_of b x w0 w1 w2 w3 i l _ _ _ _ rfl rfl rfl rfl
theorem taps_2 : (k0_pay30 b x (k0_pay29 x) w0 w1 w2 w3 (ix2 i l) : EReal) = taps b x w0 w1 w2 w3 i l :=
  taps_of b x w0 w1 w2 w3 i l _ _ _ _ rfl rfl rfl rfl
theorem taps_3 : (k0_pay36 b (k0_pay32 x) (k0_pay33 x) (k0_pay34 x) (k0_pay35 x) w0 w1 w2 w3 (ix2 i l) : EReal) = taps b x w0 w1 w2 w3 i l :=
  taps_of b x w0 w1 w2 w3 i l _ _ _ _ rfl rfl rfl rfl

end conv

/-! ## What is staged -/

section staged

theorem keep_u (v : Vec Ideal S512x512 .f32) (i q : Fin 512) : (k0_pay6 v (ix2 i q) : EReal) = v (ix2 i q) := by open_payloads; pointwise
theorem keep_x (v : Vec Ideal S512x1024 .f32) (i : Fin 512) (q : Fin 1024) : (k0_pay24 v (ix2 i q) : EReal) = v (ix2 i q) := by
  open_payloads; pointwise
theorem front_u (co : grid0.Coords) (v : Vec Ideal S16x512 .f32) (i : Fin 16) (q : Fin 512) (ht : (co 0).val < 16) :
    (k0_pay5 co v (ix2 i q) : EReal) = if (co 0).val = 0 then 0 else v (ix2 i q) := by
  unfold k0_pay5
  try dsimp only
  by_cases h : (co 0).val = 0
  · rw [if_pos h, h]
    have e : Scalar.cmpi .eq (BitVec.ofNat 32 0) 0#32 = 1#1 := by decide
    rw [e]
    pointwise
  · rw [if_neg h]
    have e : Scalar.cmpi .eq (BitVec.ofNat 32 (co 0).val) 0#32 = 0#1 := by
      generalize (co 0).val = n at h ht; interval_cases n <;> first | contradiction | decide
    rw [e]
    pointwise
theorem front_x (t : ℕ) (v : Vec Ideal S8x1024 .f32) (i : Fin 8) (q : Fin 1024) (ht : t < 16) :
    (k0_pay23 (Scalar.cmpi .eq (BitVec.ofNat 32 t) 0#32) v (ix2 i q) : EReal) = if t = 0 then 0 else v (ix2 i q) := by
  unfold k0_pay23
  try dsimp only
  by_cases h : t = 0
  · rw [if_pos h, h]
    have e : Scalar.cmpi .eq (BitVec.ofNat 32 0) 0#32 = 1#1 := by decide
    rw [e]
    pointwise
  · rw [if_neg h]
    have e : Scalar.cmpi .eq (BitVec.ofNat 32 t) 0#32 = 0#1 := by
      interval_cases t <;> first | contradiction | decide
    rw [e]
    pointwise

end staged

end Cert.MixFwdIdeal.Pay

end
-- ==== Proof.MixFwdRef.lean ====
module

public import proofs.«01_k».proof.Proof.PoolGrad
public import proofs.«01_k».proof.Proof.Gen.MixFwdRefIdeal.Read

/-! The mixers' forward call: the reference's trailing means, its pooling mixer's half and its convolution as functions of
the arguments. -/

@[expose] public section

set_option maxRecDepth 16384

noncomputable section

open Idealize.ShloMosaic Idealize.ShloMosaic.TcCoe Idealize.SL.Sem
open scoped BigOperators

namespace Cert.PoolSum

/-! ## Sums over the rows behind -/

/-- The sum over the `w` rows that end at row `s`, none before the first. -/
def behind {N : ℕ} (U : Fin N → EReal) (w s : ℕ) : EReal := ∑ n ∈ Finset.range w, if n ≤ s then ext U (s - n) else 0

/-- The sum up to a row, from the window's positions. -/
theorem behind_positions (f : ℕ → EReal) (M r : ℕ) (hr : r ≤ M) :
    ∑ k ∈ Finset.range (M + 1), (if M ≤ r + k then f (r + k - M) else 0) = ∑ n ∈ Finset.range (r + 1), f n := by
  have e : M + 1 = (M - r) + (r + 1) := by omega
  rw [e, Finset.sum_range_add]
  have z : ∑ k ∈ Finset.range (M - r), (if M ≤ r + k then f (r + k - M) else 0) = 0 := Finset.sum_eq_zero fun k hk => by
    have := Finset.mem_range.mp hk
    rw [if_neg (by omega)]
  rw [z, zero_add]
  refine Finset.sum_congr rfl fun k _ => ?_
  rw [if_pos (by omega)]
  exact congrArg f (by omega)

/-- The sum up to a row, as the host prints it. -/
theorem rows_behind {N M a b : ℕ} (hM : M + 1 = N)
    (h : (⟨4, ![1, N, a, b]⟩ : Shape).ReduceWindows ![1, N, 1, 1] ![1, 1, 1, 1] ![0, M, 0, 0] ![0, 0, 0, 0] ⟨4, ![1, N, a, b]⟩)
    (x : (⟨4, ![1, N, a, b]⟩ : Shape).Idx → EReal) (r : Fin N) (i : Fin a) (k : Fin b) :
    Ideal.hostReduceWindowAdd ![1, N, 1, 1] ![1, 1, 1, 1] ![0, M, 0, 0] ![0, 0, 0, 0] h x 0 (ix4 0 r i k)
      = ∑ n ∈ Finset.range (r.val + 1), ext (fun t => x (ix4 0 t i k)) n := by
  have hr := r.isLt
  rw [← behind_positions (ext fun t => x (ix4 0 t i k)) M r.val (by omega), hM]
  rw [window_sum, zero_add, Finset.sum_range]
  refine Fintype.sum_bijective (fun w : (⟨4, ![1, N, 1, 1]⟩ : Shape).Idx => (w 1 : Fin N)) ⟨?_, ?_⟩ _ _ ?_
  · intro w w' e
    refine funext fun c => ?_
    match c with
    | ⟨0, _⟩ => exact Subsingleton.elim (α := Fin 1) _ _
    | ⟨1, _⟩ => exact e
    | ⟨2, _⟩ => exact Subsingleton.elim (α := Fin 1) _ _
    | ⟨3, _⟩ => exact Subsingleton.elim (α := Fin 1) _ _
  · intro n
    exact ⟨ix4 0 n 0 0, rfl⟩
  · intro w
    have w0 : (w 0).val = 0 := by have h := (w 0).isLt; change (w 0).val < 1 at h; omega
    have w1 : (w 1).val < N := (w 1).isLt
    have w2 : (w 2).val = 0 := by have h := (w 2).isLt; change (w 2).val < 1 at h; omega
    have w3 : (w 3).val = 0 := by have h := (w 3).isLt; change (w 3).val < 1 at h; omega
    by_cases hn : M ≤ r.val + (w 1).val
    · have hn' : r.val + (w 1).val - M < N := by omega
      have e : ext (fun t => x (ix4 0 t i k)) (r.val + (w 1).val - M) = x (ix4 0 ⟨r.val + (w 1).val - M, hn'⟩ i k) := dif_pos hn'
      rw [if_pos hn, e, dif_pos]
      · refine congrArg x (funext fun c => Fin.ext ?_)
        match c with
        | ⟨0, _⟩ => show 0 * 1 + (w 0).val - 0 = 0; omega
        | ⟨1, _⟩ => show r.val * 1 + (w 1).val - M = r.val + (w 1).val - M; omega
        | ⟨2, _⟩ => show i.val * 1 + (w 2).val - 0 = i.val; omega
        | ⟨3, _⟩ => show k.val * 1 + (w 3).val - 0 = k.val; omega
      · intro c
        match c with
        | ⟨0, _⟩ => show 0 ≤ 0 * 1 + (w 0).val ∧ 0 * 1 + (w 0).val - 0 < 1; omega
        | ⟨1, _⟩ => show M ≤ r.val * 1 + (w 1).val ∧ r.val * 1 + (w 1).val - M < N; omega
        | ⟨2, _⟩ => have := i.isLt; show 0 ≤ i.val * 1 + (w 2).val ∧ i.val * 1 + (w 2).val - 0 < a; omega
        | ⟨3, _⟩ => have := k.isLt; show 0 ≤ k.val * 1 + (w 3).val ∧ k.val * 1 + (w 3).val - 0 < b; omega
    · rw [if_neg hn, dif_neg]
      intro hin
      have h1 := (hin 1).1
      change M ≤ r.val * 1 + (w 1).val at h1
      exact hn (by omega)

/-- The same as the host's operation states it. -/
theorem host_rows_behind {N M a b : ℕ} (hM : M + 1 = N) {u : Shape}
    (h : (⟨4, ![1, N, a, b]⟩ : Shape).ReduceWindows ![1, N, 1, 1] ![1, 1, 1, 1] ![0, M, 0, 0] ![0, 0, 0, 0] ⟨4, ![1, N, a, b]⟩)
    (x : FVec Ideal (⟨4, ![1, N, a, b]⟩ : Shape) .f32) (init : u.Idx → Ideal .f32) (hu : 0 < u.numel)
    (hz : init (Shape.Idx.first hu) = (0 : EReal)) (r : Fin N) (i : Fin a) (k : Fin b) :
    (Host.reduceWindowAdd ![1, N, 1, 1] ![1, 1, 1, 1] ![0, M, 0, 0] ![0, 0, 0, 0] x init h hu (ix4 0 r i k) : EReal)
      = ∑ n ∈ Finset.range (r.val + 1), ext (fun t => (x (ix4 0 t i k) : EReal)) n := by
  exact (congrArg (fun v : EReal => Ideal.hostReduceWindowAdd ![1, N, 1, 1] ![1, 1, 1, 1] ![0, M, 0, 0] ![0, 0, 0, 0] h x v (ix4 0 r i k)) hz).trans
    (rows_behind hM h x r i k)

/-- The sum up to a row less the sum up to the row `w` before it. -/
theorem lag_real (f : ℕ → ℝ) (w s : ℕ) :
    ∑ n ∈ Finset.range (s + 1), f n - (if s < w then 0 else ∑ n ∈ Finset.range (s - w + 1), f n)
      = ∑ n ∈ Finset.range w, if n ≤ s then f (s - n) else 0 := by
  by_cases h : s < w
  · rw [if_pos h, sub_zero]
    obtain ⟨d, rfl⟩ : ∃ d, w = (s + 1) + d := ⟨w - (s + 1), by omega⟩
    rw [Finset.sum_range_add _ (s + 1) d]
    have z : ∑ k ∈ Finset.range d, (if s + 1 + k ≤ s then f (s - (s + 1 + k)) else 0) = 0 := Finset.sum_eq_zero fun k _ => if_neg (by omega)
    rw [z, add_zero, ← Finset.sum_range_reflect]
    refine Finset.sum_congr rfl fun k hk => ?_
    have := Finset.mem_range.mp hk
    rw [if_pos (by omega)]
    exact congrArg f (by omega)
  · rw [if_neg h]
    have e : s + 1 = (s - w + 1) + w := by omega
    rw [e, Finset.sum_range_add, add_sub_cancel_left, ← Finset.sum_range_reflect]
    refine Finset.sum_congr rfl fun k hk => ?_
    have := Finset.mem_range.mp hk
    rw [if_pos (by omega)]
    exact congrArg f (by omega)

/-- The same of an array of real numbers. -/
theorem lag {N : ℕ} (U : Fin N → EReal) (hU : ∀ t, ∃ r : ℝ, U t = r) (w s : ℕ) :
    ∑ n ∈ Finset.range (s + 1), ext U n - (if s < w then 0 else ∑ n ∈ Finset.range (s - w + 1), ext U n) = behind U w s := by
  choose V hV using hU
  let f : ℕ → ℝ := fun n => if h : n < N then V ⟨n, h⟩ else 0
  have e : ∀ n, ext U n = (f n : EReal) := fun n => by
    unfold ext
    by_cases h : n < N
    · simp only [f, dif_pos h, hV]
    · simp only [f, dif_neg h, EReal.coe_zero]
  have c : ∀ n, (if n ≤ s then ((f (s - n) : ℝ) : EReal) else 0) = (((if n ≤ s then f (s - n) else 0) : ℝ) : EReal) := fun n => by
    by_cases h : n ≤ s
    · simp only [if_pos h]
    · simp only [if_neg h, EReal.coe_zero]
  unfold behind
  simp only [e, c, Norm.coe_sum]
  rw [← lag_real f w s]
  by_cases h : s < w
  · rw [if_pos h, if_pos h, sub_zero, sub_zero]
  · rw [if_neg h, if_neg h, EReal.coe_sub]

end Cert.PoolSum

namespace Cert.MixFwdRefIdeal.Read

open PoolGrad

def argU (x0 : FVec Ideal S1x8192x3592 .f32) (s : Fin 8192) (j : Fin 512) : EReal := x0 (ix3 0 s ⟨j.val, by omega⟩)
def argZ (x0 : FVec Ideal S1x8192x3592 .f32) (s : Fin 8192) (j : Fin 512) : EReal := x0 (ix3 0 s ⟨512 + j.val, by omega⟩)
def argX (x0 : FVec Ideal S1x8192x3592 .f32) (s : Fin 8192) (l : Fin 1024) : EReal := x0 (ix3 0 s ⟨1024 + l.val, by omega⟩)

variable (x0 : FVec Ideal S1x8192x3592 .f32) (x2 : FVec Ideal S1x4x1024 .f32) (x3 : FVec Ideal S1x1024 .f32)
  (x4 : FVec Ideal S1x4x128x128 .f32) (x5 : FVec Ideal S1x512 .f32)

/-! ## The trailing means -/

theorem read_u (s : Fin 8192) (g : Fin 4) (c : Fin 128) : (val_main_v4 (F := Ideal) x0 (ix4 0 s g c) : EReal) = argU x0 s (col g c) := by
  pointwise [val_main_v4, val_main_v0]
  rfl

theorem read_sums (s : Fin 8192) (g : Fin 4) (c : Fin 128) :
    (val_main_v5 (F := Ideal) x0 (ix4 0 s g c) : EReal) = ∑ n ∈ Finset.range (s.val + 1), PoolSum.ext (fun t => argU x0 t (col g c)) n := by
  have z : (val_main_call0_call0_v0 (F := Ideal) (Shape.Idx.first Gen.h_S_) : EReal) = 0 := by
    pointwise [val_main_call0_call0_v0, val_main_call0_call0_cst]
  unfold val_main_v5
  refine (PoolSum.host_rows_behind rfl _ _ _ _ z s g c).trans ?_
  simp only [read_u]

/-- A row's count and a window's length. -/
theorem count_min (s : Fin 8192) (b : BitVec 32) (g : Fin 4) (h : Ideal.ofBits .f32 b = ((width g : ℝ) : EReal)) :
    min (1 + (FloatOps.sitofp .f32 (BitVec.ofNat 32 s.val) : Ideal .f32)) (Ideal.ofBits .f32 b) = ((cnt g s : ℝ) : EReal) := by
  have e : (FloatOps.sitofp .f32 (BitVec.ofNat 32 s.val) : Ideal .f32) = ((s.val : ℝ) : EReal) := by
    have hs := s.isLt
    show (((BitVec.ofNat 32 s.val).toInt : ℝ) : EReal) = _
    rw [BitVec.toInt_eq_toNat_of_lt (by rw [BitVec.toNat_ofNat]; omega), BitVec.toNat_ofNat, Nat.mod_eq_of_lt (by omega)]
    norm_num
  rw [e, h, add_comm]
  unfold cnt
  have e1 : (s.val : ℝ) + (1 : EReal) = (((s.val : ℝ) + 1 : ℝ) : EReal) := by rw [EReal.coe_add]; rfl
  rw [e1]
  exact (EReal.coe_strictMono.monotone.map_min).symm

theorem read_cnt (s : Fin 8192) :
    (val_main_v17 (F := Ideal) (ix3 0 s 0) : EReal) = (cnt 0 s : EReal) ∧ (val_main_v31 (F := Ideal) (ix3 0 s 0) : EReal) = (cnt 1 s : EReal)
    ∧ (val_main_v45 (F := Ideal) (ix3 0 s 0) : EReal) = (cnt 2 s : EReal) ∧ (val_main_v59 (F := Ideal) (ix3 0 s 0) : EReal) = (cnt 3 s : EReal) := by
  refine ⟨?_, ?_, ?_, ?_⟩
  all_goals pointwise [val_main_v17, val_main_v16, val_main_v15, val_main_cst_1, val_main_v31, val_main_v30, val_main_v29, val_main_cst_3,
    val_main_v45, val_main_v44, val_main_v43, val_main_cst_5, val_main_v59, val_main_v58, val_main_v57, val_main_cst_7, val_main_v8,
    val_main_v7, val_main_v6, val_main_cst]
  · exact count_min s _ 0 (by show _ = (((2 : ℕ) : ℝ) : EReal); norm_num [Ideal.ofBits, Ideal.ieee, Nat.shiftRight_eq_div_pow, BitVec.extractLsb'])
  · exact count_min s _ 1 (by show _ = (((4 : ℕ) : ℝ) : EReal); norm_num [Ideal.ofBits, Ideal.ieee, Nat.shiftRight_eq_div_pow, BitVec.extractLsb'])
  · exact count_min s _ 2 (by show _ = (((8 : ℕ) : ℝ) : EReal); norm_num [Ideal.ofBits, Ideal.ieee, Nat.shiftRight_eq_div_pow, BitVec.extractLsb'])
  · exact count_min s _ 3 (by show _ = (((16 : ℕ) : ℝ) : EReal); norm_num [Ideal.ofBits, Ideal.ieee, Nat.shiftRight_eq_div_pow, BitVec.extractLsb'])

/-- The trailing mean of a column, less the column. -/
def mean (U : Fin 8192 → Fin 512 → EReal) (s : Fin 8192) (g : Fin 4) (c : Fin 128) : EReal :=
  Ideal.div (PoolSum.behind (fun t => U t (col g c)) (width g) s.val) (cnt g s : EReal) - U s (col g c)

theorem read_mean (hx : ∀ s j, ∃ r : ℝ, argU x0 s j = r) (s : Fin 8192) (g : Fin 4) (c : Fin 128) :
    (val_main_v69 (F := Ideal) x0 (ix4 0 s g c) : EReal) = mean (argU x0) s g c := by
  have k0 := fun t => (read_cnt t).1
  have k1 := fun t => (read_cnt t).2.1
  have k2 := fun t => (read_cnt t).2.2.1
  have k3 := fun t => (read_cnt t).2.2.2
  unfold mean
  rw [← PoolSum.lag _ (fun t => hx t (col g c))]
  obtain rfl | rfl | rfl | rfl : g = 0 ∨ g = 1 ∨ g = 2 ∨ g = 3 := by omega
  all_goals pointwise [val_main_v69, val_main_v68, val_main_v67, val_main_v66, val_main_v65, val_main_v64, val_main_v63, val_main_v62,
    val_main_v61, val_main_v60, val_main_v56, val_main_v55, val_main_v54, val_main_v53, val_main_cst_6, val_main_v52, val_main_v51,
    val_main_v50, val_main_v49, val_main_v48, val_main_v47, val_main_v46, val_main_v42, val_main_v41, val_main_v40, val_main_v39,
    val_main_cst_4, val_main_v38, val_main_v37, val_main_v36, val_main_v35, val_main_v34, val_main_v33, val_main_v32, val_main_v28,
    val_main_v27, val_main_v26, val_main_v25, val_main_cst_2, val_main_v24, val_main_v23, val_main_v22, val_main_v21, val_main_v20,
    val_main_v19, val_main_v18, val_main_v14, val_main_v13, val_main_v12, val_main_v11, val_main_cst_0, val_main_v10, val_main_v9]
  all_goals simp only [k0, k1, k2, k3, read_u, read_sums]
  all_goals rfl

theorem means_twice : val_main_v182 (F := Ideal) x0 = val_main_v69 (F := Ideal) x0 := rfl

theorem read_pooled (hx : ∀ s j, ∃ r : ℝ, argU x0 s j = r) (s : Fin 8192) (g : Fin 4) (c : Fin 128) (q : Fin 512) (hq : q.val = g.val * 128 + c.val) :
    (val_main_v184 (F := Ideal) x0 (ix2 s q) : EReal) = mean (argU x0) s g c := by
  obtain rfl : q = col g c := Fin.ext hq
  refine Eq.trans ?_ (read_mean x0 hx s g c)
  rw [← means_twice]
  pointwise [val_main_v184, val_main_v183]
  show val_main_v182 (F := Ideal) x0 (ix4 0 s (grp (col g c)) (lane (col g c))) = _
  rw [grp_col, lane_col]

/-! ## The pooling mixer's half -/

/-- The gated pooling mixer. -/
def half (U Z : Fin 8192 → Fin 512 → EReal) (Ls : Fin 512 → EReal) (W : Fin 4 → Fin 128 → Fin 128 → EReal) (s : Fin 8192) (j : Fin 512) : EReal :=
  yw W (mean U) s j * Ls j * (Z s j * PoolGrad.sig (Z s j))

theorem read_half (hx : ∀ s j, ∃ r : ℝ, argU x0 s j = r) (s : Fin 8192) (j : Fin 512) (q : Fin 1024) (hq : q.val = j.val) :
    (val_main_v115 (F := Ideal) x0 x4 x5 (ix2 s q) : EReal)
      = half (argU x0) (argZ x0) (fun j => x5 (ix2 0 j)) (fun g c d => x4 (ix4 0 g c d)) s j := by
  have hj' : j.val < 1024 := by have := j.isLt; omega
  obtain rfl : q = ⟨j.val, hj'⟩ := Fin.ext hq
  have hj : j.val < 512 := j.isLt
  pointwise [val_main_v115, val_main_v114, val_main_v112, val_main_v77, val_main_v76, val_main_call1_v5, val_main_call1_v4, val_main_call1_cst_0,
    val_main_call1_v3, val_main_call1_v2, val_main_call1_cst, val_main_call1_v1, val_main_call1_v0, val_main_v75, val_main_v74,
    val_main_v73, val_main_v72, val_main_v71, val_main_v70, val_main_v3, val_main_v2, val_main_v1, val_main_cst_8, val_main_v113]
  simp only [read_mean x0 hx]
  rfl

/-! ## The convolution -/

/-- A column `n` rows before `s`, zero before the first row. -/
def tap (X : Fin 8192 → Fin 1024 → EReal) (s : Fin 8192) (n : ℕ) (l : Fin 1024) : EReal :=
  if n ≤ s.val then X ⟨s.val - n, by have := s.isLt; omega⟩ l else 0

theorem tap_of (X : Fin 8192 → Fin 1024 → EReal) (s : Fin 8192) (n k a : ℕ) (l : Fin 1024) (hk : k + n = 3) (ha : a = k + s.val) (z : EReal) (hz : z = 0) :
    (if h : 3 ≤ a ∧ a - 3 < 8192 then X ⟨a - 3, h.2⟩ l else z) = tap X s n l := by
  subst hz ha
  have := s.isLt
  unfold tap
  by_cases h : n ≤ s.val
  · rw [if_pos h, dif_pos (by omega)]
    exact congrArg (X · l) (Fin.ext (by show k + s.val - 3 = s.val - n; omega))
  · rw [if_neg h, dif_neg (by omega)]

/-- The convolution over four rows. -/
def conv (X : Fin 8192 → Fin 1024 → EReal) (Cw : Fin 4 → Fin 1024 → EReal) (Cb : Fin 1024 → EReal) (s : Fin 8192) (l : Fin 1024) : EReal :=
  Cb l + Cw 0 l * tap X s 3 l + Cw 1 l * tap X s 2 l + Cw 2 l * tap X s 1 l + Cw 3 l * X s l

theorem read_conv (s : Fin 8192) (l : Fin 1024) :
    (val_main_v116 (F := Ideal) x0 x2 x3 (ix2 s l) : EReal)
      = conv (argX x0) (fun k l => x2 (ix3 0 k l)) (fun l => x3 (ix2 0 l)) s l := by
  pointwise [val_main_v116, val_main_v111, val_main_v110, val_main_v109, val_main_v108, val_main_v107, val_main_v106, val_main_v105,
    val_main_v104, val_main_v103, val_main_v102, val_main_v101, val_main_v100, val_main_v99, val_main_v98, val_main_v97, val_main_v96,
    val_main_v95, val_main_v94, val_main_v93, val_main_v92, val_main_v91, val_main_v90, val_main_v89, val_main_v88, val_main_v87,
    val_main_v86, val_main_v85, val_main_v84, val_main_v83, val_main_v82, val_main_v81, val_main_v80, val_main_v79, val_main_v78, val_main_c, val_main_call2_v0]
  have hz : (FloatOps.sitofp (F := Ideal) .f32 0#32 : EReal) = 0 := Norm.sitofp_zero
  have e3 := tap_of (argX x0) s 3 0 s.val l rfl (Nat.zero_add _).symm _ hz
  have e2 := tap_of (argX x0) s 2 1 (1 + s.val) l rfl rfl _ hz
  have e1 := tap_of (argX x0) s 1 2 (2 + s.val) l rfl rfl _ hz
  unfold conv
  rw [← e3, ← e2, ← e1]
  rfl

end Cert.MixFwdRefIdeal.Read

end
-- ==== Proof.MixFwdBlocks.lean ====
module

public import proofs.«01_k».proof.Proof.Gen.MixFwdIdeal.Frame
public import proofs.«01_k».proof.Proof.Norm
public import proofs.«01_k».proof.Proof.MixFwdRef
public import Idealize.ShloMosaic.Lib.Pipeline.ValueKit
public import Idealize.ShloMosaic.Lib.StableHlo.ReadAt

/-! The mixers' forward call: what the windows of its pooling part and its convolution hold of the arguments at each point. -/

@[expose] public section

set_option maxRecDepth 16384

noncomputable section

open Idealize.ShloMosaic Idealize.ShloMosaic.TcCoe Idealize.SL.Sem
open Idealize.ShloMosaic.Pipeline (Dat)
open scoped BigOperators

namespace Cert.MixFwdIdeal.Value

open Cert.MixFwdIdeal Cert.MixFwdIdeal.Gen
open MixFwdRefIdeal.Read (argU argZ argX)
open PoolGrad (col)

variable (m : (ℓ : Loc nD τ sig) → Buf (Elt Ideal) ℓ)

/-- Which block each window of the pooling part and of the convolution holds at each point. -/
theorem idx : ∀ t : Fin cfg0.N, win0_0.index t = ![t.val, 0] ∧ win0_1.index t = ![t.val, 1] ∧ win0_5.index t = ![32 * t.val - 1, 0]
    ∧ win0_6.index t = ![64 * t.val - 1, 1] ∧ win0_9.index t = ![0, 0] ∧ win0_10.index t = ![0, 0] ∧ win0_11.index t = ![0, 0, 0]
    ∧ win0_12.index t = ![0, 0] ∧ win0_14.index t = ![t.val, 0] ∧ win0_18.index t = ![t.val, 0] ∧ win0_19.index t = ![t.val, 0] :=
  (by decide +kernel : ∀ t : Fin grid0.N, _)

theorem points : cfg0.N = 16 := N_0

/-- Row `i` of point `t`'s tile, among the rows of the whole sequence. -/
def row (t : Fin cfg0.N) (i : Fin 512) : Fin 8192 :=
  ⟨t.val * 512 + i.val, by have hi := i.isLt; have ht := t.isLt; have hN := points; omega⟩

/-! ## What the host lines before the call leave -/

theorem V6 (c : Dev nD) (s : Fin 8192) (l : Fin 3584) :
    (V m c main_v6 (ix2 s l) : EReal) = (m ((c : Thread nD τ).loc main_arg0) : FVec Ideal S1x8192x3592 .f32) (ix3 0 s ⟨l.val, by omega⟩) := by
  simp only [V, List.flatten_cons, List.flatten_nil, List.append_nil, List.cons_append, List.nil_append]
  entry_read
  pointwise

theorem V5_all (c : Dev nD) : V m c main_v5 = pad S8x1024 ![0, 0] ![4, 0] ![0, 0] (shapeCast S4x1024 (m ((c : Thread nD τ).loc main_arg2)) shapeCasts_S1x4x1024_S4x1024 : FVec Ideal S4x1024 .f32) (sitofp (F := Ideal) .f32 (constantI S_ 32 0#32)) pads_S4x1024_S8x1024_040_000 h_S_ := by
  simp only [V, List.flatten_cons, List.flatten_nil, List.append_nil, List.cons_append, List.nil_append]
  entry_read
  rfl

theorem pad5 (x : FVec Ideal S1x4x1024 .f32) (k : Fin 8) (hk : k.val < 4) (l : Fin 1024) :
    (pad S8x1024 ![0, 0] ![4, 0] ![0, 0] (shapeCast S4x1024 x shapeCasts_S1x4x1024_S4x1024 : FVec Ideal S4x1024 .f32) (sitofp (F := Ideal) .f32 (constantI S_ 32 0#32)) pads_S4x1024_S8x1024_040_000 h_S_ (ix2 k l) : EReal) = x (ix3 0 ⟨k.val, hk⟩ l) := by
  pointwise
  try rw [dif_pos hk]

theorem V5 (c : Dev nD) (k : Fin 8) (hk : k.val < 4) (l : Fin 1024) :
    (V m c main_v5 (ix2 k l) : EReal) = (m ((c : Thread nD τ).loc main_arg2) : FVec Ideal S1x4x1024 .f32) (ix3 0 ⟨k.val, hk⟩ l) :=
  (congrFun (V5_all m c) (ix2 k l)).trans (pad5 _ k hk l)

theorem V7 (c : Dev nD) : V m c main_v7 = shapeCast S4x128x128 (m ((c : Thread nD τ).loc main_arg4)) shapeCasts_S1x4x128x128_S4x128x128 := by
  simp only [V, List.flatten_cons, List.flatten_nil, List.append_nil, List.cons_append, List.nil_append]
  entry_read
  rfl

theorem cast7 (x : FVec Ideal S1x4x128x128 .f32) (g : Fin 4) (k d : Fin 128) :
    (shapeCast S4x128x128 x shapeCasts_S1x4x128x128_S4x128x128 (ix3 g k d) : EReal) = x (ix4 0 g k d) := by
  pointwise

/-! ## Blocks -/

theorem blk0 (c : Dev nD) (t : Fin cfg0.N) (i : Fin 512) (l : Fin 1024) :
    (X0_0 m c t (ix2 i l) : EReal) = (m ((c : Thread nD τ).loc main_arg0) : FVec Ideal S1x8192x3592 .f32) (ix3 0 (row t i) ⟨l.val, by omega⟩) := by
  refine Eq.trans ?_ (V6 m c (row t i) ⟨l.val, by omega⟩)
  unfold X0_0 Pipeline.Window.fill
  rw [dif_pos (moved0_0 t _)]
  blk_simp [iblk, idx t]
  refine congrArg (V m c main_v6) ?_
  blk_ext [idx t, row]

theorem blk1 (c : Dev nD) (t : Fin cfg0.N) (i : Fin 512) (l : Fin 1024) :
    (X0_1 m c t (ix2 i l) : EReal) = argX (m ((c : Thread nD τ).loc main_arg0)) (row t i) l := by
  refine Eq.trans ?_ (V6 m c (row t i) ⟨1024 + l.val, by omega⟩)
  unfold X0_1 Pipeline.Window.fill
  rw [dif_pos (moved0_1 t _)]
  blk_simp [iblk, idx t]
  refine congrArg (V m c main_v6) ?_
  blk_ext [idx t, row]

theorem blk5 (c : Dev nD) (t : Fin cfg0.N) (i : Fin 16) (l : Fin 512) (s : Fin 8192) (hs : s.val = (32 * t.val - 1) * 16 + i.val) :
    (iblk m c 5 t (ix2 i l) : EReal) = argU (m ((c : Thread nD τ).loc main_arg0)) s l := by
  refine Eq.trans ?_ (V6 m c s ⟨l.val, by omega⟩)
  blk_simp [iblk, idx t]
  refine congrArg (V m c main_v6) ?_
  blk_ext [idx t, hs]

theorem blk6 (c : Dev nD) (t : Fin cfg0.N) (i : Fin 8) (l : Fin 1024) (s : Fin 8192) (hs : s.val = (64 * t.val - 1) * 8 + i.val) :
    (X0_6 m c t (ix2 i l) : EReal) = argX (m ((c : Thread nD τ).loc main_arg0)) s l := by
  refine Eq.trans ?_ (V6 m c s ⟨1024 + l.val, by omega⟩)
  unfold X0_6 Pipeline.Window.fill
  rw [dif_pos (moved0_6 t _)]
  blk_simp [iblk, idx t]
  refine congrArg (V m c main_v6) ?_
  blk_ext [idx t, hs]

theorem blk9 (c : Dev nD) (t : Fin cfg0.N) (k : Fin 8) (hk : k.val < 4) (l : Fin 1024) :
    (iblk m c 9 t (ix2 k l) : EReal) = (m ((c : Thread nD τ).loc main_arg2) : FVec Ideal S1x4x1024 .f32) (ix3 0 ⟨k.val, hk⟩ l) := by
  refine Eq.trans ?_ (V5 m c k hk l)
  blk_simp [iblk, idx t]
  refine congrArg (V m c main_v5) ?_
  blk_ext [idx t]

theorem blk10 (c : Dev nD) (t : Fin cfg0.N) (u : Fin 1) (l : Fin 1024) :
    (iblk m c 10 t (ix2 u l) : EReal) = (m ((c : Thread nD τ).loc main_arg3) : FVec Ideal S1x1024 .f32) (ix2 0 l) := by
  blk_simp [iblk, idx t]
  refine congrArg (m ((c : Thread nD τ).loc main_arg3)) ?_
  blk_ext [idx t]

theorem blk11 (c : Dev nD) (t : Fin cfg0.N) (g : Fin 4) (k d : Fin 128) :
    (iblk m c 11 t (ix3 g k d) : EReal) = (m ((c : Thread nD τ).loc main_arg4) : FVec Ideal S1x4x128x128 .f32) (ix4 0 g k d) := by
  refine Eq.trans ?_ ((congrFun (V7 m c) (ix3 g k d)).trans (cast7 _ g k d))
  blk_simp [iblk, idx t]
  refine congrArg (V m c main_v7) ?_
  blk_ext [idx t]

theorem blk12 (c : Dev nD) (t : Fin cfg0.N) (u : Fin 1) (l : Fin 512) :
    (iblk m c 12 t (ix2 u l) : EReal) = (m ((c : Thread nD τ).loc main_arg5) : FVec Ideal S1x512 .f32) (ix2 0 l) := by
  blk_simp [iblk, idx t]
  refine congrArg (m ((c : Thread nD τ).loc main_arg5)) ?_
  blk_ext [idx t]

/-! ## What is over all points -/

theorem emb14 (t : Fin cfg0.N) (y : ((cfg0.win 14).xblock (cfg0.grid.coords t)).Idx) (i : Fin 512) (l : Fin 1024) (h0 : (y 0).val = i.val) (h1 : (y 1).val = l.val) :
    (cfg0.win 14 |>.blk t).view.emb y = (ix2 (row t i) l : S8192x1024.Idx) := by
  blk_ext [idx t, row, h0, h1]

theorem emb18 (t : Fin cfg0.N) (y : ((cfg0.win 18).xblock (cfg0.grid.coords t)).Idx) (i : Fin 512) (l : Fin 1024) (h0 : (y 0).val = i.val) (h1 : (y 1).val = l.val) :
    (cfg0.win 18 |>.blk t).view.emb y = (ix2 (row t i) l : S8192x1024.Idx) := by
  blk_ext [idx t, row, h0, h1]

theorem emb19 (t : Fin cfg0.N) (y : ((cfg0.win 19).xblock (cfg0.grid.coords t)).Idx) (i l : Fin 512) (h0 : (y 0).val = i.val) (h1 : (y 1).val = l.val) :
    (cfg0.win 19 |>.blk t).view.emb y = (ix2 (row t i) l : S8192x512.Idx) := by
  blk_ext [idx t, row, h0, h1]

/-- The point whose tile holds a row. -/
def tile (s : Fin 8192) : Fin cfg0.N := ⟨s.val / 512, by have := points; have := s.isLt; omega⟩
/-- A row's place in its tile. -/
def place (s : Fin 8192) : Fin 512 := ⟨s.val % 512, Nat.mod_lt _ (by norm_num)⟩

theorem tile_row (t : Fin cfg0.N) (i : Fin 512) : tile (row t i) = t := by
  have hi := i.isLt
  refine Fin.ext ?_
  show (t.val * 512 + i.val) / 512 = t.val
  omega

theorem place_row (t : Fin cfg0.N) (i : Fin 512) : place (row t i) = i := by
  have hi := i.isLt
  refine Fin.ext ?_
  show (t.val * 512 + i.val) % 512 = i.val
  omega

theorem row_tile (s : Fin 8192) : row (tile s) (place s) = s := by
  refine Fin.ext ?_
  show s.val / 512 * 512 + s.val % 512 = s.val
  omega

theorem final_14 (c : Dev nD) : (dats m 0 c).arrAt 14 cfg0.N
    = fun y : S8192x1024.Idx => (outsAt0 m c (tile (y 0)).val (tile (y 0)).isLt).1 (ix2 (place (y 0)) (y 1)) := by
  refine (dats m 0 c).arrAt_eq_of_covers 14 _ (by decide +kernel) fun t hf y => ?_
  obtain ⟨i, l, e⟩ : ∃ (i : Fin 512) (l : Fin 1024), y = ix2 i l := ⟨y 0, y 1, eq_ix2 y⟩
  have e6 := emb14 t y i l (by rw [e]; rfl) (by rw [e]; rfl)
  blk_simp
  rw [after0_14]
  rw [e6, e]
  show _ = (outsAt0 m c (tile (row t i)).val (tile (row t i)).isLt).1 (ix2 (place (row t i)) l)
  rw [tile_row, place_row]

theorem final_18 (c : Dev nD) : (dats m 0 c).arrAt 18 cfg0.N
    = fun y : S8192x1024.Idx => (outsAt0 m c (tile (y 0)).val (tile (y 0)).isLt).2.2.2.2.1 (ix2 (place (y 0)) (y 1)) := by
  refine (dats m 0 c).arrAt_eq_of_covers 18 _ (by decide +kernel) fun t hf y => ?_
  obtain ⟨i, l, e⟩ : ∃ (i : Fin 512) (l : Fin 1024), y = ix2 i l := ⟨y 0, y 1, eq_ix2 y⟩
  have e6 := emb18 t y i l (by rw [e]; rfl) (by rw [e]; rfl)
  blk_simp
  rw [after0_18]
  rw [e6, e]
  show _ = (outsAt0 m c (tile (row t i)).val (tile (row t i)).isLt).2.2.2.2.1 (ix2 (place (row t i)) l)
  rw [tile_row, place_row]

theorem final_19 (c : Dev nD) : (dats m 0 c).arrAt 19 cfg0.N
    = fun y : S8192x512.Idx => (outsAt0 m c (tile (y 0)).val (tile (y 0)).isLt).2.2.2.2.2.1 (ix2 (place (y 0)) (y 1)) := by
  refine (dats m 0 c).arrAt_eq_of_covers 19 _ (by decide +kernel) fun t hf y => ?_
  obtain ⟨i, l, e⟩ : ∃ (i l : Fin 512), y = ix2 i l := ⟨y 0, y 1, eq_ix2 y⟩
  have e6 := emb19 t y i l (by rw [e]; rfl) (by rw [e]; rfl)
  blk_simp
  rw [after0_19]
  rw [e6, e]
  show _ = (outsAt0 m c (tile (row t i)).val (tile (row t i)).isLt).2.2.2.2.2.1 (ix2 (place (row t i)) l)
  rw [tile_row, place_row]

end Cert.MixFwdIdeal.Value

end
-- ==== Proof.MixFwdKernel.lean ====
module

public import proofs.«01_k».proof.Proof.MixBwdKernel
public import proofs.«01_k».proof.Proof.MixFwdPay
public import proofs.«01_k».proof.Proof.MixFwdBlocks

/-! The mixers' forward call: what its pooling part and its convolution leave at each point and over all rows. -/

@[expose] public section

set_option maxRecDepth 16384

noncomputable section

open Idealize.ShloMosaic Idealize.ShloMosaic.TcCoe Idealize.SL.Sem
open scoped BigOperators

namespace Cert.MixFwdIdeal.Value

open Cert.MixFwdIdeal Cert.MixFwdIdeal.Gen
open PoolGrad (col width cnt)
open MixFwdRefIdeal.Read (argU argZ argX mean half conv tap)
open Cert.MixBwdIdeal.Value (ld2 ld3 groups)

variable (m : (ℓ : Loc nD τ sig) → Buf (Elt Ideal) ℓ)

/-! ## Reading a list of pieces -/

section pieces

variable {sp : Space} {e : EltTy} {M N a b n0 n1 : ℕ}

theorem hit (v : View sig .tc sp (⟨2, ![M, N]⟩ : Shape) e) (f) (inb) (w : (⟨2, ![n0, n1]⟩ : Shape).Idx → Elt Ideal e)
    (L : List (View.Piece (Elt Ideal) (⟨2, ![M, N]⟩ : Shape) e)) (i : Fin M) (j : Fin N) (i' : Fin n0) (j' : Fin n1)
    (h0 : i.val = a + i'.val) (h1 : j.val = b + j'.val) :
    v.read (Elt Ideal) (v.writes (Elt Ideal) f
      ((⟨Rect.unit (s := (⟨2, ![M, N]⟩ : Shape)) ![a, b] ![n0, n1] inb, w⟩ : View.Piece (Elt Ideal) (⟨2, ![M, N]⟩ : Shape) e) :: L)) (ix2 i j)
      = w (ix2 i' j') :=
  View.read_writes_cons_unit_of_mem v f inb w L (ix2 i j) (ix2 i' j' : (⟨2, ![n0, n1]⟩ : Shape).Idx) rfl fun x => by
    match x with
    | 0 => exact h0
    | 1 => exact h1

theorem miss (v : View sig .tc sp (⟨2, ![M, N]⟩ : Shape) e) (f) (inb) (w : (⟨2, ![n0, n1]⟩ : Shape).Idx → Elt Ideal e)
    (L : List (View.Piece (Elt Ideal) (⟨2, ![M, N]⟩ : Shape) e)) (i : Fin M) (j : Fin N)
    (h : (i.val < a ∨ a + n0 ≤ i.val) ∨ j.val < b ∨ b + n1 ≤ j.val) :
    v.read (Elt Ideal) (v.writes (Elt Ideal) f
      ((⟨Rect.unit (s := (⟨2, ![M, N]⟩ : Shape)) ![a, b] ![n0, n1] inb, w⟩ : View.Piece (Elt Ideal) (⟨2, ![M, N]⟩ : Shape) e) :: L)) (ix2 i j)
      = v.read (Elt Ideal) (v.writes (Elt Ideal) f L) (ix2 i j) := by
  rcases h with h | h
  · exact View.read_writes_cons_unit_of_not_mem v f inb w L (ix2 i j) rfl 0 h
  · exact View.read_writes_cons_unit_of_not_mem v f inb w L (ix2 i j) rfl 1 h

end pieces

/-- The tokens to pool. -/
abbrev aU (c : Dev nD) := argU (m ((c : Thread nD τ).loc main_arg0))
/-- The gate's pre-activation. -/
abbrev aZ (c : Dev nD) := argZ (m ((c : Thread nD τ).loc main_arg0))
/-- The convolution's input. -/
abbrev aX (c : Dev nD) := argX (m ((c : Thread nD τ).loc main_arg0))
/-- The convolution's weights. -/
abbrev aC (c : Dev nD) (k : Fin 4) (l : Fin 1024) : EReal := (m ((c : Thread nD τ).loc main_arg2) : FVec Ideal S1x4x1024 .f32) (ix3 0 k l)
/-- The convolution's bias. -/
abbrev aB (c : Dev nD) (l : Fin 1024) : EReal := (m ((c : Thread nD τ).loc main_arg3) : FVec Ideal S1x1024 .f32) (ix2 0 l)
/-- The groups' weights. -/
abbrev aW (c : Dev nD) (g : Fin 4) (k d : Fin 128) : EReal := (m ((c : Thread nD τ).loc main_arg4) : FVec Ideal S1x4x128x128 .f32) (ix4 0 g k d)
/-- The layer scale. -/
abbrev aL (c : Dev nD) (j : Fin 512) : EReal := (m ((c : Thread nD τ).loc main_arg5) : FVec Ideal S1x512 .f32) (ix2 0 j)

theorem coord : ∀ t : Fin cfg0.N, (grid0.coords t 0).val = t.val :=
  (by decide +kernel : ∀ t : Fin grid0.N, (grid0.coords t 0).val = t.val)

theorem lt16 (t : Fin cfg0.N) : t.val < 16 := t.isLt.trans_eq points

/-! ## What a point's loads hold -/

section loads

variable (c : Dev nD) (t : Fin cfg0.N) (g : Fin 4)

theorem ldU {off : Fin 2 → ℕ} (inb) (h : off = ![0, g.val * 128]) (i : Fin 512) (k : Fin 128) :
    (View.ld (X0_0 m c t) (Rect.unit (s := S512x1024) off S512x128.size inb) (ix2 i k) : EReal) = aU m c (row t i) (col g k) := by
  subst h
  refine Eq.trans ?_ (blk0 m c t i ⟨(col g k).val, by have := (col g k).isLt; omega⟩)
  exact View.ld_unit_apply_of _ _ _ _ _ _ fun d => by
    match d with
    | 0 => exact (Nat.zero_add _).symm
    | 1 => rfl

theorem ldZ {off : Fin 2 → ℕ} (inb) (h : off = ![0, 512 + g.val * 128]) (i : Fin 512) (k : Fin 128) :
    (View.ld (X0_0 m c t) (Rect.unit (s := S512x1024) off S512x128.size inb) (ix2 i k) : EReal) = aZ m c (row t i) (col g k) := by
  subst h
  refine Eq.trans ?_ (blk0 m c t i ⟨512 + (col g k).val, by have := (col g k).isLt; omega⟩)
  exact View.ld_unit_apply_of _ _ _ _ _ _ fun d => by
    match d with
    | 0 => exact (Nat.zero_add _).symm
    | 1 => exact (Nat.add_assoc 512 (g.val * 128) k.val).symm

theorem ldL {off : Fin 2 → ℕ} (inb) (h : off = ![0, g.val * 128]) (k : Fin 128) :
    (View.ld (iblk m c 12 t) (Rect.unit (s := S1x512) off S1x128.size inb) (ix2 0 k) : EReal) = aL m c (col g k) := by
  subst h
  refine Eq.trans ?_ (blk12 m c t 0 (col g k))
  exact View.ld_unit_apply_of _ _ _ _ _ _ fun d => by
    match d with
    | 0 => rfl
    | 1 => rfl

theorem ldW {off : Fin 3 → ℕ} (inb) (h : off = ![g.val, 0, 0]) (i k : Fin 128) :
    (View.ld (iblk m c 11 t) (Rect.unit (s := S4x128x128) off S1x128x128.size inb) (ix3 0 i k) : EReal) = aW m c g i k := by
  subst h
  refine Eq.trans ?_ (blk11 m c t g i k)
  exact View.ld_unit_apply_of _ _ _ _ _ _ fun d => by
    match d with
    | 0 => rfl
    | 1 => exact (Nat.zero_add _).symm
    | 2 => exact (Nat.zero_add _).symm

theorem ldC {off : Fin 2 → ℕ} (inb) (j : Fin 4) (b : ℕ) (h : off = ![j.val, b]) (l : Fin 256) (q : Fin 1024) (hq : q.val = b + l.val) :
    (View.ld (iblk m c 9 t) (Rect.unit (s := S8x1024) off ![1, 256] inb) (ix2 0 l : S1x256.Idx) : EReal) = aC m c j q := by
  subst h
  refine Eq.trans ?_ (blk9 m c t ⟨j.val, by omega⟩ j.isLt q)
  exact View.ld_unit_apply_of _ _ _ _ _ _ fun d => by
    match d with
    | 0 => rfl
    | 1 => exact hq

theorem ldB {off : Fin 2 → ℕ} (inb) (b : ℕ) (h : off = ![0, b]) (l : Fin 256) (q : Fin 1024) (hq : q.val = b + l.val) :
    (View.ld (iblk m c 10 t) (Rect.unit (s := S1x1024) off ![1, 256] inb) (ix2 0 l : S1x256.Idx) : EReal) = aB m c q := by
  subst h
  refine Eq.trans ?_ (blk10 m c t 0 q)
  exact View.ld_unit_apply_of _ _ _ _ _ _ fun d => by
    match d with
    | 0 => rfl
    | 1 => exact hq

/-- A column over a tile's rows and the sixteen rows before it, zero in front of the first row. -/
def front (U : Fin 8192 → EReal) (t r : ℕ) : EReal := if 16 ≤ t * 512 + r then PoolSum.ext U (t * 512 + r - 16) else 0

theorem front_sum (U : Fin 8192 → EReal) (w : ℕ) (hw : w ≤ 16) (i : Fin 512) :
    ∑ n ∈ Finset.range w, front U t.val (16 + i.val - n) = PoolSum.behind U w (row t i).val := by
  refine Finset.sum_congr rfl fun n hn => ?_
  have hn' := Finset.mem_range.mp hn
  unfold front
  show _ = if n ≤ t.val * 512 + i.val then PoolSum.ext U (t.val * 512 + i.val - n) else 0
  by_cases h : n ≤ t.val * 512 + i.val
  · rw [if_pos h, if_pos (by omega)]
    exact congrArg _ (by omega)
  · rw [if_neg h, if_neg (by omega)]

theorem rows_u {sp : Space} (v : View sig .tc sp S528x512 .f32) (f) {inb1} {inb2} {inbA} {inbB} {off : Fin 2 → ℕ} {inb3} (h : off = ![0, g.val * 128])
    (r : Fin 528) (k : Fin 128) :
    (View.ld (v.read (Elt Ideal) (v.writes (Elt Ideal) f
      [⟨Rect.unit (s := S528x512) ![16, 0] S512x512.size inb1, k0_pay6 (View.ld (X0_0 m c t) (Rect.unit (s := S512x1024) ![0, 0] S512x512.size inbA))⟩,
       ⟨Rect.unit (s := S528x512) ![0, 0] S16x512.size inb2, k0_pay5 (grid0.coords t) (View.ld (iblk m c 5 t) (Rect.unit (s := S16x512) ![0, 0] S16x512.size inbB))⟩]))
      (Rect.unit (s := S528x512) off S528x128.size inb3) (ix2 r k) : EReal) = front (fun s => aU m c s (col g k)) t.val r.val := by
  subst h
  have hr := r.isLt
  have ht := lt16 t
  refine (ld2 _ _ r k r (col g k) (Nat.zero_add _).symm rfl).trans ?_
  unfold front
  by_cases h : 16 ≤ r.val
  · refine (hit v f _ _ _ r (col g k) (⟨r.val - 16, by omega⟩ : Fin 512) (col g k) (by show r.val = 16 + (r.val - 16); omega) (Nat.zero_add _).symm).trans ?_
    refine (Pay.keep_u _ _ _).trans ?_
    refine (ld2 _ _ (⟨r.val - 16, by omega⟩ : Fin 512) (col g k) (⟨r.val - 16, by omega⟩ : Fin 512) (⟨(col g k).val, by have := (col g k).isLt; omega⟩ : Fin 1024) (Nat.zero_add _).symm (Nat.zero_add _).symm).trans ?_
    refine (blk0 m c t _ _).trans ?_
    rw [if_pos (by omega)]
    unfold PoolSum.ext
    rw [dif_pos (by omega)]
    exact congrArg (fun s => argU (m ((c : Thread nD τ).loc main_arg0)) s (col g k)) (Fin.ext (by show t.val * 512 + (r.val - 16) = t.val * 512 + r.val - 16; omega))
  · refine (miss v f _ _ _ r (col g k) (Or.inl (Or.inl (by omega)))).trans ?_
    refine (hit v f _ _ _ r (col g k) (⟨r.val, by omega⟩ : Fin 16) (col g k) (Nat.zero_add _).symm (Nat.zero_add _).symm).trans ?_
    refine (Pay.front_u _ _ _ _ (by rw [coord]; exact ht)).trans ?_
    rw [coord]
    by_cases h0 : t.val = 0
    · rw [if_pos h0, if_neg (by omega)]
    · rw [if_neg h0, if_pos (by omega)]
      refine (ld2 _ _ _ _ (⟨r.val, by omega⟩ : Fin 16) (col g k) (Nat.zero_add _).symm (Nat.zero_add _).symm).trans ?_
      unfold PoolSum.ext
      rw [dif_pos (by omega)]
      exact blk5 m c t _ _ _ (by show t.val * 512 + r.val - 16 = (32 * t.val - 1) * 16 + r.val; omega)

theorem rows_x {sp : Space} (v : View sig .tc sp S520x1024 .f32) (f) {inb1} {inb2} {inbA} {inbB} {off : Fin 2 → ℕ} {inb3} (b : ℕ) (h : off = ![0, b])
    (i : Fin 512) (n : ℕ) (hn : n ≤ 3) (r : Fin 520) (hr : r.val + n = 8 + i.val) (l : Fin 256) (q : Fin 1024) (hq : q.val = b + l.val) :
    (View.ld (v.read (Elt Ideal) (v.writes (Elt Ideal) f
      [⟨Rect.unit (s := S520x1024) ![8, 0] S512x1024.size inb1, k0_pay24 (View.ld (X0_1 m c t) (Rect.unit (s := S512x1024) ![0, 0] S512x1024.size inbA))⟩,
       ⟨Rect.unit (s := S520x1024) ![0, 0] S8x1024.size inb2, k0_pay23 (Scalar.cmpi .eq (BitVec.ofNat 32 (grid0.coords t 0).val) 0#32) (View.ld (X0_6 m c t) (Rect.unit (s := S8x1024) ![0, 0] S8x1024.size inbB))⟩]))
      (Rect.unit (s := S520x1024) off S520x256.size inb3) (ix2 r l) : EReal) = tap (aX m c) (row t i) n q := by
  subst h
  have ht := lt16 t
  have hi := i.isLt
  refine (ld2 _ _ r l r q (Nat.zero_add _).symm hq).trans ?_
  unfold tap
  by_cases h : 8 ≤ r.val
  · refine (hit v f _ _ _ r q (⟨r.val - 8, by omega⟩ : Fin 512) q (by show r.val = 8 + (r.val - 8); omega) (Nat.zero_add _).symm).trans ?_
    refine (Pay.keep_x _ _ _).trans ?_
    refine (ld2 _ _ _ _ (⟨r.val - 8, by omega⟩ : Fin 512) q (Nat.zero_add _).symm (Nat.zero_add _).symm).trans ?_
    refine (blk1 m c t _ _).trans ?_
    rw [if_pos (by show n ≤ t.val * 512 + i.val; omega)]
    exact congrArg (fun s => argX (m ((c : Thread nD τ).loc main_arg0)) s q) (Fin.ext (by show t.val * 512 + (r.val - 8) = t.val * 512 + i.val - n; omega))
  · refine (miss v f _ _ _ r q (Or.inl (Or.inl (by omega)))).trans ?_
    refine (hit v f _ _ _ r q (⟨r.val, by omega⟩ : Fin 8) q (Nat.zero_add _).symm (Nat.zero_add _).symm).trans ?_
    rw [coord]
    refine (Pay.front_x _ _ _ _ ht).trans ?_
    by_cases h0 : t.val = 0
    · rw [if_pos h0, if_neg (by show ¬ n ≤ t.val * 512 + i.val; omega)]
    · rw [if_neg h0, if_pos (by show n ≤ t.val * 512 + i.val; omega)]
      refine (ld2 _ _ _ _ (⟨r.val, by omega⟩ : Fin 8) q (Nat.zero_add _).symm (Nat.zero_add _).symm).trans ?_
      exact blk6 m c t _ _ _ (by show t.val * 512 + i.val - n = (64 * t.val - 1) * 8 + r.val; omega)

/-! ## The means and the gated product at a row -/

theorem cnt_eq (i : Fin 512) : cnt g (row t i) = ((min (t.val * 512 + i.val + 1) (width g) : ℕ) : ℝ) := by
  unfold cnt row
  push_cast
  rfl

theorem mean_at (i : Fin 512) (k : Fin 128) {s u : EReal} (hs : s = ∑ n ∈ Finset.range (width g), front (fun s => aU m c s (col g k)) t.val (16 + i.val - n))
    (hw : width g ≤ 16) (hu : u = aU m c (row t i) (col g k)) : s * Ideal.div 1 ((cnt g (row t i) : ℝ) : EReal) - u = mean (aU m c) (row t i) g k := by
  have h : cnt g (row t i) ≠ 0 := (PoolGrad.cnt_pos g (row t i)).ne'
  unfold mean
  rw [hs, hu, front_sum t _ _ hw, Ideal.div_coe h, Ideal.div_coe h, one_mul]

variable {w : Vec Ideal S1x128x128 .f32} {l : Vec Ideal S1x128 .f32} {z : Vec Ideal S512x128 .f32} {p : FVec Ideal S512x128 .bf16}

theorem gated_at (i : Fin 512) (k : Fin 128) (hp : ∀ k, (p (ix2 i k) : EReal) = mean (aU m c) (row t i) g k) (hw : ∀ i k, (w (ix3 0 i k) : EReal) = aW m c g i k)
    (hl : ∀ k, (l (ix2 0 k) : EReal) = aL m c (col g k)) (hz : ∀ i k, (z (ix2 i k) : EReal) = aZ m c (row t i) (col g k)) :
    Pay.gated w l z i k p = half (aU m c) (aZ m c) (aL m c) (aW m c) (row t i) (col g k) := by
  unfold Pay.gated half
  rw [hl, hz, ← PoolGrad.kyw_eq]
  unfold PoolGrad.kyw
  simp only [hp, hw]

variable {b : Vec Ideal S1x256 .f32} {x : Vec Ideal S520x256 .f32} {w0 w1 w2 w3 : Vec Ideal S1x256 .f32}

theorem conv_at (i : Fin 512) (l : Fin 256) (q : Fin 1024) (hb : (b (ix2 0 l) : EReal) = aB m c q)
    (hx : ∀ (n : ℕ) (hn : n ≤ 3) (r : Fin 520) (hr : r.val + n = 8 + i.val), (x (ix2 r l) : EReal) = tap (aX m c) (row t i) n q)
    (h0 : (w0 (ix2 0 l) : EReal) = aC m c 0 q) (h1 : (w1 (ix2 0 l) : EReal) = aC m c 1 q) (h2 : (w2 (ix2 0 l) : EReal) = aC m c 2 q)
    (h3 : (w3 (ix2 0 l) : EReal) = aC m c 3 q) :
    Pay.taps b x w0 w1 w2 w3 i l = conv (aX m c) (aC m c) (aB m c) (row t i) q := by
  unfold Pay.taps conv
  rw [hb, h0, h1, h2, h3, hx 3 (by omega) ⟨5 + i.val, by omega⟩ (by show 5 + i.val + 3 = 8 + i.val; omega),
    hx 2 (by omega) ⟨6 + i.val, by omega⟩ (by show 6 + i.val + 2 = 8 + i.val; omega),
    hx 1 (by omega) ⟨7 + i.val, by omega⟩ (by show 7 + i.val + 1 = 8 + i.val; omega),
    hx 0 (by omega) ⟨8 + i.val, by omega⟩ rfl]
  have e : tap (aX m c) (row t i) 0 q = aX m c (row t i) q := (if_pos (Nat.zero_le _)).trans rfl
  rw [e]

end loads

end Cert.MixFwdIdeal.Value

end
-- ==== Proof.MixFwdEq.lean ====
module

public import proofs.«01_k».proof.Proof.MixFwdKernel

/-! The mixers' forward call: what its pooling part and its convolution leave at each point and over all rows. -/

@[expose] public section

set_option maxRecDepth 16384

noncomputable section

open Idealize.ShloMosaic Idealize.ShloMosaic.TcCoe Idealize.SL.Sem
open scoped BigOperators

namespace Cert.MixFwdIdeal.Value

open Cert.MixFwdIdeal Cert.MixFwdIdeal.Gen
open PoolGrad (col width cnt)
open MixFwdRefIdeal.Read (argU argZ argX mean half conv tap)
open Cert.MixBwdIdeal.Value (ld2 ld3 groups)

variable (m : (ℓ : Loc nD τ sig) → Buf (Elt Ideal) ℓ)

theorem rowcount (t : Fin cfg0.N) (i : Fin 512) (g : Fin 4) (w : ℕ) (hw : width g = w) :
    cnt g (row t i) = ((min ((grid0.coords t 0).val * 512 + i.val + 1) w : ℕ) : ℝ) := by
  rw [coord, ← hw]; exact cnt_eq t g i

theorem coord16 (t : Fin cfg0.N) : (grid0.coords t 0).val < 16 := by rw [coord]; exact lt16 t

set_option maxHeartbeats 2000000 in
theorem pooled_A (c : Dev nD) (t : Fin cfg0.N) (h : t.val % 16 = 0) (g : Fin 4) (i : Fin 512) (k : Fin 128) (q : Fin 512) (hq : q.val = g.val * 128 + k.val) :
    ((outsAt0 m c t.val t.isLt).2.2.2.2.2.1 (ix2 i q) : EReal) = mean (aU m c) (row t i) g k := by
  rw [outsAt0_A m c t h]
  dsimp only
  unfold out0_A_19 kernelRun0_A
  dsimp only
  frame_open
  obtain ⟨rfl, hg⟩ | ⟨rfl, hg⟩ | ⟨rfl, hg⟩ | ⟨rfl, hg⟩ := groups g
  all_goals
    repeat refine (miss _ _ _ _ _ _ _ (Or.inr (by omega))).trans ?_
    refine (hit _ _ _ _ _ _ _ i k (Nat.zero_add _).symm (by omega)).trans ?_
    simp only [View.readCov, View.readAt_eq_ld, Memref.IsWhole.read_unread]
  · refine (Pay.mean_0 _ _ _ i k _ (rowcount t i 0 2 rfl) (coord16 t)).trans
      (mean_at m c t 0 i k (Pay.sum2 _ k (front (fun s => aU m c s (col 0 k)) t.val) (fun r => ?_) i) (by decide) ?_)
    · exact rows_u m c t 0 _ _ rfl r k
    · exact ldU m c t 0 _ rfl i k
  · refine (Pay.mean_1 _ _ i k _ _ (rowcount t i 1 4 rfl) (coord16 t)).trans
      (mean_at m c t 1 i k (Pay.sum4 _ k (front (fun s => aU m c s (col 1 k)) t.val) (fun r => ?_) i) (by decide) ?_)
    · exact rows_u m c t 1 _ _ rfl r k
    · exact ldU m c t 1 _ rfl i k
  · refine (Pay.mean_2 _ _ i k _ _ (rowcount t i 2 8 rfl) (coord16 t)).trans
      (mean_at m c t 2 i k (Pay.sum8 _ k (front (fun s => aU m c s (col 2 k)) t.val) (fun r => ?_) i) (by decide) ?_)
    · exact rows_u m c t 2 _ _ rfl r k
    · exact ldU m c t 2 _ rfl i k
  · refine (Pay.mean_3 _ _ i k _ _ (rowcount t i 3 16 rfl) (coord16 t)).trans
      (mean_at m c t 3 i k (Pay.sum16 _ k (front (fun s => aU m c s (col 3 k)) t.val) (fun r => ?_) i) (by decide) ?_)
    · exact rows_u m c t 3 _ _ rfl r k
    · exact ldU m c t 3 _ rfl i k

set_option maxHeartbeats 2000000 in
theorem half_A (c : Dev nD) (t : Fin cfg0.N) (h : t.val % 16 = 0) (g : Fin 4) (i : Fin 512) (k : Fin 128) (q : Fin 1024) (hq : q.val = g.val * 128 + k.val) :
    ((outsAt0 m c t.val t.isLt).1 (ix2 i q) : EReal) = half (aU m c) (aZ m c) (aL m c) (aW m c) (row t i) (col g k) := by
  rw [outsAt0_A m c t h]
  dsimp only
  unfold out0_A_14 kernelRun0_A
  dsimp only
  frame_open
  obtain ⟨rfl, hg⟩ | ⟨rfl, hg⟩ | ⟨rfl, hg⟩ | ⟨rfl, hg⟩ := groups g
  all_goals
    repeat refine (miss _ _ _ _ _ _ _ (Or.inr (by omega))).trans ?_
    refine (hit _ _ _ _ _ _ _ i k (Nat.zero_add _).symm (by omega)).trans ?_
    simp only [View.readCov, View.readAt_eq_ld, Memref.IsWhole.read_unread]
  · refine (Pay.gated_0 _ _ _ i k _ _).trans (gated_at m c t 0 i k (fun k => ?_) ?_ ?_ ?_)
    · refine (Pay.mean_0 _ _ _ i k _ (rowcount t i 0 2 rfl) (coord16 t)).trans
        (mean_at m c t 0 i k (Pay.sum2 _ k (front (fun s => aU m c s (col 0 k)) t.val) (fun r => ?_) i) (by decide) ?_)
      · exact rows_u m c t 0 _ _ rfl r k
      · exact ldU m c t 0 _ rfl i k
    · exact ldW m c t 0 _ rfl
    · exact ldL m c t 0 _ rfl
    · exact ldZ m c t 0 _ rfl
  · refine (Pay.gated_1 _ _ _ i k _ _).trans (gated_at m c t 1 i k (fun k => ?_) ?_ ?_ ?_)
    · refine (Pay.mean_1 _ _ i k _ _ (rowcount t i 1 4 rfl) (coord16 t)).trans
        (mean_at m c t 1 i k (Pay.sum4 _ k (front (fun s => aU m c s (col 1 k)) t.val) (fun r => ?_) i) (by decide) ?_)
      · exact rows_u m c t 1 _ _ rfl r k
      · exact ldU m c t 1 _ rfl i k
    · exact ldW m c t 1 _ rfl
    · exact ldL m c t 1 _ rfl
    · exact ldZ m c t 1 _ rfl
  · refine (Pay.gated_2 _ _ _ i k _ _ _ _).trans (gated_at m c t 2 i k (fun k => ?_) ?_ ?_ ?_)
    · refine (Pay.mean_2 _ _ i k _ _ (rowcount t i 2 8 rfl) (coord16 t)).trans
        (mean_at m c t 2 i k (Pay.sum8 _ k (front (fun s => aU m c s (col 2 k)) t.val) (fun r => ?_) i) (by decide) ?_)
      · exact rows_u m c t 2 _ _ rfl r k
      · exact ldU m c t 2 _ rfl i k
    · exact ldW m c t 2 _ rfl
    · exact ldL m c t 2 _ rfl
    · exact ldZ m c t 2 _ rfl
  · refine (Pay.gated_3 _ _ _ i k _ _ _ _).trans (gated_at m c t 3 i k (fun k => ?_) ?_ ?_ ?_)
    · refine (Pay.mean_3 _ _ i k _ _ (rowcount t i 3 16 rfl) (coord16 t)).trans
        (mean_at m c t 3 i k (Pay.sum16 _ k (front (fun s => aU m c s (col 3 k)) t.val) (fun r => ?_) i) (by decide) ?_)
      · exact rows_u m c t 3 _ _ rfl r k
      · exact ldU m c t 3 _ rfl i k
    · exact ldW m c t 3 _ rfl
    · exact ldL m c t 3 _ rfl
    · exact ldZ m c t 3 _ rfl

set_option maxHeartbeats 4000000 in
theorem conv_A (c : Dev nD) (t : Fin cfg0.N) (h : t.val % 16 = 0) (b : Fin 4) (i : Fin 512) (l : Fin 256) (q : Fin 1024) (hq : q.val = b.val * 256 + l.val) :
    ((outsAt0 m c t.val t.isLt).2.2.2.2.1 (ix2 i q) : EReal) = conv (aX m c) (aC m c) (aB m c) (row t i) q := by
  rw [outsAt0_A m c t h]
  dsimp only
  unfold out0_A_18 kernelRun0_A
  dsimp only
  frame_open
  obtain ⟨rfl, hg⟩ | ⟨rfl, hg⟩ | ⟨rfl, hg⟩ | ⟨rfl, hg⟩ := groups b
  all_goals
    rw [hg] at hq
    repeat refine (miss _ _ _ _ _ _ _ (Or.inr (by omega))).trans ?_
    refine (hit _ _ _ _ _ _ _ i l (Nat.zero_add _).symm (by omega)).trans ?_
    simp only [View.readCov, View.readAt_eq_ld, Memref.IsWhole.read_unread]
    first
      | refine (Pay.taps_0 _ _ _ _ _ _ i l).trans (conv_at m c t i l q ?_ ?_ ?_ ?_ ?_ ?_)
      | refine (Pay.taps_1 _ _ _ _ _ _ i l).trans (conv_at m c t i l q ?_ ?_ ?_ ?_ ?_ ?_)
      | refine (Pay.taps_2 _ _ _ _ _ _ i l).trans (conv_at m c t i l q ?_ ?_ ?_ ?_ ?_ ?_)
      | refine (Pay.taps_3 _ _ _ _ _ _ i l).trans (conv_at m c t i l q ?_ ?_ ?_ ?_ ?_ ?_)
    · exact ldB m c t _ _ rfl l q (by omega)
    · exact fun n hn r hr => rows_x m c t _ _ _ rfl i n hn r hr l q (by omega)
    · exact ldC m c t _ 0 _ rfl l q (by omega)
    · exact ldC m c t _ 1 _ rfl l q (by omega)
    · exact ldC m c t _ 2 _ rfl l q (by omega)
    · exact ldC m c t _ 3 _ rfl l q (by omega)

set_option maxHeartbeats 2000000 in
theorem pooled_B (c : Dev nD) (t : Fin cfg0.N) (h : ¬t.val % 16 = 0) (g : Fin 4) (i : Fin 512) (k : Fin 128) (q : Fin 512) (hq : q.val = g.val * 128 + k.val) :
    ((outsAt0 m c t.val t.isLt).2.2.2.2.2.1 (ix2 i q) : EReal) = mean (aU m c) (row t i) g k := by
  rw [outsAt0_B m c t h]
  dsimp only
  unfold out0_B_19 kernelRun0_B
  dsimp only
  frame_open
  obtain ⟨rfl, hg⟩ | ⟨rfl, hg⟩ | ⟨rfl, hg⟩ | ⟨rfl, hg⟩ := groups g
  all_goals
    repeat refine (miss _ _ _ _ _ _ _ (Or.inr (by omega))).trans ?_
    refine (hit _ _ _ _ _ _ _ i k (Nat.zero_add _).symm (by omega)).trans ?_
    simp only [View.readCov, View.readAt_eq_ld, Memref.IsWhole.read_unread]
  · refine (Pay.mean_0 _ _ _ i k _ (rowcount t i 0 2 rfl) (coord16 t)).trans
      (mean_at m c t 0 i k (Pay.sum2 _ k (front (fun s => aU m c s (col 0 k)) t.val) (fun r => ?_) i) (by decide) ?_)
    · exact rows_u m c t 0 _ _ rfl r k
    · exact ldU m c t 0 _ rfl i k
  · refine (Pay.mean_1 _ _ i k _ _ (rowcount t i 1 4 rfl) (coord16 t)).trans
      (mean_at m c t 1 i k (Pay.sum4 _ k (front (fun s => aU m c s (col 1 k)) t.val) (fun r => ?_) i) (by decide) ?_)
    · exact rows_u m c t 1 _ _ rfl r k
    · exact ldU m c t 1 _ rfl i k
  · refine (Pay.mean_2 _ _ i k _ _ (rowcount t i 2 8 rfl) (coord16 t)).trans
      (mean_at m c t 2 i k (Pay.sum8 _ k (front (fun s => aU m c s (col 2 k)) t.val) (fun r => ?_) i) (by decide) ?_)
    · exact rows_u m c t 2 _ _ rfl r k
    · exact ldU m c t 2 _ rfl i k
  · refine (Pay.mean_3 _ _ i k _ _ (rowcount t i 3 16 rfl) (coord16 t)).trans
      (mean_at m c t 3 i k (Pay.sum16 _ k (front (fun s => aU m c s (col 3 k)) t.val) (fun r => ?_) i) (by decide) ?_)
    · exact rows_u m c t 3 _ _ rfl r k
    · exact ldU m c t 3 _ rfl i k

set_option maxHeartbeats 2000000 in
theorem half_B (c : Dev nD) (t : Fin cfg0.N) (h : ¬t.val % 16 = 0) (g : Fin 4) (i : Fin 512) (k : Fin 128) (q : Fin 1024) (hq : q.val = g.val * 128 + k.val) :
    ((outsAt0 m c t.val t.isLt).1 (ix2 i q) : EReal) = half (aU m c) (aZ m c) (aL m c) (aW m c) (row t i) (col g k) := by
  rw [outsAt0_B m c t h]
  dsimp only
  unfold out0_B_14 kernelRun0_B
  dsimp only
  frame_open
  obtain ⟨rfl, hg⟩ | ⟨rfl, hg⟩ | ⟨rfl, hg⟩ | ⟨rfl, hg⟩ := groups g
  all_goals
    repeat refine (miss _ _ _ _ _ _ _ (Or.inr (by omega))).trans ?_
    refine (hit _ _ _ _ _ _ _ i k (Nat.zero_add _).symm (by omega)).trans ?_
    simp only [View.readCov, View.readAt_eq_ld, Memref.IsWhole.read_unread]
  · refine (Pay.gated_0 _ _ _ i k _ _).trans (gated_at m c t 0 i k (fun k => ?_) ?_ ?_ ?_)
    · refine (Pay.mean_0 _ _ _ i k _ (rowcount t i 0 2 rfl) (coord16 t)).trans
        (mean_at m c t 0 i k (Pay.sum2 _ k (front (fun s => aU m c s (col 0 k)) t.val) (fun r => ?_) i) (by decide) ?_)
      · exact rows_u m c t 0 _ _ rfl r k
      · exact ldU m c t 0 _ rfl i k
    · exact ldW m c t 0 _ rfl
    · exact ldL m c t 0 _ rfl
    · exact ldZ m c t 0 _ rfl
  · refine (Pay.gated_1 _ _ _ i k _ _).trans (gated_at m c t 1 i k (fun k => ?_) ?_ ?_ ?_)
    · refine (Pay.mean_1 _ _ i k _ _ (rowcount t i 1 4 rfl) (coord16 t)).trans
        (mean_at m c t 1 i k (Pay.sum4 _ k (front (fun s => aU m c s (col 1 k)) t.val) (fun r => ?_) i) (by decide) ?_)
      · exact rows_u m c t 1 _ _ rfl r k
      · exact ldU m c t 1 _ rfl i k
    · exact ldW m c t 1 _ rfl
    · exact ldL m c t 1 _ rfl
    · exact ldZ m c t 1 _ rfl
  · refine (Pay.gated_2 _ _ _ i k _ _ _ _).trans (gated_at m c t 2 i k (fun k => ?_) ?_ ?_ ?_)
    · refine (Pay.mean_2 _ _ i k _ _ (rowcount t i 2 8 rfl) (coord16 t)).trans
        (mean_at m c t 2 i k (Pay.sum8 _ k (front (fun s => aU m c s (col 2 k)) t.val) (fun r => ?_) i) (by decide) ?_)
      · exact rows_u m c t 2 _ _ rfl r k
      · exact ldU m c t 2 _ rfl i k
    · exact ldW m c t 2 _ rfl
    · exact ldL m c t 2 _ rfl
    · exact ldZ m c t 2 _ rfl
  · refine (Pay.gated_3 _ _ _ i k _ _ _ _).trans (gated_at m c t 3 i k (fun k => ?_) ?_ ?_ ?_)
    · refine (Pay.mean_3 _ _ i k _ _ (rowcount t i 3 16 rfl) (coord16 t)).trans
        (mean_at m c t 3 i k (Pay.sum16 _ k (front (fun s => aU m c s (col 3 k)) t.val) (fun r => ?_) i) (by decide) ?_)
      · exact rows_u m c t 3 _ _ rfl r k
      · exact ldU m c t 3 _ rfl i k
    · exact ldW m c t 3 _ rfl
    · exact ldL m c t 3 _ rfl
    · exact ldZ m c t 3 _ rfl

set_option maxHeartbeats 4000000 in
theorem conv_B (c : Dev nD) (t : Fin cfg0.N) (h : ¬t.val % 16 = 0) (b : Fin 4) (i : Fin 512) (l : Fin 256) (q : Fin 1024) (hq : q.val = b.val * 256 + l.val) :
    ((outsAt0 m c t.val t.isLt).2.2.2.2.1 (ix2 i q) : EReal) = conv (aX m c) (aC m c) (aB m c) (row t i) q := by
  rw [outsAt0_B m c t h]
  dsimp only
  unfold out0_B_18 kernelRun0_B
  dsimp only
  frame_open
  obtain ⟨rfl, hg⟩ | ⟨rfl, hg⟩ | ⟨rfl, hg⟩ | ⟨rfl, hg⟩ := groups b
  all_goals
    rw [hg] at hq
    repeat refine (miss _ _ _ _ _ _ _ (Or.inr (by omega))).trans ?_
    refine (hit _ _ _ _ _ _ _ i l (Nat.zero_add _).symm (by omega)).trans ?_
    simp only [View.readCov, View.readAt_eq_ld, Memref.IsWhole.read_unread]
    first
      | refine (Pay.taps_0 _ _ _ _ _ _ i l).trans (conv_at m c t i l q ?_ ?_ ?_ ?_ ?_ ?_)
      | refine (Pay.taps_1 _ _ _ _ _ _ i l).trans (conv_at m c t i l q ?_ ?_ ?_ ?_ ?_ ?_)
      | refine (Pay.taps_2 _ _ _ _ _ _ i l).trans (conv_at m c t i l q ?_ ?_ ?_ ?_ ?_ ?_)
      | refine (Pay.taps_3 _ _ _ _ _ _ i l).trans (conv_at m c t i l q ?_ ?_ ?_ ?_ ?_ ?_)
    · exact ldB m c t _ _ rfl l q (by omega)
    · exact fun n hn r hr => rows_x m c t _ _ _ rfl i n hn r hr l q (by omega)
    · exact ldC m c t _ 0 _ rfl l q (by omega)
    · exact ldC m c t _ 1 _ rfl l q (by omega)
    · exact ldC m c t _ 2 _ rfl l q (by omega)
    · exact ldC m c t _ 3 _ rfl l q (by omega)

/-! ## Over all rows -/

/-- The pooled tokens. -/
theorem final_pooled (c : Dev nD) (s : Fin 8192) (g : Fin 4) (k : Fin 128) (q : Fin 512) (hq : q.val = g.val * 128 + k.val) :
    ((dats m 0 c).arrAt 19 cfg0.N : S8192x512.Idx → EReal) (ix2 s q) = mean (aU m c) s g k := by
  refine (congrFun (final_19 m c) (ix2 s q)).trans ?_
  refine Eq.trans ?_ (congrArg (fun s => mean (aU m c) s g k) (row_tile s))
  by_cases h : (tile s).val % 16 = 0
  · exact pooled_A m c (tile s) h g (place s) k q hq
  · exact pooled_B m c (tile s) h g (place s) k q hq

/-- The pooling mixer's half of the mixers' output. -/
theorem final_half (c : Dev nD) (s : Fin 8192) (g : Fin 4) (k : Fin 128) (q : Fin 1024) (hq : q.val = g.val * 128 + k.val) :
    ((dats m 0 c).arrAt 14 cfg0.N : S8192x1024.Idx → EReal) (ix2 s q) = half (aU m c) (aZ m c) (aL m c) (aW m c) s (col g k) := by
  refine (congrFun (final_14 m c) (ix2 s q)).trans ?_
  refine Eq.trans ?_ (congrArg (fun s => half (aU m c) (aZ m c) (aL m c) (aW m c) s (col g k)) (row_tile s))
  by_cases h : (tile s).val % 16 = 0
  · exact half_A m c (tile s) h g (place s) k q hq
  · exact half_B m c (tile s) h g (place s) k q hq

/-- The convolution's output. -/
theorem final_conv (c : Dev nD) (s : Fin 8192) (q : Fin 1024) :
    ((dats m 0 c).arrAt 18 cfg0.N : S8192x1024.Idx → EReal) (ix2 s q) = conv (aX m c) (aC m c) (aB m c) s q := by
  refine (congrFun (final_18 m c) (ix2 s q)).trans ?_
  refine Eq.trans ?_ (congrArg (fun s => conv (aX m c) (aC m c) (aB m c) s q) (row_tile s))
  have hb : q.val / 256 < 4 := by have := q.isLt; omega
  have hl : q.val % 256 < 256 := Nat.mod_lt _ (by norm_num)
  have hq : q.val = q.val / 256 * 256 + q.val % 256 := by omega
  by_cases h : (tile s).val % 16 = 0
  · exact conv_A m c (tile s) h ⟨q.val / 256, hb⟩ (place s) ⟨q.val % 256, hl⟩ q hq
  · exact conv_B m c (tile s) h ⟨q.val / 256, hb⟩ (place s) ⟨q.val % 256, hl⟩ q hq

end Cert.MixFwdIdeal.Value

end
-- ==== Proof.MixFwdClaim.lean ====
module

public import proofs.«01_k».proof.Defs
public import proofs.«01_k».proof.Proof.MixFwdEq
public import proofs.«01_k».proof.Proof.MixFwdRun

/-! The mixers' forward call: its claims. -/

@[expose] public section

set_option maxRecDepth 16384

noncomputable section

open Idealize.ShloMosaic Idealize.ShloMosaic.TcCoe Idealize.SL.Sem
open scoped BigOperators

namespace Cert.Pre_finite_tokens

theorem facts : Facts where
  slices_S1x8192x3592_S1x8192x512_0_0_0 := by decide
  bcast_S_S1x8192x512 := by decide

end Cert.Pre_finite_tokens

namespace Cert.On_pool_half

theorem facts : Facts where
  bcast_S_S8192x1024 := by decide
  bcast_S_S8192x512 := by decide

end Cert.On_pool_half

namespace Cert.Proof.MixF

attribute [local instance] Cert.Pre_finite_tokens.facts Cert.On_pool_half.facts

theorem frame_reference : Cert.quiescent_MixFwdRefIdeal := fun m ρ _ =>
  (θ_run Cert.MixFwdRefIdeal.defs _ _).mono (fun r h => ⟨fun c => (h c).2.2.2, sem_eq_zero_of_no_sems rfl r.2⟩)
    (Cert.MixFwdRefIdeal.Value.run m ρ)

section cuts

open Cert.Pre_finite_tokens

theorem cut_columns (x : FVec Ideal S1x8192x3592 .f32) (h : S1x8192x3592.Slices ![0, 0, 0] S1x8192x512) (s : Fin 8192) (l : Fin 512) :
    (extractStridedSlice S1x8192x512 ![0, 0, 0] x h (ix3 0 s l) : EReal) = x (ix3 0 s ⟨l.val, by omega⟩) := by
  pointwise

end cuts

variable (m : (ℓ : Loc Cert.MixFwdIdeal.nD Cert.MixFwdIdeal.τ Cert.MixFwdIdeal.sig) → Buf (Elt Ideal) ℓ)

open Cert.MixFwdIdeal.Value in
/-- Where the precondition holds, the columns averaged are real. -/
theorem real (hpre : Cert.Pre_MixFwdIdeal_finite_tokens m) (c : Dev Cert.MixFwdIdeal.nD) : ∀ s j, ∃ r : ℝ, aU m c s j = r := by
  obtain ⟨X, hX⟩ := Norm.real_of_pre _ _ (hpre c)
  exact fun s j => ⟨X (ix3 0 s j), (cut_columns _ _ s j).symm.trans (congrFun hX _)⟩

open Cert.MixFwdRefIdeal.Read Cert.MixFwdIdeal.Value in
/-- On the pooling columns the two programs' mixed activations are the same numbers. -/
theorem result_half (hpre : Cert.Pre_MixFwdIdeal_finite_tokens m) (c : Dev Cert.MixFwdIdeal.nD) (s : Fin 8192) (q : Fin 1024) (hq : q.val < 512) :
    (val_main_v115 (F := Ideal) (m ((c.tc : Thread _ _).loc Cert.MixFwdIdeal.main_arg0)) (m ((c.tc : Thread _ _).loc Cert.MixFwdIdeal.main_arg4))
      (m ((c.tc : Thread _ _).loc Cert.MixFwdIdeal.main_arg5)) (ix2 s q) : EReal)
      = ((Cert.MixFwdIdeal.Gen.dats m 0 c).arrAt 14 Cert.MixFwdIdeal.cfg0.N : Cert.MixFwdIdeal.S8192x1024.Idx → EReal) (ix2 s q) := by
  have e : q.val = (PoolGrad.grp ⟨q.val, hq⟩).val * 128 + (PoolGrad.lane ⟨q.val, hq⟩).val := (congrArg Fin.val (PoolGrad.col_grp ⟨q.val, hq⟩)).symm
  refine Eq.trans ?_ (final_half m c s (PoolGrad.grp ⟨q.val, hq⟩) (PoolGrad.lane ⟨q.val, hq⟩) q e).symm
  exact read_half _ _ _ (real m hpre c) s (PoolGrad.col (PoolGrad.grp ⟨q.val, hq⟩) (PoolGrad.lane ⟨q.val, hq⟩)) q e

open Cert.MixFwdRefIdeal.Read Cert.MixFwdIdeal.Value in
theorem result_conv (c : Dev Cert.MixFwdIdeal.nD) :
    val_main_v116 (F := Ideal) (m ((c.tc : Thread _ _).loc Cert.MixFwdIdeal.main_arg0)) (m ((c.tc : Thread _ _).loc Cert.MixFwdIdeal.main_arg2))
      (m ((c.tc : Thread _ _).loc Cert.MixFwdIdeal.main_arg3)) = (Cert.MixFwdIdeal.Gen.dats m 0 c).arrAt 18 Cert.MixFwdIdeal.cfg0.N := by
  funext y
  obtain ⟨s, q, rfl⟩ : ∃ (s : Fin 8192) (q : Fin 1024), y = ix2 s q := ⟨y 0, y 1, eq_ix2 y⟩
  exact (read_conv _ _ _ s q).trans (final_conv m c s q).symm

open Cert.MixFwdRefIdeal.Read Cert.MixFwdIdeal.Value in
theorem result_pooled (hpre : Cert.Pre_MixFwdIdeal_finite_tokens m) (c : Dev Cert.MixFwdIdeal.nD) :
    val_main_v184 (F := Ideal) (m ((c.tc : Thread _ _).loc Cert.MixFwdIdeal.main_arg0)) = (Cert.MixFwdIdeal.Gen.dats m 0 c).arrAt 19 Cert.MixFwdIdeal.cfg0.N := by
  funext y
  obtain ⟨s, q, rfl⟩ : ∃ (s : Fin 8192) (q : Fin 512), y = ix2 s q := ⟨y 0, y 1, eq_ix2 y⟩
  have e : q.val = (PoolGrad.grp q).val * 128 + (PoolGrad.lane q).val := (congrArg Fin.val (PoolGrad.col_grp q)).symm
  exact (read_pooled _ (real m hpre c) s _ _ q e).trans (final_pooled m c s _ _ q e).symm

/-- The mask's first array holds on the first 512 columns. -/
theorem mask_column (h : Cert.On_pool_half.S_.BroadcastsInDim Cert.On_pool_half.S8192x1024 (![] : Fin 0 → Fin Cert.On_pool_half.S8192x1024.rank))
    (s : Fin 8192) (q : Fin 1024)
    (e : cmpi .slt (iotaInDim Cert.On_pool_half.S8192x1024 32 1)
      (broadcastInDim Cert.On_pool_half.S8192x1024 ![] h (constantI Cert.On_pool_half.S_ 32 512#32)) (ix2 s q) = 1#1) : q.val < 512 := by
  by_contra hn
  have hl := q.isLt
  have e' : Scalar.cmpi .slt (BitVec.ofNat 32 q.val) 512#32 = 1#1 := e
  revert e'
  simp only [Scalar.cmpi, IntOp.cmpi]
  have : ¬ (BitVec.ofNat 32 q.val).slt 512#32 = true := by
    rw [BitVec.slt_iff_toInt_lt, BitVec.toInt_ofNat', BitVec.toInt_ofNat']
    norm_num [Int.bmod]
    omega
  simp [this]

set_option maxHeartbeats 2000000 in
/-- The ideal kernel and the problem's forward lines return the same pooling half, convolution and pooled tokens. -/
theorem algebraic : Cert.algebraic_MixFwdIdeal_MixFwdRefIdeal_on_pool_half_pre_finite_tokens := by
  intro m g m' g' hpre hagree
  refine ⟨fun c => (Cert.MixFwdIdeal.Gen.dats m 0 c).arrAt 14 Cert.MixFwdIdeal.cfg0.N, fun c => (Cert.MixFwdIdeal.Gen.dats m 0 c).arrAt 18 Cert.MixFwdIdeal.cfg0.N,
    fun c => (Cert.MixFwdIdeal.Gen.dats m 0 c).arrAt 19 Cert.MixFwdIdeal.cfg0.N,
    (θ_run Cert.MixFwdIdeal.defs _ _).mono (fun r h c => ?_) (Cert.MixFwdIdeal.Value.run_blocks m g),
    (θ_run Cert.MixFwdRefIdeal.defs _ _).mono (fun r h c => ?_) (Cert.MixFwdRefIdeal.Value.run m' g')⟩
  · obtain ⟨r0, r1, r2, k⟩ := h c
    exact ⟨fun i _ => congrFun r0 i, fun i _ => congrFun r1 i, fun i _ => congrFun r2 i, k⟩
  · obtain ⟨r0, r1, r2, k⟩ := h c
    obtain ⟨h0, -, h2, h3, h4, h5, -⟩ := hagree c
    have e0 := r0.trans (Cert.MixFwdRefIdeal.Read.val_main_v115_eq (StableHlo.launchContents m' c))
    have e1 := r1.trans (Cert.MixFwdRefIdeal.Read.val_main_v116_eq (StableHlo.launchContents m' c))
    have e2 := r2.trans (Cert.MixFwdRefIdeal.Read.val_main_v184_eq (StableHlo.launchContents m' c))
    refine ⟨fun i hi => ?_, fun i _ => ?_, fun i _ => ?_, k⟩
    · obtain ⟨s, q, rfl⟩ : ∃ (s : Fin 8192) (q : Fin 1024), i = ix2 s q := ⟨i 0, i 1, eq_ix2 i⟩
      refine (congrFun e0 (ix2 s q)).trans (Eq.trans ?_ (result_half m hpre c s q (mask_column _ s q hi)))
      rw [← h0, ← h4, ← h5]
    · refine (congrFun e1 i).trans (Eq.trans ?_ (congrFun (result_conv m c) i))
      rw [← h0, ← h2, ← h3]
    · refine (congrFun e2 i).trans (Eq.trans ?_ (congrFun (result_pooled m hpre c) i))
      rw [← h0]

end Cert.Proof.MixF

end
-- ==== Proof.DwInKernel.lean ====
module

public import proofs.«01_k».proof.Proof.Gen.DwInIdeal.Value
public import proofs.«01_k».proof.Proof.Gen.DwInRefIdeal.Read
public import proofs.«01_k».proof.Proof.Norm
public import Idealize.ShloMosaic.Lib.Pipeline.ValueKit
public import Idealize.ShloMosaic.Lib.Pipeline.ReadBack

/-! The input weight's gradient: the result and the reference's as functions of the arguments. -/

@[expose] public section

set_option maxRecDepth 16384

noncomputable section

open Idealize.ShloMosaic Idealize.ShloMosaic.TcCoe Idealize.SL.Sem
open Idealize.ShloMosaic.Pipeline (Dat)
open scoped BigOperators

namespace Cert.DwInIdeal.Value

open Cert.DwInIdeal Cert.DwInIdeal.Gen

/-- The modulated norm of the input, which both sides compute by the same operations. -/
abbrev hid (x : FVec Ideal S1x8192x1024 .f32) (g s b : FVec Ideal S1x1024 .f32) : FVec Ideal S1x8192x1024 .f32 :=
  Cert.DwInRefIdeal.Read.val_main_v21 (F := Ideal) x g s b

/-- What row `r` adds to the gradient's entry of column `n` and input `l`. -/
def term (h : FVec Ideal S1x8192x1024 .f32) (d : FVec Ideal S1x8192x3592 .f32) (n : Fin 3592) (l : Fin 1024) (r : Fin 8192) : EReal :=
  (d (ix3 0 r n) : EReal) * (h (ix3 0 r l) : EReal)

/-- The gradient's entry, zero behind the last column. -/
def grad (h : FVec Ideal S1x8192x1024 .f32) (d : FVec Ideal S1x8192x3592 .f32) (n : Fin 3840) (l : Fin 1024) : EReal :=
  if e : n.val < 3592 then ∑ r, term h d ⟨n, e⟩ l r else 0

/-- What the rows of one half add, from the blocks. -/
def bsum (x0 : Vec Ideal S4096x1024 .bf16) (x1 : Vec Ideal S4096x768 .bf16) (i : Fin 768) (l : Fin 1024) : EReal :=
  ∑ k, (x1 (ix2 k i) : EReal) * (x0 (ix2 k l) : EReal)

variable (m : (ℓ : Loc nD τ sig) → Buf (Elt Ideal) ℓ)

theorem idx : ∀ t : Fin cfg0.N, win0_0.index t = ![t.val % 2, 0] ∧ win0_1.index t = ![t.val % 2, t.val / 2]
    ∧ win0_2.index t = ![t.val / 2, 0] :=
  (by decide +kernel : ∀ t : Fin grid0.N, _)

/-- The first half of the rows resets the sum. -/
theorem step_A (c : Dev nD) (t : Fin cfg0.N) (h0 : t.val % 2 = 0) (h1 : ¬t.val % 2 = 1) (i : Fin 768) (l : Fin 1024) :
    ((outsAt0 m c t.val t.isLt).2 (ix2 i l) : EReal) = bsum (iblk m c 0 t) (iblk m c 1 t) i l := by
  rw [outsAt0_A m c t h0 h1]
  frame_out
  open_payloads
  pointwise
  rfl

/-- The second half adds to it and writes it out. -/
theorem step_B (c : Dev nD) (t : Fin cfg0.N) (h0 : ¬t.val % 2 = 0) (h1 : t.val % 2 = 1) (i : Fin 768) (l : Fin 1024) :
    ((outsAt0 m c t.val t.isLt).1 (ix2 i l) : EReal)
      = ((outsAt0 m c (t.val - 1) (by have := t.isLt; omega)).2 (ix2 i l) : EReal) + bsum (iblk m c 0 t) (iblk m c 1 t) i l := by
  rw [outsAt0_B m c t h0 h1]
  frame_out
  open_payloads
  pointwise
  exact congrArg₂ (fun a b : EReal => a + b) (congrFun (read_unread_whole cc0_scratch0 _ _) (ix2 i l)) rfl

theorem V26 (c : Dev nD) : V m c main_v26 = truncf .bf16 (shapeCast S8192x1024 (hid (m ((c : Thread nD τ).loc main_arg0)) (m ((c : Thread nD τ).loc main_arg1))
    (m ((c : Thread nD τ).loc main_arg2)) (m ((c : Thread nD τ).loc main_arg3))) shapeCasts_S1x8192x1024_S8192x1024 : FVec Ideal S8192x1024 .f32) bitsLt_bf16_f32 := by
  simp only [V, List.flatten_cons, List.flatten_nil, List.append_nil, List.cons_append, List.nil_append]
  entry_read
  rfl

theorem V24 (c : Dev nD) : V m c main_v24 = pad S8192x3840 ![0, 0] ![0, 248] ![0, 0]
    (truncf .bf16 (shapeCast S8192x3592 (m ((c : Thread nD τ).loc main_arg5)) shapeCasts_S1x8192x3592_S8192x3592 : FVec Ideal S8192x3592 .f32) bitsLt_bf16_f32)
    (sitofp (F := Ideal) .bf16 (constantI S_ 32 0#32)) pads_S8192x3592_S8192x3840_000_02480 h_S_ := by
  simp only [V, List.flatten_cons, List.flatten_nil, List.append_nil, List.cons_append, List.nil_append]
  entry_read
  rfl

theorem cut26 (x : FVec Ideal S1x8192x1024 .f32) (r : Fin 8192) (l : Fin 1024) :
    ((truncf .bf16 (shapeCast S8192x1024 x shapeCasts_S1x8192x1024_S8192x1024 : FVec Ideal S8192x1024 .f32) bitsLt_bf16_f32 : FVec Ideal S8192x1024 .bf16) (ix2 r l) : EReal)
      = x (ix3 0 r l) := by
  pointwise

theorem pad24 (x : FVec Ideal S1x8192x3592 .f32) (r : Fin 8192) (n : Fin 3840) :
    (pad S8192x3840 ![0, 0] ![0, 248] ![0, 0]
      (truncf .bf16 (shapeCast S8192x3592 x shapeCasts_S1x8192x3592_S8192x3592 : FVec Ideal S8192x3592 .f32) bitsLt_bf16_f32)
      (sitofp (F := Ideal) .bf16 (constantI S_ 32 0#32)) pads_S8192x3592_S8192x3840_000_02480 h_S_ : FVec Ideal S8192x3840 .bf16) (ix2 r n)
      = if h : n.val < 3592 then x (ix3 0 r ⟨n, h⟩) else (0 : EReal) := by
  pointwise [Norm.sitofp_zero]

/-- Row `k` of the half at point `t`, among the rows of the whole sequence. -/
def row (t : Fin cfg0.N) (k : Fin 4096) : Fin 8192 := ⟨t.val % 2 * 4096 + k.val, by omega⟩

/-- Column `i` of the tile at point `t`, among the padded columns. -/
def col (t : Fin cfg0.N) (i : Fin 768) : Fin 3840 :=
  ⟨t.val / 2 * 768 + i.val, by have ht : t.val < 10 := lt_of_lt_of_eq t.isLt N_0; have hi := i.isLt; omega⟩

/-- The arguments at a device. -/
abbrev hAt (c : Dev nD) := hid (m ((c : Thread nD τ).loc main_arg0)) (m ((c : Thread nD τ).loc main_arg1))
  (m ((c : Thread nD τ).loc main_arg2)) (m ((c : Thread nD τ).loc main_arg3))
abbrev dAt (c : Dev nD) : FVec Ideal S1x8192x3592 .f32 := m ((c : Thread nD τ).loc main_arg5)

theorem blk0 (c : Dev nD) (t : Fin cfg0.N) (k : Fin 4096) (l : Fin 1024) :
    (iblk m c 0 t (ix2 k l) : EReal) = hAt m c (ix3 0 (row t k) l) := by
  refine Eq.trans ?_ ((congrFun (V26 m c) (ix2 (row t k) l)).trans (cut26 (hAt m c) (row t k) l))
  blk_simp [iblk, idx t]
  refine congrArg (V m c main_v26) ?_
  blk_ext [idx t, row]

theorem blk1 (c : Dev nD) (t : Fin cfg0.N) (k : Fin 4096) (i : Fin 768) :
    (iblk m c 1 t (ix2 k i) : EReal) = if h : (col t i).val < 3592 then dAt m c (ix3 0 (row t k) ⟨col t i, h⟩) else (0 : EReal) := by
  refine Eq.trans ?_ ((congrFun (V24 m c) (ix2 (row t k) (col t i))).trans (pad24 (dAt m c) (row t k) (col t i)))
  blk_simp [iblk, idx t]
  refine congrArg (V m c main_v24) ?_
  blk_ext [idx t, row, col]

theorem bsum_lt (c : Dev nD) (t : Fin cfg0.N) (i : Fin 768) (l : Fin 1024) (h : (col t i).val < 3592) :
    bsum (iblk m c 0 t) (iblk m c 1 t) i l = ∑ k, term (hAt m c) (dAt m c) ⟨col t i, h⟩ l (row t k) :=
  Finset.sum_congr rfl fun k _ => congrArg₂ (fun a b : EReal => a * b) ((blk1 m c t k i).trans (dif_pos h)) (blk0 m c t k l)

theorem bsum_ge (c : Dev nD) (t : Fin cfg0.N) (i : Fin 768) (l : Fin 1024) (h : ¬(col t i).val < 3592) :
    bsum (iblk m c 0 t) (iblk m c 1 t) i l = 0 :=
  Finset.sum_eq_zero fun k _ => (congrArg₂ (fun a b : EReal => a * b) ((blk1 m c t k i).trans (dif_neg h)) (blk0 m c t k l)).trans (zero_mul _)

theorem emb2 (t : Fin cfg0.N) (y : ((cfg0.win 2).xblock (cfg0.grid.coords t)).Idx) (i : Fin 768) (l : Fin 1024) (h0 : (y 0).val = i.val) (h1 : (y 1).val = l.val) :
    (cfg0.win 2 |>.blk t).view.emb y = (ix2 (col t i) l : S3840x1024.Idx) := by
  blk_ext [idx t, col, h0, h1]

/-- The two halves of a sum over the rows. -/
theorem halves (f : Fin 8192 → EReal) (s t : Fin cfg0.N) (hs : s.val % 2 = 0) (ht : t.val % 2 = 1) :
    ∑ k, f (row s k) + ∑ k, f (row t k) = ∑ r, f r := by
  rw [Fin.sum_univ_add (a := 4096) (b := 4096)]
  refine congrArg₂ (· + ·) (Finset.sum_congr rfl fun k _ => congrArg f (Fin.ext ?_)) (Finset.sum_congr rfl fun k _ => congrArg f (Fin.ext ?_))
  · show s.val % 2 * 4096 + k.val = k.val
    omega
  · show t.val % 2 * 4096 + k.val = 4096 + k.val
    omega

theorem out2 (c : Dev nD) (t : Fin cfg0.N) (ht : t.val % 2 = 1) (i : Fin 768) (l : Fin 1024) :
    ((outsAt0 m c t.val t.isLt).1 (ix2 i l) : EReal) = grad (hAt m c) (dAt m c) (col t i) l := by
  have hl := t.isLt
  let s : Fin cfg0.N := ⟨t.val - 1, by omega⟩
  have hs : s.val % 2 = 0 := by show (t.val - 1) % 2 = 0; omega
  have hc : col s i = col t i := Fin.ext (by show (t.val - 1) / 2 * 768 + i.val = t.val / 2 * 768 + i.val; omega)
  rw [step_B m c t (by omega) ht, step_A m c s hs (by omega)]
  unfold grad
  split
  · next h =>
    have h' : (col s i).val < 3592 := hc ▸ h
    rw [bsum_lt m c t i l h, bsum_lt m c s i l h', ← halves _ s t hs ht]
    simp only [hc]
  · next h =>
    rw [bsum_ge m c t i l h, bsum_ge m c s i l (hc ▸ h), add_zero]

theorem final_2 (c : Dev nD) : (dats m 0 c).arrAt 2 cfg0.N = fun y => grad (hAt m c) (dAt m c) (y 0) (y 1) := by
  refine (dats m 0 c).arrAt_eq_of_covers 2 _ (by decide +kernel) fun t hf y => ?_
  have ht : t.val % 2 = 1 := (by decide +kernel : ∀ t : Fin cfg0.N, (cfg0.win 2).flush t = true → t.val % 2 = 1) t hf
  obtain ⟨i, l, e⟩ : ∃ (i : Fin 768) (l : Fin 1024), y = ix2 i l := ⟨y 0, y 1, eq_ix2 y⟩
  have e2 := emb2 t y i l (by rw [e]; rfl) (by rw [e]; rfl)
  blk_simp
  rw [after0_2]
  rw [e2, e]
  exact out2 m c t ht i l

end Cert.DwInIdeal.Value

/-! ## The reference -/

namespace Cert.DwInRefIdeal.Read

open Cert.DwInIdeal.Value (grad term)

variable (x0 : FVec Ideal S1x8192x1024 .f32) (x1 x2 x3 : FVec Ideal S1x1024 .f32) (x5 : FVec Ideal S1x8192x3592 .f32)

theorem read24 (n : Fin 3592) (l : Fin 1024) :
    (val_main_v24 (F := Ideal) x0 x1 x2 x3 x5 (ix2 n l) : EReal) = ∑ r, term (val_main_v21 (F := Ideal) x0 x1 x2 x3) x5 n l r := by
  unfold val_main_v24
  generalize e : val_main_v21 (F := Ideal) x0 x1 x2 x3 = z
  pointwise
  refine (Fintype.sum_subsingleton _ 0).trans ?_
  rfl

theorem read30 (n : Fin 3840) (l : Fin 1024) :
    (val_main_v30 (F := Ideal) x0 x1 x2 x3 x5 (ix2 n l) : EReal) = grad (val_main_v21 (F := Ideal) x0 x1 x2 x3) x5 n l := by
  have z0 : (FloatOps.sitofp .f32 0#32 : Ideal .f32) = (0 : EReal) := by simp [FloatOps.sitofp]
  refine Eq.trans (b := if h : n.val < 3592 then (val_main_v24 (F := Ideal) x0 x1 x2 x3 x5 (ix2 ⟨n, h⟩ l) : EReal) else (0 : EReal)) ?_ ?_
  · generalize e : val_main_v24 (F := Ideal) x0 x1 x2 x3 x5 = z
    unfold val_main_v30 val_main_v29 val_main_v28 val_main_v27 val_main_v26 val_main_v25
    rw [e]
    pointwise [val_main_c, val_main_call0_v0, z0]
  · unfold grad
    split
    · exact read24 x0 x1 x2 x3 x5 _ l
    · rfl

theorem all30 : val_main_v30 (F := Ideal) x0 x1 x2 x3 x5 = fun y => grad (val_main_v21 (F := Ideal) x0 x1 x2 x3) x5 (y 0) (y 1) := by
  funext y
  rw [eq_ix2 y]
  exact read30 x0 x1 x2 x3 x5 (y 0) (y 1)

end Cert.DwInRefIdeal.Read
-- ==== Proof.DwInClaim.lean ====
module

public import proofs.«01_k».proof.Defs
public import proofs.«01_k».proof.Proof.DwInKernel
public import proofs.«01_k».proof.Proof.Gen.DwIn.Frame
public import proofs.«01_k».proof.Proof.Gen.DwInIdeal.Frame

/-! The input weight's gradient: its claims. -/

@[expose] public section

noncomputable section

open Idealize.ShloMosaic Idealize.ShloMosaic.TcCoe Idealize.SL.Sem

namespace Cert.Proof.Dw

theorem frame_ideal : Cert.quiescent_DwInIdeal := fun m ρ _ => Cert.DwInIdeal.Gen.frame m ρ

theorem frame_kernel : Cert.quiescent_DwIn := fun m ρ _ => Cert.DwIn.Gen.frame m ρ

theorem frame_reference : Cert.quiescent_DwInRefIdeal := fun m ρ _ =>
  (θ_run Cert.DwInRefIdeal.defs _ _).mono (fun r h => ⟨fun c => (h c).2, sem_eq_zero_of_no_sems rfl r.2⟩)
    (Cert.DwInRefIdeal.Value.run m ρ)

open Cert.DwInRefIdeal.Read in
/-- The ideal kernel and the reference return the same gradient. -/
theorem algebraic : Cert.algebraic_DwInIdeal_DwInRefIdeal := by
  pair_intro
  · run_from Cert.DwInIdeal.Value.run_blocks m g
  · run_from Cert.DwInRefIdeal.Value.run m' g'
    exact (val_main_v30_eq _ _ _ _ _).trans ((all30 _ _ _ _ _).trans (Cert.DwInIdeal.Value.final_2 m c).symm)

end Cert.Proof.Dw
-- ==== Proof.AdamStep.lean ====
module

public import Idealize.ShloMosaic.Lib.Pipeline.ValueKit

/-! One step of Adam with weight decay at one entry of a weight, as both sides of the claims compute it. -/

@[expose] public section

noncomputable section

open Idealize.ShloMosaic

namespace Cert.AdamStep

/-- A constant, from its single-precision word. -/
abbrev lit (n : BitVec 32) : EReal := Ideal.ofBits FTy.f32 n

/-- The new first moment: `0.9 m + 0.1 g`. -/
def newM (g m : EReal) : EReal := lit 0x3F666666#32 * m + lit 0x3DCCCCCD#32 * g

/-- The new second moment: `0.999 v + 0.001 g²`. -/
def newV (g v : EReal) : EReal := lit 0x3F7FBE77#32 * v + lit 0x3A83126F#32 * (g * g)

/-- What the step adds to the weight `w`: minus the rate times the unbiased quotient plus the decay. -/
def delta (g w m v : EReal) : EReal :=
  lit 0xBA83126F#32 * (Ideal.div (Ideal.div (newM g m) (lit 0x3F26BD02#32))
    (Ideal.sqrt (Ideal.div (newV g v) (lit 0x3C231ACC#32)) + lit 0x322BCC77#32) + lit 0x3C23D70A#32 * w)

end Cert.AdamStep
-- ==== Proof.AdamOwnKernel.lean ====
module

public import proofs.«01_k».proof.Proof.Gen.AdamOwnIdeal.Frame
public import proofs.«01_k».proof.Proof.Gen.AdamOwnRefIdeal.Read
public import proofs.«01_k».proof.Proof.AdamStep
public import proofs.«01_k».proof.Proof.Norm
public import Idealize.ShloMosaic.Lib.StableHlo.Predicate
public import Idealize.ShloMosaic.Lib.Pipeline.ReadBack
public import Idealize.ShloMosaic.Lib.Pipeline.Covers
public import Idealize.ShloMosaic.Lib.Pipeline.ValueKit

/-! The output weight's step of the optimiser: its results and the reference's as functions of the arguments. -/

@[expose] public section

set_option maxRecDepth 16384

noncomputable section

open Idealize.ShloMosaic Idealize.ShloMosaic.TcCoe Idealize.SL.Sem
open Idealize.ShloMosaic.Pipeline (Dat)
open scoped BigOperators

namespace Cert.AdamOwnIdeal.Value

open Cert.AdamOwnIdeal Cert.AdamOwnIdeal.Gen
open Cert.AdamStep (newM newV delta)

/-- The gradient's entry: the devices' parts added, the device's own (at index `w`) from `b`, the others' from `p`. -/
def grad (w : BitVec 32) (b p : FVec Ideal S8x128x1024 .bf16) (i : Fin 128) (l : Fin 1024) : EReal :=
  ∑ d : Fin 8, if w = BitVec.ofNat 32 d.val then (b (ix3 d i l) : EReal) else p (ix3 d i l)

/-- The same from the kernel's blocks, where the device's own part is a block by itself. -/
def bgrad (w : BitVec 32) (b : FVec Ideal S1x128x1024 .bf16) (p : FVec Ideal S8x128x1024 .bf16) (i : Fin 128) (l : Fin 1024) : EReal :=
  ∑ d : Fin 8, if w = BitVec.ofNat 32 d.val then (b (ix3 0 i l) : EReal) else p (ix3 d i l)

/-- An entry of a weight or of one of its moments, as the arguments hold it. -/
def ent (a : FVec Ideal S1x128x1024 .f32) (i : Fin 128) (l : Fin 1024) : EReal := a (ix3 0 i l)

theorem choose {w u : BitVec 32} {a b : EReal} : (Scalar.select (Scalar.cmpi .eq w u) a b : EReal) = if w = u then a else b :=
  if_congr StableHlo.Predicate.cmpi_eq_iff rfl rfl

/-- The parts added in the order the kernel adds them. -/
theorem bgrad_eq (w : BitVec 32) (b : FVec Ideal S1x128x1024 .bf16) (p : FVec Ideal S8x128x1024 .bf16) (i : Fin 128) (l : Fin 1024) :
    bgrad w b p i l
    = ((Scalar.select (Scalar.cmpi .eq w 0#32) (b (ix3 0 i l)) (p (ix3 0 i l)) + Scalar.select (Scalar.cmpi .eq w 1#32) (b (ix3 0 i l)) (p (ix3 1 i l))
      + Scalar.select (Scalar.cmpi .eq w 2#32) (b (ix3 0 i l)) (p (ix3 2 i l)) + Scalar.select (Scalar.cmpi .eq w 3#32) (b (ix3 0 i l)) (p (ix3 3 i l))
      + Scalar.select (Scalar.cmpi .eq w 4#32) (b (ix3 0 i l)) (p (ix3 4 i l)) + Scalar.select (Scalar.cmpi .eq w 5#32) (b (ix3 0 i l)) (p (ix3 5 i l))
      + Scalar.select (Scalar.cmpi .eq w 6#32) (b (ix3 0 i l)) (p (ix3 6 i l)) + Scalar.select (Scalar.cmpi .eq w 7#32) (b (ix3 0 i l)) (p (ix3 7 i l)) : EReal)) := by
  unfold bgrad
  simp only [choose]
  exact Fin.sum_univ_eight _

section blocks

variable (c : Dev nD) (g : grid0.Coords)
  (a3 : Memref sig .tc .vmem S8x128x1024 .bf16) (h3 : a3.IsWhole) (a4 : Memref sig .tc .vmem S1x128x1024 .bf16) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole)
  (a8 : Memref sig .tc .vmem S128x1024 .f32) (h8 : a8.IsWhole) (a9 : Memref sig .tc .vmem S128x1024 .f32) (h9 : a9.IsWhole) (a10 : Memref sig .tc .vmem S128x1024 .f32) (h10 : a10.IsWhole) (a11 : Memref sig .tc .vmem S128x1024 .f32) (h11 : a11.IsWhole)
  (x0 : Vec Ideal S8x128x1024 .bf16) (x1 : Vec Ideal S1x128x1024 .bf16) (x2 x3 x4 : Vec Ideal S128x1024 .f32) (xt : TbBuf0 (F := Ideal) c tbM0_0)
  (i : Fin 128) (l : Fin 1024)

/-- The table's one word, as the kernel loads it. -/
theorem word (xt : IVec S1 32) (h : 0 < S1.numel) : View.read (Elt Ideal) (View.whole main_arg0) xt (Shape.Idx.first h) = xt (ix1 0) :=
  congrArg xt (funext fun a => Fin.ext (by match a with | ⟨0, _⟩ => rfl))

theorem piece5 : (out0_A_5 c g a3 h3 a4 h4 a5 h5 a6 h6 a7 h7 a8 h8 a9 h9 a10 h10 a11 h11 x0 x1 x2 x3 x4 xt (ix2 i l) : EReal) = bgrad (xt (ix1 0)) x1 x0 i l := by
  rw [bgrad_eq]
  unfold out0_A_5
  frame_out
  open_payloads
  pointwise
  simp only [word]
  try rfl

theorem piece6 : (out0_A_6 c g a3 h3 a4 h4 a5 h5 a6 h6 a7 h7 a8 h8 a9 h9 a10 h10 a11 h11 x0 x1 x2 x3 x4 xt (ix2 i l) : EReal)
    = delta (bgrad (xt (ix1 0)) x1 x0 i l) (x2 (ix2 i l)) (x3 (ix2 i l)) (x4 (ix2 i l)) := by
  rw [bgrad_eq]
  unfold out0_A_6
  frame_out
  open_payloads
  pointwise
  simp only [word]
  try rfl

theorem piece7 : (out0_A_7 c g a3 h3 a4 h4 a5 h5 a6 h6 a7 h7 a8 h8 a9 h9 a10 h10 a11 h11 x0 x1 x2 x3 x4 xt (ix2 i l) : EReal)
    = newM (bgrad (xt (ix1 0)) x1 x0 i l) (x3 (ix2 i l)) := by
  rw [bgrad_eq]
  unfold out0_A_7
  frame_out
  open_payloads
  pointwise
  simp only [word]
  try rfl

theorem piece8 : (out0_A_8 c g a3 h3 a4 h4 a5 h5 a6 h6 a7 h7 a8 h8 a9 h9 a10 h10 a11 h11 x0 x1 x2 x3 x4 xt (ix2 i l) : EReal)
    = newV (bgrad (xt (ix1 0)) x1 x0 i l) (x4 (ix2 i l)) := by
  rw [bgrad_eq]
  unfold out0_A_8
  frame_out
  open_payloads
  pointwise
  simp only [word]
  try rfl

end blocks

variable (m : (ℓ : Loc nD τ sig) → Buf (Elt Ideal) ℓ)

/-- The device's index, as the program's table holds it. -/
abbrev me : BitVec 32 := tbl m 0 (ix1 0)

variable (hO : Ok m) (c : Dev nD) (t : Fin (cfgM m hO).N) (i : Fin 128) (l : Fin 1024)

/-! ## The blocks of the arguments -/

theorem coord : ∀ t : Fin grid0.N, (grid0.coords t 0).val = 0 ∧ (grid0.coords t 1).val = 0 := by decide +kernel

theorem idx_own : ((cfgM m hO).win 1).index t = ![(me m).toNat, 0, 0] := by
  have h : ((cfgM m hO).win 1).index t = ![(me m).toNat, (BitVec.ofNat 32 (grid0.coords t 0).val).toNat, (BitVec.ofNat 32 (grid0.coords t 1).val).toNat] := by
    show cc0_transform_1 inb_S1_S1_0 numel1_S1 (tbl m) (grid0.coords t) = _
    have e : (tbl m).at 0 (Rect.unit (s := S1) ![0] S1.size inb_S1_S1_0) numel1_S1 = me m :=
      congrArg (tbl m 0) (funext fun a => Fin.ext (by match a with | ⟨0, _⟩ => rfl))
    unfold cc0_transform_1
    rw [e]
  rw [h, (coord t).1, (coord t).2]
  rfl

theorem idx : ((cfgM m hO).win 0).index t = ![0, 0, 0] ∧ ((cfgM m hO).win 2).index t = ![0, 0] ∧ ((cfgM m hO).win 3).index t = ![0, 0]
    ∧ ((cfgM m hO).win 4).index t = ![0, 0] ∧ ((cfgM m hO).win 5).index t = ![0, 0] ∧ ((cfgM m hO).win 6).index t = ![0, 0]
    ∧ ((cfgM m hO).win 7).index t = ![0, 0] ∧ ((cfgM m hO).win 8).index t = ![0, 0] := by
  have a : ![(0 : ℕ), (BitVec.ofNat 32 (grid0.coords t 0).val).toNat, (BitVec.ofNat 32 (grid0.coords t 1).val).toNat] = ![0, 0, 0] := by
    rw [(coord t).1, (coord t).2]
    rfl
  have b : ![(BitVec.ofNat 32 (grid0.coords t 0).val).toNat, (BitVec.ofNat 32 (grid0.coords t 1).val).toNat] = ![0, 0] := by
    rw [(coord t).1, (coord t).2]
    rfl
  exact ⟨a, b, b, b, b, b, b, b⟩

/-- The device's own part is its row of the gradient's blocks. -/
theorem blk_own (d : Fin 8) (h : me m = BitVec.ofNat 32 d.val) :
    (iblk m hO c 1 t (ix3 0 i l) : EReal) = m ((c : Thread nD τ).loc main_arg1) (ix3 d i l) := by
  have hd : (me m).toNat = d.val := by rw [h, BitVec.toNat_ofNat]; omega
  refine Eq.trans ?_ (congrFun (V_main_arg1 m c) (ix3 d i l))
  blk_simp [iblk, idx_own m hO t]
  refine congrArg (V m c main_arg1) ?_
  blk_ext [idx_own m hO t, hd]

theorem blk_others (d : Fin 8) : (iblk m hO c 0 t (ix3 d i l) : EReal) = m ((c : Thread nD τ).loc main_arg2) (ix3 d i l) := by
  refine Eq.trans ?_ (congrFun (V_main_arg2 m c) (ix3 d i l))
  blk_simp [iblk, idx m hO t]
  refine congrArg (V m c main_arg2) ?_
  blk_ext [idx m hO t]

theorem V0 : V m c main_v0 = shapeCast S128x1024 (m ((c : Thread nD τ).loc main_arg3)) shapeCasts_S1x128x1024_S128x1024 := by
  simp only [V, List.flatten_cons, List.flatten_nil, List.append_nil, List.cons_append, List.nil_append]
  entry_read
  rfl

theorem V1 : V m c main_v1 = shapeCast S128x1024 (m ((c : Thread nD τ).loc main_arg4)) shapeCasts_S1x128x1024_S128x1024 := by
  simp only [V, List.flatten_cons, List.flatten_nil, List.append_nil, List.cons_append, List.nil_append]
  entry_read
  rfl

theorem V2 : V m c main_v2 = shapeCast S128x1024 (m ((c : Thread nD τ).loc main_arg5)) shapeCasts_S1x128x1024_S128x1024 := by
  simp only [V, List.flatten_cons, List.flatten_nil, List.append_nil, List.cons_append, List.nil_append]
  entry_read
  rfl

/-- The gradient and the entries at a device. -/
abbrev gAt := grad (m ((c : Thread nD τ).loc main_arg0) (ix1 0)) (m ((c : Thread nD τ).loc main_arg1)) (m ((c : Thread nD τ).loc main_arg2))
abbrev wAt := ent (m ((c : Thread nD τ).loc main_arg3))
abbrev mAt := ent (m ((c : Thread nD τ).loc main_arg4))
abbrev vAt := ent (m ((c : Thread nD τ).loc main_arg5))

theorem me_eq : me m = m ((c : Thread nD τ).loc main_arg0) (ix1 0) := by
  obtain rfl : c = 0 := Subsingleton.elim _ _
  exact congrFun (V_main_arg0 m 0) (ix1 0)

theorem blk_grad : bgrad (me m) (iblk m hO c 1 t) (iblk m hO c 0 t) i l = gAt m c i l := by
  unfold gAt grad bgrad
  rw [← me_eq m c]
  refine Finset.sum_congr rfl fun d _ => ?_
  by_cases h : me m = BitVec.ofNat 32 d.val
  · exact (if_pos h).trans ((blk_own m hO c t i l d h).trans (if_pos h).symm)
  · exact (if_neg h).trans ((blk_others m hO c t i l d).trans (if_neg h).symm)

theorem blk2 : (iblk m hO c 2 t (ix2 i l) : EReal) = wAt m c i l := by
  refine Eq.trans ?_ ((congrFun (V0 m c) (ix2 i l)).trans (Norm.drop_unit _ _ i l))
  blk_simp [iblk, idx m hO t]
  refine congrArg (V m c main_v0) ?_
  blk_ext [idx m hO t]

theorem blk3 : (iblk m hO c 3 t (ix2 i l) : EReal) = mAt m c i l := by
  refine Eq.trans ?_ ((congrFun (V1 m c) (ix2 i l)).trans (Norm.drop_unit _ _ i l))
  blk_simp [iblk, idx m hO t]
  refine congrArg (V m c main_v1) ?_
  blk_ext [idx m hO t]

theorem blk4 : (iblk m hO c 4 t (ix2 i l) : EReal) = vAt m c i l := by
  refine Eq.trans ?_ ((congrFun (V2 m c) (ix2 i l)).trans (Norm.drop_unit _ _ i l))
  blk_simp [iblk, idx m hO t]
  refine congrArg (V m c main_v2) ?_
  blk_ext [idx m hO t]

theorem at5 : ((outsAt0 m hO c t).1 (ix2 i l) : EReal) = gAt m c i l := by
  have h := piece5 c (grid0.coords t) (ms0_0 m hO t) (hs0_0 m hO t) (ms0_1 m hO t) (hs0_1 m hO t) (ms0_2 m hO t) (hs0_2 m hO t) (ms0_3 m hO t) (hs0_3 m hO t)
    (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t)
    (iblk m hO c 2 t) (iblk m hO c 3 t) (iblk m hO c 4 t) (tbl m 0) i l
  unfold outsAt0
  dsimp only
  refine Eq.trans h ?_
  exact blk_grad m hO c t i l

theorem covers5 : ((cfgM m hO).win 5).Covers :=
  Pipeline.Window.covers_of_index_surj _ rfl (by decide : ∀ a : Fin 2, 0 < S128x1024.size a) fun β => ⟨t0_0, fun a => by
    have hb : (β a).val < 1 := (β a).isLt.trans_le (by match a with
      | ⟨0, _⟩ => exact (by decide : (128 + 128 - 1) / 128 ≤ 1)
      | ⟨1, _⟩ => exact (by decide : (1024 + 1024 - 1) / 1024 ≤ 1))
    rw [(idx m hO t0_0).2.2.2.2.1]
    match a with
    | ⟨0, _⟩ => exact (Nat.lt_one_iff.mp hb).symm
    | ⟨1, _⟩ => exact (Nat.lt_one_iff.mp hb).symm⟩

theorem emb5 (y : S128x1024.Idx) (h0 : (y 0).val = i.val) (h1 : (y 1).val = l.val) :
    (((cfgM m hO).win 5).blk t).view.emb y = (ix2 i l : S128x1024.Idx) := by
  blk_ext [idx m hO t, h0, h1]

theorem final_5 : (dats m hO 0 c).arrAt 5 (cfgM m hO).N = fun (y : S128x1024.Idx) => gAt m c (y 0) (y 1) := by
  refine (dats m hO 0 c).arrAt_eq_of_covers 5 _ (covers5 m hO) fun t hf y => ?_
  obtain ⟨i, l, e⟩ : ∃ (i : Fin 128) (l : Fin 1024), y = (ix2 i l : S128x1024.Idx) := ⟨_, _, eq_ix2 (show S128x1024.Idx from y)⟩
  subst e
  have e5 := emb5 m hO t i l (ix2 i l) rfl rfl
  blk_simp
  rw [after0_5, e5]
  exact at5 m hO c t i l

theorem at6 : ((outsAt0 m hO c t).2.1 (ix2 i l) : EReal) = delta (gAt m c i l) (wAt m c i l) (mAt m c i l) (vAt m c i l) := by
  have h := piece6 c (grid0.coords t) (ms0_0 m hO t) (hs0_0 m hO t) (ms0_1 m hO t) (hs0_1 m hO t) (ms0_2 m hO t) (hs0_2 m hO t) (ms0_3 m hO t) (hs0_3 m hO t)
    (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t)
    (iblk m hO c 2 t) (iblk m hO c 3 t) (iblk m hO c 4 t) (tbl m 0) i l
  unfold outsAt0
  dsimp only
  refine Eq.trans h ?_
  refine (congrArg₂ (fun g w => delta g w _ _) (blk_grad m hO c t i l) (blk2 m hO c t i l)).trans ?_
  exact congrArg₂ (fun a b => delta _ _ a b) (blk3 m hO c t i l) (blk4 m hO c t i l)

theorem covers6 : ((cfgM m hO).win 6).Covers :=
  Pipeline.Window.covers_of_index_surj _ rfl (by decide : ∀ a : Fin 2, 0 < S128x1024.size a) fun β => ⟨t0_0, fun a => by
    have hb : (β a).val < 1 := (β a).isLt.trans_le (by match a with
      | ⟨0, _⟩ => exact (by decide : (128 + 128 - 1) / 128 ≤ 1)
      | ⟨1, _⟩ => exact (by decide : (1024 + 1024 - 1) / 1024 ≤ 1))
    rw [(idx m hO t0_0).2.2.2.2.2.1]
    match a with
    | ⟨0, _⟩ => exact (Nat.lt_one_iff.mp hb).symm
    | ⟨1, _⟩ => exact (Nat.lt_one_iff.mp hb).symm⟩

theorem emb6 (y : S128x1024.Idx) (h0 : (y 0).val = i.val) (h1 : (y 1).val = l.val) :
    (((cfgM m hO).win 6).blk t).view.emb y = (ix2 i l : S128x1024.Idx) := by
  blk_ext [idx m hO t, h0, h1]

theorem final_6 : (dats m hO 0 c).arrAt 6 (cfgM m hO).N = fun (y : S128x1024.Idx) => delta (gAt m c (y 0) (y 1)) (wAt m c (y 0) (y 1)) (mAt m c (y 0) (y 1)) (vAt m c (y 0) (y 1)) := by
  refine (dats m hO 0 c).arrAt_eq_of_covers 6 _ (covers6 m hO) fun t hf y => ?_
  obtain ⟨i, l, e⟩ : ∃ (i : Fin 128) (l : Fin 1024), y = (ix2 i l : S128x1024.Idx) := ⟨_, _, eq_ix2 (show S128x1024.Idx from y)⟩
  subst e
  have e6 := emb6 m hO t i l (ix2 i l) rfl rfl
  blk_simp
  rw [after0_6, e6]
  exact at6 m hO c t i l

theorem at7 : ((outsAt0 m hO c t).2.2.1 (ix2 i l) : EReal) = newM (gAt m c i l) (mAt m c i l) := by
  have h := piece7 c (grid0.coords t) (ms0_0 m hO t) (hs0_0 m hO t) (ms0_1 m hO t) (hs0_1 m hO t) (ms0_2 m hO t) (hs0_2 m hO t) (ms0_3 m hO t) (hs0_3 m hO t)
    (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t)
    (iblk m hO c 2 t) (iblk m hO c 3 t) (iblk m hO c 4 t) (tbl m 0) i l
  unfold outsAt0
  dsimp only
  refine Eq.trans h ?_
  exact congrArg₂ newM (blk_grad m hO c t i l) (blk3 m hO c t i l)

theorem covers7 : ((cfgM m hO).win 7).Covers :=
  Pipeline.Window.covers_of_index_surj _ rfl (by decide : ∀ a : Fin 2, 0 < S128x1024.size a) fun β => ⟨t0_0, fun a => by
    have hb : (β a).val < 1 := (β a).isLt.trans_le (by match a with
      | ⟨0, _⟩ => exact (by decide : (128 + 128 - 1) / 128 ≤ 1)
      | ⟨1, _⟩ => exact (by decide : (1024 + 1024 - 1) / 1024 ≤ 1))
    rw [(idx m hO t0_0).2.2.2.2.2.2.1]
    match a with
    | ⟨0, _⟩ => exact (Nat.lt_one_iff.mp hb).symm
    | ⟨1, _⟩ => exact (Nat.lt_one_iff.mp hb).symm⟩

theorem emb7 (y : S128x1024.Idx) (h0 : (y 0).val = i.val) (h1 : (y 1).val = l.val) :
    (((cfgM m hO).win 7).blk t).view.emb y = (ix2 i l : S128x1024.Idx) := by
  blk_ext [idx m hO t, h0, h1]

theorem final_7 : (dats m hO 0 c).arrAt 7 (cfgM m hO).N = fun (y : S128x1024.Idx) => newM (gAt m c (y 0) (y 1)) (mAt m c (y 0) (y 1)) := by
  refine (dats m hO 0 c).arrAt_eq_of_covers 7 _ (covers7 m hO) fun t hf y => ?_
  obtain ⟨i, l, e⟩ : ∃ (i : Fin 128) (l : Fin 1024), y = (ix2 i l : S128x1024.Idx) := ⟨_, _, eq_ix2 (show S128x1024.Idx from y)⟩
  subst e
  have e7 := emb7 m hO t i l (ix2 i l) rfl rfl
  blk_simp
  rw [after0_7, e7]
  exact at7 m hO c t i l

theorem at8 : ((outsAt0 m hO c t).2.2.2 (ix2 i l) : EReal) = newV (gAt m c i l) (vAt m c i l) := by
  have h := piece8 c (grid0.coords t) (ms0_0 m hO t) (hs0_0 m hO t) (ms0_1 m hO t) (hs0_1 m hO t) (ms0_2 m hO t) (hs0_2 m hO t) (ms0_3 m hO t) (hs0_3 m hO t)
    (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t)
    (iblk m hO c 2 t) (iblk m hO c 3 t) (iblk m hO c 4 t) (tbl m 0) i l
  unfold outsAt0
  dsimp only
  refine Eq.trans h ?_
  exact congrArg₂ newV (blk_grad m hO c t i l) (blk4 m hO c t i l)

theorem covers8 : ((cfgM m hO).win 8).Covers :=
  Pipeline.Window.covers_of_index_surj _ rfl (by decide : ∀ a : Fin 2, 0 < S128x1024.size a) fun β => ⟨t0_0, fun a => by
    have hb : (β a).val < 1 := (β a).isLt.trans_le (by match a with
      | ⟨0, _⟩ => exact (by decide : (128 + 128 - 1) / 128 ≤ 1)
      | ⟨1, _⟩ => exact (by decide : (1024 + 1024 - 1) / 1024 ≤ 1))
    rw [(idx m hO t0_0).2.2.2.2.2.2.2]
    match a with
    | ⟨0, _⟩ => exact (Nat.lt_one_iff.mp hb).symm
    | ⟨1, _⟩ => exact (Nat.lt_one_iff.mp hb).symm⟩

theorem emb8 (y : S128x1024.Idx) (h0 : (y 0).val = i.val) (h1 : (y 1).val = l.val) :
    (((cfgM m hO).win 8).blk t).view.emb y = (ix2 i l : S128x1024.Idx) := by
  blk_ext [idx m hO t, h0, h1]

theorem final_8 : (dats m hO 0 c).arrAt 8 (cfgM m hO).N = fun (y : S128x1024.Idx) => newV (gAt m c (y 0) (y 1)) (vAt m c (y 0) (y 1)) := by
  refine (dats m hO 0 c).arrAt_eq_of_covers 8 _ (covers8 m hO) fun t hf y => ?_
  obtain ⟨i, l, e⟩ : ∃ (i : Fin 128) (l : Fin 1024), y = (ix2 i l : S128x1024.Idx) := ⟨_, _, eq_ix2 (show S128x1024.Idx from y)⟩
  subst e
  have e8 := emb8 m hO t i l (ix2 i l) rfl rfl
  blk_simp
  rw [after0_8, e8]
  exact at8 m hO c t i l

variable (ρ : Dev nD → PrngReg)

theorem run_blocks : θ_run defs (onTc (τ := τ) (main (F := Ideal))) ⟨m, fun _ => 0, ρ⟩ (fun r => ∀ c : Dev nD,
      r.2.mem ((c.tc : Thread nD τ).loc main_v3_0) = (dats m hO 0 c).arrAt 5 (cfgM m hO).N
      ∧ r.2.mem ((c.tc : Thread nD τ).loc main_v3_1) = (dats m hO 0 c).arrAt 6 (cfgM m hO).N
      ∧ r.2.mem ((c.tc : Thread nD τ).loc main_v3_2) = (dats m hO 0 c).arrAt 7 (cfgM m hO).N
      ∧ r.2.mem ((c.tc : Thread nD τ).loc main_v3_3) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1 5, (h c).1 6, (h c).1 7, (h c).1 8,
      ((h c).2 main_arg0 (by decide : main_arg0 ∈ Pipeline.restRefs sig spec0)).trans (V_main_arg0 m c),
      ((h c).1 1).trans (((dats m hO 0 c).arrAt_in 1 rfl _).trans ((A_eq m hO c 1).trans (V_main_arg1 m c))),
      ((h c).1 0).trans (((dats m hO 0 c).arrAt_in 0 rfl _).trans ((A_eq m hO c 0).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) (run_main m ρ hO)

end Cert.AdamOwnIdeal.Value

/-! ## The reference -/

namespace Cert.AdamOwnRefIdeal.Read

open Cert.AdamStep (newM newV delta)
open Cert.AdamOwnIdeal.Value (grad ent)

variable (x0 : IVec S1 32) (x1 x2 : FVec Ideal S8x128x1024 .bf16) (x3 x4 x5 : FVec Ideal S1x128x1024 .f32) (i : Fin 128) (l : Fin 1024)

/-- The part of device `d`, chosen by the comparison of the indices. -/
theorem part (d : Fin 8) : (val_main_v6 (F := Ideal) x0 x1 x2 (ix3 d i l) : EReal)
    = if x0 (ix1 0) = BitVec.ofNat 32 d.val then (x1 (ix3 d i l) : EReal) else x2 (ix3 d i l) := by
  pointwise [val_main_v6, val_main_v5, val_main_v4, val_main_v3, val_main_v2, val_main_v1, val_main_v0, val_main_call0_v0]
  exact if_congr (StableHlo.Predicate.cmpi_eq_iff.trans eq_comm) rfl rfl

theorem sum7 : (val_main_v7 (F := Ideal) x0 x1 x2 (ix2 i l) : EReal) = grad (x0 (ix1 0)) x1 x2 i l := by
  unfold grad
  refine Eq.trans ?_ (Finset.sum_congr rfl fun d _ => part x0 x1 x2 i l d)
  generalize e : val_main_v6 (F := Ideal) x0 x1 x2 = z
  unfold val_main_v7
  rw [e]
  pointwise [val_main_cst]

theorem read9 : (val_main_v9 (F := Ideal) x0 x1 x2 (ix2 i l) : EReal) = grad (x0 (ix1 0)) x1 x2 i l := by
  refine Eq.trans ?_ (sum7 x0 x1 x2 i l)
  generalize e : val_main_v7 (F := Ideal) x0 x1 x2 = z
  unfold val_main_v9 val_main_v8
  rw [e]
  pointwise

theorem read35 : (val_main_v35 (F := Ideal) x0 x1 x2 x4 (ix2 i l) : EReal) = newM (grad (x0 (ix1 0)) x1 x2 i l) (ent x4 i l) := by
  rw [← sum7]
  generalize e : val_main_v7 (F := Ideal) x0 x1 x2 = z
  unfold val_main_v35 val_main_v14 val_main_v13 val_main_v8
  rw [e]
  pointwise [val_main_cst_0, val_main_cst_1, val_main_v10, val_main_v11, val_main_v12]
  rfl

theorem read36 : (val_main_v36 (F := Ideal) x0 x1 x2 x5 (ix2 i l) : EReal) = newV (grad (x0 (ix1 0)) x1 x2 i l) (ent x5 i l) := by
  rw [← sum7]
  generalize e : val_main_v7 (F := Ideal) x0 x1 x2 = z
  unfold val_main_v36 val_main_v20 val_main_v19 val_main_v17 val_main_v8
  rw [e]
  pointwise [val_main_cst_2, val_main_cst_3, val_main_v15, val_main_v16, val_main_v18]
  rfl

theorem read34 : (val_main_v34 (F := Ideal) x0 x1 x2 x3 x4 x5 (ix2 i l) : EReal)
    = delta (grad (x0 (ix1 0)) x1 x2 i l) (ent x3 i l) (ent x4 i l) (ent x5 i l) := by
  rw [← sum7]
  generalize e : val_main_v7 (F := Ideal) x0 x1 x2 = z
  unfold val_main_v34 val_main_v33 val_main_v31 val_main_v28 val_main_v27 val_main_v25 val_main_v24 val_main_v22 val_main_v20
    val_main_v19 val_main_v17 val_main_v14 val_main_v13 val_main_v8
  rw [e]
  pointwise [val_main_cst_0, val_main_cst_1, val_main_cst_2, val_main_cst_3, val_main_cst_4, val_main_cst_5, val_main_cst_6,
    val_main_cst_7, val_main_cst_8, val_main_v10, val_main_v11, val_main_v12, val_main_v15, val_main_v16, val_main_v18, val_main_v21,
    val_main_v23, val_main_v26, val_main_v29, val_main_v30, val_main_v32]
  rfl

theorem all9 : val_main_v9 (F := Ideal) x0 x1 x2 = fun y => grad (x0 (ix1 0)) x1 x2 (y 0) (y 1) := by
  funext y
  rw [eq_ix2 y]
  exact read9 x0 x1 x2 (y 0) (y 1)

theorem all34 : val_main_v34 (F := Ideal) x0 x1 x2 x3 x4 x5
    = fun y => delta (grad (x0 (ix1 0)) x1 x2 (y 0) (y 1)) (ent x3 (y 0) (y 1)) (ent x4 (y 0) (y 1)) (ent x5 (y 0) (y 1)) := by
  funext y
  rw [eq_ix2 y]
  exact read34 x0 x1 x2 x3 x4 x5 (y 0) (y 1)

theorem all35 : val_main_v35 (F := Ideal) x0 x1 x2 x4 = fun y => newM (grad (x0 (ix1 0)) x1 x2 (y 0) (y 1)) (ent x4 (y 0) (y 1)) := by
  funext y
  rw [eq_ix2 y]
  exact read35 x0 x1 x2 x4 (y 0) (y 1)

theorem all36 : val_main_v36 (F := Ideal) x0 x1 x2 x5 = fun y => newV (grad (x0 (ix1 0)) x1 x2 (y 0) (y 1)) (ent x5 (y 0) (y 1)) := by
  funext y
  rw [eq_ix2 y]
  exact read36 x0 x1 x2 x5 (y 0) (y 1)

end Cert.AdamOwnRefIdeal.Read

end
-- ==== Proof.AdamOwnClaim.lean ====
module

public import proofs.«01_k».proof.Defs
public import proofs.«01_k».proof.Proof.AdamOwnKernel
public import proofs.«01_k».proof.Proof.Gen.AdamOwn.Frame
public import proofs.«01_k».proof.Proof.Gen.AdamOwnIdeal.Frame
public import proofs.«01_k».proof.Proof.Gen.Pre_device_index
public import Idealize.ShloMosaic.Lib.StableHlo.Predicate

/-! The output weight's step of the optimiser: its claims. -/

@[expose] public section

noncomputable section

open Idealize.ShloMosaic Idealize.ShloMosaic.TcCoe Idealize.SL.Sem

namespace Cert.Proof.Own

/-- A word between 0 and 7 is a device's index. -/
theorem device_of (w : BitVec 32) (h : IntOp.andi (IntOp.cmpi .sge w 0#32) (IntOp.cmpi .slt w 8#32) = 1#1) :
    ∃ d : Fin 8, w = BitVec.ofNat 32 d.val := by
  have hw : w.toNat < 8 := by
    simp only [IntOp.andi, IntOp.cmpi] at h
    have h1 : BitVec.ofBool ((0#32).sle w && w.slt 8#32) = 1#1 := by
      rw [← h]
      cases (0#32).sle w <;> cases w.slt 8#32 <;> rfl
    rw [StableHlo.Predicate.ofBool_eq_one_iff, Bool.and_eq_true, BitVec.sle_iff_toInt_le, BitVec.slt_iff_toInt_lt] at h1
    have e0 : (0#32).toInt = 0 := rfl
    have e8 : (8#32).toInt = 8 := rfl
    rw [e0, e8, BitVec.toInt_eq_toNat_cond] at h1
    have := w.isLt
    split at h1 <;> omega
  exact ⟨⟨w.toNat, hw⟩, BitVec.eq_of_toNat_eq (by rw [BitVec.toNat_ofNat, Nat.mod_eq_of_lt w.isLt])⟩

end Cert.Proof.Own

namespace Cert.AdamOwn.Gen

open Cert.AdamOwn

variable (m : (ℓ : Loc nD τ sig) → Buf (Elt Bits) ℓ) (h : Cert.Pre_AdamOwn m)

include h in
/-- The precondition pins the table to a device's index, -/
theorem pre_word : ∃ d : Fin 8, tbl m 0 = fun _ => BitVec.ofNat 32 d.val := by
  obtain ⟨d, e⟩ := Cert.Proof.Own.device_of _ (congrFun (h 0) (ix1 0))
  refine ⟨d, funext fun (x : S1.Idx) => ?_⟩
  have hx : x = ix1 0 := funext fun a => Fin.ext (by match a with | ⟨0, _⟩ => exact Nat.lt_one_iff.mp (x 0).isLt)
  exact (congrFun (V_main_arg0 m 0) x).trans ((congrArg (m (((0 : Dev nD) : Thread nD τ).loc main_arg0)) hx).trans e)

include h in
/-- and at each index the block read is inside its array. -/
theorem ok_of_pre : Ok m := by
  obtain ⟨d, e⟩ := pre_word m h
  have e' : tbl m = fun j => match j with | ⟨0, _⟩ => fun _ => BitVec.ofNat 32 d.val := by
    funext j
    match j with
    | ⟨0, _⟩ => exact e
  unfold Ok
  rw [e']
  clear e e'
  revert d
  decide

end Cert.AdamOwn.Gen

namespace Cert.AdamOwnIdeal.Gen

open Cert.AdamOwnIdeal

variable (m : (ℓ : Loc nD τ sig) → Buf (Elt Ideal) ℓ) (h : Cert.Pre_AdamOwnIdeal m)

include h in
/-- The precondition pins the table to a device's index, -/
theorem pre_word : ∃ d : Fin 8, tbl m 0 = fun _ => BitVec.ofNat 32 d.val := by
  obtain ⟨d, e⟩ := Cert.Proof.Own.device_of _ (congrFun (h 0) (ix1 0))
  refine ⟨d, funext fun (x : S1.Idx) => ?_⟩
  have hx : x = ix1 0 := funext fun a => Fin.ext (by match a with | ⟨0, _⟩ => exact Nat.lt_one_iff.mp (x 0).isLt)
  exact (congrFun (V_main_arg0 m 0) x).trans ((congrArg (m (((0 : Dev nD) : Thread nD τ).loc main_arg0)) hx).trans e)

include h in
/-- and at each index the block read is inside its array. -/
theorem ok_of_pre : Ok m := by
  obtain ⟨d, e⟩ := pre_word m h
  have e' : tbl m = fun j => match j with | ⟨0, _⟩ => fun _ => BitVec.ofNat 32 d.val := by
    funext j
    match j with
    | ⟨0, _⟩ => exact e
  unfold Ok
  rw [e']
  clear e e'
  revert d
  decide

end Cert.AdamOwnIdeal.Gen

namespace Cert.Proof.Own

theorem frame_kernel : Cert.quiescent_AdamOwn := fun m ρ h => Cert.AdamOwn.Gen.frame m ρ (Cert.AdamOwn.Gen.ok_of_pre m h)

theorem frame_ideal : Cert.quiescent_AdamOwnIdeal := fun m ρ h => Cert.AdamOwnIdeal.Gen.frame m ρ (Cert.AdamOwnIdeal.Gen.ok_of_pre m h)

theorem frame_reference : Cert.quiescent_AdamOwnRefIdeal := fun m ρ _ =>
  (θ_run Cert.AdamOwnRefIdeal.defs _ _).mono (fun r h => ⟨fun c => (h c).2.2.2.2, sem_eq_zero_of_no_sems rfl r.2⟩)
    (Cert.AdamOwnRefIdeal.Value.run m ρ)

theorem frame_reference_pre : Cert.quiescent_AdamOwnRefIdeal_pre_device_index := fun m ρ _ => frame_reference m ρ trivial

open Cert.AdamOwnRefIdeal.Read in
/-- The ideal kernel and the reference return the same gradient, step and moments. -/
theorem algebraic : Cert.algebraic_AdamOwnIdeal_AdamOwnRefIdeal := by
  intro m g m' g' hpre hargs
  have hO := Cert.AdamOwnIdeal.Gen.ok_of_pre m hpre
  refine ⟨fun c => (Cert.AdamOwnIdeal.Gen.dats m hO 0 c).arrAt 5 (Cert.AdamOwnIdeal.Gen.cfgM m hO).N,
    fun c => (Cert.AdamOwnIdeal.Gen.dats m hO 0 c).arrAt 6 (Cert.AdamOwnIdeal.Gen.cfgM m hO).N,
    fun c => (Cert.AdamOwnIdeal.Gen.dats m hO 0 c).arrAt 7 (Cert.AdamOwnIdeal.Gen.cfgM m hO).N,
    fun c => (Cert.AdamOwnIdeal.Gen.dats m hO 0 c).arrAt 8 (Cert.AdamOwnIdeal.Gen.cfgM m hO).N,
    Cert.AdamOwnIdeal.Value.run_blocks m hO g, ?_⟩
  refine (θ_run Cert.AdamOwnRefIdeal.defs _ _).mono (fun r h c => ?_) (Cert.AdamOwnRefIdeal.Value.run m' g')
  obtain ⟨h0, h1, h2, h3, hr⟩ := h c
  obtain ⟨a0, a1, a2, a3, a4, a5⟩ := hargs c
  refine ⟨?_, ?_, ?_, ?_, hr⟩
  · rw [h0, a0, a1, a2]
    exact (val_main_v9_eq _ _ _).trans ((all9 _ _ _).trans (Cert.AdamOwnIdeal.Value.final_5 m hO c).symm)
  · rw [h1, a0, a1, a2, a3, a4, a5]
    exact (val_main_v34_eq _ _ _ _ _ _).trans ((all34 _ _ _ _ _ _).trans (Cert.AdamOwnIdeal.Value.final_6 m hO c).symm)
  · rw [h2, a0, a1, a2, a4]
    exact (val_main_v35_eq _ _ _ _).trans ((all35 _ _ _ _).trans (Cert.AdamOwnIdeal.Value.final_7 m hO c).symm)
  · rw [h3, a0, a1, a2, a5]
    exact (val_main_v36_eq _ _ _ _).trans ((all36 _ _ _ _).trans (Cert.AdamOwnIdeal.Value.final_8 m hO c).symm)

end Cert.Proof.Own

end
-- ==== Proof.AdamTileKernel.lean ====
module

public import proofs.«01_k».proof.Proof.Gen.AdamTileIdeal.Frame
public import proofs.«01_k».proof.Proof.Gen.AdamTileRefIdeal.Read
public import proofs.«01_k».proof.Proof.AdamOwnKernel

/-! The input weight's step of the optimiser, tile by tile: its results and the reference's as functions of the arguments.
The weight and its moments come transposed to the call, and the results leave it so. -/

@[expose] public section

set_option maxRecDepth 16384

noncomputable section

open Idealize.ShloMosaic Idealize.ShloMosaic.TcCoe Idealize.SL.Sem
open Idealize.ShloMosaic.Pipeline (Dat)
open scoped BigOperators

namespace Cert.AdamTileIdeal.Value

open Cert.AdamTileIdeal Cert.AdamTileIdeal.Gen
open Cert.AdamStep (newM newV delta)
open Cert.AdamOwnIdeal.Value (choose)

/-- The gradient's entry: the devices' parts added, the device's own (at index `w`) from `b`, the others' from `p`. -/
def parts (w : BitVec 32) (b p : Fin 8 → EReal) : EReal := ∑ d : Fin 8, if w = BitVec.ofNat 32 d.val then b d else p d

/-- The parts added in the order the kernel adds them. -/
theorem parts_eq (w : BitVec 32) (b : EReal) (p : Fin 8 → EReal) : parts w (fun _ => b) p
    = ((Scalar.select (Scalar.cmpi .eq w 0#32) b (p 0) + Scalar.select (Scalar.cmpi .eq w 1#32) b (p 1) + Scalar.select (Scalar.cmpi .eq w 2#32) b (p 2)
      + Scalar.select (Scalar.cmpi .eq w 3#32) b (p 3) + Scalar.select (Scalar.cmpi .eq w 4#32) b (p 4) + Scalar.select (Scalar.cmpi .eq w 5#32) b (p 5)
      + Scalar.select (Scalar.cmpi .eq w 6#32) b (p 6) + Scalar.select (Scalar.cmpi .eq w 7#32) b (p 7) : EReal)) := by
  unfold parts
  simp only [choose]
  exact Fin.sum_univ_eight _

abbrev grad (w : BitVec 32) (b p : FVec Ideal S8x449x1024 .bf16) (i : Fin 449) (l : Fin 1024) : EReal :=
  parts w (fun d => b (ix3 d i l)) (fun d => p (ix3 d i l))

/-- The same from the kernel's blocks, where the device's own part is a block by itself. -/
abbrev bgrad (w : BitVec 32) (b : FVec Ideal S1x449x256 .bf16) (p : FVec Ideal S8x449x256 .bf16) (i : Fin 449) (l : Fin 256) : EReal :=
  parts w (fun _ => b (ix3 0 i l)) (fun d => p (ix3 d i l))

/-- An entry of a weight or of one of its moments, transposed. -/
def ent (a : FVec Ideal S1x1024x449 .f32) (i : Fin 449) (l : Fin 1024) : EReal := a (ix3 0 l i)

section blocks

variable (c : Dev nD) (g : grid0.Coords)
  (a3 : Memref sig .tc .vmem S8x449x256 .bf16) (h3 : a3.IsWhole) (a4 : Memref sig .tc .vmem S1x449x256 .bf16) (h4 : a4.IsWhole)
  (a5 : Memref sig .tc .vmem S449x256 .f32) (h5 : a5.IsWhole) (a6 : Memref sig .tc .vmem S449x256 .f32) (h6 : a6.IsWhole) (a7 : Memref sig .tc .vmem S449x256 .f32) (h7 : a7.IsWhole) (a8 : Memref sig .tc .vmem S449x256 .f32) (h8 : a8.IsWhole)
  (a9 : Memref sig .tc .vmem S449x256 .f32) (h9 : a9.IsWhole) (a10 : Memref sig .tc .vmem S449x256 .f32) (h10 : a10.IsWhole) (a11 : Memref sig .tc .vmem S449x256 .f32) (h11 : a11.IsWhole)
  (x0 : Vec Ideal S8x449x256 .bf16) (x1 : Vec Ideal S1x449x256 .bf16) (x2 x3 x4 : Vec Ideal S449x256 .f32) (xt : TbBuf0 (F := Ideal) c tbM0_0)
  (i : Fin 449) (l : Fin 256)

/-- The table's one word, as the kernel loads it. -/
theorem word (xt : IVec S1 32) (h : 0 < S1.numel) : View.read (Elt Ideal) (View.whole main_arg0) xt (Shape.Idx.first h) = xt (ix1 0) :=
  congrArg xt (funext fun a => Fin.ext (by match a with | ⟨0, _⟩ => rfl))

/-- What a point writes, from its blocks. -/
theorem pieces : (out0_A_5 c g a3 h3 a4 h4 a5 h5 a6 h6 a7 h7 a8 h8 a9 h9 a10 h10 a11 h11 x0 x1 x2 x3 x4 xt (ix2 i l) : EReal) = bgrad (xt (ix1 0)) x1 x0 i l
    ∧ (out0_A_6 c g a3 h3 a4 h4 a5 h5 a6 h6 a7 h7 a8 h8 a9 h9 a10 h10 a11 h11 x0 x1 x2 x3 x4 xt (ix2 i l) : EReal) = delta (bgrad (xt (ix1 0)) x1 x0 i l) (x2 (ix2 i l)) (x3 (ix2 i l)) (x4 (ix2 i l))
    ∧ (out0_A_7 c g a3 h3 a4 h4 a5 h5 a6 h6 a7 h7 a8 h8 a9 h9 a10 h10 a11 h11 x0 x1 x2 x3 x4 xt (ix2 i l) : EReal) = newM (bgrad (xt (ix1 0)) x1 x0 i l) (x3 (ix2 i l))
    ∧ (out0_A_8 c g a3 h3 a4 h4 a5 h5 a6 h6 a7 h7 a8 h8 a9 h9 a10 h10 a11 h11 x0 x1 x2 x3 x4 xt (ix2 i l) : EReal) = newV (bgrad (xt (ix1 0)) x1 x0 i l) (x4 (ix2 i l)) := by
  simp only [bgrad, parts_eq]
  refine ⟨?_, ?_, ?_, ?_⟩
  · unfold out0_A_5
    frame_out
    open_payloads
    pointwise
    simp only [word]
    try rfl
  · unfold out0_A_6
    frame_out
    open_payloads
    pointwise
    simp only [word]
    try rfl
  · unfold out0_A_7
    frame_out
    open_payloads
    pointwise
    simp only [word]
    try rfl
  · unfold out0_A_8
    frame_out
    open_payloads
    pointwise
    simp only [word]
    try rfl

end blocks

variable (m : (ℓ : Loc nD τ sig) → Buf (Elt Ideal) ℓ)

/-- The device's index, as the program's table holds it. -/
abbrev me : BitVec 32 := tbl m 0 (ix1 0)

variable (hO : Ok m) (c : Dev nD) (t : Fin (cfgM m hO).N) (i : Fin 449) (l : Fin 256)

theorem four : (cfgM m hO).N = 4 := (by decide : grid0.N = 4)

/-- Column `l` of point `t`'s tile, among the columns of the whole array. -/
def col : Fin 1024 := ⟨t.val * 256 + l.val, by have ht := lt_of_lt_of_eq t.isLt (four m hO); have hl := l.isLt; omega⟩

/-! ## The blocks of the arguments -/

theorem coord : ∀ t : Fin grid0.N, (grid0.coords t 0).val = 0 ∧ (BitVec.ofNat 32 (grid0.coords t 1).val).toNat = t.val := by decide +kernel

theorem idx_own : ((cfgM m hO).win 1).index t = ![(me m).toNat, 0, t.val] := by
  have h : ((cfgM m hO).win 1).index t = ![(me m).toNat, (BitVec.ofNat 32 (grid0.coords t 0).val).toNat, (BitVec.ofNat 32 (grid0.coords t 1).val).toNat] := by
    show cc0_transform_1 inb_S1_S1_0 numel1_S1 (tbl m) (grid0.coords t) = _
    have e : (tbl m).at 0 (Rect.unit (s := S1) ![0] S1.size inb_S1_S1_0) numel1_S1 = me m :=
      congrArg (tbl m 0) (funext fun a => Fin.ext (by match a with | ⟨0, _⟩ => rfl))
    unfold cc0_transform_1
    rw [e]
  rw [h, (coord t).1, (coord t).2]
  rfl

theorem idx : ((cfgM m hO).win 0).index t = ![0, 0, t.val] ∧ ((cfgM m hO).win 2).index t = ![0, t.val] ∧ ((cfgM m hO).win 3).index t = ![0, t.val]
    ∧ ((cfgM m hO).win 4).index t = ![0, t.val] ∧ ((cfgM m hO).win 5).index t = ![0, t.val] ∧ ((cfgM m hO).win 6).index t = ![0, t.val]
    ∧ ((cfgM m hO).win 7).index t = ![0, t.val] ∧ ((cfgM m hO).win 8).index t = ![0, t.val] := by
  have a : ![(0 : ℕ), (BitVec.ofNat 32 (grid0.coords t 0).val).toNat, (BitVec.ofNat 32 (grid0.coords t 1).val).toNat] = ![0, 0, t.val] := by
    rw [(coord t).1, (coord t).2]
    rfl
  have b : ![(BitVec.ofNat 32 (grid0.coords t 0).val).toNat, (BitVec.ofNat 32 (grid0.coords t 1).val).toNat] = ![0, t.val] := by
    rw [(coord t).1, (coord t).2]
    rfl
  exact ⟨a, b, b, b, b, b, b, b⟩

/-- The device's own part is its row of the gradient's blocks. -/
theorem blk_own (d : Fin 8) (h : me m = BitVec.ofNat 32 d.val) :
    (iblk m hO c 1 t (ix3 0 i l) : EReal) = m ((c : Thread nD τ).loc main_arg1) (ix3 d i (col m hO t l)) := by
  have hd : (me m).toNat = d.val := by rw [h, BitVec.toNat_ofNat]; omega
  refine Eq.trans ?_ (congrFun (V_main_arg1 m c) (ix3 d i (col m hO t l)))
  blk_simp [iblk, idx_own m hO t]
  refine congrArg (V m c main_arg1) ?_
  blk_ext [idx_own m hO t, hd, col]

theorem blk_others (d : Fin 8) : (iblk m hO c 0 t (ix3 d i l) : EReal) = m ((c : Thread nD τ).loc main_arg2) (ix3 d i (col m hO t l)) := by
  refine Eq.trans ?_ (congrFun (V_main_arg2 m c) (ix3 d i (col m hO t l)))
  blk_simp [iblk, idx m hO t]
  refine congrArg (V m c main_arg2) ?_
  blk_ext [idx m hO t, col]

/-- The host's transposition, read at an entry. -/
theorem turn (x : FVec Ideal S1x1024x449 .f32) (l : Fin 1024) :
    (transpose S449x1024 [1, 0] (shapeCast S1024x449 x shapeCasts_S1x1024x449_S1024x449 : FVec Ideal S1024x449 .f32) transposes_S1024x449_S449x1024_1_0 (ix2 i l) : EReal)
      = ent x i l := by
  unfold ent
  pointwise

theorem V1 : V m c main_v1 = transpose S449x1024 [1, 0] (shapeCast S1024x449 (m ((c : Thread nD τ).loc main_arg3)) shapeCasts_S1x1024x449_S1024x449 : FVec Ideal S1024x449 .f32) transposes_S1024x449_S449x1024_1_0 := by
  simp only [V, List.flatten_cons, List.flatten_nil, List.append_nil, List.cons_append, List.nil_append]
  entry_read
  rfl

theorem V3 : V m c main_v3 = transpose S449x1024 [1, 0] (shapeCast S1024x449 (m ((c : Thread nD τ).loc main_arg4)) shapeCasts_S1x1024x449_S1024x449 : FVec Ideal S1024x449 .f32) transposes_S1024x449_S449x1024_1_0 := by
  simp only [V, List.flatten_cons, List.flatten_nil, List.append_nil, List.cons_append, List.nil_append]
  entry_read
  rfl

theorem V5 : V m c main_v5 = transpose S449x1024 [1, 0] (shapeCast S1024x449 (m ((c : Thread nD τ).loc main_arg5)) shapeCasts_S1x1024x449_S1024x449 : FVec Ideal S1024x449 .f32) transposes_S1024x449_S449x1024_1_0 := by
  simp only [V, List.flatten_cons, List.flatten_nil, List.append_nil, List.cons_append, List.nil_append]
  entry_read
  rfl

/-- The gradient and the entries at a device. -/
abbrev gAt := grad (m ((c : Thread nD τ).loc main_arg0) (ix1 0)) (m ((c : Thread nD τ).loc main_arg1)) (m ((c : Thread nD τ).loc main_arg2))
abbrev wAt := ent (m ((c : Thread nD τ).loc main_arg3))
abbrev mAt := ent (m ((c : Thread nD τ).loc main_arg4))
abbrev vAt := ent (m ((c : Thread nD τ).loc main_arg5))

theorem me_eq : me m = m ((c : Thread nD τ).loc main_arg0) (ix1 0) := by
  obtain rfl : c = 0 := Subsingleton.elim _ _
  exact congrFun (V_main_arg0 m 0) (ix1 0)

theorem blk_grad : bgrad (me m) (iblk m hO c 1 t) (iblk m hO c 0 t) i l = gAt m c i (col m hO t l) := by
  unfold gAt grad bgrad parts
  rw [← me_eq m c]
  refine Finset.sum_congr rfl fun d _ => ?_
  by_cases h : me m = BitVec.ofNat 32 d.val
  · exact (if_pos h).trans ((blk_own m hO c t i l d h).trans (if_pos h).symm)
  · exact (if_neg h).trans ((blk_others m hO c t i l d).trans (if_neg h).symm)

theorem blk2 : (iblk m hO c 2 t (ix2 i l) : EReal) = wAt m c i (col m hO t l) := by
  refine Eq.trans ?_ ((congrFun (V1 m c) (ix2 i (col m hO t l))).trans (turn i _ (col m hO t l)))
  blk_simp [iblk, idx m hO t]
  refine congrArg (V m c main_v1) ?_
  blk_ext [idx m hO t, col]

theorem blk3 : (iblk m hO c 3 t (ix2 i l) : EReal) = mAt m c i (col m hO t l) := by
  refine Eq.trans ?_ ((congrFun (V3 m c) (ix2 i (col m hO t l))).trans (turn i _ (col m hO t l)))
  blk_simp [iblk, idx m hO t]
  refine congrArg (V m c main_v3) ?_
  blk_ext [idx m hO t, col]

theorem blk4 : (iblk m hO c 4 t (ix2 i l) : EReal) = vAt m c i (col m hO t l) := by
  refine Eq.trans ?_ ((congrFun (V5 m c) (ix2 i (col m hO t l))).trans (turn i _ (col m hO t l)))
  blk_simp [iblk, idx m hO t]
  refine congrArg (V m c main_v5) ?_
  blk_ext [idx m hO t, col]

/-- What a point writes, from the arguments. -/
theorem ats : ((outsAt0 m hO c t).1 (ix2 i l) : EReal) = gAt m c i (col m hO t l)
    ∧ ((outsAt0 m hO c t).2.1 (ix2 i l) : EReal) = delta (gAt m c i (col m hO t l)) (wAt m c i (col m hO t l)) (mAt m c i (col m hO t l)) (vAt m c i (col m hO t l))
    ∧ ((outsAt0 m hO c t).2.2.1 (ix2 i l) : EReal) = newM (gAt m c i (col m hO t l)) (mAt m c i (col m hO t l))
    ∧ ((outsAt0 m hO c t).2.2.2 (ix2 i l) : EReal) = newV (gAt m c i (col m hO t l)) (vAt m c i (col m hO t l)) := by
  have h := pieces c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (iblk m hO c 0 t) (iblk m hO c 1 t) (iblk m hO c 2 t) (iblk m hO c 3 t) (iblk m hO c 4 t) (tbl m 0) i l
  obtain ⟨h5, h6, h7, h8⟩ := h
  unfold outsAt0
  dsimp only
  refine ⟨Eq.trans h5 ?_, Eq.trans h6 ?_, Eq.trans h7 ?_, Eq.trans h8 ?_⟩
  · exact blk_grad m hO c t i l
  · refine (congrArg₂ (fun g w => delta g w _ _) (blk_grad m hO c t i l) (blk2 m hO c t i l)).trans ?_
    exact congrArg₂ (fun a b => delta _ _ a b) (blk3 m hO c t i l) (blk4 m hO c t i l)
  · exact congrArg₂ newM (blk_grad m hO c t i l) (blk3 m hO c t i l)
  · exact congrArg₂ newV (blk_grad m hO c t i l) (blk4 m hO c t i l)

/-- The four tiles reach every column. -/
theorem onto (ix : Fin (cfgM m hO).N → Fin 2 → ℕ) (h : ∀ t, ix t = ![0, t.val]) (β : Fin 2 → ℕ) (h0 : β 0 < (449 + 449 - 1) / 449)
    (h1 : β 1 < (1024 + 256 - 1) / 256) : ∃ t, ∀ a, ix t a = β a :=
  ⟨⟨β 1, (lt_of_lt_of_le h1 (by decide : (1024 + 256 - 1) / 256 ≤ 4)).trans_eq (four m hO).symm⟩, fun a => by
    rw [h]
    match a with
    | ⟨0, _⟩ => exact (Nat.lt_one_iff.mp (lt_of_lt_of_le h0 (by decide : (449 + 449 - 1) / 449 ≤ 1))).symm
    | ⟨1, _⟩ => rfl⟩

theorem emb5 (y : S449x256.Idx) (h0 : (y 0).val = i.val) (h1 : (y 1).val = l.val) :
    (((cfgM m hO).win 5).blk t).view.emb y = (ix2 i (col m hO t l) : S449x1024.Idx) := by
  blk_ext [idx m hO t, h0, h1, col]

theorem final_5 : (dats m hO 0 c).arrAt 5 (cfgM m hO).N = fun (y : S449x1024.Idx) => gAt m c (y 0) (y 1) := by
  refine (dats m hO 0 c).arrAt_eq_of_covers 5 _ (Pipeline.Window.covers_of_index_surj _ rfl (by decide : ∀ a : Fin 2, 0 < S449x256.size a)
    fun β => onto m hO _ (fun t => (idx m hO t).2.2.2.2.1) (fun a => (β a).val) (β (0 : Fin 2)).isLt (β (1 : Fin 2)).isLt) fun t hf y => ?_
  obtain ⟨i, l, e⟩ : ∃ (i : Fin 449) (l : Fin 256), y = (ix2 i l : S449x256.Idx) := ⟨_, _, eq_ix2 (show S449x256.Idx from y)⟩
  subst e
  have e := emb5 m hO t i l (ix2 i l) rfl rfl
  blk_simp
  rw [after0_5, e]
  exact (ats m hO c t i l).1

theorem emb6 (y : S449x256.Idx) (h0 : (y 0).val = i.val) (h1 : (y 1).val = l.val) :
    (((cfgM m hO).win 6).blk t).view.emb y = (ix2 i (col m hO t l) : S449x1024.Idx) := by
  blk_ext [idx m hO t, h0, h1, col]

theorem final_6 : (dats m hO 0 c).arrAt 6 (cfgM m hO).N = fun (y : S449x1024.Idx) => delta (gAt m c (y 0) (y 1)) (wAt m c (y 0) (y 1)) (mAt m c (y 0) (y 1)) (vAt m c (y 0) (y 1)) := by
  refine (dats m hO 0 c).arrAt_eq_of_covers 6 _ (Pipeline.Window.covers_of_index_surj _ rfl (by decide : ∀ a : Fin 2, 0 < S449x256.size a)
    fun β => onto m hO _ (fun t => (idx m hO t).2.2.2.2.2.1) (fun a => (β a).val) (β (0 : Fin 2)).isLt (β (1 : Fin 2)).isLt) fun t hf y => ?_
  obtain ⟨i, l, e⟩ : ∃ (i : Fin 449) (l : Fin 256), y = (ix2 i l : S449x256.Idx) := ⟨_, _, eq_ix2 (show S449x256.Idx from y)⟩
  subst e
  have e := emb6 m hO t i l (ix2 i l) rfl rfl
  blk_simp
  rw [after0_6, e]
  exact (ats m hO c t i l).2.1

theorem emb7 (y : S449x256.Idx) (h0 : (y 0).val = i.val) (h1 : (y 1).val = l.val) :
    (((cfgM m hO).win 7).blk t).view.emb y = (ix2 i (col m hO t l) : S449x1024.Idx) := by
  blk_ext [idx m hO t, h0, h1, col]

theorem final_7 : (dats m hO 0 c).arrAt 7 (cfgM m hO).N = fun (y : S449x1024.Idx) => newM (gAt m c (y 0) (y 1)) (mAt m c (y 0) (y 1)) := by
  refine (dats m hO 0 c).arrAt_eq_of_covers 7 _ (Pipeline.Window.covers_of_index_surj _ rfl (by decide : ∀ a : Fin 2, 0 < S449x256.size a)
    fun β => onto m hO _ (fun t => (idx m hO t).2.2.2.2.2.2.1) (fun a => (β a).val) (β (0 : Fin 2)).isLt (β (1 : Fin 2)).isLt) fun t hf y => ?_
  obtain ⟨i, l, e⟩ : ∃ (i : Fin 449) (l : Fin 256), y = (ix2 i l : S449x256.Idx) := ⟨_, _, eq_ix2 (show S449x256.Idx from y)⟩
  subst e
  have e := emb7 m hO t i l (ix2 i l) rfl rfl
  blk_simp
  rw [after0_7, e]
  exact (ats m hO c t i l).2.2.1

theorem emb8 (y : S449x256.Idx) (h0 : (y 0).val = i.val) (h1 : (y 1).val = l.val) :
    (((cfgM m hO).win 8).blk t).view.emb y = (ix2 i (col m hO t l) : S449x1024.Idx) := by
  blk_ext [idx m hO t, h0, h1, col]

theorem final_8 : (dats m hO 0 c).arrAt 8 (cfgM m hO).N = fun (y : S449x1024.Idx) => newV (gAt m c (y 0) (y 1)) (vAt m c (y 0) (y 1)) := by
  refine (dats m hO 0 c).arrAt_eq_of_covers 8 _ (Pipeline.Window.covers_of_index_surj _ rfl (by decide : ∀ a : Fin 2, 0 < S449x256.size a)
    fun β => onto m hO _ (fun t => (idx m hO t).2.2.2.2.2.2.2) (fun a => (β a).val) (β (0 : Fin 2)).isLt (β (1 : Fin 2)).isLt) fun t hf y => ?_
  obtain ⟨i, l, e⟩ : ∃ (i : Fin 449) (l : Fin 256), y = (ix2 i l : S449x256.Idx) := ⟨_, _, eq_ix2 (show S449x256.Idx from y)⟩
  subst e
  have e := emb8 m hO t i l (ix2 i l) rfl rfl
  blk_simp
  rw [after0_8, e]
  exact (ats m hO c t i l).2.2.2

variable (ρ : Dev nD → PrngReg)

theorem run_blocks : θ_run defs (onTc (τ := τ) (main (F := Ideal))) ⟨m, fun _ => 0, ρ⟩ (fun r => ∀ c : Dev nD,
      r.2.mem ((c.tc : Thread nD τ).loc main_v6_0) = (dats m hO 0 c).arrAt 5 (cfgM m hO).N
      ∧ r.2.mem ((c.tc : Thread nD τ).loc main_v6_1) = (dats m hO 0 c).arrAt 6 (cfgM m hO).N
      ∧ r.2.mem ((c.tc : Thread nD τ).loc main_v6_2) = (dats m hO 0 c).arrAt 7 (cfgM m hO).N
      ∧ r.2.mem ((c.tc : Thread nD τ).loc main_v6_3) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1 5, (h c).1 6, (h c).1 7, (h c).1 8,
      ((h c).2 main_arg0 (by decide : main_arg0 ∈ Pipeline.restRefs sig spec0)).trans (V_main_arg0 m c),
      ((h c).1 1).trans (((dats m hO 0 c).arrAt_in 1 rfl _).trans ((A_eq m hO c 1).trans (V_main_arg1 m c))),
      ((h c).1 0).trans (((dats m hO 0 c).arrAt_in 0 rfl _).trans ((A_eq m hO c 0).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) (run_main m ρ hO)

end Cert.AdamTileIdeal.Value

/-! ## The reference -/

namespace Cert.AdamTileRefIdeal.Read

open Cert.AdamStep (newM newV delta)
open Cert.AdamTileIdeal.Value (parts grad ent)

variable (x0 : IVec S1 32) (x1 x2 : FVec Ideal S8x449x1024 .bf16) (x3 x4 x5 : FVec Ideal S1x1024x449 .f32) (i : Fin 449) (l : Fin 1024)

/-- The part of device `d`, chosen by the comparison of the indices. -/
theorem part (d : Fin 8) : (val_main_v6 (F := Ideal) x0 x1 x2 (ix3 d i l) : EReal)
    = if x0 (ix1 0) = BitVec.ofNat 32 d.val then (x1 (ix3 d i l) : EReal) else x2 (ix3 d i l) := by
  pointwise [val_main_v6, val_main_v5, val_main_v4, val_main_v3, val_main_v2, val_main_v1, val_main_v0, val_main_call0_v0]
  exact if_congr (StableHlo.Predicate.cmpi_eq_iff.trans eq_comm) rfl rfl

theorem sum7 : (val_main_v7 (F := Ideal) x0 x1 x2 (ix2 i l) : EReal) = grad (x0 (ix1 0)) x1 x2 i l := by
  unfold grad parts
  refine Eq.trans ?_ (Finset.sum_congr rfl fun d _ => part x0 x1 x2 i l d)
  generalize e : val_main_v6 (F := Ideal) x0 x1 x2 = z
  unfold val_main_v7
  rw [e]
  pointwise [val_main_cst]

/-- The reference's four results, from the arguments. -/
theorem reads : (val_main_v11 (F := Ideal) x0 x1 x2 (ix2 i l) : EReal) = grad (x0 (ix1 0)) x1 x2 i l
    ∧ (val_main_v37 (F := Ideal) x0 x1 x2 x3 x4 x5 (ix2 i l) : EReal) = delta (grad (x0 (ix1 0)) x1 x2 i l) (ent x3 i l) (ent x4 i l) (ent x5 i l)
    ∧ (val_main_v39 (F := Ideal) x0 x1 x2 x4 (ix2 i l) : EReal) = newM (grad (x0 (ix1 0)) x1 x2 i l) (ent x4 i l)
    ∧ (val_main_v41 (F := Ideal) x0 x1 x2 x5 (ix2 i l) : EReal) = newV (grad (x0 (ix1 0)) x1 x2 i l) (ent x5 i l) := by
  rw [← sum7]
  unfold val_main_v11 val_main_v10 val_main_v37 val_main_v36 val_main_v35 val_main_v33 val_main_v30 val_main_v29 val_main_v27 val_main_v26
    val_main_v24 val_main_v39 val_main_v38 val_main_v41 val_main_v40 val_main_v22 val_main_v21 val_main_v19 val_main_v16 val_main_v15 val_main_v9 val_main_v8
  generalize val_main_v7 (F := Ideal) x0 x1 x2 = z
  refine ⟨?_, ?_, ?_, ?_⟩ <;>
  · pointwise [val_main_cst_0, val_main_cst_1, val_main_cst_2, val_main_cst_3, val_main_cst_4, val_main_cst_5, val_main_cst_6,
      val_main_cst_7, val_main_cst_8, val_main_v12, val_main_v13, val_main_v14, val_main_v17, val_main_v18, val_main_v20, val_main_v23,
      val_main_v25, val_main_v28, val_main_v31, val_main_v32, val_main_v34]
    try rfl

/-- The same as whole arrays. -/
theorem all : val_main_v11 (F := Ideal) x0 x1 x2 = (fun y => grad (x0 (ix1 0)) x1 x2 (y 0) (y 1))
    ∧ val_main_v37 (F := Ideal) x0 x1 x2 x3 x4 x5 = (fun y => delta (grad (x0 (ix1 0)) x1 x2 (y 0) (y 1)) (ent x3 (y 0) (y 1)) (ent x4 (y 0) (y 1)) (ent x5 (y 0) (y 1)))
    ∧ val_main_v39 (F := Ideal) x0 x1 x2 x4 = (fun y => newM (grad (x0 (ix1 0)) x1 x2 (y 0) (y 1)) (ent x4 (y 0) (y 1)))
    ∧ val_main_v41 (F := Ideal) x0 x1 x2 x5 = (fun y => newV (grad (x0 (ix1 0)) x1 x2 (y 0) (y 1)) (ent x5 (y 0) (y 1))) := by
  refine ⟨?_, ?_, ?_, ?_⟩ <;> funext y <;> rw [eq_ix2 y]
  · exact (reads x0 x1 x2 x3 x4 x5 (y 0) (y 1)).1
  · exact (reads x0 x1 x2 x3 x4 x5 (y 0) (y 1)).2.1
  · exact (reads x0 x1 x2 x3 x4 x5 (y 0) (y 1)).2.2.1
  · exact (reads x0 x1 x2 x3 x4 x5 (y 0) (y 1)).2.2.2

end Cert.AdamTileRefIdeal.Read

end
-- ==== Proof.AdamTileClaim.lean ====
module

public import proofs.«01_k».proof.Defs
public import proofs.«01_k».proof.Proof.AdamTileKernel
public import proofs.«01_k».proof.Proof.AdamOwnClaim
public import proofs.«01_k».proof.Proof.Gen.AdamTile.Frame
public import proofs.«01_k».proof.Proof.Gen.AdamTileIdeal.Frame
public import proofs.«01_k».proof.Proof.Gen.Pre_device_index_in
public import Idealize.ShloMosaic.Lib.StableHlo.Predicate

/-! The input weight's step of the optimiser: its claims. -/

@[expose] public section

noncomputable section

open Idealize.ShloMosaic Idealize.ShloMosaic.TcCoe Idealize.SL.Sem

namespace Cert.AdamTile.Gen

open Cert.AdamTile

variable (m : (ℓ : Loc nD τ sig) → Buf (Elt Bits) ℓ) (h : Cert.Pre_AdamTile m)

include h in
/-- The precondition pins the table to a device's index, -/
theorem pre_word : ∃ d : Fin 8, tbl m 0 = fun _ => BitVec.ofNat 32 d.val := by
  obtain ⟨d, e⟩ := Cert.Proof.Own.device_of _ (congrFun (h 0) (ix1 0))
  refine ⟨d, funext fun (x : S1.Idx) => ?_⟩
  have hx : x = ix1 0 := funext fun a => Fin.ext (by match a with | ⟨0, _⟩ => exact Nat.lt_one_iff.mp (x 0).isLt)
  exact (congrFun (V_main_arg0 m 0) x).trans ((congrArg (m (((0 : Dev nD) : Thread nD τ).loc main_arg0)) hx).trans e)

include h in
/-- and at each index the block read is inside its array. -/
theorem ok_of_pre : Ok m := by
  obtain ⟨d, e⟩ := pre_word m h
  have e' : tbl m = fun j => match j with | ⟨0, _⟩ => fun _ => BitVec.ofNat 32 d.val := by
    funext j
    match j with
    | ⟨0, _⟩ => exact e
  unfold Ok
  rw [e']
  clear e e'
  revert d
  decide

end Cert.AdamTile.Gen

namespace Cert.AdamTileIdeal.Gen

open Cert.AdamTileIdeal

variable (m : (ℓ : Loc nD τ sig) → Buf (Elt Ideal) ℓ) (h : Cert.Pre_AdamTileIdeal m)

include h in
/-- The precondition pins the table to a device's index, -/
theorem pre_word : ∃ d : Fin 8, tbl m 0 = fun _ => BitVec.ofNat 32 d.val := by
  obtain ⟨d, e⟩ := Cert.Proof.Own.device_of _ (congrFun (h 0) (ix1 0))
  refine ⟨d, funext fun (x : S1.Idx) => ?_⟩
  have hx : x = ix1 0 := funext fun a => Fin.ext (by match a with | ⟨0, _⟩ => exact Nat.lt_one_iff.mp (x 0).isLt)
  exact (congrFun (V_main_arg0 m 0) x).trans ((congrArg (m (((0 : Dev nD) : Thread nD τ).loc main_arg0)) hx).trans e)

include h in
/-- and at each index the block read is inside its array. -/
theorem ok_of_pre : Ok m := by
  obtain ⟨d, e⟩ := pre_word m h
  have e' : tbl m = fun j => match j with | ⟨0, _⟩ => fun _ => BitVec.ofNat 32 d.val := by
    funext j
    match j with
    | ⟨0, _⟩ => exact e
  unfold Ok
  rw [e']
  clear e e'
  revert d
  decide

end Cert.AdamTileIdeal.Gen

namespace Cert.Proof.Tile

theorem frame_kernel : Cert.quiescent_AdamTile := fun m ρ h => Cert.AdamTile.Gen.frame m ρ (Cert.AdamTile.Gen.ok_of_pre m h)

theorem frame_ideal : Cert.quiescent_AdamTileIdeal := fun m ρ h => Cert.AdamTileIdeal.Gen.frame m ρ (Cert.AdamTileIdeal.Gen.ok_of_pre m h)

theorem frame_reference : Cert.quiescent_AdamTileRefIdeal := fun m ρ _ =>
  (θ_run Cert.AdamTileRefIdeal.defs _ _).mono (fun r h => ⟨fun c => (h c).2.2.2.2, sem_eq_zero_of_no_sems rfl r.2⟩)
    (Cert.AdamTileRefIdeal.Value.run m ρ)

theorem frame_reference_pre : Cert.quiescent_AdamTileRefIdeal_pre_device_index_in := fun m ρ _ => frame_reference m ρ trivial

open Cert.AdamTileRefIdeal.Read in
/-- The ideal kernel and the reference return the same gradient, step and moments. -/
theorem algebraic : Cert.algebraic_AdamTileIdeal_AdamTileRefIdeal := by
  intro m g m' g' hpre hargs
  have hO := Cert.AdamTileIdeal.Gen.ok_of_pre m hpre
  refine ⟨fun c => (Cert.AdamTileIdeal.Gen.dats m hO 0 c).arrAt 5 (Cert.AdamTileIdeal.Gen.cfgM m hO).N,
    fun c => (Cert.AdamTileIdeal.Gen.dats m hO 0 c).arrAt 6 (Cert.AdamTileIdeal.Gen.cfgM m hO).N,
    fun c => (Cert.AdamTileIdeal.Gen.dats m hO 0 c).arrAt 7 (Cert.AdamTileIdeal.Gen.cfgM m hO).N,
    fun c => (Cert.AdamTileIdeal.Gen.dats m hO 0 c).arrAt 8 (Cert.AdamTileIdeal.Gen.cfgM m hO).N,
    Cert.AdamTileIdeal.Value.run_blocks m hO g, ?_⟩
  refine (θ_run Cert.AdamTileRefIdeal.defs _ _).mono (fun r h c => ?_) (Cert.AdamTileRefIdeal.Value.run m' g')
  obtain ⟨h0, h1, h2, h3, hr⟩ := h c
  obtain ⟨a0, a1, a2, a3, a4, a5⟩ := hargs c
  refine ⟨?_, ?_, ?_, ?_, hr⟩
  · rw [h0, a0, a1, a2]
    exact (val_main_v11_eq _ _ _).trans ((all _ _ _ (m ((c : Thread Cert.AdamTileIdeal.nD Cert.AdamTileIdeal.τ).loc Cert.AdamTileIdeal.main_arg3)) (m ((c : Thread Cert.AdamTileIdeal.nD Cert.AdamTileIdeal.τ).loc Cert.AdamTileIdeal.main_arg4)) (m ((c : Thread Cert.AdamTileIdeal.nD Cert.AdamTileIdeal.τ).loc Cert.AdamTileIdeal.main_arg5))).1.trans (Cert.AdamTileIdeal.Value.final_5 m hO c).symm)
  · rw [h1, a0, a1, a2, a3, a4, a5]
    exact (val_main_v37_eq _ _ _ _ _ _).trans ((all _ _ _ _ _ _).2.1.trans (Cert.AdamTileIdeal.Value.final_6 m hO c).symm)
  · rw [h2, a0, a1, a2, a4]
    exact (val_main_v39_eq _ _ _ _).trans ((all _ _ _ (m ((c : Thread Cert.AdamTileIdeal.nD Cert.AdamTileIdeal.τ).loc Cert.AdamTileIdeal.main_arg3)) _ (m ((c : Thread Cert.AdamTileIdeal.nD Cert.AdamTileIdeal.τ).loc Cert.AdamTileIdeal.main_arg5))).2.2.1.trans (Cert.AdamTileIdeal.Value.final_7 m hO c).symm)
  · rw [h3, a0, a1, a2, a5]
    exact (val_main_v41_eq _ _ _ _).trans ((all _ _ _ (m ((c : Thread Cert.AdamTileIdeal.nD Cert.AdamTileIdeal.τ).loc Cert.AdamTileIdeal.main_arg3)) (m ((c : Thread Cert.AdamTileIdeal.nD Cert.AdamTileIdeal.τ).loc Cert.AdamTileIdeal.main_arg4)) _).2.2.2.trans (Cert.AdamTileIdeal.Value.final_8 m hO c).symm)

end Cert.Proof.Tile

end
-- ==== Proof.AdamAdaKernel.lean ====
module

public import proofs.«01_k».proof.Proof.Gen.AdamAdaIdeal.Value
public import proofs.«01_k».proof.Proof.Gen.AdamAdaRefIdeal.Read
public import proofs.«01_k».proof.Proof.Norm
public import proofs.«01_k».proof.Proof.AdamStep
public import Idealize.ShloMosaic.Lib.Pipeline.ValueKit

/-! The modulation weight's gradient and step of the optimiser: the results and the reference's as functions of the arguments. -/

@[expose] public section

set_option maxRecDepth 16384

noncomputable section

open Idealize.ShloMosaic Idealize.ShloMosaic.TcCoe Idealize.SL.Sem
open Idealize.ShloMosaic.Pipeline (Dat)
open scoped BigOperators

namespace Cert.AdamAdaIdeal.Value

open Cert.AdamAdaIdeal Cert.AdamAdaIdeal.Gen
open Cert.AdamStep (newM newV delta)

/-- `x` times its logistic function. -/
def silu (x : EReal) : EReal := x * Ideal.div 1 (1 + Ideal.exp (-x))

/-- The gradient's entry: over the batch, the modulation's cotangent times the conditioning's activation. -/
def grad (x : FVec Ideal S8x1024 .f32) (d : FVec Ideal S8x384 .f32) (i : Fin 1024) (l : Fin 384) : EReal :=
  ∑ k : Fin 8, (d (ix2 k l) : EReal) * silu (x (ix2 k i))

section blocks

variable (x0 : Vec Ideal S16x1024 .f32) (x1 : Vec Ideal S16x384 .f32) (x2 x3 x4 : Vec Ideal S1024x384 .f32)

/-- The gradient's entry, from the blocks. -/
def bgrad (i : Fin 1024) (l : Fin 384) : EReal := ∑ k : Fin 16, (x0 (ix2 k i) : EReal) * (x1 (ix2 k l) : EReal)

theorem piece5 (i : Fin 1024) (l : Fin 384) : (out0_5 x0 x1 x2 x3 x4 (ix2 i l) : EReal) = bgrad x0 x1 i l := by
  unfold out0_5
  canon_tiles y h
  all_goals
    obtain ⟨i, hi⟩ := i
    obtain ⟨l, hl⟩ := l
    change i = _ at h0
    change l = _ at h1
    subst h0 h1
    idx_vars y
    open_payloads
    pointwise
    rfl

theorem piece6 (i : Fin 1024) (l : Fin 384) : (out0_6 x0 x1 x2 x3 x4 (ix2 i l) : EReal) = delta (bgrad x0 x1 i l) (x2 (ix2 i l)) (x3 (ix2 i l)) (x4 (ix2 i l)) := by
  unfold out0_6
  canon_tiles y h
  all_goals
    obtain ⟨i, hi⟩ := i
    obtain ⟨l, hl⟩ := l
    change i = _ at h0
    change l = _ at h1
    subst h0 h1
    idx_vars y
    open_payloads
    pointwise
    rfl

theorem piece7 (i : Fin 1024) (l : Fin 384) : (out0_7 x0 x1 x2 x3 x4 (ix2 i l) : EReal) = newM (bgrad x0 x1 i l) (x3 (ix2 i l)) := by
  unfold out0_7
  canon_tiles y h
  all_goals
    obtain ⟨i, hi⟩ := i
    obtain ⟨l, hl⟩ := l
    change i = _ at h0
    change l = _ at h1
    subst h0 h1
    idx_vars y
    open_payloads
    pointwise
    rfl

theorem piece8 (i : Fin 1024) (l : Fin 384) : (out0_8 x0 x1 x2 x3 x4 (ix2 i l) : EReal) = newV (bgrad x0 x1 i l) (x4 (ix2 i l)) := by
  unfold out0_8
  canon_tiles y h
  all_goals
    obtain ⟨i, hi⟩ := i
    obtain ⟨l, hl⟩ := l
    change i = _ at h0
    change l = _ at h1
    subst h0 h1
    idx_vars y
    open_payloads
    pointwise
    rfl

end blocks

/-! ## The blocks of the arguments -/

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- An entry of a weight or of one of its moments, as the arguments hold it. -/
def ent (a : FVec Ideal S1x1024x384 .f32) (i : Fin 1024) (l : Fin 384) : EReal := a (ix3 0 i l)

/-- The conditioning with eight rows of zeros below it. -/
def tall (x : FVec Ideal S8x1024 .f32) : FVec Ideal S16x1024 .f32 :=
  concatenate S16x1024 0 [⟨S8x1024, x⟩, ⟨S8x1024, broadcastInDim S8x1024 ![] bcast_S_S8x1024 (constant (F := Ideal) S_ .f32 0x00000000#32)⟩]
    concatenates_S8x1024_S8x1024_S16x1024_d0

/-- A one at every place of an array of sixteen rows. -/
def ones : FVec Ideal S16x1024 .f32 := broadcastInDim S16x1024 ![] bcast_S_S16x1024 (constant (F := Ideal) S_ .f32 0x3F800000#32)

theorem V8 (c : Dev nD) : V m c main_v8 = mulf (tall (m ((c : Thread nD τ).loc main_arg0)))
    (Host.divf ones (addf ones (Host.exp (Host.negf (tall (m ((c : Thread nD τ).loc main_arg0))))))) := by
  simp only [V, List.flatten_cons, List.flatten_nil, List.append_nil, List.cons_append, List.nil_append]
  entry_read
  rfl

theorem V9 (c : Dev nD) : V m c main_v9 = pad S16x384 ![0, 0] ![8, 0] ![0, 0] (m ((c : Thread nD τ).loc main_arg1) : FVec Ideal S8x384 .f32)
    (sitofp (F := Ideal) .f32 (constantI S_ 32 0#32)) pads_S8x384_S16x384_080_000 h_S_ := by
  simp only [V, List.flatten_cons, List.flatten_nil, List.append_nil, List.cons_append, List.nil_append]
  entry_read
  rfl

theorem pad9 (x : FVec Ideal S8x384 .f32) (k : Fin 16) (l : Fin 384) :
    (pad S16x384 ![0, 0] ![8, 0] ![0, 0] x (sitofp (F := Ideal) .f32 (constantI S_ 32 0#32)) pads_S8x384_S16x384_080_000 h_S_ : FVec Ideal S16x384 .f32) (ix2 k l)
      = if h : k.val < 8 then x (ix2 ⟨k, h⟩ l) else (0 : EReal) := by
  have z0 : (FloatOps.sitofp .f32 0#32 : Ideal .f32) = (0 : EReal) := by simp [FloatOps.sitofp]
  pointwise [z0]

/-- A row of the conditioning above the zeros. -/
theorem tall_lt (x : FVec Ideal S8x1024 .f32) (k : Fin 16) (l : Fin 1024) (h : k.val < 8) : (tall x (ix2 k l) : EReal) = x (ix2 ⟨k, h⟩ l) := by
  unfold tall
  pointwise
  exact dif_pos h

/-- The activation of a row above the zeros. -/
theorem act8 (x : FVec Ideal S8x1024 .f32) (k : Fin 16) (l : Fin 1024) (h : k.val < 8) :
    (mulf (tall x) (Host.divf ones (addf ones (Host.exp (Host.negf (tall x))))) (ix2 k l) : EReal) = silu (x (ix2 ⟨k, h⟩ l)) := by
  rw [← tall_lt x k l h]
  generalize tall x = z
  pointwise [ones]
  rfl

theorem V10 (c : Dev nD) : V m c main_v10 = shapeCast S1024x384 (m ((c : Thread nD τ).loc main_arg2)) shapeCasts_S1x1024x384_S1024x384 := by
  simp only [V, List.flatten_cons, List.flatten_nil, List.append_nil, List.cons_append, List.nil_append]
  entry_read
  rfl

theorem V11 (c : Dev nD) : V m c main_v11 = shapeCast S1024x384 (m ((c : Thread nD τ).loc main_arg3)) shapeCasts_S1x1024x384_S1024x384 := by
  simp only [V, List.flatten_cons, List.flatten_nil, List.append_nil, List.cons_append, List.nil_append]
  entry_read
  rfl

theorem V12 (c : Dev nD) : V m c main_v12 = shapeCast S1024x384 (m ((c : Thread nD τ).loc main_arg4)) shapeCasts_S1x1024x384_S1024x384 := by
  simp only [V, List.flatten_cons, List.flatten_nil, List.append_nil, List.cons_append, List.nil_append]
  entry_read
  rfl

theorem blk0 (c : Dev nD) (t : Fin cfg0.N) (k : Fin 16) (l : Fin 1024) (h : k.val < 8) :
    (iblk m c 0 t (ix2 k l) : EReal) = silu ((m ((c : Thread nD τ).loc main_arg0) : FVec Ideal S8x1024 .f32) (ix2 ⟨k, h⟩ l)) := by
  refine Eq.trans ?_ ((congrFun (V8 m c) (ix2 k l)).trans (act8 (m ((c : Thread nD τ).loc main_arg0)) k l h))
  blk_simp [iblk, idx t]
  refine congrArg (V m c main_v8) ?_
  blk_ext [idx t]

theorem blk1 (c : Dev nD) (t : Fin cfg0.N) (k : Fin 16) (l : Fin 384) :
    (iblk m c 1 t (ix2 k l) : EReal) = if h : k.val < 8 then (m ((c : Thread nD τ).loc main_arg1) : FVec Ideal S8x384 .f32) (ix2 ⟨k, h⟩ l) else (0 : EReal) := by
  refine Eq.trans ?_ ((congrFun (V9 m c) (ix2 k l)).trans (pad9 (m ((c : Thread nD τ).loc main_arg1)) k l))
  blk_simp [iblk, idx t]
  refine congrArg (V m c main_v9) ?_
  blk_ext [idx t]

theorem bgrad_at (c : Dev nD) (t : Fin cfg0.N) : bgrad (iblk m c 0 t) (iblk m c 1 t) = grad (m ((c : Thread nD τ).loc main_arg0)) (m ((c : Thread nD τ).loc main_arg1)) := by
  funext i l
  unfold bgrad grad
  rw [Fin.sum_univ_add (a := 8) (b := 8)]
  refine (congrArg₂ (· + ·) (Finset.sum_congr rfl fun k _ => ?_) (Finset.sum_eq_zero fun k _ => ?_)).trans (add_zero _)
  · refine (congrArg₂ (fun a b : EReal => a * b) (blk0 m c t (Fin.castAdd 8 k) i k.isLt)
      ((blk1 m c t (Fin.castAdd 8 k) l).trans (dif_pos k.isLt))).trans (mul_comm _ _)
  · exact (congrArg (fun b : EReal => (show EReal from iblk m c 0 t (ix2 (Fin.natAdd 8 k) i)) * b)
      ((blk1 m c t (Fin.natAdd 8 k) l).trans (dif_neg (by show ¬8 + k.val < 8; omega)))).trans (mul_zero _)

theorem blk2 (c : Dev nD) (t : Fin cfg0.N) (i : Fin 1024) (l : Fin 384) :
    (iblk m c 2 t (ix2 i l) : EReal) = ent (m ((c : Thread nD τ).loc main_arg2)) i l := by
  refine Eq.trans ?_ ((congrFun (V10 m c) (ix2 i l)).trans (Norm.drop_unit _ _ i l))
  blk_simp [iblk, idx t]
  refine congrArg (V m c main_v10) ?_
  blk_ext [idx t]

theorem blk3 (c : Dev nD) (t : Fin cfg0.N) (i : Fin 1024) (l : Fin 384) :
    (iblk m c 3 t (ix2 i l) : EReal) = ent (m ((c : Thread nD τ).loc main_arg3)) i l := by
  refine Eq.trans ?_ ((congrFun (V11 m c) (ix2 i l)).trans (Norm.drop_unit _ _ i l))
  blk_simp [iblk, idx t]
  refine congrArg (V m c main_v11) ?_
  blk_ext [idx t]

theorem blk4 (c : Dev nD) (t : Fin cfg0.N) (i : Fin 1024) (l : Fin 384) :
    (iblk m c 4 t (ix2 i l) : EReal) = ent (m ((c : Thread nD τ).loc main_arg4)) i l := by
  refine Eq.trans ?_ ((congrFun (V12 m c) (ix2 i l)).trans (Norm.drop_unit _ _ i l))
  blk_simp [iblk, idx t]
  refine congrArg (V m c main_v12) ?_
  blk_ext [idx t]

/-- The gradient and the entries at a device. -/
abbrev gAt (c : Dev nD) := grad (m ((c : Thread nD τ).loc main_arg0)) (m ((c : Thread nD τ).loc main_arg1))
abbrev wAt (c : Dev nD) := ent (m ((c : Thread nD τ).loc main_arg2))
abbrev mAt (c : Dev nD) := ent (m ((c : Thread nD τ).loc main_arg3))
abbrev vAt (c : Dev nD) := ent (m ((c : Thread nD τ).loc main_arg4))

theorem emb5 (t : Fin cfg0.N) (y : ((cfg0.win 5).xblock (cfg0.grid.coords t)).Idx) (i : Fin 1024) (l : Fin 384) (h0 : (y 0).val = i.val) (h1 : (y 1).val = l.val) :
    (cfg0.win 5 |>.blk t).view.emb y = (ix2 i l : S1024x384.Idx) := by
  blk_ext [idx t, h0, h1]

theorem final_5 (c : Dev nD) : (dats m 0 c).arrAt 5 cfg0.N = fun y => gAt m c (y 0) (y 1) := by
  refine (dats m 0 c).arrAt_eq_of_covers 5 _ (by decide +kernel) fun t hf y => ?_
  obtain ⟨i, l, e⟩ : ∃ (i : Fin 1024) (l : Fin 384), y = ix2 i l := ⟨y 0, y 1, eq_ix2 y⟩
  have e5 := emb5 t y i l (by rw [e]; rfl) (by rw [e]; rfl)
  blk_simp
  rw [after0_5]
  rw [e5, e]
  refine (piece5 _ _ _ _ _ i l).trans ?_
  rw [bgrad_at]
  rfl

theorem emb6 (t : Fin cfg0.N) (y : ((cfg0.win 6).xblock (cfg0.grid.coords t)).Idx) (i : Fin 1024) (l : Fin 384) (h0 : (y 0).val = i.val) (h1 : (y 1).val = l.val) :
    (cfg0.win 6 |>.blk t).view.emb y = (ix2 i l : S1024x384.Idx) := by
  blk_ext [idx t, h0, h1]

theorem final_6 (c : Dev nD) : (dats m 0 c).arrAt 6 cfg0.N = fun y => delta (gAt m c (y 0) (y 1)) (wAt m c (y 0) (y 1)) (mAt m c (y 0) (y 1)) (vAt m c (y 0) (y 1)) := by
  refine (dats m 0 c).arrAt_eq_of_covers 6 _ (by decide +kernel) fun t hf y => ?_
  obtain ⟨i, l, e⟩ : ∃ (i : Fin 1024) (l : Fin 384), y = ix2 i l := ⟨y 0, y 1, eq_ix2 y⟩
  have e6 := emb6 t y i l (by rw [e]; rfl) (by rw [e]; rfl)
  blk_simp
  rw [after0_6]
  rw [e6, e]
  refine (piece6 _ _ _ _ _ i l).trans ?_
  rw [bgrad_at, blk2, blk3, blk4]
  rfl

theorem emb7 (t : Fin cfg0.N) (y : ((cfg0.win 7).xblock (cfg0.grid.coords t)).Idx) (i : Fin 1024) (l : Fin 384) (h0 : (y 0).val = i.val) (h1 : (y 1).val = l.val) :
    (cfg0.win 7 |>.blk t).view.emb y = (ix2 i l : S1024x384.Idx) := by
  blk_ext [idx t, h0, h1]

theorem final_7 (c : Dev nD) : (dats m 0 c).arrAt 7 cfg0.N = fun y => newM (gAt m c (y 0) (y 1)) (mAt m c (y 0) (y 1)) := by
  refine (dats m 0 c).arrAt_eq_of_covers 7 _ (by decide +kernel) fun t hf y => ?_
  obtain ⟨i, l, e⟩ : ∃ (i : Fin 1024) (l : Fin 384), y = ix2 i l := ⟨y 0, y 1, eq_ix2 y⟩
  have e7 := emb7 t y i l (by rw [e]; rfl) (by rw [e]; rfl)
  blk_simp
  rw [after0_7]
  rw [e7, e]
  refine (piece7 _ _ _ _ _ i l).trans ?_
  rw [bgrad_at, blk3]
  rfl

theorem emb8 (t : Fin cfg0.N) (y : ((cfg0.win 8).xblock (cfg0.grid.coords t)).Idx) (i : Fin 1024) (l : Fin 384) (h0 : (y 0).val = i.val) (h1 : (y 1).val = l.val) :
    (cfg0.win 8 |>.blk t).view.emb y = (ix2 i l : S1024x384.Idx) := by
  blk_ext [idx t, h0, h1]

theorem final_8 (c : Dev nD) : (dats m 0 c).arrAt 8 cfg0.N = fun y => newV (gAt m c (y 0) (y 1)) (vAt m c (y 0) (y 1)) := by
  refine (dats m 0 c).arrAt_eq_of_covers 8 _ (by decide +kernel) fun t hf y => ?_
  obtain ⟨i, l, e⟩ : ∃ (i : Fin 1024) (l : Fin 384), y = ix2 i l := ⟨y 0, y 1, eq_ix2 y⟩
  have e8 := emb8 t y i l (by rw [e]; rfl) (by rw [e]; rfl)
  blk_simp
  rw [after0_8]
  rw [e8, e]
  refine (piece8 _ _ _ _ _ i l).trans ?_
  rw [bgrad_at, blk4]
  rfl

end Cert.AdamAdaIdeal.Value

/-! ## The reference -/

namespace Cert.AdamAdaRefIdeal.Read

open Cert.AdamStep (newM newV delta)
open Cert.AdamAdaIdeal.Value (grad ent)

variable (x0 : FVec Ideal S8x1024 .f32) (x1 : FVec Ideal S8x384 .f32) (x2 x3 x4 : FVec Ideal S1x1024x384 .f32) (i : Fin 1024) (l : Fin 384)

theorem sum4 : (val_main_v4 (F := Ideal) x0 x1 (ix2 i l) : EReal) = grad x0 x1 i l := by
  pointwise [val_main_call0_v0, val_main_call0_v1, val_main_call0_v2, val_main_call0_v3, val_main_call0_v4, val_main_call0_v5,
   val_main_call0_cst, val_main_call0_cst_0, val_main_v0, val_main_v3, val_main_v4]
  rfl

theorem read6 : (val_main_v6 (F := Ideal) x0 x1 (ix2 i l) : EReal) = grad x0 x1 i l := by
  refine Eq.trans ?_ (sum4 x0 x1 i l)
  generalize e : val_main_v4 (F := Ideal) x0 x1 = z
  unfold val_main_v6 val_main_v5
  rw [e]
  pointwise

theorem read32 : (val_main_v32 (F := Ideal) x0 x1 x3 (ix2 i l) : EReal) = newM (grad x0 x1 i l) (ent x3 i l) := by
  rw [← sum4]
  generalize e : val_main_v4 (F := Ideal) x0 x1 = z
  unfold val_main_v32 val_main_v11 val_main_v10 val_main_v5
  rw [e]
  pointwise [val_main_cst, val_main_cst_0, val_main_v7, val_main_v8, val_main_v9]
  rfl

theorem read33 : (val_main_v33 (F := Ideal) x0 x1 x4 (ix2 i l) : EReal) = newV (grad x0 x1 i l) (ent x4 i l) := by
  rw [← sum4]
  generalize e : val_main_v4 (F := Ideal) x0 x1 = z
  unfold val_main_v33 val_main_v17 val_main_v16 val_main_v14 val_main_v5
  rw [e]
  pointwise [val_main_cst_1, val_main_cst_2, val_main_v12, val_main_v13, val_main_v15]
  rfl

theorem read31 : (val_main_v31 (F := Ideal) x0 x1 x2 x3 x4 (ix2 i l) : EReal)
    = delta (grad x0 x1 i l) (ent x2 i l) (ent x3 i l) (ent x4 i l) := by
  rw [← sum4]
  generalize e : val_main_v4 (F := Ideal) x0 x1 = z
  unfold val_main_v31 val_main_v30 val_main_v28 val_main_v25 val_main_v24 val_main_v22 val_main_v21 val_main_v19 val_main_v17
    val_main_v16 val_main_v14 val_main_v11 val_main_v10 val_main_v5
  rw [e]
  pointwise [val_main_cst, val_main_cst_0, val_main_cst_1, val_main_cst_2, val_main_cst_3, val_main_cst_4, val_main_cst_5,
    val_main_cst_6, val_main_cst_7, val_main_v7, val_main_v8, val_main_v9, val_main_v12, val_main_v13, val_main_v15,
    val_main_v18, val_main_v20, val_main_v23, val_main_v26, val_main_v27, val_main_v29]
  rfl

theorem all6 : val_main_v6 (F := Ideal) x0 x1 = fun y => grad x0 x1 (y 0) (y 1) := by
  funext y
  rw [eq_ix2 y]
  exact read6 x0 x1 (y 0) (y 1)

theorem all31 : val_main_v31 (F := Ideal) x0 x1 x2 x3 x4
    = fun y => delta (grad x0 x1 (y 0) (y 1)) (ent x2 (y 0) (y 1)) (ent x3 (y 0) (y 1)) (ent x4 (y 0) (y 1)) := by
  funext y
  rw [eq_ix2 y]
  exact read31 x0 x1 x2 x3 x4 (y 0) (y 1)

theorem all32 : val_main_v32 (F := Ideal) x0 x1 x3 = fun y => newM (grad x0 x1 (y 0) (y 1)) (ent x3 (y 0) (y 1)) := by
  funext y
  rw [eq_ix2 y]
  exact read32 x0 x1 x3 (y 0) (y 1)

theorem all33 : val_main_v33 (F := Ideal) x0 x1 x4 = fun y => newV (grad x0 x1 (y 0) (y 1)) (ent x4 (y 0) (y 1)) := by
  funext y
  rw [eq_ix2 y]
  exact read33 x0 x1 x4 (y 0) (y 1)

end Cert.AdamAdaRefIdeal.Read
-- ==== Proof.AdamAdaClaim.lean ====
module

public import proofs.«01_k».proof.Defs
public import proofs.«01_k».proof.Proof.AdamAdaKernel
public import proofs.«01_k».proof.Proof.Gen.AdamAda.Frame
public import proofs.«01_k».proof.Proof.Gen.AdamAdaIdeal.Frame

/-! The modulation weight's gradient and step of the optimiser: its claims. -/

@[expose] public section

noncomputable section

open Idealize.ShloMosaic Idealize.ShloMosaic.TcCoe Idealize.SL.Sem

namespace Cert.Proof.Ada

theorem frame_ideal : Cert.quiescent_AdamAdaIdeal := fun m ρ _ => Cert.AdamAdaIdeal.Gen.frame m ρ

theorem frame_kernel : Cert.quiescent_AdamAda := fun m ρ _ => Cert.AdamAda.Gen.frame m ρ

theorem frame_reference : Cert.quiescent_AdamAdaRefIdeal := fun m ρ _ =>
  (θ_run Cert.AdamAdaRefIdeal.defs _ _).mono (fun r h => ⟨fun c => (h c).2.2.2.2, sem_eq_zero_of_no_sems rfl r.2⟩)
    (Cert.AdamAdaRefIdeal.Value.run m ρ)

open Cert.AdamAdaRefIdeal.Read in
/-- The ideal kernel and the reference return the same gradient, step and moments. -/
theorem algebraic : Cert.algebraic_AdamAdaIdeal_AdamAdaRefIdeal := by
  pair_intro
  · run_from Cert.AdamAdaIdeal.Value.run_blocks m g
  · run_from Cert.AdamAdaRefIdeal.Value.run m' g'
    · exact (val_main_v6_eq _ _).trans ((all6 _ _).trans (Cert.AdamAdaIdeal.Value.final_5 m c).symm)
    · exact (val_main_v31_eq _ _ _ _ _).trans ((all31 _ _ _ _ _).trans (Cert.AdamAdaIdeal.Value.final_6 m c).symm)
    · exact (val_main_v32_eq _ _ _).trans ((all32 _ _ _).trans (Cert.AdamAdaIdeal.Value.final_7 m c).symm)
    · exact (val_main_v33_eq _ _ _).trans ((all33 _ _ _).trans (Cert.AdamAdaIdeal.Value.final_8 m c).symm)

end Cert.Proof.Ada
-- ==== Proof.AdamSumKernel.lean ====
module

public import proofs.«01_k».proof.Proof.Gen.AdamSumIdeal.Value
public import proofs.«01_k».proof.Proof.Gen.AdamSumRefIdeal.Read
public import proofs.«01_k».proof.Proof.Norm
public import proofs.«01_k».proof.Proof.AdamStep
public import Idealize.ShloMosaic.Lib.Pipeline.ValueKit

/-! The convolution weight's step of the optimiser: its results and the reference's as functions of the arguments. -/

@[expose] public section

set_option maxRecDepth 16384

noncomputable section

open Idealize.ShloMosaic Idealize.ShloMosaic.TcCoe Idealize.SL.Sem
open Idealize.ShloMosaic.Pipeline (Dat)
open scoped BigOperators

namespace Cert.AdamSumIdeal.Value

open Cert.AdamSumIdeal Cert.AdamSumIdeal.Gen
open Cert.AdamStep (newM newV delta)

/-- The gradient's entry: the devices' parts added. -/
def grad (x : FVec Ideal S8x4x128 .f32) (i : Fin 4) (l : Fin 128) : EReal := ∑ d : Fin 8, (x (ix3 d i l) : EReal)

/-- The parts added in the order the kernel adds them. -/
theorem grad_eq (x : FVec Ideal S8x4x128 .f32) (i : Fin 4) (l : Fin 128) :
    (x (ix3 0 i l) + x (ix3 1 i l) + x (ix3 2 i l) + x (ix3 3 i l) + x (ix3 4 i l) + x (ix3 5 i l) + x (ix3 6 i l)
      + x (ix3 7 i l) : EReal) = grad x i l := by
  unfold grad
  simp [Fin.sum_univ_eight]

section blocks

variable (x0 : Vec Ideal S8x4x128 .f32) (x1 x2 x3 : Vec Ideal S4x128 .f32)

theorem piece4 (i : Fin 4) (l : Fin 128) : (out0_4 x0 x1 x2 x3 (ix2 i l) : EReal) = grad x0 i l := by
  unfold_out out0_4
  canon_tiles y h
  all_goals
    obtain ⟨i, hi⟩ := i
    obtain ⟨l, hl⟩ := l
    change i = _ at h0
    change l = _ at h1
    subst h0 h1
    idx_vars y
    open_payloads
    rw [← grad_eq]
    pointwise

theorem piece5 (i : Fin 4) (l : Fin 128) : (out0_5 x0 x1 x2 x3 (ix2 i l) : EReal) = delta (grad x0 i l) (x1 (ix2 i l)) (x2 (ix2 i l)) (x3 (ix2 i l)) := by
  unfold_out out0_5
  canon_tiles y h
  all_goals
    obtain ⟨i, hi⟩ := i
    obtain ⟨l, hl⟩ := l
    change i = _ at h0
    change l = _ at h1
    subst h0 h1
    idx_vars y
    open_payloads
    rw [← grad_eq]
    pointwise
    rfl

theorem piece6 (i : Fin 4) (l : Fin 128) : (out0_6 x0 x1 x2 x3 (ix2 i l) : EReal) = newM (grad x0 i l) (x2 (ix2 i l)) := by
  unfold_out out0_6
  canon_tiles y h
  all_goals
    obtain ⟨i, hi⟩ := i
    obtain ⟨l, hl⟩ := l
    change i = _ at h0
    change l = _ at h1
    subst h0 h1
    idx_vars y
    open_payloads
    rw [← grad_eq]
    pointwise
    rfl

theorem piece7 (i : Fin 4) (l : Fin 128) : (out0_7 x0 x1 x2 x3 (ix2 i l) : EReal) = newV (grad x0 i l) (x3 (ix2 i l)) := by
  unfold_out out0_7
  canon_tiles y h
  all_goals
    obtain ⟨i, hi⟩ := i
    obtain ⟨l, hl⟩ := l
    change i = _ at h0
    change l = _ at h1
    subst h0 h1
    idx_vars y
    open_payloads
    rw [← grad_eq]
    pointwise
    rfl

end blocks

/-! ## The blocks of the arguments -/

variable (m : (ℓ : Loc nD τ sig) → Buf (Elt Ideal) ℓ)

theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- An entry of a weight or of one of its moments, as the arguments hold it. -/
def ent (a : FVec Ideal S1x4x128 .f32) (i : Fin 4) (l : Fin 128) : EReal := a (ix3 0 i l)

theorem V0 (c : Dev nD) : V m c main_v0 = shapeCast S4x128 (m ((c : Thread nD τ).loc main_arg1)) shapeCasts_S1x4x128_S4x128 := by
  simp only [V, List.flatten_cons, List.flatten_nil, List.append_nil, List.cons_append, List.nil_append]
  entry_read
  rfl

theorem V1 (c : Dev nD) : V m c main_v1 = shapeCast S4x128 (m ((c : Thread nD τ).loc main_arg2)) shapeCasts_S1x4x128_S4x128 := by
  simp only [V, List.flatten_cons, List.flatten_nil, List.append_nil, List.cons_append, List.nil_append]
  entry_read
  rfl

theorem V2 (c : Dev nD) : V m c main_v2 = shapeCast S4x128 (m ((c : Thread nD τ).loc main_arg3)) shapeCasts_S1x4x128_S4x128 := by
  simp only [V, List.flatten_cons, List.flatten_nil, List.append_nil, List.cons_append, List.nil_append]
  entry_read
  rfl

theorem blk0 (c : Dev nD) (t : Fin cfg0.N) : grad (iblk m c 0 t) = grad (m ((c : Thread nD τ).loc main_arg0)) := by
  funext i l
  refine Finset.sum_congr rfl fun d _ => ?_
  blk_simp [iblk, idx t]
  refine congrArg (m ((c : Thread nD τ).loc main_arg0)) ?_
  blk_ext [idx t]

theorem blk1 (c : Dev nD) (t : Fin cfg0.N) (i : Fin 4) (l : Fin 128) :
    (iblk m c 1 t (ix2 i l) : EReal) = ent (m ((c : Thread nD τ).loc main_arg1)) i l := by
  refine Eq.trans ?_ ((congrFun (V0 m c) (ix2 i l)).trans (Norm.drop_unit _ _ i l))
  blk_simp [iblk, idx t]
  refine congrArg (V m c main_v0) ?_
  blk_ext [idx t]

theorem blk2 (c : Dev nD) (t : Fin cfg0.N) (i : Fin 4) (l : Fin 128) :
    (iblk m c 2 t (ix2 i l) : EReal) = ent (m ((c : Thread nD τ).loc main_arg2)) i l := by
  refine Eq.trans ?_ ((congrFun (V1 m c) (ix2 i l)).trans (Norm.drop_unit _ _ i l))
  blk_simp [iblk, idx t]
  refine congrArg (V m c main_v1) ?_
  blk_ext [idx t]

theorem blk3 (c : Dev nD) (t : Fin cfg0.N) (i : Fin 4) (l : Fin 128) :
    (iblk m c 3 t (ix2 i l) : EReal) = ent (m ((c : Thread nD τ).loc main_arg3)) i l := by
  refine Eq.trans ?_ ((congrFun (V2 m c) (ix2 i l)).trans (Norm.drop_unit _ _ i l))
  blk_simp [iblk, idx t]
  refine congrArg (V m c main_v2) ?_
  blk_ext [idx t]

/-- The gradient and the entries at a device. -/
abbrev gAt (c : Dev nD) := grad (m ((c : Thread nD τ).loc main_arg0))
abbrev wAt (c : Dev nD) := ent (m ((c : Thread nD τ).loc main_arg1))
abbrev mAt (c : Dev nD) := ent (m ((c : Thread nD τ).loc main_arg2))
abbrev vAt (c : Dev nD) := ent (m ((c : Thread nD τ).loc main_arg3))

theorem emb4 (t : Fin cfg0.N) (y : ((cfg0.win 4).xblock (cfg0.grid.coords t)).Idx) (i : Fin 4) (l : Fin 128) (h0 : (y 0).val = i.val) (h1 : (y 1).val = l.val) :
    (cfg0.win 4 |>.blk t).view.emb y = (ix2 i l : S4x128.Idx) := by
  blk_ext [idx t, h0, h1]

theorem final_4 (c : Dev nD) : (dats m 0 c).arrAt 4 cfg0.N = fun y => gAt m c (y 0) (y 1) := by
  refine (dats m 0 c).arrAt_eq_of_covers 4 _ (by decide +kernel) fun t hf y => ?_
  obtain ⟨i, l, e⟩ : ∃ (i : Fin 4) (l : Fin 128), y = ix2 i l := ⟨y 0, y 1, eq_ix2 y⟩
  have e4 := emb4 t y i l (by rw [e]; rfl) (by rw [e]; rfl)
  blk_simp
  rw [after0_4]
  rw [e4, e]
  refine (piece4 _ _ _ _ i l).trans ?_
  rw [blk0]
  rfl

theorem emb5 (t : Fin cfg0.N) (y : ((cfg0.win 5).xblock (cfg0.grid.coords t)).Idx) (i : Fin 4) (l : Fin 128) (h0 : (y 0).val = i.val) (h1 : (y 1).val = l.val) :
    (cfg0.win 5 |>.blk t).view.emb y = (ix2 i l : S4x128.Idx) := by
  blk_ext [idx t, h0, h1]

theorem final_5 (c : Dev nD) : (dats m 0 c).arrAt 5 cfg0.N = fun y => delta (gAt m c (y 0) (y 1)) (wAt m c (y 0) (y 1)) (mAt m c (y 0) (y 1)) (vAt m c (y 0) (y 1)) := by
  refine (dats m 0 c).arrAt_eq_of_covers 5 _ (by decide +kernel) fun t hf y => ?_
  obtain ⟨i, l, e⟩ : ∃ (i : Fin 4) (l : Fin 128), y = ix2 i l := ⟨y 0, y 1, eq_ix2 y⟩
  have e5 := emb5 t y i l (by rw [e]; rfl) (by rw [e]; rfl)
  blk_simp
  rw [after0_5]
  rw [e5, e]
  refine (piece5 _ _ _ _ i l).trans ?_
  rw [blk0, blk1, blk2, blk3]
  rfl

theorem emb6 (t : Fin cfg0.N) (y : ((cfg0.win 6).xblock (cfg0.grid.coords t)).Idx) (i : Fin 4) (l : Fin 128) (h0 : (y 0).val = i.val) (h1 : (y 1).val = l.val) :
    (cfg0.win 6 |>.blk t).view.emb y = (ix2 i l : S4x128.Idx) := by
  blk_ext [idx t, h0, h1]

theorem final_6 (c : Dev nD) : (dats m 0 c).arrAt 6 cfg0.N = fun y => newM (gAt m c (y 0) (y 1)) (mAt m c (y 0) (y 1)) := by
  refine (dats m 0 c).arrAt_eq_of_covers 6 _ (by decide +kernel) fun t hf y => ?_
  obtain ⟨i, l, e⟩ : ∃ (i : Fin 4) (l : Fin 128), y = ix2 i l := ⟨y 0, y 1, eq_ix2 y⟩
  have e6 := emb6 t y i l (by rw [e]; rfl) (by rw [e]; rfl)
  blk_simp
  rw [after0_6]
  rw [e6, e]
  refine (piece6 _ _ _ _ i l).trans ?_
  rw [blk0, blk2]
  rfl

theorem emb7 (t : Fin cfg0.N) (y : ((cfg0.win 7).xblock (cfg0.grid.coords t)).Idx) (i : Fin 4) (l : Fin 128) (h0 : (y 0).val = i.val) (h1 : (y 1).val = l.val) :
    (cfg0.win 7 |>.blk t).view.emb y = (ix2 i l : S4x128.Idx) := by
  blk_ext [idx t, h0, h1]

theorem final_7 (c : Dev nD) : (dats m 0 c).arrAt 7 cfg0.N = fun y => newV (gAt m c (y 0) (y 1)) (vAt m c (y 0) (y 1)) := by
  refine (dats m 0 c).arrAt_eq_of_covers 7 _ (by decide +kernel) fun t hf y => ?_
  obtain ⟨i, l, e⟩ : ∃ (i : Fin 4) (l : Fin 128), y = ix2 i l := ⟨y 0, y 1, eq_ix2 y⟩
  have e7 := emb7 t y i l (by rw [e]; rfl) (by rw [e]; rfl)
  blk_simp
  rw [after0_7]
  rw [e7, e]
  refine (piece7 _ _ _ _ i l).trans ?_
  rw [blk0, blk3]
  rfl

end Cert.AdamSumIdeal.Value

/-! ## The reference -/

namespace Cert.AdamSumRefIdeal.Read

open Cert.AdamStep (newM newV delta)
open Cert.AdamSumIdeal.Value (grad ent)

variable (x0 : FVec Ideal S8x4x128 .f32) (x1 x2 x3 : FVec Ideal S1x4x128 .f32) (i : Fin 4) (l : Fin 128)

theorem sum0 : (val_main_v0 (F := Ideal) x0 (ix2 i l) : EReal) = grad x0 i l := by
  pointwise [val_main_v0, val_main_cst]
  rfl

theorem read2 : (val_main_v2 (F := Ideal) x0 (ix2 i l) : EReal) = grad x0 i l := by
  refine Eq.trans ?_ (sum0 x0 i l)
  generalize e : val_main_v0 (F := Ideal) x0 = z
  unfold val_main_v2 val_main_v1
  rw [e]
  pointwise

theorem read28 : (val_main_v28 (F := Ideal) x0 x2 (ix2 i l) : EReal) = newM (grad x0 i l) (ent x2 i l) := by
  rw [← sum0]
  generalize e : val_main_v0 (F := Ideal) x0 = z
  unfold val_main_v28 val_main_v7 val_main_v6 val_main_v1
  rw [e]
  pointwise [val_main_cst_0, val_main_cst_1, val_main_v3, val_main_v4, val_main_v5]
  rfl

theorem read29 : (val_main_v29 (F := Ideal) x0 x3 (ix2 i l) : EReal) = newV (grad x0 i l) (ent x3 i l) := by
  rw [← sum0]
  generalize e : val_main_v0 (F := Ideal) x0 = z
  unfold val_main_v29 val_main_v13 val_main_v12 val_main_v10 val_main_v1
  rw [e]
  pointwise [val_main_cst_2, val_main_cst_3, val_main_v8, val_main_v9, val_main_v11]
  rfl

theorem read27 : (val_main_v27 (F := Ideal) x0 x1 x2 x3 (ix2 i l) : EReal)
    = delta (grad x0 i l) (ent x1 i l) (ent x2 i l) (ent x3 i l) := by
  rw [← sum0]
  generalize e : val_main_v0 (F := Ideal) x0 = z
  unfold val_main_v27 val_main_v26 val_main_v24 val_main_v21 val_main_v20 val_main_v18 val_main_v17 val_main_v15 val_main_v13
    val_main_v12 val_main_v10 val_main_v7 val_main_v6 val_main_v1
  rw [e]
  pointwise [val_main_cst_0, val_main_cst_1, val_main_cst_2, val_main_cst_3, val_main_cst_4, val_main_cst_5, val_main_cst_6,
    val_main_cst_7, val_main_cst_8, val_main_v3, val_main_v4, val_main_v5, val_main_v8, val_main_v9, val_main_v11, val_main_v14,
    val_main_v16, val_main_v19, val_main_v22, val_main_v23, val_main_v25]
  rfl

theorem all2 : val_main_v2 (F := Ideal) x0 = fun y => grad x0 (y 0) (y 1) := by
  funext y
  rw [eq_ix2 y]
  exact read2 x0 (y 0) (y 1)

theorem all27 : val_main_v27 (F := Ideal) x0 x1 x2 x3
    = fun y => delta (grad x0 (y 0) (y 1)) (ent x1 (y 0) (y 1)) (ent x2 (y 0) (y 1)) (ent x3 (y 0) (y 1)) := by
  funext y
  rw [eq_ix2 y]
  exact read27 x0 x1 x2 x3 (y 0) (y 1)

theorem all28 : val_main_v28 (F := Ideal) x0 x2 = fun y => newM (grad x0 (y 0) (y 1)) (ent x2 (y 0) (y 1)) := by
  funext y
  rw [eq_ix2 y]
  exact read28 x0 x2 (y 0) (y 1)

theorem all29 : val_main_v29 (F := Ideal) x0 x3 = fun y => newV (grad x0 (y 0) (y 1)) (ent x3 (y 0) (y 1)) := by
  funext y
  rw [eq_ix2 y]
  exact read29 x0 x3 (y 0) (y 1)

end Cert.AdamSumRefIdeal.Read
-- ==== Proof.AdamSumClaim.lean ====
module

public import proofs.«01_k».proof.Defs
public import proofs.«01_k».proof.Proof.AdamSumKernel
public import proofs.«01_k».proof.Proof.Gen.AdamSum.Frame
public import proofs.«01_k».proof.Proof.Gen.AdamSumIdeal.Frame

/-! The convolution weight's step of the optimiser: its claims. -/

@[expose] public section

noncomputable section

open Idealize.ShloMosaic Idealize.ShloMosaic.TcCoe Idealize.SL.Sem

namespace Cert.Proof.Conv

theorem frame_ideal : Cert.quiescent_AdamSumIdeal := fun m ρ _ => Cert.AdamSumIdeal.Gen.frame m ρ

theorem frame_kernel : Cert.quiescent_AdamSum := fun m ρ _ => Cert.AdamSum.Gen.frame m ρ

theorem frame_reference : Cert.quiescent_AdamSumRefIdeal := fun m ρ _ =>
  (θ_run Cert.AdamSumRefIdeal.defs _ _).mono (fun r h => ⟨fun c => (h c).2.2.2.2, sem_eq_zero_of_no_sems rfl r.2⟩)
    (Cert.AdamSumRefIdeal.Value.run m ρ)

open Cert.AdamSumRefIdeal.Read in
/-- The ideal kernel and the reference return the same gradient, step and moments. -/
theorem algebraic : Cert.algebraic_AdamSumIdeal_AdamSumRefIdeal := by
  pair_intro
  · run_from Cert.AdamSumIdeal.Value.run_blocks m g
  · run_from Cert.AdamSumRefIdeal.Value.run m' g'
    · exact (val_main_v2_eq _).trans ((all2 _).trans (Cert.AdamSumIdeal.Value.final_4 m c).symm)
    · exact (val_main_v27_eq _ _ _ _).trans ((all27 _ _ _ _).trans (Cert.AdamSumIdeal.Value.final_5 m c).symm)
    · exact (val_main_v28_eq _ _).trans ((all28 _ _).trans (Cert.AdamSumIdeal.Value.final_6 m c).symm)
    · exact (val_main_v29_eq _ _).trans ((all29 _ _).trans (Cert.AdamSumIdeal.Value.final_7 m c).symm)

end Cert.Proof.Conv
-- ==== Proof.lean ====
/- The claims about the version's calls, put together. -/
module

public import proofs.«01_k».proof.Defs
public import proofs.«01_k».proof.Proof.BwdInClaim
public import proofs.«01_k».proof.Proof.OutBwdClaim
public import proofs.«01_k».proof.Proof.MixBwdClaim
public import proofs.«01_k».proof.Proof.MixBwdSame
public import proofs.«01_k».proof.Proof.FwdProjClaim
public import proofs.«01_k».proof.Proof.FwdProjKernel
public import proofs.«01_k».proof.Proof.MixFwdRun
public import proofs.«01_k».proof.Proof.MixFwdClaim
public import proofs.«01_k».proof.Proof.DwInClaim
public import proofs.«01_k».proof.Proof.AdamOwnClaim
public import proofs.«01_k».proof.Proof.AdamTileClaim
public import proofs.«01_k».proof.Proof.AdamAdaClaim
public import proofs.«01_k».proof.Proof.AdamSumClaim
public import Idealize.ShloMosaic.Adequacy
public import Idealize.ShloMosaic.Init

@[expose] public section

noncomputable section

namespace Cert.Proof

open Idealize.ShloMosaic Idealize.SL.Sem

/-- Every claim of the statement holds. -/
theorem claim : Cert.Claim :=
  ⟨Cert.BwdIn.Gen.facts, Cert.BwdInIdeal.Gen.facts, Cert.BwdInRefIdeal.Gen.facts,
    Cert.OutBwd.Gen.facts, Cert.OutBwdIdeal.Gen.facts, Cert.OutBwdRefIdeal.Gen.facts,
    Cert.MixBwd.Gen.facts, Cert.MixBwdIdeal.Gen.facts, Cert.MixBwdRefIdeal.Gen.facts,
    Cert.FwdProj.Gen.facts, Cert.FwdProjIdeal.Gen.facts, Cert.FwdProjRefIdeal.Gen.facts,
    Cert.MixFwd.Gen.facts, Cert.MixFwdIdeal.Gen.facts, Cert.MixFwdRefIdeal.Gen.facts,
    Cert.DwIn.Gen.facts, Cert.DwInIdeal.Gen.facts, Cert.DwInRefIdeal.Gen.facts,
    Cert.AdamAda.Gen.facts, Cert.AdamAdaIdeal.Gen.facts, Cert.AdamAdaRefIdeal.Gen.facts,
    Cert.AdamSum.Gen.facts, Cert.AdamSumIdeal.Gen.facts, Cert.AdamSumRefIdeal.Gen.facts,
    Cert.AdamOwn.Gen.facts, Cert.AdamOwnIdeal.Gen.facts, Cert.AdamOwnRefIdeal.Gen.facts,
    Cert.AdamTile.Gen.facts, Cert.AdamTileIdeal.Gen.facts, Cert.AdamTileRefIdeal.Gen.facts,
    Cert.Pre_finite_in.facts, Cert.Pre_finite_out.facts, Cert.Pre_finite_mix.facts, Cert.Pre_finite_tokens.facts, Cert.Pre_device_index.Gen.facts, Cert.Pre_device_index_in.Gen.facts,
    Cert.On_pool_columns.facts, Cert.On_pool_half.facts,
    In.frame_kernel, In.frame_ideal, fun m ρ _ => In.frame_ideal m ρ trivial, In.frame_reference,
    fun m ρ _ => In.frame_reference m ρ trivial,
    Out.frame_kernel, Out.frame_ideal, fun m ρ _ => Out.frame_ideal m ρ trivial, Out.frame_reference,
    fun m ρ _ => Out.frame_reference m ρ trivial,
    Mix.frame_kernel, Mix.frame_ideal, fun m ρ _ => Mix.frame_ideal m ρ trivial, Mix.frame_reference,
    fun m ρ _ => Mix.frame_reference m ρ trivial,
    Fwd.frame_kernel, Fwd.frame_ideal, Fwd.frame_reference,
    MixF.frame_kernel, MixF.frame_ideal, fun m ρ _ => MixF.frame_ideal m ρ trivial, MixF.frame_reference,
    fun m ρ _ => MixF.frame_reference m ρ trivial,
    Dw.frame_kernel, Dw.frame_ideal, Dw.frame_reference,
    Ada.frame_kernel, Ada.frame_ideal, Ada.frame_reference,
    Conv.frame_kernel, Conv.frame_ideal, Conv.frame_reference,
    Own.frame_kernel, Own.frame_ideal, Own.frame_reference, Own.frame_reference_pre,
    Tile.frame_kernel, Tile.frame_ideal, Tile.frame_reference, Tile.frame_reference_pre,
    trivial, In.algebraic, trivial, Out.algebraic, trivial, Mix.algebraic,
    trivial, Fwd.algebraic, trivial, MixF.algebraic, trivial, Dw.algebraic,
    trivial, Ada.algebraic, trivial, Conv.algebraic,
    trivial, Own.algebraic, trivial, Tile.algebraic⟩

end Cert.Proof

end
